-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_sizes_ok : Cert.Pre_sizes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_sizes_ok : Cert.Pre_sizes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S128x1536 Cert.KernelIdeal.S64x1536
  ∧ IdealRules.bf16_pair.SelectZeroStatement Cert.KernelIdeal.S64x1536

def algebraic_KernelIdeal_ReferenceIdeal [hKernelIdeal : Cert.KernelIdeal.Facts] [hReferenceIdeal : Cert.ReferenceIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_ok : Cert.Pre_sizes_ok.Facts),
    quiescent_Kernel (hKernel := hKernel) (hPre_sizes_ok := hPre_sizes_ok)
    ∧ quiescent_KernelIdeal (hKernelIdeal := hKernelIdeal) (hPre_sizes_ok := hPre_sizes_ok)
    ∧ quiescent_ReferenceIdeal (hReferenceIdeal := hReferenceIdeal) (hPre_sizes_ok := hPre_sizes_ok)
    ∧ preserves_Kernel_KernelIdeal
    ∧ algebraic_KernelIdeal_ReferenceIdeal (hKernelIdeal := hKernelIdeal) (hReferenceIdeal := hReferenceIdeal) (hPre_sizes_ok := hPre_sizes_ok)
-- ==== Pre_sizes_ok.lean ====
abbrev S6 : Shape := ⟨1, ![6]⟩
abbrev S1 : Shape := ⟨1, ![1]⟩
abbrev S1408x5120 : Shape := ⟨2, ![1408, 5120]⟩
abbrev S1408x1536 : Shape := ⟨2, ![1408, 1536]⟩
abbrev S_ : Shape := ⟨0, ![]⟩

class Facts : Prop where
  bcast_S_S6 : S_.BroadcastsInDim S6 (![] : Fin 0 → Fin S6.rank)
  reducesTo_S6_S_d0 : S6.ReducesTo [0] S_
  h_S_ : 0 < S_.numel

variable [Facts]

def fn {F : FTy → Type} [FloatOps F] (main_arg0 : IVec S6 32) (main_arg1 : FVec F S1 .f32) (main_arg2 : FVec F S1 .f32) (main_arg3 : FVec F S1408x5120 .bf16) (main_arg4 : FVec F S1408x1536 .bf16) : IVec S_ 1 :=
  let main_c : IVec S_ 32 := constantI S_ 32 0#32
  let main_v0 : IVec S6 32 := broadcastInDim S6 ![] bcast_S_S6 main_c
  let main_v1 : IVec S6 1 := cmpi .sge main_arg0 main_v0
  let main_c_0 : IVec S_ 32 := constantI S_ 32 1280#32
  let main_v2 : IVec S6 32 := broadcastInDim S6 ![] bcast_S_S6 main_c_0
  let main_v3 : IVec S6 1 := cmpi .sle main_arg0 main_v2
  let main_v4 : IVec S6 1 := andi main_v1 main_v3
  let main_c_1 : IVec S_ 1 := constantI S_ 1 1#1
  let main_v5 : IVec S_ 1 := (fun x v => Host.reduce IntOp.andi x v reducesTo_S6_S_d0 h_S_) main_v4 main_c_1
  let main_c_2 : IVec S_ 32 := constantI S_ 32 0#32
  let main_v6 : IVec S_ 32 := (fun x v => Host.reduce IntOp.addi x v reducesTo_S6_S_d0 h_S_) main_arg0 main_c_2
  let main_c_3 : IVec S_ 32 := constantI S_ 32 1280#32
  let main_v7 : IVec S_ 1 := cmpi .eq main_v6 main_c_3
  let main_v8 : IVec S_ 1 := andi main_v5 main_v7
  main_v8
-- ==== Kernel.lean ====
abbrev S6 : Shape := ⟨1, ![6]⟩
abbrev S1 : Shape := ⟨1, ![1]⟩
abbrev S1408x5120 : Shape := ⟨2, ![1408, 5120]⟩
abbrev S1408x1536 : Shape := ⟨2, ![1408, 1536]⟩
abbrev S6x5120x1536 : Shape := ⟨3, ![6, 5120, 1536]⟩
abbrev S2816x1536 : Shape := ⟨2, ![2816, 1536]⟩
abbrev S512x1536 : Shape := ⟨2, ![512, 1536]⟩
abbrev S4x512x1536 : Shape := ⟨3, ![4, 512, 1536]⟩
abbrev S128x1536 : Shape := ⟨2, ![128, 1536]⟩
abbrev S5x6 : Shape := ⟨2, ![5, 6]⟩
abbrev S_ : Shape := ⟨0, ![]⟩
abbrev S4 : Shape := ⟨1, ![4]⟩
abbrev S1x1 : Shape := ⟨2, ![1, 1]⟩
abbrev S1x128x1536 : Shape := ⟨3, ![1, 128, 1536]⟩
abbrev S64x1536 : Shape := ⟨2, ![64, 1536]⟩
abbrev S512x128 : Shape := ⟨2, ![512, 128]⟩
abbrev S128x512 : Shape := ⟨2, ![128, 512]⟩
abbrev S1x512x1536 : Shape := ⟨3, ![1, 512, 1536]⟩
abbrev S512x256 : Shape := ⟨2, ![512, 256]⟩
abbrev S256x1536 : Shape := ⟨2, ![256, 1536]⟩
abbrev S512x512 : Shape := ⟨2, ![512, 512]⟩
abbrev S512x768 : Shape := ⟨2, ![512, 768]⟩
abbrev S768x1536 : Shape := ⟨2, ![768, 1536]⟩

abbrev nBuf : Space → Nat
  | .hbm => 6
  | .vmem => 6
  | .smem => 4
  | _ => 0

abbrev bufTy : (tb : Table) → Fin (tcTables nBuf tb) → BufTy
  | .hbm, ⟨0, _⟩ => ⟨S6, .i32⟩
  | .hbm, ⟨1, _⟩ => ⟨S1, .f32⟩
  | .hbm, ⟨2, _⟩ => ⟨S1, .f32⟩
  | .hbm, ⟨3, _⟩ => ⟨S1408x5120, .bf16⟩
  | .hbm, ⟨4, _⟩ => ⟨S1408x1536, .bf16⟩
  | .hbm, ⟨5, _⟩ => ⟨S6x5120x1536, .f32⟩
  | .local _ .vmem, ⟨0, _⟩ => ⟨S1408x5120, .bf16⟩
  | .local _ .vmem, ⟨1, _⟩ => ⟨S1408x1536, .bf16⟩
  | .local _ .vmem, ⟨2, _⟩ => ⟨S2816x1536, .bf16⟩
  | .local _ .vmem, ⟨3, _⟩ => ⟨S512x1536, .bf16⟩
  | .local _ .vmem, ⟨4, _⟩ => ⟨S4x512x1536, .f32⟩
  | .local _ .vmem, ⟨5, _⟩ => ⟨S128x1536, .f32⟩
  | .local _ .smem, ⟨0, _⟩ => ⟨S6, .i32⟩
  | .local _ .smem, ⟨1, _⟩ => ⟨S1, .f32⟩
  | .local _ .smem, ⟨2, _⟩ => ⟨S1, .f32⟩
  | .local _ .smem, ⟨3, _⟩ => ⟨S5x6, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg3_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch4 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

@[reducible] def k0_t1_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult1 (k0_t1 : Fin k0_t1_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t1
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off1 (k0_t1 : Fin k0_t1_loop.trips) : Fin 3 → Nat :=
  let c0_i32_414 : BitVec 32 := 0#32
  let c0_i32_413 : BitVec 32 := 0#32
  let c0_i32_409 : BitVec 32 := 0#32
  let c1_i32_410 : BitVec 32 := 1#32
  let arg13 : BitVec 32 := Scf.iv c0_i32_409 c1_i32_410 k0_t1
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![0, v638.toNat, 0]
@[reducible] def k0_t2_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult2 (k0_t2 : Fin k0_t2_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t2
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off2 (k0_t2 : Fin k0_t2_loop.trips) : Fin 3 → Nat :=
  let c1_i32_414 : BitVec 32 := 1#32
  let c0_i32_413 : BitVec 32 := 0#32
  let c0_i32_409 : BitVec 32 := 0#32
  let c1_i32_410 : BitVec 32 := 1#32
  let arg13 : BitVec 32 := Scf.iv c0_i32_409 c1_i32_410 k0_t2
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![1, v638.toNat, 0]
@[reducible] def k0_t3_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult3 (k0_t3 : Fin k0_t3_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t3
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off3 (k0_t3 : Fin k0_t3_loop.trips) : Fin 3 → Nat :=
  let c2_i32_414 : BitVec 32 := 2#32
  let c0_i32_413 : BitVec 32 := 0#32
  let c0_i32_409 : BitVec 32 := 0#32
  let c1_i32_410 : BitVec 32 := 1#32
  let arg13 : BitVec 32 := Scf.iv c0_i32_409 c1_i32_410 k0_t3
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![2, v638.toNat, 0]
@[reducible] def k0_t4_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult4 (k0_t4 : Fin k0_t4_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t4
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off4 (k0_t4 : Fin k0_t4_loop.trips) : Fin 3 → Nat :=
  let c3_i32 : BitVec 32 := 3#32
  let c0_i32_413 : BitVec 32 := 0#32
  let c0_i32_409 : BitVec 32 := 0#32
  let c1_i32_410 : BitVec 32 := 1#32
  let arg13 : BitVec 32 := Scf.iv c0_i32_409 c1_i32_410 k0_t4
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_414 : BitVec 32 := 0#32
  ![3, v638.toNat, 0]
@[reducible] def k0_t5_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult5 (k0_t5 : Fin k0_t5_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t5
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off5 (k0_t5 : Fin k0_t5_loop.trips) : Fin 3 → Nat :=
  let c4_i32_414 : BitVec 32 := 4#32
  let c0_i32_413 : BitVec 32 := 0#32
  let c0_i32_409 : BitVec 32 := 0#32
  let c1_i32_410 : BitVec 32 := 1#32
  let arg13 : BitVec 32 := Scf.iv c0_i32_409 c1_i32_410 k0_t5
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![4, v638.toNat, 0]
@[reducible] def k0_t6_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult6 (k0_t6 : Fin k0_t6_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t6
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off6 (k0_t6 : Fin k0_t6_loop.trips) : Fin 3 → Nat :=
  let c5_i32 : BitVec 32 := 5#32
  let c0_i32_413 : BitVec 32 := 0#32
  let c0_i32_409 : BitVec 32 := 0#32
  let c1_i32_410 : BitVec 32 := 1#32
  let arg13 : BitVec 32 := Scf.iv c0_i32_409 c1_i32_410 k0_t6
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_414 : BitVec 32 := 0#32
  ![5, v638.toNat, 0]
@[reducible] def k0_t7_loop (v525 : BitVec 32) : Scf.Loop 32 :=
  let c0_i32_298 : BitVec 32 := 0#32
  let c2_i32_291 : BitVec 32 := 2#32
  let v526 : BitVec 32 := Scalar.muli c2_i32_291 v525
  let c0_i32_292 : BitVec 32 := 0#32
  let v527 : BitVec 32 := Scalar.subi v526 c0_i32_292
  let c1_i32_293 : BitVec 32 := 1#32
  let c1_i32_294 : BitVec 32 := 1#32
  let v528 : BitVec 32 := Scalar.subi c1_i32_293 c1_i32_294
  let v529 : BitVec 32 := Scalar.addi v527 v528
  let c1_i32_295 : BitVec 32 := 1#32
  let v530 : BitVec 32 := Scalar.divsi v529 c1_i32_295
  let v531 : BitVec 32 := Scalar.subi v530 c0_i32_298
  let c1_i32_299 : BitVec 32 := 1#32
  let v533 : BitVec 32 := Scalar.divsi v531 c1_i32_299
  let v534 : BitVec 32 := Scalar.muli v533 c1_i32_299
  let v535 : BitVec 32 := Scalar.addi c0_i32_298 v534
  let c1_i32_300 : BitVec 32 := 1#32
  ⟨c0_i32_298, v535, c1_i32_300⟩

def k0_mult7 (v525 : BitVec 32) (k0_t7 : Fin (k0_t7_loop v525).trips) (v636 : BitVec 32) : BitVec 32 :=
  let c0_i32_297 : BitVec 32 := 0#32
  let c0_i32_298 : BitVec 32 := 0#32
  let c1_i32_300 : BitVec 32 := 1#32
  let arg13 : BitVec 32 := Scf.iv c0_i32_298 c1_i32_300 k0_t7
  let c1_i32_296 : BitVec 32 := 1#32
  let v634 : BitVec 32 := Scalar.muli arg13 c1_i32_296
  let v635 : BitVec 32 := Scalar.addi c0_i32_297 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off7 (v525 : BitVec 32) (k0_t7 : Fin (k0_t7_loop v525).trips) (v636 : BitVec 32) : Fin 2 → Nat :=
  let c0_i32_297 : BitVec 32 := 0#32
  let c0_i32_298 : BitVec 32 := 0#32
  let c1_i32_300 : BitVec 32 := 1#32
  let arg13 : BitVec 32 := Scf.iv c0_i32_298 c1_i32_300 k0_t7
  let c1_i32_296 : BitVec 32 := 1#32
  let v634 : BitVec 32 := Scalar.muli arg13 c1_i32_296
  let v635 : BitVec 32 := Scalar.addi c0_i32_297 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk2 (v525 : BitVec 32) (k0_t7 : Fin (k0_t7_loop v525).trips) (v636 : BitVec 32) : Prop :=
  (128 ∣ (k0_mult7 v525 k0_t7 v636).toNat) ∧
  (∀ a, (k0_off7 v525 k0_t7 v636) a + S128x1536.size a ≤ S1408x1536.size a)
theorem k0_mult7_dvd : ∀ (v525 : BitVec 32) (k0_t7 : Fin (k0_t7_loop v525).trips) (v636 : BitVec 32) (k0_hw2 : k0_chk2 v525 k0_t7 v636), 128 ∣ (k0_mult7 v525 k0_t7 v636).toNat := fun v525 k0_t7 v636 k0_hw2 => k0_hw2.1
theorem k0_off7_inb : ∀ (v525 : BitVec 32) (k0_t7 : Fin (k0_t7_loop v525).trips) (v636 : BitVec 32) (k0_hw2 : k0_chk2 v525 k0_t7 v636), ∀ a, (k0_off7 v525 k0_t7 v636) a + S128x1536.size a ≤ S1408x1536.size a := fun v525 k0_t7 v636 k0_hw2 => k0_hw2.2

def k0_mult8 (v525 : BitVec 32) (k0_t7 : Fin (k0_t7_loop v525).trips) (v684 : BitVec 32) : BitVec 32 :=
  let c256_i32 : BitVec 32 := 256#32
  let v685 : BitVec 32 := Scalar.muli v684 c256_i32
  let c0_i32_297 : BitVec 32 := 0#32
  let c0_i32_298 : BitVec 32 := 0#32
  let c1_i32_300 : BitVec 32 := 1#32
  let arg13 : BitVec 32 := Scf.iv c0_i32_298 c1_i32_300 k0_t7
  let c1_i32_296 : BitVec 32 := 1#32
  let v634 : BitVec 32 := Scalar.muli arg13 c1_i32_296
  let v635 : BitVec 32 := Scalar.addi c0_i32_297 v634
  let c128_i32_430 : BitVec 32 := 128#32
  let v686 : BitVec 32 := Scalar.muli v635 c128_i32_430
  let v687 : BitVec 32 := Scalar.addi v685 v686
  v687

def k0_off8 (v525 : BitVec 32) (k0_t7 : Fin (k0_t7_loop v525).trips) (v684 : BitVec 32) : Fin 2 → Nat :=
  let c256_i32 : BitVec 32 := 256#32
  let v685 : BitVec 32 := Scalar.muli v684 c256_i32
  let c0_i32_297 : BitVec 32 := 0#32
  let c0_i32_298 : BitVec 32 := 0#32
  let c1_i32_300 : BitVec 32 := 1#32
  let arg13 : BitVec 32 := Scf.iv c0_i32_298 c1_i32_300 k0_t7
  let c1_i32_296 : BitVec 32 := 1#32
  let v634 : BitVec 32 := Scalar.muli arg13 c1_i32_296
  let v635 : BitVec 32 := Scalar.addi c0_i32_297 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk3 (v525 : BitVec 32) (k0_t7 : Fin (k0_t7_loop v525).trips) (v684 : BitVec 32) : Prop :=
  (128 ∣ (k0_mult8 v525 k0_t7 v684).toNat) ∧
  (∀ a, (k0_off8 v525 k0_t7 v684) a + S128x1536.size a ≤ S2816x1536.size a) ∧
  (∀ (hinb : ∀ a, (k0_off8 v525 k0_t7 v684) a + S128x1536.size a ≤ S2816x1536.size a), (Rect.unit (s := S2816x1536) (k0_off8 v525 k0_t7 v684) S128x1536.size hinb).PackedRows (EltTy.packing .bf16))
theorem k0_mult8_dvd : ∀ (v525 : BitVec 32) (k0_t7 : Fin (k0_t7_loop v525).trips) (v684 : BitVec 32) (k0_hw3 : k0_chk3 v525 k0_t7 v684), 128 ∣ (k0_mult8 v525 k0_t7 v684).toNat := fun v525 k0_t7 v684 k0_hw3 => k0_hw3.1
theorem k0_off8_inb : ∀ (v525 : BitVec 32) (k0_t7 : Fin (k0_t7_loop v525).trips) (v684 : BitVec 32) (k0_hw3 : k0_chk3 v525 k0_t7 v684), ∀ a, (k0_off8 v525 k0_t7 v684) a + S128x1536.size a ≤ S2816x1536.size a := fun v525 k0_t7 v684 k0_hw3 => k0_hw3.2.1
theorem k0_off8_packedbf16 : ∀ (v525 : BitVec 32) (k0_t7 : Fin (k0_t7_loop v525).trips) (v684 : BitVec 32) (k0_hw3 : k0_chk3 v525 k0_t7 v684), (Rect.unit (s := S2816x1536) (k0_off8 v525 k0_t7 v684) S128x1536.size (k0_off8_inb v525 k0_t7 v684 k0_hw3)).PackedRows (EltTy.packing .bf16) := fun v525 k0_t7 v684 k0_hw3 => k0_hw3.2.2 (k0_off8_inb v525 k0_t7 v684 k0_hw3)

@[reducible] def k0_t8_loop (v525 : BitVec 32) : Scf.Loop 32 :=
  let c0_i32_298 : BitVec 32 := 0#32
  let c2_i32_291 : BitVec 32 := 2#32
  let v526 : BitVec 32 := Scalar.muli c2_i32_291 v525
  let c0_i32_292 : BitVec 32 := 0#32
  let v527 : BitVec 32 := Scalar.subi v526 c0_i32_292
  let c1_i32_293 : BitVec 32 := 1#32
  let c1_i32_294 : BitVec 32 := 1#32
  let v528 : BitVec 32 := Scalar.subi c1_i32_293 c1_i32_294
  let v529 : BitVec 32 := Scalar.addi v527 v528
  let c1_i32_295 : BitVec 32 := 1#32
  let v530 : BitVec 32 := Scalar.divsi v529 c1_i32_295
  let v531 : BitVec 32 := Scalar.subi v530 c0_i32_298
  let c1_i32_299 : BitVec 32 := 1#32
  let v533 : BitVec 32 := Scalar.divsi v531 c1_i32_299
  let v534 : BitVec 32 := Scalar.muli v533 c1_i32_299
  let v535 : BitVec 32 := Scalar.addi c0_i32_298 v534
  let v532 : BitVec 32 := Scalar.addi c0_i32_298 v531
  let c1_i32_301 : BitVec 32 := 1#32
  ⟨v535, v532, c1_i32_301⟩

def k0_chk1 (v525 : BitVec 32) : Prop :=
  ((k0_t7_loop v525).OK) ∧
  ((k0_t8_loop v525).OK)
theorem k0_t7_ok : ∀ (v525 : BitVec 32) (k0_hw1 : k0_chk1 v525), (k0_t7_loop v525).OK := fun v525 k0_hw1 => k0_hw1.1
theorem k0_t8_ok : ∀ (v525 : BitVec 32) (k0_hw1 : k0_chk1 v525), (k0_t8_loop v525).OK := fun v525 k0_hw1 => k0_hw1.2

def k0_mult9 (v525 : BitVec 32) (k0_t8 : Fin (k0_t8_loop v525).trips) (v636 : BitVec 32) : BitVec 32 :=
  let c0_i32_297 : BitVec 32 := 0#32
  let c0_i32_298 : BitVec 32 := 0#32
  let c2_i32_291 : BitVec 32 := 2#32
  let v526 : BitVec 32 := Scalar.muli c2_i32_291 v525
  let c0_i32_292 : BitVec 32 := 0#32
  let v527 : BitVec 32 := Scalar.subi v526 c0_i32_292
  let c1_i32_293 : BitVec 32 := 1#32
  let c1_i32_294 : BitVec 32 := 1#32
  let v528 : BitVec 32 := Scalar.subi c1_i32_293 c1_i32_294
  let v529 : BitVec 32 := Scalar.addi v527 v528
  let c1_i32_295 : BitVec 32 := 1#32
  let v530 : BitVec 32 := Scalar.divsi v529 c1_i32_295
  let v531 : BitVec 32 := Scalar.subi v530 c0_i32_298
  let c1_i32_299 : BitVec 32 := 1#32
  let v533 : BitVec 32 := Scalar.divsi v531 c1_i32_299
  let v534 : BitVec 32 := Scalar.muli v533 c1_i32_299
  let v535 : BitVec 32 := Scalar.addi c0_i32_298 v534
  let c1_i32_301 : BitVec 32 := 1#32
  let arg13 : BitVec 32 := Scf.iv v535 c1_i32_301 k0_t8
  let c1_i32_296 : BitVec 32 := 1#32
  let v634 : BitVec 32 := Scalar.muli arg13 c1_i32_296
  let v635 : BitVec 32 := Scalar.addi c0_i32_297 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off9 (v525 : BitVec 32) (k0_t8 : Fin (k0_t8_loop v525).trips) (v636 : BitVec 32) : Fin 2 → Nat :=
  let c0_i32_297 : BitVec 32 := 0#32
  let c0_i32_298 : BitVec 32 := 0#32
  let c2_i32_291 : BitVec 32 := 2#32
  let v526 : BitVec 32 := Scalar.muli c2_i32_291 v525
  let c0_i32_292 : BitVec 32 := 0#32
  let v527 : BitVec 32 := Scalar.subi v526 c0_i32_292
  let c1_i32_293 : BitVec 32 := 1#32
  let c1_i32_294 : BitVec 32 := 1#32
  let v528 : BitVec 32 := Scalar.subi c1_i32_293 c1_i32_294
  let v529 : BitVec 32 := Scalar.addi v527 v528
  let c1_i32_295 : BitVec 32 := 1#32
  let v530 : BitVec 32 := Scalar.divsi v529 c1_i32_295
  let v531 : BitVec 32 := Scalar.subi v530 c0_i32_298
  let c1_i32_299 : BitVec 32 := 1#32
  let v533 : BitVec 32 := Scalar.divsi v531 c1_i32_299
  let v534 : BitVec 32 := Scalar.muli v533 c1_i32_299
  let v535 : BitVec 32 := Scalar.addi c0_i32_298 v534
  let c1_i32_301 : BitVec 32 := 1#32
  let arg13 : BitVec 32 := Scf.iv v535 c1_i32_301 k0_t8
  let c1_i32_296 : BitVec 32 := 1#32
  let v634 : BitVec 32 := Scalar.muli arg13 c1_i32_296
  let v635 : BitVec 32 := Scalar.addi c0_i32_297 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk4 (v525 : BitVec 32) (k0_t8 : Fin (k0_t8_loop v525).trips) (v636 : BitVec 32) : Prop :=
  (128 ∣ (k0_mult9 v525 k0_t8 v636).toNat) ∧
  (∀ a, (k0_off9 v525 k0_t8 v636) a + S128x1536.size a ≤ S1408x1536.size a)
theorem k0_mult9_dvd : ∀ (v525 : BitVec 32) (k0_t8 : Fin (k0_t8_loop v525).trips) (v636 : BitVec 32) (k0_hw4 : k0_chk4 v525 k0_t8 v636), 128 ∣ (k0_mult9 v525 k0_t8 v636).toNat := fun v525 k0_t8 v636 k0_hw4 => k0_hw4.1
theorem k0_off9_inb : ∀ (v525 : BitVec 32) (k0_t8 : Fin (k0_t8_loop v525).trips) (v636 : BitVec 32) (k0_hw4 : k0_chk4 v525 k0_t8 v636), ∀ a, (k0_off9 v525 k0_t8 v636) a + S128x1536.size a ≤ S1408x1536.size a := fun v525 k0_t8 v636 k0_hw4 => k0_hw4.2

def k0_mult10 (v525 : BitVec 32) (k0_t8 : Fin (k0_t8_loop v525).trips) (v684 : BitVec 32) : BitVec 32 :=
  let c256_i32 : BitVec 32 := 256#32
  let v685 : BitVec 32 := Scalar.muli v684 c256_i32
  let c0_i32_297 : BitVec 32 := 0#32
  let c0_i32_298 : BitVec 32 := 0#32
  let c2_i32_291 : BitVec 32 := 2#32
  let v526 : BitVec 32 := Scalar.muli c2_i32_291 v525
  let c0_i32_292 : BitVec 32 := 0#32
  let v527 : BitVec 32 := Scalar.subi v526 c0_i32_292
  let c1_i32_293 : BitVec 32 := 1#32
  let c1_i32_294 : BitVec 32 := 1#32
  let v528 : BitVec 32 := Scalar.subi c1_i32_293 c1_i32_294
  let v529 : BitVec 32 := Scalar.addi v527 v528
  let c1_i32_295 : BitVec 32 := 1#32
  let v530 : BitVec 32 := Scalar.divsi v529 c1_i32_295
  let v531 : BitVec 32 := Scalar.subi v530 c0_i32_298
  let c1_i32_299 : BitVec 32 := 1#32
  let v533 : BitVec 32 := Scalar.divsi v531 c1_i32_299
  let v534 : BitVec 32 := Scalar.muli v533 c1_i32_299
  let v535 : BitVec 32 := Scalar.addi c0_i32_298 v534
  let c1_i32_301 : BitVec 32 := 1#32
  let arg13 : BitVec 32 := Scf.iv v535 c1_i32_301 k0_t8
  let c1_i32_296 : BitVec 32 := 1#32
  let v634 : BitVec 32 := Scalar.muli arg13 c1_i32_296
  let v635 : BitVec 32 := Scalar.addi c0_i32_297 v634
  let c128_i32_430 : BitVec 32 := 128#32
  let v686 : BitVec 32 := Scalar.muli v635 c128_i32_430
  let v687 : BitVec 32 := Scalar.addi v685 v686
  v687

def k0_off10 (v525 : BitVec 32) (k0_t8 : Fin (k0_t8_loop v525).trips) (v684 : BitVec 32) : Fin 2 → Nat :=
  let c256_i32 : BitVec 32 := 256#32
  let v685 : BitVec 32 := Scalar.muli v684 c256_i32
  let c0_i32_297 : BitVec 32 := 0#32
  let c0_i32_298 : BitVec 32 := 0#32
  let c2_i32_291 : BitVec 32 := 2#32
  let v526 : BitVec 32 := Scalar.muli c2_i32_291 v525
  let c0_i32_292 : BitVec 32 := 0#32
  let v527 : BitVec 32 := Scalar.subi v526 c0_i32_292
  let c1_i32_293 : BitVec 32 := 1#32
  let c1_i32_294 : BitVec 32 := 1#32
  let v528 : BitVec 32 := Scalar.subi c1_i32_293 c1_i32_294
  let v529 : BitVec 32 := Scalar.addi v527 v528
  let c1_i32_295 : BitVec 32 := 1#32
  let v530 : BitVec 32 := Scalar.divsi v529 c1_i32_295
  let v531 : BitVec 32 := Scalar.subi v530 c0_i32_298
  let c1_i32_299 : BitVec 32 := 1#32
  let v533 : BitVec 32 := Scalar.divsi v531 c1_i32_299
  let v534 : BitVec 32 := Scalar.muli v533 c1_i32_299
  let v535 : BitVec 32 := Scalar.addi c0_i32_298 v534
  let c1_i32_301 : BitVec 32 := 1#32
  let arg13 : BitVec 32 := Scf.iv v535 c1_i32_301 k0_t8
  let c1_i32_296 : BitVec 32 := 1#32
  let v634 : BitVec 32 := Scalar.muli arg13 c1_i32_296
  let v635 : BitVec 32 := Scalar.addi c0_i32_297 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk5 (v525 : BitVec 32) (k0_t8 : Fin (k0_t8_loop v525).trips) (v684 : BitVec 32) : Prop :=
  (128 ∣ (k0_mult10 v525 k0_t8 v684).toNat) ∧
  (∀ a, (k0_off10 v525 k0_t8 v684) a + S128x1536.size a ≤ S2816x1536.size a) ∧
  (∀ (hinb : ∀ a, (k0_off10 v525 k0_t8 v684) a + S128x1536.size a ≤ S2816x1536.size a), (Rect.unit (s := S2816x1536) (k0_off10 v525 k0_t8 v684) S128x1536.size hinb).PackedRows (EltTy.packing .bf16))
theorem k0_mult10_dvd : ∀ (v525 : BitVec 32) (k0_t8 : Fin (k0_t8_loop v525).trips) (v684 : BitVec 32) (k0_hw5 : k0_chk5 v525 k0_t8 v684), 128 ∣ (k0_mult10 v525 k0_t8 v684).toNat := fun v525 k0_t8 v684 k0_hw5 => k0_hw5.1
theorem k0_off10_inb : ∀ (v525 : BitVec 32) (k0_t8 : Fin (k0_t8_loop v525).trips) (v684 : BitVec 32) (k0_hw5 : k0_chk5 v525 k0_t8 v684), ∀ a, (k0_off10 v525 k0_t8 v684) a + S128x1536.size a ≤ S2816x1536.size a := fun v525 k0_t8 v684 k0_hw5 => k0_hw5.2.1
theorem k0_off10_packedbf16 : ∀ (v525 : BitVec 32) (k0_t8 : Fin (k0_t8_loop v525).trips) (v684 : BitVec 32) (k0_hw5 : k0_chk5 v525 k0_t8 v684), (Rect.unit (s := S2816x1536) (k0_off10 v525 k0_t8 v684) S128x1536.size (k0_off10_inb v525 k0_t8 v684 k0_hw5)).PackedRows (EltTy.packing .bf16) := fun v525 k0_t8 v684 k0_hw5 => k0_hw5.2.2 (k0_off10_inb v525 k0_t8 v684 k0_hw5)

@[reducible] def k0_t9_loop (v536 : BitVec 32) : Scf.Loop 32 :=
  let c0_i32_311 : BitVec 32 := 0#32
  let c2_i32_304 : BitVec 32 := 2#32
  let v537 : BitVec 32 := Scalar.muli c2_i32_304 v536
  let c0_i32_305 : BitVec 32 := 0#32
  let v538 : BitVec 32 := Scalar.subi v537 c0_i32_305
  let c1_i32_306 : BitVec 32 := 1#32
  let c1_i32_307 : BitVec 32 := 1#32
  let v539 : BitVec 32 := Scalar.subi c1_i32_306 c1_i32_307
  let v540 : BitVec 32 := Scalar.addi v538 v539
  let c1_i32_308 : BitVec 32 := 1#32
  let v541 : BitVec 32 := Scalar.divsi v540 c1_i32_308
  let v542 : BitVec 32 := Scalar.subi v541 c0_i32_311
  let c1_i32_312 : BitVec 32 := 1#32
  let v544 : BitVec 32 := Scalar.divsi v542 c1_i32_312
  let v545 : BitVec 32 := Scalar.muli v544 c1_i32_312
  let v546 : BitVec 32 := Scalar.addi c0_i32_311 v545
  let c1_i32_313 : BitVec 32 := 1#32
  ⟨c0_i32_311, v546, c1_i32_313⟩

def k0_mult11 (v536 : BitVec 32) (k0_t9 : Fin (k0_t9_loop v536).trips) (v636 : BitVec 32) : BitVec 32 :=
  let c0_i32_310 : BitVec 32 := 0#32
  let c0_i32_311 : BitVec 32 := 0#32
  let c1_i32_313 : BitVec 32 := 1#32
  let arg13 : BitVec 32 := Scf.iv c0_i32_311 c1_i32_313 k0_t9
  let c1_i32_309 : BitVec 32 := 1#32
  let v634 : BitVec 32 := Scalar.muli arg13 c1_i32_309
  let v635 : BitVec 32 := Scalar.addi c0_i32_310 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off11 (v536 : BitVec 32) (k0_t9 : Fin (k0_t9_loop v536).trips) (v636 : BitVec 32) : Fin 2 → Nat :=
  let c0_i32_310 : BitVec 32 := 0#32
  let c0_i32_311 : BitVec 32 := 0#32
  let c1_i32_313 : BitVec 32 := 1#32
  let arg13 : BitVec 32 := Scf.iv c0_i32_311 c1_i32_313 k0_t9
  let c1_i32_309 : BitVec 32 := 1#32
  let v634 : BitVec 32 := Scalar.muli arg13 c1_i32_309
  let v635 : BitVec 32 := Scalar.addi c0_i32_310 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk7 (v536 : BitVec 32) (k0_t9 : Fin (k0_t9_loop v536).trips) (v636 : BitVec 32) : Prop :=
  (128 ∣ (k0_mult11 v536 k0_t9 v636).toNat) ∧
  (∀ a, (k0_off11 v536 k0_t9 v636) a + S128x1536.size a ≤ S1408x1536.size a)
theorem k0_mult11_dvd : ∀ (v536 : BitVec 32) (k0_t9 : Fin (k0_t9_loop v536).trips) (v636 : BitVec 32) (k0_hw7 : k0_chk7 v536 k0_t9 v636), 128 ∣ (k0_mult11 v536 k0_t9 v636).toNat := fun v536 k0_t9 v636 k0_hw7 => k0_hw7.1
theorem k0_off11_inb : ∀ (v536 : BitVec 32) (k0_t9 : Fin (k0_t9_loop v536).trips) (v636 : BitVec 32) (k0_hw7 : k0_chk7 v536 k0_t9 v636), ∀ a, (k0_off11 v536 k0_t9 v636) a + S128x1536.size a ≤ S1408x1536.size a := fun v536 k0_t9 v636 k0_hw7 => k0_hw7.2

def k0_mult12 (v536 : BitVec 32) (k0_t9 : Fin (k0_t9_loop v536).trips) (v684 : BitVec 32) : BitVec 32 :=
  let c256_i32 : BitVec 32 := 256#32
  let v685 : BitVec 32 := Scalar.muli v684 c256_i32
  let c0_i32_310 : BitVec 32 := 0#32
  let c0_i32_311 : BitVec 32 := 0#32
  let c1_i32_313 : BitVec 32 := 1#32
  let arg13 : BitVec 32 := Scf.iv c0_i32_311 c1_i32_313 k0_t9
  let c1_i32_309 : BitVec 32 := 1#32
  let v634 : BitVec 32 := Scalar.muli arg13 c1_i32_309
  let v635 : BitVec 32 := Scalar.addi c0_i32_310 v634
  let c128_i32_430 : BitVec 32 := 128#32
  let v686 : BitVec 32 := Scalar.muli v635 c128_i32_430
  let v687 : BitVec 32 := Scalar.addi v685 v686
  v687

def k0_off12 (v536 : BitVec 32) (k0_t9 : Fin (k0_t9_loop v536).trips) (v684 : BitVec 32) : Fin 2 → Nat :=
  let c256_i32 : BitVec 32 := 256#32
  let v685 : BitVec 32 := Scalar.muli v684 c256_i32
  let c0_i32_310 : BitVec 32 := 0#32
  let c0_i32_311 : BitVec 32 := 0#32
  let c1_i32_313 : BitVec 32 := 1#32
  let arg13 : BitVec 32 := Scf.iv c0_i32_311 c1_i32_313 k0_t9
  let c1_i32_309 : BitVec 32 := 1#32
  let v634 : BitVec 32 := Scalar.muli arg13 c1_i32_309
  let v635 : BitVec 32 := Scalar.addi c0_i32_310 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk8 (v536 : BitVec 32) (k0_t9 : Fin (k0_t9_loop v536).trips) (v684 : BitVec 32) : Prop :=
  (128 ∣ (k0_mult12 v536 k0_t9 v684).toNat) ∧
  (∀ a, (k0_off12 v536 k0_t9 v684) a + S128x1536.size a ≤ S2816x1536.size a) ∧
  (∀ (hinb : ∀ a, (k0_off12 v536 k0_t9 v684) a + S128x1536.size a ≤ S2816x1536.size a), (Rect.unit (s := S2816x1536) (k0_off12 v536 k0_t9 v684) S128x1536.size hinb).PackedRows (EltTy.packing .bf16))
theorem k0_mult12_dvd : ∀ (v536 : BitVec 32) (k0_t9 : Fin (k0_t9_loop v536).trips) (v684 : BitVec 32) (k0_hw8 : k0_chk8 v536 k0_t9 v684), 128 ∣ (k0_mult12 v536 k0_t9 v684).toNat := fun v536 k0_t9 v684 k0_hw8 => k0_hw8.1
theorem k0_off12_inb : ∀ (v536 : BitVec 32) (k0_t9 : Fin (k0_t9_loop v536).trips) (v684 : BitVec 32) (k0_hw8 : k0_chk8 v536 k0_t9 v684), ∀ a, (k0_off12 v536 k0_t9 v684) a + S128x1536.size a ≤ S2816x1536.size a := fun v536 k0_t9 v684 k0_hw8 => k0_hw8.2.1
theorem k0_off12_packedbf16 : ∀ (v536 : BitVec 32) (k0_t9 : Fin (k0_t9_loop v536).trips) (v684 : BitVec 32) (k0_hw8 : k0_chk8 v536 k0_t9 v684), (Rect.unit (s := S2816x1536) (k0_off12 v536 k0_t9 v684) S128x1536.size (k0_off12_inb v536 k0_t9 v684 k0_hw8)).PackedRows (EltTy.packing .bf16) := fun v536 k0_t9 v684 k0_hw8 => k0_hw8.2.2 (k0_off12_inb v536 k0_t9 v684 k0_hw8)

@[reducible] def k0_t10_loop (v536 : BitVec 32) : Scf.Loop 32 :=
  let c0_i32_311 : BitVec 32 := 0#32
  let c2_i32_304 : BitVec 32 := 2#32
  let v537 : BitVec 32 := Scalar.muli c2_i32_304 v536
  let c0_i32_305 : BitVec 32 := 0#32
  let v538 : BitVec 32 := Scalar.subi v537 c0_i32_305
  let c1_i32_306 : BitVec 32 := 1#32
  let c1_i32_307 : BitVec 32 := 1#32
  let v539 : BitVec 32 := Scalar.subi c1_i32_306 c1_i32_307
  let v540 : BitVec 32 := Scalar.addi v538 v539
  let c1_i32_308 : BitVec 32 := 1#32
  let v541 : BitVec 32 := Scalar.divsi v540 c1_i32_308
  let v542 : BitVec 32 := Scalar.subi v541 c0_i32_311
  let c1_i32_312 : BitVec 32 := 1#32
  let v544 : BitVec 32 := Scalar.divsi v542 c1_i32_312
  let v545 : BitVec 32 := Scalar.muli v544 c1_i32_312
  let v546 : BitVec 32 := Scalar.addi c0_i32_311 v545
  let v543 : BitVec 32 := Scalar.addi c0_i32_311 v542
  let c1_i32_314 : BitVec 32 := 1#32
  ⟨v546, v543, c1_i32_314⟩

def k0_chk6 (v536 : BitVec 32) : Prop :=
  ((k0_t9_loop v536).OK) ∧
  ((k0_t10_loop v536).OK)
theorem k0_t9_ok : ∀ (v536 : BitVec 32) (k0_hw6 : k0_chk6 v536), (k0_t9_loop v536).OK := fun v536 k0_hw6 => k0_hw6.1
theorem k0_t10_ok : ∀ (v536 : BitVec 32) (k0_hw6 : k0_chk6 v536), (k0_t10_loop v536).OK := fun v536 k0_hw6 => k0_hw6.2

def k0_mult13 (v536 : BitVec 32) (k0_t10 : Fin (k0_t10_loop v536).trips) (v636 : BitVec 32) : BitVec 32 :=
  let c0_i32_310 : BitVec 32 := 0#32
  let c0_i32_311 : BitVec 32 := 0#32
  let c2_i32_304 : BitVec 32 := 2#32
  let v537 : BitVec 32 := Scalar.muli c2_i32_304 v536
  let c0_i32_305 : BitVec 32 := 0#32
  let v538 : BitVec 32 := Scalar.subi v537 c0_i32_305
  let c1_i32_306 : BitVec 32 := 1#32
  let c1_i32_307 : BitVec 32 := 1#32
  let v539 : BitVec 32 := Scalar.subi c1_i32_306 c1_i32_307
  let v540 : BitVec 32 := Scalar.addi v538 v539
  let c1_i32_308 : BitVec 32 := 1#32
  let v541 : BitVec 32 := Scalar.divsi v540 c1_i32_308
  let v542 : BitVec 32 := Scalar.subi v541 c0_i32_311
  let c1_i32_312 : BitVec 32 := 1#32
  let v544 : BitVec 32 := Scalar.divsi v542 c1_i32_312
  let v545 : BitVec 32 := Scalar.muli v544 c1_i32_312
  let v546 : BitVec 32 := Scalar.addi c0_i32_311 v545
  let c1_i32_314 : BitVec 32 := 1#32
  let arg13 : BitVec 32 := Scf.iv v546 c1_i32_314 k0_t10
  let c1_i32_309 : BitVec 32 := 1#32
  let v634 : BitVec 32 := Scalar.muli arg13 c1_i32_309
  let v635 : BitVec 32 := Scalar.addi c0_i32_310 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off13 (v536 : BitVec 32) (k0_t10 : Fin (k0_t10_loop v536).trips) (v636 : BitVec 32) : Fin 2 → Nat :=
  let c0_i32_310 : BitVec 32 := 0#32
  let c0_i32_311 : BitVec 32 := 0#32
  let c2_i32_304 : BitVec 32 := 2#32
  let v537 : BitVec 32 := Scalar.muli c2_i32_304 v536
  let c0_i32_305 : BitVec 32 := 0#32
  let v538 : BitVec 32 := Scalar.subi v537 c0_i32_305
  let c1_i32_306 : BitVec 32 := 1#32
  let c1_i32_307 : BitVec 32 := 1#32
  let v539 : BitVec 32 := Scalar.subi c1_i32_306 c1_i32_307
  let v540 : BitVec 32 := Scalar.addi v538 v539
  let c1_i32_308 : BitVec 32 := 1#32
  let v541 : BitVec 32 := Scalar.divsi v540 c1_i32_308
  let v542 : BitVec 32 := Scalar.subi v541 c0_i32_311
  let c1_i32_312 : BitVec 32 := 1#32
  let v544 : BitVec 32 := Scalar.divsi v542 c1_i32_312
  let v545 : BitVec 32 := Scalar.muli v544 c1_i32_312
  let v546 : BitVec 32 := Scalar.addi c0_i32_311 v545
  let c1_i32_314 : BitVec 32 := 1#32
  let arg13 : BitVec 32 := Scf.iv v546 c1_i32_314 k0_t10
  let c1_i32_309 : BitVec 32 := 1#32
  let v634 : BitVec 32 := Scalar.muli arg13 c1_i32_309
  let v635 : BitVec 32 := Scalar.addi c0_i32_310 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk9 (v536 : BitVec 32) (k0_t10 : Fin (k0_t10_loop v536).trips) (v636 : BitVec 32) : Prop :=
  (128 ∣ (k0_mult13 v536 k0_t10 v636).toNat) ∧
  (∀ a, (k0_off13 v536 k0_t10 v636) a + S128x1536.size a ≤ S1408x1536.size a)
theorem k0_mult13_dvd : ∀ (v536 : BitVec 32) (k0_t10 : Fin (k0_t10_loop v536).trips) (v636 : BitVec 32) (k0_hw9 : k0_chk9 v536 k0_t10 v636), 128 ∣ (k0_mult13 v536 k0_t10 v636).toNat := fun v536 k0_t10 v636 k0_hw9 => k0_hw9.1
theorem k0_off13_inb : ∀ (v536 : BitVec 32) (k0_t10 : Fin (k0_t10_loop v536).trips) (v636 : BitVec 32) (k0_hw9 : k0_chk9 v536 k0_t10 v636), ∀ a, (k0_off13 v536 k0_t10 v636) a + S128x1536.size a ≤ S1408x1536.size a := fun v536 k0_t10 v636 k0_hw9 => k0_hw9.2

def k0_mult14 (v536 : BitVec 32) (k0_t10 : Fin (k0_t10_loop v536).trips) (v684 : BitVec 32) : BitVec 32 :=
  let c256_i32 : BitVec 32 := 256#32
  let v685 : BitVec 32 := Scalar.muli v684 c256_i32
  let c0_i32_310 : BitVec 32 := 0#32
  let c0_i32_311 : BitVec 32 := 0#32
  let c2_i32_304 : BitVec 32 := 2#32
  let v537 : BitVec 32 := Scalar.muli c2_i32_304 v536
  let c0_i32_305 : BitVec 32 := 0#32
  let v538 : BitVec 32 := Scalar.subi v537 c0_i32_305
  let c1_i32_306 : BitVec 32 := 1#32
  let c1_i32_307 : BitVec 32 := 1#32
  let v539 : BitVec 32 := Scalar.subi c1_i32_306 c1_i32_307
  let v540 : BitVec 32 := Scalar.addi v538 v539
  let c1_i32_308 : BitVec 32 := 1#32
  let v541 : BitVec 32 := Scalar.divsi v540 c1_i32_308
  let v542 : BitVec 32 := Scalar.subi v541 c0_i32_311
  let c1_i32_312 : BitVec 32 := 1#32
  let v544 : BitVec 32 := Scalar.divsi v542 c1_i32_312
  let v545 : BitVec 32 := Scalar.muli v544 c1_i32_312
  let v546 : BitVec 32 := Scalar.addi c0_i32_311 v545
  let c1_i32_314 : BitVec 32 := 1#32
  let arg13 : BitVec 32 := Scf.iv v546 c1_i32_314 k0_t10
  let c1_i32_309 : BitVec 32 := 1#32
  let v634 : BitVec 32 := Scalar.muli arg13 c1_i32_309
  let v635 : BitVec 32 := Scalar.addi c0_i32_310 v634
  let c128_i32_430 : BitVec 32 := 128#32
  let v686 : BitVec 32 := Scalar.muli v635 c128_i32_430
  let v687 : BitVec 32 := Scalar.addi v685 v686
  v687

def k0_off14 (v536 : BitVec 32) (k0_t10 : Fin (k0_t10_loop v536).trips) (v684 : BitVec 32) : Fin 2 → Nat :=
  let c256_i32 : BitVec 32 := 256#32
  let v685 : BitVec 32 := Scalar.muli v684 c256_i32
  let c0_i32_310 : BitVec 32 := 0#32
  let c0_i32_311 : BitVec 32 := 0#32
  let c2_i32_304 : BitVec 32 := 2#32
  let v537 : BitVec 32 := Scalar.muli c2_i32_304 v536
  let c0_i32_305 : BitVec 32 := 0#32
  let v538 : BitVec 32 := Scalar.subi v537 c0_i32_305
  let c1_i32_306 : BitVec 32 := 1#32
  let c1_i32_307 : BitVec 32 := 1#32
  let v539 : BitVec 32 := Scalar.subi c1_i32_306 c1_i32_307
  let v540 : BitVec 32 := Scalar.addi v538 v539
  let c1_i32_308 : BitVec 32 := 1#32
  let v541 : BitVec 32 := Scalar.divsi v540 c1_i32_308
  let v542 : BitVec 32 := Scalar.subi v541 c0_i32_311
  let c1_i32_312 : BitVec 32 := 1#32
  let v544 : BitVec 32 := Scalar.divsi v542 c1_i32_312
  let v545 : BitVec 32 := Scalar.muli v544 c1_i32_312
  let v546 : BitVec 32 := Scalar.addi c0_i32_311 v545
  let c1_i32_314 : BitVec 32 := 1#32
  let arg13 : BitVec 32 := Scf.iv v546 c1_i32_314 k0_t10
  let c1_i32_309 : BitVec 32 := 1#32
  let v634 : BitVec 32 := Scalar.muli arg13 c1_i32_309
  let v635 : BitVec 32 := Scalar.addi c0_i32_310 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk10 (v536 : BitVec 32) (k0_t10 : Fin (k0_t10_loop v536).trips) (v684 : BitVec 32) : Prop :=
  (128 ∣ (k0_mult14 v536 k0_t10 v684).toNat) ∧
  (∀ a, (k0_off14 v536 k0_t10 v684) a + S128x1536.size a ≤ S2816x1536.size a) ∧
  (∀ (hinb : ∀ a, (k0_off14 v536 k0_t10 v684) a + S128x1536.size a ≤ S2816x1536.size a), (Rect.unit (s := S2816x1536) (k0_off14 v536 k0_t10 v684) S128x1536.size hinb).PackedRows (EltTy.packing .bf16))
theorem k0_mult14_dvd : ∀ (v536 : BitVec 32) (k0_t10 : Fin (k0_t10_loop v536).trips) (v684 : BitVec 32) (k0_hw10 : k0_chk10 v536 k0_t10 v684), 128 ∣ (k0_mult14 v536 k0_t10 v684).toNat := fun v536 k0_t10 v684 k0_hw10 => k0_hw10.1
theorem k0_off14_inb : ∀ (v536 : BitVec 32) (k0_t10 : Fin (k0_t10_loop v536).trips) (v684 : BitVec 32) (k0_hw10 : k0_chk10 v536 k0_t10 v684), ∀ a, (k0_off14 v536 k0_t10 v684) a + S128x1536.size a ≤ S2816x1536.size a := fun v536 k0_t10 v684 k0_hw10 => k0_hw10.2.1
theorem k0_off14_packedbf16 : ∀ (v536 : BitVec 32) (k0_t10 : Fin (k0_t10_loop v536).trips) (v684 : BitVec 32) (k0_hw10 : k0_chk10 v536 k0_t10 v684), (Rect.unit (s := S2816x1536) (k0_off14 v536 k0_t10 v684) S128x1536.size (k0_off14_inb v536 k0_t10 v684 k0_hw10)).PackedRows (EltTy.packing .bf16) := fun v536 k0_t10 v684 k0_hw10 => k0_hw10.2.2 (k0_off14_inb v536 k0_t10 v684 k0_hw10)

@[reducible] def k0_t11_loop (v547 : BitVec 32) : Scf.Loop 32 :=
  let c0_i32_324 : BitVec 32 := 0#32
  let c2_i32_317 : BitVec 32 := 2#32
  let v548 : BitVec 32 := Scalar.muli c2_i32_317 v547
  let c0_i32_318 : BitVec 32 := 0#32
  let v549 : BitVec 32 := Scalar.subi v548 c0_i32_318
  let c1_i32_319 : BitVec 32 := 1#32
  let c1_i32_320 : BitVec 32 := 1#32
  let v550 : BitVec 32 := Scalar.subi c1_i32_319 c1_i32_320
  let v551 : BitVec 32 := Scalar.addi v549 v550
  let c1_i32_321 : BitVec 32 := 1#32
  let v552 : BitVec 32 := Scalar.divsi v551 c1_i32_321
  let v553 : BitVec 32 := Scalar.subi v552 c0_i32_324
  let c1_i32_325 : BitVec 32 := 1#32
  let v555 : BitVec 32 := Scalar.divsi v553 c1_i32_325
  let v556 : BitVec 32 := Scalar.muli v555 c1_i32_325
  let v557 : BitVec 32 := Scalar.addi c0_i32_324 v556
  let c1_i32_326 : BitVec 32 := 1#32
  ⟨c0_i32_324, v557, c1_i32_326⟩

def k0_mult15 (v547 : BitVec 32) (k0_t11 : Fin (k0_t11_loop v547).trips) (v636 : BitVec 32) : BitVec 32 :=
  let c0_i32_323 : BitVec 32 := 0#32
  let c0_i32_324 : BitVec 32 := 0#32
  let c1_i32_326 : BitVec 32 := 1#32
  let arg13 : BitVec 32 := Scf.iv c0_i32_324 c1_i32_326 k0_t11
  let c1_i32_322 : BitVec 32 := 1#32
  let v634 : BitVec 32 := Scalar.muli arg13 c1_i32_322
  let v635 : BitVec 32 := Scalar.addi c0_i32_323 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off15 (v547 : BitVec 32) (k0_t11 : Fin (k0_t11_loop v547).trips) (v636 : BitVec 32) : Fin 2 → Nat :=
  let c0_i32_323 : BitVec 32 := 0#32
  let c0_i32_324 : BitVec 32 := 0#32
  let c1_i32_326 : BitVec 32 := 1#32
  let arg13 : BitVec 32 := Scf.iv c0_i32_324 c1_i32_326 k0_t11
  let c1_i32_322 : BitVec 32 := 1#32
  let v634 : BitVec 32 := Scalar.muli arg13 c1_i32_322
  let v635 : BitVec 32 := Scalar.addi c0_i32_323 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk12 (v547 : BitVec 32) (k0_t11 : Fin (k0_t11_loop v547).trips) (v636 : BitVec 32) : Prop :=
  (128 ∣ (k0_mult15 v547 k0_t11 v636).toNat) ∧
  (∀ a, (k0_off15 v547 k0_t11 v636) a + S128x1536.size a ≤ S1408x1536.size a)
theorem k0_mult15_dvd : ∀ (v547 : BitVec 32) (k0_t11 : Fin (k0_t11_loop v547).trips) (v636 : BitVec 32) (k0_hw12 : k0_chk12 v547 k0_t11 v636), 128 ∣ (k0_mult15 v547 k0_t11 v636).toNat := fun v547 k0_t11 v636 k0_hw12 => k0_hw12.1
theorem k0_off15_inb : ∀ (v547 : BitVec 32) (k0_t11 : Fin (k0_t11_loop v547).trips) (v636 : BitVec 32) (k0_hw12 : k0_chk12 v547 k0_t11 v636), ∀ a, (k0_off15 v547 k0_t11 v636) a + S128x1536.size a ≤ S1408x1536.size a := fun v547 k0_t11 v636 k0_hw12 => k0_hw12.2

def k0_mult16 (v547 : BitVec 32) (k0_t11 : Fin (k0_t11_loop v547).trips) (v684 : BitVec 32) : BitVec 32 :=
  let c256_i32 : BitVec 32 := 256#32
  let v685 : BitVec 32 := Scalar.muli v684 c256_i32
  let c0_i32_323 : BitVec 32 := 0#32
  let c0_i32_324 : BitVec 32 := 0#32
  let c1_i32_326 : BitVec 32 := 1#32
  let arg13 : BitVec 32 := Scf.iv c0_i32_324 c1_i32_326 k0_t11
  let c1_i32_322 : BitVec 32 := 1#32
  let v634 : BitVec 32 := Scalar.muli arg13 c1_i32_322
  let v635 : BitVec 32 := Scalar.addi c0_i32_323 v634
  let c128_i32_430 : BitVec 32 := 128#32
  let v686 : BitVec 32 := Scalar.muli v635 c128_i32_430
  let v687 : BitVec 32 := Scalar.addi v685 v686
  v687

def k0_off16 (v547 : BitVec 32) (k0_t11 : Fin (k0_t11_loop v547).trips) (v684 : BitVec 32) : Fin 2 → Nat :=
  let c256_i32 : BitVec 32 := 256#32
  let v685 : BitVec 32 := Scalar.muli v684 c256_i32
  let c0_i32_323 : BitVec 32 := 0#32
  let c0_i32_324 : BitVec 32 := 0#32
  let c1_i32_326 : BitVec 32 := 1#32
  let arg13 : BitVec 32 := Scf.iv c0_i32_324 c1_i32_326 k0_t11
  let c1_i32_322 : BitVec 32 := 1#32
  let v634 : BitVec 32 := Scalar.muli arg13 c1_i32_322
  let v635 : BitVec 32 := Scalar.addi c0_i32_323 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk13 (v547 : BitVec 32) (k0_t11 : Fin (k0_t11_loop v547).trips) (v684 : BitVec 32) : Prop :=
  (128 ∣ (k0_mult16 v547 k0_t11 v684).toNat) ∧
  (∀ a, (k0_off16 v547 k0_t11 v684) a + S128x1536.size a ≤ S2816x1536.size a) ∧
  (∀ (hinb : ∀ a, (k0_off16 v547 k0_t11 v684) a + S128x1536.size a ≤ S2816x1536.size a), (Rect.unit (s := S2816x1536) (k0_off16 v547 k0_t11 v684) S128x1536.size hinb).PackedRows (EltTy.packing .bf16))
theorem k0_mult16_dvd : ∀ (v547 : BitVec 32) (k0_t11 : Fin (k0_t11_loop v547).trips) (v684 : BitVec 32) (k0_hw13 : k0_chk13 v547 k0_t11 v684), 128 ∣ (k0_mult16 v547 k0_t11 v684).toNat := fun v547 k0_t11 v684 k0_hw13 => k0_hw13.1
theorem k0_off16_inb : ∀ (v547 : BitVec 32) (k0_t11 : Fin (k0_t11_loop v547).trips) (v684 : BitVec 32) (k0_hw13 : k0_chk13 v547 k0_t11 v684), ∀ a, (k0_off16 v547 k0_t11 v684) a + S128x1536.size a ≤ S2816x1536.size a := fun v547 k0_t11 v684 k0_hw13 => k0_hw13.2.1
theorem k0_off16_packedbf16 : ∀ (v547 : BitVec 32) (k0_t11 : Fin (k0_t11_loop v547).trips) (v684 : BitVec 32) (k0_hw13 : k0_chk13 v547 k0_t11 v684), (Rect.unit (s := S2816x1536) (k0_off16 v547 k0_t11 v684) S128x1536.size (k0_off16_inb v547 k0_t11 v684 k0_hw13)).PackedRows (EltTy.packing .bf16) := fun v547 k0_t11 v684 k0_hw13 => k0_hw13.2.2 (k0_off16_inb v547 k0_t11 v684 k0_hw13)

@[reducible] def k0_t12_loop (v547 : BitVec 32) : Scf.Loop 32 :=
  let c0_i32_324 : BitVec 32 := 0#32
  let c2_i32_317 : BitVec 32 := 2#32
  let v548 : BitVec 32 := Scalar.muli c2_i32_317 v547
  let c0_i32_318 : BitVec 32 := 0#32
  let v549 : BitVec 32 := Scalar.subi v548 c0_i32_318
  let c1_i32_319 : BitVec 32 := 1#32
  let c1_i32_320 : BitVec 32 := 1#32
  let v550 : BitVec 32 := Scalar.subi c1_i32_319 c1_i32_320
  let v551 : BitVec 32 := Scalar.addi v549 v550
  let c1_i32_321 : BitVec 32 := 1#32
  let v552 : BitVec 32 := Scalar.divsi v551 c1_i32_321
  let v553 : BitVec 32 := Scalar.subi v552 c0_i32_324
  let c1_i32_325 : BitVec 32 := 1#32
  let v555 : BitVec 32 := Scalar.divsi v553 c1_i32_325
  let v556 : BitVec 32 := Scalar.muli v555 c1_i32_325
  let v557 : BitVec 32 := Scalar.addi c0_i32_324 v556
  let v554 : BitVec 32 := Scalar.addi c0_i32_324 v553
  let c1_i32_327 : BitVec 32 := 1#32
  ⟨v557, v554, c1_i32_327⟩

def k0_chk11 (v547 : BitVec 32) : Prop :=
  ((k0_t11_loop v547).OK) ∧
  ((k0_t12_loop v547).OK)
theorem k0_t11_ok : ∀ (v547 : BitVec 32) (k0_hw11 : k0_chk11 v547), (k0_t11_loop v547).OK := fun v547 k0_hw11 => k0_hw11.1
theorem k0_t12_ok : ∀ (v547 : BitVec 32) (k0_hw11 : k0_chk11 v547), (k0_t12_loop v547).OK := fun v547 k0_hw11 => k0_hw11.2

def k0_mult17 (v547 : BitVec 32) (k0_t12 : Fin (k0_t12_loop v547).trips) (v636 : BitVec 32) : BitVec 32 :=
  let c0_i32_323 : BitVec 32 := 0#32
  let c0_i32_324 : BitVec 32 := 0#32
  let c2_i32_317 : BitVec 32 := 2#32
  let v548 : BitVec 32 := Scalar.muli c2_i32_317 v547
  let c0_i32_318 : BitVec 32 := 0#32
  let v549 : BitVec 32 := Scalar.subi v548 c0_i32_318
  let c1_i32_319 : BitVec 32 := 1#32
  let c1_i32_320 : BitVec 32 := 1#32
  let v550 : BitVec 32 := Scalar.subi c1_i32_319 c1_i32_320
  let v551 : BitVec 32 := Scalar.addi v549 v550
  let c1_i32_321 : BitVec 32 := 1#32
  let v552 : BitVec 32 := Scalar.divsi v551 c1_i32_321
  let v553 : BitVec 32 := Scalar.subi v552 c0_i32_324
  let c1_i32_325 : BitVec 32 := 1#32
  let v555 : BitVec 32 := Scalar.divsi v553 c1_i32_325
  let v556 : BitVec 32 := Scalar.muli v555 c1_i32_325
  let v557 : BitVec 32 := Scalar.addi c0_i32_324 v556
  let c1_i32_327 : BitVec 32 := 1#32
  let arg13 : BitVec 32 := Scf.iv v557 c1_i32_327 k0_t12
  let c1_i32_322 : BitVec 32 := 1#32
  let v634 : BitVec 32 := Scalar.muli arg13 c1_i32_322
  let v635 : BitVec 32 := Scalar.addi c0_i32_323 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off17 (v547 : BitVec 32) (k0_t12 : Fin (k0_t12_loop v547).trips) (v636 : BitVec 32) : Fin 2 → Nat :=
  let c0_i32_323 : BitVec 32 := 0#32
  let c0_i32_324 : BitVec 32 := 0#32
  let c2_i32_317 : BitVec 32 := 2#32
  let v548 : BitVec 32 := Scalar.muli c2_i32_317 v547
  let c0_i32_318 : BitVec 32 := 0#32
  let v549 : BitVec 32 := Scalar.subi v548 c0_i32_318
  let c1_i32_319 : BitVec 32 := 1#32
  let c1_i32_320 : BitVec 32 := 1#32
  let v550 : BitVec 32 := Scalar.subi c1_i32_319 c1_i32_320
  let v551 : BitVec 32 := Scalar.addi v549 v550
  let c1_i32_321 : BitVec 32 := 1#32
  let v552 : BitVec 32 := Scalar.divsi v551 c1_i32_321
  let v553 : BitVec 32 := Scalar.subi v552 c0_i32_324
  let c1_i32_325 : BitVec 32 := 1#32
  let v555 : BitVec 32 := Scalar.divsi v553 c1_i32_325
  let v556 : BitVec 32 := Scalar.muli v555 c1_i32_325
  let v557 : BitVec 32 := Scalar.addi c0_i32_324 v556
  let c1_i32_327 : BitVec 32 := 1#32
  let arg13 : BitVec 32 := Scf.iv v557 c1_i32_327 k0_t12
  let c1_i32_322 : BitVec 32 := 1#32
  let v634 : BitVec 32 := Scalar.muli arg13 c1_i32_322
  let v635 : BitVec 32 := Scalar.addi c0_i32_323 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk14 (v547 : BitVec 32) (k0_t12 : Fin (k0_t12_loop v547).trips) (v636 : BitVec 32) : Prop :=
  (128 ∣ (k0_mult17 v547 k0_t12 v636).toNat) ∧
  (∀ a, (k0_off17 v547 k0_t12 v636) a + S128x1536.size a ≤ S1408x1536.size a)
theorem k0_mult17_dvd : ∀ (v547 : BitVec 32) (k0_t12 : Fin (k0_t12_loop v547).trips) (v636 : BitVec 32) (k0_hw14 : k0_chk14 v547 k0_t12 v636), 128 ∣ (k0_mult17 v547 k0_t12 v636).toNat := fun v547 k0_t12 v636 k0_hw14 => k0_hw14.1
theorem k0_off17_inb : ∀ (v547 : BitVec 32) (k0_t12 : Fin (k0_t12_loop v547).trips) (v636 : BitVec 32) (k0_hw14 : k0_chk14 v547 k0_t12 v636), ∀ a, (k0_off17 v547 k0_t12 v636) a + S128x1536.size a ≤ S1408x1536.size a := fun v547 k0_t12 v636 k0_hw14 => k0_hw14.2

def k0_mult18 (v547 : BitVec 32) (k0_t12 : Fin (k0_t12_loop v547).trips) (v684 : BitVec 32) : BitVec 32 :=
  let c256_i32 : BitVec 32 := 256#32
  let v685 : BitVec 32 := Scalar.muli v684 c256_i32
  let c0_i32_323 : BitVec 32 := 0#32
  let c0_i32_324 : BitVec 32 := 0#32
  let c2_i32_317 : BitVec 32 := 2#32
  let v548 : BitVec 32 := Scalar.muli c2_i32_317 v547
  let c0_i32_318 : BitVec 32 := 0#32
  let v549 : BitVec 32 := Scalar.subi v548 c0_i32_318
  let c1_i32_319 : BitVec 32 := 1#32
  let c1_i32_320 : BitVec 32 := 1#32
  let v550 : BitVec 32 := Scalar.subi c1_i32_319 c1_i32_320
  let v551 : BitVec 32 := Scalar.addi v549 v550
  let c1_i32_321 : BitVec 32 := 1#32
  let v552 : BitVec 32 := Scalar.divsi v551 c1_i32_321
  let v553 : BitVec 32 := Scalar.subi v552 c0_i32_324
  let c1_i32_325 : BitVec 32 := 1#32
  let v555 : BitVec 32 := Scalar.divsi v553 c1_i32_325
  let v556 : BitVec 32 := Scalar.muli v555 c1_i32_325
  let v557 : BitVec 32 := Scalar.addi c0_i32_324 v556
  let c1_i32_327 : BitVec 32 := 1#32
  let arg13 : BitVec 32 := Scf.iv v557 c1_i32_327 k0_t12
  let c1_i32_322 : BitVec 32 := 1#32
  let v634 : BitVec 32 := Scalar.muli arg13 c1_i32_322
  let v635 : BitVec 32 := Scalar.addi c0_i32_323 v634
  let c128_i32_430 : BitVec 32 := 128#32
  let v686 : BitVec 32 := Scalar.muli v635 c128_i32_430
  let v687 : BitVec 32 := Scalar.addi v685 v686
  v687

def k0_off18 (v547 : BitVec 32) (k0_t12 : Fin (k0_t12_loop v547).trips) (v684 : BitVec 32) : Fin 2 → Nat :=
  let c256_i32 : BitVec 32 := 256#32
  let v685 : BitVec 32 := Scalar.muli v684 c256_i32
  let c0_i32_323 : BitVec 32 := 0#32
  let c0_i32_324 : BitVec 32 := 0#32
  let c2_i32_317 : BitVec 32 := 2#32
  let v548 : BitVec 32 := Scalar.muli c2_i32_317 v547
  let c0_i32_318 : BitVec 32 := 0#32
  let v549 : BitVec 32 := Scalar.subi v548 c0_i32_318
  let c1_i32_319 : BitVec 32 := 1#32
  let c1_i32_320 : BitVec 32 := 1#32
  let v550 : BitVec 32 := Scalar.subi c1_i32_319 c1_i32_320
  let v551 : BitVec 32 := Scalar.addi v549 v550
  let c1_i32_321 : BitVec 32 := 1#32
  let v552 : BitVec 32 := Scalar.divsi v551 c1_i32_321
  let v553 : BitVec 32 := Scalar.subi v552 c0_i32_324
  let c1_i32_325 : BitVec 32 := 1#32
  let v555 : BitVec 32 := Scalar.divsi v553 c1_i32_325
  let v556 : BitVec 32 := Scalar.muli v555 c1_i32_325
  let v557 : BitVec 32 := Scalar.addi c0_i32_324 v556
  let c1_i32_327 : BitVec 32 := 1#32
  let arg13 : BitVec 32 := Scf.iv v557 c1_i32_327 k0_t12
  let c1_i32_322 : BitVec 32 := 1#32
  let v634 : BitVec 32 := Scalar.muli arg13 c1_i32_322
  let v635 : BitVec 32 := Scalar.addi c0_i32_323 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk15 (v547 : BitVec 32) (k0_t12 : Fin (k0_t12_loop v547).trips) (v684 : BitVec 32) : Prop :=
  (128 ∣ (k0_mult18 v547 k0_t12 v684).toNat) ∧
  (∀ a, (k0_off18 v547 k0_t12 v684) a + S128x1536.size a ≤ S2816x1536.size a) ∧
  (∀ (hinb : ∀ a, (k0_off18 v547 k0_t12 v684) a + S128x1536.size a ≤ S2816x1536.size a), (Rect.unit (s := S2816x1536) (k0_off18 v547 k0_t12 v684) S128x1536.size hinb).PackedRows (EltTy.packing .bf16))
theorem k0_mult18_dvd : ∀ (v547 : BitVec 32) (k0_t12 : Fin (k0_t12_loop v547).trips) (v684 : BitVec 32) (k0_hw15 : k0_chk15 v547 k0_t12 v684), 128 ∣ (k0_mult18 v547 k0_t12 v684).toNat := fun v547 k0_t12 v684 k0_hw15 => k0_hw15.1
theorem k0_off18_inb : ∀ (v547 : BitVec 32) (k0_t12 : Fin (k0_t12_loop v547).trips) (v684 : BitVec 32) (k0_hw15 : k0_chk15 v547 k0_t12 v684), ∀ a, (k0_off18 v547 k0_t12 v684) a + S128x1536.size a ≤ S2816x1536.size a := fun v547 k0_t12 v684 k0_hw15 => k0_hw15.2.1
theorem k0_off18_packedbf16 : ∀ (v547 : BitVec 32) (k0_t12 : Fin (k0_t12_loop v547).trips) (v684 : BitVec 32) (k0_hw15 : k0_chk15 v547 k0_t12 v684), (Rect.unit (s := S2816x1536) (k0_off18 v547 k0_t12 v684) S128x1536.size (k0_off18_inb v547 k0_t12 v684 k0_hw15)).PackedRows (EltTy.packing .bf16) := fun v547 k0_t12 v684 k0_hw15 => k0_hw15.2.2 (k0_off18_inb v547 k0_t12 v684 k0_hw15)

@[reducible] def k0_t13_loop (v558 : BitVec 32) : Scf.Loop 32 :=
  let c0_i32_337 : BitVec 32 := 0#32
  let c2_i32_330 : BitVec 32 := 2#32
  let v559 : BitVec 32 := Scalar.muli c2_i32_330 v558
  let c0_i32_331 : BitVec 32 := 0#32
  let v560 : BitVec 32 := Scalar.subi v559 c0_i32_331
  let c1_i32_332 : BitVec 32 := 1#32
  let c1_i32_333 : BitVec 32 := 1#32
  let v561 : BitVec 32 := Scalar.subi c1_i32_332 c1_i32_333
  let v562 : BitVec 32 := Scalar.addi v560 v561
  let c1_i32_334 : BitVec 32 := 1#32
  let v563 : BitVec 32 := Scalar.divsi v562 c1_i32_334
  let v564 : BitVec 32 := Scalar.subi v563 c0_i32_337
  let c1_i32_338 : BitVec 32 := 1#32
  let v566 : BitVec 32 := Scalar.divsi v564 c1_i32_338
  let v567 : BitVec 32 := Scalar.muli v566 c1_i32_338
  let v568 : BitVec 32 := Scalar.addi c0_i32_337 v567
  let c1_i32_339 : BitVec 32 := 1#32
  ⟨c0_i32_337, v568, c1_i32_339⟩

def k0_mult19 (v558 : BitVec 32) (k0_t13 : Fin (k0_t13_loop v558).trips) (v636 : BitVec 32) : BitVec 32 :=
  let c0_i32_336 : BitVec 32 := 0#32
  let c0_i32_337 : BitVec 32 := 0#32
  let c1_i32_339 : BitVec 32 := 1#32
  let arg13 : BitVec 32 := Scf.iv c0_i32_337 c1_i32_339 k0_t13
  let c1_i32_335 : BitVec 32 := 1#32
  let v634 : BitVec 32 := Scalar.muli arg13 c1_i32_335
  let v635 : BitVec 32 := Scalar.addi c0_i32_336 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off19 (v558 : BitVec 32) (k0_t13 : Fin (k0_t13_loop v558).trips) (v636 : BitVec 32) : Fin 2 → Nat :=
  let c0_i32_336 : BitVec 32 := 0#32
  let c0_i32_337 : BitVec 32 := 0#32
  let c1_i32_339 : BitVec 32 := 1#32
  let arg13 : BitVec 32 := Scf.iv c0_i32_337 c1_i32_339 k0_t13
  let c1_i32_335 : BitVec 32 := 1#32
  let v634 : BitVec 32 := Scalar.muli arg13 c1_i32_335
  let v635 : BitVec 32 := Scalar.addi c0_i32_336 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk17 (v558 : BitVec 32) (k0_t13 : Fin (k0_t13_loop v558).trips) (v636 : BitVec 32) : Prop :=
  (128 ∣ (k0_mult19 v558 k0_t13 v636).toNat) ∧
  (∀ a, (k0_off19 v558 k0_t13 v636) a + S128x1536.size a ≤ S1408x1536.size a)
theorem k0_mult19_dvd : ∀ (v558 : BitVec 32) (k0_t13 : Fin (k0_t13_loop v558).trips) (v636 : BitVec 32) (k0_hw17 : k0_chk17 v558 k0_t13 v636), 128 ∣ (k0_mult19 v558 k0_t13 v636).toNat := fun v558 k0_t13 v636 k0_hw17 => k0_hw17.1
theorem k0_off19_inb : ∀ (v558 : BitVec 32) (k0_t13 : Fin (k0_t13_loop v558).trips) (v636 : BitVec 32) (k0_hw17 : k0_chk17 v558 k0_t13 v636), ∀ a, (k0_off19 v558 k0_t13 v636) a + S128x1536.size a ≤ S1408x1536.size a := fun v558 k0_t13 v636 k0_hw17 => k0_hw17.2

def k0_mult20 (v558 : BitVec 32) (k0_t13 : Fin (k0_t13_loop v558).trips) (v684 : BitVec 32) : BitVec 32 :=
  let c256_i32 : BitVec 32 := 256#32
  let v685 : BitVec 32 := Scalar.muli v684 c256_i32
  let c0_i32_336 : BitVec 32 := 0#32
  let c0_i32_337 : BitVec 32 := 0#32
  let c1_i32_339 : BitVec 32 := 1#32
  let arg13 : BitVec 32 := Scf.iv c0_i32_337 c1_i32_339 k0_t13
  let c1_i32_335 : BitVec 32 := 1#32
  let v634 : BitVec 32 := Scalar.muli arg13 c1_i32_335
  let v635 : BitVec 32 := Scalar.addi c0_i32_336 v634
  let c128_i32_430 : BitVec 32 := 128#32
  let v686 : BitVec 32 := Scalar.muli v635 c128_i32_430
  let v687 : BitVec 32 := Scalar.addi v685 v686
  v687

def k0_off20 (v558 : BitVec 32) (k0_t13 : Fin (k0_t13_loop v558).trips) (v684 : BitVec 32) : Fin 2 → Nat :=
  let c256_i32 : BitVec 32 := 256#32
  let v685 : BitVec 32 := Scalar.muli v684 c256_i32
  let c0_i32_336 : BitVec 32 := 0#32
  let c0_i32_337 : BitVec 32 := 0#32
  let c1_i32_339 : BitVec 32 := 1#32
  let arg13 : BitVec 32 := Scf.iv c0_i32_337 c1_i32_339 k0_t13
  let c1_i32_335 : BitVec 32 := 1#32
  let v634 : BitVec 32 := Scalar.muli arg13 c1_i32_335
  let v635 : BitVec 32 := Scalar.addi c0_i32_336 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk18 (v558 : BitVec 32) (k0_t13 : Fin (k0_t13_loop v558).trips) (v684 : BitVec 32) : Prop :=
  (128 ∣ (k0_mult20 v558 k0_t13 v684).toNat) ∧
  (∀ a, (k0_off20 v558 k0_t13 v684) a + S128x1536.size a ≤ S2816x1536.size a) ∧
  (∀ (hinb : ∀ a, (k0_off20 v558 k0_t13 v684) a + S128x1536.size a ≤ S2816x1536.size a), (Rect.unit (s := S2816x1536) (k0_off20 v558 k0_t13 v684) S128x1536.size hinb).PackedRows (EltTy.packing .bf16))
theorem k0_mult20_dvd : ∀ (v558 : BitVec 32) (k0_t13 : Fin (k0_t13_loop v558).trips) (v684 : BitVec 32) (k0_hw18 : k0_chk18 v558 k0_t13 v684), 128 ∣ (k0_mult20 v558 k0_t13 v684).toNat := fun v558 k0_t13 v684 k0_hw18 => k0_hw18.1
theorem k0_off20_inb : ∀ (v558 : BitVec 32) (k0_t13 : Fin (k0_t13_loop v558).trips) (v684 : BitVec 32) (k0_hw18 : k0_chk18 v558 k0_t13 v684), ∀ a, (k0_off20 v558 k0_t13 v684) a + S128x1536.size a ≤ S2816x1536.size a := fun v558 k0_t13 v684 k0_hw18 => k0_hw18.2.1
theorem k0_off20_packedbf16 : ∀ (v558 : BitVec 32) (k0_t13 : Fin (k0_t13_loop v558).trips) (v684 : BitVec 32) (k0_hw18 : k0_chk18 v558 k0_t13 v684), (Rect.unit (s := S2816x1536) (k0_off20 v558 k0_t13 v684) S128x1536.size (k0_off20_inb v558 k0_t13 v684 k0_hw18)).PackedRows (EltTy.packing .bf16) := fun v558 k0_t13 v684 k0_hw18 => k0_hw18.2.2 (k0_off20_inb v558 k0_t13 v684 k0_hw18)

@[reducible] def k0_t14_loop (v558 : BitVec 32) : Scf.Loop 32 :=
  let c0_i32_337 : BitVec 32 := 0#32
  let c2_i32_330 : BitVec 32 := 2#32
  let v559 : BitVec 32 := Scalar.muli c2_i32_330 v558
  let c0_i32_331 : BitVec 32 := 0#32
  let v560 : BitVec 32 := Scalar.subi v559 c0_i32_331
  let c1_i32_332 : BitVec 32 := 1#32
  let c1_i32_333 : BitVec 32 := 1#32
  let v561 : BitVec 32 := Scalar.subi c1_i32_332 c1_i32_333
  let v562 : BitVec 32 := Scalar.addi v560 v561
  let c1_i32_334 : BitVec 32 := 1#32
  let v563 : BitVec 32 := Scalar.divsi v562 c1_i32_334
  let v564 : BitVec 32 := Scalar.subi v563 c0_i32_337
  let c1_i32_338 : BitVec 32 := 1#32
  let v566 : BitVec 32 := Scalar.divsi v564 c1_i32_338
  let v567 : BitVec 32 := Scalar.muli v566 c1_i32_338
  let v568 : BitVec 32 := Scalar.addi c0_i32_337 v567
  let v565 : BitVec 32 := Scalar.addi c0_i32_337 v564
  let c1_i32_340 : BitVec 32 := 1#32
  ⟨v568, v565, c1_i32_340⟩

def k0_chk16 (v558 : BitVec 32) : Prop :=
  ((k0_t13_loop v558).OK) ∧
  ((k0_t14_loop v558).OK)
theorem k0_t13_ok : ∀ (v558 : BitVec 32) (k0_hw16 : k0_chk16 v558), (k0_t13_loop v558).OK := fun v558 k0_hw16 => k0_hw16.1
theorem k0_t14_ok : ∀ (v558 : BitVec 32) (k0_hw16 : k0_chk16 v558), (k0_t14_loop v558).OK := fun v558 k0_hw16 => k0_hw16.2

def k0_mult21 (v558 : BitVec 32) (k0_t14 : Fin (k0_t14_loop v558).trips) (v636 : BitVec 32) : BitVec 32 :=
  let c0_i32_336 : BitVec 32 := 0#32
  let c0_i32_337 : BitVec 32 := 0#32
  let c2_i32_330 : BitVec 32 := 2#32
  let v559 : BitVec 32 := Scalar.muli c2_i32_330 v558
  let c0_i32_331 : BitVec 32 := 0#32
  let v560 : BitVec 32 := Scalar.subi v559 c0_i32_331
  let c1_i32_332 : BitVec 32 := 1#32
  let c1_i32_333 : BitVec 32 := 1#32
  let v561 : BitVec 32 := Scalar.subi c1_i32_332 c1_i32_333
  let v562 : BitVec 32 := Scalar.addi v560 v561
  let c1_i32_334 : BitVec 32 := 1#32
  let v563 : BitVec 32 := Scalar.divsi v562 c1_i32_334
  let v564 : BitVec 32 := Scalar.subi v563 c0_i32_337
  let c1_i32_338 : BitVec 32 := 1#32
  let v566 : BitVec 32 := Scalar.divsi v564 c1_i32_338
  let v567 : BitVec 32 := Scalar.muli v566 c1_i32_338
  let v568 : BitVec 32 := Scalar.addi c0_i32_337 v567
  let c1_i32_340 : BitVec 32 := 1#32
  let arg13 : BitVec 32 := Scf.iv v568 c1_i32_340 k0_t14
  let c1_i32_335 : BitVec 32 := 1#32
  let v634 : BitVec 32 := Scalar.muli arg13 c1_i32_335
  let v635 : BitVec 32 := Scalar.addi c0_i32_336 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off21 (v558 : BitVec 32) (k0_t14 : Fin (k0_t14_loop v558).trips) (v636 : BitVec 32) : Fin 2 → Nat :=
  let c0_i32_336 : BitVec 32 := 0#32
  let c0_i32_337 : BitVec 32 := 0#32
  let c2_i32_330 : BitVec 32 := 2#32
  let v559 : BitVec 32 := Scalar.muli c2_i32_330 v558
  let c0_i32_331 : BitVec 32 := 0#32
  let v560 : BitVec 32 := Scalar.subi v559 c0_i32_331
  let c1_i32_332 : BitVec 32 := 1#32
  let c1_i32_333 : BitVec 32 := 1#32
  let v561 : BitVec 32 := Scalar.subi c1_i32_332 c1_i32_333
  let v562 : BitVec 32 := Scalar.addi v560 v561
  let c1_i32_334 : BitVec 32 := 1#32
  let v563 : BitVec 32 := Scalar.divsi v562 c1_i32_334
  let v564 : BitVec 32 := Scalar.subi v563 c0_i32_337
  let c1_i32_338 : BitVec 32 := 1#32
  let v566 : BitVec 32 := Scalar.divsi v564 c1_i32_338
  let v567 : BitVec 32 := Scalar.muli v566 c1_i32_338
  let v568 : BitVec 32 := Scalar.addi c0_i32_337 v567
  let c1_i32_340 : BitVec 32 := 1#32
  let arg13 : BitVec 32 := Scf.iv v568 c1_i32_340 k0_t14
  let c1_i32_335 : BitVec 32 := 1#32
  let v634 : BitVec 32 := Scalar.muli arg13 c1_i32_335
  let v635 : BitVec 32 := Scalar.addi c0_i32_336 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk19 (v558 : BitVec 32) (k0_t14 : Fin (k0_t14_loop v558).trips) (v636 : BitVec 32) : Prop :=
  (128 ∣ (k0_mult21 v558 k0_t14 v636).toNat) ∧
  (∀ a, (k0_off21 v558 k0_t14 v636) a + S128x1536.size a ≤ S1408x1536.size a)
theorem k0_mult21_dvd : ∀ (v558 : BitVec 32) (k0_t14 : Fin (k0_t14_loop v558).trips) (v636 : BitVec 32) (k0_hw19 : k0_chk19 v558 k0_t14 v636), 128 ∣ (k0_mult21 v558 k0_t14 v636).toNat := fun v558 k0_t14 v636 k0_hw19 => k0_hw19.1
theorem k0_off21_inb : ∀ (v558 : BitVec 32) (k0_t14 : Fin (k0_t14_loop v558).trips) (v636 : BitVec 32) (k0_hw19 : k0_chk19 v558 k0_t14 v636), ∀ a, (k0_off21 v558 k0_t14 v636) a + S128x1536.size a ≤ S1408x1536.size a := fun v558 k0_t14 v636 k0_hw19 => k0_hw19.2

def k0_mult22 (v558 : BitVec 32) (k0_t14 : Fin (k0_t14_loop v558).trips) (v684 : BitVec 32) : BitVec 32 :=
  let c256_i32 : BitVec 32 := 256#32
  let v685 : BitVec 32 := Scalar.muli v684 c256_i32
  let c0_i32_336 : BitVec 32 := 0#32
  let c0_i32_337 : BitVec 32 := 0#32
  let c2_i32_330 : BitVec 32 := 2#32
  let v559 : BitVec 32 := Scalar.muli c2_i32_330 v558
  let c0_i32_331 : BitVec 32 := 0#32
  let v560 : BitVec 32 := Scalar.subi v559 c0_i32_331
  let c1_i32_332 : BitVec 32 := 1#32
  let c1_i32_333 : BitVec 32 := 1#32
  let v561 : BitVec 32 := Scalar.subi c1_i32_332 c1_i32_333
  let v562 : BitVec 32 := Scalar.addi v560 v561
  let c1_i32_334 : BitVec 32 := 1#32
  let v563 : BitVec 32 := Scalar.divsi v562 c1_i32_334
  let v564 : BitVec 32 := Scalar.subi v563 c0_i32_337
  let c1_i32_338 : BitVec 32 := 1#32
  let v566 : BitVec 32 := Scalar.divsi v564 c1_i32_338
  let v567 : BitVec 32 := Scalar.muli v566 c1_i32_338
  let v568 : BitVec 32 := Scalar.addi c0_i32_337 v567
  let c1_i32_340 : BitVec 32 := 1#32
  let arg13 : BitVec 32 := Scf.iv v568 c1_i32_340 k0_t14
  let c1_i32_335 : BitVec 32 := 1#32
  let v634 : BitVec 32 := Scalar.muli arg13 c1_i32_335
  let v635 : BitVec 32 := Scalar.addi c0_i32_336 v634
  let c128_i32_430 : BitVec 32 := 128#32
  let v686 : BitVec 32 := Scalar.muli v635 c128_i32_430
  let v687 : BitVec 32 := Scalar.addi v685 v686
  v687

def k0_off22 (v558 : BitVec 32) (k0_t14 : Fin (k0_t14_loop v558).trips) (v684 : BitVec 32) : Fin 2 → Nat :=
  let c256_i32 : BitVec 32 := 256#32
  let v685 : BitVec 32 := Scalar.muli v684 c256_i32
  let c0_i32_336 : BitVec 32 := 0#32
  let c0_i32_337 : BitVec 32 := 0#32
  let c2_i32_330 : BitVec 32 := 2#32
  let v559 : BitVec 32 := Scalar.muli c2_i32_330 v558
  let c0_i32_331 : BitVec 32 := 0#32
  let v560 : BitVec 32 := Scalar.subi v559 c0_i32_331
  let c1_i32_332 : BitVec 32 := 1#32
  let c1_i32_333 : BitVec 32 := 1#32
  let v561 : BitVec 32 := Scalar.subi c1_i32_332 c1_i32_333
  let v562 : BitVec 32 := Scalar.addi v560 v561
  let c1_i32_334 : BitVec 32 := 1#32
  let v563 : BitVec 32 := Scalar.divsi v562 c1_i32_334
  let v564 : BitVec 32 := Scalar.subi v563 c0_i32_337
  let c1_i32_338 : BitVec 32 := 1#32
  let v566 : BitVec 32 := Scalar.divsi v564 c1_i32_338
  let v567 : BitVec 32 := Scalar.muli v566 c1_i32_338
  let v568 : BitVec 32 := Scalar.addi c0_i32_337 v567
  let c1_i32_340 : BitVec 32 := 1#32
  let arg13 : BitVec 32 := Scf.iv v568 c1_i32_340 k0_t14
  let c1_i32_335 : BitVec 32 := 1#32
  let v634 : BitVec 32 := Scalar.muli arg13 c1_i32_335
  let v635 : BitVec 32 := Scalar.addi c0_i32_336 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk20 (v558 : BitVec 32) (k0_t14 : Fin (k0_t14_loop v558).trips) (v684 : BitVec 32) : Prop :=
  (128 ∣ (k0_mult22 v558 k0_t14 v684).toNat) ∧
  (∀ a, (k0_off22 v558 k0_t14 v684) a + S128x1536.size a ≤ S2816x1536.size a) ∧
  (∀ (hinb : ∀ a, (k0_off22 v558 k0_t14 v684) a + S128x1536.size a ≤ S2816x1536.size a), (Rect.unit (s := S2816x1536) (k0_off22 v558 k0_t14 v684) S128x1536.size hinb).PackedRows (EltTy.packing .bf16))
theorem k0_mult22_dvd : ∀ (v558 : BitVec 32) (k0_t14 : Fin (k0_t14_loop v558).trips) (v684 : BitVec 32) (k0_hw20 : k0_chk20 v558 k0_t14 v684), 128 ∣ (k0_mult22 v558 k0_t14 v684).toNat := fun v558 k0_t14 v684 k0_hw20 => k0_hw20.1
theorem k0_off22_inb : ∀ (v558 : BitVec 32) (k0_t14 : Fin (k0_t14_loop v558).trips) (v684 : BitVec 32) (k0_hw20 : k0_chk20 v558 k0_t14 v684), ∀ a, (k0_off22 v558 k0_t14 v684) a + S128x1536.size a ≤ S2816x1536.size a := fun v558 k0_t14 v684 k0_hw20 => k0_hw20.2.1
theorem k0_off22_packedbf16 : ∀ (v558 : BitVec 32) (k0_t14 : Fin (k0_t14_loop v558).trips) (v684 : BitVec 32) (k0_hw20 : k0_chk20 v558 k0_t14 v684), (Rect.unit (s := S2816x1536) (k0_off22 v558 k0_t14 v684) S128x1536.size (k0_off22_inb v558 k0_t14 v684 k0_hw20)).PackedRows (EltTy.packing .bf16) := fun v558 k0_t14 v684 k0_hw20 => k0_hw20.2.2 (k0_off22_inb v558 k0_t14 v684 k0_hw20)

@[reducible] def k0_t15_loop (v569 : BitVec 32) : Scf.Loop 32 :=
  let c0_i32_350 : BitVec 32 := 0#32
  let c2_i32_343 : BitVec 32 := 2#32
  let v570 : BitVec 32 := Scalar.muli c2_i32_343 v569
  let c0_i32_344 : BitVec 32 := 0#32
  let v571 : BitVec 32 := Scalar.subi v570 c0_i32_344
  let c1_i32_345 : BitVec 32 := 1#32
  let c1_i32_346 : BitVec 32 := 1#32
  let v572 : BitVec 32 := Scalar.subi c1_i32_345 c1_i32_346
  let v573 : BitVec 32 := Scalar.addi v571 v572
  let c1_i32_347 : BitVec 32 := 1#32
  let v574 : BitVec 32 := Scalar.divsi v573 c1_i32_347
  let v575 : BitVec 32 := Scalar.subi v574 c0_i32_350
  let c1_i32_351 : BitVec 32 := 1#32
  let v577 : BitVec 32 := Scalar.divsi v575 c1_i32_351
  let v578 : BitVec 32 := Scalar.muli v577 c1_i32_351
  let v579 : BitVec 32 := Scalar.addi c0_i32_350 v578
  let c1_i32_352 : BitVec 32 := 1#32
  ⟨c0_i32_350, v579, c1_i32_352⟩

def k0_mult23 (v569 : BitVec 32) (k0_t15 : Fin (k0_t15_loop v569).trips) (v636 : BitVec 32) : BitVec 32 :=
  let c0_i32_349 : BitVec 32 := 0#32
  let c0_i32_350 : BitVec 32 := 0#32
  let c1_i32_352 : BitVec 32 := 1#32
  let arg13 : BitVec 32 := Scf.iv c0_i32_350 c1_i32_352 k0_t15
  let c1_i32_348 : BitVec 32 := 1#32
  let v634 : BitVec 32 := Scalar.muli arg13 c1_i32_348
  let v635 : BitVec 32 := Scalar.addi c0_i32_349 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off23 (v569 : BitVec 32) (k0_t15 : Fin (k0_t15_loop v569).trips) (v636 : BitVec 32) : Fin 2 → Nat :=
  let c0_i32_349 : BitVec 32 := 0#32
  let c0_i32_350 : BitVec 32 := 0#32
  let c1_i32_352 : BitVec 32 := 1#32
  let arg13 : BitVec 32 := Scf.iv c0_i32_350 c1_i32_352 k0_t15
  let c1_i32_348 : BitVec 32 := 1#32
  let v634 : BitVec 32 := Scalar.muli arg13 c1_i32_348
  let v635 : BitVec 32 := Scalar.addi c0_i32_349 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk22 (v569 : BitVec 32) (k0_t15 : Fin (k0_t15_loop v569).trips) (v636 : BitVec 32) : Prop :=
  (128 ∣ (k0_mult23 v569 k0_t15 v636).toNat) ∧
  (∀ a, (k0_off23 v569 k0_t15 v636) a + S128x1536.size a ≤ S1408x1536.size a)
theorem k0_mult23_dvd : ∀ (v569 : BitVec 32) (k0_t15 : Fin (k0_t15_loop v569).trips) (v636 : BitVec 32) (k0_hw22 : k0_chk22 v569 k0_t15 v636), 128 ∣ (k0_mult23 v569 k0_t15 v636).toNat := fun v569 k0_t15 v636 k0_hw22 => k0_hw22.1
theorem k0_off23_inb : ∀ (v569 : BitVec 32) (k0_t15 : Fin (k0_t15_loop v569).trips) (v636 : BitVec 32) (k0_hw22 : k0_chk22 v569 k0_t15 v636), ∀ a, (k0_off23 v569 k0_t15 v636) a + S128x1536.size a ≤ S1408x1536.size a := fun v569 k0_t15 v636 k0_hw22 => k0_hw22.2

def k0_mult24 (v569 : BitVec 32) (k0_t15 : Fin (k0_t15_loop v569).trips) (v684 : BitVec 32) : BitVec 32 :=
  let c256_i32 : BitVec 32 := 256#32
  let v685 : BitVec 32 := Scalar.muli v684 c256_i32
  let c0_i32_349 : BitVec 32 := 0#32
  let c0_i32_350 : BitVec 32 := 0#32
  let c1_i32_352 : BitVec 32 := 1#32
  let arg13 : BitVec 32 := Scf.iv c0_i32_350 c1_i32_352 k0_t15
  let c1_i32_348 : BitVec 32 := 1#32
  let v634 : BitVec 32 := Scalar.muli arg13 c1_i32_348
  let v635 : BitVec 32 := Scalar.addi c0_i32_349 v634
  let c128_i32_430 : BitVec 32 := 128#32
  let v686 : BitVec 32 := Scalar.muli v635 c128_i32_430
  let v687 : BitVec 32 := Scalar.addi v685 v686
  v687

def k0_off24 (v569 : BitVec 32) (k0_t15 : Fin (k0_t15_loop v569).trips) (v684 : BitVec 32) : Fin 2 → Nat :=
  let c256_i32 : BitVec 32 := 256#32
  let v685 : BitVec 32 := Scalar.muli v684 c256_i32
  let c0_i32_349 : BitVec 32 := 0#32
  let c0_i32_350 : BitVec 32 := 0#32
  let c1_i32_352 : BitVec 32 := 1#32
  let arg13 : BitVec 32 := Scf.iv c0_i32_350 c1_i32_352 k0_t15
  let c1_i32_348 : BitVec 32 := 1#32
  let v634 : BitVec 32 := Scalar.muli arg13 c1_i32_348
  let v635 : BitVec 32 := Scalar.addi c0_i32_349 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk23 (v569 : BitVec 32) (k0_t15 : Fin (k0_t15_loop v569).trips) (v684 : BitVec 32) : Prop :=
  (128 ∣ (k0_mult24 v569 k0_t15 v684).toNat) ∧
  (∀ a, (k0_off24 v569 k0_t15 v684) a + S128x1536.size a ≤ S2816x1536.size a) ∧
  (∀ (hinb : ∀ a, (k0_off24 v569 k0_t15 v684) a + S128x1536.size a ≤ S2816x1536.size a), (Rect.unit (s := S2816x1536) (k0_off24 v569 k0_t15 v684) S128x1536.size hinb).PackedRows (EltTy.packing .bf16))
theorem k0_mult24_dvd : ∀ (v569 : BitVec 32) (k0_t15 : Fin (k0_t15_loop v569).trips) (v684 : BitVec 32) (k0_hw23 : k0_chk23 v569 k0_t15 v684), 128 ∣ (k0_mult24 v569 k0_t15 v684).toNat := fun v569 k0_t15 v684 k0_hw23 => k0_hw23.1
theorem k0_off24_inb : ∀ (v569 : BitVec 32) (k0_t15 : Fin (k0_t15_loop v569).trips) (v684 : BitVec 32) (k0_hw23 : k0_chk23 v569 k0_t15 v684), ∀ a, (k0_off24 v569 k0_t15 v684) a + S128x1536.size a ≤ S2816x1536.size a := fun v569 k0_t15 v684 k0_hw23 => k0_hw23.2.1
theorem k0_off24_packedbf16 : ∀ (v569 : BitVec 32) (k0_t15 : Fin (k0_t15_loop v569).trips) (v684 : BitVec 32) (k0_hw23 : k0_chk23 v569 k0_t15 v684), (Rect.unit (s := S2816x1536) (k0_off24 v569 k0_t15 v684) S128x1536.size (k0_off24_inb v569 k0_t15 v684 k0_hw23)).PackedRows (EltTy.packing .bf16) := fun v569 k0_t15 v684 k0_hw23 => k0_hw23.2.2 (k0_off24_inb v569 k0_t15 v684 k0_hw23)

@[reducible] def k0_t16_loop (v569 : BitVec 32) : Scf.Loop 32 :=
  let c0_i32_350 : BitVec 32 := 0#32
  let c2_i32_343 : BitVec 32 := 2#32
  let v570 : BitVec 32 := Scalar.muli c2_i32_343 v569
  let c0_i32_344 : BitVec 32 := 0#32
  let v571 : BitVec 32 := Scalar.subi v570 c0_i32_344
  let c1_i32_345 : BitVec 32 := 1#32
  let c1_i32_346 : BitVec 32 := 1#32
  let v572 : BitVec 32 := Scalar.subi c1_i32_345 c1_i32_346
  let v573 : BitVec 32 := Scalar.addi v571 v572
  let c1_i32_347 : BitVec 32 := 1#32
  let v574 : BitVec 32 := Scalar.divsi v573 c1_i32_347
  let v575 : BitVec 32 := Scalar.subi v574 c0_i32_350
  let c1_i32_351 : BitVec 32 := 1#32
  let v577 : BitVec 32 := Scalar.divsi v575 c1_i32_351
  let v578 : BitVec 32 := Scalar.muli v577 c1_i32_351
  let v579 : BitVec 32 := Scalar.addi c0_i32_350 v578
  let v576 : BitVec 32 := Scalar.addi c0_i32_350 v575
  let c1_i32_353 : BitVec 32 := 1#32
  ⟨v579, v576, c1_i32_353⟩

def k0_chk21 (v569 : BitVec 32) : Prop :=
  ((k0_t15_loop v569).OK) ∧
  ((k0_t16_loop v569).OK)
theorem k0_t15_ok : ∀ (v569 : BitVec 32) (k0_hw21 : k0_chk21 v569), (k0_t15_loop v569).OK := fun v569 k0_hw21 => k0_hw21.1
theorem k0_t16_ok : ∀ (v569 : BitVec 32) (k0_hw21 : k0_chk21 v569), (k0_t16_loop v569).OK := fun v569 k0_hw21 => k0_hw21.2

def k0_mult25 (v569 : BitVec 32) (k0_t16 : Fin (k0_t16_loop v569).trips) (v636 : BitVec 32) : BitVec 32 :=
  let c0_i32_349 : BitVec 32 := 0#32
  let c0_i32_350 : BitVec 32 := 0#32
  let c2_i32_343 : BitVec 32 := 2#32
  let v570 : BitVec 32 := Scalar.muli c2_i32_343 v569
  let c0_i32_344 : BitVec 32 := 0#32
  let v571 : BitVec 32 := Scalar.subi v570 c0_i32_344
  let c1_i32_345 : BitVec 32 := 1#32
  let c1_i32_346 : BitVec 32 := 1#32
  let v572 : BitVec 32 := Scalar.subi c1_i32_345 c1_i32_346
  let v573 : BitVec 32 := Scalar.addi v571 v572
  let c1_i32_347 : BitVec 32 := 1#32
  let v574 : BitVec 32 := Scalar.divsi v573 c1_i32_347
  let v575 : BitVec 32 := Scalar.subi v574 c0_i32_350
  let c1_i32_351 : BitVec 32 := 1#32
  let v577 : BitVec 32 := Scalar.divsi v575 c1_i32_351
  let v578 : BitVec 32 := Scalar.muli v577 c1_i32_351
  let v579 : BitVec 32 := Scalar.addi c0_i32_350 v578
  let c1_i32_353 : BitVec 32 := 1#32
  let arg13 : BitVec 32 := Scf.iv v579 c1_i32_353 k0_t16
  let c1_i32_348 : BitVec 32 := 1#32
  let v634 : BitVec 32 := Scalar.muli arg13 c1_i32_348
  let v635 : BitVec 32 := Scalar.addi c0_i32_349 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off25 (v569 : BitVec 32) (k0_t16 : Fin (k0_t16_loop v569).trips) (v636 : BitVec 32) : Fin 2 → Nat :=
  let c0_i32_349 : BitVec 32 := 0#32
  let c0_i32_350 : BitVec 32 := 0#32
  let c2_i32_343 : BitVec 32 := 2#32
  let v570 : BitVec 32 := Scalar.muli c2_i32_343 v569
  let c0_i32_344 : BitVec 32 := 0#32
  let v571 : BitVec 32 := Scalar.subi v570 c0_i32_344
  let c1_i32_345 : BitVec 32 := 1#32
  let c1_i32_346 : BitVec 32 := 1#32
  let v572 : BitVec 32 := Scalar.subi c1_i32_345 c1_i32_346
  let v573 : BitVec 32 := Scalar.addi v571 v572
  let c1_i32_347 : BitVec 32 := 1#32
  let v574 : BitVec 32 := Scalar.divsi v573 c1_i32_347
  let v575 : BitVec 32 := Scalar.subi v574 c0_i32_350
  let c1_i32_351 : BitVec 32 := 1#32
  let v577 : BitVec 32 := Scalar.divsi v575 c1_i32_351
  let v578 : BitVec 32 := Scalar.muli v577 c1_i32_351
  let v579 : BitVec 32 := Scalar.addi c0_i32_350 v578
  let c1_i32_353 : BitVec 32 := 1#32
  let arg13 : BitVec 32 := Scf.iv v579 c1_i32_353 k0_t16
  let c1_i32_348 : BitVec 32 := 1#32
  let v634 : BitVec 32 := Scalar.muli arg13 c1_i32_348
  let v635 : BitVec 32 := Scalar.addi c0_i32_349 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk24 (v569 : BitVec 32) (k0_t16 : Fin (k0_t16_loop v569).trips) (v636 : BitVec 32) : Prop :=
  (128 ∣ (k0_mult25 v569 k0_t16 v636).toNat) ∧
  (∀ a, (k0_off25 v569 k0_t16 v636) a + S128x1536.size a ≤ S1408x1536.size a)
theorem k0_mult25_dvd : ∀ (v569 : BitVec 32) (k0_t16 : Fin (k0_t16_loop v569).trips) (v636 : BitVec 32) (k0_hw24 : k0_chk24 v569 k0_t16 v636), 128 ∣ (k0_mult25 v569 k0_t16 v636).toNat := fun v569 k0_t16 v636 k0_hw24 => k0_hw24.1
theorem k0_off25_inb : ∀ (v569 : BitVec 32) (k0_t16 : Fin (k0_t16_loop v569).trips) (v636 : BitVec 32) (k0_hw24 : k0_chk24 v569 k0_t16 v636), ∀ a, (k0_off25 v569 k0_t16 v636) a + S128x1536.size a ≤ S1408x1536.size a := fun v569 k0_t16 v636 k0_hw24 => k0_hw24.2

def k0_mult26 (v569 : BitVec 32) (k0_t16 : Fin (k0_t16_loop v569).trips) (v684 : BitVec 32) : BitVec 32 :=
  let c256_i32 : BitVec 32 := 256#32
  let v685 : BitVec 32 := Scalar.muli v684 c256_i32
  let c0_i32_349 : BitVec 32 := 0#32
  let c0_i32_350 : BitVec 32 := 0#32
  let c2_i32_343 : BitVec 32 := 2#32
  let v570 : BitVec 32 := Scalar.muli c2_i32_343 v569
  let c0_i32_344 : BitVec 32 := 0#32
  let v571 : BitVec 32 := Scalar.subi v570 c0_i32_344
  let c1_i32_345 : BitVec 32 := 1#32
  let c1_i32_346 : BitVec 32 := 1#32
  let v572 : BitVec 32 := Scalar.subi c1_i32_345 c1_i32_346
  let v573 : BitVec 32 := Scalar.addi v571 v572
  let c1_i32_347 : BitVec 32 := 1#32
  let v574 : BitVec 32 := Scalar.divsi v573 c1_i32_347
  let v575 : BitVec 32 := Scalar.subi v574 c0_i32_350
  let c1_i32_351 : BitVec 32 := 1#32
  let v577 : BitVec 32 := Scalar.divsi v575 c1_i32_351
  let v578 : BitVec 32 := Scalar.muli v577 c1_i32_351
  let v579 : BitVec 32 := Scalar.addi c0_i32_350 v578
  let c1_i32_353 : BitVec 32 := 1#32
  let arg13 : BitVec 32 := Scf.iv v579 c1_i32_353 k0_t16
  let c1_i32_348 : BitVec 32 := 1#32
  let v634 : BitVec 32 := Scalar.muli arg13 c1_i32_348
  let v635 : BitVec 32 := Scalar.addi c0_i32_349 v634
  let c128_i32_430 : BitVec 32 := 128#32
  let v686 : BitVec 32 := Scalar.muli v635 c128_i32_430
  let v687 : BitVec 32 := Scalar.addi v685 v686
  v687

def k0_off26 (v569 : BitVec 32) (k0_t16 : Fin (k0_t16_loop v569).trips) (v684 : BitVec 32) : Fin 2 → Nat :=
  let c256_i32 : BitVec 32 := 256#32
  let v685 : BitVec 32 := Scalar.muli v684 c256_i32
  let c0_i32_349 : BitVec 32 := 0#32
  let c0_i32_350 : BitVec 32 := 0#32
  let c2_i32_343 : BitVec 32 := 2#32
  let v570 : BitVec 32 := Scalar.muli c2_i32_343 v569
  let c0_i32_344 : BitVec 32 := 0#32
  let v571 : BitVec 32 := Scalar.subi v570 c0_i32_344
  let c1_i32_345 : BitVec 32 := 1#32
  let c1_i32_346 : BitVec 32 := 1#32
  let v572 : BitVec 32 := Scalar.subi c1_i32_345 c1_i32_346
  let v573 : BitVec 32 := Scalar.addi v571 v572
  let c1_i32_347 : BitVec 32 := 1#32
  let v574 : BitVec 32 := Scalar.divsi v573 c1_i32_347
  let v575 : BitVec 32 := Scalar.subi v574 c0_i32_350
  let c1_i32_351 : BitVec 32 := 1#32
  let v577 : BitVec 32 := Scalar.divsi v575 c1_i32_351
  let v578 : BitVec 32 := Scalar.muli v577 c1_i32_351
  let v579 : BitVec 32 := Scalar.addi c0_i32_350 v578
  let c1_i32_353 : BitVec 32 := 1#32
  let arg13 : BitVec 32 := Scf.iv v579 c1_i32_353 k0_t16
  let c1_i32_348 : BitVec 32 := 1#32
  let v634 : BitVec 32 := Scalar.muli arg13 c1_i32_348
  let v635 : BitVec 32 := Scalar.addi c0_i32_349 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk25 (v569 : BitVec 32) (k0_t16 : Fin (k0_t16_loop v569).trips) (v684 : BitVec 32) : Prop :=
  (128 ∣ (k0_mult26 v569 k0_t16 v684).toNat) ∧
  (∀ a, (k0_off26 v569 k0_t16 v684) a + S128x1536.size a ≤ S2816x1536.size a) ∧
  (∀ (hinb : ∀ a, (k0_off26 v569 k0_t16 v684) a + S128x1536.size a ≤ S2816x1536.size a), (Rect.unit (s := S2816x1536) (k0_off26 v569 k0_t16 v684) S128x1536.size hinb).PackedRows (EltTy.packing .bf16))
theorem k0_mult26_dvd : ∀ (v569 : BitVec 32) (k0_t16 : Fin (k0_t16_loop v569).trips) (v684 : BitVec 32) (k0_hw25 : k0_chk25 v569 k0_t16 v684), 128 ∣ (k0_mult26 v569 k0_t16 v684).toNat := fun v569 k0_t16 v684 k0_hw25 => k0_hw25.1
theorem k0_off26_inb : ∀ (v569 : BitVec 32) (k0_t16 : Fin (k0_t16_loop v569).trips) (v684 : BitVec 32) (k0_hw25 : k0_chk25 v569 k0_t16 v684), ∀ a, (k0_off26 v569 k0_t16 v684) a + S128x1536.size a ≤ S2816x1536.size a := fun v569 k0_t16 v684 k0_hw25 => k0_hw25.2.1
theorem k0_off26_packedbf16 : ∀ (v569 : BitVec 32) (k0_t16 : Fin (k0_t16_loop v569).trips) (v684 : BitVec 32) (k0_hw25 : k0_chk25 v569 k0_t16 v684), (Rect.unit (s := S2816x1536) (k0_off26 v569 k0_t16 v684) S128x1536.size (k0_off26_inb v569 k0_t16 v684 k0_hw25)).PackedRows (EltTy.packing .bf16) := fun v569 k0_t16 v684 k0_hw25 => k0_hw25.2.2 (k0_off26_inb v569 k0_t16 v684 k0_hw25)

@[reducible] def k0_t17_loop (v580 : BitVec 32) : Scf.Loop 32 :=
  let c0_i32_363 : BitVec 32 := 0#32
  let c2_i32_356 : BitVec 32 := 2#32
  let v581 : BitVec 32 := Scalar.muli c2_i32_356 v580
  let c0_i32_357 : BitVec 32 := 0#32
  let v582 : BitVec 32 := Scalar.subi v581 c0_i32_357
  let c1_i32_358 : BitVec 32 := 1#32
  let c1_i32_359 : BitVec 32 := 1#32
  let v583 : BitVec 32 := Scalar.subi c1_i32_358 c1_i32_359
  let v584 : BitVec 32 := Scalar.addi v582 v583
  let c1_i32_360 : BitVec 32 := 1#32
  let v585 : BitVec 32 := Scalar.divsi v584 c1_i32_360
  let v586 : BitVec 32 := Scalar.subi v585 c0_i32_363
  let c1_i32_364 : BitVec 32 := 1#32
  let v588 : BitVec 32 := Scalar.divsi v586 c1_i32_364
  let v589 : BitVec 32 := Scalar.muli v588 c1_i32_364
  let v590 : BitVec 32 := Scalar.addi c0_i32_363 v589
  let c1_i32_365 : BitVec 32 := 1#32
  ⟨c0_i32_363, v590, c1_i32_365⟩

def k0_mult27 (v580 : BitVec 32) (k0_t17 : Fin (k0_t17_loop v580).trips) (v636 : BitVec 32) : BitVec 32 :=
  let c0_i32_362 : BitVec 32 := 0#32
  let c0_i32_363 : BitVec 32 := 0#32
  let c1_i32_365 : BitVec 32 := 1#32
  let arg13 : BitVec 32 := Scf.iv c0_i32_363 c1_i32_365 k0_t17
  let c1_i32_361 : BitVec 32 := 1#32
  let v634 : BitVec 32 := Scalar.muli arg13 c1_i32_361
  let v635 : BitVec 32 := Scalar.addi c0_i32_362 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off27 (v580 : BitVec 32) (k0_t17 : Fin (k0_t17_loop v580).trips) (v636 : BitVec 32) : Fin 2 → Nat :=
  let c0_i32_362 : BitVec 32 := 0#32
  let c0_i32_363 : BitVec 32 := 0#32
  let c1_i32_365 : BitVec 32 := 1#32
  let arg13 : BitVec 32 := Scf.iv c0_i32_363 c1_i32_365 k0_t17
  let c1_i32_361 : BitVec 32 := 1#32
  let v634 : BitVec 32 := Scalar.muli arg13 c1_i32_361
  let v635 : BitVec 32 := Scalar.addi c0_i32_362 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk27 (v580 : BitVec 32) (k0_t17 : Fin (k0_t17_loop v580).trips) (v636 : BitVec 32) : Prop :=
  (128 ∣ (k0_mult27 v580 k0_t17 v636).toNat) ∧
  (∀ a, (k0_off27 v580 k0_t17 v636) a + S128x1536.size a ≤ S1408x1536.size a)
theorem k0_mult27_dvd : ∀ (v580 : BitVec 32) (k0_t17 : Fin (k0_t17_loop v580).trips) (v636 : BitVec 32) (k0_hw27 : k0_chk27 v580 k0_t17 v636), 128 ∣ (k0_mult27 v580 k0_t17 v636).toNat := fun v580 k0_t17 v636 k0_hw27 => k0_hw27.1
theorem k0_off27_inb : ∀ (v580 : BitVec 32) (k0_t17 : Fin (k0_t17_loop v580).trips) (v636 : BitVec 32) (k0_hw27 : k0_chk27 v580 k0_t17 v636), ∀ a, (k0_off27 v580 k0_t17 v636) a + S128x1536.size a ≤ S1408x1536.size a := fun v580 k0_t17 v636 k0_hw27 => k0_hw27.2

def k0_mult28 (v580 : BitVec 32) (k0_t17 : Fin (k0_t17_loop v580).trips) (v684 : BitVec 32) : BitVec 32 :=
  let c256_i32 : BitVec 32 := 256#32
  let v685 : BitVec 32 := Scalar.muli v684 c256_i32
  let c0_i32_362 : BitVec 32 := 0#32
  let c0_i32_363 : BitVec 32 := 0#32
  let c1_i32_365 : BitVec 32 := 1#32
  let arg13 : BitVec 32 := Scf.iv c0_i32_363 c1_i32_365 k0_t17
  let c1_i32_361 : BitVec 32 := 1#32
  let v634 : BitVec 32 := Scalar.muli arg13 c1_i32_361
  let v635 : BitVec 32 := Scalar.addi c0_i32_362 v634
  let c128_i32_430 : BitVec 32 := 128#32
  let v686 : BitVec 32 := Scalar.muli v635 c128_i32_430
  let v687 : BitVec 32 := Scalar.addi v685 v686
  v687

def k0_off28 (v580 : BitVec 32) (k0_t17 : Fin (k0_t17_loop v580).trips) (v684 : BitVec 32) : Fin 2 → Nat :=
  let c256_i32 : BitVec 32 := 256#32
  let v685 : BitVec 32 := Scalar.muli v684 c256_i32
  let c0_i32_362 : BitVec 32 := 0#32
  let c0_i32_363 : BitVec 32 := 0#32
  let c1_i32_365 : BitVec 32 := 1#32
  let arg13 : BitVec 32 := Scf.iv c0_i32_363 c1_i32_365 k0_t17
  let c1_i32_361 : BitVec 32 := 1#32
  let v634 : BitVec 32 := Scalar.muli arg13 c1_i32_361
  let v635 : BitVec 32 := Scalar.addi c0_i32_362 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk28 (v580 : BitVec 32) (k0_t17 : Fin (k0_t17_loop v580).trips) (v684 : BitVec 32) : Prop :=
  (128 ∣ (k0_mult28 v580 k0_t17 v684).toNat) ∧
  (∀ a, (k0_off28 v580 k0_t17 v684) a + S128x1536.size a ≤ S2816x1536.size a) ∧
  (∀ (hinb : ∀ a, (k0_off28 v580 k0_t17 v684) a + S128x1536.size a ≤ S2816x1536.size a), (Rect.unit (s := S2816x1536) (k0_off28 v580 k0_t17 v684) S128x1536.size hinb).PackedRows (EltTy.packing .bf16))
theorem k0_mult28_dvd : ∀ (v580 : BitVec 32) (k0_t17 : Fin (k0_t17_loop v580).trips) (v684 : BitVec 32) (k0_hw28 : k0_chk28 v580 k0_t17 v684), 128 ∣ (k0_mult28 v580 k0_t17 v684).toNat := fun v580 k0_t17 v684 k0_hw28 => k0_hw28.1
theorem k0_off28_inb : ∀ (v580 : BitVec 32) (k0_t17 : Fin (k0_t17_loop v580).trips) (v684 : BitVec 32) (k0_hw28 : k0_chk28 v580 k0_t17 v684), ∀ a, (k0_off28 v580 k0_t17 v684) a + S128x1536.size a ≤ S2816x1536.size a := fun v580 k0_t17 v684 k0_hw28 => k0_hw28.2.1
theorem k0_off28_packedbf16 : ∀ (v580 : BitVec 32) (k0_t17 : Fin (k0_t17_loop v580).trips) (v684 : BitVec 32) (k0_hw28 : k0_chk28 v580 k0_t17 v684), (Rect.unit (s := S2816x1536) (k0_off28 v580 k0_t17 v684) S128x1536.size (k0_off28_inb v580 k0_t17 v684 k0_hw28)).PackedRows (EltTy.packing .bf16) := fun v580 k0_t17 v684 k0_hw28 => k0_hw28.2.2 (k0_off28_inb v580 k0_t17 v684 k0_hw28)

@[reducible] def k0_t18_loop (v580 : BitVec 32) : Scf.Loop 32 :=
  let c0_i32_363 : BitVec 32 := 0#32
  let c2_i32_356 : BitVec 32 := 2#32
  let v581 : BitVec 32 := Scalar.muli c2_i32_356 v580
  let c0_i32_357 : BitVec 32 := 0#32
  let v582 : BitVec 32 := Scalar.subi v581 c0_i32_357
  let c1_i32_358 : BitVec 32 := 1#32
  let c1_i32_359 : BitVec 32 := 1#32
  let v583 : BitVec 32 := Scalar.subi c1_i32_358 c1_i32_359
  let v584 : BitVec 32 := Scalar.addi v582 v583
  let c1_i32_360 : BitVec 32 := 1#32
  let v585 : BitVec 32 := Scalar.divsi v584 c1_i32_360
  let v586 : BitVec 32 := Scalar.subi v585 c0_i32_363
  let c1_i32_364 : BitVec 32 := 1#32
  let v588 : BitVec 32 := Scalar.divsi v586 c1_i32_364
  let v589 : BitVec 32 := Scalar.muli v588 c1_i32_364
  let v590 : BitVec 32 := Scalar.addi c0_i32_363 v589
  let v587 : BitVec 32 := Scalar.addi c0_i32_363 v586
  let c1_i32_366 : BitVec 32 := 1#32
  ⟨v590, v587, c1_i32_366⟩

def k0_chk26 (v580 : BitVec 32) : Prop :=
  ((k0_t17_loop v580).OK) ∧
  ((k0_t18_loop v580).OK)
theorem k0_t17_ok : ∀ (v580 : BitVec 32) (k0_hw26 : k0_chk26 v580), (k0_t17_loop v580).OK := fun v580 k0_hw26 => k0_hw26.1
theorem k0_t18_ok : ∀ (v580 : BitVec 32) (k0_hw26 : k0_chk26 v580), (k0_t18_loop v580).OK := fun v580 k0_hw26 => k0_hw26.2

def k0_mult29 (v580 : BitVec 32) (k0_t18 : Fin (k0_t18_loop v580).trips) (v636 : BitVec 32) : BitVec 32 :=
  let c0_i32_362 : BitVec 32 := 0#32
  let c0_i32_363 : BitVec 32 := 0#32
  let c2_i32_356 : BitVec 32 := 2#32
  let v581 : BitVec 32 := Scalar.muli c2_i32_356 v580
  let c0_i32_357 : BitVec 32 := 0#32
  let v582 : BitVec 32 := Scalar.subi v581 c0_i32_357
  let c1_i32_358 : BitVec 32 := 1#32
  let c1_i32_359 : BitVec 32 := 1#32
  let v583 : BitVec 32 := Scalar.subi c1_i32_358 c1_i32_359
  let v584 : BitVec 32 := Scalar.addi v582 v583
  let c1_i32_360 : BitVec 32 := 1#32
  let v585 : BitVec 32 := Scalar.divsi v584 c1_i32_360
  let v586 : BitVec 32 := Scalar.subi v585 c0_i32_363
  let c1_i32_364 : BitVec 32 := 1#32
  let v588 : BitVec 32 := Scalar.divsi v586 c1_i32_364
  let v589 : BitVec 32 := Scalar.muli v588 c1_i32_364
  let v590 : BitVec 32 := Scalar.addi c0_i32_363 v589
  let c1_i32_366 : BitVec 32 := 1#32
  let arg13 : BitVec 32 := Scf.iv v590 c1_i32_366 k0_t18
  let c1_i32_361 : BitVec 32 := 1#32
  let v634 : BitVec 32 := Scalar.muli arg13 c1_i32_361
  let v635 : BitVec 32 := Scalar.addi c0_i32_362 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  v639

def k0_off29 (v580 : BitVec 32) (k0_t18 : Fin (k0_t18_loop v580).trips) (v636 : BitVec 32) : Fin 2 → Nat :=
  let c0_i32_362 : BitVec 32 := 0#32
  let c0_i32_363 : BitVec 32 := 0#32
  let c2_i32_356 : BitVec 32 := 2#32
  let v581 : BitVec 32 := Scalar.muli c2_i32_356 v580
  let c0_i32_357 : BitVec 32 := 0#32
  let v582 : BitVec 32 := Scalar.subi v581 c0_i32_357
  let c1_i32_358 : BitVec 32 := 1#32
  let c1_i32_359 : BitVec 32 := 1#32
  let v583 : BitVec 32 := Scalar.subi c1_i32_358 c1_i32_359
  let v584 : BitVec 32 := Scalar.addi v582 v583
  let c1_i32_360 : BitVec 32 := 1#32
  let v585 : BitVec 32 := Scalar.divsi v584 c1_i32_360
  let v586 : BitVec 32 := Scalar.subi v585 c0_i32_363
  let c1_i32_364 : BitVec 32 := 1#32
  let v588 : BitVec 32 := Scalar.divsi v586 c1_i32_364
  let v589 : BitVec 32 := Scalar.muli v588 c1_i32_364
  let v590 : BitVec 32 := Scalar.addi c0_i32_363 v589
  let c1_i32_366 : BitVec 32 := 1#32
  let arg13 : BitVec 32 := Scf.iv v590 c1_i32_366 k0_t18
  let c1_i32_361 : BitVec 32 := 1#32
  let v634 : BitVec 32 := Scalar.muli arg13 c1_i32_361
  let v635 : BitVec 32 := Scalar.addi c0_i32_362 v634
  let v637 : BitVec 32 := Scalar.addi v636 v635
  let c10_i32_411 : BitVec 32 := 10#32
  let v638 : BitVec 32 := Scalar.minsi v637 c10_i32_411
  let c128_i32 : BitVec 32 := 128#32
  let v639 : BitVec 32 := Scalar.muli v638 c128_i32
  let v640 : BitVec 32 := v639
  let v641 : Index := Scalar.indexCast v640
  let c0_412 : Index := 0#32
  ![v641.toNat, 0]

def k0_chk29 (v580 : BitVec 32) (k0_t18 : Fin (k0_t18_loop v580).trips) (v636 : BitVec 32) : Prop :=
  (128 ∣ (k0_mult29 v580 k0_t18 v636).toNat) ∧
  (∀ a, (k0_off29 v580 k0_t18 v636) a + S128x1536.size a ≤ S1408x1536.size a)
theorem k0_mult29_dvd : ∀ (v580 : BitVec 32) (k0_t18 : Fin (k0_t18_loop v580).trips) (v636 : BitVec 32) (k0_hw29 : k0_chk29 v580 k0_t18 v636), 128 ∣ (k0_mult29 v580 k0_t18 v636).toNat := fun v580 k0_t18 v636 k0_hw29 => k0_hw29.1
theorem k0_off29_inb : ∀ (v580 : BitVec 32) (k0_t18 : Fin (k0_t18_loop v580).trips) (v636 : BitVec 32) (k0_hw29 : k0_chk29 v580 k0_t18 v636), ∀ a, (k0_off29 v580 k0_t18 v636) a + S128x1536.size a ≤ S1408x1536.size a := fun v580 k0_t18 v636 k0_hw29 => k0_hw29.2

def k0_mult30 (v580 : BitVec 32) (k0_t18 : Fin (k0_t18_loop v580).trips) (v684 : BitVec 32) : BitVec 32 :=
  let c256_i32 : BitVec 32 := 256#32
  let v685 : BitVec 32 := Scalar.muli v684 c256_i32
  let c0_i32_362 : BitVec 32 := 0#32
  let c0_i32_363 : BitVec 32 := 0#32
  let c2_i32_356 : BitVec 32 := 2#32
  let v581 : BitVec 32 := Scalar.muli c2_i32_356 v580
  let c0_i32_357 : BitVec 32 := 0#32
  let v582 : BitVec 32 := Scalar.subi v581 c0_i32_357
  let c1_i32_358 : BitVec 32 := 1#32
  let c1_i32_359 : BitVec 32 := 1#32
  let v583 : BitVec 32 := Scalar.subi c1_i32_358 c1_i32_359
  let v584 : BitVec 32 := Scalar.addi v582 v583
  let c1_i32_360 : BitVec 32 := 1#32
  let v585 : BitVec 32 := Scalar.divsi v584 c1_i32_360
  let v586 : BitVec 32 := Scalar.subi v585 c0_i32_363
  let c1_i32_364 : BitVec 32 := 1#32
  let v588 : BitVec 32 := Scalar.divsi v586 c1_i32_364
  let v589 : BitVec 32 := Scalar.muli v588 c1_i32_364
  let v590 : BitVec 32 := Scalar.addi c0_i32_363 v589
  let c1_i32_366 : BitVec 32 := 1#32
  let arg13 : BitVec 32 := Scf.iv v590 c1_i32_366 k0_t18
  let c1_i32_361 : BitVec 32 := 1#32
  let v634 : BitVec 32 := Scalar.muli arg13 c1_i32_361
  let v635 : BitVec 32 := Scalar.addi c0_i32_362 v634
  let c128_i32_430 : BitVec 32 := 128#32
  let v686 : BitVec 32 := Scalar.muli v635 c128_i32_430
  let v687 : BitVec 32 := Scalar.addi v685 v686
  v687

def k0_off30 (v580 : BitVec 32) (k0_t18 : Fin (k0_t18_loop v580).trips) (v684 : BitVec 32) : Fin 2 → Nat :=
  let c256_i32 : BitVec 32 := 256#32
  let v685 : BitVec 32 := Scalar.muli v684 c256_i32
  let c0_i32_362 : BitVec 32 := 0#32
  let c0_i32_363 : BitVec 32 := 0#32
  let c2_i32_356 : BitVec 32 := 2#32
  let v581 : BitVec 32 := Scalar.muli c2_i32_356 v580
  let c0_i32_357 : BitVec 32 := 0#32
  let v582 : BitVec 32 := Scalar.subi v581 c0_i32_357
  let c1_i32_358 : BitVec 32 := 1#32
  let c1_i32_359 : BitVec 32 := 1#32
  let v583 : BitVec 32 := Scalar.subi c1_i32_358 c1_i32_359
  let v584 : BitVec 32 := Scalar.addi v582 v583
  let c1_i32_360 : BitVec 32 := 1#32
  let v585 : BitVec 32 := Scalar.divsi v584 c1_i32_360
  let v586 : BitVec 32 := Scalar.subi v585 c0_i32_363
  let c1_i32_364 : BitVec 32 := 1#32
  let v588 : BitVec 32 := Scalar.divsi v586 c1_i32_364
  let v589 : BitVec 32 := Scalar.muli v588 c1_i32_364
  let v590 : BitVec 32 := Scalar.addi c0_i32_363 v589
  let c1_i32_366 : BitVec 32 := 1#32
  let arg13 : BitVec 32 := Scf.iv v590 c1_i32_366 k0_t18
  let c1_i32_361 : BitVec 32 := 1#32
  let v634 : BitVec 32 := Scalar.muli arg13 c1_i32_361
  let v635 : BitVec 32 := Scalar.addi c0_i32_362 v634
  let c128_i32_430 : BitVec 32 := 128#32
  let v686 : BitVec 32 := Scalar.muli v635 c128_i32_430
  let v687 : BitVec 32 := Scalar.addi v685 v686
  let v688 : BitVec 32 := v687
  let v689 : Index := Scalar.indexCast v688
  let c0_431 : Index := 0#32
  ![v689.toNat, 0]

def k0_chk30 (v580 : BitVec 32) (k0_t18 : Fin (k0_t18_loop v580).trips) (v684 : BitVec 32) : Prop :=
  (128 ∣ (k0_mult30 v580 k0_t18 v684).toNat) ∧
  (∀ a, (k0_off30 v580 k0_t18 v684) a + S128x1536.size a ≤ S2816x1536.size a) ∧
  (∀ (hinb : ∀ a, (k0_off30 v580 k0_t18 v684) a + S128x1536.size a ≤ S2816x1536.size a), (Rect.unit (s := S2816x1536) (k0_off30 v580 k0_t18 v684) S128x1536.size hinb).PackedRows (EltTy.packing .bf16))
theorem k0_mult30_dvd : ∀ (v580 : BitVec 32) (k0_t18 : Fin (k0_t18_loop v580).trips) (v684 : BitVec 32) (k0_hw30 : k0_chk30 v580 k0_t18 v684), 128 ∣ (k0_mult30 v580 k0_t18 v684).toNat := fun v580 k0_t18 v684 k0_hw30 => k0_hw30.1
theorem k0_off30_inb : ∀ (v580 : BitVec 32) (k0_t18 : Fin (k0_t18_loop v580).trips) (v684 : BitVec 32) (k0_hw30 : k0_chk30 v580 k0_t18 v684), ∀ a, (k0_off30 v580 k0_t18 v684) a + S128x1536.size a ≤ S2816x1536.size a := fun v580 k0_t18 v684 k0_hw30 => k0_hw30.2.1
theorem k0_off30_packedbf16 : ∀ (v580 : BitVec 32) (k0_t18 : Fin (k0_t18_loop v580).trips) (v684 : BitVec 32) (k0_hw30 : k0_chk30 v580 k0_t18 v684), (Rect.unit (s := S2816x1536) (k0_off30 v580 k0_t18 v684) S128x1536.size (k0_off30_inb v580 k0_t18 v684 k0_hw30)).PackedRows (EltTy.packing .bf16) := fun v580 k0_t18 v684 k0_hw30 => k0_hw30.2.2 (k0_off30_inb v580 k0_t18 v684 k0_hw30)

@[reducible] def k0_t19_loop : Scf.Loop 32 :=
  let c0_i32_372 : BitVec 32 := 0#32
  let c10_i32 : BitVec 32 := 10#32
  let v598 : BitVec 32 := Scalar.addi c0_i32_372 c10_i32
  let c1_i32_373 : BitVec 32 := 1#32
  ⟨c0_i32_372, v598, c1_i32_373⟩
def k0_mult31 (k0_t19 : Fin k0_t19_loop.trips) : BitVec 32 :=
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  v634
def k0_off31 (k0_t19 : Fin k0_t19_loop.trips) : Fin 2 → Nat :=
  let c0_409 : Index := 0#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v636 : Index := Scalar.indexCast v635
  ![0, v636.toNat]
def k0_off32 (k0_t19 : Fin k0_t19_loop.trips) : Fin 2 → Nat :=
  let c128 : Index := 128#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v642 : Index := Scalar.indexCast v635
  ![128, v642.toNat]
def k0_off33 (k0_t19 : Fin k0_t19_loop.trips) : Fin 2 → Nat :=
  let c256 : Index := 256#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v648 : Index := Scalar.indexCast v635
  ![256, v648.toNat]
def k0_off34 (k0_t19 : Fin k0_t19_loop.trips) : Fin 2 → Nat :=
  let c384 : Index := 384#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v654 : Index := Scalar.indexCast v635
  ![384, v654.toNat]
def k0_off35 (k0_t19 : Fin k0_t19_loop.trips) : Fin 2 → Nat :=
  let c512 : Index := 512#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v660 : Index := Scalar.indexCast v635
  ![512, v660.toNat]
def k0_off36 (k0_t19 : Fin k0_t19_loop.trips) : Fin 2 → Nat :=
  let c640 : Index := 640#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v666 : Index := Scalar.indexCast v635
  ![640, v666.toNat]
def k0_off37 (k0_t19 : Fin k0_t19_loop.trips) : Fin 2 → Nat :=
  let c768 : Index := 768#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v672 : Index := Scalar.indexCast v635
  ![768, v672.toNat]
def k0_off38 (k0_t19 : Fin k0_t19_loop.trips) : Fin 2 → Nat :=
  let c896 : Index := 896#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v678 : Index := Scalar.indexCast v635
  ![896, v678.toNat]
def k0_off39 (k0_t19 : Fin k0_t19_loop.trips) : Fin 2 → Nat :=
  let c1024 : Index := 1024#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v684 : Index := Scalar.indexCast v635
  ![1024, v684.toNat]
def k0_off40 (k0_t19 : Fin k0_t19_loop.trips) : Fin 2 → Nat :=
  let c1152 : Index := 1152#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v690 : Index := Scalar.indexCast v635
  ![1152, v690.toNat]
def k0_off41 (k0_t19 : Fin k0_t19_loop.trips) : Fin 2 → Nat :=
  let c1280 : Index := 1280#32
  let c0_i32_372 : BitVec 32 := 0#32
  let c1_i32_373 : BitVec 32 := 1#32
  let arg13 : BitVec 32 := Scf.iv c0_i32_372 c1_i32_373 k0_t19
  let c512_i32 : BitVec 32 := 512#32
  let v634 : BitVec 32 := Scalar.muli arg13 c512_i32
  let v635 : BitVec 32 := v634
  let v696 : Index := Scalar.indexCast v635
  ![1280, v696.toNat]
@[reducible] def k0_t20_loop : Scf.Loop 32 :=
  let c0_i32_432 : BitVec 32 := 0#32
  let c6_i32 : BitVec 32 := 6#32
  let v702 : BitVec 32 := Scalar.addi c0_i32_432 c6_i32
  let c1_i32_433 : BitVec 32 := 1#32
  ⟨c0_i32_432, v702, c1_i32_433⟩
def k0_off42 (k0_t20 : Fin k0_t20_loop.trips) : Fin 2 → Nat :=
  let c0_435 : Index := 0#32
  let c0_i32_432 : BitVec 32 := 0#32
  let c1_i32_433 : BitVec 32 := 1#32
  let arg15 : BitVec 32 := Scf.iv c0_i32_432 c1_i32_433 k0_t20
  let v704 : Index := Scalar.indexCast arg15
  ![0, v704.toNat]
def k0_mult32 : BitVec 32 :=
  let c0_i32_455 : BitVec 32 := 0#32
  c0_i32_455
def k0_off43 (arg16 : BitVec 32) : Fin 1 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  ![v715.toNat]
def k0_cond7 (arg16 : BitVec 32) (v705 : BitVec 32) : BitVec 1 :=
  let c0_i32_442 : BitVec 32 := 0#32
  let v716 : BitVec 1 := Scalar.cmpi .sgt v705 c0_i32_442
  let c4_i32_443 : BitVec 32 := 4#32
  let v717 : BitVec 1 := Scalar.cmpi .sge arg16 c4_i32_443
  let v718 : BitVec 1 := Scalar.andi v716 v717
  let v719 : BitVec 32 := Scalar.extui v718
  let c0_i32_444 : BitVec 32 := 0#32
  let v720 : BitVec 1 := Scalar.cmpi .ne v719 c0_i32_444
  v720

def k0_off44 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let c0_i32_458 : BitVec 32 := 0#32
  let c0_i32_459 : BitVec 32 := 0#32
  ![v715.toNat, 0, 0]
def k0_off45 (k0_t20 : Fin k0_t20_loop.trips) : Fin 2 → Nat :=
  let c1_455 : Index := 1#32
  let c0_i32_432 : BitVec 32 := 0#32
  let c1_i32_433 : BitVec 32 := 1#32
  let arg15 : BitVec 32 := Scf.iv c0_i32_432 c1_i32_433 k0_t20
  let v739 : Index := Scalar.indexCast arg15
  ![1, v739.toNat]
def k0_mult33 (v740 : BitVec 32) : BitVec 32 :=
  let c128_i32 : BitVec 32 := 128#32
  let v741 : BitVec 32 := Scalar.muli v740 c128_i32
  let c0_i32_456 : BitVec 32 := 0#32
  let v742 : BitVec 32 := Scalar.addi v741 c0_i32_456
  v742
def k0_cond8 (v705 : BitVec 32) : BitVec 1 :=
  let c1_i32_445 : BitVec 32 := 1#32
  let v721 : BitVec 1 := Scalar.cmpi .eq v705 c1_i32_445
  let v722 : BitVec 32 := Scalar.extui v721
  let c0_i32_446 : BitVec 32 := 0#32
  let v723 : BitVec 1 := Scalar.cmpi .ne v722 c0_i32_446
  v723

def k0_off46 (v740 : BitVec 32) : Fin 2 → Nat :=
  let c0_457 : Index := 0#32
  let c128_i32 : BitVec 32 := 128#32
  let v741 : BitVec 32 := Scalar.muli v740 c128_i32
  let c0_i32_456 : BitVec 32 := 0#32
  let v742 : BitVec 32 := Scalar.addi v741 c0_i32_456
  let v743 : BitVec 32 := v742
  let v744 : Index := Scalar.indexCast v743
  ![0, v744.toNat]

def k0_chk32 (v705 : BitVec 32) (v740 : BitVec 32) : Prop :=
  (∀ (k0_h8 : k0_cond8 v705 = 1#1), 128 ∣ (k0_mult33 v740).toNat) ∧
  (∀ (k0_h8 : k0_cond8 v705 = 1#1), ∀ a, (k0_off46 v740) a + S512x256.size a ≤ S512x1536.size a)
theorem k0_mult33_dvd : ∀ (v705 : BitVec 32) (v740 : BitVec 32) (k0_hw32 : k0_chk32 v705 v740), ∀ (k0_h8 : k0_cond8 v705 = 1#1), 128 ∣ (k0_mult33 v740).toNat := fun v705 v740 k0_hw32 k0_h8 => k0_hw32.1 k0_h8
theorem k0_off46_inb : ∀ (v705 : BitVec 32) (v740 : BitVec 32) (k0_hw32 : k0_chk32 v705 v740), ∀ (k0_h8 : k0_cond8 v705 = 1#1), ∀ a, (k0_off46 v740) a + S512x256.size a ≤ S512x1536.size a := fun v705 v740 k0_hw32 k0_h8 => k0_hw32.2 k0_h8

def k0_off47 (k0_t20 : Fin k0_t20_loop.trips) : Fin 2 → Nat :=
  let c2_458 : Index := 2#32
  let c0_i32_432 : BitVec 32 := 0#32
  let c1_i32_433 : BitVec 32 := 1#32
  let arg15 : BitVec 32 := Scf.iv c0_i32_432 c1_i32_433 k0_t20
  let v746 : Index := Scalar.indexCast arg15
  ![2, v746.toNat]
def k0_mult34 (v747 : BitVec 32) : BitVec 32 :=
  let c0_i32_459 : BitVec 32 := 0#32
  let v748 : BitVec 32 := Scalar.addi v747 c0_i32_459
  let c256_i32 : BitVec 32 := 256#32
  let v749 : BitVec 32 := Scalar.muli v748 c256_i32
  v749

def k0_off48 (v747 : BitVec 32) : Fin 2 → Nat :=
  let c0_i32_459 : BitVec 32 := 0#32
  let v748 : BitVec 32 := Scalar.addi v747 c0_i32_459
  let c256_i32 : BitVec 32 := 256#32
  let v749 : BitVec 32 := Scalar.muli v748 c256_i32
  let v750 : BitVec 32 := v749
  let v751 : Index := Scalar.indexCast v750
  let c0_460 : Index := 0#32
  ![v751.toNat, 0]

def k0_chk33 (v705 : BitVec 32) (v747 : BitVec 32) : Prop :=
  (∀ (k0_h8 : k0_cond8 v705 = 1#1), 256 ∣ (k0_mult34 v747).toNat) ∧
  (∀ (k0_h8 : k0_cond8 v705 = 1#1), ∀ a, (k0_off48 v747) a + S256x1536.size a ≤ S2816x1536.size a)
theorem k0_mult34_dvd : ∀ (v705 : BitVec 32) (v747 : BitVec 32) (k0_hw33 : k0_chk33 v705 v747), ∀ (k0_h8 : k0_cond8 v705 = 1#1), 256 ∣ (k0_mult34 v747).toNat := fun v705 v747 k0_hw33 k0_h8 => k0_hw33.1 k0_h8
theorem k0_off48_inb : ∀ (v705 : BitVec 32) (v747 : BitVec 32) (k0_hw33 : k0_chk33 v705 v747), ∀ (k0_h8 : k0_cond8 v705 = 1#1), ∀ a, (k0_off48 v747) a + S256x1536.size a ≤ S2816x1536.size a := fun v705 v747 k0_hw33 k0_h8 => k0_hw33.2 k0_h8

def k0_off49 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v756 : Index := Scalar.indexCast v715
  let c0_462 : Index := 0#32
  let c0_463 : Index := 0#32
  ![v756.toNat, 0, 0]
def k0_off50 (k0_t20 : Fin k0_t20_loop.trips) : Fin 2 → Nat :=
  let c1_455 : Index := 1#32
  let c0_i32_432 : BitVec 32 := 0#32
  let c1_i32_433 : BitVec 32 := 1#32
  let arg15 : BitVec 32 := Scf.iv c0_i32_432 c1_i32_433 k0_t20
  let v739 : Index := Scalar.indexCast arg15
  ![1, v739.toNat]
def k0_mult35 (v740 : BitVec 32) : BitVec 32 :=
  let c128_i32 : BitVec 32 := 128#32
  let v741 : BitVec 32 := Scalar.muli v740 c128_i32
  let c0_i32_456 : BitVec 32 := 0#32
  let v742 : BitVec 32 := Scalar.addi v741 c0_i32_456
  v742
def k0_cond9 (v705 : BitVec 32) : BitVec 1 :=
  let c2_i32_447 : BitVec 32 := 2#32
  let v724 : BitVec 1 := Scalar.cmpi .eq v705 c2_i32_447
  let v725 : BitVec 32 := Scalar.extui v724
  let c0_i32_448 : BitVec 32 := 0#32
  let v726 : BitVec 1 := Scalar.cmpi .ne v725 c0_i32_448
  v726

def k0_off51 (v740 : BitVec 32) : Fin 2 → Nat :=
  let c0_457 : Index := 0#32
  let c128_i32 : BitVec 32 := 128#32
  let v741 : BitVec 32 := Scalar.muli v740 c128_i32
  let c0_i32_456 : BitVec 32 := 0#32
  let v742 : BitVec 32 := Scalar.addi v741 c0_i32_456
  let v743 : BitVec 32 := v742
  let v744 : Index := Scalar.indexCast v743
  ![0, v744.toNat]

def k0_chk34 (v705 : BitVec 32) (v740 : BitVec 32) : Prop :=
  (∀ (k0_h9 : k0_cond9 v705 = 1#1), 128 ∣ (k0_mult35 v740).toNat) ∧
  (∀ (k0_h9 : k0_cond9 v705 = 1#1), ∀ a, (k0_off51 v740) a + S512x512.size a ≤ S512x1536.size a)
theorem k0_mult35_dvd : ∀ (v705 : BitVec 32) (v740 : BitVec 32) (k0_hw34 : k0_chk34 v705 v740), ∀ (k0_h9 : k0_cond9 v705 = 1#1), 128 ∣ (k0_mult35 v740).toNat := fun v705 v740 k0_hw34 k0_h9 => k0_hw34.1 k0_h9
theorem k0_off51_inb : ∀ (v705 : BitVec 32) (v740 : BitVec 32) (k0_hw34 : k0_chk34 v705 v740), ∀ (k0_h9 : k0_cond9 v705 = 1#1), ∀ a, (k0_off51 v740) a + S512x512.size a ≤ S512x1536.size a := fun v705 v740 k0_hw34 k0_h9 => k0_hw34.2 k0_h9

def k0_off52 (k0_t20 : Fin k0_t20_loop.trips) : Fin 2 → Nat :=
  let c2_458 : Index := 2#32
  let c0_i32_432 : BitVec 32 := 0#32
  let c1_i32_433 : BitVec 32 := 1#32
  let arg15 : BitVec 32 := Scf.iv c0_i32_432 c1_i32_433 k0_t20
  let v746 : Index := Scalar.indexCast arg15
  ![2, v746.toNat]
def k0_mult36 (v747 : BitVec 32) : BitVec 32 :=
  let c0_i32_459 : BitVec 32 := 0#32
  let v748 : BitVec 32 := Scalar.addi v747 c0_i32_459
  let c256_i32 : BitVec 32 := 256#32
  let v749 : BitVec 32 := Scalar.muli v748 c256_i32
  v749

def k0_off53 (v747 : BitVec 32) : Fin 2 → Nat :=
  let c0_i32_459 : BitVec 32 := 0#32
  let v748 : BitVec 32 := Scalar.addi v747 c0_i32_459
  let c256_i32 : BitVec 32 := 256#32
  let v749 : BitVec 32 := Scalar.muli v748 c256_i32
  let v750 : BitVec 32 := v749
  let v751 : Index := Scalar.indexCast v750
  let c0_460 : Index := 0#32
  ![v751.toNat, 0]

def k0_chk35 (v705 : BitVec 32) (v747 : BitVec 32) : Prop :=
  (∀ (k0_h9 : k0_cond9 v705 = 1#1), 256 ∣ (k0_mult36 v747).toNat) ∧
  (∀ (k0_h9 : k0_cond9 v705 = 1#1), ∀ a, (k0_off53 v747) a + S512x1536.size a ≤ S2816x1536.size a)
theorem k0_mult36_dvd : ∀ (v705 : BitVec 32) (v747 : BitVec 32) (k0_hw35 : k0_chk35 v705 v747), ∀ (k0_h9 : k0_cond9 v705 = 1#1), 256 ∣ (k0_mult36 v747).toNat := fun v705 v747 k0_hw35 k0_h9 => k0_hw35.1 k0_h9
theorem k0_off53_inb : ∀ (v705 : BitVec 32) (v747 : BitVec 32) (k0_hw35 : k0_chk35 v705 v747), ∀ (k0_h9 : k0_cond9 v705 = 1#1), ∀ a, (k0_off53 v747) a + S512x1536.size a ≤ S2816x1536.size a := fun v705 v747 k0_hw35 k0_h9 => k0_hw35.2 k0_h9

def k0_off54 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v756 : Index := Scalar.indexCast v715
  let c0_462 : Index := 0#32
  let c0_463 : Index := 0#32
  ![v756.toNat, 0, 0]
def k0_off55 (k0_t20 : Fin k0_t20_loop.trips) : Fin 2 → Nat :=
  let c1_455 : Index := 1#32
  let c0_i32_432 : BitVec 32 := 0#32
  let c1_i32_433 : BitVec 32 := 1#32
  let arg15 : BitVec 32 := Scf.iv c0_i32_432 c1_i32_433 k0_t20
  let v739 : Index := Scalar.indexCast arg15
  ![1, v739.toNat]
def k0_mult37 (v740 : BitVec 32) : BitVec 32 :=
  let c128_i32 : BitVec 32 := 128#32
  let v741 : BitVec 32 := Scalar.muli v740 c128_i32
  let c0_i32_456 : BitVec 32 := 0#32
  let v742 : BitVec 32 := Scalar.addi v741 c0_i32_456
  v742
def k0_cond10 (v705 : BitVec 32) : BitVec 1 :=
  let c3_i32 : BitVec 32 := 3#32
  let v727 : BitVec 1 := Scalar.cmpi .eq v705 c3_i32
  let v728 : BitVec 32 := Scalar.extui v727
  let c0_i32_449 : BitVec 32 := 0#32
  let v729 : BitVec 1 := Scalar.cmpi .ne v728 c0_i32_449
  v729

def k0_off56 (v740 : BitVec 32) : Fin 2 → Nat :=
  let c0_457 : Index := 0#32
  let c128_i32 : BitVec 32 := 128#32
  let v741 : BitVec 32 := Scalar.muli v740 c128_i32
  let c0_i32_456 : BitVec 32 := 0#32
  let v742 : BitVec 32 := Scalar.addi v741 c0_i32_456
  let v743 : BitVec 32 := v742
  let v744 : Index := Scalar.indexCast v743
  ![0, v744.toNat]

def k0_chk36 (v705 : BitVec 32) (v740 : BitVec 32) : Prop :=
  (∀ (k0_h10 : k0_cond10 v705 = 1#1), 128 ∣ (k0_mult37 v740).toNat) ∧
  (∀ (k0_h10 : k0_cond10 v705 = 1#1), ∀ a, (k0_off56 v740) a + S512x768.size a ≤ S512x1536.size a)
theorem k0_mult37_dvd : ∀ (v705 : BitVec 32) (v740 : BitVec 32) (k0_hw36 : k0_chk36 v705 v740), ∀ (k0_h10 : k0_cond10 v705 = 1#1), 128 ∣ (k0_mult37 v740).toNat := fun v705 v740 k0_hw36 k0_h10 => k0_hw36.1 k0_h10
theorem k0_off56_inb : ∀ (v705 : BitVec 32) (v740 : BitVec 32) (k0_hw36 : k0_chk36 v705 v740), ∀ (k0_h10 : k0_cond10 v705 = 1#1), ∀ a, (k0_off56 v740) a + S512x768.size a ≤ S512x1536.size a := fun v705 v740 k0_hw36 k0_h10 => k0_hw36.2 k0_h10

def k0_off57 (k0_t20 : Fin k0_t20_loop.trips) : Fin 2 → Nat :=
  let c2_458 : Index := 2#32
  let c0_i32_432 : BitVec 32 := 0#32
  let c1_i32_433 : BitVec 32 := 1#32
  let arg15 : BitVec 32 := Scf.iv c0_i32_432 c1_i32_433 k0_t20
  let v746 : Index := Scalar.indexCast arg15
  ![2, v746.toNat]
def k0_mult38 (v747 : BitVec 32) : BitVec 32 :=
  let c0_i32_459 : BitVec 32 := 0#32
  let v748 : BitVec 32 := Scalar.addi v747 c0_i32_459
  let c256_i32 : BitVec 32 := 256#32
  let v749 : BitVec 32 := Scalar.muli v748 c256_i32
  v749

def k0_off58 (v747 : BitVec 32) : Fin 2 → Nat :=
  let c0_i32_459 : BitVec 32 := 0#32
  let v748 : BitVec 32 := Scalar.addi v747 c0_i32_459
  let c256_i32 : BitVec 32 := 256#32
  let v749 : BitVec 32 := Scalar.muli v748 c256_i32
  let v750 : BitVec 32 := v749
  let v751 : Index := Scalar.indexCast v750
  let c0_460 : Index := 0#32
  ![v751.toNat, 0]

def k0_chk37 (v705 : BitVec 32) (v747 : BitVec 32) : Prop :=
  (∀ (k0_h10 : k0_cond10 v705 = 1#1), 256 ∣ (k0_mult38 v747).toNat) ∧
  (∀ (k0_h10 : k0_cond10 v705 = 1#1), ∀ a, (k0_off58 v747) a + S768x1536.size a ≤ S2816x1536.size a)
theorem k0_mult38_dvd : ∀ (v705 : BitVec 32) (v747 : BitVec 32) (k0_hw37 : k0_chk37 v705 v747), ∀ (k0_h10 : k0_cond10 v705 = 1#1), 256 ∣ (k0_mult38 v747).toNat := fun v705 v747 k0_hw37 k0_h10 => k0_hw37.1 k0_h10
theorem k0_off58_inb : ∀ (v705 : BitVec 32) (v747 : BitVec 32) (k0_hw37 : k0_chk37 v705 v747), ∀ (k0_h10 : k0_cond10 v705 = 1#1), ∀ a, (k0_off58 v747) a + S768x1536.size a ≤ S2816x1536.size a := fun v705 v747 k0_hw37 k0_h10 => k0_hw37.2 k0_h10

def k0_off59 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v756 : Index := Scalar.indexCast v715
  let c0_462 : Index := 0#32
  let c0_463 : Index := 0#32
  ![v756.toNat, 0, 0]
def k0_off60 (k0_t20 : Fin k0_t20_loop.trips) : Fin 2 → Nat :=
  let c1_455 : Index := 1#32
  let c0_i32_432 : BitVec 32 := 0#32
  let c1_i32_433 : BitVec 32 := 1#32
  let arg15 : BitVec 32 := Scf.iv c0_i32_432 c1_i32_433 k0_t20
  let v739 : Index := Scalar.indexCast arg15
  ![1, v739.toNat]
def k0_mult39 (v740 : BitVec 32) : BitVec 32 :=
  let c128_i32 : BitVec 32 := 128#32
  let v741 : BitVec 32 := Scalar.muli v740 c128_i32
  let c0_i32_456 : BitVec 32 := 0#32
  let v742 : BitVec 32 := Scalar.addi v741 c0_i32_456
  v742
def k0_cond11 (v705 : BitVec 32) : BitVec 1 :=
  let c3_i32_450 : BitVec 32 := 3#32
  let v730 : BitVec 1 := Scalar.cmpi .sgt v705 c3_i32_450
  let v731 : BitVec 32 := Scalar.extui v730
  let c0_i32_451 : BitVec 32 := 0#32
  let v732 : BitVec 1 := Scalar.cmpi .ne v731 c0_i32_451
  v732

def k0_off61 (v740 : BitVec 32) : Fin 2 → Nat :=
  let c0_457 : Index := 0#32
  let c128_i32 : BitVec 32 := 128#32
  let v741 : BitVec 32 := Scalar.muli v740 c128_i32
  let c0_i32_456 : BitVec 32 := 0#32
  let v742 : BitVec 32 := Scalar.addi v741 c0_i32_456
  let v743 : BitVec 32 := v742
  let v744 : Index := Scalar.indexCast v743
  ![0, v744.toNat]

def k0_chk38 (v705 : BitVec 32) (v740 : BitVec 32) : Prop :=
  (∀ (k0_h11 : k0_cond11 v705 = 1#1), 128 ∣ (k0_mult39 v740).toNat) ∧
  (∀ (k0_h11 : k0_cond11 v705 = 1#1), ∀ a, (k0_off61 v740) a + S512x768.size a ≤ S512x1536.size a)
theorem k0_mult39_dvd : ∀ (v705 : BitVec 32) (v740 : BitVec 32) (k0_hw38 : k0_chk38 v705 v740), ∀ (k0_h11 : k0_cond11 v705 = 1#1), 128 ∣ (k0_mult39 v740).toNat := fun v705 v740 k0_hw38 k0_h11 => k0_hw38.1 k0_h11
theorem k0_off61_inb : ∀ (v705 : BitVec 32) (v740 : BitVec 32) (k0_hw38 : k0_chk38 v705 v740), ∀ (k0_h11 : k0_cond11 v705 = 1#1), ∀ a, (k0_off61 v740) a + S512x768.size a ≤ S512x1536.size a := fun v705 v740 k0_hw38 k0_h11 => k0_hw38.2 k0_h11

def k0_off62 (k0_t20 : Fin k0_t20_loop.trips) : Fin 2 → Nat :=
  let c2_458 : Index := 2#32
  let c0_i32_432 : BitVec 32 := 0#32
  let c1_i32_433 : BitVec 32 := 1#32
  let arg15 : BitVec 32 := Scf.iv c0_i32_432 c1_i32_433 k0_t20
  let v746 : Index := Scalar.indexCast arg15
  ![2, v746.toNat]
def k0_mult40 (v747 : BitVec 32) : BitVec 32 :=
  let c0_i32_459 : BitVec 32 := 0#32
  let v748 : BitVec 32 := Scalar.addi v747 c0_i32_459
  let c256_i32 : BitVec 32 := 256#32
  let v749 : BitVec 32 := Scalar.muli v748 c256_i32
  v749

def k0_off63 (v747 : BitVec 32) : Fin 2 → Nat :=
  let c0_i32_459 : BitVec 32 := 0#32
  let v748 : BitVec 32 := Scalar.addi v747 c0_i32_459
  let c256_i32 : BitVec 32 := 256#32
  let v749 : BitVec 32 := Scalar.muli v748 c256_i32
  let v750 : BitVec 32 := v749
  let v751 : Index := Scalar.indexCast v750
  let c0_460 : Index := 0#32
  ![v751.toNat, 0]

def k0_chk39 (v705 : BitVec 32) (v747 : BitVec 32) : Prop :=
  (∀ (k0_h11 : k0_cond11 v705 = 1#1), 256 ∣ (k0_mult40 v747).toNat) ∧
  (∀ (k0_h11 : k0_cond11 v705 = 1#1), ∀ a, (k0_off63 v747) a + S768x1536.size a ≤ S2816x1536.size a)
theorem k0_mult40_dvd : ∀ (v705 : BitVec 32) (v747 : BitVec 32) (k0_hw39 : k0_chk39 v705 v747), ∀ (k0_h11 : k0_cond11 v705 = 1#1), 256 ∣ (k0_mult40 v747).toNat := fun v705 v747 k0_hw39 k0_h11 => k0_hw39.1 k0_h11
theorem k0_off63_inb : ∀ (v705 : BitVec 32) (v747 : BitVec 32) (k0_hw39 : k0_chk39 v705 v747), ∀ (k0_h11 : k0_cond11 v705 = 1#1), ∀ a, (k0_off63 v747) a + S768x1536.size a ≤ S2816x1536.size a := fun v705 v747 k0_hw39 k0_h11 => k0_hw39.2 k0_h11

def k0_off64 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v754 : Index := Scalar.indexCast v715
  let c0_462 : Index := 0#32
  let c0_463 : Index := 0#32
  ![v754.toNat, 0, 0]
@[reducible] def k0_t21_loop (v705 : BitVec 32) : Scf.Loop 32 :=
  let c0_i32_470 : BitVec 32 := 0#32
  let c3_i32_464 : BitVec 32 := 3#32
  let v758 : BitVec 32 := Scalar.subi v705 c3_i32_464
  let c1_i32_465 : BitVec 32 := 1#32
  let c1_i32_466 : BitVec 32 := 1#32
  let v759 : BitVec 32 := Scalar.subi c1_i32_465 c1_i32_466
  let v760 : BitVec 32 := Scalar.addi v758 v759
  let c1_i32_467 : BitVec 32 := 1#32
  let v761 : BitVec 32 := Scalar.divsi v760 c1_i32_467
  let v762 : BitVec 32 := Scalar.subi v761 c0_i32_470
  let c1_i32_471 : BitVec 32 := 1#32
  let v764 : BitVec 32 := Scalar.divsi v762 c1_i32_471
  let v765 : BitVec 32 := Scalar.muli v764 c1_i32_471
  let v766 : BitVec 32 := Scalar.addi c0_i32_470 v765
  let c1_i32_472 : BitVec 32 := 1#32
  ⟨c0_i32_470, v766, c1_i32_472⟩
def k0_off65 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v778 : Index := Scalar.indexCast v715
  let c0_478 : Index := 0#32
  let c0_479 : Index := 0#32
  ![v778.toNat, 0, 0]
def k0_off66 (k0_t20 : Fin k0_t20_loop.trips) : Fin 2 → Nat :=
  let c1_480 : Index := 1#32
  let c0_i32_432 : BitVec 32 := 0#32
  let c1_i32_433 : BitVec 32 := 1#32
  let arg15 : BitVec 32 := Scf.iv c0_i32_432 c1_i32_433 k0_t20
  let v781 : Index := Scalar.indexCast arg15
  ![1, v781.toNat]
def k0_mult41 (v705 : BitVec 32) (k0_t21 : Fin (k0_t21_loop v705).trips) (v782 : BitVec 32) : BitVec 32 :=
  let c128_i32_481 : BitVec 32 := 128#32
  let v783 : BitVec 32 := Scalar.muli v782 c128_i32_481
  let c3_i32_469 : BitVec 32 := 3#32
  let c0_i32_470 : BitVec 32 := 0#32
  let c1_i32_472 : BitVec 32 := 1#32
  let arg17 : BitVec 32 := Scf.iv c0_i32_470 c1_i32_472 k0_t21
  let c1_i32_468 : BitVec 32 := 1#32
  let v776 : BitVec 32 := Scalar.muli arg17 c1_i32_468
  let v777 : BitVec 32 := Scalar.addi c3_i32_469 v776
  let c256_i32_482 : BitVec 32 := 256#32
  let v784 : BitVec 32 := Scalar.muli v777 c256_i32_482
  let v785 : BitVec 32 := Scalar.addi v783 v784
  v785

def k0_off67 (v705 : BitVec 32) (k0_t21 : Fin (k0_t21_loop v705).trips) (v782 : BitVec 32) : Fin 2 → Nat :=
  let c0_483 : Index := 0#32
  let c128_i32_481 : BitVec 32 := 128#32
  let v783 : BitVec 32 := Scalar.muli v782 c128_i32_481
  let c3_i32_469 : BitVec 32 := 3#32
  let c0_i32_470 : BitVec 32 := 0#32
  let c1_i32_472 : BitVec 32 := 1#32
  let arg17 : BitVec 32 := Scf.iv c0_i32_470 c1_i32_472 k0_t21
  let c1_i32_468 : BitVec 32 := 1#32
  let v776 : BitVec 32 := Scalar.muli arg17 c1_i32_468
  let v777 : BitVec 32 := Scalar.addi c3_i32_469 v776
  let c256_i32_482 : BitVec 32 := 256#32
  let v784 : BitVec 32 := Scalar.muli v777 c256_i32_482
  let v785 : BitVec 32 := Scalar.addi v783 v784
  let v786 : BitVec 32 := v785
  let v787 : Index := Scalar.indexCast v786
  ![0, v787.toNat]

def k0_chk40 (v705 : BitVec 32) (k0_t21 : Fin (k0_t21_loop v705).trips) (v782 : BitVec 32) : Prop :=
  (∀ (k0_h11 : k0_cond11 v705 = 1#1), 128 ∣ (k0_mult41 v705 k0_t21 v782).toNat) ∧
  (∀ (k0_h11 : k0_cond11 v705 = 1#1), ∀ a, (k0_off67 v705 k0_t21 v782) a + S512x256.size a ≤ S512x1536.size a)
theorem k0_mult41_dvd : ∀ (v705 : BitVec 32) (k0_t21 : Fin (k0_t21_loop v705).trips) (v782 : BitVec 32) (k0_hw40 : k0_chk40 v705 k0_t21 v782), ∀ (k0_h11 : k0_cond11 v705 = 1#1), 128 ∣ (k0_mult41 v705 k0_t21 v782).toNat := fun v705 k0_t21 v782 k0_hw40 k0_h11 => k0_hw40.1 k0_h11
theorem k0_off67_inb : ∀ (v705 : BitVec 32) (k0_t21 : Fin (k0_t21_loop v705).trips) (v782 : BitVec 32) (k0_hw40 : k0_chk40 v705 k0_t21 v782), ∀ (k0_h11 : k0_cond11 v705 = 1#1), ∀ a, (k0_off67 v705 k0_t21 v782) a + S512x256.size a ≤ S512x1536.size a := fun v705 k0_t21 v782 k0_hw40 k0_h11 => k0_hw40.2 k0_h11

def k0_off68 (k0_t20 : Fin k0_t20_loop.trips) : Fin 2 → Nat :=
  let c2_484 : Index := 2#32
  let c0_i32_432 : BitVec 32 := 0#32
  let c1_i32_433 : BitVec 32 := 1#32
  let arg15 : BitVec 32 := Scf.iv c0_i32_432 c1_i32_433 k0_t20
  let v789 : Index := Scalar.indexCast arg15
  ![2, v789.toNat]
def k0_mult42 (v705 : BitVec 32) (k0_t21 : Fin (k0_t21_loop v705).trips) (v790 : BitVec 32) : BitVec 32 :=
  let c3_i32_469 : BitVec 32 := 3#32
  let c0_i32_470 : BitVec 32 := 0#32
  let c1_i32_472 : BitVec 32 := 1#32
  let arg17 : BitVec 32 := Scf.iv c0_i32_470 c1_i32_472 k0_t21
  let c1_i32_468 : BitVec 32 := 1#32
  let v776 : BitVec 32 := Scalar.muli arg17 c1_i32_468
  let v777 : BitVec 32 := Scalar.addi c3_i32_469 v776
  let v791 : BitVec 32 := Scalar.addi v790 v777
  let c256_i32_485 : BitVec 32 := 256#32
  let v792 : BitVec 32 := Scalar.muli v791 c256_i32_485
  v792

def k0_off69 (v705 : BitVec 32) (k0_t21 : Fin (k0_t21_loop v705).trips) (v790 : BitVec 32) : Fin 2 → Nat :=
  let c3_i32_469 : BitVec 32 := 3#32
  let c0_i32_470 : BitVec 32 := 0#32
  let c1_i32_472 : BitVec 32 := 1#32
  let arg17 : BitVec 32 := Scf.iv c0_i32_470 c1_i32_472 k0_t21
  let c1_i32_468 : BitVec 32 := 1#32
  let v776 : BitVec 32 := Scalar.muli arg17 c1_i32_468
  let v777 : BitVec 32 := Scalar.addi c3_i32_469 v776
  let v791 : BitVec 32 := Scalar.addi v790 v777
  let c256_i32_485 : BitVec 32 := 256#32
  let v792 : BitVec 32 := Scalar.muli v791 c256_i32_485
  let v793 : BitVec 32 := v792
  let v794 : Index := Scalar.indexCast v793
  let c0_486 : Index := 0#32
  ![v794.toNat, 0]

def k0_chk41 (v705 : BitVec 32) (k0_t21 : Fin (k0_t21_loop v705).trips) (v790 : BitVec 32) : Prop :=
  (∀ (k0_h11 : k0_cond11 v705 = 1#1), 256 ∣ (k0_mult42 v705 k0_t21 v790).toNat) ∧
  (∀ (k0_h11 : k0_cond11 v705 = 1#1), ∀ a, (k0_off69 v705 k0_t21 v790) a + S256x1536.size a ≤ S2816x1536.size a)
theorem k0_mult42_dvd : ∀ (v705 : BitVec 32) (k0_t21 : Fin (k0_t21_loop v705).trips) (v790 : BitVec 32) (k0_hw41 : k0_chk41 v705 k0_t21 v790), ∀ (k0_h11 : k0_cond11 v705 = 1#1), 256 ∣ (k0_mult42 v705 k0_t21 v790).toNat := fun v705 k0_t21 v790 k0_hw41 k0_h11 => k0_hw41.1 k0_h11
theorem k0_off69_inb : ∀ (v705 : BitVec 32) (k0_t21 : Fin (k0_t21_loop v705).trips) (v790 : BitVec 32) (k0_hw41 : k0_chk41 v705 k0_t21 v790), ∀ (k0_h11 : k0_cond11 v705 = 1#1), ∀ a, (k0_off69 v705 k0_t21 v790) a + S256x1536.size a ≤ S2816x1536.size a := fun v705 k0_t21 v790 k0_hw41 k0_h11 => k0_hw41.2 k0_h11

def k0_off70 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v798 : Index := Scalar.indexCast v715
  let c0_488 : Index := 0#32
  let c0_489 : Index := 0#32
  ![v798.toNat, 0, 0]
@[reducible] def k0_t22_loop (v705 : BitVec 32) : Scf.Loop 32 :=
  let c0_i32_470 : BitVec 32 := 0#32
  let c3_i32_464 : BitVec 32 := 3#32
  let v758 : BitVec 32 := Scalar.subi v705 c3_i32_464
  let c1_i32_465 : BitVec 32 := 1#32
  let c1_i32_466 : BitVec 32 := 1#32
  let v759 : BitVec 32 := Scalar.subi c1_i32_465 c1_i32_466
  let v760 : BitVec 32 := Scalar.addi v758 v759
  let c1_i32_467 : BitVec 32 := 1#32
  let v761 : BitVec 32 := Scalar.divsi v760 c1_i32_467
  let v762 : BitVec 32 := Scalar.subi v761 c0_i32_470
  let c1_i32_471 : BitVec 32 := 1#32
  let v764 : BitVec 32 := Scalar.divsi v762 c1_i32_471
  let v765 : BitVec 32 := Scalar.muli v764 c1_i32_471
  let v766 : BitVec 32 := Scalar.addi c0_i32_470 v765
  let v763 : BitVec 32 := Scalar.addi c0_i32_470 v762
  let c1_i32_473 : BitVec 32 := 1#32
  ⟨v766, v763, c1_i32_473⟩
def k0_off71 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v778 : Index := Scalar.indexCast v715
  let c0_478 : Index := 0#32
  let c0_479 : Index := 0#32
  ![v778.toNat, 0, 0]
def k0_off72 (k0_t20 : Fin k0_t20_loop.trips) : Fin 2 → Nat :=
  let c1_480 : Index := 1#32
  let c0_i32_432 : BitVec 32 := 0#32
  let c1_i32_433 : BitVec 32 := 1#32
  let arg15 : BitVec 32 := Scf.iv c0_i32_432 c1_i32_433 k0_t20
  let v781 : Index := Scalar.indexCast arg15
  ![1, v781.toNat]
def k0_mult43 (v705 : BitVec 32) (k0_t22 : Fin (k0_t22_loop v705).trips) (v782 : BitVec 32) : BitVec 32 :=
  let c128_i32_481 : BitVec 32 := 128#32
  let v783 : BitVec 32 := Scalar.muli v782 c128_i32_481
  let c3_i32_469 : BitVec 32 := 3#32
  let c0_i32_470 : BitVec 32 := 0#32
  let c3_i32_464 : BitVec 32 := 3#32
  let v758 : BitVec 32 := Scalar.subi v705 c3_i32_464
  let c1_i32_465 : BitVec 32 := 1#32
  let c1_i32_466 : BitVec 32 := 1#32
  let v759 : BitVec 32 := Scalar.subi c1_i32_465 c1_i32_466
  let v760 : BitVec 32 := Scalar.addi v758 v759
  let c1_i32_467 : BitVec 32 := 1#32
  let v761 : BitVec 32 := Scalar.divsi v760 c1_i32_467
  let v762 : BitVec 32 := Scalar.subi v761 c0_i32_470
  let c1_i32_471 : BitVec 32 := 1#32
  let v764 : BitVec 32 := Scalar.divsi v762 c1_i32_471
  let v765 : BitVec 32 := Scalar.muli v764 c1_i32_471
  let v766 : BitVec 32 := Scalar.addi c0_i32_470 v765
  let c1_i32_473 : BitVec 32 := 1#32
  let arg17 : BitVec 32 := Scf.iv v766 c1_i32_473 k0_t22
  let c1_i32_468 : BitVec 32 := 1#32
  let v776 : BitVec 32 := Scalar.muli arg17 c1_i32_468
  let v777 : BitVec 32 := Scalar.addi c3_i32_469 v776
  let c256_i32_482 : BitVec 32 := 256#32
  let v784 : BitVec 32 := Scalar.muli v777 c256_i32_482
  let v785 : BitVec 32 := Scalar.addi v783 v784
  v785

def k0_off73 (v705 : BitVec 32) (k0_t22 : Fin (k0_t22_loop v705).trips) (v782 : BitVec 32) : Fin 2 → Nat :=
  let c0_483 : Index := 0#32
  let c128_i32_481 : BitVec 32 := 128#32
  let v783 : BitVec 32 := Scalar.muli v782 c128_i32_481
  let c3_i32_469 : BitVec 32 := 3#32
  let c0_i32_470 : BitVec 32 := 0#32
  let c3_i32_464 : BitVec 32 := 3#32
  let v758 : BitVec 32 := Scalar.subi v705 c3_i32_464
  let c1_i32_465 : BitVec 32 := 1#32
  let c1_i32_466 : BitVec 32 := 1#32
  let v759 : BitVec 32 := Scalar.subi c1_i32_465 c1_i32_466
  let v760 : BitVec 32 := Scalar.addi v758 v759
  let c1_i32_467 : BitVec 32 := 1#32
  let v761 : BitVec 32 := Scalar.divsi v760 c1_i32_467
  let v762 : BitVec 32 := Scalar.subi v761 c0_i32_470
  let c1_i32_471 : BitVec 32 := 1#32
  let v764 : BitVec 32 := Scalar.divsi v762 c1_i32_471
  let v765 : BitVec 32 := Scalar.muli v764 c1_i32_471
  let v766 : BitVec 32 := Scalar.addi c0_i32_470 v765
  let c1_i32_473 : BitVec 32 := 1#32
  let arg17 : BitVec 32 := Scf.iv v766 c1_i32_473 k0_t22
  let c1_i32_468 : BitVec 32 := 1#32
  let v776 : BitVec 32 := Scalar.muli arg17 c1_i32_468
  let v777 : BitVec 32 := Scalar.addi c3_i32_469 v776
  let c256_i32_482 : BitVec 32 := 256#32
  let v784 : BitVec 32 := Scalar.muli v777 c256_i32_482
  let v785 : BitVec 32 := Scalar.addi v783 v784
  let v786 : BitVec 32 := v785
  let v787 : Index := Scalar.indexCast v786
  ![0, v787.toNat]

def k0_chk42 (v705 : BitVec 32) (k0_t22 : Fin (k0_t22_loop v705).trips) (v782 : BitVec 32) : Prop :=
  (∀ (k0_h11 : k0_cond11 v705 = 1#1), 128 ∣ (k0_mult43 v705 k0_t22 v782).toNat) ∧
  (∀ (k0_h11 : k0_cond11 v705 = 1#1), ∀ a, (k0_off73 v705 k0_t22 v782) a + S512x256.size a ≤ S512x1536.size a)
theorem k0_mult43_dvd : ∀ (v705 : BitVec 32) (k0_t22 : Fin (k0_t22_loop v705).trips) (v782 : BitVec 32) (k0_hw42 : k0_chk42 v705 k0_t22 v782), ∀ (k0_h11 : k0_cond11 v705 = 1#1), 128 ∣ (k0_mult43 v705 k0_t22 v782).toNat := fun v705 k0_t22 v782 k0_hw42 k0_h11 => k0_hw42.1 k0_h11
theorem k0_off73_inb : ∀ (v705 : BitVec 32) (k0_t22 : Fin (k0_t22_loop v705).trips) (v782 : BitVec 32) (k0_hw42 : k0_chk42 v705 k0_t22 v782), ∀ (k0_h11 : k0_cond11 v705 = 1#1), ∀ a, (k0_off73 v705 k0_t22 v782) a + S512x256.size a ≤ S512x1536.size a := fun v705 k0_t22 v782 k0_hw42 k0_h11 => k0_hw42.2 k0_h11

def k0_off74 (k0_t20 : Fin k0_t20_loop.trips) : Fin 2 → Nat :=
  let c2_484 : Index := 2#32
  let c0_i32_432 : BitVec 32 := 0#32
  let c1_i32_433 : BitVec 32 := 1#32
  let arg15 : BitVec 32 := Scf.iv c0_i32_432 c1_i32_433 k0_t20
  let v789 : Index := Scalar.indexCast arg15
  ![2, v789.toNat]
def k0_mult44 (v705 : BitVec 32) (k0_t22 : Fin (k0_t22_loop v705).trips) (v790 : BitVec 32) : BitVec 32 :=
  let c3_i32_469 : BitVec 32 := 3#32
  let c0_i32_470 : BitVec 32 := 0#32
  let c3_i32_464 : BitVec 32 := 3#32
  let v758 : BitVec 32 := Scalar.subi v705 c3_i32_464
  let c1_i32_465 : BitVec 32 := 1#32
  let c1_i32_466 : BitVec 32 := 1#32
  let v759 : BitVec 32 := Scalar.subi c1_i32_465 c1_i32_466
  let v760 : BitVec 32 := Scalar.addi v758 v759
  let c1_i32_467 : BitVec 32 := 1#32
  let v761 : BitVec 32 := Scalar.divsi v760 c1_i32_467
  let v762 : BitVec 32 := Scalar.subi v761 c0_i32_470
  let c1_i32_471 : BitVec 32 := 1#32
  let v764 : BitVec 32 := Scalar.divsi v762 c1_i32_471
  let v765 : BitVec 32 := Scalar.muli v764 c1_i32_471
  let v766 : BitVec 32 := Scalar.addi c0_i32_470 v765
  let c1_i32_473 : BitVec 32 := 1#32
  let arg17 : BitVec 32 := Scf.iv v766 c1_i32_473 k0_t22
  let c1_i32_468 : BitVec 32 := 1#32
  let v776 : BitVec 32 := Scalar.muli arg17 c1_i32_468
  let v777 : BitVec 32 := Scalar.addi c3_i32_469 v776
  let v791 : BitVec 32 := Scalar.addi v790 v777
  let c256_i32_485 : BitVec 32 := 256#32
  let v792 : BitVec 32 := Scalar.muli v791 c256_i32_485
  v792

def k0_off75 (v705 : BitVec 32) (k0_t22 : Fin (k0_t22_loop v705).trips) (v790 : BitVec 32) : Fin 2 → Nat :=
  let c3_i32_469 : BitVec 32 := 3#32
  let c0_i32_470 : BitVec 32 := 0#32
  let c3_i32_464 : BitVec 32 := 3#32
  let v758 : BitVec 32 := Scalar.subi v705 c3_i32_464
  let c1_i32_465 : BitVec 32 := 1#32
  let c1_i32_466 : BitVec 32 := 1#32
  let v759 : BitVec 32 := Scalar.subi c1_i32_465 c1_i32_466
  let v760 : BitVec 32 := Scalar.addi v758 v759
  let c1_i32_467 : BitVec 32 := 1#32
  let v761 : BitVec 32 := Scalar.divsi v760 c1_i32_467
  let v762 : BitVec 32 := Scalar.subi v761 c0_i32_470
  let c1_i32_471 : BitVec 32 := 1#32
  let v764 : BitVec 32 := Scalar.divsi v762 c1_i32_471
  let v765 : BitVec 32 := Scalar.muli v764 c1_i32_471
  let v766 : BitVec 32 := Scalar.addi c0_i32_470 v765
  let c1_i32_473 : BitVec 32 := 1#32
  let arg17 : BitVec 32 := Scf.iv v766 c1_i32_473 k0_t22
  let c1_i32_468 : BitVec 32 := 1#32
  let v776 : BitVec 32 := Scalar.muli arg17 c1_i32_468
  let v777 : BitVec 32 := Scalar.addi c3_i32_469 v776
  let v791 : BitVec 32 := Scalar.addi v790 v777
  let c256_i32_485 : BitVec 32 := 256#32
  let v792 : BitVec 32 := Scalar.muli v791 c256_i32_485
  let v793 : BitVec 32 := v792
  let v794 : Index := Scalar.indexCast v793
  let c0_486 : Index := 0#32
  ![v794.toNat, 0]

def k0_chk43 (v705 : BitVec 32) (k0_t22 : Fin (k0_t22_loop v705).trips) (v790 : BitVec 32) : Prop :=
  (∀ (k0_h11 : k0_cond11 v705 = 1#1), 256 ∣ (k0_mult44 v705 k0_t22 v790).toNat) ∧
  (∀ (k0_h11 : k0_cond11 v705 = 1#1), ∀ a, (k0_off75 v705 k0_t22 v790) a + S256x1536.size a ≤ S2816x1536.size a)
theorem k0_mult44_dvd : ∀ (v705 : BitVec 32) (k0_t22 : Fin (k0_t22_loop v705).trips) (v790 : BitVec 32) (k0_hw43 : k0_chk43 v705 k0_t22 v790), ∀ (k0_h11 : k0_cond11 v705 = 1#1), 256 ∣ (k0_mult44 v705 k0_t22 v790).toNat := fun v705 k0_t22 v790 k0_hw43 k0_h11 => k0_hw43.1 k0_h11
theorem k0_off75_inb : ∀ (v705 : BitVec 32) (k0_t22 : Fin (k0_t22_loop v705).trips) (v790 : BitVec 32) (k0_hw43 : k0_chk43 v705 k0_t22 v790), ∀ (k0_h11 : k0_cond11 v705 = 1#1), ∀ a, (k0_off75 v705 k0_t22 v790) a + S256x1536.size a ≤ S2816x1536.size a := fun v705 k0_t22 v790 k0_hw43 k0_h11 => k0_hw43.2 k0_h11

def k0_off76 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let v798 : Index := Scalar.indexCast v715
  let c0_488 : Index := 0#32
  let c0_489 : Index := 0#32
  ![v798.toNat, 0, 0]
def k0_mult45 (k0_t19 : Fin k0_t19_loop.trips) : BitVec 32 :=
  let c0_i32_372 : BitVec 32 := 0#32
  let c1_i32_373 : BitVec 32 := 1#32
  let arg13 : BitVec 32 := Scf.iv c0_i32_372 c1_i32_373 k0_t19
  let c512_i32_455 : BitVec 32 := 512#32
  let v739 : BitVec 32 := Scalar.muli arg13 c512_i32_455
  v739
def k0_off77 (arg16 : BitVec 32) : Fin 1 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  ![v715.toNat]
def k0_cond12 (v705 : BitVec 32) : BitVec 1 :=
  let c0_i32_452 : BitVec 32 := 0#32
  let v733 : BitVec 1 := Scalar.cmpi .sgt v705 c0_i32_452
  let v734 : BitVec 32 := Scalar.extui v733
  let c0_i32_453 : BitVec 32 := 0#32
  let v735 : BitVec 1 := Scalar.cmpi .ne v734 c0_i32_453
  v735

def k0_off78 (k0_t19 : Fin k0_t19_loop.trips) (k0_t20 : Fin k0_t20_loop.trips) : Fin 3 → Nat :=
  let c0_i32_432 : BitVec 32 := 0#32
  let c1_i32_433 : BitVec 32 := 1#32
  let arg15 : BitVec 32 := Scf.iv c0_i32_432 c1_i32_433 k0_t20
  let c0_i32_372 : BitVec 32 := 0#32
  let c1_i32_373 : BitVec 32 := 1#32
  let arg13 : BitVec 32 := Scf.iv c0_i32_372 c1_i32_373 k0_t19
  let c512_i32_455 : BitVec 32 := 512#32
  let v739 : BitVec 32 := Scalar.muli arg13 c512_i32_455
  let v740 : BitVec 32 := v739
  let c0_i32_456 : BitVec 32 := 0#32
  ![arg15.toNat, v740.toNat, 0]
def k0_off79 (arg16 : BitVec 32) : Fin 3 → Nat :=
  let c4_i32_436 : BitVec 32 := 4#32
  let c0_i32_437 : BitVec 32 := 0#32
  let v706 : BitVec 1 := Scalar.cmpi .eq c4_i32_436 c0_i32_437
  let c1_i32_438 : BitVec 32 := 1#32
  let v707 : BitVec 32 := Scalar.select v706 c1_i32_438 c4_i32_436
  let v708 : BitVec 32 := Scalar.remsi arg16 v707
  let c0_i32_440 : BitVec 32 := 0#32
  let v710 : BitVec 1 := Scalar.cmpi .slt v708 c0_i32_440
  let c0_i32_441 : BitVec 32 := 0#32
  let v711 : BitVec 1 := Scalar.cmpi .slt v707 c0_i32_441
  let v712 : BitVec 1 := Scalar.xori v710 v711
  let c0_i32_439 : BitVec 32 := 0#32
  let v709 : BitVec 1 := Scalar.cmpi .ne v708 c0_i32_439
  let v713 : BitVec 1 := Scalar.andi v712 v709
  let v714 : BitVec 32 := Scalar.addi v708 v707
  let v715 : BitVec 32 := Scalar.select v713 v714 v708
  let c0_i32_457 : BitVec 32 := 0#32
  let c0_i32_458 : BitVec 32 := 0#32
  ![v715.toNat, 0, 0]

def k0_chk31 (arg16 : BitVec 32) (v705 : BitVec 32) : Prop :=
  (∀ (k0_h7 : k0_cond7 arg16 v705 = 1#1), ∀ a, (k0_off43 arg16) a + S1.size a ≤ S4.size a) ∧
  (∀ (k0_h7 : k0_cond7 arg16 v705 = 1#1), ∀ a, (k0_off44 arg16) a + S1x512x1536.size a ≤ S4x512x1536.size a) ∧
  (∀ (k0_h8 : k0_cond8 v705 = 1#1), ∀ a, (k0_off49 arg16) a + S1x512x1536.size a ≤ S4x512x1536.size a) ∧
  (∀ (k0_h9 : k0_cond9 v705 = 1#1), ∀ a, (k0_off54 arg16) a + S1x512x1536.size a ≤ S4x512x1536.size a) ∧
  (∀ (k0_h10 : k0_cond10 v705 = 1#1), ∀ a, (k0_off59 arg16) a + S1x512x1536.size a ≤ S4x512x1536.size a) ∧
  (∀ (k0_h11 : k0_cond11 v705 = 1#1), ∀ a, (k0_off64 arg16) a + S1x512x1536.size a ≤ S4x512x1536.size a) ∧
  (∀ (k0_h11 : k0_cond11 v705 = 1#1), (k0_t21_loop v705).OK) ∧
  (∀ k0_t21 : Fin (k0_t21_loop v705).trips, ∀ (k0_h11 : k0_cond11 v705 = 1#1), ∀ a, (k0_off65 arg16) a + S1x512x1536.size a ≤ S4x512x1536.size a) ∧
  (∀ k0_t21 : Fin (k0_t21_loop v705).trips, ∀ (k0_h11 : k0_cond11 v705 = 1#1), ∀ a, (k0_off70 arg16) a + S1x512x1536.size a ≤ S4x512x1536.size a) ∧
  (∀ (k0_h11 : k0_cond11 v705 = 1#1), (k0_t22_loop v705).OK) ∧
  (∀ k0_t22 : Fin (k0_t22_loop v705).trips, ∀ (k0_h11 : k0_cond11 v705 = 1#1), ∀ a, (k0_off71 arg16) a + S1x512x1536.size a ≤ S4x512x1536.size a) ∧
  (∀ k0_t22 : Fin (k0_t22_loop v705).trips, ∀ (k0_h11 : k0_cond11 v705 = 1#1), ∀ a, (k0_off76 arg16) a + S1x512x1536.size a ≤ S4x512x1536.size a) ∧
  (∀ (k0_h12 : k0_cond12 v705 = 1#1), ∀ a, (k0_off77 arg16) a + S1.size a ≤ S4.size a) ∧
  (∀ (k0_h12 : k0_cond12 v705 = 1#1), ∀ a, (k0_off79 arg16) a + S1x512x1536.size a ≤ S4x512x1536.size a)
theorem k0_off43_inb : ∀ (arg16 : BitVec 32) (v705 : BitVec 32) (k0_hw31 : k0_chk31 arg16 v705), ∀ (k0_h7 : k0_cond7 arg16 v705 = 1#1), ∀ a, (k0_off43 arg16) a + S1.size a ≤ S4.size a := fun arg16 v705 k0_hw31 k0_h7 => k0_hw31.1 k0_h7
theorem k0_off44_inb : ∀ (arg16 : BitVec 32) (v705 : BitVec 32) (k0_hw31 : k0_chk31 arg16 v705), ∀ (k0_h7 : k0_cond7 arg16 v705 = 1#1), ∀ a, (k0_off44 arg16) a + S1x512x1536.size a ≤ S4x512x1536.size a := fun arg16 v705 k0_hw31 k0_h7 => k0_hw31.2.1 k0_h7
theorem k0_off49_inb : ∀ (arg16 : BitVec 32) (v705 : BitVec 32) (k0_hw31 : k0_chk31 arg16 v705), ∀ (k0_h8 : k0_cond8 v705 = 1#1), ∀ a, (k0_off49 arg16) a + S1x512x1536.size a ≤ S4x512x1536.size a := fun arg16 v705 k0_hw31 k0_h8 => k0_hw31.2.2.1 k0_h8
theorem k0_off54_inb : ∀ (arg16 : BitVec 32) (v705 : BitVec 32) (k0_hw31 : k0_chk31 arg16 v705), ∀ (k0_h9 : k0_cond9 v705 = 1#1), ∀ a, (k0_off54 arg16) a + S1x512x1536.size a ≤ S4x512x1536.size a := fun arg16 v705 k0_hw31 k0_h9 => k0_hw31.2.2.2.1 k0_h9
theorem k0_off59_inb : ∀ (arg16 : BitVec 32) (v705 : BitVec 32) (k0_hw31 : k0_chk31 arg16 v705), ∀ (k0_h10 : k0_cond10 v705 = 1#1), ∀ a, (k0_off59 arg16) a + S1x512x1536.size a ≤ S4x512x1536.size a := fun arg16 v705 k0_hw31 k0_h10 => k0_hw31.2.2.2.2.1 k0_h10
theorem k0_off64_inb : ∀ (arg16 : BitVec 32) (v705 : BitVec 32) (k0_hw31 : k0_chk31 arg16 v705), ∀ (k0_h11 : k0_cond11 v705 = 1#1), ∀ a, (k0_off64 arg16) a + S1x512x1536.size a ≤ S4x512x1536.size a := fun arg16 v705 k0_hw31 k0_h11 => k0_hw31.2.2.2.2.2.1 k0_h11
theorem k0_t21_ok : ∀ (arg16 : BitVec 32) (v705 : BitVec 32) (k0_hw31 : k0_chk31 arg16 v705), ∀ (k0_h11 : k0_cond11 v705 = 1#1), (k0_t21_loop v705).OK := fun arg16 v705 k0_hw31 k0_h11 => k0_hw31.2.2.2.2.2.2.1 k0_h11
theorem k0_off65_inb : ∀ (arg16 : BitVec 32) (v705 : BitVec 32) (k0_hw31 : k0_chk31 arg16 v705) (k0_t21 : Fin (k0_t21_loop v705).trips), ∀ (k0_h11 : k0_cond11 v705 = 1#1), ∀ a, (k0_off65 arg16) a + S1x512x1536.size a ≤ S4x512x1536.size a := fun arg16 v705 k0_hw31 k0_t21 k0_h11 => k0_hw31.2.2.2.2.2.2.2.1 k0_t21 k0_h11
theorem k0_off70_inb : ∀ (arg16 : BitVec 32) (v705 : BitVec 32) (k0_hw31 : k0_chk31 arg16 v705) (k0_t21 : Fin (k0_t21_loop v705).trips), ∀ (k0_h11 : k0_cond11 v705 = 1#1), ∀ a, (k0_off70 arg16) a + S1x512x1536.size a ≤ S4x512x1536.size a := fun arg16 v705 k0_hw31 k0_t21 k0_h11 => k0_hw31.2.2.2.2.2.2.2.2.1 k0_t21 k0_h11
theorem k0_t22_ok : ∀ (arg16 : BitVec 32) (v705 : BitVec 32) (k0_hw31 : k0_chk31 arg16 v705), ∀ (k0_h11 : k0_cond11 v705 = 1#1), (k0_t22_loop v705).OK := fun arg16 v705 k0_hw31 k0_h11 => k0_hw31.2.2.2.2.2.2.2.2.2.1 k0_h11
theorem k0_off71_inb : ∀ (arg16 : BitVec 32) (v705 : BitVec 32) (k0_hw31 : k0_chk31 arg16 v705) (k0_t22 : Fin (k0_t22_loop v705).trips), ∀ (k0_h11 : k0_cond11 v705 = 1#1), ∀ a, (k0_off71 arg16) a + S1x512x1536.size a ≤ S4x512x1536.size a := fun arg16 v705 k0_hw31 k0_t22 k0_h11 => k0_hw31.2.2.2.2.2.2.2.2.2.2.1 k0_t22 k0_h11
theorem k0_off76_inb : ∀ (arg16 : BitVec 32) (v705 : BitVec 32) (k0_hw31 : k0_chk31 arg16 v705) (k0_t22 : Fin (k0_t22_loop v705).trips), ∀ (k0_h11 : k0_cond11 v705 = 1#1), ∀ a, (k0_off76 arg16) a + S1x512x1536.size a ≤ S4x512x1536.size a := fun arg16 v705 k0_hw31 k0_t22 k0_h11 => k0_hw31.2.2.2.2.2.2.2.2.2.2.2.1 k0_t22 k0_h11
theorem k0_off77_inb : ∀ (arg16 : BitVec 32) (v705 : BitVec 32) (k0_hw31 : k0_chk31 arg16 v705), ∀ (k0_h12 : k0_cond12 v705 = 1#1), ∀ a, (k0_off77 arg16) a + S1.size a ≤ S4.size a := fun arg16 v705 k0_hw31 k0_h12 => k0_hw31.2.2.2.2.2.2.2.2.2.2.2.2.1 k0_h12
theorem k0_off79_inb : ∀ (arg16 : BitVec 32) (v705 : BitVec 32) (k0_hw31 : k0_chk31 arg16 v705), ∀ (k0_h12 : k0_cond12 v705 = 1#1), ∀ a, (k0_off79 arg16) a + S1x512x1536.size a ≤ S4x512x1536.size a := fun arg16 v705 k0_hw31 k0_h12 => k0_hw31.2.2.2.2.2.2.2.2.2.2.2.2.2 k0_h12

@[reducible] def k0_t23_loop (v599 : BitVec 32) : Scf.Loop 32 :=
  let c0_i32_381 : BitVec 32 := 0#32
  let c4_i32 : BitVec 32 := 4#32
  let v600 : BitVec 32 := Scalar.minsi v599 c4_i32
  let c0_i32_375 : BitVec 32 := 0#32
  let v601 : BitVec 32 := Scalar.subi v600 c0_i32_375
  let c1_i32_376 : BitVec 32 := 1#32
  let c1_i32_377 : BitVec 32 := 1#32
  let v602 : BitVec 32 := Scalar.subi c1_i32_376 c1_i32_377
  let v603 : BitVec 32 := Scalar.addi v601 v602
  let c1_i32_378 : BitVec 32 := 1#32
  let v604 : BitVec 32 := Scalar.divsi v603 c1_i32_378
  let v605 : BitVec 32 := Scalar.subi v604 c0_i32_381
  let c1_i32_382 : BitVec 32 := 1#32
  let v607 : BitVec 32 := Scalar.divsi v605 c1_i32_382
  let v608 : BitVec 32 := Scalar.muli v607 c1_i32_382
  let v609 : BitVec 32 := Scalar.addi c0_i32_381 v608
  let c1_i32_383 : BitVec 32 := 1#32
  ⟨c0_i32_381, v609, c1_i32_383⟩

def k0_mult46 : BitVec 32 :=
  let c0_i32_409 : BitVec 32 := 0#32
  c0_i32_409
def k0_off80 (v599 : BitVec 32) (k0_t23 : Fin (k0_t23_loop v599).trips) : Fin 1 → Nat :=
  let c0_i32_380 : BitVec 32 := 0#32
  let c0_i32_381 : BitVec 32 := 0#32
  let c1_i32_383 : BitVec 32 := 1#32
  let arg13 : BitVec 32 := Scf.iv c0_i32_381 c1_i32_383 k0_t23
  let c1_i32_379 : BitVec 32 := 1#32
  let v634 : BitVec 32 := Scalar.muli arg13 c1_i32_379
  let v635 : BitVec 32 := Scalar.addi c0_i32_380 v634
  ![v635.toNat]
def k0_off81 (v599 : BitVec 32) (k0_t23 : Fin (k0_t23_loop v599).trips) : Fin 3 → Nat :=
  let c0_i32_380 : BitVec 32 := 0#32
  let c0_i32_381 : BitVec 32 := 0#32
  let c1_i32_383 : BitVec 32 := 1#32
  let arg13 : BitVec 32 := Scf.iv c0_i32_381 c1_i32_383 k0_t23
  let c1_i32_379 : BitVec 32 := 1#32
  let v634 : BitVec 32 := Scalar.muli arg13 c1_i32_379
  let v635 : BitVec 32 := Scalar.addi c0_i32_380 v634
  let c0_i32_412 : BitVec 32 := 0#32
  let c0_i32_413 : BitVec 32 := 0#32
  ![v635.toNat, 0, 0]
@[reducible] def k0_t24_loop (v599 : BitVec 32) : Scf.Loop 32 :=
  let c0_i32_381 : BitVec 32 := 0#32
  let c4_i32 : BitVec 32 := 4#32
  let v600 : BitVec 32 := Scalar.minsi v599 c4_i32
  let c0_i32_375 : BitVec 32 := 0#32
  let v601 : BitVec 32 := Scalar.subi v600 c0_i32_375
  let c1_i32_376 : BitVec 32 := 1#32
  let c1_i32_377 : BitVec 32 := 1#32
  let v602 : BitVec 32 := Scalar.subi c1_i32_376 c1_i32_377
  let v603 : BitVec 32 := Scalar.addi v601 v602
  let c1_i32_378 : BitVec 32 := 1#32
  let v604 : BitVec 32 := Scalar.divsi v603 c1_i32_378
  let v605 : BitVec 32 := Scalar.subi v604 c0_i32_381
  let c1_i32_382 : BitVec 32 := 1#32
  let v607 : BitVec 32 := Scalar.divsi v605 c1_i32_382
  let v608 : BitVec 32 := Scalar.muli v607 c1_i32_382
  let v609 : BitVec 32 := Scalar.addi c0_i32_381 v608
  let v606 : BitVec 32 := Scalar.addi c0_i32_381 v605
  let c1_i32_384 : BitVec 32 := 1#32
  ⟨v609, v606, c1_i32_384⟩
def k0_mult47 : BitVec 32 :=
  let c0_i32_409 : BitVec 32 := 0#32
  c0_i32_409
def k0_off82 (v599 : BitVec 32) (k0_t24 : Fin (k0_t24_loop v599).trips) : Fin 1 → Nat :=
  let c0_i32_380 : BitVec 32 := 0#32
  let c0_i32_381 : BitVec 32 := 0#32
  let c4_i32 : BitVec 32 := 4#32
  let v600 : BitVec 32 := Scalar.minsi v599 c4_i32
  let c0_i32_375 : BitVec 32 := 0#32
  let v601 : BitVec 32 := Scalar.subi v600 c0_i32_375
  let c1_i32_376 : BitVec 32 := 1#32
  let c1_i32_377 : BitVec 32 := 1#32
  let v602 : BitVec 32 := Scalar.subi c1_i32_376 c1_i32_377
  let v603 : BitVec 32 := Scalar.addi v601 v602
  let c1_i32_378 : BitVec 32 := 1#32
  let v604 : BitVec 32 := Scalar.divsi v603 c1_i32_378
  let v605 : BitVec 32 := Scalar.subi v604 c0_i32_381
  let c1_i32_382 : BitVec 32 := 1#32
  let v607 : BitVec 32 := Scalar.divsi v605 c1_i32_382
  let v608 : BitVec 32 := Scalar.muli v607 c1_i32_382
  let v609 : BitVec 32 := Scalar.addi c0_i32_381 v608
  let c1_i32_384 : BitVec 32 := 1#32
  let arg13 : BitVec 32 := Scf.iv v609 c1_i32_384 k0_t24
  let c1_i32_379 : BitVec 32 := 1#32
  let v634 : BitVec 32 := Scalar.muli arg13 c1_i32_379
  let v635 : BitVec 32 := Scalar.addi c0_i32_380 v634
  ![v635.toNat]
def k0_off83 (v599 : BitVec 32) (k0_t24 : Fin (k0_t24_loop v599).trips) : Fin 3 → Nat :=
  let c0_i32_380 : BitVec 32 := 0#32
  let c0_i32_381 : BitVec 32 := 0#32
  let c4_i32 : BitVec 32 := 4#32
  let v600 : BitVec 32 := Scalar.minsi v599 c4_i32
  let c0_i32_375 : BitVec 32 := 0#32
  let v601 : BitVec 32 := Scalar.subi v600 c0_i32_375
  let c1_i32_376 : BitVec 32 := 1#32
  let c1_i32_377 : BitVec 32 := 1#32
  let v602 : BitVec 32 := Scalar.subi c1_i32_376 c1_i32_377
  let v603 : BitVec 32 := Scalar.addi v601 v602
  let c1_i32_378 : BitVec 32 := 1#32
  let v604 : BitVec 32 := Scalar.divsi v603 c1_i32_378
  let v605 : BitVec 32 := Scalar.subi v604 c0_i32_381
  let c1_i32_382 : BitVec 32 := 1#32
  let v607 : BitVec 32 := Scalar.divsi v605 c1_i32_382
  let v608 : BitVec 32 := Scalar.muli v607 c1_i32_382
  let v609 : BitVec 32 := Scalar.addi c0_i32_381 v608
  let c1_i32_384 : BitVec 32 := 1#32
  let arg13 : BitVec 32 := Scf.iv v609 c1_i32_384 k0_t24
  let c1_i32_379 : BitVec 32 := 1#32
  let v634 : BitVec 32 := Scalar.muli arg13 c1_i32_379
  let v635 : BitVec 32 := Scalar.addi c0_i32_380 v634
  let c0_i32_412 : BitVec 32 := 0#32
  let c0_i32_413 : BitVec 32 := 0#32
  ![v635.toNat, 0, 0]

def k0_chk44 (v599 : BitVec 32) : Prop :=
  ((k0_t23_loop v599).OK) ∧
  (∀ k0_t23 : Fin (k0_t23_loop v599).trips, ∀ a, (k0_off80 v599 k0_t23) a + S1.size a ≤ S4.size a) ∧
  (∀ k0_t23 : Fin (k0_t23_loop v599).trips, ∀ a, (k0_off81 v599 k0_t23) a + S1x512x1536.size a ≤ S4x512x1536.size a) ∧
  ((k0_t24_loop v599).OK) ∧
  (∀ k0_t24 : Fin (k0_t24_loop v599).trips, ∀ a, (k0_off82 v599 k0_t24) a + S1.size a ≤ S4.size a) ∧
  (∀ k0_t24 : Fin (k0_t24_loop v599).trips, ∀ a, (k0_off83 v599 k0_t24) a + S1x512x1536.size a ≤ S4x512x1536.size a)
theorem k0_t23_ok : ∀ (v599 : BitVec 32) (k0_hw44 : k0_chk44 v599), (k0_t23_loop v599).OK := fun v599 k0_hw44 => k0_hw44.1
theorem k0_off80_inb : ∀ (v599 : BitVec 32) (k0_hw44 : k0_chk44 v599) (k0_t23 : Fin (k0_t23_loop v599).trips), ∀ a, (k0_off80 v599 k0_t23) a + S1.size a ≤ S4.size a := fun v599 k0_hw44 k0_t23 => k0_hw44.2.1 k0_t23
theorem k0_off81_inb : ∀ (v599 : BitVec 32) (k0_hw44 : k0_chk44 v599) (k0_t23 : Fin (k0_t23_loop v599).trips), ∀ a, (k0_off81 v599 k0_t23) a + S1x512x1536.size a ≤ S4x512x1536.size a := fun v599 k0_hw44 k0_t23 => k0_hw44.2.2.1 k0_t23
theorem k0_t24_ok : ∀ (v599 : BitVec 32) (k0_hw44 : k0_chk44 v599), (k0_t24_loop v599).OK := fun v599 k0_hw44 => k0_hw44.2.2.2.1
theorem k0_off82_inb : ∀ (v599 : BitVec 32) (k0_hw44 : k0_chk44 v599) (k0_t24 : Fin (k0_t24_loop v599).trips), ∀ a, (k0_off82 v599 k0_t24) a + S1.size a ≤ S4.size a := fun v599 k0_hw44 k0_t24 => k0_hw44.2.2.2.2.1 k0_t24
theorem k0_off83_inb : ∀ (v599 : BitVec 32) (k0_hw44 : k0_chk44 v599) (k0_t24 : Fin (k0_t24_loop v599).trips), ∀ a, (k0_off83 v599 k0_t24) a + S1x512x1536.size a ≤ S4x512x1536.size a := fun v599 k0_hw44 k0_t24 => k0_hw44.2.2.2.2.2 k0_t24

@[reducible] def k0_t25_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult48 (k0_t25 : Fin k0_t25_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t25
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off84 (k0_t25 : Fin k0_t25_loop.trips) : Fin 3 → Nat :=
  let c0_i32_414 : BitVec 32 := 0#32
  let c0_i32_413 : BitVec 32 := 0#32
  let c0_i32_409 : BitVec 32 := 0#32
  let c1_i32_410 : BitVec 32 := 1#32
  let arg13 : BitVec 32 := Scf.iv c0_i32_409 c1_i32_410 k0_t25
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![0, v638.toNat, 0]
@[reducible] def k0_t26_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult49 (k0_t26 : Fin k0_t26_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t26
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off85 (k0_t26 : Fin k0_t26_loop.trips) : Fin 3 → Nat :=
  let c1_i32_414 : BitVec 32 := 1#32
  let c0_i32_413 : BitVec 32 := 0#32
  let c0_i32_409 : BitVec 32 := 0#32
  let c1_i32_410 : BitVec 32 := 1#32
  let arg13 : BitVec 32 := Scf.iv c0_i32_409 c1_i32_410 k0_t26
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![1, v638.toNat, 0]
@[reducible] def k0_t27_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult50 (k0_t27 : Fin k0_t27_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t27
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off86 (k0_t27 : Fin k0_t27_loop.trips) : Fin 3 → Nat :=
  let c2_i32_414 : BitVec 32 := 2#32
  let c0_i32_413 : BitVec 32 := 0#32
  let c0_i32_409 : BitVec 32 := 0#32
  let c1_i32_410 : BitVec 32 := 1#32
  let arg13 : BitVec 32 := Scf.iv c0_i32_409 c1_i32_410 k0_t27
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![2, v638.toNat, 0]
@[reducible] def k0_t28_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult51 (k0_t28 : Fin k0_t28_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t28
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off87 (k0_t28 : Fin k0_t28_loop.trips) : Fin 3 → Nat :=
  let c3_i32 : BitVec 32 := 3#32
  let c0_i32_413 : BitVec 32 := 0#32
  let c0_i32_409 : BitVec 32 := 0#32
  let c1_i32_410 : BitVec 32 := 1#32
  let arg13 : BitVec 32 := Scf.iv c0_i32_409 c1_i32_410 k0_t28
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_414 : BitVec 32 := 0#32
  ![3, v638.toNat, 0]
@[reducible] def k0_t29_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult52 (k0_t29 : Fin k0_t29_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t29
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off88 (k0_t29 : Fin k0_t29_loop.trips) : Fin 3 → Nat :=
  let c4_i32_414 : BitVec 32 := 4#32
  let c0_i32_413 : BitVec 32 := 0#32
  let c0_i32_409 : BitVec 32 := 0#32
  let c1_i32_410 : BitVec 32 := 1#32
  let arg13 : BitVec 32 := Scf.iv c0_i32_409 c1_i32_410 k0_t29
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_415 : BitVec 32 := 0#32
  ![4, v638.toNat, 0]
@[reducible] def k0_t30_loop : Scf.Loop 32 :=
  let c0_i32_409 : BitVec 32 := 0#32
  let c40_i32 : BitVec 32 := 40#32
  let v634 : BitVec 32 := Scalar.addi c0_i32_409 c40_i32
  let c1_i32_410 : BitVec 32 := 1#32
  ⟨c0_i32_409, v634, c1_i32_410⟩
def k0_mult53 (k0_t30 : Fin k0_t30_loop.trips) : BitVec 32 :=
  let c0_i32_413 : BitVec 32 := 0#32
  let c0_i32_409 : BitVec 32 := 0#32
  let c1_i32_410 : BitVec 32 := 1#32
  let arg13 : BitVec 32 := Scf.iv c0_i32_409 c1_i32_410 k0_t30
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  v637
def k0_off89 (k0_t30 : Fin k0_t30_loop.trips) : Fin 3 → Nat :=
  let c5_i32 : BitVec 32 := 5#32
  let c0_i32_413 : BitVec 32 := 0#32
  let c0_i32_409 : BitVec 32 := 0#32
  let c1_i32_410 : BitVec 32 := 1#32
  let arg13 : BitVec 32 := Scf.iv c0_i32_409 c1_i32_410 k0_t30
  let c1_i32_412 : BitVec 32 := 1#32
  let v635 : BitVec 32 := Scalar.muli arg13 c1_i32_412
  let v636 : BitVec 32 := Scalar.addi c0_i32_413 v635
  let c128_i32 : BitVec 32 := 128#32
  let v637 : BitVec 32 := Scalar.muli v636 c128_i32
  let v638 : BitVec 32 := v637
  let c0_i32_414 : BitVec 32 := 0#32
  ![5, v638.toNat, 0]
abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1408x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1408x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F]
-- ==== ReferenceIdeal.lean ====
abbrev S6 : Shape := ⟨1, ![6]⟩
abbrev S1 : Shape := ⟨1, ![1]⟩
abbrev S1408x5120 : Shape := ⟨2, ![1408, 5120]⟩
abbrev S1408x1536 : Shape := ⟨2, ![1408, 1536]⟩
abbrev S_ : Shape := ⟨0, ![]⟩
abbrev S1376 : Shape := ⟨1, ![1376]⟩
abbrev S1x1376 : Shape := ⟨2, ![1, 1376]⟩
abbrev S6x1 : Shape := ⟨2, ![6, 1]⟩
abbrev S6x1376 : Shape := ⟨2, ![6, 1376]⟩
abbrev S6x1376x1 : Shape := ⟨3, ![6, 1376, 1]⟩
abbrev S1376x5120 : Shape := ⟨2, ![1376, 5120]⟩
abbrev S1x1376x5120 : Shape := ⟨3, ![1, 1376, 5120]⟩
abbrev S6x1376x5120 : Shape := ⟨3, ![6, 1376, 5120]⟩
abbrev S1376x1536 : Shape := ⟨2, ![1376, 1536]⟩
abbrev S6x5120x1536 : Shape := ⟨3, ![6, 5120, 1536]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S6, .i32⟩
  | .hbm, ⟨1, _⟩ => ⟨S1, .f32⟩
  | .hbm, ⟨2, _⟩ => ⟨S1, .f32⟩
  | .hbm, ⟨3, _⟩ => ⟨S1408x5120, .bf16⟩
  | .hbm, ⟨4, _⟩ => ⟨S1408x1536, .bf16⟩
  | .hbm, ⟨5, _⟩ => ⟨S_, .i32⟩
  | .hbm, ⟨6, _⟩ => ⟨S6, .i32⟩
  | .hbm, ⟨7, _⟩ => ⟨S6, .i32⟩
  | .hbm, ⟨8, _⟩ => ⟨S_, .i32⟩
  | .hbm, ⟨9, _⟩ => ⟨S6, .i32⟩
  | .hbm, ⟨10, _⟩ => ⟨S6, .i32⟩
  | .hbm, ⟨11, _⟩ => ⟨S_, .i32⟩
  | .hbm, ⟨12, _⟩ => ⟨S_, .i32⟩
  | .hbm, ⟨13, _⟩ => ⟨S6, .i32⟩
  | .hbm, ⟨14, _⟩ => ⟨S6, .i32⟩
  | .hbm, ⟨15, _⟩ => ⟨S6, .i32⟩
  | .hbm, ⟨16, _⟩ => ⟨S_, .i32⟩
  | .hbm, ⟨17, _⟩ => ⟨S6, .i32⟩
  | .hbm, ⟨18, _⟩ => ⟨S6, .i1⟩
  | .hbm, ⟨19, _⟩ => ⟨S6, .i32⟩
  | .hbm, ⟨20, _⟩ => ⟨S6, .i32⟩
  | .hbm, ⟨21, _⟩ => ⟨S_, .i32⟩
  | .hbm, ⟨22, _⟩ => ⟨S6, .i32⟩
  | .hbm, ⟨23, _⟩ => ⟨S6, .i1⟩
  | .hbm, ⟨24, _⟩ => ⟨S6, .i1⟩
  | .hbm, ⟨25, _⟩ => ⟨S_, .i32⟩
  | .hbm, ⟨26, _⟩ => ⟨S6, .i32⟩
  | .hbm, ⟨27, _⟩ => ⟨S6, .i32⟩
  | .hbm, ⟨28, _⟩ => ⟨S6, .i32⟩
  | .hbm, ⟨29, _⟩ => ⟨S_, .i32⟩
  | .hbm, ⟨30, _⟩ => ⟨S_, .i32⟩
  | .hbm, ⟨31, _⟩ => ⟨S6, .i32⟩
  | .hbm, ⟨32, _⟩ => ⟨S_, .i32⟩
  | .hbm, ⟨33, _⟩ => ⟨S6, .i32⟩
  | .hbm, ⟨34, _⟩ => ⟨S6, .i32⟩
  | .hbm, ⟨35, _⟩ => ⟨S_, .i32⟩
  | .hbm, ⟨36, _⟩ => ⟨S6, .i32⟩
  | .hbm, ⟨37, _⟩ => ⟨S6, .i32⟩
  | .hbm, ⟨38, _⟩ => ⟨S6, .i32⟩
  | .hbm, ⟨39, _⟩ => ⟨S1376, .i32⟩
  | .hbm, ⟨40, _⟩ => ⟨S1x1376, .i32⟩
  | .hbm, ⟨41, _⟩ => ⟨S6x1, .i32⟩
  | .hbm, ⟨42, _⟩ => ⟨S6x1376, .i32⟩
  | .hbm, ⟨43, _⟩ => ⟨S6x1376, .i32⟩
  | .hbm, ⟨44, _⟩ => ⟨S6x1376, .i1⟩
  | .hbm, ⟨45, _⟩ => ⟨S6x1, .i32⟩
  | .hbm, ⟨46, _⟩ => ⟨S6x1376, .i32⟩
  | .hbm, ⟨47, _⟩ => ⟨S6x1376, .i32⟩
  | .hbm, ⟨48, _⟩ => ⟨S6x1376, .i1⟩
  | .hbm, ⟨49, _⟩ => ⟨S6x1376, .i1⟩
  | .hbm, ⟨50, _⟩ => ⟨S6x1376x1, .i1⟩
  | .hbm, ⟨51, _⟩ => ⟨S1376x5120, .bf16⟩
  | .hbm, ⟨52, _⟩ => ⟨S1x1376x5120, .bf16⟩
  | .hbm, ⟨53, _⟩ => ⟨S_, .bf16⟩
  | .hbm, ⟨54, _⟩ => ⟨S6x1376x5120, .i1⟩
  | .hbm, ⟨55, _⟩ => ⟨S6x1376x5120, .bf16⟩
  | .hbm, ⟨56, _⟩ => ⟨S6x1376x5120, .bf16⟩
  | .hbm, ⟨57, _⟩ => ⟨S6x1376x5120, .bf16⟩
  | .hbm, ⟨58, _⟩ => ⟨S1376x1536, .bf16⟩
  | .hbm, ⟨59, _⟩ => ⟨S6x5120x1536, .f32⟩
  | .hbm, ⟨60, _⟩ => ⟨S1, .f32⟩
  | .hbm, ⟨61, _⟩ => ⟨S1x1x1, .f32⟩
  | .hbm, ⟨62, _⟩ => ⟨S6x5120x1536, .f32⟩
  | .hbm, ⟨63, _⟩ => ⟨S6x5120x1536, .f32⟩
  | _, _ => ⟨S6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_c_3 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]
-- ==== Proof.Words.lean ====
/- The table of the experts: the words the kernel computes from the group sizes, and what they are as numbers. -/
module

public import Idealize.ShloMosaic.Lib.WordCmp
public import Idealize.ShloMosaic.Lib.Tactic

@[expose] public section

namespace Cert.Hand

open Idealize.ShloMosaic Idealize.ShloMosaic.WordCmp

/-- Floor division of words as it prints. -/
def fdivW (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem divsi_ofNat (a d : ℕ) (ha : a < 2 ^ 31) (hd : 0 < d) (hd' : d < 2 ^ 31) :
    Scalar.divsi (BitVec.ofNat 32 a) (BitVec.ofNat 32 d) = BitVec.ofNat 32 (a / d) := by
  have hq : a / d ≤ a := Nat.div_le_self _ _
  have h1 : ¬ IntOp.SDivCorner (BitVec.ofNat 32 a) (BitVec.ofNat 32 d) := by
    rintro (h | ⟨_, h⟩)
    · have := congrArg BitVec.toNat h; simp at this; omega
    · have := congrArg BitVec.toNat h; simp at this; omega
  unfold Scalar.divsi IntOp.divsi
  rw [if_neg h1, BitVec.sdiv_eq]
  have ma : (BitVec.ofNat 32 a).msb = false := by rw [BitVec.msb_eq_false_iff_two_mul_lt]; simp; omega
  have md : (BitVec.ofNat 32 d).msb = false := by rw [BitVec.msb_eq_false_iff_two_mul_lt]; simp; omega
  rw [ma, md]
  apply BitVec.eq_of_toNat_eq
  simp
  rw [Nat.mod_eq_of_lt (by omega), Nat.mod_eq_of_lt (by omega), Nat.mod_eq_of_lt (by omega)]

theorem remsi_ofNat (a d : ℕ) (ha : a < 2 ^ 31) (hd : 0 < d) (hd' : d < 2 ^ 31) :
    Scalar.remsi (BitVec.ofNat 32 a) (BitVec.ofNat 32 d) = BitVec.ofNat 32 (a % d) := by
  have hq : a % d ≤ a := Nat.mod_le _ _
  have h1 : ¬ IntOp.SDivCorner (BitVec.ofNat 32 a) (BitVec.ofNat 32 d) := by
    rintro (h | ⟨_, h⟩)
    · have := congrArg BitVec.toNat h; simp at this; omega
    · have := congrArg BitVec.toNat h; simp at this; omega
  unfold Scalar.remsi IntOp.remsi
  rw [if_neg h1, BitVec.srem_eq]
  have ma : (BitVec.ofNat 32 a).msb = false := by rw [BitVec.msb_eq_false_iff_two_mul_lt]; simp; omega
  have md : (BitVec.ofNat 32 d).msb = false := by rw [BitVec.msb_eq_false_iff_two_mul_lt]; simp; omega
  rw [ma, md]
  apply BitVec.eq_of_toNat_eq
  simp
  rw [Nat.mod_eq_of_lt (b := 4294967296) (a := a) (by omega), Nat.mod_eq_of_lt (b := 4294967296) (a := d) (by omega), Nat.mod_eq_of_lt (b := 4294967296) (by omega)]

/-- On words below `2 ^ 31` it is the division of the numbers. -/
theorem fdivW_ofNat (a d : ℕ) (ha : a < 2 ^ 31) (hd : 0 < d) (hd' : d < 2 ^ 31) :
    fdivW (BitVec.ofNat 32 a) (BitVec.ofNat 32 d) = BitVec.ofNat 32 (a / d) := by
  unfold fdivW
  rw [divsi_ofNat a d ha hd hd', remsi_ofNat a d ha hd hd']
  have hs : Scalar.cmpi .slt (BitVec.ofNat 32 a) 0#32 = 0#1 := by
    show IntOp.cmpi _ _ (BitVec.ofNat 32 0) = _
    rw [cmpi_slt_ofNat_eq_zero_iff (by omega) (by omega)]; omega
  have hs' : Scalar.cmpi .slt (BitVec.ofNat 32 d) 0#32 = 0#1 := by
    show IntOp.cmpi _ _ (BitVec.ofNat 32 0) = _
    rw [cmpi_slt_ofNat_eq_zero_iff (by omega) (by omega)]; omega
  have hg' : Scalar.cmpi .sgt (BitVec.ofNat 32 d) 0#32 = 1#1 := by
    show IntOp.cmpi _ _ (BitVec.ofNat 32 0) = _
    rw [cmpi_sgt_ofNat_eq_one_iff (by omega) (by omega)]; omega
  rw [hs, hs', hg']
  rcases Nat.eq_zero_or_pos a with rfl | h0
  · have : Scalar.cmpi .ne (BitVec.ofNat 32 (0 % d)) 0#32 = 0#1 := by rw [Nat.zero_mod]; decide
    rw [this]
    show Scalar.select (IntOp.andi _ 0#1) _ _ = _
    have : ∀ x : BitVec 1, IntOp.andi x 0#1 = 0#1 := by decide
    rw [this]; rfl
  · have hg : Scalar.cmpi .sgt (BitVec.ofNat 32 a) 0#32 = 1#1 := by
      show IntOp.cmpi _ _ (BitVec.ofNat 32 0) = _
      rw [cmpi_sgt_ofNat_eq_one_iff (by omega) (by omega)]; omega
    rw [hg]
    have : ∀ x : BitVec 1, Scalar.andi (Scalar.cmpi .ne (Scalar.subi (Scalar.extui 1#1) (Scalar.extui 0#1)) (Scalar.subi (Scalar.extui 1#1) (Scalar.extui 0#1))) x = 0#1 := by
      decide
    rw [this]; rfl

section
variable (g : Fin 6 → BitVec 32)

/-- The words: blocks of an expert, its first block, the one behind its last, its first group, its chunks, its first slot. -/
def nbW (e : Fin 6) : BitVec 32 := fdivW (Scalar.addi (g e) 15#32) 16#32
def bsW : ℕ → BitVec 32
  | 0 => 0#32
  | k + 1 => Scalar.addi (bsW k) (if h : k < 6 then nbW g ⟨k, h⟩ else 0#32)
def g0W (k : ℕ) : BitVec 32 := fdivW (bsW g k) 8#32
def ktW (e : Fin 6) : BitVec 32 :=
  Scalar.select (Scalar.cmpi .sgt (nbW g e) 0#32)
    (fdivW (Scalar.addi (Scalar.subi (fdivW (Scalar.subi (Scalar.addi (bsW g (e.val + 1)) 8#32) 1#32) 8#32) (g0W g e.val)) 1#32) 2#32)
    0#32
def slW : ℕ → BitVec 32
  | 0 => 0#32
  | k + 1 => Scalar.addi (slW k) (if h : k < 6 then ktW g ⟨k, h⟩ else 0#32)

/-- The numbers. -/
def nb (e : Fin 6) : ℕ := ((g e).toNat + 15) / 16
def bs : ℕ → ℕ
  | 0 => 0
  | k + 1 => bs k + (if h : k < 6 then nb g ⟨k, h⟩ else 0)
def g0 (e : ℕ) : ℕ := bs g e / 8
def kt (e : Fin 6) : ℕ := if nb g e = 0 then 0 else ((bs g (e.val + 1) + 7) / 8 - g0 g e.val + 1) / 2
def sl : ℕ → ℕ
  | 0 => 0
  | k + 1 => sl k + (if h : k < 6 then kt g ⟨k, h⟩ else 0)

/-- The sizes are the sizes of groups of 1280 tokens. -/
def Ok : Prop := ∑ e, (g e).toNat = 1280

/-- The table: a row each of chunks, first groups, first slots, first blocks, blocks behind the last. -/
def T (r : Fin 5) (e : Fin 6) : BitVec 32 :=
  match r with
  | 0 => BitVec.ofNat 32 (kt g e)
  | 1 => BitVec.ofNat 32 (g0 g e.val)
  | 2 => BitVec.ofNat 32 (sl g e.val)
  | 3 => BitVec.ofNat 32 (bs g e.val)
  | 4 => BitVec.ofNat 32 (bs g (e.val + 1))

variable {g}

theorem Ok.expand (h : Ok g) : (g 0).toNat + (g 1).toNat + (g 2).toNat + (g 3).toNat + (g 4).toNat + (g 5).toNat = 1280 := by
  unfold Ok at h; rw [Fin.sum_univ_six] at h; exact h

theorem bs_facts (h : Ok g) :
    bs g 0 = 0 ∧ bs g 1 = bs g 0 + nb g 0 ∧ bs g 2 = bs g 1 + nb g 1 ∧ bs g 3 = bs g 2 + nb g 2 ∧ bs g 4 = bs g 3 + nb g 3
      ∧ bs g 5 = bs g 4 + nb g 4 ∧ bs g 6 = bs g 5 + nb g 5 ∧ bs g 6 ≤ 85 := by
  have h1 : bs g 1 = bs g 0 + nb g 0 := rfl
  have h2 : bs g 2 = bs g 1 + nb g 1 := rfl
  have h3 : bs g 3 = bs g 2 + nb g 2 := rfl
  have h4 : bs g 4 = bs g 3 + nb g 3 := rfl
  have h5 : bs g 5 = bs g 4 + nb g 4 := rfl
  have h6 : bs g 6 = bs g 5 + nb g 5 := rfl
  have h0 : bs g 0 = 0 := rfl
  refine ⟨h0, h1, h2, h3, h4, h5, h6, ?_⟩
  have := h.expand
  unfold nb at *
  omega

theorem bs_succ (e : Fin 6) : bs g (e.val + 1) = bs g e.val + nb g e := by
  show bs g e.val + _ = _
  rw [dif_pos e.isLt]

theorem sl_succ (e : Fin 6) : sl g (e.val + 1) = sl g e.val + kt g e := by
  show sl g e.val + _ = _
  rw [dif_pos e.isLt]

theorem sl_mono (g : Fin 6 → BitVec 32) {a b : ℕ} (h : a ≤ b) : sl g a ≤ sl g b := by
  induction b, h using Nat.le_induction with
  | base => exact le_rfl
  | succ n _ ih => exact ih.trans (Nat.le_add_right _ _)

theorem sl_lt (g : Fin 6 → BitVec 32) {e e' : Fin 6} (h : e.val < e'.val) : sl g e.val + kt g e ≤ sl g e'.val := by
  rw [← sl_succ]; exact sl_mono g h

theorem bs_le (h : Ok g) (e : Fin 6) : bs g e.val ≤ 85 ∧ bs g (e.val + 1) ≤ 85 := by
  have := bs_facts h
  match e with
  | 0 => show bs g 0 ≤ _ ∧ bs g 1 ≤ _; omega
  | 1 => show bs g 1 ≤ _ ∧ bs g 2 ≤ _; omega
  | 2 => show bs g 2 ≤ _ ∧ bs g 3 ≤ _; omega
  | 3 => show bs g 3 ≤ _ ∧ bs g 4 ≤ _; omega
  | 4 => show bs g 4 ≤ _ ∧ bs g 5 ≤ _; omega
  | 5 => show bs g 5 ≤ _ ∧ bs g 6 ≤ _; omega

theorem kt_eq (e : Fin 6) : (nb g e = 0 ∧ kt g e = 0) ∨ (0 < nb g e ∧ kt g e = ((bs g (e.val + 1) + 7) / 8 - g0 g e.val + 1) / 2) := by
  unfold kt; split
  · left; exact ⟨by assumption, rfl⟩
  · right; exact ⟨by omega, rfl⟩

theorem kt_pos_iff (e : Fin 6) : 0 < kt g e ↔ 0 < nb g e := by
  have := kt_eq (g := g) e
  have := bs_succ (g := g) e
  unfold g0 at *
  omega

theorem two_kt (e : Fin 6) : kt g e ≤ ((bs g (e.val + 1) + 7) / 8 - g0 g e.val + 1) / 2 := by
  have := kt_eq (g := g) e
  omega

/-- The chunks of an expert lie in the columns of the transposed tile. -/
theorem g0_kt (h : Ok g) (e : Fin 6) : g0 g e.val + 2 * kt g e ≤ 12 := by
  have := two_kt (g := g) e
  have := bs_le h e
  have := bs_succ (g := g) e
  unfold g0 at *
  omega

theorem g0_le (h : Ok g) (e : Fin 6) : g0 g e.val ≤ 10 := by
  have := bs_le h e
  unfold g0 at *
  omega

theorem two_kt' (e : Fin 6) : 2 * kt g e + bs g e.val / 8 ≤ bs g (e.val + 1) / 8 + 2 := by
  have := two_kt (g := g) e
  have := bs_succ (g := g) e
  unfold g0 at *
  omega

theorem sl_all (h : Ok g) : sl g 0 = 0 ∧ sl g 1 = sl g 0 + kt g 0 ∧ sl g 2 = sl g 1 + kt g 1 ∧ sl g 3 = sl g 2 + kt g 2
    ∧ sl g 4 = sl g 3 + kt g 3 ∧ sl g 5 = sl g 4 + kt g 4 ∧ sl g 6 = sl g 5 + kt g 5 ∧ sl g 6 ≤ 11 := by
  have e0 : sl g 0 = 0 := rfl
  have e1 : sl g 1 = sl g 0 + kt g 0 := sl_succ (g := g) 0
  have e2 : sl g 2 = sl g 1 + kt g 1 := sl_succ (g := g) 1
  have e3 : sl g 3 = sl g 2 + kt g 2 := sl_succ (g := g) 2
  have e4 : sl g 4 = sl g 3 + kt g 3 := sl_succ (g := g) 3
  have e5 : sl g 5 = sl g 4 + kt g 4 := sl_succ (g := g) 4
  have e6 : sl g 6 = sl g 5 + kt g 5 := sl_succ (g := g) 5
  have t0 : 2 * kt g 0 + bs g 0 / 8 ≤ bs g 1 / 8 + 2 := two_kt' (g := g) 0
  have t1 : 2 * kt g 1 + bs g 1 / 8 ≤ bs g 2 / 8 + 2 := two_kt' (g := g) 1
  have t2 : 2 * kt g 2 + bs g 2 / 8 ≤ bs g 3 / 8 + 2 := two_kt' (g := g) 2
  have t3 : 2 * kt g 3 + bs g 3 / 8 ≤ bs g 4 / 8 + 2 := two_kt' (g := g) 3
  have t4 : 2 * kt g 4 + bs g 4 / 8 ≤ bs g 5 / 8 + 2 := two_kt' (g := g) 4
  have t5 : 2 * kt g 5 + bs g 5 / 8 ≤ 12 := by
    have h5 := g0_kt h 5
    exact (Nat.add_comm _ _).trans_le h5
  refine ⟨e0, e1, e2, e3, e4, e5, e6, ?_⟩
  clear h
  generalize bs g 0 / 8 = a0 at *
  generalize bs g 1 / 8 = a1 at *
  generalize bs g 2 / 8 = a2 at *
  generalize bs g 3 / 8 = a3 at *
  generalize bs g 4 / 8 = a4 at *
  generalize bs g 5 / 8 = a5 at *
  omega

/-- The slots of an expert lie in the buffer. -/
theorem sl_kt (h : Ok g) (e : Fin 6) : sl g e.val + kt g e ≤ 11 := by
  have := sl_all h
  match e with
  | 0 => show sl g 0 + kt g 0 ≤ _; omega
  | 1 => show sl g 1 + kt g 1 ≤ _; omega
  | 2 => show sl g 2 + kt g 2 ≤ _; omega
  | 3 => show sl g 3 + kt g 3 ≤ _; omega
  | 4 => show sl g 4 + kt g 4 ≤ _; omega
  | 5 => show sl g 5 + kt g 5 ≤ _; omega

theorem kt_le (h : Ok g) (e : Fin 6) : kt g e ≤ 6 := by have := g0_kt h e; omega

/-- Some expert has a chunk. -/
theorem exists_kt (h : Ok g) : ∃ e, 0 < kt g e := by
  by_contra hn
  push Not at hn
  have h' : ∀ e, (g e).toNat = 0 := fun e => by
    have := hn e
    have := kt_pos_iff (g := g) e
    unfold nb at this
    omega
  have := h.expand
  simp only [h'] at this
  omega

/-- The words are the numbers. -/
theorem nbW_eq (h : Ok g) (e : Fin 6) : nbW g e = BitVec.ofNat 32 (nb g e) := by
  have hle : (g e).toNat ≤ 1280 := by
    have := h.expand
    match e with
    | 0 | 1 | 2 | 3 | 4 | 5 => omega
  have : Scalar.addi (g e) 15#32 = BitVec.ofNat 32 ((g e).toNat + 15) := by
    apply BitVec.eq_of_toNat_eq
    show ((g e) + 15#32).toNat = _
    simp
  unfold nbW nb
  rw [this]
  exact fdivW_ofNat _ 16 (by omega) (by omega) (by omega)

theorem addi_ofNat (a b : ℕ) : Scalar.addi (BitVec.ofNat 32 a) (BitVec.ofNat 32 b) = BitVec.ofNat 32 (a + b) :=
  (BitVec.ofNat_add a b).symm

theorem subi_ofNat (a b : ℕ) (h : b ≤ a) : Scalar.subi (BitVec.ofNat 32 a) (BitVec.ofNat 32 b) = BitVec.ofNat 32 (a - b) := by
  show BitVec.ofNat 32 a - BitVec.ofNat 32 b = _
  rw [show a = (a - b) + b from by omega, BitVec.ofNat_add, BitVec.add_sub_cancel, Nat.add_sub_cancel]

theorem muli_ofNat (a b : ℕ) : Scalar.muli (BitVec.ofNat 32 a) (BitVec.ofNat 32 b) = BitVec.ofNat 32 (a * b) :=
  (BitVec.ofNat_mul a b).symm

theorem bsW_eq (h : Ok g) : ∀ k, bsW g k = BitVec.ofNat 32 (bs g k)
  | 0 => rfl
  | k + 1 => by
    unfold bsW bs
    rw [bsW_eq h k]
    split
    · rw [nbW_eq h, addi_ofNat]
    · exact addi_ofNat _ 0

theorem g0W_eq (h : Ok g) (e : Fin 6) : g0W g e.val = BitVec.ofNat 32 (g0 g e.val) := by
  unfold g0W g0
  rw [bsW_eq h]
  have := bs_le h e
  exact fdivW_ofNat _ 8 (by omega) (by omega) (by omega)

theorem ktW_eq (h : Ok g) (e : Fin 6) : ktW g e = BitVec.ofNat 32 (kt g e) := by
  unfold ktW
  have hb := bs_le h e
  have hs := bs_succ (g := g) e
  rw [nbW_eq h, bsW_eq h, g0W_eq h]
  have h1 : Scalar.subi (Scalar.addi (BitVec.ofNat 32 (bs g (e.val + 1))) 8#32) 1#32 = BitVec.ofNat 32 (bs g (e.val + 1) + 7) := by
    rw [show (8#32) = BitVec.ofNat 32 8 from rfl, addi_ofNat, show (1#32) = BitVec.ofNat 32 1 from rfl, subi_ofNat _ _ (by omega), show bs g (e.val + 1) + 8 - 1 = bs g (e.val + 1) + 7 from by omega]
  rw [h1, show (8#32) = BitVec.ofNat 32 8 from rfl, fdivW_ofNat _ 8 (by omega) (by omega) (by omega),
    subi_ofNat _ _ (by unfold g0; omega), show (1#32) = BitVec.ofNat 32 1 from rfl, addi_ofNat,
    show (2#32) = BitVec.ofNat 32 2 from rfl, fdivW_ofNat _ 2 (by omega) (by omega) (by omega)]
  unfold kt Scalar.select
  have hc : Scalar.cmpi .sgt (BitVec.ofNat 32 (nb g e)) 0#32 = 1 ↔ 0 < nb g e := by
    show IntOp.cmpi _ _ (BitVec.ofNat 32 0) = 1#1 ↔ _
    rw [cmpi_sgt_ofNat_eq_one_iff (by omega) (by omega)]
  by_cases h0 : nb g e = 0
  · rw [if_neg (by rw [hc]; omega), if_pos h0]
  · rw [if_pos (hc.2 (by omega)), if_neg h0]

theorem slW_eq (h : Ok g) : ∀ k, slW g k = BitVec.ofNat 32 (sl g k)
  | 0 => rfl
  | k + 1 => by
    unfold slW sl
    rw [slW_eq h k]
    split
    · rw [ktW_eq h, addi_ofNat]
    · exact addi_ofNat _ 0

/-- The table as words. -/
def TW (g : Fin 6 → BitVec 32) (r : Fin 5) (e : Fin 6) : BitVec 32 :=
  match r with
  | 0 => ktW g e
  | 1 => g0W g e.val
  | 2 => slW g e.val
  | 3 => bsW g e.val
  | 4 => bsW g (e.val + 1)

theorem TW_eq (h : Ok g) (r : Fin 5) (e : Fin 6) : TW g r e = T g r e := by
  unfold TW T
  fin_cases r
  · exact ktW_eq h e
  · exact g0W_eq h e
  · exact slW_eq h _
  · exact bsW_eq h _
  · exact bsW_eq h _

end

end Cert.Hand
-- ==== Proof.K.Ctx.lean ====
module

public import Idealize.SL.BI.BigOpNat
public import Idealize.ShloMosaic.Lib.Batch
public import Idealize.ShloMosaic.Lib.Ring
public import Idealize.ShloMosaic.Lib.Tactic
public import Idealize.ShloMosaic.Lib.WritesUnit
public import proofs.«01_k».proof.Proof.Words
public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

abbrev a0 : Memref sig .tc .smem S6 .i32 := Memref.whole cc0_stg0_0
abbrev a1 : Memref sig .tc .smem S1 .f32 := Memref.whole cc0_stg1_0
abbrev a2 : Memref sig .tc .smem S1 .f32 := Memref.whole cc0_stg2_0
abbrev a3 : Memref sig .tc .vmem S1408x5120 .bf16 := Memref.whole cc0_stg3_0
abbrev a4 : Memref sig .tc .vmem S1408x1536 .bf16 := Memref.whole cc0_stg4_0
abbrev a5 : Memref sig .tc .hbm S6x5120x1536 .f32 := Memref.whole main_v0
abbrev a6 : Memref sig .tc .vmem S2816x1536 .bf16 := Memref.whole cc0_scratch0
abbrev a7 : Memref sig .tc .vmem S512x1536 .bf16 := Memref.whole cc0_scratch1
abbrev a8 : Memref sig .tc .vmem S4x512x1536 .f32 := Memref.whole cc0_scratch2
abbrev a9 : Memref sig .tc .vmem S128x1536 .f32 := Memref.whole cc0_scratch3
abbrev a10 : Memref sig .tc .smem S5x6 .i32 := Memref.whole cc0_scratch4
abbrev a11 : DmaSems sig S_ := cc0_scratch5
abbrev a12 : DmaSems sig S4 := cc0_scratch6

/-- The weakest precondition of a piece of the body, on the one core. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- A conditional whose two arms join: the rest of the program is proved once, after the conditional. -/
theorem wp_if_join {α β : Type} {c : Dev nD} {b : Prop} [Decidable b] {p : Prog (TpuEff nD τ sig (Elt F) Λ₀ .tc) α}
    {k : PUnit → Prog (TpuEff nD τ sig (Elt F) Λ₀ .tc) β} {P : sProp 𝕄} {Q : β → sProp 𝕄}
    (h : P ⊢ WP c (if b then (p >>= fun _ => pure PUnit.unit) else pure PUnit.unit) (fun u => WP c (k u) Q)) :
    P ⊢ WP c (if b then (p >>= fun _ => k ⟨⟩) else k ⟨⟩) Q := by
  refine h.trans ?_
  by_cases hb : b
  · rw [if_pos hb, if_pos hb]
    show wp _ _ _ _ _ ⊢ wp _ _ _ _ _
    rw [wp_bind, wp_bind]
    refine wp_mono _ _ _ fun a => ?_
    rw [wp_pure, fupd_wp_eq]
  · rw [if_neg hb, if_neg hb]
    show wp _ _ _ _ _ ⊢ wp _ _ _ _ _
    rw [wp_pure, fupd_wp_eq]

/-- The elements of one block of the result: a group with no stripe is written in blocks of 128 rows, the others in
    tiles of 512. -/
def I (g : Fin 6 → BitVec 32) (p : Fin 6 × Fin 40) : Finset S6x5120x1536.Idx :=
  Finset.univ.filter fun i => (i 0).val = p.1.val ∧ (if kt g p.1 = 0 then (i 1).val / 128 = p.2.val else (i 1).val / 512 = p.2.val)

theorem I_disj (g : Fin 6 → BitVec 32) (p q : Fin 6 × Fin 40) (h : p ≠ q) : Disjoint (I g p) (I g q) := by
  rw [Finset.disjoint_left]
  intro i hp hq
  simp only [I, Finset.mem_filter, Finset.mem_univ, true_and] at hp hq
  obtain ⟨e, j⟩ := p
  obtain ⟨e', j'⟩ := q
  obtain ⟨h1, h2⟩ := hp
  obtain ⟨h3, h4⟩ := hq
  simp only at h1 h2 h3 h4
  have he : e = e' := Fin.ext (h1.symm.trans h3)
  subst he
  apply h
  have : j.val = j'.val := by split at h2 <;> simp_all
  rw [Fin.ext this]

theorem I_cover (g : Fin 6 → BitVec 32) : Finset.univ.biUnion (I g) = Finset.univ := by
  ext i
  simp only [Finset.mem_biUnion, Finset.mem_univ, true_and, iff_true]
  have hi : (i 1).val < 5120 := (i 1).isLt
  by_cases h : kt g (i 0) = 0
  · exact ⟨(i 0, ⟨(i 1).val / 128, by omega⟩), by simp [I, h]⟩
  · exact ⟨(i 0, ⟨(i 1).val / 512, by omega⟩), by simp [I, h]⟩

theorem zinb (e : Fin 6) (j : Fin 40) : ∀ a, (![e.val, 128 * j.val, 0] : Fin 3 → Nat) a + S1x128x1536.size a ≤ S6x5120x1536.size a := by
  have := e.isLt; have := j.isLt; intro a; fin_cases a
  · show e.val + 1 ≤ 6; omega
  · show 128 * j.val + 128 ≤ 5120; omega
  · show 0 + 1536 ≤ 1536; omega

/-- The block of 128 rows a zero copy fills. -/
def zblk (e : Fin 6) (j : Fin 40) : Memref sig .tc .hbm S128x1536 .f32 :=
  (a5.slice (Rect.unit (s := S6x5120x1536) ![e.val, 128 * j.val, 0] S1x128x1536.size (zinb e j)) (fun _ => rfl)).squeeze S128x1536 squeezes_S1x128x1536_S128x1536

theorem oinb (e : Fin 6) (t : Fin 10) : ∀ a, (![e.val, 512 * t.val, 0] : Fin 3 → Nat) a + S1x512x1536.size a ≤ S6x5120x1536.size a := by
  have := e.isLt; have := t.isLt; intro a; fin_cases a
  · show e.val + 1 ≤ 6; omega
  · show 512 * t.val + 512 ≤ 5120; omega
  · show 0 + 1536 ≤ 1536; omega

/-- The tile of 512 rows an output copy fills. -/
def oblk (e : Fin 6) (t : Fin 10) : Memref sig .tc .hbm S512x1536 .f32 :=
  (a5.slice (Rect.unit (s := S6x5120x1536) ![e.val, 512 * t.val, 0] S1x512x1536.size (oinb e t)) (fun _ => rfl)).squeeze S512x1536 squeezes_S1x512x1536_S512x1536

theorem zblk_set (g : Fin 6 → BitVec 32) (e : Fin 6) (j : Fin 40) (h : kt g e = 0) : (zblk e j).view.set = I g (e, j) := by
  have h1 : (zblk e j).view.set = (Rect.unit (s := S6x5120x1536) ![e.val, 128 * j.val, 0] S1x128x1536.size (zinb e j)).set := by
    unfold zblk; exact (View.set_reshape _ _).trans (View.set_slice_whole _ _)
  rw [h1]
  ext i
  have hi : (i 2).val < 1536 := (i 2).isLt
  simp only [Rect.mem_set_unit, I, Finset.mem_filter, Finset.mem_univ, true_and, h, if_true]
  constructor
  · intro H
    have h0 := H 0; have h1 := H 1
    have e0 : e.val ≤ (i 0).val ∧ (i 0).val < e.val + 1 := h0
    have e1 : 128 * j.val ≤ (i 1).val ∧ (i 1).val < 128 * j.val + 128 := h1
    omega
  · intro ⟨h0, h1⟩ a
    match a with
    | 0 => show e.val ≤ (i 0).val ∧ (i 0).val < e.val + 1; omega
    | 1 => show 128 * j.val ≤ (i 1).val ∧ (i 1).val < 128 * j.val + 128; omega
    | 2 => show 0 ≤ (i 2).val ∧ (i 2).val < 0 + 1536; omega

theorem oblk_set (g : Fin 6 → BitVec 32) (e : Fin 6) (t : Fin 10) (h : kt g e ≠ 0) : (oblk e t).view.set = I g (e, ⟨t.val, by omega⟩) := by
  have h1 : (oblk e t).view.set = (Rect.unit (s := S6x5120x1536) ![e.val, 512 * t.val, 0] S1x512x1536.size (oinb e t)).set := by
    unfold oblk; exact (View.set_reshape _ _).trans (View.set_slice_whole _ _)
  rw [h1]
  ext i
  have hi : (i 2).val < 1536 := (i 2).isLt
  simp only [Rect.mem_set_unit, I, Finset.mem_filter, Finset.mem_univ, true_and, h, if_false]
  constructor
  · intro H
    have h0 := H 0; have h1 := H 1
    have e0 : e.val ≤ (i 0).val ∧ (i 0).val < e.val + 1 := h0
    have e1 : 512 * t.val ≤ (i 1).val ∧ (i 1).val < 512 * t.val + 512 := h1
    omega
  · intro ⟨h0, h1⟩ a
    match a with
    | 0 => show e.val ≤ (i 0).val ∧ (i 0).val < e.val + 1; omega
    | 1 => show 512 * t.val ≤ (i 1).val ∧ (i 1).val < 512 * t.val + 512; omega
    | 2 => show 0 ≤ (i 2).val ∧ (i 2).val < 0 + 1536; omega

end Cert.Kernel.Hand

end
-- ==== Proof.K.Zero.lean ====
module

public import proofs.«01_k».proof.Proof.K.Ctx

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

/-- How many groups before `k` have no stripe. -/
def zr (g : Fin 6 → BitVec 32) (k : ℕ) : ℕ := (Finset.univ.filter fun e : Fin 6 => e.val < k ∧ kt g e = 0).card

theorem zr_zero (g : Fin 6 → BitVec 32) : zr g 0 = 0 := by simp [zr]

theorem zr_succ (g : Fin 6 → BitVec 32) (e : Fin 6) : zr g (e.val + 1) = zr g e.val + if kt g e = 0 then 1 else 0 := by
  unfold zr
  by_cases h : kt g e = 0
  · have : (Finset.univ.filter fun a : Fin 6 => a.val < e.val + 1 ∧ kt g a = 0)
        = insert e (Finset.univ.filter fun a : Fin 6 => a.val < e.val ∧ kt g a = 0) := by
      ext a
      simp only [Finset.mem_filter, Finset.mem_univ, true_and, Finset.mem_insert]
      constructor
      · intro ⟨h1, h2⟩
        by_cases ha : a = e
        · exact .inl ha
        · refine .inr ⟨?_, h2⟩
          have : a.val ≠ e.val := fun h => ha (Fin.ext h)
          omega
      · rintro (rfl | ⟨h1, h2⟩)
        · exact ⟨by omega, h⟩
        · exact ⟨by omega, h2⟩
    rw [this, Finset.card_insert_of_notMem (by simp), if_pos h]
  · rw [if_neg h]
    refine Eq.trans ?_ (Nat.add_zero _).symm
    apply congrArg Finset.card
    ext a
    simp only [Finset.mem_filter, Finset.mem_univ, true_and]
    constructor
    · intro ⟨h1, h2⟩
      have : a.val ≠ e.val := fun hh => h (Fin.ext hh ▸ h2)
      exact ⟨by omega, h2⟩
    · intro ⟨h1, h2⟩
      exact ⟨by omega, h2⟩

theorem zr_mono (g : Fin 6 → BitVec 32) {a b : ℕ} (h : a ≤ b) : zr g a ≤ zr g b := by
  unfold zr
  apply Finset.card_le_card
  intro x hx
  simp only [Finset.mem_filter, Finset.mem_univ, true_and] at hx ⊢
  exact ⟨by omega, hx.2⟩

theorem zr_lt (g : Fin 6 → BitVec 32) {e e' : Fin 6} (h : kt g e = 0) (hl : e.val < e'.val) : zr g e.val + 1 ≤ zr g e'.val := by
  have := zr_succ g e
  rw [if_pos h] at this
  have := zr_mono g (show e.val + 1 ≤ e'.val by omega)
  omega

/-- The number of a zero copy among all of them. -/
abbrev zn (g : Fin 6 → BitVec 32) (p : Fin 6 × Fin 40) : ℕ := 40 * zr g p.1.val + p.2.val

theorem zn_inj (g : Fin 6 → BitVec 32) {p q : Fin 6 × Fin 40} (hp : kt g p.1 = 0) (hq : kt g q.1 = 0) (h : zn g p = zn g q) : p = q := by
  obtain ⟨e, j⟩ := p
  obtain ⟨e', j'⟩ := q
  simp only [zn] at h hp hq
  have hj := j.isLt; have hj' := j'.isLt
  have he : e = e' := by
    rcases Nat.lt_trichotomy e.val e'.val with hl | hl | hl
    · have := zr_lt g hp hl; omega
    · exact Fin.ext hl
    · have := zr_lt g hq hl; omega
  subst he
  have : j = j' := Fin.ext (by omega)
  rw [this]

theorem zn_lt (g : Fin 6 → BitVec 32) {e : Fin 6} (h : kt g e = 0) (j : Fin 40) : zn g (e, j) < 40 * zr g 6 := by
  have := zr_succ g e
  rw [if_pos h] at this
  have := zr_mono g (show e.val + 1 ≤ 6 by omega)
  have := j.isLt
  simp only [zn]
  omega

/-- The block a copy number fills. -/
def fiber (g : Fin 6 → BitVec 32) (t : ℕ) : Finset (Fin 6 × Fin 40) := Finset.univ.filter fun p => kt g p.1 = 0 ∧ zn g p = t
/-- The blocks the copies from a number on fill. -/
def todo (g : Fin 6 → BitVec 32) (n : ℕ) : Finset (Fin 6 × Fin 40) := Finset.univ.filter fun p => kt g p.1 = 0 ∧ n ≤ zn g p

theorem fiber_eq (g : Fin 6 → BitVec 32) {e : Fin 6} (h : kt g e = 0) (j : Fin 40) : fiber g (zn g (e, j)) = {(e, j)} := by
  ext p
  simp only [fiber, Finset.mem_filter, Finset.mem_univ, true_and, Finset.mem_singleton]
  constructor
  · intro ⟨h1, h2⟩; exact zn_inj g h1 h h2
  · rintro rfl; exact ⟨h, rfl⟩

theorem todo_eq (g : Fin 6 → BitVec 32) {e : Fin 6} (h : kt g e = 0) (j : Fin 40) :
    todo g (zn g (e, j)) = insert (e, j) (todo g (zn g (e, j) + 1)) := by
  ext p
  simp only [todo, Finset.mem_filter, Finset.mem_univ, true_and, Finset.mem_insert]
  constructor
  · intro ⟨h1, h2⟩
    by_cases hp : zn g p = zn g (e, j)
    · exact .inl (zn_inj g h1 h hp)
    · exact .inr ⟨h1, by omega⟩
  · rintro (rfl | ⟨h1, h2⟩)
    · exact ⟨h, le_rfl⟩
    · exact ⟨h1, by omega⟩

theorem todo_not_mem (g : Fin 6 → BitVec 32) (p : Fin 6 × Fin 40) : p ∉ todo g (zn g p + 1) := by
  simp only [todo, Finset.mem_filter, Finset.mem_univ, true_and]
  intro h; omega

/-- A block of the result, held at some contents. -/
def own (c : Dev nD) (g : Fin 6 → BitVec 32) (p : Fin 6 × Fin 40) : sProp 𝕄 :=
  iprop(∃ f, (a5.view.loc (c : Thread nD τ) ↦[I g p]{fullShare} f))

/-- A block of the result, held at contents that are what is claimed of it. -/
def fin (c : Dev nD) (g : Fin 6 → BitVec 32) (PG : Fin 6 × Fin 40 → (S6x5120x1536.Idx → Elt F .f32) → Prop) (p : Fin 6 × Fin 40) : sProp 𝕄 :=
  iprop(∃ f, ⌜PG p f⌝ ∗ (a5.view.loc (c : Thread nD τ) ↦[I g p]{fullShare} f))

/-- One read share of the block of zeros. -/
def ztok (c : Dev nD) (z : S128x1536.Idx → Elt F .f32) (t : ℕ) : sProp 𝕄 :=
  iprop(a9.view.loc (c : Thread nD τ) ↦[a9.view.set]{Transfers.shareTokN fullShare t} z)

/-- What a zero copy delivers. -/
def zD (c : Dev nD) (g : Fin 6 → BitVec 32) (PG : Fin 6 × Fin 40 → (S6x5120x1536.Idx → Elt F .f32) → Prop) (z : S128x1536.Idx → Elt F .f32) :
    Fin (40 * zr g 6) → sProp 𝕄 :=
  fun t => iprop((bigSep (fiber g t.val) (fin c g PG)) ∗ ztok c z t.val)

instance fin_storable (c : Dev nD) (g) (PG) (p) : BI.Storable (upEmb : UEmb _ 𝕄) (fin (F := F) c g PG p) := by unfold fin; infer_instance
instance zD_storable (c : Dev nD) (g) (PG) (z) (t) : BI.Storable (upEmb : UEmb _ 𝕄) (zD (F := F) c g PG z t) := by
  unfold zD ztok; infer_instance

/-- The units one zero copy credits. -/
abbrev NZ : ℕ := (zblk 0 0).view.dmaCredit

/-- The zero copies after `n` of them: the blocks and the read shares still in hand. -/
def ZS (c : Dev nD) (g : Fin 6 → BitVec 32) (PG : Fin 6 × Fin 40 → (S6x5120x1536.Idx → Elt F .f32) → Prop) (z : S128x1536.Idx → Elt F .f32) (n : ℕ) : sProp 𝕄 :=
  iprop((Transfers.Batch (countersEmb (U := Pipeline.UD sig nD τ)) (c : Thread nD τ) (.dma a11.sem) () NZ (zD c g PG z) n 0)
    ∗ (bigSep (todo g n) (own c g)) ∗ (bigSep (Finset.Ico n (40 * zr g 6)) (ztok c z)))

/-- One zero copy, as the body spells it. -/
def zissue (off : Fin 3 → ℕ) (inb : ∀ a, off a + S1x128x1536.size a ≤ S6x5120x1536.size a) : Prog (TpuEff nD τ sig (Elt F) Λ₀ .tc) Unit := do
  let v639 : Memref sig .tc .hbm S1x128x1536 .f32 := a5.slice (Rect.unit (s := S6x5120x1536) off S1x128x1536.size inb) (fun _ => rfl)
  let v640 : Memref sig .tc .hbm S128x1536 .f32 := v639.squeeze S128x1536 squeezes_S1x128x1536_S128x1536
  Prog.lift (.enqueueDma a9 (.here v640) (.dma a11.sem) (Memref.isWhole_whole _).wordExact ((View.wordExact_bits rfl).reshape _ _) ⟨Or.inl rfl, trivial⟩)
  pure ⟨⟩

theorem zissue_step (c : Dev nD) (g : Fin 6 → BitVec 32) (PG) (z : S128x1536.Idx → Elt F .f32) (e : Fin 6) (j : Fin 40) (h : kt g e = 0)
    (hz : ∀ e j fd, kt g e = 0 → PG (e, j) ((zblk e j).view.write (Elt F) fd z Finset.univ))
    (off : Fin 3 → ℕ) (inb) (ho : off = ![e.val, 128 * j.val, 0]) :
    ZS c g PG z (zn g (e, j)) ⊢ WP c (zissue (F := F) off inb) (fun _ => ZS c g PG z (zn g (e, j) + 1)) := by
  subst ho
  have hlt := zn_lt g h j
  have hb : bigSep (todo g (zn g (e, j))) (own (F := F) c g) = iprop(own c g (e, j) ∗ bigSep (todo g (zn g (e, j) + 1)) (own c g)) := by
    rw [todo_eq g h j, bigSep_insert (todo_not_mem g (e, j))]; rfl
  unfold ZS
  rw [hb, bigSep_Ico_succ_bot hlt]
  unfold own ztok
  iintro ⟨HB, ⟨⟨%fd, Hd⟩, Hds⟩, Ht, Hts⟩
  unfold WP zissue
  iapply (Transfers.wp_dmaBatch (countersEmb (U := Pipeline.UD sig nD τ)) Variants.none (c : Thread nD τ) none () NZ
     (src := a9) (dst := zblk e j) (via := .same) (fs := z) (fd := fd) (q := Transfers.shareTokN fullShare (zn g (e, j))) (Sd := I g (e, j))
     (D := zD c g PG z) (j := zn g (e, j)) (u := 0) rfl (zblk_set g e j h).subset hlt (Nat.zero_le _) ?_) $$ [Ht Hd HB]
  · unfold zD
    rw [fiber_eq g h j, bigSep_singleton]
    unfold fin ztok
    iintro ⟨H1, H2⟩
    isplitl [H1]
    · iexists _
      isplitr
      · ipureintro
        exact hz e j fd h
      · iexact H1
    · iexact H2
  · isplitl [Ht]; · iexact Ht
    isplitl [Hd]; · iexact Hd
    iexact HB
  · iintro HB
    simp only [Prog.bind]
    sl_step
    isplitl [HB]; · iexact HB
    isplitl [Hds]; · iexact Hds
    iexact Hts

/-- A whole group's zero copies: forty of them when it has no stripe, none otherwise. -/
theorem zseg (c : Dev nD) (g : Fin 6 → BitVec 32) (PG) (z : S128x1536.Idx → Elt F .f32) (e : Fin 6)
    (hz : ∀ e j fd, kt g e = 0 → PG (e, j) ((zblk e j).view.write (Elt F) fd z Finset.univ))
    (lp : Scf.Loop 32) (hok : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zissue (off k) (inb k)) (ho : ∀ k, off k = ![e.val, 128 * k.val, 0])
    (b : Prop) [Decidable b] (hbk : b ↔ kt g e = 0) :
    ZS c g PG z (40 * zr g e.val) ⊢ WP c (if b then ((Scf.Loop.for lp hok () body) >>= fun _ => pure PUnit.unit) else pure PUnit.unit)
      (fun _ => ZS c g PG z (40 * zr g (e.val + 1))) := by
  rw [zr_succ]
  by_cases h : kt g e = 0
  · rw [if_pos (hbk.2 h), if_pos h, Nat.mul_add]
    unfold WP
    rw [wp_bind]
    refine BIBase.Entails.trans ?_ (Scf.wp_for _ _ _ lp.lb lp.ub lp.st hok () body (fun k _ => ZS c g PG z (40 * zr g e.val + k)) ?_)
    · iintro H
      isplitl [H]; · iexact H
      iintro %a H
      rw [wp_pure]
      imodintro
      rw [show Scf.trips lp.lb lp.ub lp.st = 40 from ht]
      iexact H
    · intro k acc
      rw [hb]
      have hk : k.val < 40 := lt_of_lt_of_eq k.isLt ht
      exact zissue_step c g PG z e ⟨k.val, hk⟩ h hz _ _ (ho k)
  · rw [if_neg (fun hh => h (hbk.1 hh)), if_neg h, Nat.add_zero]
    unfold WP
    rw [wp_pure]
    iintro H
    imodintro
    iexact H

/-- The zero copies being waited for: all of them issued, `n` groups' worth of units taken. -/
def ZW (c : Dev nD) (g : Fin 6 → BitVec 32) (PG : Fin 6 × Fin 40 → (S6x5120x1536.Idx → Elt F .f32) → Prop) (z : S128x1536.Idx → Elt F .f32) (n : ℕ) : sProp 𝕄 :=
  iprop((Transfers.Batch (countersEmb (U := Pipeline.UD sig nD τ)) (c : Thread nD τ) (.dma a11.sem) () NZ (zD c g PG z) (40 * zr g 6) (n * NZ))
    ∗ (∃ W, owes (c : Thread nD τ) 0 W))

/-- One wait for a zero copy, as the body spells it. -/
def zwait (off : Fin 3 → ℕ) (inb : ∀ a, off a + S1x128x1536.size a ≤ S6x5120x1536.size a) : Prog (TpuEff nD τ sig (Elt F) Λ₀ .tc) Unit := do
  let v639 : Memref sig .tc .hbm S1x128x1536 .f32 := a5.slice (Rect.unit (s := S6x5120x1536) off S1x128x1536.size inb) (fun _ => rfl)
  let v640 : Memref sig .tc .hbm S128x1536 .f32 := v639.squeeze S128x1536 squeezes_S1x128x1536_S128x1536
  Prog.lift (.waitDma2 a11.sem a9 v640 (Memref.isWhole_whole _).wordExact ((View.wordExact_bits rfl).reshape _ _))
  pure ⟨⟩

theorem zwait_step (c : Dev nD) (g : Fin 6 → BitVec 32) (PG) (z : S128x1536.Idx → Elt F .f32) (n : ℕ) (hn : n < 40 * zr g 6)
    (off : Fin 3 → ℕ) (inb) :
    ZW c g PG z n ⊢ WP c (zwait (F := F) off inb) (fun _ => ZW c g PG z (n + 1)) := by
  unfold ZW
  iintro ⟨HB, %W, HW⟩
  unfold WP zwait
  iapply (Transfers.wp_waitBatchMul (countersEmb (U := Pipeline.UD sig nD τ)) Variants.none (c : Thread nD τ) none () (N := NZ) 1
     (srcw := a9) (D := zD c g PG z) (j := 40 * zr g 6) (u := n * NZ) (W := W) (by rw [Nat.one_mul]) ?_) $$ [HB HW]
  · have : (n + 1) * NZ ≤ (40 * zr g 6) * NZ := Nat.mul_le_mul_right _ hn
    rw [Nat.one_mul, Nat.mul_comm NZ]
    have h2 : (n + 1) * NZ = n * NZ + NZ := Nat.succ_mul _ _
    omega
  · isplitl [HB]; · iexact HB
    iexact HW
  · iintro ⟨HB, HW⟩
    simp only [Prog.bind]
    sl_step
    isplitl [HB]
    · rw [show (n + 1) * NZ = n * NZ + 1 * NZ from Nat.add_mul _ _ _]
      iexact HB
    · iexists _; iexact HW

/-- A whole group's waits. -/
theorem wseg (c : Dev nD) (g : Fin 6 → BitVec 32) (PG) (z : S128x1536.Idx → Elt F .f32) (e : Fin 6)
    (lp : Scf.Loop 32) (hok : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zwait (off k) (inb k))
    (b : Prop) [Decidable b] (hbk : b ↔ kt g e = 0) :
    ZW c g PG z (40 * zr g e.val) ⊢ WP c (if b then ((Scf.Loop.for lp hok () body) >>= fun _ => pure PUnit.unit) else pure PUnit.unit)
      (fun _ => ZW c g PG z (40 * zr g (e.val + 1))) := by
  rw [zr_succ]
  by_cases h : kt g e = 0
  · rw [if_pos (hbk.2 h), if_pos h, Nat.mul_add]
    unfold WP
    rw [wp_bind]
    refine BIBase.Entails.trans ?_ (Scf.wp_for _ _ _ lp.lb lp.ub lp.st hok () body (fun k _ => ZW c g PG z (40 * zr g e.val + k)) ?_)
    · iintro H
      isplitl [H]; · iexact H
      iintro %a H
      rw [wp_pure]
      imodintro
      rw [show Scf.trips lp.lb lp.ub lp.st = 40 from ht]
      iexact H
    · intro k acc
      rw [hb]
      have hk : k.val < 40 := lt_of_lt_of_eq k.isLt ht
      exact zwait_step c g PG z _ (zn_lt g h ⟨k.val, hk⟩) _ _
  · rw [if_neg (fun hh => h (hbk.1 hh)), if_neg h, Nat.add_zero]
    unfold WP
    rw [wp_pure]
    iintro H
    imodintro
    iexact H

theorem todo_zero (g : Fin 6 → BitVec 32) : todo g 0 = Finset.univ.filter fun p => kt g p.1 = 0 := by
  simp [todo]

/-- The zero copies at their start: the blocks of the groups without a stripe, the block of zeros, the cell at zero. -/
theorem z_start (c : Dev nD) (g : Fin 6 → BitVec 32) (PG) (z : S128x1536.Idx → Elt F .f32) :
    iprop(semVal ((c : Thread nD τ), SemLoc.dma a11.sem) 0 ∗ (bigSep (Finset.univ.filter fun p : Fin 6 × Fin 40 => kt g p.1 = 0) (own (F := F) c g))
      ∗ (a9.view.loc (c : Thread nD τ) ↦[a9.view.set]{fullShare} z))
    ⊢ |={Set.univ}=> iprop(ZS c g PG z 0 ∗ (a9.view.loc (c : Thread nD τ) ↦[a9.view.set]{Transfers.shareDrop fullShare (40 * zr g 6)} z)) := by
  iintro ⟨Hc, Ho, Hz⟩
  imod (Transfers.batch_alloc' (Lvl := ℕ) (countersEmb (U := Pipeline.UD sig nD τ)) (c : Thread nD τ) () NZ (zD c g PG z) (sm := .dma a11.sem) (E := Set.univ)) $$ Hc with HB
  ihave Hz' := (Transfers.pointsTo_toks_range fullShare (40 * zr g 6)).1 $$ Hz
  icases Hz' with ⟨Hr, Ht⟩
  imodintro
  unfold ZS
  isplitr [Hr]
  · isplitl [HB]; · iexact HB
    isplitl [Ho]; · rw [todo_zero]; iexact Ho
    rw [show Finset.Ico 0 (40 * zr g 6) = Finset.range (40 * zr g 6) from (Finset.range_eq_Ico _).symm]
    iexact Ht
  · iexact Hr

/-- All issued: the waits may begin. -/
theorem z_turn (c : Dev nD) (g : Fin 6 → BitVec 32) (PG) (z : S128x1536.Idx → Elt F .f32) (W) :
    iprop(ZS c g PG z (40 * zr g 6) ∗ owes (c : Thread nD τ) 0 W) ⊢ ZW c g PG z 0 := by
  unfold ZS ZW
  iintro ⟨⟨HB, -, -⟩, HW⟩
  isplitl [HB]
  · rw [Nat.zero_mul]; iexact HB
  · iexists W; iexact HW

/-- All waited for: every block of a group without a stripe at what is claimed of it, the block of zeros back, the
    cell at zero. -/
theorem z_end (c : Dev nD) (g : Fin 6 → BitVec 32) (PG) (z : S128x1536.Idx → Elt F .f32) :
    iprop(ZW c g PG z (40 * zr g 6) ∗ (a9.view.loc (c : Thread nD τ) ↦[a9.view.set]{Transfers.shareDrop fullShare (40 * zr g 6)} z))
    ⊢ |={Set.univ}=> iprop(semVal ((c : Thread nD τ), SemLoc.dma a11.sem) 0
      ∗ (bigSep (Finset.univ.filter fun p : Fin 6 × Fin 40 => kt g p.1 = 0) (fin (F := F) c g PG))
      ∗ (a9.view.loc (c : Thread nD τ) ↦[a9.view.set]{fullShare} z) ∗ (∃ W, owes (c : Thread nD τ) 0 W)) := by
  unfold ZW
  iintro ⟨⟨HB, HW⟩, Hr⟩
  rw [show 40 * zr g 6 * NZ = NZ * (40 * zr g 6) from Nat.mul_comm _ _]
  imod (Transfers.batch_collect' (countersEmb (U := Pipeline.UD sig nD τ)) (c : Thread nD τ) (show 0 < NZ by decide)) $$ HB with ⟨HD, Hc⟩
  have hD : bigSep Finset.univ (zD (F := F) c g PG z) ⊢ iprop((bigSep (Finset.univ.filter fun p : Fin 6 × Fin 40 => kt g p.1 = 0) (fin (F := F) c g PG))
      ∗ (bigSep (Finset.range (40 * zr g 6)) (ztok c z))) := by
    unfold zD
    refine (Entails.of_eq (bigSep_sep _ _ _)).trans (BIClass.sep_mono ?_ ?_)
    · refine BIBase.Entails.trans (bigSep_biUnion _ _) (Entails.of_eq ?_)
      congr 1
      ext p
      simp only [Finset.mem_biUnion, fiber, Finset.mem_filter, Finset.mem_univ, true_and]
      constructor
      · rintro ⟨t, h, _⟩; exact h
      · intro h; exact ⟨⟨zn g p, zn_lt g h p.2⟩, h, rfl⟩
    · refine Entails.of_eq ?_
      have hm : Finset.range (40 * zr g 6) = (Finset.univ : Finset (Fin (40 * zr g 6))).map Fin.valEmbedding := by
        ext x
        simp only [Finset.mem_range, Finset.mem_map, Finset.mem_univ, true_and]
        exact ⟨fun h => ⟨⟨x, h⟩, rfl⟩, fun ⟨y, h⟩ => h ▸ y.isLt⟩
      rw [hm, bigSep_map]; rfl
  ihave HD' := hD $$ HD
  icases HD' with ⟨Hf, Ht⟩
  unfold ztok
  ihave Hz := (Transfers.pointsTo_toks_range fullShare (40 * zr g 6)).2 $$ [Hr Ht]
  · isplitl [Hr]; · iexact Hr
    iexact Ht
  imodintro
  isplitl [Hc]; · iexact Hc
  isplitl [Hf]; · iexact Hf
  isplitl [Hz]; · iexact Hz
  iexact HW

end Cert.Kernel.Hand

end
-- ==== Proof.K.Tab.lean ====
module

public import proofs.«01_k».proof.Proof.K.Zero

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

/-- The table's contents once it is built. -/
def tabF (g : Fin 6 → BitVec 32) : S5x6.Idx → Elt F .i32 := fun i => T g (i 0) (i 1)

/-- The table, held. -/
def Tab (c : Dev nD) (g : Fin 6 → BitVec 32) : sProp 𝕄 :=
  iprop(a10.view.loc (c : Thread nD τ) ↦{fullShare} (tabF (F := F) g))

theorem tinb (r : Fin 5) (e : Fin 6) : ∀ a, (![r.val, e.val] : Fin 2 → Nat) a + S1x1.size a ≤ S5x6.size a := by
  have := r.isLt; have := e.isLt; intro a; fin_cases a
  · show r.val + 1 ≤ 5; omega
  · show e.val + 1 ≤ 6; omega

/-- Reading an entry of the table. -/
def tload (r : Fin 5) (e : Fin 6) : Prog (TpuEff nD τ sig (Elt F) Λ₀ .tc) (Elt F .i32) :=
  smemLoad a10 (Rect.unit (s := S5x6) ![r.val, e.val] S1x1.size (tinb r e)) numel1_S1x1 rfl

theorem tab_read (g : Fin 6 → BitVec 32) (r : Fin 5) (e : Fin 6) (inb) (x : S1x1.Idx) :
    View.readAt (Elt F) a10.view (Rect.unit (s := S5x6) ![r.val, e.val] S1x1.size inb).toLoadRect (tabF (F := F) g) x = T g r e := by
  show tabF (F := F) g _ = _
  unfold tabF
  have h0 : (x 0).val = 0 := by have := (x 0).isLt; have h : (x 0).val < 1 := this; omega
  have h1 : (x 1).val = 0 := by have := (x 1).isLt; have h : (x 1).val < 1 := this; omega
  congr 1
  · apply Fin.ext; show r.val + 1 * (x 0).val = r.val; omega
  · apply Fin.ext; show e.val + 1 * (x 1).val = e.val; omega

theorem tload_bind {β : Type} (c : Dev nD) (g : Fin 6 → BitVec 32) (r : Fin 5) (e : Fin 6) (k : Elt F .i32 → Prog (TpuEff nD τ sig (Elt F) Λ₀ .tc) β)
    (Q : β → sProp 𝕄) (R : sProp 𝕄) (h : iprop(Tab c g ∗ R) ⊢ WP c (k (T g r e)) Q) :
    iprop(Tab c g ∗ R) ⊢ WP c (tload (F := F) r e >>= k) Q := by
  unfold Tab at *
  iintro ⟨HT, HR⟩
  unfold tload WP
  sl_exec
  rw [show tload_bind.sl.r g r e = T g r e from tab_read g r e _ _]
  iapply h
  isplitl [HT]; · iexact HT
  iexact HR

end Cert.Kernel.Hand

end
-- ==== Proof.K.Rhs.lean ====
module

public import proofs.«01_k».proof.Proof.K.Tab

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

/-- The 128 rows of the second operand that a trip reads. -/
theorem x4inb (n : ℕ) (h : n ≤ 10) : ∀ a, (![128 * n, 0] : Fin 2 → Nat) a + S128x1536.size a ≤ S1408x1536.size a := by
  intro a; fin_cases a
  · show 128 * n + 128 ≤ 1408; omega
  · show 0 + 1536 ≤ 1536; omega

/-- The 128 rows of the gathered operand that a trip writes. -/
theorem r6inb (n : ℕ) (h : n ≤ 21) : ∀ a, (![128 * n, 0] : Fin 2 → Nat) a + S128x1536.size a ≤ S2816x1536.size a := by
  intro a; fin_cases a
  · show 128 * n + 128 ≤ 2816; omega
  · show 0 + 1536 ≤ 1536; omega

/-- The stripe numbers of a block of rows, two rows to a line. -/
def pay3 (k : ℕ) (v644 : Elt F .i32) : IVec S64x1536 32 :=
  k0_pay2 (F := F) 6#32 1#32 0#32 0#32 1#32 ⟨k % 12, by show k % 12 < 12; omega⟩ v644

/-- What a trip writes: the block's rows of the group's stripes, zero elsewhere. -/
def rv (g : Fin 6 → BitVec 32) (x4 : S1408x1536.Idx → Elt F .bf16) (e : Fin 6) (j : ℕ) : FVec F S128x1536 .bf16 :=
  let x := View.readAt (Elt F) a4.view (Rect.unit (s := S1408x1536) ![128 * min (g0 g e.val + j) 10, 0] S128x1536.size (x4inb _ (Nat.min_le_right _ _))).toLoadRect x4
  k0_pay47 (k0_pay1 x) (pay3 (F := F) j (T g 1 e)) (T g 3 e) (T g 4 e)

/-- The gathered operand after `j` blocks of group `e`: every block written so far holds its rows. -/
def Rf (g : Fin 6 → BitVec 32) (x4 : S1408x1536.Idx → Elt F .bf16) (e j : ℕ) (f6 : S2816x1536.Idx → Elt F .bf16) : Prop :=
  ∀ (e' : Fin 6) (j' : ℕ), j' < 2 * kt g e' → (e'.val < e ∨ (e'.val = e ∧ j' < j)) →
    ∀ (y : S2816x1536.Idx) (x : S128x1536.Idx), (y 0).val = 128 * (2 * sl g e'.val + j') + (x 0).val → (y 1).val = (x 1).val →
      a6.view.read (Elt F) f6 y = rv g x4 e' j' x

theorem Rf_next (g : Fin 6 → BitVec 32) (x4 : S1408x1536.Idx → Elt F .bf16) (e : Fin 6) (f6 : S2816x1536.Idx → Elt F .bf16)
    (h : Rf g x4 e.val (2 * kt g e) f6) : Rf g x4 (e.val + 1) 0 f6 := by
  intro e' j' hj hc
  refine h e' j' hj ?_
  rcases hc with hc | ⟨_, hc⟩
  · rcases Nat.lt_or_ge e'.val e.val with hl | hl
    · exact .inl hl
    · have : e' = e := Fin.ext (by omega)
      subst this
      exact .inr ⟨rfl, hj⟩
  · omega

theorem Rf_step (g : Fin 6 → BitVec 32) (x4 : S1408x1536.Idx → Elt F .bf16) (e : Fin 6) (j : ℕ) (hj : j < 2 * kt g e) (f6 : S2816x1536.Idx → Elt F .bf16)
    (h : Rf g x4 e.val j f6) (off : Fin 2 → ℕ) (inb) (ho : off = ![128 * (2 * sl g e.val + j), 0]) :
    Rf g x4 e.val (j + 1) (a6.view.writes (Elt F) f6 [⟨Rect.unit (s := S2816x1536) off S128x1536.size inb, rv g x4 e j⟩]) := by
  intro e' j' hj' hc y x h0 h1
  have hx : (x 0).val < 128 := (x 0).isLt
  by_cases hs : e' = e ∧ j' = j
  · obtain ⟨rfl, rfl⟩ := hs
    exact View.read_writes_cons_rows_of_mem (d := ![2816, 1536]) a6.view f6 inb (rv g x4 e' j') [] y x ho h0 h1
  · have hn : 2 * sl g e'.val + j' < 2 * sl g e.val + j := by
      rcases hc with hc | ⟨hc, hc'⟩
      · have := sl_lt g hc; omega
      · have : e' = e := Fin.ext hc
        subst this
        have : j' ≠ j := fun hh => hs ⟨rfl, hh⟩
        omega
    rw [View.read_writes_cons_rows_of_not_mem (d := ![2816, 1536]) (W := 128) a6.view f6 inb (rv g x4 e j) [] y ho rfl (.inl (by omega))]
    refine h e' j' hj' ?_ y x h0 h1
    rcases hc with hc | ⟨hc, hc'⟩
    · exact .inl hc
    · refine .inr ⟨hc, ?_⟩
      have : e' = e := Fin.ext hc
      subst this
      have : j' ≠ j := fun hh => hs ⟨rfl, hh⟩
      omega

/-- One trip of the gathering loop, as the body spells it. -/
def rtrip (e : Fin 6) (P7 : BitVec 32 → Prop) (d7 : ∀ v, Decidable (P7 v)) (o7 : BitVec 32 → Fin 2 → ℕ)
    (h7 : ∀ v, P7 v → ∀ a, o7 v a + S128x1536.size a ≤ S1408x1536.size a) (v635 : BitVec 32) (p3 : Elt F .i32 → IVec S64x1536 32)
    (P8 : BitVec 32 → Prop) (d8 : ∀ v, Decidable (P8 v)) (o8 : BitVec 32 → Fin 2 → ℕ)
    (h8 : ∀ v, P8 v → ∀ a, o8 v a + S128x1536.size a ≤ S2816x1536.size a)
    (k8 : ∀ v (h : P8 v), (Rect.unit (s := S2816x1536) (o8 v) S128x1536.size (h8 v h)).PackedRows (EltTy.packing .bf16)) :
    Prog (TpuEff nD τ sig (Elt F) Λ₀ .tc) Unit := do
  let ⟨v635, v643, v673⟩ : Σ' (v635 : BitVec 32) (v643 : IVec S64x1536 32), IVec S64x1536 32 ← (do
    let v636 : Elt F .i32 ← tload 1 e
    have hw : P7 v636 := (← Prog.lift (TpuEff.assume (P7 v636) (d7 v636))).down
    let v642 : Vec F S128x1536 .bf16 ← Prog.lift (.load a4 (Rect.unit (s := S1408x1536) (o7 v636) S128x1536.size (h7 v636 hw)).toLoadRect (View.loadsAt_vmem h_S128x1536))
    let v644 : Elt F .i32 ← tload 1 e
    pure ⟨v635, k0_pay1 v642, p3 v644⟩)
  let v674 : Elt F .i32 ← tload 3 e
  let v677 : Elt F .i32 ← tload 4 e
  let v684 : Elt F .i32 ← tload 2 e
  have hw : P8 v684 := (← Prog.lift (TpuEff.assume (P8 v684) (d8 v684))).down
  let v690 : Vec F S128x1536 .bf16 ← Prog.lift (.load a6 (Rect.unit (s := S2816x1536) (o8 v684) S128x1536.size (h8 v684 hw)).toLoadRect (View.loadsAt_vmem h_S128x1536))
  Prog.lift (.store a6 (Rect.unit (s := S2816x1536) (o8 v684) S128x1536.size (h8 v684 hw)) (k0_pay47 v643 v673 v674 v677) Finset.univ
    (View.stores_vmem h_S128x1536 ((isWhole_whole _).storeExact_slice rfl _ (k8 v684 hw)) (fun _ => rfl)) (.inl rfl))
  pure ⟨⟩

theorem t7_trip (V : Elt F .i32) (v513 : Elt F .i32) (hw : k0_chk1 V) (k : Fin (k0_t7_loop V).trips) (u : Unit) :
  k0_t7_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 v513 V hw k u
   = rtrip 0 (k0_chk2 V k) (k0_chk2.dec V k) (k0_off7 V k) (k0_off7_inb V k) (Scalar.addi 0#32 (Scalar.muli (Scf.iv 0#32 1#32 k) 1#32)) (k0_pay2 (F := F) V 1#32 0#32 0#32 1#32 k)
      (k0_chk3 V k) (k0_chk3.dec V k) (k0_off8 V k) (k0_off8_inb V k) (k0_off8_packedbf16 V k) := by
  unfold k0_t7_body; rw [k0_part1_eq_skeleton]; unfold k0_part1_skel rtrip; rfl

/-- What the gathering loops hold. -/
def RS (c : Dev nD) (g : Fin 6 → BitVec 32) (x4 : S1408x1536.Idx → Elt F .bf16) (e j : ℕ) : sProp 𝕄 :=
  iprop(Tab c g ∗ (a4.view.loc (c : Thread nD τ) ↦{fullShare} x4) ∗ (∃ f6, ⌜Rf g x4 e j f6⌝ ∗ (a6.view.loc (c : Thread nD τ) ↦{fullShare} f6)))

theorem rtrip_fin (g : Fin 6 → BitVec 32) (x4 : S1408x1536.Idx → Elt F .bf16) (e : Fin 6) (j : ℕ) (hj : j < 2 * kt g e)
    (f6 : S2816x1536.Idx → Elt F .bf16) (hf : Rf g x4 e.val j f6) (o7 : BitVec 32 → Fin 2 → ℕ) (p3 : Elt F .i32 → IVec S64x1536 32) (o8 : BitVec 32 → Fin 2 → ℕ)
    (ho7 : o7 (T g 1 e) = ![128 * min (g0 g e.val + j) 10, 0])
    (hp3 : p3 (T g 1 e) = pay3 (F := F) j (T g 1 e)) (ho8 : o8 (T g 2 e) = ![128 * (2 * sl g e.val + j), 0])
    (w1 w2 w3 w4 : Elt F .i32) (h1 : w1 = T g 1 e) (h2 : w2 = T g 2 e) (h3 : w3 = T g 3 e) (h4 : w4 = T g 4 e) (inb7 inb8) :
    Rf g x4 e.val (j + 1) (a6.view.writes (Elt F) f6 [⟨Rect.unit (s := S2816x1536) (o8 w2) S128x1536.size inb8,
      k0_pay47
        (k0_pay1 (View.readAt (Elt F) a4.view (Rect.unit (s := S1408x1536) (o7 w1) S128x1536.size inb7).toLoadRect x4))
        (p3 w1) w3 w4⟩]) := by
  subst h1 h2 h3 h4
  have hr : ∀ (off : Fin 2 → ℕ) (inb), off = ![128 * min (g0 g e.val + j) 10, 0] →
      View.readAt (Elt F) a4.view (Rect.unit (s := S1408x1536) off S128x1536.size inb).toLoadRect x4
        = View.readAt (Elt F) a4.view (Rect.unit (s := S1408x1536) ![128 * min (g0 g e.val + j) 10, 0] S128x1536.size (x4inb _ (Nat.min_le_right _ _))).toLoadRect x4 := by
    intro off inb ho; subst ho; rfl
  rw [hr _ _ ho7, hp3]
  exact Rf_step g x4 e j hj f6 hf (o8 (T g 2 e)) inb8 ho8

theorem rtrip_step (c : Dev nD) (g : Fin 6 → BitVec 32) (x4 : S1408x1536.Idx → Elt F .bf16) (e : Fin 6) (j : ℕ) (hj : j < 2 * kt g e)
    (P7 d7 o7 h7 v635 p3 P8 d8 o8 h8 k8) (hP7 : P7 (T g 1 e)) (ho7 : o7 (T g 1 e) = ![128 * min (g0 g e.val + j) 10, 0])
    (hp3 : p3 (T g 1 e) = pay3 (F := F) j (T g 1 e)) (hP8 : P8 (T g 2 e)) (ho8 : o8 (T g 2 e) = ![128 * (2 * sl g e.val + j), 0]) :
    RS c g x4 e.val j ⊢ WP c (rtrip (F := F) e P7 d7 o7 h7 v635 p3 P8 d8 o8 h8 k8) (fun _ => RS c g x4 e.val (j + 1)) := by
  unfold RS
  iintro ⟨HT, H4, %f6, %hf, H6⟩
  unfold WP rtrip tload Tab
  sl_exec
  sl_step
  isplitl [HT]; · iexact HT
  isplitl [H4]; · iexact H4
  iexists _
  isplitr
  rotate_left
  · iexact H6
  · ipureintro
    exact rtrip_fin g x4 e j hj f6 hf o7 p3 o8 ho7 hp3 ho8 _ _ _ _ (tab_read g 1 e (tinb 1 e) _) (tab_read g 2 e (tinb 2 e) _) (tab_read g 3 e (tinb 3 e) _) (tab_read g 4 e (tinb 4 e) _) _ _

theorem loop7_facts : ∀ K : Fin 7, (k0_t7_loop (BitVec.ofNat 32 K.val)).trips = 2 * K.val ∧ (k0_t8_loop (BitVec.ofNat 32 K.val)).trips = 0
    ∧ k0_chk1 (BitVec.ofNat 32 K.val) := by decide +kernel

theorem loop7 {g : Fin 6 → BitVec 32} (h : Ok g) (e : Fin 6) : (k0_t7_loop (T g 0 e)).trips = 2 * kt g e ∧ (k0_t8_loop (T g 0 e)).trips = 0 ∧ k0_chk1 (T g 0 e) :=
  loop7_facts ⟨kt g e, by have := kt_le h e; omega⟩

/-- The rows a trip reads start here: the row number as the body computes it. -/
def row7 (n : ℕ) (v : BitVec 32) : BitVec 32 :=
  Scalar.muli (Scalar.minsi (Scalar.addi v (Scalar.addi 0#32 (Scalar.muli (Scf.iv 0#32 1#32 n) 1#32))) 10#32) 128#32
/-- The rows a trip writes start here. -/
def row8 (n : ℕ) (v : BitVec 32) : BitVec 32 :=
  Scalar.addi (Scalar.muli v 256#32) (Scalar.muli (Scalar.addi 0#32 (Scalar.muli (Scf.iv 0#32 1#32 n) 1#32)) 128#32)

theorem row7_facts : ∀ (n : Fin 12) (G : Fin 11), (row7 n.val (BitVec.ofNat 32 G.val)).toNat = 128 * min (G.val + n.val) 10 := by decide +kernel
theorem row8_facts : ∀ (n : Fin 12) (G : Fin 11), (row8 n.val (BitVec.ofNat 32 G.val)).toNat = 128 * (2 * G.val + n.val) := by decide +kernel

theorem even_packed (n : ℕ) (inb) : (Rect.unit (s := S2816x1536) ![128 * n, 0] S128x1536.size inb).PackedRows (EltTy.packing .bf16) := by
  refine .inr ⟨by decide, rfl, .inl ⟨?_, ⟨64, rfl⟩⟩⟩
  exact ⟨64 * n, by show 128 * n = 2 * (64 * n); omega⟩

/-- A trip of group `e`'s gathering loop, at the words of the table. -/
theorem trip7 (c : Dev nD) {g : Fin 6 → BitVec 32} (h : Ok g) (x4 : S1408x1536.Idx → Elt F .bf16) (e : Fin 6) (V : BitVec 32) (hV : V = T g 0 e)
    (k : Fin (k0_t7_loop V).trips) (v635) :
    RS c g x4 e.val k.val ⊢ WP c (rtrip (F := F) e (k0_chk2 V k) (k0_chk2.dec V k) (k0_off7 V k) (k0_off7_inb V k) v635 (k0_pay2 (F := F) V 1#32 0#32 0#32 1#32 k)
      (k0_chk3 V k) (k0_chk3.dec V k) (k0_off8 V k) (k0_off8_inb V k) (k0_off8_packedbf16 V k)) (fun _ => RS c g x4 e.val (k.val + 1)) := by
  subst hV
  have hk : k.val < 2 * kt g e := lt_of_lt_of_eq k.isLt (loop7 h e).1
  have h1 := g0_kt h e
  have h2 := g0_le h e
  have h3 := sl_kt h e
  have e7 : (row7 k.val (T g 1 e)).toNat = 128 * min (g0 g e.val + k.val) 10 := row7_facts ⟨k.val, by omega⟩ ⟨g0 g e.val, by omega⟩
  have e8 : (row8 k.val (T g 2 e)).toNat = 128 * (2 * sl g e.val + k.val) := row8_facts ⟨k.val, by omega⟩ ⟨sl g e.val, by omega⟩
  have o7 : k0_off7 (T g 0 e) k (T g 1 e) = ![128 * min (g0 g e.val + k.val) 10, 0] := by
    rw [← e7]; rfl
  have o8 : k0_off8 (T g 0 e) k (T g 2 e) = ![128 * (2 * sl g e.val + k.val), 0] := by
    rw [← e8]; rfl
  refine rtrip_step c g x4 e k.val hk _ _ _ _ _ _ _ _ _ _ _ ⟨?_, ?_⟩ o7 ?_ ⟨?_, ?_, ?_⟩ o8
  · show 128 ∣ (row7 k.val (T g 1 e)).toNat
    rw [e7]; exact ⟨_, rfl⟩
  · rw [o7]; exact x4inb _ (Nat.min_le_right _ _)
  · unfold pay3
    have hm : k.val % 12 = k.val := by omega
    unfold k0_pay2
    simp only [hm]
  · show 128 ∣ (row8 k.val (T g 2 e)).toNat
    rw [e8]; exact ⟨_, rfl⟩
  · rw [o8]; exact r6inb _ (by omega)
  · intro inb
    have : ∀ (off : Fin 2 → ℕ) (inb), off = ![128 * (2 * sl g e.val + k.val), 0] →
        (Rect.unit (s := S2816x1536) off S128x1536.size inb).PackedRows (EltTy.packing .bf16) := by
      intro off inb ho; subst ho; exact even_packed _ _
    exact this _ _ o8

/-- A group's two counted loops: all its trips, then none. -/
theorem rseg (c : Dev nD) {g : Fin 6 → BitVec 32} (x4 : S1408x1536.Idx → Elt F .bf16) (e : Fin 6) {β : Type} (lp lp' : Scf.Loop 32) (hok hok') (body body')
    (hlp : lp.trips = 2 * kt g e) (hlp' : lp'.trips = 0)
    (hb : ∀ (k : Fin lp.trips) (u : Unit), RS c g x4 e.val k.val ⊢ WP c (body k u) (fun _ => RS c g x4 e.val (k.val + 1)))
    (kont : Prog (TpuEff nD τ sig (Elt F) Λ₀ .tc) β) (Q : β → sProp 𝕄) (R : sProp 𝕄) (hk : iprop(RS c g x4 (e.val + 1) 0 ∗ R) ⊢ WP c kont Q) :
    iprop(RS c g x4 e.val 0 ∗ R) ⊢ WP c (do
      Scf.Loop.for lp hok () body
      Scf.Loop.for lp' hok' () body'
      kont) Q := by
  unfold WP at *
  rw [wp_bind]
  iintro ⟨HS, HR⟩
  iapply (Scf.wp_for _ _ _ lp.lb lp.ub lp.st hok () body (fun n _ => RS c g x4 e.val n) (fun k u => hb k u))
  isplitl [HS]; · iexact HS
  iintro %a HS
  rw [wp_bind]
  iapply (Scf.wp_for _ _ _ lp'.lb lp'.ub lp'.st hok' () body' (fun n _ => RS c g x4 (e.val + 1) 0)
    (fun k u => absurd (lt_of_lt_of_eq k.isLt hlp') (Nat.not_lt_zero _)))
  isplitl [HS]
  · rw [show Scf.trips lp.lb lp.ub lp.st = 2 * kt g e from hlp]
    unfold RS
    icases HS with ⟨HT, H4, %f6, %hf, H6⟩
    isplitl [HT]; · iexact HT
    isplitl [H4]; · iexact H4
    iexists f6
    isplitr
    · ipureintro; exact Rf_next g x4 e f6 hf
    · iexact H6
  iintro %b HS
  iapply hk
  isplitl [HS]; · iexact HS
  iexact HR

theorem t7_ok (c : Dev nD) {g : Fin 6 → BitVec 32} (h : Ok g) (x4 : S1408x1536.Idx → Elt F .bf16) (V v513 : Elt F .i32) (hV : V = T g 0 0) (hw) (k) (u : Unit) :
  RS c g x4 0 k.val ⊢ WP c (k0_t7_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 v513 V hw k u) (fun _ => RS c g x4 0 (k.val + 1)) := by
  rw [t7_trip]; exact trip7 c h x4 0 V hV k _

theorem t9_ok (c : Dev nD) {g : Fin 6 → BitVec 32} (h : Ok g) (x4 : S1408x1536.Idx → Elt F .bf16) (V : Elt F .i32) (w1 w2) (hV : V = T g 0 1) (hw) (k) (u : Unit) :
  RS c g x4 1 k.val ⊢ WP c (k0_t9_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 V hw w1 w2 k u) (fun _ => RS c g x4 1 (k.val + 1)) := by
  have := trip7 c h x4 1 V hV k (Scalar.addi 0#32 (Scalar.muli (Scf.iv 0#32 1#32 k) 1#32))
  unfold k0_t9_body; rw [k0_part3_eq_skeleton]; exact this

theorem t11_ok (c : Dev nD) {g : Fin 6 → BitVec 32} (h : Ok g) (x4 : S1408x1536.Idx → Elt F .bf16) (V : Elt F .i32) (U : Elt F .i32) (hU : k0_chk6 U) (w1 w2) (hV : V = T g 0 2) (hw) (k) (u : Unit) :
  RS c g x4 2 k.val ⊢ WP c (k0_t11_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 U hU w1 w2 V hw k u) (fun _ => RS c g x4 2 (k.val + 1)) := by
  have := trip7 c h x4 2 V hV k (Scalar.addi 0#32 (Scalar.muli (Scf.iv 0#32 1#32 k) 1#32))
  unfold k0_t11_body; rw [k0_part5_eq_skeleton]; exact this

theorem t13_ok (c : Dev nD) {g : Fin 6 → BitVec 32} (h : Ok g) (x4 : S1408x1536.Idx → Elt F .bf16) (V : Elt F .i32) (w1) (hV : V = T g 0 3) (hw) (k) (u : Unit) :
  RS c g x4 3 k.val ⊢ WP c (k0_t13_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 V hw w1 1#32 k u) (fun _ => RS c g x4 3 (k.val + 1)) := by
  have := trip7 c h x4 3 V hV k (Scalar.addi 0#32 (Scalar.muli (Scf.iv 0#32 1#32 k) 1#32))
  unfold k0_t13_body; rw [k0_part7_eq_skeleton]; exact this

theorem t15_ok (c : Dev nD) {g : Fin 6 → BitVec 32} (h : Ok g) (x4 : S1408x1536.Idx → Elt F .bf16) (V : Elt F .i32) (U : Elt F .i32) (hU : k0_chk16 U) (w1 w2) (hV : V = T g 0 4) (hw) (k) (u : Unit) :
  RS c g x4 4 k.val ⊢ WP c (k0_t15_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 U hU w1 w2 V hw k u) (fun _ => RS c g x4 4 (k.val + 1)) := by
  have := trip7 c h x4 4 V hV k (Scalar.addi 0#32 (Scalar.muli (Scf.iv 0#32 1#32 k) 1#32))
  unfold k0_t15_body; rw [k0_part9_eq_skeleton]; exact this

theorem t17_ok (c : Dev nD) {g : Fin 6 → BitVec 32} (h : Ok g) (x4 : S1408x1536.Idx → Elt F .bf16) (V : Elt F .i32) (w1) (hV : V = T g 0 5) (hw) (k) (u : Unit) :
  RS c g x4 5 k.val ⊢ WP c (k0_t17_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 V hw 1#32 0#32 0#32 1#32 w1 k u) (fun _ => RS c g x4 5 (k.val + 1)) := by
  have := trip7 c h x4 5 V hV k (Scalar.addi 0#32 (Scalar.muli (Scf.iv 0#32 1#32 k) 1#32))
  unfold k0_t17_body; rw [k0_part11_eq_skeleton]; exact this

end Cert.Kernel.Hand

end
-- ==== Proof.K.Ring.lean ====
module

public import proofs.«01_k».proof.Proof.K.Rhs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

theorem sinb (k : Fin 4) : ∀ a, (![k.val, 0, 0] : Fin 3 → Nat) a + S1x512x1536.size a ≤ S4x512x1536.size a := by
  have := k.isLt; intro a; fin_cases a
  · show k.val + 1 ≤ 4; omega
  · show 0 + 512 ≤ 512; omega
  · show 0 + 1536 ≤ 1536; omega
theorem cinb (k : Fin 4) : ∀ a, (![k.val] : Fin 1 → Nat) a + S1.size a ≤ S4.size a := by
  have := k.isLt; intro a; fin_cases a
  show k.val + 1 ≤ 4; omega

/-- A slot of the output ring. -/
def oslot (k : Fin 4) : Memref sig .tc .vmem S512x1536 .f32 :=
  (a8.slice (Rect.unit (s := S4x512x1536) ![k.val, 0, 0] S1x512x1536.size (sinb k)) (fun _ => rfl)).squeeze S512x1536 squeezes_S1x512x1536_S512x1536
/-- The slot's semaphore. -/
def ocell (k : Fin 4) : DmaSem sig := ((a12.slice (Rect.unit (s := S4) ![k.val] S1.size (cinb k))).squeeze S_ squeezes_S1_S_).sem

/-- The units one output copy credits. -/
abbrev NO : ℕ := (oblk 0 0).view.dmaCredit

/-- The elements of a slot. -/
def sset (k : Fin 4) : Finset S4x512x1536.Idx := Finset.univ.filter fun i => (i 0).val = k.val

theorem oslot_set (k : Fin 4) : (oslot k).view.set = sset k := by
  have h1 : (oslot k).view.set = (Rect.unit (s := S4x512x1536) ![k.val, 0, 0] S1x512x1536.size (sinb k)).set := by
    unfold oslot; exact (View.set_reshape _ _).trans (View.set_slice_whole _ _)
  rw [h1]
  ext i
  have hi : (i 2).val < 1536 := (i 2).isLt
  have hi1 : (i 1).val < 512 := (i 1).isLt
  simp only [Rect.mem_set_unit, sset, Finset.mem_filter, Finset.mem_univ, true_and]
  constructor
  · intro H
    have e0 : k.val ≤ (i 0).val ∧ (i 0).val < k.val + 1 := H 0
    omega
  · intro h0 a
    match a with
    | 0 => show k.val ≤ (i 0).val ∧ (i 0).val < k.val + 1; omega
    | 1 => show 0 ≤ (i 1).val ∧ (i 1).val < 0 + 512; omega
    | 2 => show 0 ≤ (i 2).val ∧ (i 2).val < 0 + 1536; omega

/-- A slot's elements, held. -/
def slotAt (c : Dev nD) (k : Fin 4) (f : S4x512x1536.Idx → Elt F .f32) : sProp 𝕄 :=
  iprop(a8.view.loc (c : Thread nD τ) ↦[sset k]{fullShare} f)

/-- What an output copy delivers. -/
def oD (c : Dev nD) (g : Fin 6 → BitVec 32) (PG : Fin 6 × Fin 40 → (S6x5120x1536.Idx → Elt F .f32) → Prop) (k : Fin 4) (p : Fin 6 × Fin 40) :
    Fin 1 → sProp 𝕄 := fun _ => iprop(fin c g PG p ∗ (∃ f, slotAt c k f))

instance slotAt_storable (c : Dev nD) (k : Fin 4) (f : S4x512x1536.Idx → Elt F .f32) : BI.Storable (upEmb : UEmb _ 𝕄) (slotAt (F := F) c k f) := by unfold slotAt; infer_instance
instance oD_storable (c : Dev nD) (g : Fin 6 → BitVec 32) (PG : Fin 6 × Fin 40 → (S6x5120x1536.Idx → Elt F .f32) → Prop) (k : Fin 4) (p : Fin 6 × Fin 40) (t : Fin 1) : BI.Storable (upEmb : UEmb _ 𝕄) (oD (F := F) c g PG k p t) := by
  unfold oD; infer_instance

theorem oD_out (c : Dev nD) (g : Fin 6 → BitVec 32) (PG : Fin 6 × Fin 40 → (S6x5120x1536.Idx → Elt F .f32) → Prop) (k : Fin 4) (p : Fin 6 × Fin 40) :
    bigSep Finset.univ (oD (F := F) c g PG k p) ⊢ iprop(fin c g PG p ∗ (∃ f, slotAt c k f)) := by
  rw [show (Finset.univ : Finset (Fin 1)) = {0} from rfl, bigSep_singleton]; rfl

/-- A slot at rest. -/
def idle (c : Dev nD) (k : Fin 4) : sProp 𝕄 := iprop(semVal ((c : Thread nD τ), SemLoc.dma (ocell k)) 0 ∗ (∃ f, slotAt (F := F) c k f))
/-- A slot whose copy into a block is on its way. -/
def busy (c : Dev nD) (g : Fin 6 → BitVec 32) (PG : Fin 6 × Fin 40 → (S6x5120x1536.Idx → Elt F .f32) → Prop) (k : Fin 4) (p : Fin 6 × Fin 40) : sProp 𝕄 :=
  Transfers.Batch (countersEmb (U := Pipeline.UD sig nD τ)) (c : Thread nD τ) (.dma (ocell k)) () NO (oD (F := F) c g PG k p) 1 0

/-- One wait for a slot, as the body spells it. -/
def owait (o43 : Fin 1 → ℕ) (i43 : ∀ a, o43 a + S1.size a ≤ S4.size a) (o44 : Fin 3 → ℕ) (i44 : ∀ a, o44 a + S1x512x1536.size a ≤ S4x512x1536.size a) :
    Prog (TpuEff nD τ sig (Elt F) Λ₀ .tc) PUnit := do
  let v740 : DmaSems sig S1 := a12.slice (Rect.unit (s := S4) o43 S1.size i43)
  let v741 : DmaSems sig S_ := v740.squeeze S_ squeezes_S1_S_
  let v742 : Memref sig .tc .hbm S1x512x1536 .f32 := a5.slice (Rect.unit (s := S6x5120x1536) ![0, 0, 0] S1x512x1536.size inb_S6x5120x1536_S1x512x1536_0_0_0) (fun _ => rfl)
  let v743 : Memref sig .tc .hbm S512x1536 .f32 := v742.squeeze S512x1536 squeezes_S1x512x1536_S512x1536
  let v744 : Memref sig .tc .vmem S1x512x1536 .f32 := a8.slice (Rect.unit (s := S4x512x1536) o44 S1x512x1536.size i44) (fun _ => rfl)
  let v745 : Memref sig .tc .vmem S512x1536 .f32 := v744.squeeze S512x1536 squeezes_S1x512x1536_S512x1536
  Prog.lift (.waitDma2 v741.sem v745 v743 ((View.wordExact_bits rfl).reshape _ _) ((View.wordExact_bits rfl).reshape _ _))
  pure ⟨⟩

theorem owait_step (c : Dev nD) (g : Fin 6 → BitVec 32) (PG) (k : Fin 4) (p : Fin 6 × Fin 40) (o43 i43 o44 i44) (h43 : o43 = ![k.val]) (h44 : o44 = ![k.val, 0, 0]) :
    iprop(busy (F := F) c g PG k p ∗ (∃ W, owes (c : Thread nD τ) 0 W)) ⊢ WP c (owait (F := F) o43 i43 o44 i44)
      (fun _ => iprop(idle c k ∗ fin c g PG p ∗ (∃ W, owes (c : Thread nD τ) 0 W))) := by
  subst h43 h44
  unfold busy
  iintro ⟨HB, %W, HW⟩
  unfold WP owait
  iapply (Transfers.wp_waitBatchMul (countersEmb (U := Pipeline.UD sig nD τ)) Variants.none (c : Thread nD τ) none () (N := NO) 1
     (srcw := oslot k) (D := oD c g PG k p) (j := 1) (u := 0) (W := W) (by rw [Nat.one_mul]) (by omega)) $$ [HB HW]
  · isplitl [HB]; · iexact HB
    iexact HW
  · iintro ⟨HB, HW⟩
    simp only [Prog.bind]
    rw [show 0 + 1 * NO = NO * 1 from by omega]
    imod (Transfers.batch_collect' (countersEmb (U := Pipeline.UD sig nD τ)) (c : Thread nD τ) (show 0 < NO by decide)) $$ HB with ⟨HD, Hc⟩
    ihave HD' := oD_out c g PG k p $$ HD
    icases HD' with ⟨Hf, Hs⟩
    sl_step
    unfold idle
    isplitl [Hc Hs]
    · isplitl [Hc]; · iexact Hc
      iexact Hs
    isplitl [Hf]; · iexact Hf
    iexists _; iexact HW

/-- One output copy, as the body spells it. -/
def oissue (o77 : Fin 1 → ℕ) (i77 : ∀ a, o77 a + S1.size a ≤ S4.size a) (o78 : Fin 3 → ℕ) (i78 : ∀ a, o78 a + S1x512x1536.size a ≤ S6x5120x1536.size a)
    (o79 : Fin 3 → ℕ) (i79 : ∀ a, o79 a + S1x512x1536.size a ≤ S4x512x1536.size a) : Prog (TpuEff nD τ sig (Elt F) Λ₀ .tc) PUnit := do
  let v741 : DmaSems sig S1 := a12.slice (Rect.unit (s := S4) o77 S1.size i77)
  let v742 : DmaSems sig S_ := v741.squeeze S_ squeezes_S1_S_
  let v743 : Memref sig .tc .hbm S1x512x1536 .f32 := a5.slice (Rect.unit (s := S6x5120x1536) o78 S1x512x1536.size i78) (fun _ => rfl)
  let v744 : Memref sig .tc .hbm S512x1536 .f32 := v743.squeeze S512x1536 squeezes_S1x512x1536_S512x1536
  let v745 : Memref sig .tc .vmem S1x512x1536 .f32 := a8.slice (Rect.unit (s := S4x512x1536) o79 S1x512x1536.size i79) (fun _ => rfl)
  let v746 : Memref sig .tc .vmem S512x1536 .f32 := v745.squeeze S512x1536 squeezes_S1x512x1536_S512x1536
  Prog.lift (.enqueueDma v746 (.here v744) (.dma v742.sem) ((View.wordExact_bits rfl).reshape _ _) ((View.wordExact_bits rfl).reshape _ _) ⟨Or.inl rfl, trivial⟩)
  pure ⟨⟩

theorem oissue_step (c : Dev nD) (g : Fin 6 → BitVec 32) (PG) (k : Fin 4) (e : Fin 6) (t : Fin 10) (h : kt g e ≠ 0) (f8 : S4x512x1536.Idx → Elt F .f32)
    (hPG : ∀ fd, PG (e, ⟨t.val, by omega⟩) ((oblk e t).view.write (Elt F) fd ((oslot k).view.read (Elt F) f8) Finset.univ))
    (o77 i77 o78 i78 o79 i79) (h77 : o77 = ![k.val]) (h78 : o78 = ![e.val, 512 * t.val, 0]) (h79 : o79 = ![k.val, 0, 0]) :
    iprop(semVal ((c : Thread nD τ), SemLoc.dma (ocell k)) 0 ∗ slotAt c k f8 ∗ own c g (e, ⟨t.val, by omega⟩)) ⊢ WP c (oissue (F := F) o77 i77 o78 i78 o79 i79)
      (fun _ => busy c g PG k (e, ⟨t.val, by omega⟩)) := by
  subst h77 h78 h79
  unfold own slotAt
  iintro ⟨Hc, Hs, %fd, Hd⟩
  unfold WP oissue
  imod (Transfers.batch_alloc' (Lvl := ℕ) (countersEmb (U := Pipeline.UD sig nD τ)) (c : Thread nD τ) () NO (oD c g PG k (e, ⟨t.val, by omega⟩)) (sm := .dma (ocell k)) (E := Set.univ)) $$ Hc with HB
  iapply (Transfers.wp_dmaBatch (countersEmb (U := Pipeline.UD sig nD τ)) Variants.none (c : Thread nD τ) none () NO
     (src := oslot k) (dst := oblk e t) (via := .same) (fs := f8) (fd := fd) (q := fullShare) (Sd := I g (e, ⟨t.val, by omega⟩))
     (D := oD c g PG k (e, ⟨t.val, by omega⟩)) (j := 0) (u := 0) rfl (oblk_set g e t h).subset (by omega) (Nat.zero_le _) ?_) $$ [Hs Hd HB]
  · unfold oD fin
    iintro ⟨H1, H2⟩
    isplitl [H1]
    · iexists _
      isplitr
      · ipureintro
        exact hPG fd
      · iexact H1
    · iexists _; unfold slotAt; rw [← oslot_set k]; iexact H2
  · isplitl [Hs]; · rw [← oslot_set k]; iexact Hs
    isplitl [Hd]; · iexact Hd
    iexact HB
  · iintro HB
    simp only [Prog.bind]
    sl_step
    unfold busy
    iexact HB

end Cert.Kernel.Hand

end
-- ==== Proof.K.Work.lean ====
module

public import proofs.«01_k».proof.Proof.K.Rhs
public import proofs.«01_k».proof.Proof.K.Ring
public import Idealize.ShloMosaic.Lib.Pointwise.Index

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

theorem sacc (k : Fin 4) (inb) : (a8.access (Rect.unit (s := S4x512x1536) ![k.val, 0, 0] S1x512x1536.size inb)).set ⊆ sset k := by
  intro i hi
  rw [show (a8.access (Rect.unit (s := S4x512x1536) ![k.val, 0, 0] S1x512x1536.size inb)).set = (Rect.unit (s := S4x512x1536) ![k.val, 0, 0] S1x512x1536.size inb).set from View.set_slice_whole _ _] at hi
  simp only [Rect.mem_set_unit] at hi
  have e0 : k.val ≤ (i 0).val ∧ (i 0).val < k.val + 1 := hi 0
  simp only [sset, Finset.mem_filter, Finset.mem_univ, true_and]
  omega

/-- What a load of a slot reads. -/
def rslot (k : Fin 4) (f8 : S4x512x1536.Idx → Elt F .f32) : Vec F S1x512x1536 .f32 :=
  View.readAt (Elt F) a8.view (Rect.unit (s := S4x512x1536) ![k.val, 0, 0] S1x512x1536.size (sinb k)).toLoadRect f8

theorem rslot_writes (k : Fin 4) (f8 : S4x512x1536.Idx → Elt F .f32) (off : Fin 3 → ℕ) (ho : off = ![k.val, 0, 0]) (inb) (v : Vec F S1x512x1536 .f32) :
    rslot k (a8.view.writes (Elt F) f8 [⟨Rect.unit (s := S4x512x1536) off S1x512x1536.size inb, v⟩]) = v := by
  subst ho
  funext x
  exact View.read_writes_cons_emb a8.view f8 (Rect.unit (s := S4x512x1536) ![k.val, 0, 0] S1x512x1536.size inb) v [] x

/-- A block of the first operand, rows past the group's rows read as zero. -/
def x3n (x3 : S1408x5120.Idx → Elt F .bf16) (r d : ℕ) : Elt F .bf16 :=
  if h : r < 1408 ∧ d < 5120 then x3 (ix2 ⟨r, h.1⟩ ⟨d, h.2⟩) else Scalar.ofBits .bf16 0x0000#16

/-- The transposed strip of the first operand. -/
def PX (x3 : S1408x5120.Idx → Elt F .bf16) (t : ℕ) (f7 : S512x1536.Idx → Elt F .bf16) : Prop :=
  ∀ y : S512x1536.Idx, a7.view.read (Elt F) f7 y = x3n x3 (y 1).val (512 * t + (y 0).val)

/-- The gathered operand's row `q` of group `e`. -/
def rvn (g : Fin 6 → BitVec 32) (x4 : S1408x1536.Idx → Elt F .bf16) (e : Fin 6) (q : ℕ) (n : Fin 1536) : Elt F .bf16 :=
  rv g x4 e (q / 128) (ix2 ⟨q % 128, Nat.mod_lt _ (by decide)⟩ n)

/-- The left factor of a product: `W` columns of the strip. -/
def lhsV (W : ℕ) (x3 : S1408x5120.Idx → Elt F .bf16) (cs t : ℕ) : Vec F (⟨2, ![512, W]⟩ : Shape) .bf16 :=
  fun i => x3n x3 (cs + (i 1).val) (512 * t + (i 0).val)

/-- The right factor of a product: `W` gathered rows. -/
def rhsV (W : ℕ) (g : Fin 6 → BitVec 32) (x4 : S1408x1536.Idx → Elt F .bf16) (e : Fin 6) (q : ℕ) : Vec F (⟨2, ![W, 1536]⟩ : Shape) .bf16 :=
  fun i => rvn g x4 e (q + (i 0).val) (i 1)

theorem lhs_read (W : ℕ) (x3 : S1408x5120.Idx → Elt F .bf16) (cs t : ℕ) (f7 : S512x1536.Idx → Elt F .bf16) (hf : PX x3 t f7)
    (off : Fin 2 → ℕ) (ho : off = ![0, cs]) (inb : ∀ a, off a + (![512, W] : Fin 2 → ℕ) a ≤ S512x1536.size a) :
    View.readAt (Elt F) a7.view (Rect.unit (s := S512x1536) off ![512, W] inb).toLoadRect f7 = lhsV W x3 cs t := by
  subst ho
  funext i
  refine (hf ((Rect.unit (s := S512x1536) ![0, cs] ![512, W] inb).emb i)).trans ?_
  unfold lhsV
  congr 1
  · show cs + 1 * (i 1).val = _; omega
  · show 512 * t + (0 + 1 * (i 0).val) = _; omega

theorem rhs_read (W : ℕ) (g : Fin 6 → BitVec 32) (x4 : S1408x1536.Idx → Elt F .bf16) (e : Fin 6) (q : ℕ) (hq : q + W ≤ 256 * kt g e) (f6 : S2816x1536.Idx → Elt F .bf16)
    (hf : Rf g x4 6 0 f6) (off : Fin 2 → ℕ) (ho : off = ![256 * sl g e.val + q, 0]) (inb : ∀ a, off a + (![W, 1536] : Fin 2 → ℕ) a ≤ S2816x1536.size a) :
    View.readAt (Elt F) a6.view (Rect.unit (s := S2816x1536) off ![W, 1536] inb).toLoadRect f6 = rhsV W g x4 e q := by
  subst ho
  funext i
  have hi : (i 0).val < W := (i 0).isLt
  refine (hf e ((q + (i 0).val) / 128) (by omega) (.inl e.isLt) ((Rect.unit (s := S2816x1536) ![256 * sl g e.val + q, 0] ![W, 1536] inb).emb i)
    (ix2 ⟨(q + (i 0).val) % 128, Nat.mod_lt _ (by decide)⟩ (i 1)) ?_ ?_)
  · show 256 * sl g e.val + q + 1 * (i 0).val = 128 * (2 * sl g e.val + (q + (i 0).val) / 128) + (q + (i 0).val) % 128
    omega
  · show 0 + 1 * (i 1).val = (i 1).val; omega

/-- What the products read. -/
def Ops (c : Dev nD) (g : Fin 6 → BitVec 32) (x3 : S1408x5120.Idx → Elt F .bf16) (x4 : S1408x1536.Idx → Elt F .bf16) (t : ℕ) : sProp 𝕄 :=
  iprop(Tab c g ∗ (∃ f7, ⌜PX x3 t f7⌝ ∗ (a7.view.loc (c : Thread nD τ) ↦{fullShare} f7)) ∗ (∃ f6, ⌜Rf g x4 6 0 f6⌝ ∗ (a6.view.loc (c : Thread nD τ) ↦{fullShare} f6)))

/-- A slot holding a given block. -/
def SlotIs (c : Dev nD) (k : Fin 4) (v : Vec F S1x512x1536 .f32) : sProp 𝕄 := iprop(∃ f8, ⌜rslot k f8 = v⌝ ∗ slotAt c k f8)

/-- One product into a slot, as the body spells it. -/
def work (W : ℕ) (o1 : Fin 2 → ℕ) (i1 : ∀ a, o1 a + S1x1.size a ≤ S5x6.size a) (P1 : BitVec 32 → Prop) (d1 : ∀ v, Decidable (P1 v))
    (o2 : BitVec 32 → Fin 2 → ℕ) (i2 : ∀ v, P1 v → ∀ a, o2 v a + (![512, W] : Fin 2 → ℕ) a ≤ S512x1536.size a) (hl : 0 < (⟨2, ![512, W]⟩ : Shape).numel)
    (o3 : Fin 2 → ℕ) (i3 : ∀ a, o3 a + S1x1.size a ≤ S5x6.size a) (P2 : BitVec 32 → Prop) (d2 : ∀ v, Decidable (P2 v))
    (o4 : BitVec 32 → Fin 2 → ℕ) (i4 : ∀ v, P2 v → ∀ a, o4 v a + (![W, 1536] : Fin 2 → ℕ) a ≤ S2816x1536.size a) (hr : 0 < (⟨2, ![W, 1536]⟩ : Shape).numel)
    (o5 : Fin 3 → ℕ) (i5 : ∀ a, o5 a + S1x512x1536.size a ≤ S4x512x1536.size a)
    (pay : Vec F (⟨2, ![512, W]⟩ : Shape) .bf16 → Vec F (⟨2, ![W, 1536]⟩ : Shape) .bf16 → FVec F S1x512x1536 .f32) :
    Prog (TpuEff nD τ sig (Elt F) Λ₀ .tc) PUnit := do
  let v740 : Elt F .i32 ← smemLoad a10 (Rect.unit (s := S5x6) o1 S1x1.size i1) numel1_S1x1 rfl
  have hw1 : P1 v740 := (← Prog.lift (TpuEff.assume (P1 v740) (d1 v740))).down
  let v745 : Vec F (⟨2, ![512, W]⟩ : Shape) .bf16 ← Prog.lift (.load a7 (Rect.unit (s := S512x1536) (o2 v740) ![512, W] (i2 v740 hw1)).toLoadRect (View.loadsAt_vmem hl))
  let v747 : Elt F .i32 ← smemLoad a10 (Rect.unit (s := S5x6) o3 S1x1.size i3) numel1_S1x1 rfl
  have hw2 : P2 v747 := (← Prog.lift (TpuEff.assume (P2 v747) (d2 v747))).down
  let v752 : Vec F (⟨2, ![W, 1536]⟩ : Shape) .bf16 ← Prog.lift (.load a6 (Rect.unit (s := S2816x1536) (o4 v747) ![W, 1536] (i4 v747 hw2)).toLoadRect (View.loadsAt_vmem hr))
  let v757 : Vec F S1x512x1536 .f32 ← Prog.lift (.load a8 (Rect.unit (s := S4x512x1536) o5 S1x512x1536.size i5).toLoadRect (View.loadsAt_vmem h_S1x512x1536))
  Prog.lift (.store a8 (Rect.unit (s := S4x512x1536) o5 S1x512x1536.size i5) (pay v745 v752) Finset.univ (View.stores_vmem_bits_univ h_S1x512x1536 rfl) (.inl rfl))
  pure ⟨⟩

theorem work_step (c : Dev nD) (g : Fin 6 → BitVec 32) (x3 : S1408x5120.Idx → Elt F .bf16) (x4 : S1408x1536.Idx → Elt F .bf16) (t : ℕ) (e : Fin 6) (k : Fin 4)
    (W o1 i1 P1 d1 o2 i2 hl o3 i3 P2 d2 o4 i4 hr o5 i5 pay) (cs q : ℕ)
    (h1 : o1 = ![1, e.val]) (hP1 : P1 (T g 1 e)) (h2 : o2 (T g 1 e) = ![0, cs]) (h3 : o3 = ![2, e.val]) (hP2 : P2 (T g 2 e)) (h4 : o4 (T g 2 e) = ![256 * sl g e.val + q, 0])
    (hq : q + W ≤ 256 * kt g e) (h5 : o5 = ![k.val, 0, 0]) :
    iprop(Ops c g x3 x4 t ∗ (∃ f8, slotAt c k f8)) ⊢ WP c (work (F := F) W o1 i1 P1 d1 o2 i2 hl o3 i3 P2 d2 o4 i4 hr o5 i5 pay)
      (fun _ => iprop(Ops c g x3 x4 t ∗ SlotIs c k (pay (lhsV W x3 cs t) (rhsV W g x4 e q)))) := by
  subst h1 h3 h5
  unfold Ops SlotIs slotAt Tab
  iintro ⟨⟨HT, ⟨%f7, %hf7, H7⟩, %f6, %hf6, H6⟩, %f8, H8⟩
  have hS := sacc k i5
  unfold WP work
  sl_exec
  simp only [Prog.bind]
  iapply (wp_load_rect Variants.none (c : Thread nD τ) none Set.univ hS) $$ [H8]
  · iexact H8
  iintro H8
  simp only [Prog.bind]
  iapply (wp_store_writes₀ Variants.none (c : Thread nD τ) none Set.univ hS) $$ [H8]
  · iexact H8
  iintro H8
  simp only [Prog.bind]
  sl_step
  isplitl [HT H7 H6]
  · isplitl [HT]; · iexact HT
    isplitl [H7]
    · iexists _; isplitr; · ipureintro; exact hf7
      iexact H7
    · iexists _; isplitr; · ipureintro; exact hf6
      iexact H6
  · iexists _
    isplitr
    rotate_left
    · iexact H8
    · ipureintro
      refine (rslot_writes k f8 _ rfl i5 _).trans ?_
      have hb1 := tab_read (F := F) g 1 e i1
      have hb2 := tab_read (F := F) g 2 e i3
      refine congrArg₂ pay ?_ ?_
      · exact lhs_read W x3 cs t f7 hf7 _ ((congrArg o2 (hb1 _)).trans h2) _
      · exact rhs_read W g x4 e q hq f6 hf6 _ ((congrArg o4 (hb2 _)).trans h4) _

end Cert.Kernel.Hand

end
-- ==== Proof.K.Facts.lean ====
module

public import proofs.«01_k».proof.Proof.K.Work

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

theorem off43_eq : ∀ n : Fin 64, k0_off43 (BitVec.ofNat 32 n.val) = ![n.val % 4] := by decide +kernel
theorem off44_eq : ∀ n : Fin 64, k0_off44 (BitVec.ofNat 32 n.val) = ![n.val % 4, 0, 0] := by decide +kernel
theorem off49_eq : ∀ n : Fin 64, k0_off49 (BitVec.ofNat 32 n.val) = ![n.val % 4, 0, 0] := by decide +kernel
theorem off54_eq : ∀ n : Fin 64, k0_off54 (BitVec.ofNat 32 n.val) = ![n.val % 4, 0, 0] := by decide +kernel
theorem off59_eq : ∀ n : Fin 64, k0_off59 (BitVec.ofNat 32 n.val) = ![n.val % 4, 0, 0] := by decide +kernel
theorem off64_eq : ∀ n : Fin 64, k0_off64 (BitVec.ofNat 32 n.val) = ![n.val % 4, 0, 0] := by decide +kernel
theorem off65_eq : ∀ n : Fin 64, k0_off65 (BitVec.ofNat 32 n.val) = ![n.val % 4, 0, 0] := by decide +kernel
theorem off70_eq : ∀ n : Fin 64, k0_off70 (BitVec.ofNat 32 n.val) = ![n.val % 4, 0, 0] := by decide +kernel
theorem off79_eq : ∀ n : Fin 64, k0_off79 (BitVec.ofNat 32 n.val) = ![n.val % 4, 0, 0] := by decide +kernel
theorem off77_eq : ∀ n : Fin 64, k0_off77 (BitVec.ofNat 32 n.val) = ![n.val % 4] := by decide +kernel
theorem cond7_eq : ∀ (n : Fin 64) (K : Fin 7), k0_cond7 (BitVec.ofNat 32 n.val) (BitVec.ofNat 32 K.val) = 1#1 ↔ 0 < K.val ∧ 4 ≤ n.val := by decide +kernel
theorem cond8_eq : ∀ (K : Fin 7), k0_cond8 (BitVec.ofNat 32 K.val) = 1#1 ↔ K.val = 1 := by decide +kernel
theorem cond9_eq : ∀ (K : Fin 7), k0_cond9 (BitVec.ofNat 32 K.val) = 1#1 ↔ K.val = 2 := by decide +kernel
theorem cond10_eq : ∀ (K : Fin 7), k0_cond10 (BitVec.ofNat 32 K.val) = 1#1 ↔ K.val = 3 := by decide +kernel
theorem cond11_eq : ∀ (K : Fin 7), k0_cond11 (BitVec.ofNat 32 K.val) = 1#1 ↔ 3 < K.val := by decide +kernel
theorem cond12_eq : ∀ (K : Fin 7), k0_cond12 (BitVec.ofNat 32 K.val) = 1#1 ↔ 0 < K.val := by decide +kernel
theorem chk31_all : ∀ (n : Fin 64) (K : Fin 7), k0_chk31 (BitVec.ofNat 32 n.val) (BitVec.ofNat 32 K.val) := by decide +kernel
theorem chk32_all : ∀ (K : Fin 7) (G : Fin 11), G.val + 2 * K.val ≤ 12 → k0_chk32 (BitVec.ofNat 32 K.val) (BitVec.ofNat 32 G.val) := by decide +kernel
theorem chk33_all : ∀ (K : Fin 7) (S : Fin 12), S.val + K.val ≤ 11 → k0_chk33 (BitVec.ofNat 32 K.val) (BitVec.ofNat 32 S.val) := by decide +kernel
theorem off46_eq : ∀ (G : Fin 11), k0_off46 (BitVec.ofNat 32 G.val) = ![0, 128 * G.val] := by decide +kernel
theorem off48_eq : ∀ (S : Fin 12), k0_off48 (BitVec.ofNat 32 S.val) = ![256 * S.val, 0] := by decide +kernel
theorem chk34_all : ∀ (K : Fin 7) (G : Fin 11), G.val + 2 * K.val ≤ 12 → k0_chk34 (BitVec.ofNat 32 K.val) (BitVec.ofNat 32 G.val) := by decide +kernel
theorem chk35_all : ∀ (K : Fin 7) (S : Fin 12), S.val + K.val ≤ 11 → k0_chk35 (BitVec.ofNat 32 K.val) (BitVec.ofNat 32 S.val) := by decide +kernel
theorem off51_eq : ∀ (G : Fin 11), k0_off51 (BitVec.ofNat 32 G.val) = ![0, 128 * G.val] := by decide +kernel
theorem off53_eq : ∀ (S : Fin 12), k0_off53 (BitVec.ofNat 32 S.val) = ![256 * S.val, 0] := by decide +kernel
theorem chk36_all : ∀ (K : Fin 7) (G : Fin 11), G.val + 2 * K.val ≤ 12 → k0_chk36 (BitVec.ofNat 32 K.val) (BitVec.ofNat 32 G.val) := by decide +kernel
theorem chk37_all : ∀ (K : Fin 7) (S : Fin 12), S.val + K.val ≤ 11 → k0_chk37 (BitVec.ofNat 32 K.val) (BitVec.ofNat 32 S.val) := by decide +kernel
theorem off56_eq : ∀ (G : Fin 11), k0_off56 (BitVec.ofNat 32 G.val) = ![0, 128 * G.val] := by decide +kernel
theorem off58_eq : ∀ (S : Fin 12), k0_off58 (BitVec.ofNat 32 S.val) = ![256 * S.val, 0] := by decide +kernel
theorem chk38_all : ∀ (K : Fin 7) (G : Fin 11), G.val + 2 * K.val ≤ 12 → k0_chk38 (BitVec.ofNat 32 K.val) (BitVec.ofNat 32 G.val) := by decide +kernel
theorem chk39_all : ∀ (K : Fin 7) (S : Fin 12), S.val + K.val ≤ 11 → k0_chk39 (BitVec.ofNat 32 K.val) (BitVec.ofNat 32 S.val) := by decide +kernel
theorem off61_eq : ∀ (G : Fin 11), k0_off61 (BitVec.ofNat 32 G.val) = ![0, 128 * G.val] := by decide +kernel
theorem off63_eq : ∀ (S : Fin 12), k0_off63 (BitVec.ofNat 32 S.val) = ![256 * S.val, 0] := by decide +kernel
theorem t21_trips : ∀ (K : Fin 7), (k0_t21_loop (BitVec.ofNat 32 K.val)).trips = K.val - 3 ∧ (k0_t22_loop (BitVec.ofNat 32 K.val)).trips = 0 := by decide +kernel
theorem chk40_all : ∀ (K : Fin 7) (j : Fin (k0_t21_loop (BitVec.ofNat 32 K.val)).trips) (G : Fin 11), G.val + 2 * K.val ≤ 12 → k0_chk40 (BitVec.ofNat 32 K.val) j (BitVec.ofNat 32 G.val) ∧ k0_off67 (BitVec.ofNat 32 K.val) j (BitVec.ofNat 32 G.val) = ![0, 128 * G.val + 256 * (3 + j.val)] := by decide +kernel
theorem chk41_all : ∀ (K : Fin 7) (j : Fin (k0_t21_loop (BitVec.ofNat 32 K.val)).trips) (S : Fin 12), S.val + K.val ≤ 11 → k0_chk41 (BitVec.ofNat 32 K.val) j (BitVec.ofNat 32 S.val) ∧ k0_off69 (BitVec.ofNat 32 K.val) j (BitVec.ofNat 32 S.val) = ![256 * S.val + 256 * (3 + j.val), 0] := by decide +kernel
theorem t20_trips : k0_t20_loop.trips = 6 := by decide +kernel
theorem t19_trips : k0_t19_loop.trips = 10 := by decide +kernel
theorem off42_eq : ∀ e : Fin k0_t20_loop.trips, k0_off42 e = ![0, e.val] := by decide +kernel
theorem off45_eq : ∀ e : Fin k0_t20_loop.trips, k0_off45 e = ![1, e.val] := by decide +kernel
theorem off47_eq : ∀ e : Fin k0_t20_loop.trips, k0_off47 e = ![2, e.val] := by decide +kernel
theorem off50_eq : ∀ e : Fin k0_t20_loop.trips, k0_off50 e = ![1, e.val] := by decide +kernel
theorem off52_eq : ∀ e : Fin k0_t20_loop.trips, k0_off52 e = ![2, e.val] := by decide +kernel
theorem off55_eq : ∀ e : Fin k0_t20_loop.trips, k0_off55 e = ![1, e.val] := by decide +kernel
theorem off57_eq : ∀ e : Fin k0_t20_loop.trips, k0_off57 e = ![2, e.val] := by decide +kernel
theorem off60_eq : ∀ e : Fin k0_t20_loop.trips, k0_off60 e = ![1, e.val] := by decide +kernel
theorem off62_eq : ∀ e : Fin k0_t20_loop.trips, k0_off62 e = ![2, e.val] := by decide +kernel
theorem off66_eq : ∀ e : Fin k0_t20_loop.trips, k0_off66 e = ![1, e.val] := by decide +kernel
theorem off68_eq : ∀ e : Fin k0_t20_loop.trips, k0_off68 e = ![2, e.val] := by decide +kernel
theorem off78_eq : ∀ (t : Fin k0_t19_loop.trips) (e : Fin k0_t20_loop.trips), k0_off78 t e = ![e.val, 512 * t.val, 0] := by decide +kernel
theorem t23_trips : ∀ n : Fin 64, (k0_t23_loop (BitVec.ofNat 32 n.val)).trips = min n.val 4 ∧ (k0_t24_loop (BitVec.ofNat 32 n.val)).trips = 0 ∧ k0_chk44 (BitVec.ofNat 32 n.val) := by decide +kernel
theorem off80_eq : ∀ (n : Fin 64) (j : Fin (k0_t23_loop (BitVec.ofNat 32 n.val)).trips), k0_off80 (BitVec.ofNat 32 n.val) j = ![j.val] ∧ k0_off81 (BitVec.ofNat 32 n.val) j = ![j.val, 0, 0] := by decide +kernel
theorem next_eq : ∀ (n : Fin 64) (K : Fin 7), Scalar.addi (BitVec.ofNat 32 n.val) (Scalar.extui (Scalar.cmpi .sgt (BitVec.ofNat 32 K.val) 0#32)) = BitVec.ofNat 32 (n.val + if K.val = 0 then 0 else 1) := by decide +kernel

end Cert.Kernel.Hand

end
-- ==== Proof.K.Prod.lean ====
module

public import proofs.«01_k».proof.Proof.K.Facts

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

theorem sload_bind {β : Type} (c : Dev nD) (k : Fin 4) (f8 : S4x512x1536.Idx → Elt F .f32) (o : Fin 3 → ℕ) (i) (h : o = ![k.val, 0, 0])
    (kont : Vec F S1x512x1536 .f32 → Prog (TpuEff nD τ sig (Elt F) Λ₀ .tc) β) (Q : β → sProp 𝕄) (R : sProp 𝕄)
    (hk : iprop(slotAt c k f8 ∗ R) ⊢ WP c (kont (rslot k f8)) Q) :
    iprop(slotAt c k f8 ∗ R) ⊢ WP c ((Prog.lift (.load a8 (Rect.unit (s := S4x512x1536) o S1x512x1536.size i).toLoadRect (View.loadsAt_vmem h_S1x512x1536)) :
      Prog (TpuEff nD τ sig (Elt F) Λ₀ .tc) (Vec F S1x512x1536 .f32)) >>= kont) Q := by
  subst h
  unfold slotAt at *
  have hS := sacc k i
  iintro ⟨H8, HR⟩
  unfold WP
  iapply (wp_load_rect Variants.none (c : Thread nD τ) none Set.univ hS) $$ [H8]
  · iexact H8
  iintro H8
  iapply hk
  isplitl [H8]; · iexact H8
  iexact HR

theorem sstore_bind {β : Type} (c : Dev nD) (k : Fin 4) (f8 : S4x512x1536.Idx → Elt F .f32) (o : Fin 3 → ℕ) (i) (h : o = ![k.val, 0, 0]) (w : Vec F S1x512x1536 .f32)
    (kont : PUnit → Prog (TpuEff nD τ sig (Elt F) Λ₀ .tc) β) (Q : β → sProp 𝕄) (R : sProp 𝕄)
    (hk : iprop(SlotIs c k w ∗ R) ⊢ WP c (kont ⟨⟩) Q) :
    iprop(slotAt c k f8 ∗ R) ⊢ WP c ((Prog.lift (.store a8 (Rect.unit (s := S4x512x1536) o S1x512x1536.size i) w Finset.univ (View.stores_vmem_bits_univ h_S1x512x1536 rfl) (.inl rfl)) :
      Prog (TpuEff nD τ sig (Elt F) Λ₀ .tc) PUnit) >>= kont) Q := by
  subst h
  unfold SlotIs at hk
  unfold slotAt at *
  have hS := sacc k i
  iintro ⟨H8, HR⟩
  unfold WP
  iapply (wp_store_writes₀ Variants.none (c : Thread nD τ) none Set.univ hS) $$ [H8]
  · iexact H8
  iintro H8
  iapply hk
  isplitl [H8]
  · iexists _
    isplitr
    rotate_left
    · iexact H8
    · ipureintro; exact rslot_writes k f8 _ rfl i w
  iexact HR

/-- The running sum of a group with more than three tiles of rows. -/
def acc (g : Fin 6 → BitVec 32) (x3 : S1408x5120.Idx → Elt F .bf16) (x4 : S1408x1536.Idx → Elt F .bf16) (e : Fin 6) (t : ℕ) : ℕ → FVec F S1x512x1536 .f32
  | 0 => k0_pay25 (lhsV 768 x3 (128 * g0 g e.val) t) (rhsV 768 g x4 e 0)
  | m + 1 => k0_pay26 (acc g x3 x4 e t m) (lhsV 256 x3 (128 * g0 g e.val + 256 * (3 + m)) t) (rhsV 256 g x4 e (256 * (3 + m)))

/-- The block of the result a group's turn leaves in its slot. -/
def outT (g : Fin 6 → BitVec 32) (x3 : S1408x5120.Idx → Elt F .bf16) (x4 : S1408x1536.Idx → Elt F .bf16) (γ : F .f32) (e : Fin 6) (t : ℕ) : FVec F S1x512x1536 .f32 :=
  if kt g e = 1 then k0_pay30 γ (lhsV 256 x3 (128 * g0 g e.val) t) (rhsV 256 g x4 e 0)
  else if kt g e = 2 then k0_pay31 γ (lhsV 512 x3 (128 * g0 g e.val) t) (rhsV 512 g x4 e 0)
  else if kt g e = 3 then k0_pay32 γ (lhsV 768 x3 (128 * g0 g e.val) t) (rhsV 768 g x4 e 0)
  else k0_pay33 (k0_pay28 (acc g x3 x4 e t (kt g e - 3))) (k0_pay29 γ)

theorem t21_trip (γ : F .f32) (w20) (A w15 : BitVec 32) (V : Elt F .i32) (hw) (w715) (h11) (j) (u : Unit) :
    k0_t21_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11 j u = (do
      let v779 : Vec F S1x512x1536 .f32 ← Prog.lift (.load a8 (Rect.unit (s := S4x512x1536) (k0_off65 A) S1x512x1536.size (k0_off65_inb A V hw j h11)).toLoadRect (View.loadsAt_vmem h_S1x512x1536))
      work 256 (k0_off66 w20) (k0_off66_inb w20) (k0_chk40 V j) (k0_chk40.dec V j) (k0_off67 V j) (fun v h => k0_off67_inb V j v h h11) h_S512x256
        (k0_off68 w20) (k0_off68_inb w20) (k0_chk41 V j) (k0_chk41.dec V j) (k0_off69 V j) (fun v h => k0_off69_inb V j v h h11) h_S256x1536
        (k0_off70 A) (k0_off70_inb A V hw j h11) (k0_pay26 v779)) := rfl

theorem part13_prog (γ : F .f32) (w20) (A w15 : BitVec 32) (V : Elt F .i32) (hw) (w715) (h11) :
    k0_part13 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11 = (do
      work 768 (k0_off60 w20) (k0_off60_inb w20) (k0_chk38 V) (k0_chk38.dec V) k0_off61 (fun v h => k0_off61_inb V v h h11) h_S512x768
        (k0_off62 w20) (k0_off62_inb w20) (k0_chk39 V) (k0_chk39.dec V) k0_off63 (fun v h => k0_off63_inb V v h h11) h_S768x1536
        (k0_off64 A) (k0_off64_inb A V hw h11) k0_pay25
      Scf.Loop.for (k0_t21_loop V) (k0_t21_ok A V hw h11) ⟨⟩ (k0_t21_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11)
      Scf.Loop.for (k0_t22_loop V) (k0_t22_ok A V hw h11) ⟨⟩ (k0_t22_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11)
      let v768 : Vec F S1x512x1536 .f32 ← Prog.lift (.load a8 (Rect.unit (s := S4x512x1536) (k0_off64 A) S1x512x1536.size (k0_off64_inb A V hw h11)).toLoadRect (View.loadsAt_vmem h_S1x512x1536))
      pure ⟨k0_pay28 v768, k0_pay29 γ⟩) := by
  rw [k0_part13_eq_skeleton]; rfl

theorem t21_step (c : Dev nD) {g : Fin 6 → BitVec 32} (hok : Ok g) (x3 : S1408x5120.Idx → Elt F .bf16) (x4 : S1408x1536.Idx → Elt F .bf16) (t : ℕ) (γ : F .f32)
    (e : Fin 6) (w20 : Fin k0_t20_loop.trips) (he : w20.val = e.val) (n : ℕ) (hn : n < 64) (k : Fin 4) (hkn : k.val = n % 4) (A : BitVec 32) (hA : A = BitVec.ofNat 32 n) (w15)
    (V : Elt F .i32) (hV : V = T g 0 e) (hw) (w715) (h11) (j : Fin (k0_t21_loop V).trips) (u : Unit) :
    iprop(Ops c g x3 x4 t ∗ SlotIs c k (acc g x3 x4 e t j.val)) ⊢ WP c (k0_t21_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11 j u)
      (fun _ => iprop(Ops c g x3 x4 t ∗ SlotIs c k (acc g x3 x4 e t (j.val + 1)))) := by
  subst hA
  rw [t21_trip]
  have hK : kt g e < 7 := by have := kt_le hok e; omega
  have hG : g0 g e.val < 11 := by have := g0_le hok e; omega
  have hS : sl g e.val < 12 := by have := sl_kt hok e; omega
  subst hV
  have hj := j.isLt
  have ht : (k0_t21_loop (T g 0 e)).trips = kt g e - 3 := (t21_trips ⟨kt g e, hK⟩).1
  replace hj : j.val < kt g e - 3 := lt_of_lt_of_eq j.isLt ht
  have f1 := chk40_all ⟨kt g e, hK⟩ j ⟨g0 g e.val, hG⟩ (g0_kt hok e)
  have f2 := chk41_all ⟨kt g e, hK⟩ j ⟨sl g e.val, hS⟩ (sl_kt hok e)
  have o65 := off65_eq ⟨n, hn⟩
  have o70 := off70_eq ⟨n, hn⟩
  have key : ∀ f8, rslot k f8 = acc g x3 x4 e t j.val → iprop(slotAt c k f8 ∗ Ops c g x3 x4 t) ⊢ WP c (do
      let v779 : Vec F S1x512x1536 .f32 ← Prog.lift (.load a8 (Rect.unit (s := S4x512x1536) (k0_off65 (BitVec.ofNat 32 n)) S1x512x1536.size (k0_off65_inb (BitVec.ofNat 32 n) (T g 0 e) hw j h11)).toLoadRect (View.loadsAt_vmem h_S1x512x1536))
      work 256 (k0_off66 w20) (k0_off66_inb w20) (k0_chk40 (T g 0 e) j) (k0_chk40.dec (T g 0 e) j) (k0_off67 (T g 0 e) j) (fun v h => k0_off67_inb (T g 0 e) j v h h11) h_S512x256
        (k0_off68 w20) (k0_off68_inb w20) (k0_chk41 (T g 0 e) j) (k0_chk41.dec (T g 0 e) j) (k0_off69 (T g 0 e) j) (fun v h => k0_off69_inb (T g 0 e) j v h h11) h_S256x1536
        (k0_off70 (BitVec.ofNat 32 n)) (k0_off70_inb (BitVec.ofNat 32 n) (T g 0 e) hw j h11) (k0_pay26 v779)) (fun _ => iprop(Ops c g x3 x4 t ∗ SlotIs c k (acc g x3 x4 e t (j.val + 1)))) := by
    intro f8 hf
    refine sload_bind c k f8 _ _ (by rw [hkn]; exact o65) _ _ _ ?_
    rw [hf]
    have hw := work_step c g x3 x4 t e k 256 (k0_off66 w20) (k0_off66_inb w20) (k0_chk40 (T g 0 e) j) (k0_chk40.dec (T g 0 e) j) (k0_off67 (T g 0 e) j) (fun v h => k0_off67_inb (T g 0 e) j v h h11) h_S512x256
        (k0_off68 w20) (k0_off68_inb w20) (k0_chk41 (T g 0 e) j) (k0_chk41.dec (T g 0 e) j) (k0_off69 (T g 0 e) j) (fun v h => k0_off69_inb (T g 0 e) j v h h11) h_S256x1536
        (k0_off70 (BitVec.ofNat 32 n)) (k0_off70_inb (BitVec.ofNat 32 n) (T g 0 e) hw j h11) (k0_pay26 (acc g x3 x4 e t j.val)) (128 * g0 g e.val + 256 * (3 + j.val)) (256 * (3 + j.val))
        (by rw [← he]; exact off66_eq w20) f1.1 f1.2 (by rw [← he]; exact off68_eq w20) f2.1 f2.2 (by show 256 * (3 + j.val) + 256 ≤ 256 * kt g e; have : j.val < kt g e - 3 := hj; omega) (by rw [hkn]; exact o70)
    iintro ⟨H8, HO⟩
    iapply hw
    isplitl [HO]; · iexact HO
    iexists f8; iexact H8
  unfold SlotIs
  iintro ⟨HO, %f8, %hf, H8⟩
  have hq := key f8 hf
  unfold SlotIs at hq
  iapply hq
  isplitl [H8]; · iexact H8
  iexact HO

theorem part13_step (c : Dev nD) {g : Fin 6 → BitVec 32} (hok : Ok g) (x3 : S1408x5120.Idx → Elt F .bf16) (x4 : S1408x1536.Idx → Elt F .bf16) (t : ℕ) (γ : F .f32)
    (e : Fin 6) (w20 : Fin k0_t20_loop.trips) (he : w20.val = e.val) (n : ℕ) (hn : n < 64) (k : Fin 4) (hkn : k.val = n % 4) (A : BitVec 32) (hA : A = BitVec.ofNat 32 n) (w15)
    (V : Elt F .i32) (hV : V = T g 0 e) (hw) (w715) (h11) (hK3 : 3 < kt g e) :
    iprop(Ops c g x3 x4 t ∗ (∃ f8, slotAt c k f8)) ⊢ WP c (k0_part13 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11)
      (fun r => iprop(⌜r = ⟨k0_pay28 (acc g x3 x4 e t (kt g e - 3)), k0_pay29 γ⟩⌝ ∗ Ops c g x3 x4 t ∗ (∃ f8, slotAt c k f8))) := by
  rw [part13_prog]
  have hK : kt g e < 7 := by have := kt_le hok e; omega
  have hG : g0 g e.val < 11 := by have := g0_le hok e; omega
  have hS : sl g e.val < 12 := by have := sl_kt hok e; omega
  have hst := fun j u => t21_step c hok x3 x4 t γ e w20 he n hn k hkn A hA w15 V hV hw w715 h11 j u
  subst hA
  subst hV
  have f1 := chk38_all ⟨kt g e, hK⟩ ⟨g0 g e.val, hG⟩ (g0_kt hok e)
  have f2 := chk39_all ⟨kt g e, hK⟩ ⟨sl g e.val, hS⟩ (sl_kt hok e)
  have o61 := off61_eq ⟨g0 g e.val, hG⟩
  have o63 := off63_eq ⟨sl g e.val, hS⟩
  have o64 := off64_eq ⟨n, hn⟩
  have ht := t21_trips ⟨kt g e, hK⟩
  have hwk := work_step c g x3 x4 t e k 768 (k0_off60 w20) (k0_off60_inb w20) (k0_chk38 (T g 0 e)) (k0_chk38.dec (T g 0 e)) k0_off61 (fun v h => k0_off61_inb (T g 0 e) v h h11) h_S512x768
        (k0_off62 w20) (k0_off62_inb w20) (k0_chk39 (T g 0 e)) (k0_chk39.dec (T g 0 e)) k0_off63 (fun v h => k0_off63_inb (T g 0 e) v h h11) h_S768x1536
        (k0_off64 (BitVec.ofNat 32 n)) (k0_off64_inb (BitVec.ofNat 32 n) (T g 0 e) hw h11) k0_pay25 (128 * g0 g e.val) 0
        (by rw [← he]; exact off60_eq w20) f1 o61 (by rw [← he]; exact off62_eq w20) f2 (by exact o63) (by omega) (by rw [hkn]; exact o64)
  unfold WP
  rw [wp_bind]
  refine BIBase.Entails.trans hwk ?_
  refine wp_mono _ _ _ fun _ => ?_
  rw [wp_bind]
  iintro ⟨HO, H8⟩
  iapply (Scf.wp_for _ _ _ _ _ _ _ _ _ (fun j _ => iprop(Ops c g x3 x4 t ∗ SlotIs c k (acc g x3 x4 e t j))) (fun j u => hst j u))
  isplitl [HO H8]
  · isplitl [HO]; · iexact HO
    iexact H8
  iintro %u ⟨HO, H8⟩
  rw [wp_bind]
  iapply (Scf.wp_for _ _ _ _ _ _ _ _ _ (fun j _ => iprop(Ops c g x3 x4 t ∗ SlotIs c k (acc g x3 x4 e t (kt g e - 3)))) (fun j u => absurd j.isLt (by
    have := ht.2; have hx : (k0_t22_loop (T g 0 e)).trips = 0 := this; change ¬ (j.val < (k0_t22_loop (T g 0 e)).trips); omega)))
  isplitl [HO H8]
  · isplitl [HO]; · iexact HO
    have h3 : Scf.trips (k0_t21_loop (T g 0 e)).lb (k0_t21_loop (T g 0 e)).ub (k0_t21_loop (T g 0 e)).st = kt g e - 3 := ht.1
    rw [h3]
    iexact H8
  iintro %u2 ⟨HO, H8⟩
  unfold SlotIs
  icases H8 with ⟨%f8, %hf, H8⟩
  iapply (sload_bind c k f8 _ _ (by rw [hkn]; exact o64) _ _ (Ops c g x3 x4 t) ?_) $$ [H8 HO]
  · unfold WP
    rw [hf, show ∀ x, (pure x : Prog (TpuEff nD τ sig (Elt F) Λ₀ .tc) (Σ' (_ : FVec F S512x1536 .f32), FVec F S512x1536 .f32)) = Prog.ret x from fun _ => rfl]
    iintro ⟨H8, HO⟩
    sl_step
    isplitr; · ipureintro; rfl
    isplitl [HO]; · iexact HO
    iexists f8; iexact H8
  · isplitl [H8]; · iexact H8
    iexact HO

end Cert.Kernel.Hand

end
-- ==== Proof.K.Inv.lean ====
module

public import proofs.«01_k».proof.Proof.K.Prod

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

/-- Where a block of the result stands: still to be produced, on its way, or complete. -/
inductive St
  | todo
  | away
  | done
  deriving DecidableEq

def blkΦ (c : Dev nD) (g : Fin 6 → BitVec 32) (PG : Fin 6 × Fin 40 → (S6x5120x1536.Idx → Elt F .f32) → Prop) (p : Fin 6 × Fin 40) : St → sProp 𝕄
  | .todo => own c g p
  | .away => iprop(⌜True⌝)
  | .done => fin c g PG p

def slotΦ (c : Dev nD) (g : Fin 6 → BitVec 32) (PG : Fin 6 × Fin 40 → (S6x5120x1536.Idx → Elt F .f32) → Prop) (k : Fin 4) : Option (Fin 6 × Fin 40) → sProp 𝕄
  | none => idle c k
  | some p => busy c g PG k p

section AtP

/-- Every block in its state. -/
def AtP (Φ : Fin 6 × Fin 40 → St → sProp 𝕄) (S : Fin 6 × Fin 40 → St) : sProp 𝕄 := bigSep Finset.univ fun p => Φ p (S p)
/-- Every block but one, in its state. -/
def restP (Φ : Fin 6 × Fin 40 → St → sProp 𝕄) (S : Fin 6 × Fin 40 → St) (i : Fin 6 × Fin 40) : sProp 𝕄 := bigSep (Finset.univ.erase i) fun p => Φ p (S p)

theorem AtP_focus (Φ : Fin 6 × Fin 40 → St → sProp 𝕄) (S : Fin 6 × Fin 40 → St) (i : Fin 6 × Fin 40) : AtP (F := F) Φ S = iprop(Φ i (S i) ∗ restP Φ S i) :=
  BI.bigSep_erase (Φ := fun k => Φ k (S k)) (Finset.mem_univ i)

theorem restP_update (Φ : Fin 6 × Fin 40 → St → sProp 𝕄) (S : Fin 6 × Fin 40 → St) (i : Fin 6 × Fin 40) (x : St) : restP (F := F) Φ (Function.update S i x) i = restP Φ S i :=
  BI.bigSep_congr fun k hk => by rw [Function.update_of_ne (Finset.ne_of_mem_erase hk)]

theorem AtP_update (Φ : Fin 6 × Fin 40 → St → sProp 𝕄) (S : Fin 6 × Fin 40 → St) (i : Fin 6 × Fin 40) (x : St) : iprop(Φ i x ∗ restP (F := F) Φ S i) ⊢ AtP Φ (Function.update S i x) := by
  rw [AtP_focus Φ _ i, Function.update_self, restP_update]
end AtP

/-- The part of the bookkeeping that does not speak of which slots are free. -/
structure RB (g : Fin 6 → BitVec 32) (t e n : ℕ) (S : Fin 6 × Fin 40 → St) (st : Fin 4 → Option (Fin 6 × Fin 40)) : Prop where
  h2 : ∀ k p, st k = some p → S p = .away ∧ kt g p.1 ≠ 0
  inj : ∀ k k' p, st k = some p → st k' = some p → k = k'
  h3 : ∀ p, kt g p.1 ≠ 0 → S p = .away → ∃ k, st k = some p
  h4 : ∀ p, S p = .todo ↔ kt g p.1 ≠ 0 ∧ p.2.val < 10 ∧ (t < p.2.val ∨ (t = p.2.val ∧ e ≤ p.1.val))
  h5 : ∀ p, kt g p.1 = 0 → S p = .away
  h6 : n ≤ 6 * t + e

theorem RB.skip {g : Fin 6 → BitVec 32} {t n : ℕ} {e : Fin 6} {S st} (h : RB g t e.val n S st) (hk : kt g e = 0) : RB g t (e.val + 1) n S st where
  h2 := h.h2
  inj := h.inj
  h3 := h.h3
  h4 := fun p => by
    rw [h.h4 p]
    constructor
    · rintro ⟨a, b, c⟩
      refine ⟨a, b, ?_⟩
      rcases c with c | ⟨c, d⟩
      · exact .inl c
      · refine .inr ⟨c, ?_⟩
        rcases Nat.lt_or_ge e.val p.1.val with hl | hl
        · exact hl
        · exfalso; apply a; rw [show p.1 = e from Fin.ext (by omega)]; exact hk
    · rintro ⟨a, b, c⟩
      exact ⟨a, b, by omega⟩
  h5 := h.h5
  h6 := by have := h.h6; omega

theorem RB.row {g : Fin 6 → BitVec 32} {t n : ℕ} {S st} (h : RB g t 6 n S st) : RB g (t + 1) 0 n S st where
  h2 := h.h2
  inj := h.inj
  h3 := h.h3
  h4 := fun p => by
    rw [h.h4 p]
    have := p.1.isLt
    constructor
    · rintro ⟨a, b, c⟩; exact ⟨a, b, by omega⟩
    · rintro ⟨a, b, c⟩; exact ⟨a, b, by omega⟩
  h5 := h.h5
  h6 := by have := h.h6; omega

theorem RB.wait {g : Fin 6 → BitVec 32} {t e n : ℕ} {S st} (h : RB g t e n S st) (k : Fin 4) (p : Fin 6 × Fin 40) (hp : st k = some p) :
    RB g t e n (Function.update S p .done) (Function.update st k none) := by
  have hk : ∀ k' q, Function.update st k none k' = some q → k' ≠ k ∧ st k' = some q ∧ q ≠ p := by
    intro k' q hq
    by_cases hkk : k' = k
    · subst hkk; rw [Function.update_self] at hq; cases hq
    · rw [Function.update_of_ne hkk] at hq
      refine ⟨hkk, hq, ?_⟩
      rintro rfl
      exact hkk (h.inj _ _ _ hq hp)
  refine ⟨?_, ?_, ?_, ?_, ?_, h.h6⟩
  · intro k' q hq
    obtain ⟨_, hq', hne⟩ := hk k' q hq
    rw [Function.update_of_ne hne]
    exact h.h2 _ _ hq'
  · intro k1 k2 q h1 h2
    exact h.inj _ _ _ (hk _ _ h1).2.1 (hk _ _ h2).2.1
  · intro q hq hS
    have hne : q ≠ p := by rintro rfl; rw [Function.update_self] at hS; cases hS
    rw [Function.update_of_ne hne] at hS
    obtain ⟨k', hk'⟩ := h.h3 q hq hS
    refine ⟨k', ?_⟩
    rw [Function.update_of_ne]
    · exact hk'
    · rintro rfl
      rw [hp] at hk'; cases hk'; exact hne rfl
  · intro q
    by_cases hne : q = p
    · subst hne
      rw [Function.update_self, ← h.h4 q, (h.h2 _ _ hp).1]
      simp
    · rw [Function.update_of_ne hne]; exact h.h4 q
  · intro q hq
    have hne : q ≠ p := by rintro rfl; exact (h.h2 _ _ hp).2 hq
    rw [Function.update_of_ne hne]; exact h.h5 q hq

theorem RB.issue {g : Fin 6 → BitVec 32} {t n : ℕ} {e : Fin 6} {S st} (h : RB g t e.val n S st) (k : Fin 4) (hk : st k = none) (ht : t < 10) (he : kt g e ≠ 0) :
    S (e, ⟨t, by omega⟩) = .todo ∧ RB g t (e.val + 1) (n + 1) (Function.update S (e, ⟨t, by omega⟩) .away) (Function.update st k (some (e, ⟨t, by omega⟩))) := by
  have hS : S (e, ⟨t, by omega⟩) = .todo := (h.h4 _).2 ⟨he, ht, .inr ⟨rfl, Nat.le_refl _⟩⟩
  refine ⟨hS, ?_, ?_, ?_, ?_, ?_, ?_⟩
  · intro k' q hq
    by_cases hkk : k' = k
    · subst hkk; rw [Function.update_self] at hq; cases hq
      rw [Function.update_self]; exact ⟨rfl, he⟩
    · rw [Function.update_of_ne hkk] at hq
      have hq' := h.h2 _ _ hq
      have hne : q ≠ (e, ⟨t, by omega⟩) := by rintro rfl; rw [hS] at hq'; cases hq'.1
      rw [Function.update_of_ne hne]; exact hq'
  · intro k1 k2 q h1 h2
    by_cases hk1 : k1 = k
    · by_cases hk2 : k2 = k
      · rw [hk1, hk2]
      · subst hk1; rw [Function.update_self] at h1; cases h1
        rw [Function.update_of_ne hk2] at h2
        have := (h.h2 _ _ h2).1; rw [hS] at this; cases this
    · rw [Function.update_of_ne hk1] at h1
      by_cases hk2 : k2 = k
      · subst hk2; rw [Function.update_self] at h2; cases h2
        have := (h.h2 _ _ h1).1; rw [hS] at this; cases this
      · rw [Function.update_of_ne hk2] at h2
        exact h.inj _ _ _ h1 h2
  · intro q hq hA
    by_cases hne : q = (e, ⟨t, by omega⟩)
    · subst hne; exact ⟨k, Function.update_self ..⟩
    · rw [Function.update_of_ne hne] at hA
      obtain ⟨k', hk'⟩ := h.h3 q hq hA
      refine ⟨k', ?_⟩
      rw [Function.update_of_ne]
      · exact hk'
      · rintro rfl; rw [hk] at hk'; cases hk'
  · intro q
    by_cases hne : q = (e, ⟨t, by omega⟩)
    · subst hne
      rw [Function.update_self]
      simp
    · rw [Function.update_of_ne hne, h.h4 q]
      have hne' : ¬ (q.1 = e ∧ q.2.val = t) := by
        rintro ⟨h1, h2⟩; apply hne; exact Prod.ext h1 (Fin.ext h2)
      constructor
      · rintro ⟨a, b, c⟩
        refine ⟨a, b, ?_⟩
        rcases c with c | ⟨c, d⟩
        · exact .inl c
        · refine .inr ⟨c, ?_⟩
          rcases Nat.lt_or_ge e.val q.1.val with hl | hl
          · exact hl
          · exact absurd ⟨Fin.ext (by omega), c.symm⟩ hne'
      · rintro ⟨a, b, c⟩; exact ⟨a, b, by omega⟩
  · intro q hq
    have hne : q ≠ (e, ⟨t, by omega⟩) := by intro hqe; rw [hqe] at hq; exact he hq
    rw [Function.update_of_ne hne]; exact h.h5 q hq
  · have := h.h6; omega

/-- The output ring and the blocks of the result, before group `e`'s turn at strip `t`, `n` copies started. -/
def Inv (c : Dev nD) (g : Fin 6 → BitVec 32) (PG : Fin 6 × Fin 40 → (S6x5120x1536.Idx → Elt F .f32) → Prop) (t e n : ℕ) : sProp 𝕄 :=
  iprop(∃ S st, ⌜RB g t e n S st ∧ ∀ k : Fin 4, st k = none ↔ n ≤ k.val⌝ ∗ AtP (blkΦ c g PG) S ∗ Ring.AtW (slotΦ c g PG) st)

/-- The same with slot `k` free and set apart. -/
def Opn (c : Dev nD) (g : Fin 6 → BitVec 32) (PG : Fin 6 × Fin 40 → (S6x5120x1536.Idx → Elt F .f32) → Prop) (t e n : ℕ) (k : Fin 4) : sProp 𝕄 :=
  iprop(∃ S st, ⌜RB g t e n S st ∧ st k = none ∧ ∀ k' : Fin 4, k' ≠ k → (st k' = none ↔ n ≤ k'.val)⌝ ∗ AtP (blkΦ c g PG) S ∗ Ring.restW (slotΦ c g PG) st k)

theorem inv_free (c : Dev nD) (g : Fin 6 → BitVec 32) (PG : Fin 6 × Fin 40 → (S6x5120x1536.Idx → Elt F .f32) → Prop) (t e n : ℕ) (k : Fin 4) (hk : n ≤ k.val) :
    Inv c g PG t e n ⊢ iprop(idle c k ∗ Opn c g PG t e n k) := by
  unfold Inv Opn
  iintro ⟨%S, %st, %h, HP, HW⟩
  ihave HW' := (Entails.of_eq (Ring.AtW_focus (slotΦ c g PG) st k)) $$ HW
  icases HW' with ⟨Hk, HW⟩
  have h0 : st k = none := (h.2 k).2 hk
  ihave Hk := (show slotΦ c g PG k (st k) ⊢ idle c k from by rw [h0]; exact .rfl) $$ Hk
  isplitl [Hk]; · iexact Hk
  iexists S; iexists st
  isplitr
  · ipureintro; exact ⟨h.1, h0, fun k' _ => h.2 k'⟩
  isplitl [HP]; · iexact HP
  iexact HW

theorem inv_busy (c : Dev nD) (g : Fin 6 → BitVec 32) (PG : Fin 6 × Fin 40 → (S6x5120x1536.Idx → Elt F .f32) → Prop) (t e n : ℕ) (k : Fin 4) (hk : k.val < n) :
    Inv c g PG t e n ⊢ iprop(∃ p, busy c g PG k p ∗ ((idle c k ∗ fin c g PG p) -∗ (idle c k ∗ Opn c g PG t e n k))) := by
  unfold Inv Opn
  iintro ⟨%S, %st, %h, HP, HW⟩
  ihave HW' := (Entails.of_eq (Ring.AtW_focus (slotΦ c g PG) st k)) $$ HW
  icases HW' with ⟨Hk, HW⟩
  have h0 : st k ≠ none := fun hn => by have := (h.2 k).1 hn; omega
  obtain ⟨p, hp⟩ := Option.ne_none_iff_exists'.mp h0
  ihave Hk := (show slotΦ c g PG k (st k) ⊢ busy c g PG k p from by rw [hp]; exact .rfl) $$ Hk
  iexists p
  isplitl [Hk]; · iexact Hk
  iintro ⟨Hi, Hf⟩
  isplitl [Hi]; · iexact Hi
  iexists (Function.update S p .done); iexists (Function.update st k none)
  isplitr
  · ipureintro
    refine ⟨h.1.wait k p hp, Function.update_self .., fun k' hk' => ?_⟩
    rw [Function.update_of_ne hk']; exact h.2 k'
  rw [Ring.restW_update]
  isplitl [HP Hf]
  · iapply (AtP_update (blkΦ c g PG) S p .done)
    ihave HP' := (Entails.of_eq (AtP_focus (blkΦ c g PG) S p)) $$ HP
    icases HP' with ⟨-, HP⟩
    ihave Hf := (show fin c g PG p ⊢ blkΦ c g PG p .done from .rfl) $$ Hf
    isplitl [Hf]; · iexact Hf
    iexact HP
  iexact HW

theorem opn_issue (c : Dev nD) (g : Fin 6 → BitVec 32) (PG : Fin 6 × Fin 40 → (S6x5120x1536.Idx → Elt F .f32) → Prop) (t : ℕ) (ht : t < 10) (e : Fin 6) (he : kt g e ≠ 0)
    (n : ℕ) (k : Fin 4) (hk : k.val = n % 4) :
    Opn c g PG t e.val n k ⊢ iprop(own c g (e, ⟨t, by omega⟩) ∗ (busy c g PG k (e, ⟨t, by omega⟩) -∗ Inv c g PG t (e.val + 1) (n + 1))) := by
  unfold Inv Opn
  iintro ⟨%S, %st, %h, HP, HW⟩
  have ht4 : t < 40 := by omega
  have hi := h.1.issue k h.2.1 ht he
  ihave HP' := (Entails.of_eq (AtP_focus (blkΦ c g PG) S (e, ⟨t, by omega⟩))) $$ HP
  icases HP' with ⟨Ho, HP⟩
  ihave Ho := (show blkΦ c g PG (e, ⟨t, ht4⟩) (S (e, ⟨t, ht4⟩)) ⊢ own c g (e, ⟨t, ht4⟩) from by rw [hi.1]; exact .rfl) $$ Ho
  isplitl [Ho]; · iexact Ho
  iintro Hb
  iexists _; iexists _
  isplitr
  rotate_left
  · isplitl [HP]
    · iapply (AtP_update (blkΦ c g PG) S (e, ⟨t, by omega⟩) .away)
      isplitr
      · unfold blkΦ; ipureintro; trivial
      · iexact HP
    · iapply (Ring.AtW_update (slotΦ c g PG) st k (some (e, ⟨t, by omega⟩)))
      ihave Hb := (show busy c g PG k (e, ⟨t, ht4⟩) ⊢ slotΦ c g PG k (some (e, ⟨t, ht4⟩)) from .rfl) $$ Hb
      isplitl [Hb]; · iexact Hb
      iexact HW
  · ipureintro
    refine ⟨hi.2, fun k' => ?_⟩
    by_cases hkk : k' = k
    · subst hkk; rw [Function.update_self]; simp; omega
    · rw [Function.update_of_ne hkk, h.2.2 k' hkk]
      have : k'.val ≠ k.val := fun hh => hkk (Fin.ext hh)
      have := k'.isLt
      omega

theorem inv_skip (c : Dev nD) (g : Fin 6 → BitVec 32) (PG : Fin 6 × Fin 40 → (S6x5120x1536.Idx → Elt F .f32) → Prop) (t : ℕ) (e : Fin 6) (he : kt g e = 0) (n : ℕ) :
    Inv c g PG t e.val n ⊢ Inv (F := F) c g PG t (e.val + 1) n := by
  unfold Inv
  iintro ⟨%S, %st, %h, HP, HW⟩
  iexists S; iexists st
  isplitr
  · ipureintro; exact ⟨h.1.skip he, h.2⟩
  isplitl [HP]; · iexact HP
  iexact HW

theorem inv_row (c : Dev nD) (g : Fin 6 → BitVec 32) (PG : Fin 6 × Fin 40 → (S6x5120x1536.Idx → Elt F .f32) → Prop) (t n : ℕ) :
    Inv c g PG t 6 n ⊢ Inv (F := F) c g PG (t + 1) 0 n := by
  unfold Inv
  iintro ⟨%S, %st, %h, HP, HW⟩
  iexists S; iexists st
  isplitr
  · ipureintro; exact ⟨h.1.row, h.2⟩
  isplitl [HP]; · iexact HP
  iexact HW

theorem inv_bound (c : Dev nD) (g : Fin 6 → BitVec 32) (PG : Fin 6 × Fin 40 → (S6x5120x1536.Idx → Elt F .f32) → Prop) (t e n : ℕ) :
    Inv c g PG t e n ⊢ iprop(⌜n ≤ 6 * t + e⌝ ∗ Inv (F := F) c g PG t e n) := by
  unfold Inv
  iintro ⟨%S, %st, %h, HP, HW⟩
  isplitr; · ipureintro; exact h.1.h6
  iexists S; iexists st
  isplitr; · ipureintro; exact h
  isplitl [HP]; · iexact HP
  iexact HW

end Cert.Kernel.Hand

end
-- ==== Proof.K.Turn.lean ====
module

public import proofs.«01_k».proof.Proof.K.Inv

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

theorem tab_bind {β : Type} (c : Dev nD) (g : Fin 6 → BitVec 32) (r : Fin 5) (e : Fin 6) (o : Fin 2 → ℕ) (i) (h : o = ![r.val, e.val])
    (P : BitVec 32 → Prop) (d : ∀ v, Decidable (P v)) (hP : P (T g r e)) (k : ∀ v : Elt F .i32, P v → Prog (TpuEff nD τ sig (Elt F) Λ₀ .tc) β)
    (Q : β → sProp 𝕄) (R : sProp 𝕄) (hk : iprop(Tab c g ∗ R) ⊢ WP c (k (T g r e) hP) Q) :
    iprop(Tab c g ∗ R) ⊢ WP c (do
      let v : Elt F .i32 ← smemLoad a10 (Rect.unit (s := S5x6) o S1x1.size i) numel1_S1x1 rfl
      have hw : P v := (← Prog.lift (TpuEff.assume (P v) (d v))).down
      k v hw) Q := by
  subst h
  unfold Tab at *
  iintro ⟨HT, HR⟩
  unfold WP
  sl_exec
  iapply hk
  isplitl [HT]; · iexact HT
  iexact HR

theorem wp_dif_neg {β : Type} {c : Dev nD} {b : Prop} [Decidable b] (hb : ¬ b) {p : b → Prog (TpuEff nD τ sig (Elt F) Λ₀ .tc) β}
    {k : Prog (TpuEff nD τ sig (Elt F) Λ₀ .tc) β} {P : sProp 𝕄} {Q : β → sProp 𝕄} (h : P ⊢ WP c k Q) : P ⊢ WP c (dite b p (fun _ => k)) Q := by
  rw [dif_neg hb]; exact h

theorem wp_dif_pos {β : Type} {c : Dev nD} {b : Prop} [Decidable b] (hb : b) {p : b → Prog (TpuEff nD τ sig (Elt F) Λ₀ .tc) β}
    {k : ¬ b → Prog (TpuEff nD τ sig (Elt F) Λ₀ .tc) β} {P : sProp 𝕄} {Q : β → sProp 𝕄} (h : P ⊢ WP c (p hb) Q) : P ⊢ WP c (dite b p k) Q := by
  rw [dif_pos hb]; exact h

theorem wp_seq {β : Type} {c : Dev nD} {m : Prog (TpuEff nD τ sig (Elt F) Λ₀ .tc) PUnit} {k : Prog (TpuEff nD τ sig (Elt F) Λ₀ .tc) β}
    {P P' R : sProp 𝕄} {Q : β → sProp 𝕄} (hm : P ⊢ WP c m (fun _ => P')) (hk : iprop(P' ∗ R) ⊢ WP c k Q) : iprop(P ∗ R) ⊢ WP c (m >>= fun _ => k) Q := by
  unfold WP at *
  rw [wp_bind]
  refine BIBase.Entails.trans (BIClass.sep_mono hm .rfl) ?_
  refine BIBase.Entails.trans (wp_frame_r _ _ _) ?_
  exact wp_mono _ _ _ fun _ => hk

/-- The strip's products, the ring, and what the waits need. -/
def TS (c : Dev nD) (g : Fin 6 → BitVec 32) (PG : Fin 6 × Fin 40 → (S6x5120x1536.Idx → Elt F .f32) → Prop) (x3 : S1408x5120.Idx → Elt F .bf16) (x4 : S1408x1536.Idx → Elt F .bf16) (t e n : ℕ) : sProp 𝕄 :=
  iprop(Ops c g x3 x4 t ∗ Inv c g PG t e n ∗ (∃ W, owes (c : Thread nD τ) 0 W))

/-- A slot's number, as the body computes it. -/
def slotW (A : BitVec 32) : BitVec 32 :=
  let v707 : BitVec 32 := Scalar.select (Scalar.cmpi .eq 4#32 0#32) 1#32 4#32
  let v708 : BitVec 32 := Scalar.remsi A v707
  let v713 : BitVec 1 := Scalar.andi (Scalar.xori (Scalar.cmpi .slt v708 0#32) (Scalar.cmpi .slt v707 0#32)) (Scalar.cmpi .ne v708 0#32)
  Scalar.select v713 (Scalar.addi v708 v707) v708

/-- The end of a group's turn: the copy out, if the group has rows. -/
def j12 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h12 : k0_cond12 V = 1#1 then
    oissue (k0_off77 A) (k0_off77_inb A V hw h12) (k0_off78 w19 w20) (k0_off78_inb w19 w20) (k0_off79 A) (k0_off79_inb A V hw h12) >>= fun _ => pure V
  else pure V

/-- The turn of a group of more than three tiles. -/
def j11 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h11 : k0_cond11 V = 1#1 then (do
    let x ← k0_part13 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A (Scf.iv 0#32 1#32 w20) V hw (slotW A) h11
    let v773 : Vec F S1x512x1536 .f32 ← Prog.lift (.load a8 (Rect.unit (s := S4x512x1536) (k0_off64 A) S1x512x1536.size (k0_off64_inb A V hw h11)).toLoadRect (View.loadsAt_vmem h_S1x512x1536))
    Prog.lift (.store a8 (Rect.unit (s := S4x512x1536) (k0_off64 A) S1x512x1536.size (k0_off64_inb A V hw h11)) (k0_pay33 x.1 x.2) Finset.univ (View.stores_vmem_bits_univ h_S1x512x1536 rfl) (.inl rfl))
    j12 γ w19 w20 A V hw)
  else j12 γ w19 w20 A V hw

/-- The turn of a group of 3 tiles. -/
def j10 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h10 : k0_cond10 V = 1#1 then work 768 (k0_off55 w20) (k0_off55_inb w20) (k0_chk36 V) (k0_chk36.dec V) k0_off56 (fun v hv => k0_off56_inb V v hv h10) h_S512x768 (k0_off57 w20) (k0_off57_inb w20) (k0_chk37 V) (k0_chk37.dec V) k0_off58 (fun v hv => k0_off58_inb V v hv h10) h_S768x1536 (k0_off59 A) (k0_off59_inb A V hw h10) (k0_pay32 γ) >>= fun _ => j11 γ w19 w20 A V hw else j11 γ w19 w20 A V hw

/-- The turn of a group of 2 tiles. -/
def j9 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h9 : k0_cond9 V = 1#1 then work 512 (k0_off50 w20) (k0_off50_inb w20) (k0_chk34 V) (k0_chk34.dec V) k0_off51 (fun v hv => k0_off51_inb V v hv h9) h_S512x512 (k0_off52 w20) (k0_off52_inb w20) (k0_chk35 V) (k0_chk35.dec V) k0_off53 (fun v hv => k0_off53_inb V v hv h9) h_S512x1536 (k0_off54 A) (k0_off54_inb A V hw h9) (k0_pay31 γ) >>= fun _ => j10 γ w19 w20 A V hw else j10 γ w19 w20 A V hw

/-- The turn of a group of 1 tiles. -/
def j8 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h8 : k0_cond8 V = 1#1 then work 256 (k0_off45 w20) (k0_off45_inb w20) (k0_chk32 V) (k0_chk32.dec V) k0_off46 (fun v hv => k0_off46_inb V v hv h8) h_S512x256 (k0_off47 w20) (k0_off47_inb w20) (k0_chk33 V) (k0_chk33.dec V) k0_off48 (fun v hv => k0_off48_inb V v hv h8) h_S256x1536 (k0_off49 A) (k0_off49_inb A V hw h8) (k0_pay30 γ) >>= fun _ => j9 γ w19 w20 A V hw else j9 γ w19 w20 A V hw

/-- A group's turn, its rows' number in hand. -/
def j7 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h7 : k0_cond7 A V = 1#1 then owait (k0_off43 A) (k0_off43_inb A V hw h7) (k0_off44 A) (k0_off44_inb A V hw h7) >>= fun _ => j8 γ w19 w20 A V hw else j8 γ w19 w20 A V hw

set_option maxHeartbeats 2000000 in
theorem part14_prog (γ : F .f32) (w19) (w13 : BitVec 32) (w20) (A : BitVec 32) :
    k0_part14 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w13 0#32 1#32 w20 A = (do
      let v : Elt F .i32 ← smemLoad a10 (Rect.unit (s := S5x6) (k0_off42 w20) S1x1.size (k0_off42_inb w20)) numel1_S1x1 rfl
      have hw : k0_chk31 A v := (← Prog.lift (TpuEff.assume (k0_chk31 A v) (k0_chk31.dec A v))).down
      j7 γ w19 w20 A v hw) := by
  rw [k0_part14_eq_skeleton]
  unfold k0_part14_skel
  rfl

/-- What a turn carries besides its slot. -/
def MR (c : Dev nD) (g : Fin 6 → BitVec 32) (PG : Fin 6 × Fin 40 → (S6x5120x1536.Idx → Elt F .f32) → Prop) (t e n : ℕ) (k : Fin 4) : sProp 𝕄 :=
  iprop(semVal ((c : Thread nD τ), SemLoc.dma (ocell k)) 0 ∗ Opn c g PG t e n k ∗ (∃ W, owes (c : Thread nD τ) 0 W))

theorem j12_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : kt g e ≠ 0) :
    iprop((Ops c g x3 x4 t.val ∗ SlotIs c k (outT g x3 x4 γ e t.val)) ∗ MR c g PG t.val e.val n k) ⊢ WP c (j12 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have o77 := off77_eq ⟨n, by omega⟩
  have o79 := off79_eq ⟨n, by omega⟩
  unfold j12 MR TS SlotIs
  refine wp_dif_pos ((cond12_eq ⟨kt g e, hK⟩).2 (Nat.pos_of_ne_zero h0)) ?_
  iintro ⟨⟨HO, %f8, %hf, H8⟩, Hs, Hop, How⟩
  ihave Hop := (opn_issue c g PG t.val t.isLt e h0 n k hkn) $$ Hop
  icases Hop with ⟨Hb, Hcl⟩
  iapply (wp_seq (oissue_step c g PG k e t h0 f8 (fun fd => hPG e t k f8 fd h0 hf) _ _ _ _ _ _
    (by rw [hkn]; exact o77) (by rw [← he, ← h19]; exact off78_eq w19 w20) (by rw [hkn]; exact o79))
    (R := iprop(Ops c g x3 x4 t.val ∗ (busy c g PG k (e, ⟨t.val, by omega⟩) -∗ Inv c g PG t.val (e.val + 1) (n + 1)) ∗ (∃ W, owes (c : Thread nD τ) 0 W))) ?_) $$ [Hs H8 Hb HO Hcl How]
  · iintro ⟨Hb, HO, Hcl, How⟩
    unfold WP
    rw [show (pure (T g 0 e) : Prog (TpuEff nD τ sig (Elt F) Λ₀ .tc) (Elt F .i32)) = Prog.ret (T g 0 e) from rfl]
    sl_step
    isplitr; · ipureintro; rfl
    isplitl [HO]; · iexact HO
    isplitl [Hb Hcl]
    · iapply Hcl; iexact Hb
    iexact How
  · isplitl [Hs H8 Hb]
    · isplitl [Hs]; · iexact Hs
      isplitl [H8]; · iexact H8
      iexact Hb
    isplitl [HO]; · iexact HO
    isplitl [Hcl]; · iexact Hcl
    iexact How

theorem j11_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h3 : 3 < kt g e) :
    iprop((Ops c g x3 x4 t.val ∗ (∃ f8, slotAt c k f8)) ∗ MR c g PG t.val e.val n k) ⊢ WP c (j11 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have o64 := off64_eq ⟨n, by omega⟩
  have h12 := j12_step c hok PG x3 x4 γ hPG t w19 h19 e w20 he n hn k hkn hw (by omega)
  have hc := (cond11_eq ⟨kt g e, hK⟩).2 h3
  have h13 := part13_step c hok x3 x4 t.val γ e w20 he n (by omega) k hkn (BitVec.ofNat 32 n) rfl (Scf.iv 0#32 1#32 w20) (T g 0 e) rfl hw (slotW (BitVec.ofNat 32 n)) hc h3
  unfold j11
  refine wp_dif_pos hc ?_
  unfold WP at *
  rw [wp_bind]
  refine BIBase.Entails.trans (BIClass.sep_mono h13 .rfl) ?_
  refine BIBase.Entails.trans (wp_frame_r _ _ _) ?_
  refine wp_mono _ _ _ fun r => ?_
  iintro ⟨⟨%hr, HO, %f8, H8⟩, HR⟩
  subst hr
  have hv : outT g x3 x4 γ e t.val = k0_pay33 (k0_pay28 (acc g x3 x4 e t.val (kt g e - 3))) (k0_pay29 γ) := by
    unfold outT; rw [if_neg (by omega), if_neg (by omega), if_neg (by omega)]
  rw [hv] at h12
  have hst := sstore_bind c k f8 (k0_off64 (BitVec.ofNat 32 n)) (k0_off64_inb (BitVec.ofNat 32 n) (T g 0 e) hw hc) (by rw [hkn]; exact o64) (k0_pay33 (k0_pay28 (acc g x3 x4 e t.val (kt g e - 3))) (k0_pay29 γ))
    (fun _ => j12 (F := F) γ w19 w20 (BitVec.ofNat 32 n) (T g 0 e) hw) (fun r => iprop(⌜r = T g 0 e⌝ ∗ TS c g PG x3 x4 t.val (e.val + 1) (n + 1)))
    (iprop(Ops c g x3 x4 t.val ∗ MR c g PG t.val e.val n k)) (by
      unfold WP
      refine BIBase.Entails.trans ?_ h12
      iintro ⟨Ha, Hb, Hc⟩
      isplitl [Ha Hb]
      · isplitl [Hb]; · iexact Hb
        iexact Ha
      iexact Hc)
  have hld := sload_bind c k f8 (k0_off64 (BitVec.ofNat 32 n)) (k0_off64_inb (BitVec.ofNat 32 n) (T g 0 e) hw hc) (by rw [hkn]; exact o64)
    (fun _ => (Prog.lift (.store a8 (Rect.unit (s := S4x512x1536) (k0_off64 (BitVec.ofNat 32 n)) S1x512x1536.size (k0_off64_inb (BitVec.ofNat 32 n) (T g 0 e) hw hc)) (k0_pay33 (k0_pay28 (acc g x3 x4 e t.val (kt g e - 3))) (k0_pay29 γ)) Finset.univ (View.stores_vmem_bits_univ h_S1x512x1536 rfl) (.inl rfl)) :
      Prog (TpuEff nD τ sig (Elt F) Λ₀ .tc) PUnit) >>= fun _ => j12 (F := F) γ w19 w20 (BitVec.ofNat 32 n) (T g 0 e) hw) _ _ hst
  unfold WP at hld
  iapply hld
  isplitl [H8]; · iexact H8
  isplitl [HO]; · iexact HO
  iexact HR

theorem j10_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : 3 ≤ kt g e) :
    iprop((Ops c g x3 x4 t.val ∗ (∃ f8, slotAt c k f8)) ∗ MR c g PG t.val e.val n k) ⊢ WP c (j10 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have hG : g0 g e.val < 11 := by have := g0_le hok e; omega
  have hS : sl g e.val < 12 := by have := sl_kt hok e; omega
  unfold j10
  by_cases hc : kt g e = 3
  · have hc' := (cond10_eq ⟨kt g e, hK⟩).2 hc
    have h12 := j12_step c hok PG x3 x4 γ hPG t w19 h19 e w20 he n hn k hkn hw (by omega)
    have hv : outT g x3 x4 γ e t.val = k0_pay32 γ (lhsV 768 x3 (128 * g0 g e.val) t.val) (rhsV 768 g x4 e 0) := by
      unfold outT; rw [if_neg (by omega), if_neg (by omega), if_pos hc]
    rw [hv] at h12
    have o56 := off56_eq ⟨g0 g e.val, hG⟩
    have o58 := off58_eq ⟨sl g e.val, hS⟩
    have o59 := off59_eq ⟨n, by omega⟩
    refine wp_dif_pos hc' ?_
    refine wp_seq (work_step c g x3 x4 t.val e k 768 _ _ _ _ _ _ _ _ _ _ _ _ _ _ _ _ _ (128 * g0 g e.val) 0
        (by rw [← he]; exact off55_eq w20) (chk36_all ⟨kt g e, hK⟩ ⟨g0 g e.val, hG⟩ (g0_kt hok e)) o56
        (by rw [← he]; exact off57_eq w20) (chk37_all ⟨kt g e, hK⟩ ⟨sl g e.val, hS⟩ (sl_kt hok e)) o58 (by omega) (by rw [hkn]; exact o59)) ?_
    unfold j11
    refine wp_dif_neg (fun hh => absurd ((cond11_eq ⟨kt g e, hK⟩).1 hh) (by show ¬ (3 < kt g e); omega)) ?_
    exact h12
  · refine wp_dif_neg (fun hh => absurd ((cond10_eq ⟨kt g e, hK⟩).1 hh) (by show ¬ (kt g e = 3); omega)) ?_
    exact j11_step c hok PG x3 x4 γ hPG t w19 h19 e w20 he n hn k hkn hw (by omega)

theorem j9_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : 2 ≤ kt g e) :
    iprop((Ops c g x3 x4 t.val ∗ (∃ f8, slotAt c k f8)) ∗ MR c g PG t.val e.val n k) ⊢ WP c (j9 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have hG : g0 g e.val < 11 := by have := g0_le hok e; omega
  have hS : sl g e.val < 12 := by have := sl_kt hok e; omega
  unfold j9
  by_cases hc : kt g e = 2
  · have hc' := (cond9_eq ⟨kt g e, hK⟩).2 hc
    have h12 := j12_step c hok PG x3 x4 γ hPG t w19 h19 e w20 he n hn k hkn hw (by omega)
    have hv : outT g x3 x4 γ e t.val = k0_pay31 γ (lhsV 512 x3 (128 * g0 g e.val) t.val) (rhsV 512 g x4 e 0) := by
      unfold outT; rw [if_neg (by omega), if_pos hc]
    rw [hv] at h12
    have o51 := off51_eq ⟨g0 g e.val, hG⟩
    have o53 := off53_eq ⟨sl g e.val, hS⟩
    have o54 := off54_eq ⟨n, by omega⟩
    refine wp_dif_pos hc' ?_
    refine wp_seq (work_step c g x3 x4 t.val e k 512 _ _ _ _ _ _ _ _ _ _ _ _ _ _ _ _ _ (128 * g0 g e.val) 0
        (by rw [← he]; exact off50_eq w20) (chk34_all ⟨kt g e, hK⟩ ⟨g0 g e.val, hG⟩ (g0_kt hok e)) o51
        (by rw [← he]; exact off52_eq w20) (chk35_all ⟨kt g e, hK⟩ ⟨sl g e.val, hS⟩ (sl_kt hok e)) o53 (by omega) (by rw [hkn]; exact o54)) ?_
    unfold j10
    refine wp_dif_neg (fun hh => absurd ((cond10_eq ⟨kt g e, hK⟩).1 hh) (by show ¬ (kt g e = 3); omega)) ?_
    unfold j11
    refine wp_dif_neg (fun hh => absurd ((cond11_eq ⟨kt g e, hK⟩).1 hh) (by show ¬ (3 < kt g e); omega)) ?_
    exact h12
  · refine wp_dif_neg (fun hh => absurd ((cond9_eq ⟨kt g e, hK⟩).1 hh) (by show ¬ (kt g e = 2); omega)) ?_
    exact j10_step c hok PG x3 x4 γ hPG t w19 h19 e w20 he n hn k hkn hw (by omega)

theorem j8_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : 1 ≤ kt g e) :
    iprop((Ops c g x3 x4 t.val ∗ (∃ f8, slotAt c k f8)) ∗ MR c g PG t.val e.val n k) ⊢ WP c (j8 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have hG : g0 g e.val < 11 := by have := g0_le hok e; omega
  have hS : sl g e.val < 12 := by have := sl_kt hok e; omega
  unfold j8
  by_cases hc : kt g e = 1
  · have hc' := (cond8_eq ⟨kt g e, hK⟩).2 hc
    have h12 := j12_step c hok PG x3 x4 γ hPG t w19 h19 e w20 he n hn k hkn hw (by omega)
    have hv : outT g x3 x4 γ e t.val = k0_pay30 γ (lhsV 256 x3 (128 * g0 g e.val) t.val) (rhsV 256 g x4 e 0) := by
      unfold outT; rw [if_pos hc]
    rw [hv] at h12
    have o46 := off46_eq ⟨g0 g e.val, hG⟩
    have o48 := off48_eq ⟨sl g e.val, hS⟩
    have o49 := off49_eq ⟨n, by omega⟩
    refine wp_dif_pos hc' ?_
    refine wp_seq (work_step c g x3 x4 t.val e k 256 _ _ _ _ _ _ _ _ _ _ _ _ _ _ _ _ _ (128 * g0 g e.val) 0
        (by rw [← he]; exact off45_eq w20) (chk32_all ⟨kt g e, hK⟩ ⟨g0 g e.val, hG⟩ (g0_kt hok e)) o46
        (by rw [← he]; exact off47_eq w20) (chk33_all ⟨kt g e, hK⟩ ⟨sl g e.val, hS⟩ (sl_kt hok e)) o48 (by omega) (by rw [hkn]; exact o49)) ?_
    unfold j9
    refine wp_dif_neg (fun hh => absurd ((cond9_eq ⟨kt g e, hK⟩).1 hh) (by show ¬ (kt g e = 2); omega)) ?_
    unfold j10
    refine wp_dif_neg (fun hh => absurd ((cond10_eq ⟨kt g e, hK⟩).1 hh) (by show ¬ (kt g e = 3); omega)) ?_
    unfold j11
    refine wp_dif_neg (fun hh => absurd ((cond11_eq ⟨kt g e, hK⟩).1 hh) (by show ¬ (3 < kt g e); omega)) ?_
    exact h12
  · refine wp_dif_neg (fun hh => absurd ((cond8_eq ⟨kt g e, hK⟩).1 hh) (by show ¬ (kt g e = 1); omega)) ?_
    exact j9_step c hok PG x3 x4 γ hPG t w19 h19 e w20 he n hn k hkn hw (by omega)

theorem j7_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : kt g e ≠ 0) :
    TS c g PG x3 x4 t.val e.val n ⊢ WP c (j7 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have o43 := off43_eq ⟨n, by omega⟩
  have o44 := off44_eq ⟨n, by omega⟩
  have h8 := j8_step c hok PG x3 x4 γ hPG t w19 h19 e w20 he n hn k hkn hw (by omega)
  unfold j7
  by_cases h4 : 4 ≤ n
  · refine wp_dif_pos ((cond7_eq ⟨n, by omega⟩ ⟨kt g e, hK⟩).2 ⟨Nat.pos_of_ne_zero h0, h4⟩) ?_
    unfold TS
    iintro ⟨HO, HI, How⟩
    ihave HI := (inv_busy c g PG t.val e.val n k (by omega)) $$ HI
    icases HI with ⟨%p, Hb, Hcl⟩
    iapply (wp_seq (owait_step c g PG k p _ _ _ _ (by rw [hkn]; exact o43) (by rw [hkn]; exact o44))
      (R := iprop(Ops c g x3 x4 t.val ∗ ((idle c k ∗ fin c g PG p) -∗ (idle c k ∗ Opn c g PG t.val e.val n k)))) ?_) $$ [HO Hb Hcl How]
    · refine BIBase.Entails.trans ?_ h8
      unfold MR
      iintro ⟨⟨Hi, Hf, How⟩, HO, Hcl⟩
      ihave Hx := Hcl $$ [Hi Hf]
      · isplitl [Hi]; · iexact Hi
        iexact Hf
      icases Hx with ⟨Hi, Hop⟩
      unfold idle
      icases Hi with ⟨Hs, H8⟩
      isplitl [HO H8]
      · isplitl [HO]; · iexact HO
        iexact H8
      isplitl [Hs]; · iexact Hs
      isplitl [Hop]; · iexact Hop
      iexact How
    · isplitl [Hb How]
      · isplitl [Hb]; · iexact Hb
        iexact How
      isplitl [HO]; · iexact HO
      iexact Hcl
  · refine wp_dif_neg (fun hh => h4 ((cond7_eq ⟨n, by omega⟩ ⟨kt g e, hK⟩).1 hh).2) ?_
    refine BIBase.Entails.trans ?_ h8
    unfold TS MR
    iintro ⟨HO, HI, How⟩
    ihave HI := (inv_free c g PG t.val e.val n k (by omega)) $$ HI
    unfold idle
    icases HI with ⟨⟨Hs, H8⟩, Hop⟩
    isplitl [HO H8]
    · isplitl [HO]; · iexact HO
      iexact H8
    isplitl [Hs]; · iexact Hs
    isplitl [Hop]; · iexact Hop
    iexact How

theorem j7_skip (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : kt g e = 0) :
    TS c g PG x3 x4 t.val e.val n ⊢ WP c (j7 (F := F) γ w19 w20 (BitVec.ofNat 32 n) (T g 0 e) hw)
      (fun r => iprop(⌜r = T g 0 e⌝ ∗ TS c g PG x3 x4 t.val (e.val + 1) n)) := by
  have hK : kt g e < 7 := by have := kt_le hok e; omega
  unfold j7
  refine wp_dif_neg (fun hh => absurd ((cond7_eq ⟨n, by omega⟩ ⟨kt g e, hK⟩).1 hh).1 (by show ¬ (0 < kt g e); omega)) ?_
  unfold j8
  refine wp_dif_neg (fun hh => absurd ((cond8_eq ⟨kt g e, hK⟩).1 hh) (by show ¬ (kt g e = 1); omega)) ?_
  unfold j9
  refine wp_dif_neg (fun hh => absurd ((cond9_eq ⟨kt g e, hK⟩).1 hh) (by show ¬ (kt g e = 2); omega)) ?_
  unfold j10
  refine wp_dif_neg (fun hh => absurd ((cond10_eq ⟨kt g e, hK⟩).1 hh) (by show ¬ (kt g e = 3); omega)) ?_
  unfold j11
  refine wp_dif_neg (fun hh => absurd ((cond11_eq ⟨kt g e, hK⟩).1 hh) (by show ¬ (3 < kt g e); omega)) ?_
  unfold j12
  refine wp_dif_neg (fun hh => absurd ((cond12_eq ⟨kt g e, hK⟩).1 hh) (by show ¬ (0 < kt g e); omega)) ?_
  unfold WP TS
  rw [show (pure (T g 0 e) : Prog (TpuEff nD τ sig (Elt F) Λ₀ .tc) (Elt F .i32)) = Prog.ret (T g 0 e) from rfl]
  iintro ⟨HO, HI, How⟩
  sl_step
  isplitr; · ipureintro; rfl
  isplitl [HO]; · iexact HO
  isplitl [HI]
  · iapply (inv_skip c g PG t.val e h0 n); iexact HI
  iexact How

theorem part14_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63)  (w13 : BitVec 32) (A : BitVec 32) (hA : A = BitVec.ofNat 32 n) :
    TS c g PG x3 x4 t.val e.val n ⊢ WP c (k0_part14 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w13 0#32 1#32 w20 A)
      (fun r => iprop(⌜r = T g 0 e⌝ ∗ TS c g PG x3 x4 t.val (e.val + 1) (n + if kt g e = 0 then 0 else 1))) := by
  subst hA
  have hK : kt g e < 7 := by have := kt_le hok e; omega
  have hch : k0_chk31 (BitVec.ofNat 32 n) (T g 0 e) := chk31_all ⟨n, by omega⟩ ⟨kt g e, hK⟩
  have h7 : TS c g PG x3 x4 t.val e.val n ⊢ WP c (j7 (F := F) γ w19 w20 (BitVec.ofNat 32 n) (T g 0 e) hch)
      (fun r => iprop(⌜r = T g 0 e⌝ ∗ TS c g PG x3 x4 t.val (e.val + 1) (n + if kt g e = 0 then 0 else 1))) := by
    by_cases h0 : kt g e = 0
    · rw [if_pos h0]
      exact j7_skip c hok PG x3 x4 γ hPG t w19 h19 e w20 he n hn ⟨n % 4, Nat.mod_lt _ (by decide)⟩ rfl hch h0
    · rw [if_neg h0]
      exact j7_step c hok PG x3 x4 γ hPG t w19 h19 e w20 he n hn ⟨n % 4, Nat.mod_lt _ (by decide)⟩ rfl hch h0
  rw [part14_prog]
  have key := tab_bind c g 0 e (k0_off42 w20) (k0_off42_inb w20) (by rw [← he]; exact off42_eq w20) (k0_chk31 (BitVec.ofNat 32 n)) (k0_chk31.dec (BitVec.ofNat 32 n)) hch
    (fun v hw => j7 (F := F) γ w19 w20 (BitVec.ofNat 32 n) v hw) (fun r => iprop(⌜r = T g 0 e⌝ ∗ TS c g PG x3 x4 t.val (e.val + 1) (n + if kt g e = 0 then 0 else 1)))
    (iprop((∃ f7, ⌜PX x3 t.val f7⌝ ∗ (a7.view.loc (c : Thread nD τ) ↦{fullShare} f7)) ∗ (∃ f6, ⌜Rf g x4 6 0 f6⌝ ∗ (a6.view.loc (c : Thread nD τ) ↦{fullShare} f6))
     ∗ Inv c g PG t.val e.val n ∗ (∃ W, owes (c : Thread nD τ) 0 W))) (by
      refine BIBase.Entails.trans ?_ h7
      unfold TS Ops
      iintro ⟨H1, H2, H3, H4, H5⟩
      isplitl [H1 H2 H3]
      · isplitl [H1]; · iexact H1
        isplitl [H2]; · iexact H2
        iexact H3
      isplitl [H4]; · iexact H4
      iexact H5)
  refine BIBase.Entails.trans ?_ key
  unfold TS Ops
  iintro ⟨⟨H1, H2, H3⟩, H4, H5⟩
  isplitl [H1]; · iexact H1
  isplitl [H2]; · iexact H2
  isplitl [H3]; · iexact H3
  isplitl [H4]; · iexact H4
  iexact H5

end Cert.Kernel.Hand

end
-- ==== Proof.K.Tile.lean ====
module

public import proofs.«01_k».proof.Proof.K.Turn
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

theorem pay46_apply (v : Vec F S128x512 .bf16) (x : S512x128.Idx) : k0_pay34 v x = v (ix2 (x 1) (x 0)) := by
  unfold k0_pay34
  dsimp only
  rw [shapeCast_self]
  exact transpose_apply _ v _ _ _ fun b => match b with | ⟨0, _⟩ => rfl | ⟨1, _⟩ => rfl

/-- The strip with its first `m` blocks of columns filled. -/
def PXc (x3 : S1408x5120.Idx → Elt F .bf16) (t m : ℕ) (f7 : S512x1536.Idx → Elt F .bf16) : Prop :=
  ∀ y : S512x1536.Idx, ((y 1).val < 128 * m ∨ 1408 ≤ (y 1).val) → a7.view.read (Elt F) f7 y = x3n x3 (y 1).val (512 * t + (y 0).val)

theorem PXc_next (x3 : S1408x5120.Idx → Elt F .bf16) (t t' : ℕ) (f7 : S512x1536.Idx → Elt F .bf16) (h : ∀ y : S512x1536.Idx, 1408 ≤ (y 1).val → a7.view.read (Elt F) f7 y = x3n x3 (y 1).val (512 * t + (y 0).val)) :
    PXc x3 t' 0 f7 := by
  intro y hy
  have h1 : 1408 ≤ (y 1).val := by omega
  rw [h y h1]
  unfold x3n
  rw [dif_neg (by omega), dif_neg (by omega)]

theorem PXc_cons (x3 : S1408x5120.Idx → Elt F .bf16) (t m : ℕ) (hm : m < 11) (f7 : S512x1536.Idx → Elt F .bf16) (L) (h : PXc x3 t m (a7.view.writes (Elt F) f7 L))
    (o : Fin 2 → ℕ) (inb) (ho : o = ![0, 128 * m]) (v : FVec F S512x128 .bf16) (hv : ∀ x : S512x128.Idx, v x = x3n x3 (128 * m + (x 1).val) (512 * t + (x 0).val)) :
    PXc x3 t (m + 1) (a7.view.writes (Elt F) f7 (⟨Rect.unit (s := S512x1536) o S512x128.size inb, v⟩ :: L)) := by
  intro y hy
  by_cases hc : 128 * m ≤ (y 1).val ∧ (y 1).val < 128 * m + 128
  · have h0 : (y 0).val < 512 := (y 0).isLt
    rw [View.read_writes_cons_unit_of_mem a7.view f7 inb v L y (ix2 ⟨(y 0).val, h0⟩ ⟨(y 1).val - 128 * m, by omega⟩) ho (by
      intro a; match a with
      | 0 => show (y 0).val = 0 + (y 0).val; omega
      | 1 => show (y 1).val = 128 * m + ((y 1).val - 128 * m); omega), hv]
    congr 1
    show 128 * m + ((y 1).val - 128 * m) = _; omega
  · rw [View.read_writes_cons_unit_of_not_mem a7.view f7 inb v L y ho 1 (by
      show (y 1).val < 128 * m ∨ 128 * m + 128 ≤ (y 1).val; omega)]
    exact h y (by omega)

theorem col_val (x3 : S1408x5120.Idx → Elt F .bf16) (t m : ℕ) (ht : t < 10) (hm : m < 11) (o : Fin 2 → ℕ) (inb) (ho : o = ![128 * m, 512 * t]) (x : S512x128.Idx) :
    k0_pay34 (View.readAt (Elt F) a3.view (Rect.unit (s := S1408x5120) o S128x512.size inb).toLoadRect x3) x = x3n x3 (128 * m + (x 1).val) (512 * t + (x 0).val) := by
  subst ho
  rw [pay46_apply]
  have h0 : (x 0).val < 512 := (x 0).isLt
  have h1 : (x 1).val < 128 := (x 1).isLt
  unfold x3n
  rw [dif_pos ⟨by omega, by omega⟩]
  show x3 _ = x3 _
  congr 1
  funext a
  apply Fin.ext
  match a with
  | 0 => show 128 * m + 1 * (x 1).val = 128 * m + (x 1).val; omega
  | 1 => show 512 * t + 1 * (x 0).val = 512 * t + (x 0).val; omega

theorem off31_eq : ∀ t : Fin k0_t19_loop.trips, k0_off31 t = ![0, 512 * t.val] := by decide +kernel
theorem off32_eq : ∀ t : Fin k0_t19_loop.trips, k0_off32 t = ![128, 512 * t.val] := by decide +kernel
theorem off33_eq : ∀ t : Fin k0_t19_loop.trips, k0_off33 t = ![256, 512 * t.val] := by decide +kernel
theorem off34_eq : ∀ t : Fin k0_t19_loop.trips, k0_off34 t = ![384, 512 * t.val] := by decide +kernel
theorem off35_eq : ∀ t : Fin k0_t19_loop.trips, k0_off35 t = ![512, 512 * t.val] := by decide +kernel
theorem off36_eq : ∀ t : Fin k0_t19_loop.trips, k0_off36 t = ![640, 512 * t.val] := by decide +kernel
theorem off37_eq : ∀ t : Fin k0_t19_loop.trips, k0_off37 t = ![768, 512 * t.val] := by decide +kernel
theorem off38_eq : ∀ t : Fin k0_t19_loop.trips, k0_off38 t = ![896, 512 * t.val] := by decide +kernel
theorem off39_eq : ∀ t : Fin k0_t19_loop.trips, k0_off39 t = ![1024, 512 * t.val] := by decide +kernel
theorem off40_eq : ∀ t : Fin k0_t19_loop.trips, k0_off40 t = ![1152, 512 * t.val] := by decide +kernel
theorem off41_eq : ∀ t : Fin k0_t19_loop.trips, k0_off41 t = ![1280, 512 * t.val] := by decide +kernel

/-- The strip and the first operand, `m` blocks of columns filled. -/
def CS (c : Dev nD) (x3 : S1408x5120.Idx → Elt F .bf16) (t m : ℕ) : sProp 𝕄 :=
  iprop((a3.view.loc (c : Thread nD τ) ↦{fullShare} x3) ∗ (∃ f7, ⌜PXc x3 t m f7⌝ ∗ (a7.view.loc (c : Thread nD τ) ↦{fullShare} f7)))

theorem part15_step (c : Dev nD) (x3 : S1408x5120.Idx → Elt F .bf16) (t : ℕ) (ht : t < 10) (w19 : Fin k0_t19_loop.trips) (h19 : w19.val = t) :
    CS c x3 t 0 ⊢ WP c (k0_part15 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 0#32 1#32 w19)
      (fun r => iprop(⌜∀ x, k0_pay40 r.2.2 x = x3n x3 (128 * 5 + (x 1).val) (512 * t + (x 0).val)⌝ ∗ CS c x3 t 5)) := by
  subst h19
  rw [k0_part15_eq_skeleton]
  unfold k0_part15_skel CS
  iintro ⟨H3, %f7, %hf, H7⟩
  unfold WP
  sl_exec
  sl_step
  isplitr
  · ipureintro
    exact col_val x3 w19.val 5 ht (by omega) _ _ (off36_eq w19)
  isplitl [H3]; · iexact H3
  iexists _
  isplitr
  rotate_left
  · iexact H7
  · ipureintro
    refine PXc_cons x3 w19.val 4 (by omega) f7 _ ?_ _ _ rfl _ (col_val x3 w19.val 4 ht (by omega) _ _ (off35_eq w19))
    refine PXc_cons x3 w19.val 3 (by omega) f7 _ ?_ _ _ rfl _ (col_val x3 w19.val 3 ht (by omega) _ _ (off34_eq w19))
    refine PXc_cons x3 w19.val 2 (by omega) f7 _ ?_ _ _ rfl _ (col_val x3 w19.val 2 ht (by omega) _ _ (off33_eq w19))
    refine PXc_cons x3 w19.val 1 (by omega) f7 _ ?_ _ _ rfl _ (col_val x3 w19.val 1 ht (by omega) _ _ (off32_eq w19))
    refine PXc_cons x3 w19.val 0 (by omega) f7 _ ?_ _ _ rfl _ (col_val x3 w19.val 0 ht (by omega) _ _ (off31_eq w19))
    exact hf

/-- The second half of a strip's transposition. -/
def col16 (w19 : Fin k0_t19_loop.trips) (v668 : FVec F S512x128 .bf16) : Prog (TpuEff nD τ sig (Elt F) Λ₀ .tc) PUnit := do
  let _ : Vec F S512x128 .bf16 ← Prog.lift (.load a7 (Rect.unit (s := S512x1536) ![0, 640] S512x128.size inb_S512x1536_S512x128_0_640).toLoadRect (View.loadsAt_vmem h_S512x128))
  Prog.lift (.store a7 (Rect.unit (s := S512x1536) ![0, 640] S512x128.size inb_S512x1536_S512x128_0_640) (k0_pay40 v668) Finset.univ (View.stores_vmem h_S512x128 ((isWhole_whole _).storeExact_slice rfl _ packedbf16_S512x1536_S512x128_0_640) (fun _ => rfl)) (.inl rfl))
  let v6 : Vec F S128x512 .bf16 ← Prog.lift (.load a3 (Rect.unit (s := S1408x5120) (k0_off37 w19) S128x512.size (k0_off37_inb w19)).toLoadRect (View.loadsAt_vmem h_S128x512))
  let _ : Vec F S512x128 .bf16 ← Prog.lift (.load a7 (Rect.unit (s := S512x1536) ![0, 768] S512x128.size inb_S512x1536_S512x128_0_768).toLoadRect (View.loadsAt_vmem h_S512x128))
  Prog.lift (.store a7 (Rect.unit (s := S512x1536) ![0, 768] S512x128.size inb_S512x1536_S512x128_0_768) (k0_pay41 v6) Finset.univ (View.stores_vmem h_S512x128 ((isWhole_whole _).storeExact_slice rfl _ packedbf16_S512x1536_S512x128_0_768) (fun _ => rfl)) (.inl rfl))
  let v7 : Vec F S128x512 .bf16 ← Prog.lift (.load a3 (Rect.unit (s := S1408x5120) (k0_off38 w19) S128x512.size (k0_off38_inb w19)).toLoadRect (View.loadsAt_vmem h_S128x512))
  let _ : Vec F S512x128 .bf16 ← Prog.lift (.load a7 (Rect.unit (s := S512x1536) ![0, 896] S512x128.size inb_S512x1536_S512x128_0_896).toLoadRect (View.loadsAt_vmem h_S512x128))
  Prog.lift (.store a7 (Rect.unit (s := S512x1536) ![0, 896] S512x128.size inb_S512x1536_S512x128_0_896) (k0_pay42 v7) Finset.univ (View.stores_vmem h_S512x128 ((isWhole_whole _).storeExact_slice rfl _ packedbf16_S512x1536_S512x128_0_896) (fun _ => rfl)) (.inl rfl))
  let v8 : Vec F S128x512 .bf16 ← Prog.lift (.load a3 (Rect.unit (s := S1408x5120) (k0_off39 w19) S128x512.size (k0_off39_inb w19)).toLoadRect (View.loadsAt_vmem h_S128x512))
  let _ : Vec F S512x128 .bf16 ← Prog.lift (.load a7 (Rect.unit (s := S512x1536) ![0, 1024] S512x128.size inb_S512x1536_S512x128_0_1024).toLoadRect (View.loadsAt_vmem h_S512x128))
  Prog.lift (.store a7 (Rect.unit (s := S512x1536) ![0, 1024] S512x128.size inb_S512x1536_S512x128_0_1024) (k0_pay43 v8) Finset.univ (View.stores_vmem h_S512x128 ((isWhole_whole _).storeExact_slice rfl _ packedbf16_S512x1536_S512x128_0_1024) (fun _ => rfl)) (.inl rfl))
  let v9 : Vec F S128x512 .bf16 ← Prog.lift (.load a3 (Rect.unit (s := S1408x5120) (k0_off40 w19) S128x512.size (k0_off40_inb w19)).toLoadRect (View.loadsAt_vmem h_S128x512))
  let _ : Vec F S512x128 .bf16 ← Prog.lift (.load a7 (Rect.unit (s := S512x1536) ![0, 1152] S512x128.size inb_S512x1536_S512x128_0_1152).toLoadRect (View.loadsAt_vmem h_S512x128))
  Prog.lift (.store a7 (Rect.unit (s := S512x1536) ![0, 1152] S512x128.size inb_S512x1536_S512x128_0_1152) (k0_pay44 v9) Finset.univ (View.stores_vmem h_S512x128 ((isWhole_whole _).storeExact_slice rfl _ packedbf16_S512x1536_S512x128_0_1152) (fun _ => rfl)) (.inl rfl))
  let v10 : Vec F S128x512 .bf16 ← Prog.lift (.load a3 (Rect.unit (s := S1408x5120) (k0_off41 w19) S128x512.size (k0_off41_inb w19)).toLoadRect (View.loadsAt_vmem h_S128x512))
  let _ : Vec F S512x128 .bf16 ← Prog.lift (.load a7 (Rect.unit (s := S512x1536) ![0, 1280] S512x128.size inb_S512x1536_S512x128_0_1280).toLoadRect (View.loadsAt_vmem h_S512x128))
  Prog.lift (.store a7 (Rect.unit (s := S512x1536) ![0, 1280] S512x128.size inb_S512x1536_S512x128_0_1280) (k0_pay45 v10) Finset.univ (View.stores_vmem h_S512x128 ((isWhole_whole _).storeExact_slice rfl _ packedbf16_S512x1536_S512x128_0_1280) (fun _ => rfl)) (.inl rfl))
  pure ⟨⟩

theorem col16_step (c : Dev nD) (x3 : S1408x5120.Idx → Elt F .bf16) (t : ℕ) (ht : t < 10) (w19 : Fin k0_t19_loop.trips) (h19 : w19.val = t) (v668 : FVec F S512x128 .bf16)
    (hv : ∀ x, k0_pay40 v668 x = x3n x3 (128 * 5 + (x 1).val) (512 * t + (x 0).val)) :
    CS c x3 t 5 ⊢ WP c (col16 (F := F) w19 v668) (fun _ => CS c x3 t 11) := by
  subst h19
  unfold col16 CS
  iintro ⟨H3, %f7, %hf, H7⟩
  unfold WP
  sl_exec
  sl_step
  isplitl [H3]; · iexact H3
  iexists _
  isplitr
  rotate_left
  · iexact H7
  · ipureintro
    refine PXc_cons x3 w19.val 10 (by omega) f7 _ ?_ _ _ rfl _ (col_val x3 w19.val 10 ht (by omega) _ _ (off41_eq w19))
    refine PXc_cons x3 w19.val 9 (by omega) f7 _ ?_ _ _ rfl _ (col_val x3 w19.val 9 ht (by omega) _ _ (off40_eq w19))
    refine PXc_cons x3 w19.val 8 (by omega) f7 _ ?_ _ _ rfl _ (col_val x3 w19.val 8 ht (by omega) _ _ (off39_eq w19))
    refine PXc_cons x3 w19.val 7 (by omega) f7 _ ?_ _ _ rfl _ (col_val x3 w19.val 7 ht (by omega) _ _ (off38_eq w19))
    refine PXc_cons x3 w19.val 6 (by omega) f7 _ ?_ _ _ rfl _ (col_val x3 w19.val 6 ht (by omega) _ _ (off37_eq w19))
    refine PXc_cons x3 w19.val 5 (by omega) f7 _ ?_ _ _ rfl _ hv
    exact hf

theorem part16_prog (γ : F .f32) (w19) (w14 w13 w635 : BitVec 32) (v668) :
    k0_part16 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668 = (do
      col16 w19 v668
      Scf.Loop.for k0_t20_loop k0_t20_ok w14 (k0_t20_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668) >>= fun v : BitVec 32 => pure v) := by
  rw [k0_part16_eq_skeleton]; rfl

theorem wp_seq' {α β : Type} {c : Dev nD} {m : Prog (TpuEff nD τ sig (Elt F) Λ₀ .tc) α} {k : α → Prog (TpuEff nD τ sig (Elt F) Λ₀ .tc) β}
    {P R : sProp 𝕄} {P' : α → sProp 𝕄} {Q : β → sProp 𝕄} (hm : P ⊢ WP c m P') (hk : ∀ a, iprop(P' a ∗ R) ⊢ WP c (k a) Q) : iprop(P ∗ R) ⊢ WP c (m >>= k) Q := by
  unfold WP at *
  rw [wp_bind]
  refine BIBase.Entails.trans (BIClass.sep_mono hm .rfl) ?_
  refine BIBase.Entails.trans (wp_frame_r _ _ _) ?_
  exact wp_mono _ _ _ hk

/-- What a turn needs of the values: the copy out of a slot holding the block's product leaves the block as claimed. -/
def PGok (g : Fin 6 → BitVec 32) (PG : Fin 6 × Fin 40 → (S6x5120x1536.Idx → Elt F .f32) → Prop) (x3 : S1408x5120.Idx → Elt F .bf16) (x4 : S1408x1536.Idx → Elt F .bf16) (γ : F .f32) : Prop :=
  ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ)

theorem t20_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : PGok g PG x3 x4 γ) (t : Fin 10) (w19 : Fin k0_t19_loop.trips) (h19 : w19.val = t.val) (w14 w13 w635 : BitVec 32) (v668) (j : Fin k0_t20_loop.trips) (A : BitVec 32) :
    iprop(∃ n, ⌜A = BitVec.ofNat 32 n⌝ ∗ TS c g PG x3 x4 t.val j.val n) ⊢ WP c (k0_t20_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668 j A)
      (fun A' => iprop(∃ n, ⌜A' = BitVec.ofNat 32 n⌝ ∗ TS c g PG x3 x4 t.val (j.val + 1) n)) := by
  iintro ⟨%n, %hA, HT⟩
  have hj : j.val < 6 := lt_of_lt_of_eq j.isLt t20_trips
  ihave HT := (show TS c g PG x3 x4 t.val j.val n ⊢ iprop(⌜n ≤ 6 * t.val + j.val⌝ ∗ TS c g PG x3 x4 t.val j.val n) from by
    unfold TS
    iintro ⟨H1, H2, H3⟩
    ihave H2 := (inv_bound c g PG t.val j.val n) $$ H2
    icases H2 with ⟨%h, H2⟩
    isplitr; · ipureintro; exact h
    isplitl [H1]; · iexact H1
    isplitl [H2]; · iexact H2
    iexact H3) $$ HT
  icases HT with ⟨%hn, HT⟩
  have ht := t.isLt
  have hK : kt g ⟨j.val, hj⟩ < 7 := by have := kt_le hok ⟨j.val, hj⟩; omega
  have h14 := part14_step c hok PG x3 x4 γ hPG t w19 h19 ⟨j.val, hj⟩ j rfl n (by omega) w13 A hA
  unfold k0_t20_body WP
  rw [wp_bind]
  unfold WP at h14
  iapply (BIBase.Entails.trans h14 (wp_mono _ _ _ fun r => ?_)) $$ HT
  iintro ⟨%hr, HT⟩
  subst hr
  rw [show ∀ x : BitVec 32, (pure x : Prog (TpuEff nD τ sig (Elt F) Λ₀ .tc) (BitVec 32)) = Prog.ret x from fun _ => rfl]
  sl_step
  iexists _
  isplitr
  rotate_left
  · iexact HT
  · ipureintro
    rw [hA]
    exact next_eq ⟨n, by omega⟩ ⟨kt g ⟨j.val, hj⟩, hK⟩

/-- Before a strip. -/
def TS0 (c : Dev nD) (g : Fin 6 → BitVec 32) (PG : Fin 6 × Fin 40 → (S6x5120x1536.Idx → Elt F .f32) → Prop) (x3 : S1408x5120.Idx → Elt F .bf16) (x4 : S1408x1536.Idx → Elt F .bf16) (t n : ℕ) : sProp 𝕄 :=
  iprop(CS c x3 t 0 ∗ (Tab c g ∗ (∃ f6, ⌜Rf g x4 6 0 f6⌝ ∗ (a6.view.loc (c : Thread nD τ) ↦{fullShare} f6)) ∗ Inv c g PG t 0 n ∗ (∃ W, owes (c : Thread nD τ) 0 W)))

theorem CS_full (c : Dev nD) (x3 : S1408x5120.Idx → Elt F .bf16) (t : ℕ) : CS c x3 t 11 ⊢
    iprop((a3.view.loc (c : Thread nD τ) ↦{fullShare} x3) ∗ (∃ f7, ⌜PX x3 t f7⌝ ∗ (a7.view.loc (c : Thread nD τ) ↦{fullShare} f7))) := by
  unfold CS
  iintro ⟨H3, %f7, %hf, H7⟩
  isplitl [H3]; · iexact H3
  iexists f7
  isplitr
  · ipureintro; intro y; exact hf y (by omega)
  iexact H7

theorem TS_next (c : Dev nD) (g : Fin 6 → BitVec 32) (PG : Fin 6 × Fin 40 → (S6x5120x1536.Idx → Elt F .f32) → Prop) (x3 : S1408x5120.Idx → Elt F .bf16) (x4 : S1408x1536.Idx → Elt F .bf16) (t n : ℕ) :
    iprop((a3.view.loc (c : Thread nD τ) ↦{fullShare} x3) ∗ TS c g PG x3 x4 t 6 n) ⊢ TS0 c g PG x3 x4 (t + 1) n := by
  unfold TS TS0 Ops CS
  iintro ⟨H3, ⟨HT, ⟨%f7, %hf, H7⟩, H6⟩, HI, HW⟩
  isplitl [H3 H7]
  · isplitl [H3]; · iexact H3
    iexists f7
    isplitr
    · ipureintro; exact PXc_next x3 t (t + 1) f7 fun y _ => hf y
    iexact H7
  isplitl [HT]; · iexact HT
  isplitl [H6]; · iexact H6
  isplitl [HI]
  · iapply inv_row; iexact HI
  iexact HW

theorem part16_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : PGok g PG x3 x4 γ) (t : Fin 10) (w19 : Fin k0_t19_loop.trips) (h19 : w19.val = t.val) (w14 w13 w635 : BitVec 32) (v668)
    (hv : ∀ x, k0_pay40 v668 x = x3n x3 (128 * 5 + (x 1).val) (512 * t.val + (x 0).val)) (n : ℕ) (hn : w14 = BitVec.ofNat 32 n) :
    iprop(CS c x3 t.val 5 ∗ (Tab c g ∗ (∃ f6, ⌜Rf g x4 6 0 f6⌝ ∗ (a6.view.loc (c : Thread nD τ) ↦{fullShare} f6)) ∗ Inv c g PG t.val 0 n ∗ (∃ W, owes (c : Thread nD τ) 0 W)))
      ⊢ WP c (k0_part16 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668) (fun A => iprop(∃ n', ⌜A = BitVec.ofNat 32 n'⌝ ∗ TS0 c g PG x3 x4 (t.val + 1) n')) := by
  rw [part16_prog]
  refine wp_seq (col16_step c x3 t.val t.isLt w19 h19 v668 hv) ?_
  iintro ⟨HC, HT, H6, HI, HW⟩
  ihave HC := (CS_full c x3 t.val) $$ HC
  icases HC with ⟨H3, H7⟩
  unfold WP
  rw [wp_bind]
  iapply (Scf.wp_for _ _ _ _ _ _ _ _ _ (fun j A => iprop(∃ n, ⌜A = BitVec.ofNat 32 n⌝ ∗ TS c g PG x3 x4 t.val j n)) (fun j A => t20_step c hok PG x3 x4 γ hPG t w19 h19 w14 w13 w635 v668 j A))
  isplitl [HT H6 HI HW H7]
  · iexists n
    isplitr; · ipureintro; exact hn
    unfold TS Ops
    isplitl [HT H7 H6]
    · isplitl [HT]; · iexact HT
      isplitl [H7]; · iexact H7
      iexact H6
    isplitl [HI]; · iexact HI
    iexact HW
  iintro %A ⟨%n', %hA, HT⟩
  rw [show ∀ x : BitVec 32, (pure x : Prog (TpuEff nD τ sig (Elt F) Λ₀ .tc) (BitVec 32)) = Prog.ret x from fun _ => rfl]
  sl_step
  iexists n'
  isplitr; · ipureintro; exact hA
  have h6 : Scf.trips k0_t20_loop.lb k0_t20_loop.ub k0_t20_loop.st = 6 := t20_trips
  rw [h6]
  iapply (TS_next c g PG x3 x4 t.val n')
  isplitl [H3]; · iexact H3
  iexact HT

theorem t19_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ1 γ2 : Elt F .f32)
    (hPG : PGok g PG x3 x4 (k0_pay59 γ1 γ2)) (v580 : Elt F .i32) (hw) (w1 w2 w3 w4 w588) (j : Fin k0_t19_loop.trips) (A : BitVec 32) :
    iprop(∃ n, ⌜A = BitVec.ofNat 32 n⌝ ∗ TS0 c g PG x3 x4 j.val n) ⊢ WP c (k0_t19_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 γ1 γ2 j A)
      (fun A' => iprop(∃ n, ⌜A' = BitVec.ofNat 32 n⌝ ∗ TS0 c g PG x3 x4 (j.val + 1) n)) := by
  have hj : j.val < 10 := lt_of_lt_of_eq j.isLt t19_trips
  iintro ⟨%n, %hA, HT⟩
  unfold k0_t19_body
  have key := wp_seq' (part15_step c x3 j.val hj j rfl)
    (R := iprop(Tab c g ∗ (∃ f6, ⌜Rf g x4 6 0 f6⌝ ∗ (a6.view.loc (c : Thread nD τ) ↦{fullShare} f6)) ∗ Inv c g PG j.val 0 n ∗ (∃ W, owes (c : Thread nD τ) 0 W)))
    (k := fun x => do
      let v703 : BitVec 32 ← k0_part16 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 (k0_pay59 γ1 γ2) j A x.1 x.2.1 x.2.2
      pure v703)
    (Q := fun A' => iprop(∃ n, ⌜A' = BitVec.ofNat 32 n⌝ ∗ TS0 c g PG x3 x4 (j.val + 1) n)) (fun x => by
      iintro ⟨⟨%hv, HC⟩, HR⟩
      iapply (part16_step c hok PG x3 x4 _ hPG ⟨j.val, hj⟩ j rfl A x.1 x.2.1 x.2.2 hv n hA)
      isplitl [HC]; · iexact HC
      iexact HR)
  unfold TS0
  unfold TS0 at key
  iapply key
  iexact HT

end Cert.Kernel.Hand

end
-- ==== Proof.K.Drain.lean ====
module

public import proofs.«01_k».proof.Proof.K.Tile

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

section Drain
variable (c : Dev nD) (g : Fin 6 → BitVec 32) (PG : Fin 6 × Fin 40 → (S6x5120x1536.Idx → Elt F .f32) → Prop)

/-- The ring with its first `j` slots waited for, nothing left to produce. -/
def DI (n j : ℕ) : sProp 𝕄 :=
  iprop(∃ S st, ⌜RB g 10 0 n S st ∧ ∀ k : Fin 4, st k = none ↔ (n ≤ k.val ∨ k.val < j)⌝ ∗ AtP (blkΦ c g PG) S ∗ Ring.AtW (slotΦ c g PG) st)

theorem drain_start (n : ℕ) : Inv c g PG 10 0 n ⊢ DI c g PG n 0 := by
  unfold Inv DI
  iintro ⟨%S, %st, %h, HP, HW⟩
  iexists S; iexists st
  isplitr
  · ipureintro; exact ⟨h.1, fun k => by rw [h.2 k]; omega⟩
  isplitl [HP]; · iexact HP
  iexact HW

theorem drain_busy (n : ℕ) (k : Fin 4) (hk : k.val < n) :
    DI c g PG n k.val ⊢ iprop(∃ p, busy c g PG k p ∗ ((idle c k ∗ fin c g PG p) -∗ DI c g PG n (k.val + 1))) := by
  unfold DI
  iintro ⟨%S, %st, %h, HP, HW⟩
  ihave HW' := (Entails.of_eq (Ring.AtW_focus (slotΦ c g PG) st k)) $$ HW
  icases HW' with ⟨Hk, HW⟩
  have h0 : st k ≠ none := fun hn => by have := (h.2 k).1 hn; omega
  obtain ⟨p, hp⟩ := Option.ne_none_iff_exists'.mp h0
  ihave Hk := (show slotΦ c g PG k (st k) ⊢ busy c g PG k p from by rw [hp]; exact .rfl) $$ Hk
  iexists p
  isplitl [Hk]; · iexact Hk
  iintro ⟨Hi, Hf⟩
  iexists (Function.update S p .done); iexists (Function.update st k none)
  isplitr
  · ipureintro
    refine ⟨h.1.wait k p hp, fun k' => ?_⟩
    by_cases hkk : k' = k
    · subst hkk; rw [Function.update_self]; exact ⟨fun _ => .inr (by omega), fun _ => rfl⟩
    · rw [Function.update_of_ne hkk, h.2 k']
      have : k'.val ≠ k.val := fun hv => hkk (Fin.ext hv)
      omega
  isplitl [HP Hf]
  · iapply (AtP_update (blkΦ c g PG) S p .done)
    ihave HP' := (Entails.of_eq (AtP_focus (blkΦ c g PG) S p)) $$ HP
    icases HP' with ⟨-, HP⟩
    ihave Hf := (show fin c g PG p ⊢ blkΦ c g PG p .done from .rfl) $$ Hf
    isplitl [Hf]; · iexact Hf
    iexact HP
  iapply (Ring.AtW_update (slotΦ c g PG) st k none)
  ihave Hi := (show idle c k ⊢ slotΦ c g PG k none from .rfl) $$ Hi
  isplitl [Hi]; · iexact Hi
  iexact HW

theorem drain_end (n : ℕ) : DI c g PG n (min n 4) ⊢
    iprop((bigSep Finset.univ fun k : Fin 4 => idle (F := F) c k) ∗ bigSep (Finset.univ.filter fun p : Fin 6 × Fin 40 => ¬ kt g p.1 = 0) (fin c g PG)) := by
  unfold DI AtP Ring.AtW
  iintro ⟨%S, %st, %h, HP, HW⟩
  have hn : ∀ k : Fin 4, st k = none := fun k => (h.2 k).2 (by have := k.isLt; omega)
  isplitl [HW]
  · have hm : (bigSep Finset.univ fun k : Fin 4 => slotΦ c g PG k (st k)) ⊢ bigSep Finset.univ fun k : Fin 4 => idle (F := F) c k :=
      bigSep_mono fun k _ => by rw [hn k]; exact (show idle (F := F) c k ⊢ idle c k from .rfl)
    iapply hm; iexact HW
  · iapply (BIBase.Entails.trans (bigSep_subset (Finset.filter_subset _ _)) (bigSep_mono fun p hp => (by
      have hk := (Finset.mem_filter.1 hp).2
      have hS : S p = .done := by
        rcases hs : S p with _ | _ | _
        · have := (h.1.h4 p).1 hs; omega
        · obtain ⟨k, hk'⟩ := h.1.h3 p hk hs; rw [hn k] at hk'; cases hk'
        · rfl
      rw [hS]; exact BIBase.Entails.rfl : blkΦ c g PG p (S p) ⊢ fin c g PG p))) $$ HP

theorem inv_start (hP : ∀ p f, kt g p.1 ≠ 0 → 10 ≤ p.2.val → PG p f) :
    iprop((bigSep Finset.univ fun k : Fin 4 => idle (F := F) c k) ∗ bigSep (Finset.univ.filter fun p : Fin 6 × Fin 40 => ¬ kt g p.1 = 0) (own c g)) ⊢ Inv c g PG 0 0 0 := by
  have hb : bigSep (Finset.univ.filter fun p : Fin 6 × Fin 40 => ¬ kt g p.1 = 0) (own c g)
      ⊢ AtP (blkΦ c g PG) (fun p => if kt g p.1 = 0 then .away else if p.2.val < 10 then .todo else .done) := by
    unfold AtP
    rw [bigSep_filter]
    refine bigSep_mono fun p _ => ?_
    dsimp only
    by_cases hk : kt g p.1 = 0
    · rw [if_neg (not_not.2 hk), if_pos hk]
      show (BI.emp : sProp 𝕄) ⊢ iprop(⌜True⌝)
      iintro -
      ipureintro; trivial
    · rw [if_pos hk, if_neg hk]
      by_cases hj : p.2.val < 10
      · rw [if_pos hj]; exact (show own (F := F) c g p ⊢ own c g p from .rfl)
      · rw [if_neg hj]
        show own c g p ⊢ fin c g PG p
        unfold own fin
        iintro ⟨%f, Hf⟩
        iexists f
        isplitr; · ipureintro; exact hP p f hk (by omega)
        iexact Hf
  unfold Inv
  iintro ⟨HI, HB⟩
  iexists _; iexists (fun _ => none)
  isplitr
  rotate_left
  · isplitl [HB]
    · iapply hb; iexact HB
    · unfold Ring.AtW
      have hm : (bigSep Finset.univ fun k : Fin 4 => idle (F := F) c k) ⊢ bigSep Finset.univ fun k : Fin 4 => slotΦ c g PG k none :=
        bigSep_mono fun k _ => (show idle (F := F) c k ⊢ idle c k from .rfl)
      iapply hm; iexact HI
  · ipureintro
    refine ⟨⟨?_, ?_, ?_, ?_, ?_, by omega⟩, fun k => by simp⟩
    · intro k p h; cases h
    · intro k k' p h; cases h
    · intro p h1 h2
      rw [if_neg h1] at h2
      split at h2 <;> cases h2
    · intro p
      by_cases hk : kt g p.1 = 0
      · rw [if_pos hk]; exact ⟨fun h => (by cases h), fun h => absurd hk h.1⟩
      · rw [if_neg hk]
        by_cases hj : p.2.val < 10
        · rw [if_pos hj]; exact ⟨fun _ => ⟨hk, hj, by omega⟩, fun _ => rfl⟩
        · rw [if_neg hj]; exact ⟨fun h => (by cases h), fun h => absurd h.2.1 hj⟩
    · intro p h; rw [if_pos h]

end Drain

theorem t23_step (c : Dev nD) (g : Fin 6 → BitVec 32) (PG : Fin 6 × Fin 40 → (S6x5120x1536.Idx → Elt F .f32) → Prop) (v580 : Elt F .i32) (hw : k0_chk26 v580) (w1 w2 w3 w4 w588) (n : Fin 64) (hw44)
    (j : Fin (k0_t23_loop (BitVec.ofNat 32 n.val)).trips) (u : Unit) :
    iprop(DI c g PG n.val j.val ∗ (∃ W, owes (c : Thread nD τ) 0 W)) ⊢ WP c (k0_t23_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 (BitVec.ofNat 32 n.val) hw44 j u)
      (fun _ => iprop(DI c g PG n.val (j.val + 1) ∗ (∃ W, owes (c : Thread nD τ) 0 W))) := by
  have hj : j.val < min n.val 4 := lt_of_lt_of_eq j.isLt (t23_trips n).1
  rw [show k0_t23_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 (BitVec.ofNat 32 n.val) hw44 j u = owait (F := F) _ (k0_off80_inb _ hw44 j) _ (k0_off81_inb _ hw44 j) from rfl]
  iintro ⟨HD, HW⟩
  ihave HD := (drain_busy c g PG n.val ⟨j.val, by omega⟩ (by show j.val < n.val; omega)) $$ HD
  icases HD with ⟨%p, Hb, Hk⟩
  have hs := owait_step c g PG ⟨j.val, by omega⟩ p _ (k0_off80_inb _ hw44 j) _ (k0_off81_inb _ hw44 j) (off80_eq n j).1 (off80_eq n j).2
  unfold WP at *
  iapply (BIBase.Entails.trans (BIBase.Entails.trans (BIClass.sep_mono hs .rfl) (wp_frame_r _ _ _)) (wp_mono _ _ _ fun r => ?_))
  rotate_left
  · isplitl [Hb HW]
    · isplitl [Hb]; · iexact Hb
      iexact HW
    iexact Hk
  iintro ⟨⟨Hi, Hf, HW⟩, Hk⟩
  isplitr [HW]
  · iapply Hk
    isplitl [Hi]; · iexact Hi
    iexact Hf
  iexact HW

/-- The scales' loads and the strip's last columns set to zero. -/
def pre34 : Prog (TpuEff nD τ sig (Elt F) Λ₀ .tc) (Σ' (_ : Elt F .f32), Elt F .f32) := do
  let v591 : Elt F .f32 ← smemLoad a1 (Rect.unit (s := S1) ![0] S1.size inb_S1_S1_0) numel1_S1 rfl
  let v592 : Elt F .f32 ← smemLoad a2 (Rect.unit (s := S1) ![0] S1.size inb_S1_S1_0) numel1_S1 rfl
  let v595 : Vec F S512x128 .bf16 ← Prog.lift (.load a7 (Rect.unit (s := S512x1536) ![0, 1408] S512x128.size inb_S512x1536_S512x128_0_1408).toLoadRect (View.loadsAt_vmem h_S512x128))
  Prog.lift (.store a7 (Rect.unit (s := S512x1536) ![0, 1408] S512x128.size inb_S512x1536_S512x128_0_1408) (k0_pay60 (F := F)) Finset.univ (View.stores_vmem h_S512x128 ((isWhole_whole _).storeExact_slice rfl _ packedbf16_S512x1536_S512x128_0_1408) (fun _ => rfl)) (.inl rfl))
  pure ⟨v591, v592⟩

/-- The first expert's waits for its zeros. -/
def end34 (v580 : Elt F .i32) (hw : k0_chk26 v580) (w1 w2 w3 w4 w588 : BitVec 32) : Prog (TpuEff nD τ sig (Elt F) Λ₀ .tc) PUnit := do
  let v610 : Elt F .i32 ← smemLoad a10 (Rect.unit (s := S5x6) ![0, 0] S1x1.size inb_S5x6_S1x1_0_0) numel1_S1x1 rfl
  let v611 : BitVec 1 := Scalar.cmpi .eq v610 0#32
  let v612 : BitVec 32 := Scalar.extui v611
  let v613 : BitVec 1 := Scalar.cmpi .ne v612 0#32
  if v613 = 1#1 then do
    Scf.Loop.for k0_t25_loop k0_t25_ok ⟨⟩ (k0_t25_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
    pure ⟨⟩
  else do
    pure ⟨⟩

/-- The ring's last waits. -/
def drain34 (v580 : Elt F .i32) (hw : k0_chk26 v580) (w1 w2 w3 w4 w588 v599 : BitVec 32) : Prog (TpuEff nD τ sig (Elt F) Λ₀ .tc) PUnit := do
  have k0_hw44 : k0_chk44 v599 := (← Prog.lift (TpuEff.assume (k0_chk44 v599) (k0_chk44.dec v599))).down
  Scf.Loop.for (k0_t23_loop v599) (k0_t23_ok v599 k0_hw44) ⟨⟩ (k0_t23_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 v599 k0_hw44)
  Scf.Loop.for (k0_t24_loop v599) (k0_t24_ok v599 k0_hw44) ⟨⟩ (k0_t24_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 v599 k0_hw44)
  end34 v580 hw w1 w2 w3 w4 w588

/-- All after the last expert's rows. -/
def tail34 (v580 : Elt F .i32) (hw : k0_chk26 v580) (w1 w2 w3 w4 w588 : BitVec 32) : Prog (TpuEff nD τ sig (Elt F) Λ₀ .tc) PUnit :=
  pre34 >>= fun x => (Scf.Loop.for k0_t19_loop k0_t19_ok 0#32 (k0_t19_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 x.1 x.2)) >>= fun v599 => drain34 v580 hw w1 w2 w3 w4 w588 v599

theorem part34_prog (v580 : Elt F .i32) (hw : k0_chk26 v580) (w1 w2 w3 w4 w588 : BitVec 32) : k0_part34 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 = (do
    Scf.Loop.for (k0_t17_loop v580) (k0_t17_ok v580 hw) () (k0_t17_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
    Scf.Loop.for (k0_t18_loop v580) (k0_t18_ok v580 hw) () (k0_t18_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 (Scalar.addi w3 (Scalar.muli w588 w4)))
    tail34 v580 hw w1 w2 w3 w4 w588) := by
  rw [k0_part34_eq_skeleton]; rfl

/-- One scale: the single element of its buffer. -/
def sca (x : S1.Idx → Elt F .f32) : Elt F .f32 := x (ix1 0)

theorem pay72_apply (x : S512x128.Idx) : (k0_pay60 (F := F)) x = Scalar.ofBits .bf16 0x0000#16 := by
  unfold k0_pay60
  rw [shapeCast_self]
  rfl

theorem S1_sub (i j : S1.Idx) : i = j := by
  funext a
  apply Fin.ext
  match a with
  | 0 =>
    have h1 : (i 0).val < 1 := (i 0).isLt
    have h2 : (j 0).val < 1 := (j 0).isLt
    show (i 0).val = (j 0).val
    omega

theorem pre34_step (c : Dev nD) (x1 x2 : S1.Idx → Elt F .f32) (x3 : S1408x5120.Idx → Elt F .bf16) :
    iprop((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7))
      ⊢ WP c (pre34 (F := F)) (fun r => iprop(⌜r = ⟨sca x1, sca x2⟩⌝ ∗ (a1.view.loc (c : Thread nD τ) ↦{fullShare} x1) ∗ (a2.view.loc (c : Thread nD τ) ↦{fullShare} x2) ∗ CS c x3 0 0)) := by
  unfold pre34 CS
  iintro ⟨H1, H2, H3, %f7, H7⟩
  unfold WP
  sl_exec
  sl_step
  isplitr
  · ipureintro
    exact congrArg₂ (fun (a b : Elt F .f32) => (⟨a, b⟩ : Σ' (_ : Elt F .f32), Elt F .f32)) (congrArg x1 (S1_sub _ _)) (congrArg x2 (S1_sub _ _))
  isplitl [H1]; · iexact H1
  isplitl [H2]; · iexact H2
  isplitl [H3]; · iexact H3
  iexists _
  isplitr
  rotate_left
  · iexact H7
  · ipureintro
    refine PXc_next x3 0 0 _ fun y hy => ?_
    have h0 : (y 0).val < 512 := (y 0).isLt
    have h1 : (y 1).val < 1536 := (y 1).isLt
    rw [View.read_writes_cons_unit_of_mem a7.view f7 inb_S512x1536_S512x128_0_1408 (k0_pay60 (F := F)) [] y (ix2 ⟨(y 0).val, h0⟩ ⟨(y 1).val - 1408, by omega⟩) rfl (by
      intro a; match a with
      | 0 => show (y 0).val = 0 + (y 0).val; omega
      | 1 => show (y 1).val = 1408 + ((y 1).val - 1408); omega), pay72_apply]
    unfold x3n
    rw [dif_neg (by omega)]

theorem zcond : ∀ K : Fin 7, Scalar.cmpi .ne (Scalar.extui (Scalar.cmpi .eq (BitVec.ofNat 32 K.val) 0#32) : BitVec 32) 0#32 = 1#1 ↔ K.val = 0 := by decide +kernel
theorem t25_trips : k0_t25_loop.trips = 40 := by decide +kernel

theorem drain34_step (c : Dev nD) {g : Fin 6 → BitVec 32} (hok : Ok g) (PG : Fin 6 × Fin 40 → (S6x5120x1536.Idx → Elt F .f32) → Prop) (z : S128x1536.Idx → Elt F .f32)
    (v580 : Elt F .i32) (hw : k0_chk26 v580) (w1 w2 w3 w4 w588) (n : Fin 64) :
    iprop((Inv c g PG 10 0 n.val ∗ (∃ W, owes (c : Thread nD τ) 0 W)) ∗ (Tab c g ∗ ZS c g PG z (40 * zr g 6))) ⊢ WP c (drain34 (F := F) v580 hw w1 w2 w3 w4 w588 (BitVec.ofNat 32 n.val))
      (fun _ => iprop((bigSep Finset.univ fun k : Fin 4 => idle (F := F) c k) ∗ (bigSep (Finset.univ.filter fun p : Fin 6 × Fin 40 => ¬ kt g p.1 = 0) (fin c g PG)) ∗ Tab c g ∗ ZW c g PG z (40 * zr g 1))) := by
  have hc := (t23_trips n).2.2
  have hK : kt g 0 < 7 := by have := kt_le hok 0; omega
  unfold drain34
  iintro ⟨⟨HI, HW⟩, HT, HZ⟩
  unfold WP
  sl_exec
  rw [wp_bind]
  iapply (Scf.wp_for _ _ _ _ _ _ _ _ _ (fun j _ => iprop(DI c g PG n.val j ∗ (∃ W, owes (c : Thread nD τ) 0 W))) (fun j u => t23_step c g PG v580 hw w1 w2 w3 w4 w588 n hc j u))
  isplitl [HI HW]
  · isplitl [HI]
    · iapply drain_start; iexact HI
    iexact HW
  iintro %u ⟨HD, HW⟩
  rw [show Scf.trips (k0_t23_loop (BitVec.ofNat 32 n.val)).lb (k0_t23_loop (BitVec.ofNat 32 n.val)).ub (k0_t23_loop (BitVec.ofNat 32 n.val)).st = min n.val 4 from (t23_trips n).1]
  ihave HD := (drain_end c g PG n.val) $$ HD
  icases HD with ⟨HI, HF⟩
  rw [wp_bind]
  iapply (Scf.wp_for _ _ _ _ _ _ _ _ _ (fun _ _ => iprop(⌜True⌝)) (fun k u => absurd (lt_of_lt_of_eq k.isLt (t23_trips n).2.1) (Nat.not_lt_zero _)))
  isplitr
  · ipureintro; trivial
  iintro %u2 -
  icases HW with ⟨%W, HW⟩
  ihave HZ := (z_turn c g PG z W) $$ [HZ HW]
  · isplitl [HZ]; · iexact HZ
    iexact HW
  unfold end34
  have hk : iprop(Tab c g ∗ (ZW c g PG z 0 ∗ ((bigSep Finset.univ fun k : Fin 4 => idle (F := F) c k) ∗ (bigSep (Finset.univ.filter fun p : Fin 6 × Fin 40 => ¬ kt g p.1 = 0) (fin c g PG)))))
      ⊢ WP c (do
        if Scalar.cmpi .ne (Scalar.extui (Scalar.cmpi .eq (T g 0 0) 0#32)) 0#32 = 1#1 then do
          Scf.Loop.for k0_t25_loop k0_t25_ok () (k0_t25_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
          pure PUnit.unit
        else do
          pure PUnit.unit)
      (fun _ => iprop((bigSep Finset.univ fun k : Fin 4 => idle (F := F) c k) ∗ (bigSep (Finset.univ.filter fun p : Fin 6 × Fin 40 => ¬ kt g p.1 = 0) (fin c g PG)) ∗ Tab c g ∗ ZW c g PG z (40 * zr g 1))) := by
    have hs := wseg c g PG z 0 k0_t25_loop k0_t25_ok t25_trips (k0_t25_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588) k0_off84 k0_off84_inb (fun _ _ => rfl)
      (Scalar.cmpi .ne (Scalar.extui (Scalar.cmpi .eq (T g 0 0) 0#32)) 0#32 = 1#1) (zcond ⟨kt g 0, hK⟩)
    rw [show 40 * zr g (0 : Fin 6).val = 0 by rw [show (0 : Fin 6).val = 0 from rfl, zr_zero]] at hs
    unfold WP at *
    refine BIBase.Entails.trans ?_ (BIBase.Entails.trans (BIBase.Entails.trans (BIClass.sep_mono hs (.rfl : iprop(Tab c g ∗ ((bigSep Finset.univ fun k : Fin 4 => idle (F := F) c k) ∗ (bigSep (Finset.univ.filter fun p : Fin 6 × Fin 40 => ¬ kt g p.1 = 0) (fin c g PG)))) ⊢ _)) (wp_frame_r _ _ _)) (wp_mono _ _ _ fun r => ?_))
    · iintro ⟨HT, HZ, HR⟩
      isplitl [HZ]; · iexact HZ
      isplitl [HT]; · iexact HT
      iexact HR
    · iintro ⟨HZ, HT, HI, HF⟩
      isplitl [HI]; · iexact HI
      isplitl [HF]; · iexact HF
      isplitl [HT]; · iexact HT
      iexact HZ
  have hl := tload_bind c g 0 0 (fun v => do
        if Scalar.cmpi .ne (Scalar.extui (Scalar.cmpi .eq v 0#32)) 0#32 = 1#1 then do
          Scf.Loop.for k0_t25_loop k0_t25_ok () (k0_t25_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
          pure PUnit.unit
        else do
          pure PUnit.unit) _ _ hk
  unfold WP at hl
  iapply hl
  isplitl [HT]; · iexact HT
  isplitl [HZ]; · iexact HZ
  isplitl [HI]; · iexact HI
  iexact HF

theorem tail34_step (c : Dev nD) {g : Fin 6 → BitVec 32} (hok : Ok g) (PG : Fin 6 × Fin 40 → (S6x5120x1536.Idx → Elt F .f32) → Prop) (z : S128x1536.Idx → Elt F .f32)
    (x1 x2 : S1.Idx → Elt F .f32) (x3 : S1408x5120.Idx → Elt F .bf16) (x4 : S1408x1536.Idx → Elt F .bf16)
    (hPG : PGok g PG x3 x4 (k0_pay59 (sca x1) (sca x2)))
    (v580 : Elt F .i32) (hw) (w1 w2 w3 w4 w588) :
    iprop(RS c g x4 6 0 ∗ ((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7)
      ∗ Inv c g PG 0 0 0 ∗ (∃ W, owes (c : Thread nD τ) 0 W) ∗ ZS c g PG z (40 * zr g 6)))
    ⊢ WP c (tail34 (F := F) v580 hw w1 w2 w3 w4 w588) (fun _ => iprop((a1.view.loc (c : Thread nD τ) ↦{fullShare} x1) ∗ (a2.view.loc (c : Thread nD τ) ↦{fullShare} x2)
      ∗ (a3.view.loc (c : Thread nD τ) ↦{fullShare} x3) ∗ (a4.view.loc (c : Thread nD τ) ↦{fullShare} x4) ∗ (∃ f6, a6.view.loc (c : Thread nD τ) ↦{fullShare} f6) ∗ (∃ f7, a7.view.loc (c : Thread nD τ) ↦{fullShare} f7)
      ∗ (bigSep Finset.univ fun k : Fin 4 => idle (F := F) c k) ∗ (bigSep (Finset.univ.filter fun p : Fin 6 × Fin 40 => ¬ kt g p.1 = 0) (fin c g PG)) ∗ Tab c g ∗ ZW c g PG z (40 * zr g 1))) := by
  unfold tail34 RS
  iintro ⟨⟨HT, H4, %f6, %hf6, H6⟩, H1, H2, H3, H7, HI, HW, HZ⟩
  have h1 := pre34_step c x1 x2 x3
  unfold WP at *
  rw [wp_bind]
  iapply (BIBase.Entails.trans (BIBase.Entails.trans (BIClass.sep_mono h1 (.rfl : iprop(Tab c g ∗ (a4.view.loc (c : Thread nD τ) ↦{fullShare} x4) ∗ (a6.view.loc (c : Thread nD τ) ↦{fullShare} f6) ∗ Inv c g PG 0 0 0 ∗ (∃ W, owes (c : Thread nD τ) 0 W) ∗ ZS c g PG z (40 * zr g 6)) ⊢ _)) (wp_frame_r _ _ _)) (wp_mono _ _ _ fun r => ?_))
  rotate_left
  · isplitl [H1 H2 H3 H7]
    · isplitl [H1]; · iexact H1
      isplitl [H2]; · iexact H2
      isplitl [H3]; · iexact H3
      iexact H7
    isplitl [HT]; · iexact HT
    isplitl [H4]; · iexact H4
    isplitl [H6]; · iexact H6
    isplitl [HI]; · iexact HI
    isplitl [HW]; · iexact HW
    iexact HZ
  iintro ⟨⟨%hr, H1, H2, HC⟩, HT, H4, H6, HI, HW, HZ⟩
  subst hr
  rw [wp_bind]
  iapply (Scf.wp_for _ _ _ _ _ _ _ _ _ (fun j A => iprop(∃ n, ⌜A = BitVec.ofNat 32 n⌝ ∗ TS0 c g PG x3 x4 j n)) (fun j A => t19_step c hok PG x3 x4 (sca x1) (sca x2) hPG v580 hw w1 w2 w3 w4 w588 j A))
  isplitl [HC HT H6 HI HW]
  · iexists 0
    isplitr; · ipureintro; rfl
    unfold TS0
    isplitl [HC]; · iexact HC
    isplitl [HT]; · iexact HT
    isplitl [H6]
    · iexists f6
      isplitr; · ipureintro; exact hf6
      iexact H6
    isplitl [HI]; · iexact HI
    iexact HW
  iintro %A ⟨%n, %hA, HS⟩
  rw [show Scf.trips k0_t19_loop.lb k0_t19_loop.ub k0_t19_loop.st = 10 from t19_trips]
  subst hA
  unfold TS0 CS
  icases HS with ⟨⟨H3, %f7, %hf7, H7⟩, HT, ⟨%f6', %hf6', H6⟩, HI, HW⟩
  ihave HI := (inv_bound c g PG 10 0 n) $$ HI
  icases HI with ⟨%hn, HI⟩
  have h2 := drain34_step c hok PG z v580 hw w1 w2 w3 w4 w588 ⟨n, by omega⟩
  unfold WP at h2
  iapply (BIBase.Entails.trans (BIBase.Entails.trans (BIClass.sep_mono h2 (.rfl : iprop((a1.view.loc (c : Thread nD τ) ↦{fullShare} x1) ∗ (a2.view.loc (c : Thread nD τ) ↦{fullShare} x2)
      ∗ (a3.view.loc (c : Thread nD τ) ↦{fullShare} x3) ∗ (a4.view.loc (c : Thread nD τ) ↦{fullShare} x4) ∗ (a6.view.loc (c : Thread nD τ) ↦{fullShare} f6') ∗ (a7.view.loc (c : Thread nD τ) ↦{fullShare} f7)) ⊢ _)) (wp_frame_r _ _ _)) (wp_mono _ _ _ fun r => ?_))
  rotate_left
  · isplitl [HI HW HT HZ]
    · isplitl [HI HW]
      · isplitl [HI]; · iexact HI
        iexact HW
      isplitl [HT]; · iexact HT
      iexact HZ
    isplitl [H1]; · iexact H1
    isplitl [H2]; · iexact H2
    isplitl [H3]; · iexact H3
    isplitl [H4]; · iexact H4
    isplitl [H6]; · iexact H6
    iexact H7
  iintro ⟨⟨HI, HF, HT, HZ⟩, H1, H2, H3, H4, H6, H7⟩
  isplitl [H1]; · iexact H1
  isplitl [H2]; · iexact H2
  isplitl [H3]; · iexact H3
  isplitl [H4]; · iexact H4
  isplitl [H6]; · iexists _; iexact H6
  isplitl [H7]; · iexists _; iexact H7
  isplitl [HI]; · iexact HI
  isplitl [HF]; · iexact HF
  isplitl [HT]; · iexact HT
  iexact HZ

end Cert.Kernel.Hand

end
-- ==== Proof.K.Body.lean ====
module

public import proofs.«01_k».proof.Proof.K.Drain
public import Idealize.ShloMosaic.Lib.Writes

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

/-- The test for an expert without rows. -/
abbrev cz (v : BitVec 32) : Prop := Scalar.cmpi .ne (Scalar.extui (Scalar.cmpi .eq v 0#32) : BitVec 32) 0#32 = 1#1

theorem cz_iff {g : Fin 6 → BitVec 32} (hok : Ok g) (e : Fin 6) : cz (T g 0 e) ↔ kt g e = 0 :=
  zcond ⟨kt g e, by have := kt_le hok e; omega⟩

theorem ziss_bind (c : Dev nD) {g : Fin 6 → BitVec 32} (hok : Ok g) (PG) (z : S128x1536.Idx → Elt F .f32)
    (hz : ∀ e j fd, kt g e = 0 → PG (e, j) ((zblk e j).view.write (Elt F) fd z Finset.univ)) (e : Fin 6) {β : Type}
    (lp : Scf.Loop 32) (hlp : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zissue (off k) (inb k)) (ho : ∀ k, off k = ![e.val, 128 * k.val, 0])
    (kont : Prog (TpuEff nD τ sig (Elt F) Λ₀ .tc) β) (Q : β → sProp 𝕄) (R : sProp 𝕄) (v : BitVec 32) (hv : v = T g 0 e)
    (hk : iprop(ZS c g PG z (40 * zr g (e.val + 1)) ∗ R) ⊢ WP c kont Q) :
    iprop(ZS c g PG z (40 * zr g e.val) ∗ R) ⊢ WP c (if cz v then (Scf.Loop.for lp hlp () body >>= fun _ => kont) else kont) Q := by
  subst hv
  refine wp_if_join (k := fun _ => kont) ?_
  have hs := zseg c g PG z e hz lp hlp ht body off inb hb ho (cz (T g 0 e)) (cz_iff hok e)
  unfold WP at *
  exact BIBase.Entails.trans (BIClass.sep_mono hs .rfl) (BIBase.Entails.trans (wp_frame_r _ _ _) (wp_mono _ _ _ fun _ => hk))

theorem zload_bind (c : Dev nD) {g : Fin 6 → BitVec 32} (hok : Ok g) (PG) (z : S128x1536.Idx → Elt F .f32)
    (hz : ∀ e j fd, kt g e = 0 → PG (e, j) ((zblk e j).view.write (Elt F) fd z Finset.univ)) (e : Fin 6) {β : Type}
    (lp : Scf.Loop 32) (hlp : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zissue (off k) (inb k)) (ho : ∀ k, off k = ![e.val, 128 * k.val, 0])
    (kont : Prog (TpuEff nD τ sig (Elt F) Λ₀ .tc) β) (Q : β → sProp 𝕄) (R : sProp 𝕄)
    (hk : iprop(Tab c g ∗ (ZS c g PG z (40 * zr g (e.val + 1)) ∗ R)) ⊢ WP c kont Q) :
    iprop(Tab c g ∗ (ZS c g PG z (40 * zr g e.val) ∗ R)) ⊢ WP c (tload (F := F) 0 e >>= fun v => if cz v then (Scf.Loop.for lp hlp () body >>= fun _ => kont) else kont) Q := by
  refine tload_bind c g 0 e (fun v => if cz v then (Scf.Loop.for lp hlp () body >>= fun _ => kont) else kont) Q _ ?_
  have h := ziss_bind c hok PG z hz e lp hlp ht body off inb hb ho kont Q iprop(Tab c g ∗ R) (T g 0 e) rfl (by
    refine BIBase.Entails.trans ?_ hk
    iintro ⟨HZ, HT, HR⟩
    isplitl [HT]; · iexact HT
    isplitl [HZ]; · iexact HZ
    iexact HR)
  refine BIBase.Entails.trans ?_ h
  iintro ⟨HT, HZ, HR⟩
  isplitl [HZ]; · iexact HZ
  isplitl [HT]; · iexact HT
  iexact HR

theorem wload_bind (c : Dev nD) {g : Fin 6 → BitVec 32} (hok : Ok g) (PG) (z : S128x1536.Idx → Elt F .f32) (e : Fin 6) {β : Type}
    (lp : Scf.Loop 32) (hlp : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zwait (off k) (inb k))
    (kont : Prog (TpuEff nD τ sig (Elt F) Λ₀ .tc) β) (Q : β → sProp 𝕄)
    (hk : iprop(Tab c g ∗ ZW c g PG z (40 * zr g (e.val + 1))) ⊢ WP c kont Q) :
    iprop(Tab c g ∗ ZW c g PG z (40 * zr g e.val)) ⊢ WP c (tload (F := F) 0 e >>= fun v => if cz v then (Scf.Loop.for lp hlp () body >>= fun _ => kont) else kont) Q := by
  refine tload_bind c g 0 e (fun v => if cz v then (Scf.Loop.for lp hlp () body >>= fun _ => kont) else kont) Q _ ?_
  refine wp_if_join (k := fun _ => kont) ?_
  have hs := wseg c g PG z e lp hlp ht body off inb hb (cz (T g 0 e)) (cz_iff hok e)
  unfold WP at *
  refine BIBase.Entails.trans (BIClass.sep_mono .rfl hs) (BIBase.Entails.trans (wp_frame_l _ _ _) (wp_mono _ _ _ fun _ => hk))

theorem t1_trips : k0_t1_loop.trips = 40 := by decide +kernel
theorem off1_eq : ∀ k : Fin k0_t1_loop.trips, k0_off1 k = ![0, 128 * k.val, 0] := by decide +kernel
theorem t2_trips : k0_t2_loop.trips = 40 := by decide +kernel
theorem off2_eq : ∀ k : Fin k0_t2_loop.trips, k0_off2 k = ![1, 128 * k.val, 0] := by decide +kernel
theorem t3_trips : k0_t3_loop.trips = 40 := by decide +kernel
theorem off3_eq : ∀ k : Fin k0_t3_loop.trips, k0_off3 k = ![2, 128 * k.val, 0] := by decide +kernel
theorem t4_trips : k0_t4_loop.trips = 40 := by decide +kernel
theorem off4_eq : ∀ k : Fin k0_t4_loop.trips, k0_off4 k = ![3, 128 * k.val, 0] := by decide +kernel
theorem t5_trips : k0_t5_loop.trips = 40 := by decide +kernel
theorem off5_eq : ∀ k : Fin k0_t5_loop.trips, k0_off5 k = ![4, 128 * k.val, 0] := by decide +kernel
theorem t6_trips : k0_t6_loop.trips = 40 := by decide +kernel
theorem off6_eq : ∀ k : Fin k0_t6_loop.trips, k0_off6 k = ![5, 128 * k.val, 0] := by decide +kernel
theorem t26_trips : k0_t26_loop.trips = 40 := by decide +kernel
theorem t27_trips : k0_t27_loop.trips = 40 := by decide +kernel
theorem t28_trips : k0_t28_loop.trips = 40 := by decide +kernel
theorem t29_trips : k0_t29_loop.trips = 40 := by decide +kernel
theorem t30_trips : k0_t30_loop.trips = 40 := by decide +kernel

section Issue
variable (v351 v414 v434 v451 : BitVec 32) (v452 : BitVec 1) (v490 : BitVec 32)

def z4' : Prog (TpuEff nD τ sig (Elt F) Λ₀ .tc) (Elt F .i32) := tload 0 3
def z3  : Prog (TpuEff nD τ sig (Elt F) Λ₀ .tc) (Elt F .i32) :=
  tload 0 2 >>= fun v => if cz v then (Scf.Loop.for k0_t3_loop k0_t3_ok () (k0_t3_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) >>= fun _ => z4') else z4'

def z2  : Prog (TpuEff nD τ sig (Elt F) Λ₀ .tc) (Elt F .i32) :=
  tload 0 1 >>= fun v => if cz v then (Scf.Loop.for k0_t2_loop k0_t2_ok () (k0_t2_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) >>= fun _ => z3 v351 v414 v434 v451 v452 v490) else z3 v351 v414 v434 v451 v452 v490

def z1  : Prog (TpuEff nD τ sig (Elt F) Λ₀ .tc) (Elt F .i32) :=
  tload 0 0 >>= fun v => if cz v then (Scf.Loop.for k0_t1_loop k0_t1_ok () (k0_t1_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) >>= fun _ => z2 v351 v414 v434 v451 v452 v490) else z2 v351 v414 v434 v451 v452 v490

/-- The table's last column and the block of zeros. -/
def pre30 : Prog (TpuEff nD τ sig (Elt F) Λ₀ .tc) PUnit := do
  let _ : Elt F .i32 ← smemLoad a10 (Rect.unit (s := S5x6) ![0, 5] S1x1.size inb_S5x6_S1x1_0_5) numel1_S1x1 rfl
  Prog.lift (.store a10 (Rect.unit (s := S5x6) ![0, 5] S1x1.size inb_S5x6_S1x1_0_5) (fun _ => Scalar.select v452 v490 0#32) Finset.univ (View.stores_smem_one rfl numel1_S1x1) (.inl rfl))
  let _ : Elt F .i32 ← smemLoad a10 (Rect.unit (s := S5x6) ![1, 5] S1x1.size inb_S5x6_S1x1_1_5) numel1_S1x1 rfl
  Prog.lift (.store a10 (Rect.unit (s := S5x6) ![1, 5] S1x1.size inb_S5x6_S1x1_1_5) (fun _ => v451) Finset.univ (View.stores_smem_one rfl numel1_S1x1) (.inl rfl))
  let _ : Elt F .i32 ← smemLoad a10 (Rect.unit (s := S5x6) ![2, 5] S1x1.size inb_S5x6_S1x1_2_5) numel1_S1x1 rfl
  Prog.lift (.store a10 (Rect.unit (s := S5x6) ![2, 5] S1x1.size inb_S5x6_S1x1_2_5) (fun _ => v414) Finset.univ (View.stores_smem_one rfl numel1_S1x1) (.inl rfl))
  let _ : Elt F .i32 ← smemLoad a10 (Rect.unit (s := S5x6) ![3, 5] S1x1.size inb_S5x6_S1x1_3_5) numel1_S1x1 rfl
  Prog.lift (.store a10 (Rect.unit (s := S5x6) ![3, 5] S1x1.size inb_S5x6_S1x1_3_5) (fun _ => v351) Finset.univ (View.stores_smem_one rfl numel1_S1x1) (.inl rfl))
  let _ : Elt F .i32 ← smemLoad a10 (Rect.unit (s := S5x6) ![4, 5] S1x1.size inb_S5x6_S1x1_4_5) numel1_S1x1 rfl
  Prog.lift (.store a10 (Rect.unit (s := S5x6) ![4, 5] S1x1.size inb_S5x6_S1x1_4_5) (fun _ => v434) Finset.univ (View.stores_smem_one rfl numel1_S1x1) (.inl rfl))
  let v498 : Vec F S128x1536 .f32 ← Prog.lift (.load a9 (Rect.unit (s := S128x1536) ![0, 0] S128x1536.size inb_S128x1536_S128x1536_0_0).toLoadRect (View.loadsAt_vmem h_S128x1536))
  Prog.lift (.store a9 (Rect.unit (s := S128x1536) ![0, 0] S128x1536.size inb_S128x1536_S128x1536_0_0) (k0_pay46 (F := F)) Finset.univ (View.stores_vmem_bits_univ h_S128x1536 rfl) (.inl rfl))
  pure ⟨⟩

theorem part30_prog : k0_part30 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490 = (pre30 v351 v414 v434 v451 v452 v490 >>= fun _ => z1 v351 v414 v434 v451 v452 v490) := by
  rw [k0_part30_eq_skeleton]; rfl
end Issue

theorem mem_unit11 (r e : ℕ) (inb) (y : S5x6.Idx) : y ∈ (Rect.unit (s := S5x6) ![r, e] S1x1.size inb).set ↔ (y 0).val = r ∧ (y 1).val = e := by
  simp only [Rect.mem_set_unit]
  constructor
  · intro H
    have h0 : r ≤ (y 0).val ∧ (y 0).val < r + 1 := H 0
    have h1 : e ≤ (y 1).val ∧ (y 1).val < e + 1 := H 1
    omega
  · rintro ⟨h0, h1⟩ a
    match a with
    | 0 => show r ≤ (y 0).val ∧ (y 0).val < r + 1; omega
    | 1 => show e ≤ (y 1).val ∧ (y 1).val < e + 1; omega

theorem mem_unit11' (r e : ℕ) (inb) (y : S5x6.Idx) : y ∈ (Rect.unit (s := S5x6) ![r, e] ![1, 1] inb).set ↔ (y 0).val = r ∧ (y 1).val = e := mem_unit11 r e inb y

theorem piece_ok (g : Fin 6 → BitVec 32) (r : Fin 5) (e : Fin 6) (inb) (v : BitVec 32) (hv : v = T g r e) (x : S1x1.Idx) :
    v = tabF (F := F) g ((Rect.unit (s := S5x6) ![r.val, e.val] S1x1.size inb).emb x) := by
  rw [hv]
  unfold tabF
  have h0 : (x 0).val = 0 := by have := (x 0).isLt; have h : (x 0).val < 1 := this; omega
  have h1 : (x 1).val = 0 := by have := (x 1).isLt; have h : (x 1).val < 1 := this; omega
  congr 1
  · apply Fin.ext; show r.val = r.val + 1 * (x 0).val; omega
  · apply Fin.ext; show e.val = e.val + 1 * (x 1).val; omega

/-- The block of zeros. -/
def zf : S128x1536.Idx → Elt F .f32 := fun _ => Scalar.ofBits .f32 0x00000000#32

theorem pay58_apply (x : S128x1536.Idx) : (k0_pay46 (F := F)) x = Scalar.ofBits .f32 0x00000000#32 := by
  unfold k0_pay46
  rw [shapeCast_self]
  rfl

theorem pre30_step (c : Dev nD) (g : Fin 6 → BitVec 32) (v351 v414 v434 v451 : BitVec 32) (v452 : BitVec 1) (v490 : BitVec 32) (f10 : S5x6.Idx → Elt F .i32) (h10 : ∀ y : S5x6.Idx, (y 1).val < 5 → a10.view.read (Elt F) f10 y = tabF (F := F) g y)
    (h0 : Scalar.select v452 v490 0#32 = T g 0 5) (h1 : v451 = T g 1 5) (h2 : v414 = T g 2 5) (h3 : v351 = T g 3 5) (h4 : v434 = T g 4 5) (f9 : S128x1536.Idx → Elt F .f32) :
    iprop((a10.view.loc (c : Thread nD τ) ↦{fullShare} f10) ∗ (a9.view.loc (c : Thread nD τ) ↦{fullShare} f9)) ⊢ WP c (pre30 (F := F) v351 v414 v434 v451 v452 v490)
      (fun _ => iprop(Tab c g ∗ (a9.view.loc (c : Thread nD τ) ↦{fullShare} (zf (F := F))))) := by
  unfold pre30
  iintro ⟨H10, H9⟩
  unfold WP
  sl_exec
  sl_step
  isplitl [H10]
  · unfold Tab
    ihave H10' := (show (a10.view.loc (c : Thread nD τ) ↦{fullShare} _) ⊢ (a10.view.loc (c : Thread nD τ) ↦{fullShare} (tabF (F := F) g)) from Entails.of_eq (congrArg _ ?_)) $$ H10
    rotate_left
    · iexact H10'
    refine funext fun (y : S5x6.Idx) => ?_
    refine Eq.trans (congrFun (View.read_whole cc0_scratch4 (a10.view.writes (Elt F) f10 _)) y).symm ?_
    by_cases hy : (y 1).val < 5
    · rw [← h10 y hy]
      have hlt : ∀ r : ℕ, (y 1).val < (![r, 5] : Fin 2 → ℕ) 1 ∨ (![r, 5] : Fin 2 → ℕ) 1 + S1x1.size 1 ≤ (y 1).val := fun r => .inl hy
      refine (View.read_writes_cons_unit_of_not_mem a10.view _ _ _ _ y rfl 1 (hlt 4)).trans ?_
      refine (View.read_writes_cons_unit_of_not_mem a10.view _ _ _ _ y rfl 1 (hlt 3)).trans ?_
      refine (View.read_writes_cons_unit_of_not_mem a10.view _ _ _ _ y rfl 1 (hlt 2)).trans ?_
      refine (View.read_writes_cons_unit_of_not_mem a10.view _ _ _ _ y rfl 1 (hlt 1)).trans ?_
      exact (View.read_writes_cons_unit_of_not_mem a10.view _ _ _ _ y rfl 1 (hlt 0)).trans rfl
    · refine View.read_writes_apply_of_pieces a10.view _ (tabF (F := F) g) _ ?_ y ?_
      · simp only [List.forall_mem_cons]
        exact ⟨piece_ok g 4 5 _ _ h4, piece_ok g 3 5 _ _ h3, piece_ok g 2 5 _ _ h2, piece_ok g 1 5 _ _ h1, piece_ok g 0 5 _ _ h0, fun _ h => absurd h List.not_mem_nil⟩
      · have hy0 : (y 0).val < 5 := (y 0).isLt
        have hy1 : (y 1).val < 6 := (y 1).isLt
        simp only [List.exists_mem_cons_iff, mem_unit11, mem_unit11']
        omega
  · ihave H9' := (show (a9.view.loc (c : Thread nD τ) ↦{fullShare} _) ⊢ (a9.view.loc (c : Thread nD τ) ↦{fullShare} (zf (F := F))) from Entails.of_eq (congrArg _ ?_)) $$ H9
    rotate_left
    · iexact H9'
    funext y
    refine Eq.trans (congrFun (View.read_whole cc0_scratch3 (a9.view.writes (Elt F) f9 _)) y).symm ?_
    refine View.read_writes_apply_of_pieces a9.view _ (zf (F := F)) _ ?_ y ?_
    · simp only [List.forall_mem_cons]
      exact ⟨fun x => pay58_apply _, fun _ h => absurd h List.not_mem_nil⟩
    · refine ⟨_, List.mem_cons_self, ?_⟩
      simp only [Rect.mem_set_unit]
      intro a
      match a with
      | 0 => exact ⟨Nat.zero_le _, by have h : (y 0).val < 128 := (y 0).isLt; show (y 0).val < 0 + 128; omega⟩
      | 1 => exact ⟨Nat.zero_le _, by have h : (y 1).val < 1536 := (y 1).isLt; show (y 1).val < 0 + 1536; omega⟩

theorem z1_step (c : Dev nD) {g : Fin 6 → BitVec 32} (hok : Ok g) (PG)
    (hz : ∀ e j fd, kt g e = 0 → PG (e, j) ((zblk e j).view.write (Elt F) fd (zf (F := F)) Finset.univ)) (v351 v414 v434 v451 : BitVec 32) (v452 : BitVec 1) (v490 : BitVec 32) :
    iprop(Tab c g ∗ ZS c g PG (zf (F := F)) 0) ⊢ WP c (z1 (F := F) v351 v414 v434 v451 v452 v490) (fun r => iprop(⌜r = T g 0 3⌝ ∗ Tab c g ∗ ZS c g PG (zf (F := F)) (40 * zr g 3))) := by
  have h := zload_bind c hok PG zf hz 0 k0_t1_loop k0_t1_ok t1_trips (k0_t1_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) k0_off1 k0_off1_inb (fun _ _ => rfl) off1_eq (z2 v351 v414 v434 v451 v452 v490)
    (fun r => iprop(⌜r = T g 0 3⌝ ∗ Tab c g ∗ ZS c g PG (zf (F := F)) (40 * zr g 3))) iprop(⌜True⌝)
    (zload_bind c hok PG zf hz 1 k0_t2_loop k0_t2_ok t2_trips (k0_t2_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) k0_off2 k0_off2_inb (fun _ _ => rfl) off2_eq (z3 v351 v414 v434 v451 v452 v490) _ _
    (zload_bind c hok PG zf hz 2 k0_t3_loop k0_t3_ok t3_trips (k0_t3_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) k0_off3 k0_off3_inb (fun _ _ => rfl) off3_eq z4' _ _ (by
      unfold z4' tload Tab WP
      iintro ⟨HT, HZ, -⟩
      sl_exec
      sl_step
      isplitr
      · ipureintro; exact tab_read g 0 3 _ _
      isplitl [HT]; · iexact HT
      iexact HZ)))
  rw [show 40 * zr g (0 : Fin 6).val = 0 by rw [show (0 : Fin 6).val = 0 from rfl, zr_zero]] at h
  unfold z1
  refine BIBase.Entails.trans ?_ h
  iintro ⟨HT, HZ⟩
  isplitl [HT]; · iexact HT
  isplitl [HZ]; · iexact HZ
  ipureintro; trivial

theorem part30_step (c : Dev nD) {g : Fin 6 → BitVec 32} (hok : Ok g) (PG)
    (hz : ∀ e j fd, kt g e = 0 → PG (e, j) ((zblk e j).view.write (Elt F) fd (zf (F := F)) Finset.univ)) (v351 v414 v434 v451 : BitVec 32) (v452 : BitVec 1) (v490 : BitVec 32) (f10 : S5x6.Idx → Elt F .i32)
    (h10 : ∀ y : S5x6.Idx, (y 1).val < 5 → a10.view.read (Elt F) f10 y = tabF (F := F) g y)
    (h0 : Scalar.select v452 v490 0#32 = T g 0 5) (h1 : v451 = T g 1 5) (h2 : v414 = T g 2 5) (h3 : v351 = T g 3 5) (h4 : v434 = T g 4 5) (f9 : S128x1536.Idx → Elt F .f32) :
    iprop(((a10.view.loc (c : Thread nD τ) ↦{fullShare} f10) ∗ (a9.view.loc (c : Thread nD τ) ↦{fullShare} f9))
        ∗ (semVal ((c : Thread nD τ), SemLoc.dma a11.sem) 0 ∗ (bigSep (Finset.univ.filter fun p : Fin 6 × Fin 40 => kt g p.1 = 0) (own (F := F) c g)))) ⊢ WP c (k0_part30 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490)
      (fun r => iprop(⌜r = T g 0 3⌝ ∗ Tab c g ∗ ZS c g PG (zf (F := F)) (40 * zr g 3) ∗ (a9.view.loc (c : Thread nD τ) ↦[a9.view.set]{Transfers.shareDrop fullShare (40 * zr g 6)} (zf (F := F))))) := by
  rw [part30_prog]
  refine wp_seq (pre30_step c g v351 v414 v434 v451 v452 v490 f10 h10 h0 h1 h2 h3 h4 f9) ?_
  iintro ⟨⟨HT, H9⟩, Hs, Ho⟩
  ihave H9 := (show (a9.view.loc (c : Thread nD τ) ↦{fullShare} (zf (F := F))) ⊢ (a9.view.loc (c : Thread nD τ) ↦[a9.view.set]{fullShare} (zf (F := F))) from by rw [show a9.view.set = Finset.univ from View.set_whole _]) $$ H9
  have hs := z1_step c hok PG hz v351 v414 v434 v451 v452 v490
  unfold WP at *
  imod (z_start c g PG (zf (F := F))) $$ [Hs Ho H9] with ⟨HZ, Hr⟩
  · isplitl [Hs]; · iexact Hs
    isplitl [Ho]; · iexact Ho
    iexact H9
  iapply (BIBase.Entails.trans (BIBase.Entails.trans (BIClass.sep_mono hs (.rfl : iprop(a9.view.loc (c : Thread nD τ) ↦[a9.view.set]{Transfers.shareDrop fullShare (40 * zr g 6)} (zf (F := F))) ⊢ _)) (wp_frame_r _ _ _)) (wp_mono _ _ _ fun r => ?_))
  rotate_left
  · isplitl [HT HZ]
    · isplitl [HT]; · iexact HT
      iexact HZ
    iexact Hr
  iintro ⟨⟨%h, HT, HZ⟩, Hr⟩
  isplitr; · ipureintro; exact h
  isplitl [HT]; · iexact HT
  isplitl [HZ]; · iexact HZ
  iexact Hr

/-! The last zero copies and the experts' rows. -/

/-- The first expert's rows, then the second expert's count. -/
def r31 (v513 : Elt F .i32) : Prog (TpuEff nD τ sig (Elt F) Λ₀ .tc) (Σ' (v536 : Elt F .i32) (k0_hw6 : k0_chk6 v536) (v538 : BitVec 32), BitVec 32) := do
  let v525 : Elt F .i32 ← smemLoad a10 (Rect.unit (s := S5x6) ![0, 0] S1x1.size inb_S5x6_S1x1_0_0) numel1_S1x1 rfl
  have k0_hw1 : k0_chk1 v525 := (← Prog.lift (TpuEff.assume (k0_chk1 v525) (k0_chk1.dec v525))).down
  Scf.Loop.for (k0_t7_loop v525) (k0_t7_ok v525 k0_hw1) ⟨⟩ (k0_t7_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1)
  Scf.Loop.for (k0_t8_loop v525) (k0_t8_ok v525 k0_hw1) ⟨⟩ (k0_t8_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1 (Scalar.addi 0#32 (Scalar.muli (Scalar.divsi (Scalar.subi (Scalar.divsi (Scalar.addi (Scalar.subi (Scalar.muli 2#32 v525) 0#32) (Scalar.subi 1#32 1#32)) 1#32) 0#32) 1#32) 1#32)))
  let v536 : Elt F .i32 ← smemLoad a10 (Rect.unit (s := S5x6) ![0, 1] S1x1.size inb_S5x6_S1x1_0_1) numel1_S1x1 rfl
  have k0_hw6 : k0_chk6 v536 := (← Prog.lift (TpuEff.assume (k0_chk6 v536) (k0_chk6.dec v536))).down
  pure ⟨v536, k0_hw6, Scalar.subi (Scalar.muli 2#32 v536) 0#32, 1#32⟩
def z6 (v513 : Elt F .i32) : Prog (TpuEff nD τ sig (Elt F) Λ₀ .tc) (Σ' (v536 : Elt F .i32) (k0_hw6 : k0_chk6 v536) (v538 : BitVec 32), BitVec 32) :=
  tload 0 5 >>= fun v => if cz v then (Scf.Loop.for k0_t6_loop k0_t6_ok () (k0_t6_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) >>= fun _ => r31 v513) else r31 v513

def z5 (v513 : Elt F .i32) : Prog (TpuEff nD τ sig (Elt F) Λ₀ .tc) (Σ' (v536 : Elt F .i32) (k0_hw6 : k0_chk6 v536) (v538 : BitVec 32), BitVec 32) :=
  tload 0 4 >>= fun v => if cz v then (Scf.Loop.for k0_t5_loop k0_t5_ok () (k0_t5_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) >>= fun _ => z6 v513) else z6 v513

theorem part31_prog (v513 : Elt F .i32) : k0_part31 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 = (if cz v513 then (Scf.Loop.for k0_t4_loop k0_t4_ok () (k0_t4_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) >>= fun _ => z5 v513) else z5 v513) := by
  rw [k0_part31_eq_skeleton]; rfl

end Cert.Kernel.Hand

end
-- ==== Proof.K.Body2.lean ====
module

public import proofs.«01_k».proof.Proof.K.Body

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

theorem pull {φ : Prop} {P R X : sProp 𝕄} (h : φ → iprop(P ∗ R) ⊢ X) : iprop((⌜φ⌝ ∗ P) ∗ R) ⊢ X := by
  iintro ⟨⟨%hφ, HP⟩, HR⟩
  iapply (h hφ)
  isplitl [HP]; · iexact HP
  iexact HR

theorem wp_ret {β : Type} {c : Dev nD} {P : sProp 𝕄} {Q : β → sProp 𝕄} {x : β} (h : P ⊢ Q x) : P ⊢ WP c (pure x) Q := by
  unfold WP
  iintro H
  rw [wp_pure]
  imodintro
  iapply h
  iexact H

/-- The rows held, the table apart. -/
def RH (c : Dev nD) (g : Fin 6 → BitVec 32) (x4 : S1408x1536.Idx → Elt F .bf16) (e : ℕ) : sProp 𝕄 :=
  iprop((a4.view.loc (c : Thread nD τ) ↦{fullShare} x4) ∗ (∃ f6, ⌜Rf g x4 e 0 f6⌝ ∗ (a6.view.loc (c : Thread nD τ) ↦{fullShare} f6)))

theorem rs_in (c : Dev nD) (g : Fin 6 → BitVec 32) (x4 : S1408x1536.Idx → Elt F .bf16) (e : ℕ) (R : sProp 𝕄) : iprop(Tab c g ∗ (RH c g x4 e ∗ R)) ⊢ iprop(RS c g x4 e 0 ∗ R) := by
  unfold RS RH
  iintro ⟨HT, H, HR⟩
  isplitl [HT H]
  · isplitl [HT]; · iexact HT
    iexact H
  iexact HR

theorem rs_out (c : Dev nD) (g : Fin 6 → BitVec 32) (x4 : S1408x1536.Idx → Elt F .bf16) (e : ℕ) (R : sProp 𝕄) : iprop(RS c g x4 e 0 ∗ R) ⊢ iprop(Tab c g ∗ (RH c g x4 e ∗ R)) := by
  unfold RS RH
  iintro ⟨⟨HT, H⟩, HR⟩
  isplitl [HT]; · iexact HT
  isplitl [H]; · iexact H
  iexact HR

theorem rs_start (c : Dev nD) (g : Fin 6 → BitVec 32) (x4 : S1408x1536.Idx → Elt F .bf16) : iprop((a4.view.loc (c : Thread nD τ) ↦{fullShare} x4) ∗ (∃ f6, a6.view.loc (c : Thread nD τ) ↦{fullShare} f6)) ⊢ RH c g x4 0 := by
  unfold RH
  iintro ⟨H4, %f6, H6⟩
  isplitl [H4]; · iexact H4
  iexists f6
  isplitr
  · ipureintro
    intro e' j' _ h
    rcases h with h | ⟨_, h⟩ <;> exact absurd h (Nat.not_lt_zero _)
  iexact H6

/-- A count read from the table, the facts asked of it, and the rest. -/
def tchk {β : Type} (e : Fin 6) (P : BitVec 32 → Prop) (d : ∀ v, Decidable (P v)) (k : ∀ v : Elt F .i32, P v → Prog (TpuEff nD τ sig (Elt F) Λ₀ .tc) β) : Prog (TpuEff nD τ sig (Elt F) Λ₀ .tc) β := do
  let v : Elt F .i32 ← smemLoad a10 (Rect.unit (s := S5x6) ![0, e.val] S1x1.size (tinb 0 e)) numel1_S1x1 rfl
  have h : P v := (← Prog.lift (TpuEff.assume (P v) (d v))).down
  k v h

theorem tchk_bind {β : Type} (c : Dev nD) (g : Fin 6 → BitVec 32) (e : Fin 6) (P : BitVec 32 → Prop) (d : ∀ v, Decidable (P v)) (k : ∀ v : Elt F .i32, P v → Prog (TpuEff nD τ sig (Elt F) Λ₀ .tc) β)
    (hP : P (T g 0 e)) (Q : β → sProp 𝕄) (R : sProp 𝕄) (hk : iprop(Tab c g ∗ R) ⊢ WP c (k (T g 0 e) hP) Q) : iprop(Tab c g ∗ R) ⊢ WP c (tchk e P d k) Q := by
  unfold tchk
  exact tab_bind c g 0 e ![0, e.val] (tinb 0 e) rfl P d hP k Q R hk

def r31b : Prog (TpuEff nD τ sig (Elt F) Λ₀ .tc) (Σ' (v536 : Elt F .i32) (k0_hw6 : k0_chk6 v536) (v538 : BitVec 32), BitVec 32) :=
  tchk 1 k0_chk6 k0_chk6.dec fun v536 hw6 => pure ⟨v536, hw6, Scalar.subi (Scalar.muli 2#32 v536) 0#32, 1#32⟩

theorem r31_prog (v513 : Elt F .i32) : r31 (F := F) v513 = tchk 0 k0_chk1 k0_chk1.dec fun v525 k0_hw1 => (do
    Scf.Loop.for (k0_t7_loop v525) (k0_t7_ok v525 k0_hw1) () (k0_t7_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1)
    Scf.Loop.for (k0_t8_loop v525) (k0_t8_ok v525 k0_hw1) () (k0_t8_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1 (Scalar.addi 0#32 (Scalar.muli (Scalar.divsi (Scalar.subi (Scalar.divsi (Scalar.addi (Scalar.subi (Scalar.muli 2#32 v525) 0#32) (Scalar.subi 1#32 1#32)) 1#32) 0#32) 1#32) 1#32)))
    r31b) := rfl

def tw (v : BitVec 32) : BitVec 32 := Scalar.addi 0#32 (Scalar.muli (Scalar.divsi (Scalar.subi (Scalar.divsi (Scalar.addi (Scalar.subi (Scalar.muli 2#32 v) 0#32) (Scalar.subi 1#32 1#32)) 1#32) 0#32) 1#32) 1#32)

def r32b : Prog (TpuEff nD τ sig (Elt F) Λ₀ .tc) (Σ' (v558 : Elt F .i32) (k0_hw16 : k0_chk16 v558) (v563 : BitVec 32), BitVec 32) :=
  tchk 3 k0_chk16 k0_chk16.dec fun v558 hw16 => pure ⟨v558, hw16, Scalar.divsi (Scalar.addi (Scalar.subi (Scalar.muli 2#32 v558) 0#32) (Scalar.subi 1#32 1#32)) 1#32, 1#32⟩
def r32a (v536 : Elt F .i32) (hw6 : k0_chk6 v536) (w1 w2 : BitVec 32) : Prog (TpuEff nD τ sig (Elt F) Λ₀ .tc) (Σ' (v558 : Elt F .i32) (k0_hw16 : k0_chk16 v558) (v563 : BitVec 32), BitVec 32) :=
  tchk 2 k0_chk11 k0_chk11.dec fun v547 hw11 => (do
    Scf.Loop.for (k0_t11_loop v547) (k0_t11_ok v547 hw11) () (k0_t11_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 v547 hw11)
    Scf.Loop.for (k0_t12_loop v547) (k0_t12_ok v547 hw11) () (k0_t12_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 v547 hw11 (tw v547))
    r32b)
theorem part32_prog (v536 : Elt F .i32) (hw6 : k0_chk6 v536) (w1 w2 : BitVec 32) : k0_part32 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 = (do
    Scf.Loop.for (k0_t9_loop v536) (k0_t9_ok v536 hw6) () (k0_t9_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2)
    Scf.Loop.for (k0_t10_loop v536) (k0_t10_ok v536 hw6) () (k0_t10_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 (Scalar.addi 0#32 (Scalar.muli (Scalar.divsi (Scalar.subi (Scalar.divsi (Scalar.addi w1 (Scalar.subi w2 1#32)) 1#32) 0#32) 1#32) 1#32)))
    r32a v536 hw6 w1 w2) := by
  rw [k0_part32_eq_skeleton]; rfl

def r33b : Prog (TpuEff nD τ sig (Elt F) Λ₀ .tc) (Σ' (v580 : Elt F .i32) (k0_hw26 : k0_chk26 v580) (c1_i32_361 : BitVec 32) (c0_i32_362 : BitVec 32) (c0_i32_363 : BitVec 32) (c1_i32_364 : BitVec 32), BitVec 32) :=
  tchk 5 k0_chk26 k0_chk26.dec fun v580 hw26 => pure ⟨v580, hw26, 1#32, 0#32, 0#32, 1#32, Scalar.divsi (Scalar.subi (Scalar.divsi (Scalar.addi (Scalar.subi (Scalar.muli 2#32 v580) 0#32) (Scalar.subi 1#32 1#32)) 1#32) 0#32) 1#32⟩
def r33a (v558 : Elt F .i32) (hw16 : k0_chk16 v558) (w1 w2 : BitVec 32) : Prog (TpuEff nD τ sig (Elt F) Λ₀ .tc) (Σ' (v580 : Elt F .i32) (k0_hw26 : k0_chk26 v580) (c1_i32_361 : BitVec 32) (c0_i32_362 : BitVec 32) (c0_i32_363 : BitVec 32) (c1_i32_364 : BitVec 32), BitVec 32) :=
  tchk 4 k0_chk21 k0_chk21.dec fun v569 hw21 => (do
    Scf.Loop.for (k0_t15_loop v569) (k0_t15_ok v569 hw21) () (k0_t15_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 v569 hw21)
    Scf.Loop.for (k0_t16_loop v569) (k0_t16_ok v569 hw21) () (k0_t16_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 v569 hw21 (tw v569))
    r33b)
theorem part33_prog (v558 : Elt F .i32) (hw16 : k0_chk16 v558) (w1 w2 : BitVec 32) : k0_part33 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 = (do
    Scf.Loop.for (k0_t13_loop v558) (k0_t13_ok v558 hw16) () (k0_t13_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2)
    Scf.Loop.for (k0_t14_loop v558) (k0_t14_ok v558 hw16) () (k0_t14_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 (Scalar.addi 0#32 (Scalar.muli (Scalar.divsi (Scalar.subi w1 0#32) 1#32) 1#32)))
    r33a v558 hw16 w1 w2) := by
  rw [k0_part33_eq_skeleton]; rfl

theorem r31_step (c : Dev nD) {g : Fin 6 → BitVec 32} (hok : Ok g) (x4 : S1408x1536.Idx → Elt F .bf16) (v513 : Elt F .i32) (R : sProp 𝕄) :
    iprop(Tab c g ∗ (RH c g x4 0 ∗ R)) ⊢ WP c (r31 (F := F) v513) (fun r => iprop(⌜r.1 = T g 0 1⌝ ∗ RS c g x4 1 0 ∗ R)) := by
  rw [r31_prog]
  refine tchk_bind c g 0 _ _ _ (loop7 hok 0).2.2 _ _ ?_
  refine BIBase.Entails.trans (rs_in c g x4 0 R) ?_
  refine rseg c x4 0 _ _ _ _ _ _ (loop7 hok 0).1 (loop7 hok 0).2.1 (fun k u => t7_ok c hok x4 _ v513 rfl _ k u) _ _ R ?_
  refine BIBase.Entails.trans (rs_out c g x4 1 R) ?_
  unfold r31b
  refine tchk_bind c g 1 _ _ _ (loop7 hok 1).2.2 _ _ ?_
  refine BIBase.Entails.trans (rs_in c g x4 1 R) (wp_ret ?_)
  iintro H
  isplitr; · ipureintro; rfl
  iexact H

theorem part31_step (c : Dev nD) {g : Fin 6 → BitVec 32} (hok : Ok g) (PG)
    (hz : ∀ e j fd, kt g e = 0 → PG (e, j) ((zblk e j).view.write (Elt F) fd (zf (F := F)) Finset.univ)) (x4 : S1408x1536.Idx → Elt F .bf16) (v513 : Elt F .i32) (hv : v513 = T g 0 3) :
    iprop(ZS c g PG (zf (F := F)) (40 * zr g 3) ∗ (Tab c g ∗ RH c g x4 0)) ⊢ WP c (k0_part31 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513)
      (fun r => iprop(⌜r.1 = T g 0 1⌝ ∗ RS c g x4 1 0 ∗ ZS c g PG (zf (F := F)) (40 * zr g 6))) := by
  rw [part31_prog]
  refine ziss_bind c hok PG zf hz 3 k0_t4_loop k0_t4_ok t4_trips (k0_t4_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) k0_off4 k0_off4_inb (fun _ _ => rfl) off4_eq (z5 v513) _ _ v513 hv ?_
  have h := zload_bind c hok PG zf hz 4 k0_t5_loop k0_t5_ok t5_trips (k0_t5_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) k0_off5 k0_off5_inb (fun _ _ => rfl) off5_eq (z6 v513)
    (fun r => iprop(⌜r.1 = T g 0 1⌝ ∗ RS c g x4 1 0 ∗ ZS c g PG (zf (F := F)) (40 * zr g 6))) (RH c g x4 0)
    (zload_bind c hok PG zf hz 5 k0_t6_loop k0_t6_ok t6_trips (k0_t6_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) k0_off6 k0_off6_inb (fun _ _ => rfl) off6_eq (r31 v513) _ _ (by
      refine BIBase.Entails.trans ?_ (r31_step c hok x4 v513 (ZS c g PG (zf (F := F)) (40 * zr g 6)))
      iintro ⟨HT, HZ, HR⟩
      isplitl [HT]; · iexact HT
      isplitl [HR]; · iexact HR
      iexact HZ))
  unfold z5
  refine BIBase.Entails.trans ?_ h
  iintro ⟨HZ, HT, HR⟩
  isplitl [HT]; · iexact HT
  isplitl [HZ]; · iexact HZ
  iexact HR

theorem part32_step (c : Dev nD) {g : Fin 6 → BitVec 32} (hok : Ok g) (x4 : S1408x1536.Idx → Elt F .bf16) (v536 : Elt F .i32) (hw6 : k0_chk6 v536) (w1 w2 : BitVec 32) (hv : v536 = T g 0 1) (R : sProp 𝕄) :
    iprop(RS c g x4 1 0 ∗ R) ⊢ WP c (k0_part32 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2) (fun r => iprop(⌜r.1 = T g 0 3 ∧ r.2.2.2 = 1#32⌝ ∗ RS c g x4 3 0 ∗ R)) := by
  subst hv
  rw [part32_prog]
  refine rseg c x4 1 _ _ _ _ _ _ (loop7 hok 1).1 (loop7 hok 1).2.1 (fun k u => t9_ok c hok x4 _ _ _ rfl _ k u) _ _ R ?_
  refine BIBase.Entails.trans (rs_out c g x4 2 R) ?_
  unfold r32a
  refine tchk_bind c g 2 _ _ _ (loop7 hok 2).2.2 _ _ ?_
  refine BIBase.Entails.trans (rs_in c g x4 2 R) ?_
  refine rseg c x4 2 _ _ _ _ _ _ (loop7 hok 2).1 (loop7 hok 2).2.1 (fun k u => t11_ok c hok x4 _ _ _ _ _ rfl _ k u) _ _ R ?_
  refine BIBase.Entails.trans (rs_out c g x4 3 R) ?_
  unfold r32b
  refine tchk_bind c g 3 _ _ _ (loop7 hok 3).2.2 _ _ ?_
  refine BIBase.Entails.trans (rs_in c g x4 3 R) (wp_ret ?_)
  iintro H
  isplitr; · ipureintro; exact ⟨rfl, rfl⟩
  iexact H

theorem part33_step (c : Dev nD) {g : Fin 6 → BitVec 32} (hok : Ok g) (x4 : S1408x1536.Idx → Elt F .bf16) (v558 : Elt F .i32) (hw16 : k0_chk16 v558) (w1 : BitVec 32) (hv : v558 = T g 0 3) (R : sProp 𝕄) :
    iprop(RS c g x4 3 0 ∗ R) ⊢ WP c (k0_part33 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 1#32) (fun r => iprop(⌜r.1 = T g 0 5 ∧ r.2.2.1 = 1#32 ∧ r.2.2.2.1 = 0#32 ∧ r.2.2.2.2.1 = 0#32 ∧ r.2.2.2.2.2.1 = 1#32⌝ ∗ RS c g x4 5 0 ∗ R)) := by
  subst hv
  rw [part33_prog]
  refine rseg c x4 3 _ _ _ _ _ _ (loop7 hok 3).1 (loop7 hok 3).2.1 (fun k u => t13_ok c hok x4 _ _ rfl _ k u) _ _ R ?_
  refine BIBase.Entails.trans (rs_out c g x4 4 R) ?_
  unfold r33a
  refine tchk_bind c g 4 _ _ _ (loop7 hok 4).2.2 _ _ ?_
  refine BIBase.Entails.trans (rs_in c g x4 4 R) ?_
  refine rseg c x4 4 _ _ _ _ _ _ (loop7 hok 4).1 (loop7 hok 4).2.1 (fun k u => t15_ok c hok x4 _ _ _ _ _ rfl _ k u) _ _ R ?_
  refine BIBase.Entails.trans (rs_out c g x4 5 R) ?_
  unfold r33b
  refine tchk_bind c g 5 _ _ _ (loop7 hok 5).2.2 _ _ ?_
  refine BIBase.Entails.trans (rs_in c g x4 5 R) (wp_ret ?_)
  iintro H
  isplitr; · ipureintro; exact ⟨rfl, rfl, rfl, rfl, rfl⟩
  iexact H

/-- What the last tiles leave. -/
def After (c : Dev nD) (g : Fin 6 → BitVec 32) (PG : Fin 6 × Fin 40 → (S6x5120x1536.Idx → Elt F .f32) → Prop)
    (x1 x2 : S1.Idx → Elt F .f32) (x3 : S1408x5120.Idx → Elt F .bf16) (x4 : S1408x1536.Idx → Elt F .bf16) : sProp 𝕄 :=
  iprop((a1.view.loc (c : Thread nD τ) ↦{fullShare} x1) ∗ (a2.view.loc (c : Thread nD τ) ↦{fullShare} x2)
      ∗ (a3.view.loc (c : Thread nD τ) ↦{fullShare} x3) ∗ (a4.view.loc (c : Thread nD τ) ↦{fullShare} x4) ∗ (∃ f6, a6.view.loc (c : Thread nD τ) ↦{fullShare} f6) ∗ (∃ f7, a7.view.loc (c : Thread nD τ) ↦{fullShare} f7)
      ∗ (bigSep Finset.univ fun k : Fin 4 => idle (F := F) c k) ∗ (bigSep (Finset.univ.filter fun p : Fin 6 × Fin 40 => ¬ kt g p.1 = 0) (fin c g PG)))

theorem part34_full (c : Dev nD) {g : Fin 6 → BitVec 32} (hok : Ok g) (PG : Fin 6 × Fin 40 → (S6x5120x1536.Idx → Elt F .f32) → Prop) (z : S128x1536.Idx → Elt F .f32)
    (x1 x2 : S1.Idx → Elt F .f32) (x3 : S1408x5120.Idx → Elt F .bf16) (x4 : S1408x1536.Idx → Elt F .bf16)
    (hPG : PGok g PG x3 x4 (k0_pay59 (sca x1) (sca x2)))
    (v580 : Elt F .i32) (hw) (w588) (hv : v580 = T g 0 5) :
    iprop(RS c g x4 5 0 ∗ ((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7)
      ∗ Inv c g PG 0 0 0 ∗ (∃ W, owes (c : Thread nD τ) 0 W) ∗ ZS c g PG z (40 * zr g 6)))
    ⊢ WP c (k0_part34 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw 1#32 0#32 0#32 1#32 w588) (fun _ => iprop((Tab c g ∗ ZW c g PG z (40 * zr g 1)) ∗ After c g PG x1 x2 x3 x4)) := by
  rw [part34_prog]
  subst hv
  refine rseg c x4 5 _ _ _ _ _ _ (loop7 hok 5).1 (loop7 hok 5).2.1 (fun k u => t17_ok c hok x4 _ _ rfl _ k u) _ _ _ ?_
  have h := tail34_step c hok PG z x1 x2 x3 x4 hPG (T g 0 5) hw 1#32 0#32 0#32 1#32 w588
  unfold WP at *
  refine BIBase.Entails.trans h (wp_mono _ _ _ fun _ => ?_)
  unfold After
  iintro ⟨H1, H2, H3, H4, H6, H7, HI, HF, HT, HZ⟩
  isplitl [HT HZ]
  · isplitl [HT]; · iexact HT
    iexact HZ
  isplitl [H1]; · iexact H1
  isplitl [H2]; · iexact H2
  isplitl [H3]; · iexact H3
  isplitl [H4]; · iexact H4
  isplitl [H6]; · iexact H6
  isplitl [H7]; · iexact H7
  isplitl [HI]; · iexact HI
  iexact HF

def w6 (v : BitVec 32) : Prog (TpuEff nD τ sig (Elt F) Λ₀ .tc) (Σ' (v632 : BitVec 32), BitVec 32) := pure ⟨Scalar.extui (Scalar.cmpi .eq v 0#32), 0#32⟩
def w5 : Prog (TpuEff nD τ sig (Elt F) Λ₀ .tc) (Σ' (v632 : BitVec 32), BitVec 32) :=
  tload 0 5 >>= fun v => w6 v
def w4 : Prog (TpuEff nD τ sig (Elt F) Λ₀ .tc) (Σ' (v632 : BitVec 32), BitVec 32) :=
  tload 0 4 >>= fun v => if cz v then (Scf.Loop.for k0_t29_loop k0_t29_ok () (k0_t29_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w5) else w5
def w3 : Prog (TpuEff nD τ sig (Elt F) Λ₀ .tc) (Σ' (v632 : BitVec 32), BitVec 32) :=
  tload 0 3 >>= fun v => if cz v then (Scf.Loop.for k0_t28_loop k0_t28_ok () (k0_t28_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w4) else w4
def w2 : Prog (TpuEff nD τ sig (Elt F) Λ₀ .tc) (Σ' (v632 : BitVec 32), BitVec 32) :=
  tload 0 2 >>= fun v => if cz v then (Scf.Loop.for k0_t27_loop k0_t27_ok () (k0_t27_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w3) else w3
def w1 : Prog (TpuEff nD τ sig (Elt F) Λ₀ .tc) (Σ' (v632 : BitVec 32), BitVec 32) :=
  tload 0 1 >>= fun v => if cz v then (Scf.Loop.for k0_t26_loop k0_t26_ok () (k0_t26_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w2) else w2

/-- The waits after the tiles. -/
theorem w1_step (c : Dev nD) {g : Fin 6 → BitVec 32} (hok : Ok g) (PG) (z : S128x1536.Idx → Elt F .f32) :
    iprop(Tab c g ∗ ZW c g PG z (40 * zr g 1)) ⊢ WP c (w1 (F := F))
      (fun r => iprop(⌜r = ⟨Scalar.extui (Scalar.cmpi .eq (T g 0 5) 0#32), 0#32⟩⌝ ∗ Tab c g ∗ ZW c g PG z (40 * zr g 5))) := by
  unfold w1
  refine wload_bind c hok PG z 1 k0_t26_loop k0_t26_ok t26_trips (k0_t26_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off85 k0_off85_inb (fun _ _ => rfl) _ _ ?_
  unfold w2
  refine wload_bind c hok PG z 2 k0_t27_loop k0_t27_ok t27_trips (k0_t27_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off86 k0_off86_inb (fun _ _ => rfl) _ _ ?_
  unfold w3
  refine wload_bind c hok PG z 3 k0_t28_loop k0_t28_ok t28_trips (k0_t28_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off87 k0_off87_inb (fun _ _ => rfl) _ _ ?_
  unfold w4
  refine wload_bind c hok PG z 4 k0_t29_loop k0_t29_ok t29_trips (k0_t29_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off88 k0_off88_inb (fun _ _ => rfl) _ _ ?_
  unfold w5
  refine tload_bind c g 0 5 (fun v => w6 v) _ _ ?_
  unfold w6
  refine wp_ret ?_
  iintro H
  isplitr; · ipureintro; rfl
  iexact H

def rest34 (r : Σ' (v580 : Elt F .i32) (k0_hw26 : k0_chk26 v580) (c1_i32_361 : BitVec 32) (c0_i32_362 : BitVec 32) (c0_i32_363 : BitVec 32) (c1_i32_364 : BitVec 32), BitVec 32) : Prog (TpuEff nD τ sig (Elt F) Λ₀ .tc) (Σ' (v632 : BitVec 32), BitVec 32) :=
  k0_part34 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 r.1 r.2.1 r.2.2.1 r.2.2.2.1 r.2.2.2.2.1 r.2.2.2.2.2.1 r.2.2.2.2.2.2 >>= fun _ => w1
def rest33 (r : Σ' (v558 : Elt F .i32) (k0_hw16 : k0_chk16 v558) (v563 : BitVec 32), BitVec 32) : Prog (TpuEff nD τ sig (Elt F) Λ₀ .tc) (Σ' (v632 : BitVec 32), BitVec 32) :=
  k0_part33 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 r.1 r.2.1 r.2.2.1 r.2.2.2 >>= rest34
def rest32 (r : Σ' (v536 : Elt F .i32) (k0_hw6 : k0_chk6 v536) (v538 : BitVec 32), BitVec 32) : Prog (TpuEff nD τ sig (Elt F) Λ₀ .tc) (Σ' (v632 : BitVec 32), BitVec 32) :=
  k0_part32 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 r.1 r.2.1 r.2.2.1 r.2.2.2 >>= rest33
def rest31 (v513 : Elt F .i32) : Prog (TpuEff nD τ sig (Elt F) Λ₀ .tc) (Σ' (v632 : BitVec 32), BitVec 32) := k0_part31 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 >>= rest32
/-- Everything after the table's words are computed. -/
def rest35 (v351 v414 v434 v451 : BitVec 32) (v452 : BitVec 1) (v490 : BitVec 32) : Prog (TpuEff nD τ sig (Elt F) Λ₀ .tc) (Σ' (v632 : BitVec 32), BitVec 32) := k0_part30 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490 >>= rest31

section Rest
variable (c : Dev nD) {g : Fin 6 → BitVec 32} (hok : Ok g) (PG : Fin 6 × Fin 40 → (S6x5120x1536.Idx → Elt F .f32) → Prop)
    (hz : ∀ e j fd, kt g e = 0 → PG (e, j) ((zblk e j).view.write (Elt F) fd (zf (F := F)) Finset.univ))
    (x1 x2 : S1.Idx → Elt F .f32) (x3 : S1408x5120.Idx → Elt F .bf16) (x4 : S1408x1536.Idx → Elt F .bf16)
    (hPG : PGok g PG x3 x4 (k0_pay59 (sca x1) (sca x2)))
    (hP : ∀ p f, kt g p.1 ≠ 0 → 10 ≤ p.2.val → PG p f)

/-- What the last tiles need beside the rows. -/
def Before (c : Dev nD) (g : Fin 6 → BitVec 32) (PG : Fin 6 × Fin 40 → (S6x5120x1536.Idx → Elt F .f32) → Prop)
    (x1 x2 : S1.Idx → Elt F .f32) (x3 : S1408x5120.Idx → Elt F .bf16) : sProp 𝕄 :=
  iprop((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7)
      ∗ Inv c g PG 0 0 0 ∗ (∃ W, owes (c : Thread nD τ) 0 W))

/-- The share of the zeros left aside while copies of them are under way. -/
def Rem (c : Dev nD) (g : Fin 6 → BitVec 32) : sProp 𝕄 := iprop(a9.view.loc (c : Thread nD τ) ↦[a9.view.set]{Transfers.shareDrop fullShare (40 * zr g 6)} (zf (F := F)))

/-- The end of the waits but the last. -/
def End35 (c : Dev nD) (g : Fin 6 → BitVec 32) (PG : Fin 6 × Fin 40 → (S6x5120x1536.Idx → Elt F .f32) → Prop)
    (x1 x2 : S1.Idx → Elt F .f32) (x3 : S1408x5120.Idx → Elt F .bf16) (x4 : S1408x1536.Idx → Elt F .bf16) (r : Σ' (v632 : BitVec 32), BitVec 32) : sProp 𝕄 :=
  iprop(⌜r = ⟨Scalar.extui (Scalar.cmpi .eq (T g 0 5) 0#32), 0#32⟩⌝ ∗ Tab c g ∗ ZW c g PG (zf (F := F)) (40 * zr g 5) ∗ After c g PG x1 x2 x3 x4 ∗ Rem (F := F) c g)

include hok hPG in
theorem rest34_step (r) (hr : r.1 = T g 0 5 ∧ r.2.2.1 = 1#32 ∧ r.2.2.2.1 = 0#32 ∧ r.2.2.2.2.1 = 0#32 ∧ r.2.2.2.2.2.1 = 1#32) :
    iprop((RS c g x4 5 0 ∗ (Before c g PG x1 x2 x3 ∗ ZS c g PG (zf (F := F)) (40 * zr g 6))) ∗ Rem (F := F) c g) ⊢ WP c (rest34 (F := F) r) (End35 c g PG x1 x2 x3 x4) := by
  obtain ⟨v580, hw, b1, b2, b3, b4, w588⟩ := r
  obtain ⟨hv, rfl, rfl, rfl, rfl⟩ := hr
  unfold rest34
  refine BIBase.Entails.trans ?_ (wp_seq (R := Rem (F := F) c g) (part34_full c hok PG zf x1 x2 x3 x4 hPG v580 hw w588 hv) ?_)
  · unfold Before
    iintro ⟨⟨HS, ⟨H1, H2, H3, H7, HI, HW⟩, HZ⟩, HR⟩
    isplitr [HR]
    · isplitl [HS]; · iexact HS
      isplitl [H1]; · iexact H1
      isplitl [H2]; · iexact H2
      isplitl [H3]; · iexact H3
      isplitl [H7]; · iexact H7
      isplitl [HI]; · iexact HI
      isplitl [HW]; · iexact HW
      iexact HZ
    iexact HR
  · have h := w1_step c hok PG (zf (F := F))
    unfold WP at *
    refine BIBase.Entails.trans ?_ (BIBase.Entails.trans (BIBase.Entails.trans (BIClass.sep_mono h (.rfl : iprop(After c g PG x1 x2 x3 x4 ∗ Rem (F := F) c g) ⊢ _)) (wp_frame_r _ _ _)) (wp_mono _ _ _ fun r => ?_))
    · iintro ⟨⟨H, HA⟩, HR⟩
      isplitl [H]; · iexact H
      isplitl [HA]; · iexact HA
      iexact HR
    · unfold End35
      iintro ⟨⟨%hr, HT, HZ⟩, HA, HR⟩
      isplitr; · ipureintro; exact hr
      isplitl [HT]; · iexact HT
      isplitl [HZ]; · iexact HZ
      isplitl [HA]; · iexact HA
      iexact HR

include hok hPG in
theorem rest33_step (r) (hr : r.1 = T g 0 3 ∧ r.2.2.2 = 1#32) :
    iprop((RS c g x4 3 0 ∗ (Before c g PG x1 x2 x3 ∗ ZS c g PG (zf (F := F)) (40 * zr g 6))) ∗ Rem (F := F) c g) ⊢ WP c (rest33 (F := F) r) (End35 c g PG x1 x2 x3 x4) := by
  obtain ⟨v558, hw, w, c1⟩ := r
  obtain ⟨hv, rfl⟩ := hr
  unfold rest33
  exact wp_seq' (part33_step c hok x4 v558 hw w hv _) fun r => pull fun hr => rest34_step c hok PG x1 x2 x3 x4 hPG r hr

include hok hPG in
theorem rest32_step (r) (hr : r.1 = T g 0 1) :
    iprop((RS c g x4 1 0 ∗ (Before c g PG x1 x2 x3 ∗ ZS c g PG (zf (F := F)) (40 * zr g 6))) ∗ Rem (F := F) c g) ⊢ WP c (rest32 (F := F) r) (End35 c g PG x1 x2 x3 x4) := by
  obtain ⟨v536, hw, w, c1⟩ := r
  unfold rest32
  exact wp_seq' (part32_step c hok x4 v536 hw w c1 hr _) fun r => pull fun hr => rest33_step c hok PG x1 x2 x3 x4 hPG r hr

include hok hPG hz in
theorem rest31_step (v513 : Elt F .i32) (hv : v513 = T g 0 3) :
    iprop((ZS c g PG (zf (F := F)) (40 * zr g 3) ∗ (Tab c g ∗ RH c g x4 0)) ∗ (Before c g PG x1 x2 x3 ∗ Rem (F := F) c g)) ⊢ WP c (rest31 (F := F) v513) (End35 c g PG x1 x2 x3 x4) := by
  unfold rest31
  refine wp_seq' (part31_step c hok PG hz x4 v513 hv) fun r => pull fun hr => BIBase.Entails.trans ?_ (rest32_step c hok PG x1 x2 x3 x4 hPG r hr)
  iintro ⟨⟨HS, HZ⟩, HB, HR⟩
  isplitr [HR]
  · isplitl [HS]; · iexact HS
    isplitl [HB]; · iexact HB
    iexact HZ
  iexact HR

include hok hPG hz hP in
theorem rest35_step (v351 v414 v434 v451 : BitVec 32) (v452 : BitVec 1) (v490 : BitVec 32) (f10 : S5x6.Idx → Elt F .i32)
    (h10 : ∀ y : S5x6.Idx, (y 1).val < 5 → a10.view.read (Elt F) f10 y = tabF (F := F) g y)
    (h0 : Scalar.select v452 v490 0#32 = T g 0 5) (h1 : v451 = T g 1 5) (h2 : v414 = T g 2 5) (h3 : v351 = T g 3 5) (h4 : v434 = T g 4 5) (f9 : S128x1536.Idx → Elt F .f32) :
    iprop((((a10.view.loc (c : Thread nD τ) ↦{fullShare} f10) ∗ (a9.view.loc (c : Thread nD τ) ↦{fullShare} f9))
        ∗ (semVal ((c : Thread nD τ), SemLoc.dma a11.sem) 0 ∗ (bigSep (Finset.univ.filter fun p : Fin 6 × Fin 40 => kt g p.1 = 0) (own (F := F) c g))))
      ∗ ((a1.view.loc (c : Thread nD τ) ↦{fullShare} x1) ∗ (a2.view.loc (c : Thread nD τ) ↦{fullShare} x2) ∗ (a3.view.loc (c : Thread nD τ) ↦{fullShare} x3)
        ∗ (a4.view.loc (c : Thread nD τ) ↦{fullShare} x4) ∗ (∃ f6, a6.view.loc (c : Thread nD τ) ↦{fullShare} f6) ∗ (∃ f7, a7.view.loc (c : Thread nD τ) ↦{fullShare} f7)
        ∗ (bigSep Finset.univ fun k : Fin 4 => idle (F := F) c k) ∗ (bigSep (Finset.univ.filter fun p : Fin 6 × Fin 40 => ¬ kt g p.1 = 0) (own (F := F) c g))
        ∗ (∃ W, owes (c : Thread nD τ) 0 W)))
    ⊢ WP c (rest35 (F := F) v351 v414 v434 v451 v452 v490) (End35 c g PG x1 x2 x3 x4) := by
  unfold rest35
  refine wp_seq' (part30_step c hok PG hz v351 v414 v434 v451 v452 v490 f10 h10 h0 h1 h2 h3 h4 f9) fun v513 => pull fun hv =>
    BIBase.Entails.trans ?_ (rest31_step c hok PG hz x1 x2 x3 x4 hPG v513 hv)
  unfold Before Rem
  iintro ⟨⟨HT, HZ, H9⟩, H1, H2, H3, H4, H6, H7, HI, Ho, HW⟩
  isplitl [HT HZ H4 H6]
  · isplitl [HZ]; · iexact HZ
    isplitl [HT]; · iexact HT
    iapply (rs_start c g x4)
    isplitl [H4]; · iexact H4
    iexact H6
  isplitr [H9]
  · isplitl [H1]; · iexact H1
    isplitl [H2]; · iexact H2
    isplitl [H3]; · iexact H3
    isplitl [H7]; · iexact H7
    isplitl [HI Ho]
    · iapply (inv_start c g PG hP)
      isplitl [HI]; · iexact HI
      iexact Ho
    iexact HW
  iexact H9

end Rest

end Cert.Kernel.Hand

end
-- ==== Proof.K.Body3.lean ====
module

public import proofs.«01_k».proof.Proof.K.Body2

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

/-- The group sizes as the words read from them. -/
def gz (x0 : S6.Idx → Elt F .i32) : Fin 6 → BitVec 32 := fun e => x0 (ix1 e)

theorem part35_prog : k0_part35 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 = (do
  let ⟨v19, v36, v37, v38, c1_i32_14⟩ : Σ' (v19 : BitVec 32) (v36 : BitVec 32) (v37 : BitVec 1) (v38 : BitVec 32), BitVec 32 ← k0_part17 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12
  let v76 : BitVec 32 ← k0_part18 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v36 v37 v38 c1_i32_14
  let ⟨v82, v101, v102, c8_i32_48, v103, v108, v110, c0_i32_52⟩ : Σ' (v82 : BitVec 32) (v101 : BitVec 32) (v102 : BitVec 32) (c8_i32_48 : BitVec 32) (v103 : BitVec 32) (v108 : BitVec 32) (v110 : BitVec 32), BitVec 32 ← k0_part19 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v19 v36 v76
  let ⟨v119, v120, v141, c2_i32_66, v142, v147, v152⟩ : Σ' (v119 : BitVec 32) (v120 : BitVec 1) (v141 : BitVec 32) (c2_i32_66 : BitVec 32) (v142 : BitVec 32) (v147 : BitVec 32), BitVec 32 ← k0_part20 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v19 v101 v102 c8_i32_48 v103 v108 v110 c0_i32_52
  let ⟨v165, v184, v185⟩ : Σ' (v165 : BitVec 32) (v184 : BitVec 32), BitVec 32 ← k0_part21 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v19 v82 v102 v119 v120 v141 c2_i32_66 v142 v147 v152
  let ⟨v202, v203, v224, c2_i32_111, v225, c0_i32_112⟩ : Σ' (v202 : BitVec 32) (v203 : BitVec 1) (v224 : BitVec 32) (c2_i32_111 : BitVec 32) (v225 : BitVec 32), BitVec 32 ← k0_part22 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v102 v184 v185
  let ⟨v248, v250, c16_i32_131, v251, v256, v258⟩ : Σ' (v248 : BitVec 32) (v250 : BitVec 32) (c16_i32_131 : BitVec 32) (v251 : BitVec 32) (v256 : BitVec 32), BitVec 32 ← k0_part23 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v102 v165 v185 v202 v203 v224 c2_i32_111 v225 c0_i32_112
  let ⟨v268, v285, v286, v288, c8_i32_148, v289, v300⟩ : Σ' (v268 : BitVec 32) (v285 : BitVec 32) (v286 : BitVec 1) (v288 : BitVec 32) (c8_i32_148 : BitVec 32) (v289 : BitVec 32), BitVec 1 ← k0_part24 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v185 v250 c16_i32_131 v251 v256 v258
  let ⟨v331, v332, c15_i32_175⟩ : Σ' (v331 : BitVec 32) (v332 : Elt F .i32), BitVec 32 ← k0_part25 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v185 v248 v268 v285 v286 v288 c8_i32_148 v289 v300
  let ⟨v351, v368, v369, v371, c8_i32_193, v372, v373⟩ : Σ' (v351 : BitVec 32) (v368 : BitVec 32) (v369 : BitVec 1) (v371 : BitVec 32) (c8_i32_193 : BitVec 32) (v372 : BitVec 32), BitVec 1 ← k0_part26 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v268 v332 c15_i32_175
  let v408 : BitVec 32 ← k0_part27 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v368 v369 v371 c8_i32_193 v372 v373
  let ⟨v414, v433, v434, v435, v449⟩ : Σ' (v414 : BitVec 32) (v433 : BitVec 32) (v434 : BitVec 32) (v435 : BitVec 32), BitVec 1 ← k0_part28 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v268 v331 v351 v408
  let ⟨v451, v452, v490⟩ : Σ' (v451 : BitVec 32) (v452 : BitVec 1), BitVec 32 ← k0_part29 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v433 v434 v435 v449
  rest35 v351 v414 v434 v451 v452 v490) := by
  rw [k0_part35_eq_skeleton]; rfl

/-- A quotient rounded down, the sign of the divisor known. -/
def fdivL (x d : BitVec 32) : BitVec 32 :=
  Scalar.select
    (Scalar.andi
      (Scalar.cmpi .ne (Scalar.subi (Scalar.extui (Scalar.cmpi .sgt x 0#32) : BitVec 32) (Scalar.extui (Scalar.cmpi .slt x 0#32))) 1#32)
      (Scalar.cmpi .ne (Scalar.remsi x d) 0#32))
    (Scalar.subi (Scalar.divsi x d) 1#32) (Scalar.divsi x d)

theorem fdivL_eq (x d : BitVec 32) (hd : Scalar.subi (Scalar.extui (Scalar.cmpi .sgt d 0#32) : BitVec 32) (Scalar.extui (Scalar.cmpi .slt d 0#32)) = 1#32) : fdivL x d = fdivW x d := by
  unfold fdivL fdivW
  rw [hd]

theorem bsW_succ (g : Fin 6 → BitVec 32) (e : Fin 6) : bsW g (e.val + 1) = Scalar.addi (bsW g e.val) (nbW g e) := by
  conv_lhs => unfold bsW
  rw [dif_pos e.isLt]

theorem slW_succ (g : Fin 6 → BitVec 32) (e : Fin 6) : slW g (e.val + 1) = Scalar.addi (slW g e.val) (ktW g e) := by
  conv_lhs => unfold slW
  rw [dif_pos e.isLt]

def OkP (g : Fin 6 → BitVec 32) (p : View.Piece (Elt F) S5x6 .i32) : Prop := ∀ x, p.2 x = tabF (F := F) g (p.1.emb x)

theorem okp_cons (g : Fin 6 → BitVec 32) (r : Fin 5) (e : Fin 6) (inb) (v : BitVec 32) (hv : v = T g r e) (L : List (View.Piece (Elt F) S5x6 .i32)) (hL : ∀ p ∈ L, OkP (F := F) g p) :
    ∀ p ∈ ((⟨Rect.unit (s := S5x6) ![r.val, e.val] S1x1.size inb, fun _ => v⟩ : View.Piece (Elt F) S5x6 .i32) :: L), OkP (F := F) g p :=
  List.forall_mem_cons.2 ⟨fun x => piece_ok g r e inb v hv x, hL⟩

theorem gz_read (x0 : S6.Idx → Elt F .i32) (e : Fin 6) (inb) (x : S1.Idx) :
    View.readAt (Elt F) a0.view (Rect.unit (s := S6) ![e.val] S1.size inb).toLoadRect x0 x = gz (F := F) x0 e := by
  show x0 _ = x0 (ix1 e)
  congr 1
  funext a
  match a with
  | 0 =>
    apply Fin.ext
    have : (x 0).val < 1 := (x 0).isLt
    show e.val + 1 * (x 0).val = e.val
    omega

/-- The words of one expert, from its size and the words before. -/
theorem row {g : Fin 6 → BitVec 32} (hok : Ok g) (e : Fin 6) (xw bw nw bw' gw kw sw sw' : BitVec 32) (hx : xw = g e) (hb : bw = T g 3 e) (hs : sw = T g 2 e)
    (hn : nw = fdivL (Scalar.addi xw 15#32) 16#32) (hb' : bw' = Scalar.addi bw nw) (hg : gw = fdivL bw 8#32)
    (hk : kw = Scalar.select (Scalar.cmpi .sgt nw 0#32) (fdivL (Scalar.addi (Scalar.subi (fdivL (Scalar.subi (Scalar.addi bw' 8#32) 1#32) 8#32) gw) 1#32) 2#32) 0#32)
    (hs' : sw' = Scalar.addi sw kw) : kw = T g 0 e ∧ gw = T g 1 e ∧ bw' = T g 4 e ∧ ∀ e' : Fin 6, e'.val = e.val + 1 → bw' = T g 3 e' ∧ sw' = T g 2 e' := by
  have h2 : ∀ x, fdivL x 2#32 = fdivW x 2#32 := fun x => fdivL_eq x _ (by decide)
  have h8 : ∀ x, fdivL x 8#32 = fdivW x 8#32 := fun x => fdivL_eq x _ (by decide)
  have h16 : ∀ x, fdivL x 16#32 = fdivW x 16#32 := fun x => fdivL_eq x _ (by decide)
  have b3 : bw = bsW g e.val := hb.trans (TW_eq hok 3 e).symm
  have s2 : sw = slW g e.val := hs.trans (TW_eq hok 2 e).symm
  have n1 : nw = nbW g e := by rw [hn, h16, hx]; rfl
  have b4 : bw' = bsW g (e.val + 1) := by rw [hb', b3, n1, bsW_succ]
  have g1 : gw = g0W g e.val := by rw [hg, h8, b3]; rfl
  have k0 : kw = ktW g e := by rw [hk, h2, h8, n1, b4, g1]; rfl
  have s4 : sw' = slW g (e.val + 1) := by rw [hs', s2, k0, slW_succ]
  exact ⟨k0.trans (TW_eq hok 0 e), g1.trans (TW_eq hok 1 e), b4.trans (TW_eq hok 4 e), fun e' h => ⟨b4.trans ((congrArg (bsW g) h.symm).trans (TW_eq hok 3 e')), s4.trans ((congrArg (slW g) h.symm).trans (TW_eq hok 2 e'))⟩⟩

set_option maxHeartbeats 400000 in
set_option sl_exec.resultNames true in
/-- The body up to its last wait. -/
theorem part35_step (c : Dev nD) (x0 : S6.Idx → Elt F .i32) (hok : Ok (gz (F := F) x0)) (f10 : S5x6.Idx → Elt F .i32) (P : sProp 𝕄) (f9 : S128x1536.Idx → Elt F .f32)
   (Q : (Σ' (v632 : BitVec 32), BitVec 32) → sProp 𝕄)
   (hrest : ∀ (v351 v414 v434 v451 : BitVec 32) (v452 : BitVec 1) (v490 : BitVec 32) (f10 : S5x6.Idx → Elt F .i32)
    (h10 : ∀ y : S5x6.Idx, (y 1).val < 5 → a10.view.read (Elt F) f10 y = tabF (F := F) (gz (F := F) x0) y)
    (h0 : Scalar.select v452 v490 0#32 = T (gz (F := F) x0) 0 5) (h1 : v451 = T (gz (F := F) x0) 1 5) (h2 : v414 = T (gz (F := F) x0) 2 5) (h3 : v351 = T (gz (F := F) x0) 3 5) (h4 : v434 = T (gz (F := F) x0) 4 5),
    iprop(P ∗ (a10.view.loc (c : Thread nD τ) ↦{fullShare} f10)) ⊢ WP c (rest35 (F := F) v351 v414 v434 v451 v452 v490) Q) :
   iprop((a0.view.loc (c : Thread nD τ) ↦{fullShare} x0) ∗ (a10.view.loc (c : Thread nD τ) ↦{fullShare} f10) ∗ P)
   ⊢ WP c (k0_part35 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) (fun r => iprop(Q r ∗ (a0.view.loc (c : Thread nD τ) ↦{fullShare} x0))) := by
  rw [part35_prog]
  unfold WP at *
  iintro ⟨H0, H10, HR⟩
  set_option sl_exec.stopBefore "rest35" in sl_exec_parts
  have hcov : ∀ y : S5x6.Idx, (y 1).val < 5 → ∃ p ∈ part35_step.sl.H10_25 x0, y ∈ p.1.set := by
    intro y hy
    clear hrest hok
    have hy0 : (y 0).val < 5 := (y 0).isLt
    unfold part35_step.sl.H10_25 part35_step.sl.H10_22 part35_step.sl.H10_20 part35_step.sl.H10_15 part35_step.sl.H10_10 part35_step.sl.H10_5 part35_step.sl.H10_1
    simp only [List.exists_mem_cons_iff, mem_unit11, mem_unit11', List.not_mem_nil, false_and, exists_false, or_false]
    revert hy hy0
    generalize (y 0).val = a
    generalize (y 1).val = b
    intro hb ha
    have ha' : a = 0 ∨ a = 1 ∨ a = 2 ∨ a = 3 ∨ a = 4 := by omega
    have hb' : b = 0 ∨ b = 1 ∨ b = 2 ∨ b = 3 ∨ b = 4 := by omega
    rcases ha' with rfl | rfl | rfl | rfl | rfl <;> rcases hb' with rfl | rfl | rfl | rfl | rfl <;> decide
  have q0 : 0#32 = T (gz (F := F) x0) 3 0 ∧ 0#32 = T (gz (F := F) x0) 2 0 := ⟨rfl, rfl⟩
  have r0 := row hok 0 (part35_step.sl.v0 x0) 0#32 (part35_step.sl.v18 x0) (part35_step.sl.v19 x0) 0#32 (part35_step.sl.v76 x0) 0#32 (part35_step.sl.v82 x0) (gz_read x0 0 _ _) rfl rfl rfl rfl (by decide) rfl rfl
  have q1 := r0.2.2.2 1 rfl
  have r1 := row hok 1 (part35_step.sl.v83 x0) (part35_step.sl.v19 x0) (part35_step.sl.v101 x0) (part35_step.sl.v102 x0) (part35_step.sl.v119 x0) (part35_step.sl.v159 x0) (part35_step.sl.v82 x0) (part35_step.sl.v165 x0) (gz_read x0 1 _ _) q1.1 q1.2 rfl rfl rfl rfl rfl
  have q2 := r1.2.2.2 2 rfl
  have r2 := row hok 2 (part35_step.sl.v166 x0) (part35_step.sl.v102 x0) (part35_step.sl.v184 x0) (part35_step.sl.v185 x0) (part35_step.sl.v202 x0) (part35_step.sl.v242 x0) (part35_step.sl.v165 x0) (part35_step.sl.v248 x0) (gz_read x0 2 _ _) q2.1 q2.2 rfl rfl rfl rfl rfl
  have q3 := r2.2.2.2 3 rfl
  have r3 := row hok 3 (part35_step.sl.v249 x0) (part35_step.sl.v185 x0) (part35_step.sl.v267 x0) (part35_step.sl.v268 x0) (part35_step.sl.v285 x0) (part35_step.sl.v325 x0) (part35_step.sl.v248 x0) (part35_step.sl.v331 x0) (gz_read x0 3 _ _) q3.1 q3.2 rfl rfl rfl rfl rfl
  have q4 := r3.2.2.2 4 rfl
  have r4 := row hok 4 (part35_step.sl.v332 x0) (part35_step.sl.v268 x0) (part35_step.sl.v350 x0) (part35_step.sl.v351 x0) (part35_step.sl.v368 x0) (part35_step.sl.v408 x0) (part35_step.sl.v331 x0) (part35_step.sl.v414 x0) (gz_read x0 4 _ _) q4.1 q4.2 rfl rfl rfl rfl rfl
  have q5 := r4.2.2.2 5 rfl
  have r5 := row hok 5 (part35_step.sl.v415 x0) (part35_step.sl.v351 x0) (part35_step.sl.v433 x0) (part35_step.sl.v434 x0) (part35_step.sl.v451 x0) (Scalar.select (part35_step.sl.v452 x0) (part35_step.sl.v490 x0) 0#32) (part35_step.sl.v414 x0) (Scalar.addi (part35_step.sl.v414 x0) (Scalar.select (part35_step.sl.v452 x0) (part35_step.sl.v490 x0) 0#32)) (gz_read x0 5 _ _) q5.1 q5.2 rfl rfl rfl rfl rfl
  have l1 : ∀ p ∈ part35_step.sl.H10_1 x0, OkP (gz (F := F) x0) p := okp_cons (gz (F := F) x0) 0 0 inb_S5x6_S1x1_0_0 _ r0.1 _ (fun _ h => absurd h List.not_mem_nil)
  have l5 : ∀ p ∈ part35_step.sl.H10_5 x0, OkP (gz (F := F) x0) p := okp_cons (gz (F := F) x0) 4 0 inb_S5x6_S1x1_4_0 _ r0.2.2.1 _ (okp_cons (gz (F := F) x0) 3 0 inb_S5x6_S1x1_3_0 _ q0.1 _ (okp_cons (gz (F := F) x0) 2 0 inb_S5x6_S1x1_2_0 _ q0.2 _ (okp_cons (gz (F := F) x0) 1 0 inb_S5x6_S1x1_1_0 _ r0.2.1 _ (l1))))
  have l10 : ∀ p ∈ part35_step.sl.H10_10 x0, OkP (gz (F := F) x0) p := okp_cons (gz (F := F) x0) 4 1 inb_S5x6_S1x1_4_1 _ r1.2.2.1 _ (okp_cons (gz (F := F) x0) 3 1 inb_S5x6_S1x1_3_1 _ q1.1 _ (okp_cons (gz (F := F) x0) 2 1 inb_S5x6_S1x1_2_1 _ q1.2 _ (okp_cons (gz (F := F) x0) 1 1 inb_S5x6_S1x1_1_1 _ r1.2.1 _ (okp_cons (gz (F := F) x0) 0 1 inb_S5x6_S1x1_0_1 _ r1.1 _ (l5)))))
  have l15 : ∀ p ∈ part35_step.sl.H10_15 x0, OkP (gz (F := F) x0) p := okp_cons (gz (F := F) x0) 4 2 inb_S5x6_S1x1_4_2 _ r2.2.2.1 _ (okp_cons (gz (F := F) x0) 3 2 inb_S5x6_S1x1_3_2 _ q2.1 _ (okp_cons (gz (F := F) x0) 2 2 inb_S5x6_S1x1_2_2 _ q2.2 _ (okp_cons (gz (F := F) x0) 1 2 inb_S5x6_S1x1_1_2 _ r2.2.1 _ (okp_cons (gz (F := F) x0) 0 2 inb_S5x6_S1x1_0_2 _ r2.1 _ (l10)))))
  have l20 : ∀ p ∈ part35_step.sl.H10_20 x0, OkP (gz (F := F) x0) p := okp_cons (gz (F := F) x0) 4 3 inb_S5x6_S1x1_4_3 _ r3.2.2.1 _ (okp_cons (gz (F := F) x0) 3 3 inb_S5x6_S1x1_3_3 _ q3.1 _ (okp_cons (gz (F := F) x0) 2 3 inb_S5x6_S1x1_2_3 _ q3.2 _ (okp_cons (gz (F := F) x0) 1 3 inb_S5x6_S1x1_1_3 _ r3.2.1 _ (okp_cons (gz (F := F) x0) 0 3 inb_S5x6_S1x1_0_3 _ r3.1 _ (l15)))))
  have l22 : ∀ p ∈ part35_step.sl.H10_22 x0, OkP (gz (F := F) x0) p := okp_cons (gz (F := F) x0) 1 4 inb_S5x6_S1x1_1_4 _ r4.2.1 _ (okp_cons (gz (F := F) x0) 0 4 inb_S5x6_S1x1_0_4 _ r4.1 _ (l20))
  have l25 : ∀ p ∈ part35_step.sl.H10_25 x0, OkP (gz (F := F) x0) p := okp_cons (gz (F := F) x0) 4 4 inb_S5x6_S1x1_4_4 _ r4.2.2.1 _ (okp_cons (gz (F := F) x0) 3 4 inb_S5x6_S1x1_3_4 _ q4.1 _ (okp_cons (gz (F := F) x0) 2 4 inb_S5x6_S1x1_2_4 _ q4.2 _ (l22)))
  have hs := hrest (part35_step.sl.v351 x0) (part35_step.sl.v414 x0) (part35_step.sl.v434 x0) (part35_step.sl.v451 x0) (part35_step.sl.v452 x0) (part35_step.sl.v490 x0)
    (a10.view.writes (Elt F) f10 (part35_step.sl.H10_25 x0)) ?_ r5.1 r5.2.1 q5.2 q5.1 r5.2.2.1
  · iapply (BIBase.Entails.trans (BIClass.sep_mono hs (.rfl : iprop(a0.view.loc (c : Thread nD τ) ↦{fullShare} x0) ⊢ _)) (wp_frame_r _ _ _))
    isplitr [H0]
    · isplitl [HR]; · iexact HR
      iexact H10
    iexact H0
  · intro y hy
    refine View.read_writes_apply_of_pieces a10.view _ (tabF (F := F) (gz (F := F) x0)) _ ?_ y ?_
    · exact l25
    · exact hcov y hy

theorem cc0_prog : cc0_nvfp4_wgrad (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 = (k0_part35 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 >>= fun r =>
    (if Scalar.cmpi .ne r.1 r.2 = 1#1 then (Scf.Loop.for k0_t30_loop k0_t30_ok () (k0_t30_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => pure PUnit.unit) else pure PUnit.unit)) := by
  rw [cc0_nvfp4_wgrad_eq_skeleton]; rfl

end Cert.Kernel.Hand

end
-- ==== Proof.K.Body4.lean ====
module

public import proofs.«01_k».proof.Proof.K.Body3
public import Idealize.ShloMosaic.Lib.ValueLayout

@[expose] public section

set_option maxRecDepth 16384

noncomputable section

namespace Cert.Kernel.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

/-- The result: zero in a group without blocks, else the element of the tile's product. -/
def GF (g : Fin 6 → BitVec 32) (x3 : S1408x5120.Idx → Elt F .bf16) (x4 : S1408x1536.Idx → Elt F .bf16) (γ : F .f32) : S6x5120x1536.Idx → Elt F .f32 :=
  fun i => if kt g ⟨(i 0).val, (i 0).isLt⟩ = 0 then Scalar.ofBits .f32 0x00000000#32
    else outT g x3 x4 γ ⟨(i 0).val, (i 0).isLt⟩ ((i 1).val / 512) (ix3 0 ⟨(i 1).val % 512, Nat.mod_lt _ (by decide)⟩ ⟨(i 2).val, (i 2).isLt⟩)

/-- What is claimed of a block: it holds the result's elements. -/
def PGd (g : Fin 6 → BitVec 32) (x3 : S1408x5120.Idx → Elt F .bf16) (x4 : S1408x1536.Idx → Elt F .bf16) (γ : F .f32) (p : Fin 6 × Fin 40)
    (f : S6x5120x1536.Idx → Elt F .f32) : Prop := ∀ i ∈ I g p, f i = GF g x3 x4 γ i

/-- A result element read through the tile it lies in. -/
theorem oread (e : Fin 6) (t : Fin 10) (f : S6x5120x1536.Idx → Elt F .f32) (i : S6x5120x1536.Idx) (h0 : (i 0).val = e.val) (h1 : (i 1).val / 512 = t.val) :
    f i = (oblk e t).view.read (Elt F) f (ValueIdx.ix2 ⟨(i 1).val % 512, Nat.mod_lt _ (by decide)⟩ ⟨(i 2).val, (i 2).isLt⟩) := by
  unfold oblk
  rw [Memref.read_squeeze_slice _ _ _ _ (show S1x512x1536.ShapeCasts S512x1536 by decide), ValueIdx.shapeCast_1ab_ab_apply]
  show f i = f _
  congr 1
  funext a
  apply Fin.ext
  match a with
  | 0 => show (i 0).val = e.val + 1 * 0; omega
  | 1 => show (i 1).val = 512 * t.val + 1 * ((i 1).val % 512); omega
  | 2 => show (i 2).val = 0 + 1 * (i 2).val; omega

/-- A result element read through the block of 128 rows it lies in. -/
theorem zread (e : Fin 6) (j : Fin 40) (f : S6x5120x1536.Idx → Elt F .f32) (i : S6x5120x1536.Idx) (h0 : (i 0).val = e.val) (h1 : (i 1).val / 128 = j.val) :
    f i = (zblk e j).view.read (Elt F) f (ValueIdx.ix2 ⟨(i 1).val % 128, Nat.mod_lt _ (by decide)⟩ ⟨(i 2).val, (i 2).isLt⟩) := by
  unfold zblk
  rw [Memref.read_squeeze_slice _ _ _ _ (show S1x128x1536.ShapeCasts S128x1536 by decide), ValueIdx.shapeCast_1ab_ab_apply]
  show f i = f _
  congr 1
  funext a
  apply Fin.ext
  match a with
  | 0 => show (i 0).val = e.val + 1 * 0; omega
  | 1 => show (i 1).val = 128 * j.val + 1 * ((i 1).val % 128); omega
  | 2 => show (i 2).val = 0 + 1 * (i 2).val; omega

/-- A slot read as a tile. -/
theorem sread (k : Fin 4) (f8 : S4x512x1536.Idx → Elt F .f32) (a : Fin 512) (b : Fin 1536) :
    (oslot k).view.read (Elt F) f8 (ValueIdx.ix2 a b) = rslot k f8 (ix3 0 a b) := by
  unfold oslot
  rw [Memref.read_squeeze_slice _ _ _ _ (show S1x512x1536.ShapeCasts S512x1536 by decide), ValueIdx.shapeCast_1ab_ab_apply]
  rfl

variable (g : Fin 6 → BitVec 32) (x3 : S1408x5120.Idx → Elt F .bf16) (x4 : S1408x1536.Idx → Elt F .bf16) (γ : F .f32)

theorem PGd_zero (e j fd) (h : kt g e = 0) : PGd g x3 x4 γ (e, j) ((zblk e j).view.write (Elt F) fd (zf (F := F)) Finset.univ) := by
  intro i hi
  simp only [I, Finset.mem_filter, Finset.mem_univ, true_and, h, if_true] at hi
  refine (zread e j _ i hi.1 hi.2).trans ((congrFun (View.read_write_univ _ _) _).trans ?_)
  unfold GF zf
  rw [if_pos]
  rw [show (⟨(i 0).val, (i 0).isLt⟩ : Fin 6) = e from Fin.ext hi.1]; exact h

theorem PGd_ok : PGok g (PGd g x3 x4 γ) x3 x4 γ := by
  intro e t k f8 fd h hr i hi
  simp only [I, Finset.mem_filter, Finset.mem_univ, true_and, h, if_false] at hi
  refine (oread e t _ i hi.1 hi.2).trans ((congrFun (View.read_write_univ _ _) _).trans ((sread k f8 _ _).trans ?_))
  rw [hr]
  unfold GF
  rw [show (⟨(i 0).val, (i 0).isLt⟩ : Fin 6) = e from Fin.ext hi.1, if_neg h, hi.2]

theorem PGd_none (p : Fin 6 × Fin 40) (f) (h : kt g p.1 ≠ 0) (h10 : 10 ≤ p.2.val) : PGd g x3 x4 γ p f := by
  intro i hi
  simp only [I, Finset.mem_filter, Finset.mem_univ, true_and, h, if_false] at hi
  have := (i 1).isLt
  have h5 : (i 1).val < 5120 := this
  omega

theorem split5 (c : Dev nD) (f5 : S6x5120x1536.Idx → Elt F .f32) : (a5.view.loc (c : Thread nD τ) ↦{fullShare} f5) ⊢
    iprop((bigSep (Finset.univ.filter fun p : Fin 6 × Fin 40 => kt g p.1 = 0) (own (F := F) c g)) ∗ (bigSep (Finset.univ.filter fun p : Fin 6 × Fin 40 => ¬ kt g p.1 = 0) (own (F := F) c g))) := by
  refine BIBase.Entails.trans (Entails.of_eq (Ring.pointsTo_blocks (ℓ := a5.view.loc (c : Thread nD τ)) (I g) (I_disj g) (I_cover g) f5)) ?_
  refine BIBase.Entails.trans ?_ (Entails.of_eq (bigSep_filter_split Finset.univ (fun p : Fin 6 × Fin 40 => kt g p.1 = 0)))
  refine bigSep_mono fun p _ => (show (a5.view.loc (c : Thread nD τ) ↦[I g p]{fullShare} f5) ⊢ own (F := F) c g p from ?_)
  unfold own
  iintro H; iexists f5; iexact H

theorem join5 (c : Dev nD) :
    iprop((bigSep (Finset.univ.filter fun p : Fin 6 × Fin 40 => kt g p.1 = 0) (fin (F := F) c g (PGd g x3 x4 γ))) ∗ (bigSep (Finset.univ.filter fun p : Fin 6 × Fin 40 => ¬ kt g p.1 = 0) (fin (F := F) c g (PGd g x3 x4 γ))))
    ⊢ (a5.view.loc (c : Thread nD τ) ↦{fullShare} (GF g x3 x4 γ)) := by
  refine BIBase.Entails.trans (Entails.of_eq (bigSep_filter_split Finset.univ (fun p : Fin 6 × Fin 40 => kt g p.1 = 0)).symm) ?_
  refine BIBase.Entails.trans ?_ (Entails.of_eq (Ring.pointsTo_blocks (ℓ := a5.view.loc (c : Thread nD τ)) (I g) (I_disj g) (I_cover g) (GF g x3 x4 γ)).symm)
  refine bigSep_mono fun p _ => (show fin (F := F) c g (PGd g x3 x4 γ) p ⊢ (a5.view.loc (c : Thread nD τ) ↦[I g p]{fullShare} (GF g x3 x4 γ)) from ?_)
  unfold fin
  iintro ⟨%f, %h, H⟩
  ihave H' := (Entails.of_eq (pointsTo_congr (ℓ := a5.view.loc (c : Thread nD τ)) (I := I g p) (f := f) (g := GF g x3 x4 γ) (fun i hi => h i hi))) $$ H
  iexact H'

theorem sset_disj (k l : Fin 4) (h : k ≠ l) : Disjoint (sset k) (sset l) := by
  rw [Finset.disjoint_left]
  intro i hp hq
  simp only [sset, Finset.mem_filter, Finset.mem_univ, true_and] at hp hq
  exact h (Fin.ext (hp.symm.trans hq))

theorem sset_cover : Finset.univ.biUnion sset = Finset.univ := by
  ext i
  simp only [Finset.mem_biUnion, Finset.mem_univ, true_and, iff_true]
  exact ⟨⟨(i 0).val, (i 0).isLt⟩, by simp only [sset, Finset.mem_filter, Finset.mem_univ, true_and]⟩

/-- The slots' semaphores at rest. -/
def ocells (c : Dev nD) : sProp 𝕄 := bigSep Finset.univ fun k : Fin 4 => semVal ((c : Thread nD τ), SemLoc.dma (ocell k)) 0

theorem split8 (c : Dev nD) (f8 : S4x512x1536.Idx → Elt F .f32) : iprop(ocells (F := F) c ∗ (a8.view.loc (c : Thread nD τ) ↦{fullShare} f8)) ⊢ bigSep Finset.univ fun k : Fin 4 => idle (F := F) c k := by
  have h1 : (a8.view.loc (c : Thread nD τ) ↦{fullShare} f8) ⊢ bigSep Finset.univ fun k : Fin 4 => iprop(∃ f, slotAt (F := F) c k f) := by
    refine BIBase.Entails.trans (Entails.of_eq (Ring.pointsTo_blocks (ℓ := a8.view.loc (c : Thread nD τ)) sset sset_disj sset_cover f8)) ?_
    refine bigSep_mono fun p _ => (show (a8.view.loc (c : Thread nD τ) ↦[sset p]{fullShare} f8) ⊢ iprop(∃ f, slotAt (F := F) c p f) from ?_)
    unfold slotAt
    iintro H; iexists f8; iexact H
  unfold ocells idle
  refine BIBase.Entails.trans (BIClass.sep_mono .rfl h1) ?_
  exact Entails.of_eq (bigSep_sep _ _ _).symm

theorem join8 (c : Dev nD) : (bigSep Finset.univ fun k : Fin 4 => idle (F := F) c k) ⊢ iprop(ocells (F := F) c ∗ ∃ f8 : S4x512x1536.Idx → Elt F .f32, (a8.view.loc (c : Thread nD τ) ↦{fullShare} f8)) := by
  unfold ocells idle
  refine BIBase.Entails.trans (Entails.of_eq (bigSep_sep _ _ _)) (BIClass.sep_mono .rfl ?_)
  unfold slotAt
  exact Ring.pointsTo_blocks_join_exists (ℓ := a8.view.loc (c : Thread nD τ)) sset sset_disj sset_cover (fun _ => Scalar.ofBits .f32 0x00000000#32)

/-- What the body holds before it runs and after: the result at `f5`. -/
def Held (c : Dev nD) (x0 : S6.Idx → Elt F .i32) (x1 x2 : S1.Idx → Elt F .f32) (x3 : S1408x5120.Idx → Elt F .bf16) (x4 : S1408x1536.Idx → Elt F .bf16)
    (f5 : S6x5120x1536.Idx → Elt F .f32) : sProp 𝕄 :=
  iprop((a0.view.loc (c : Thread nD τ) ↦{fullShare} x0) ∗ (a1.view.loc (c : Thread nD τ) ↦{fullShare} x1) ∗ (a2.view.loc (c : Thread nD τ) ↦{fullShare} x2) ∗ (a3.view.loc (c : Thread nD τ) ↦{fullShare} x3) ∗ (a4.view.loc (c : Thread nD τ) ↦{fullShare} x4) ∗ (a5.view.loc (c : Thread nD τ) ↦{fullShare} f5) ∗ (∃ f6, (a6.view.loc (c : Thread nD τ) ↦{fullShare} f6)) ∗ (∃ f7, (a7.view.loc (c : Thread nD τ) ↦{fullShare} f7)) ∗ (∃ f8, (a8.view.loc (c : Thread nD τ) ↦{fullShare} f8)) ∗ (∃ f9, (a9.view.loc (c : Thread nD τ) ↦{fullShare} f9)) ∗ (∃ f10, (a10.view.loc (c : Thread nD τ) ↦{fullShare} f10))
    ∗ semVal ((c : Thread nD τ), SemLoc.dma a11.sem) 0 ∗ ocells (F := F) c ∗ (∃ W, owes (c : Thread nD τ) 0 W))

theorem tail_step (c : Dev nD) (x0 : S6.Idx → Elt F .i32) (hok : Ok (gz (F := F) x0)) (x1 x2 : S1.Idx → Elt F .f32) (x3 : S1408x5120.Idx → Elt F .bf16) (x4 : S1408x1536.Idx → Elt F .bf16)
    (r : Σ' (v632 : BitVec 32), BitVec 32) :
    iprop(End35 c (gz (F := F) x0) (PGd (gz (F := F) x0) x3 x4 (k0_pay59 (sca x1) (sca x2))) x1 x2 x3 x4 r ∗ (a0.view.loc (c : Thread nD τ) ↦{fullShare} x0))
    ⊢ WP c (if Scalar.cmpi .ne r.1 r.2 = 1#1 then (Scf.Loop.for k0_t30_loop k0_t30_ok () (k0_t30_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => pure PUnit.unit) else pure PUnit.unit)
      (fun _ => Held c x0 x1 x2 x3 x4 (GF (gz (F := F) x0) x3 x4 (k0_pay59 (sca x1) (sca x2)))) := by
  generalize hPGe : PGd (gz (F := F) x0) x3 x4 (k0_pay59 (sca x1) (sca x2)) = PG
  unfold End35
  iintro ⟨⟨%hr, HT, HZ, HA, HR⟩, H0⟩
  subst hr
  have hs := wseg c (gz (F := F) x0) PG (zf (F := F)) 5 k0_t30_loop k0_t30_ok t30_trips (k0_t30_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off89 k0_off89_inb (fun _ _ => rfl)
    (Scalar.cmpi .ne (Scalar.extui (Scalar.cmpi .eq (T (gz (F := F) x0) 0 5) 0#32)) 0#32 = 1#1) (cz_iff hok 5)
  unfold WP at *
  iapply (BIBase.Entails.trans (BIBase.Entails.trans (BIBase.Entails.trans (BIClass.sep_mono hs (.rfl : iprop(Tab c (gz (F := F) x0) ∗ After c (gz (F := F) x0) PG x1 x2 x3 x4 ∗ Rem (F := F) c (gz (F := F) x0) ∗ (a0.view.loc (c : Thread nD τ) ↦{fullShare} x0)) ⊢ _)) (wp_frame_r _ _ _)) (wp_mono _ _ _ fun r => ?_)) (wp_fupd _ _ _ _ _))
  rotate_left
  · isplitl [HZ]; · iexact HZ
    isplitl [HT]; · iexact HT
    isplitl [HA]; · iexact HA
    isplitl [HR]; · iexact HR
    iexact H0
  iintro ⟨HZ, HT, HA, HR, H0⟩
  unfold Rem
  imod (z_end c (gz (F := F) x0) PG (zf (F := F))) $$ [HZ HR] with ⟨Hs, Hf, H9, HW⟩
  · isplitl [HZ]; · iexact HZ
    iexact HR
  imodintro
  unfold After Held Tab
  icases HA with ⟨H1, H2, H3, H4, H6, H7, HI, Hn⟩
  subst hPGe
  ihave H5 := (join5 (gz (F := F) x0) x3 x4 (k0_pay59 (sca x1) (sca x2)) c) $$ [Hf Hn]
  · isplitl [Hf]; · iexact Hf
    iexact Hn
  ihave HI' := (join8 c) $$ HI
  icases HI' with ⟨Hc, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (zf (F := F))
    ihave H9' := (show (a9.view.loc (c : Thread nD τ) ↦[a9.view.set]{fullShare} (zf (F := F))) ⊢ (a9.view.loc (c : Thread nD τ) ↦{fullShare} (zf (F := F))) from by rw [show a9.view.set = Finset.univ from View.set_whole _]) $$ H9
    iexact H9'
  isplitl [HT]; · iexists _; iexact HT
  isplitl [Hs]; · iexact Hs
  isplitl [Hc]; · iexact Hc
  iexact HW

/-- The body at its operands: the result comes out as computed, all else as it was. -/
theorem cc0_step (c : Dev nD) (x0 : S6.Idx → Elt F .i32) (hok : Ok (gz (F := F) x0)) (x1 x2 : S1.Idx → Elt F .f32) (x3 : S1408x5120.Idx → Elt F .bf16) (x4 : S1408x1536.Idx → Elt F .bf16)
    (f5 : S6x5120x1536.Idx → Elt F .f32) :
    Held c x0 x1 x2 x3 x4 f5 ⊢ WP c (cc0_nvfp4_wgrad (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) (fun _ => Held c x0 x1 x2 x3 x4 (GF (gz (F := F) x0) x3 x4 (k0_pay59 (sca x1) (sca x2)))) := by
  rw [cc0_prog]
  unfold Held
  iintro ⟨H0, H1, H2, H3, H4, H5, H6, H7, ⟨%f8, H8⟩, ⟨%f9, H9⟩, ⟨%f10, H10⟩, Hs, Hc, HW⟩
  ihave HI := (split8 c f8) $$ [Hc H8]
  · isplitl [Hc]; · iexact Hc
    iexact H8
  ihave HB := (split5 (gz (F := F) x0) c f5) $$ H5
  icases HB with ⟨Hz, Hn⟩
  iapply (wp_seq' (R := iprop(⌜True⌝)) (part35_step c x0 hok f10
    iprop((((a9.view.loc (c : Thread nD τ) ↦{fullShare} f9)) ∗ (semVal ((c : Thread nD τ), SemLoc.dma a11.sem) 0 ∗ (bigSep (Finset.univ.filter fun p : Fin 6 × Fin 40 => kt (gz (F := F) x0) p.1 = 0) (own (F := F) c (gz (F := F) x0)))))
      ∗ ((a1.view.loc (c : Thread nD τ) ↦{fullShare} x1) ∗ (a2.view.loc (c : Thread nD τ) ↦{fullShare} x2) ∗ (a3.view.loc (c : Thread nD τ) ↦{fullShare} x3) ∗ (a4.view.loc (c : Thread nD τ) ↦{fullShare} x4) ∗ (∃ f6, (a6.view.loc (c : Thread nD τ) ↦{fullShare} f6)) ∗ (∃ f7, (a7.view.loc (c : Thread nD τ) ↦{fullShare} f7))
        ∗ (bigSep Finset.univ fun k : Fin 4 => idle (F := F) c k) ∗ (bigSep (Finset.univ.filter fun p : Fin 6 × Fin 40 => ¬ kt (gz (F := F) x0) p.1 = 0) (own (F := F) c (gz (F := F) x0)))
        ∗ (∃ W, owes (c : Thread nD τ) 0 W))) f9
    (End35 c (gz (F := F) x0) (PGd (gz (F := F) x0) x3 x4 (k0_pay59 (sca x1) (sca x2))) x1 x2 x3 x4) ?_) ?_)
  rotate_left 2
  · isplitl
    · isplitl [H0]; · iexact H0
      isplitl [H10]; · iexact H10
      isplitl [H9 Hs Hz]
      · isplitl [H9]; · iexact H9
        isplitl [Hs]; · iexact Hs
        iexact Hz
      isplitl [H1]; · iexact H1
      isplitl [H2]; · iexact H2
      isplitl [H3]; · iexact H3
      isplitl [H4]; · iexact H4
      isplitl [H6]; · iexact H6
      isplitl [H7]; · iexact H7
      isplitl [HI]; · iexact HI
      isplitl [Hn]; · iexact Hn
      iexact HW
    · ipureintro; trivial
  · intro v351 v414 v434 v451 v452 v490 f10 h10 h0 h1 h2 h3 h4
    refine BIBase.Entails.trans ?_ (rest35_step c hok (PGd (gz (F := F) x0) x3 x4 (k0_pay59 (sca x1) (sca x2))) (PGd_zero (gz (F := F) x0) x3 x4 _) x1 x2 x3 x4 (PGd_ok (gz (F := F) x0) x3 x4 _) (PGd_none (gz (F := F) x0) x3 x4 _) v351 v414 v434 v451 v452 v490 f10 h10 h0 h1 h2 h3 h4 f9)
    iintro ⟨⟨⟨H9, HS⟩, HR⟩, H10⟩
    isplitr [HR]
    · isplitl [H9 H10]
      · isplitl [H10]; · iexact H10
        iexact H9
      iexact HS
    iexact HR
  · intro r
    refine BIBase.Entails.trans ?_ (tail_step c x0 hok x1 x2 x3 x4 r)
    iintro ⟨H, -⟩
    iexact H

end Cert.Kernel.Hand

end
-- ==== Proof.K.Launch.lean ====
module

public import proofs.«01_k».proof.Proof.K.Body4
public import Idealize.ShloMosaic.Lib.Pipeline.FrameValue

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Hand

variable {F : FTy → Type} [BitOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cells. -/
abbrev osem0 : Fin 5 → SemLoc sig := fun j => (![SemLoc.dma a11.sem, SemLoc.dma (ocell 0), SemLoc.dma (ocell 1), SemLoc.dma (ocell 2), SemLoc.dma (ocell 3)] : Fin 5 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma a11.sem) 0 ∗ semVal ((c : Thread nD τ), SemLoc.dma (ocell 0)) 0 ∗ semVal ((c : Thread nD τ), SemLoc.dma (ocell 1)) 0
          ∗ semVal ((c : Thread nD τ), SemLoc.dma (ocell 2)) 0 ∗ semVal ((c : Thread nD τ), SemLoc.dma (ocell 3)) 0) := by
  rw [Pipeline.ownSems0_eq_of_list c osem0 [0, 1, 2, 3, 4] (by decide) (by decide)]; rfl

theorem ocells_eq (c : Dev nD) : ocells (F := F) c
      = iprop(semVal ((c : Thread nD τ), SemLoc.dma (ocell 0)) 0 ∗ semVal ((c : Thread nD τ), SemLoc.dma (ocell 1)) 0
          ∗ semVal ((c : Thread nD τ), SemLoc.dma (ocell 2)) 0 ∗ semVal ((c : Thread nD τ), SemLoc.dma (ocell 3)) 0) := by
  unfold ocells
  exact bigSep_univ_eq_bigSepL [(0 : Fin 4), (1 : Fin 4), (2 : Fin 4), (3 : Fin 4)] (by decide) (by decide) _

/-- The result the body writes by its own copies. -/
def R0 : Finset (Ref sig .tc) := {main_v0}
theorem R0_sub : R0 ⊆ Pipeline.restRefs sig spec0 \ ∅ := by decide

theorem routed0_eq (c : Dev nD) (W : (b : Ref sig .tc) → Buf (Elt F) ((c : Thread nD τ).loc b)) :
    (Pipeline.routed R0 c W : sProp 𝕄) = iprop(((c : Thread nD τ).loc main_v0) ↦{fullShare} W main_v0) := by
  unfold Pipeline.routed; rw [BI.bigSep_eq_bigSepL_of_eq [main_v0] (by decide) (by decide)]; rfl

/-- The operands at the launch. -/
abbrev X0 (c : Dev nD) : S6.Idx → Elt F .i32 := V m c main_arg0
abbrev X1 (c : Dev nD) : S1.Idx → Elt F .f32 := V m c main_arg1
abbrev X2 (c : Dev nD) : S1.Idx → Elt F .f32 := V m c main_arg2
abbrev X3 (c : Dev nD) : S1408x5120.Idx → Elt F .bf16 := V m c main_arg3
abbrev X4 (c : Dev nD) : S1408x1536.Idx → Elt F .bf16 := V m c main_arg4

/-- The result. -/
def Res (c : Dev nD) : S6x5120x1536.Idx → Elt F .f32 := GF (gz (F := F) (X0 m c)) (X3 m c) (X4 m c) (k0_pay59 (sca (X1 m c)) (sca (X2 m c)))

/-- The buffers after the body. -/
def VG (c : Dev nD) : (b : Ref sig .tc) → Buf (Elt F) ((c : Thread nD τ).loc b) := Function.update (V m c) main_v0 (Res m c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t.val = 0 then Pipeline.ΦDRG osem0 spec0 ∅ R0 (V m) (V m) c else Pipeline.ΦDRG osem0 spec0 ∅ R0 (V m) (VG m) c
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  (dats m 0 c).before_in_eq_fetched 0 rfl (fun _ => rfl) (fun _ _ _ => rfl) (fun t => rfl) t d
theorem before1 (c : Dev nD) (t : Fin cfg0.N) (d) : (dats m 0 c).before 1 t d = iblk m c 1 t :=
  (dats m 0 c).before_in_eq_fetched 1 rfl (fun _ => rfl) (fun _ _ _ => rfl) (fun t => rfl) t d
theorem before2 (c : Dev nD) (t : Fin cfg0.N) (d) : (dats m 0 c).before 2 t d = iblk m c 2 t :=
  (dats m 0 c).before_in_eq_fetched 2 rfl (fun _ => rfl) (fun _ _ _ => rfl) (fun t => rfl) t d
theorem before3 (c : Dev nD) (t : Fin cfg0.N) (d) : (dats m 0 c).before 3 t d = iblk m c 3 t :=
  (dats m 0 c).before_in_eq_fetched 3 rfl (fun _ => rfl) (fun _ _ _ => rfl) (fun t => rfl) t d
theorem before4 (c : Dev nD) (t : Fin cfg0.N) (d) : (dats m 0 c).before 4 t d = iblk m c 4 t :=
  (dats m 0 c).before_in_eq_fetched 4 rfl (fun _ => rfl) (fun _ _ _ => rfl) (fun t => rfl) t d

theorem iblk0 (c : Dev nD) : iblk m c 0 t0_0 = X0 m c := by
  funext y; unfold iblk; show V m c main_arg0 _ = V m c main_arg0 y; congr 1; funext a; apply Fin.ext
  match a with
  | 0 => show 0 * _ + 1 * (y 0).val = (y 0).val; omega
theorem iblk1 (c : Dev nD) : iblk m c 1 t0_0 = X1 m c := by
  funext y; unfold iblk; show V m c main_arg1 _ = V m c main_arg1 y; congr 1; funext a; apply Fin.ext
  match a with
  | 0 => show 0 * _ + 1 * (y 0).val = (y 0).val; omega
theorem iblk2 (c : Dev nD) : iblk m c 2 t0_0 = X2 m c := by
  funext y; unfold iblk; show V m c main_arg2 _ = V m c main_arg2 y; congr 1; funext a; apply Fin.ext
  match a with
  | 0 => show 0 * _ + 1 * (y 0).val = (y 0).val; omega
theorem iblk3 (c : Dev nD) : iblk m c 3 t0_0 = X3 m c := by
  funext y; unfold iblk; show V m c main_arg3 _ = V m c main_arg3 y; congr 1; funext a; apply Fin.ext
  match a with
  | 0 => show 0 * _ + 1 * (y 0).val = (y 0).val; omega
  | 1 => show 0 * _ + 1 * (y 1).val = (y 1).val; omega
theorem iblk4 (c : Dev nD) : iblk m c 4 t0_0 = X4 m c := by
  funext y; unfold iblk; show V m c main_arg4 _ = V m c main_arg4 y; congr 1; funext a; apply Fin.ext
  match a with
  | 0 => show 0 * _ + 1 * (y 0).val = (y 0).val; omega
  | 1 => show 0 * _ + 1 * (y 1).val = (y 1).val; omega

theorem ΦDRG0_eq (W : (c : Dev nD) → (b : Ref sig .tc) → Buf (Elt F) ((c : Thread nD τ).loc b)) (c : Dev nD) :
    (Pipeline.ΦDRG osem0 spec0 ∅ R0 (V m) W c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))
        ∗ (∃ r, prngReg c r) ∗ (semVal ((c : Thread nD τ), SemLoc.dma a11.sem) 0 ∗ ocells (F := F) c) ∗ ⌜True⌝ ∗ (((c : Thread nD τ).loc main_v0) ↦{fullShare} W c main_v0)) := by
  rw [Pipeline.ΦDRG_eq, scopedRest0_eq, ownSems00_eq, ocells_eq, routed0_eq, bigSep_empty]; rfl

/-- What the body finds and leaves: the staged operands, the invariant, nothing owed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

variable (hok : ∀ c : Dev nD, Ok (gz (F := F) (X0 m c)))

include hok in
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost
  simp only [before0, before1, before2, before3, before4]
  rw [show (dats m 0 c).Φ t0_0.castSucc = Pipeline.ΦDRG osem0 spec0 ∅ R0 (V m) (V m) c from rfl, show (dats m 0 c).Φ t0_0.succ = Pipeline.ΦDRG osem0 spec0 ∅ R0 (V m) (VG m) c from rfl, ΦDRG0_eq, ΦDRG0_eq,
    show (dats m 0 c).after 0 t0_0 = iblk m c 0 t0_0 from rfl, show (dats m 0 c).after 1 t0_0 = iblk m c 1 t0_0 from rfl, show (dats m 0 c).after 2 t0_0 = iblk m c 2 t0_0 from rfl,
    show (dats m 0 c).after 3 t0_0 = iblk m c 3 t0_0 from rfl, show (dats m 0 c).after 4 t0_0 = iblk m c 4 t0_0 from rfl, iblk0, iblk1, iblk2, iblk3, iblk4,
    show VG m c main_v0 = Res m c from Function.update_self _ _ _]
  unfold Dat.owesAt Pipeline.owesWithin
  rw [show (dats m 0 c).owed t0_0.castSucc = 0 from rfl, show (dats m 0 c).owed t0_0.succ = 0 from rfl]
  rw [show (owns (c : Thread nD τ) (st0_0 t0_0) fullShare (X0 m c) : sProp 𝕄) = (a0.view.loc (c : Thread nD τ) ↦{fullShare} X0 m c) from owns_whole ..,
    show (owns (c : Thread nD τ) (st0_1 t0_0) fullShare (X1 m c) : sProp 𝕄) = (a1.view.loc (c : Thread nD τ) ↦{fullShare} X1 m c) from owns_whole ..,
    show (owns (c : Thread nD τ) (st0_2 t0_0) fullShare (X2 m c) : sProp 𝕄) = (a2.view.loc (c : Thread nD τ) ↦{fullShare} X2 m c) from owns_whole ..,
    show (owns (c : Thread nD τ) (st0_3 t0_0) fullShare (X3 m c) : sProp 𝕄) = (a3.view.loc (c : Thread nD τ) ↦{fullShare} X3 m c) from owns_whole ..,
    show (owns (c : Thread nD τ) (st0_4 t0_0) fullShare (X4 m c) : sProp 𝕄) = (a4.view.loc (c : Thread nD τ) ↦{fullShare} X4 m c) from owns_whole ..]
  have h := cc0_step c (X0 m c) (hok c) (X1 m c) (X2 m c) (X3 m c) (X4 m c) (V m c main_v0)
  unfold WP Held at h
  iintro ⟨⟨⟨H6, H7, H8, H9, H10⟩, Hg, ⟨Hs, Hc⟩, -, H5⟩, ⟨%W, -, HW⟩, ⟨%d0, H0⟩, ⟨%d1, H1⟩, ⟨%d2, H2⟩, ⟨%d3, H3⟩, ⟨%d4, H4⟩⟩
  iapply (BIBase.Entails.trans (BIBase.Entails.trans (BIClass.sep_mono h (.rfl : iprop(∃ r, prngReg c r) ⊢ _)) (wp_frame_r _ _ _)) (wp_mono _ _ _ fun r => ?_))
  rotate_left
  · isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [Hs]; · iexact Hs
      isplitl [Hc]; · iexact Hc
      iexists W; iexact HW
    iexact Hg
  iintro ⟨⟨H0, H1, H2, H3, H4, H5, H6, H7, H8, H9, H10, Hs, Hc, ⟨%W', HW⟩⟩, Hg⟩
  isplitl [H6 H7 H8 H9 H10 Hg Hs Hc H5]
  · isplitl [H6 H7 H8 H9 H10]
    · isplitl [H6]; · iexact H6
      isplitl [H7]; · iexact H7
      isplitl [H8]; · iexact H8
      isplitl [H9]; · iexact H9
      iexact H10
    isplitl [Hg]; · iexact Hg
    isplitl [Hs Hc]
    · isplitl [Hs]; · iexact Hs
      iexact Hc
    isplitr
    · ipureintro; trivial
    iexact H5
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

include hok in
theorem body_obligation (c : Dev nD) : BodyObligation (dats (F := F) m 0 c) (defs₀ (F := F)) Variants.none () Set.univ := fun t => by
  rw [bigSep_W0, bigSep_W0, defs₀_row]
  exact triple_restated (sound_body m hok c t) rfl .rfl fun _ => .rfl

include hok in
set_option backward.isDefEq.respectTransparency.types false in
theorem run_main : θ_run defs (onTc (τ := τ) (main (F := F))) (s₀ m ρ) (fun r => Pipeline.FramePostRG cfgs (dats m) 0 R0 (V m) (VG m) r ∧ r.2.sem = fun _ => 0) :=
  Pipeline.θ_run_frame_dmaRG (Q' := _) cfgs (dats m) (0 : Fin 1) launch0 osem0 defs₀ Variants.none ownSemFacts0 ∅ R0 (by decide) R0_sub m ρ main
    (hbody := fun c => (body_obligation m hok c).loose) (hshare := fun c => (dats m 0 c).share_full fun _ => rfl)
    (howed := fun _ _ => rfl) (V := V m) (hmain := hmainD m Variants.none) (hA := A_eq m) (G := VG m)
    (hin := fun _ => .rfl) (hout := fun _ => .rfl)

include hok in
/-- Every run ends, leaves the operands alone, and leaves the result as computed. -/
theorem run_res : θ_run defs (onTc (τ := τ) (main (F := F))) ⟨m, fun _ => 0, ρ⟩ (fun r => (∀ c : Dev nD,
      r.2.mem ((c.tc : Thread nD τ).loc main_v0) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.written c (by decide)).trans (Function.update_self _ _ _),
      ((h.1.toR c).1 0).trans (((dats m 0 c).arrAt_in 0 rfl _).trans ((A_eq m c 0).trans (V_main_arg0 m c))),
      ((h.1.toR c).1 1).trans (((dats m 0 c).arrAt_in 1 rfl _).trans ((A_eq m c 1).trans (V_main_arg1 m c))),
      ((h.1.toR c).1 2).trans (((dats m 0 c).arrAt_in 2 rfl _).trans ((A_eq m c 2).trans (V_main_arg2 m c))),
      ((h.1.toR c).1 3).trans (((dats m 0 c).arrAt_in 3 rfl _).trans ((A_eq m c 3).trans (V_main_arg3 m c))),
      ((h.1.toR c).1 4).trans (((dats m 0 c).arrAt_in 4 rfl _).trans ((A_eq m c 4).trans (V_main_arg4 m c)))⟩, h.2⟩) (run_main m ρ hok)

end Cert.Kernel.Hand

end
-- ==== Proof.KI.Ctx.lean ====
module

public import Idealize.SL.BI.BigOpNat
public import Idealize.ShloMosaic.Lib.Batch
public import Idealize.ShloMosaic.Lib.Ring
public import Idealize.ShloMosaic.Lib.Tactic
public import Idealize.ShloMosaic.Lib.WritesUnit
public import proofs.«01_k».proof.Proof.Words
public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

abbrev a0 : Memref sig .tc .smem S6 .i32 := Memref.whole cc0_stg0_0
abbrev a1 : Memref sig .tc .smem S1 .f32 := Memref.whole cc0_stg1_0
abbrev a2 : Memref sig .tc .smem S1 .f32 := Memref.whole cc0_stg2_0
abbrev a3 : Memref sig .tc .vmem S1408x5120 .bf16 := Memref.whole cc0_stg3_0
abbrev a4 : Memref sig .tc .vmem S1408x1536 .bf16 := Memref.whole cc0_stg4_0
abbrev a5 : Memref sig .tc .hbm S6x5120x1536 .f32 := Memref.whole main_v0
abbrev a6 : Memref sig .tc .vmem S2816x1536 .bf16 := Memref.whole cc0_scratch0
abbrev a7 : Memref sig .tc .vmem S512x1536 .bf16 := Memref.whole cc0_scratch1
abbrev a8 : Memref sig .tc .vmem S4x512x1536 .f32 := Memref.whole cc0_scratch2
abbrev a9 : Memref sig .tc .vmem S128x1536 .f32 := Memref.whole cc0_scratch3
abbrev a10 : Memref sig .tc .smem S5x6 .i32 := Memref.whole cc0_scratch4
abbrev a11 : DmaSems sig S_ := cc0_scratch5
abbrev a12 : DmaSems sig S4 := cc0_scratch6

/-- The weakest precondition of a piece of the body, on the one core. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- A conditional whose two arms join: the rest of the program is proved once, after the conditional. -/
theorem wp_if_join {α β : Type} {c : Dev nD} {b : Prop} [Decidable b] {p : Prog (TpuEff nD τ sig (Elt F) Λ₀ .tc) α}
    {k : PUnit → Prog (TpuEff nD τ sig (Elt F) Λ₀ .tc) β} {P : sProp 𝕄} {Q : β → sProp 𝕄}
    (h : P ⊢ WP c (if b then (p >>= fun _ => pure PUnit.unit) else pure PUnit.unit) (fun u => WP c (k u) Q)) :
    P ⊢ WP c (if b then (p >>= fun _ => k ⟨⟩) else k ⟨⟩) Q := by
  refine h.trans ?_
  by_cases hb : b
  · rw [if_pos hb, if_pos hb]
    show wp _ _ _ _ _ ⊢ wp _ _ _ _ _
    rw [wp_bind, wp_bind]
    refine wp_mono _ _ _ fun a => ?_
    rw [wp_pure, fupd_wp_eq]
  · rw [if_neg hb, if_neg hb]
    show wp _ _ _ _ _ ⊢ wp _ _ _ _ _
    rw [wp_pure, fupd_wp_eq]

/-- The elements of one block of the result: a group with no stripe is written in blocks of 128 rows, the others in
    tiles of 512. -/
def I (g : Fin 6 → BitVec 32) (p : Fin 6 × Fin 40) : Finset S6x5120x1536.Idx :=
  Finset.univ.filter fun i => (i 0).val = p.1.val ∧ (if kt g p.1 = 0 then (i 1).val / 128 = p.2.val else (i 1).val / 512 = p.2.val)

theorem I_disj (g : Fin 6 → BitVec 32) (p q : Fin 6 × Fin 40) (h : p ≠ q) : Disjoint (I g p) (I g q) := by
  rw [Finset.disjoint_left]
  intro i hp hq
  simp only [I, Finset.mem_filter, Finset.mem_univ, true_and] at hp hq
  obtain ⟨e, j⟩ := p
  obtain ⟨e', j'⟩ := q
  obtain ⟨h1, h2⟩ := hp
  obtain ⟨h3, h4⟩ := hq
  simp only at h1 h2 h3 h4
  have he : e = e' := Fin.ext (h1.symm.trans h3)
  subst he
  apply h
  have : j.val = j'.val := by split at h2 <;> simp_all
  rw [Fin.ext this]

theorem I_cover (g : Fin 6 → BitVec 32) : Finset.univ.biUnion (I g) = Finset.univ := by
  ext i
  simp only [Finset.mem_biUnion, Finset.mem_univ, true_and, iff_true]
  have hi : (i 1).val < 5120 := (i 1).isLt
  by_cases h : kt g (i 0) = 0
  · exact ⟨(i 0, ⟨(i 1).val / 128, by omega⟩), by simp [I, h]⟩
  · exact ⟨(i 0, ⟨(i 1).val / 512, by omega⟩), by simp [I, h]⟩

theorem zinb (e : Fin 6) (j : Fin 40) : ∀ a, (![e.val, 128 * j.val, 0] : Fin 3 → Nat) a + S1x128x1536.size a ≤ S6x5120x1536.size a := by
  have := e.isLt; have := j.isLt; intro a; fin_cases a
  · show e.val + 1 ≤ 6; omega
  · show 128 * j.val + 128 ≤ 5120; omega
  · show 0 + 1536 ≤ 1536; omega

/-- The block of 128 rows a zero copy fills. -/
def zblk (e : Fin 6) (j : Fin 40) : Memref sig .tc .hbm S128x1536 .f32 :=
  (a5.slice (Rect.unit (s := S6x5120x1536) ![e.val, 128 * j.val, 0] S1x128x1536.size (zinb e j)) (fun _ => rfl)).squeeze S128x1536 squeezes_S1x128x1536_S128x1536

theorem oinb (e : Fin 6) (t : Fin 10) : ∀ a, (![e.val, 512 * t.val, 0] : Fin 3 → Nat) a + S1x512x1536.size a ≤ S6x5120x1536.size a := by
  have := e.isLt; have := t.isLt; intro a; fin_cases a
  · show e.val + 1 ≤ 6; omega
  · show 512 * t.val + 512 ≤ 5120; omega
  · show 0 + 1536 ≤ 1536; omega

/-- The tile of 512 rows an output copy fills. -/
def oblk (e : Fin 6) (t : Fin 10) : Memref sig .tc .hbm S512x1536 .f32 :=
  (a5.slice (Rect.unit (s := S6x5120x1536) ![e.val, 512 * t.val, 0] S1x512x1536.size (oinb e t)) (fun _ => rfl)).squeeze S512x1536 squeezes_S1x512x1536_S512x1536

theorem zblk_set (g : Fin 6 → BitVec 32) (e : Fin 6) (j : Fin 40) (h : kt g e = 0) : (zblk e j).view.set = I g (e, j) := by
  have h1 : (zblk e j).view.set = (Rect.unit (s := S6x5120x1536) ![e.val, 128 * j.val, 0] S1x128x1536.size (zinb e j)).set := by
    unfold zblk; exact (View.set_reshape _ _).trans (View.set_slice_whole _ _)
  rw [h1]
  ext i
  have hi : (i 2).val < 1536 := (i 2).isLt
  simp only [Rect.mem_set_unit, I, Finset.mem_filter, Finset.mem_univ, true_and, h, if_true]
  constructor
  · intro H
    have h0 := H 0; have h1 := H 1
    have e0 : e.val ≤ (i 0).val ∧ (i 0).val < e.val + 1 := h0
    have e1 : 128 * j.val ≤ (i 1).val ∧ (i 1).val < 128 * j.val + 128 := h1
    omega
  · intro ⟨h0, h1⟩ a
    match a with
    | 0 => show e.val ≤ (i 0).val ∧ (i 0).val < e.val + 1; omega
    | 1 => show 128 * j.val ≤ (i 1).val ∧ (i 1).val < 128 * j.val + 128; omega
    | 2 => show 0 ≤ (i 2).val ∧ (i 2).val < 0 + 1536; omega

theorem oblk_set (g : Fin 6 → BitVec 32) (e : Fin 6) (t : Fin 10) (h : kt g e ≠ 0) : (oblk e t).view.set = I g (e, ⟨t.val, by omega⟩) := by
  have h1 : (oblk e t).view.set = (Rect.unit (s := S6x5120x1536) ![e.val, 512 * t.val, 0] S1x512x1536.size (oinb e t)).set := by
    unfold oblk; exact (View.set_reshape _ _).trans (View.set_slice_whole _ _)
  rw [h1]
  ext i
  have hi : (i 2).val < 1536 := (i 2).isLt
  simp only [Rect.mem_set_unit, I, Finset.mem_filter, Finset.mem_univ, true_and, h, if_false]
  constructor
  · intro H
    have h0 := H 0; have h1 := H 1
    have e0 : e.val ≤ (i 0).val ∧ (i 0).val < e.val + 1 := h0
    have e1 : 512 * t.val ≤ (i 1).val ∧ (i 1).val < 512 * t.val + 512 := h1
    omega
  · intro ⟨h0, h1⟩ a
    match a with
    | 0 => show e.val ≤ (i 0).val ∧ (i 0).val < e.val + 1; omega
    | 1 => show 512 * t.val ≤ (i 1).val ∧ (i 1).val < 512 * t.val + 512; omega
    | 2 => show 0 ≤ (i 2).val ∧ (i 2).val < 0 + 1536; omega

end Cert.KernelIdeal.Hand

end
-- ==== Proof.KI.Zero.lean ====
module

public import proofs.«01_k».proof.Proof.KI.Ctx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

/-- How many groups before `k` have no stripe. -/
def zr (g : Fin 6 → BitVec 32) (k : ℕ) : ℕ := (Finset.univ.filter fun e : Fin 6 => e.val < k ∧ kt g e = 0).card

theorem zr_zero (g : Fin 6 → BitVec 32) : zr g 0 = 0 := by simp [zr]

theorem zr_succ (g : Fin 6 → BitVec 32) (e : Fin 6) : zr g (e.val + 1) = zr g e.val + if kt g e = 0 then 1 else 0 := by
  unfold zr
  by_cases h : kt g e = 0
  · have : (Finset.univ.filter fun a : Fin 6 => a.val < e.val + 1 ∧ kt g a = 0)
        = insert e (Finset.univ.filter fun a : Fin 6 => a.val < e.val ∧ kt g a = 0) := by
      ext a
      simp only [Finset.mem_filter, Finset.mem_univ, true_and, Finset.mem_insert]
      constructor
      · intro ⟨h1, h2⟩
        by_cases ha : a = e
        · exact .inl ha
        · refine .inr ⟨?_, h2⟩
          have : a.val ≠ e.val := fun h => ha (Fin.ext h)
          omega
      · rintro (rfl | ⟨h1, h2⟩)
        · exact ⟨by omega, h⟩
        · exact ⟨by omega, h2⟩
    rw [this, Finset.card_insert_of_notMem (by simp), if_pos h]
  · rw [if_neg h]
    refine Eq.trans ?_ (Nat.add_zero _).symm
    apply congrArg Finset.card
    ext a
    simp only [Finset.mem_filter, Finset.mem_univ, true_and]
    constructor
    · intro ⟨h1, h2⟩
      have : a.val ≠ e.val := fun hh => h (Fin.ext hh ▸ h2)
      exact ⟨by omega, h2⟩
    · intro ⟨h1, h2⟩
      exact ⟨by omega, h2⟩

theorem zr_mono (g : Fin 6 → BitVec 32) {a b : ℕ} (h : a ≤ b) : zr g a ≤ zr g b := by
  unfold zr
  apply Finset.card_le_card
  intro x hx
  simp only [Finset.mem_filter, Finset.mem_univ, true_and] at hx ⊢
  exact ⟨by omega, hx.2⟩

theorem zr_lt (g : Fin 6 → BitVec 32) {e e' : Fin 6} (h : kt g e = 0) (hl : e.val < e'.val) : zr g e.val + 1 ≤ zr g e'.val := by
  have := zr_succ g e
  rw [if_pos h] at this
  have := zr_mono g (show e.val + 1 ≤ e'.val by omega)
  omega

/-- The number of a zero copy among all of them. -/
abbrev zn (g : Fin 6 → BitVec 32) (p : Fin 6 × Fin 40) : ℕ := 40 * zr g p.1.val + p.2.val

theorem zn_inj (g : Fin 6 → BitVec 32) {p q : Fin 6 × Fin 40} (hp : kt g p.1 = 0) (hq : kt g q.1 = 0) (h : zn g p = zn g q) : p = q := by
  obtain ⟨e, j⟩ := p
  obtain ⟨e', j'⟩ := q
  simp only [zn] at h hp hq
  have hj := j.isLt; have hj' := j'.isLt
  have he : e = e' := by
    rcases Nat.lt_trichotomy e.val e'.val with hl | hl | hl
    · have := zr_lt g hp hl; omega
    · exact Fin.ext hl
    · have := zr_lt g hq hl; omega
  subst he
  have : j = j' := Fin.ext (by omega)
  rw [this]

theorem zn_lt (g : Fin 6 → BitVec 32) {e : Fin 6} (h : kt g e = 0) (j : Fin 40) : zn g (e, j) < 40 * zr g 6 := by
  have := zr_succ g e
  rw [if_pos h] at this
  have := zr_mono g (show e.val + 1 ≤ 6 by omega)
  have := j.isLt
  simp only [zn]
  omega

/-- The block a copy number fills. -/
def fiber (g : Fin 6 → BitVec 32) (t : ℕ) : Finset (Fin 6 × Fin 40) := Finset.univ.filter fun p => kt g p.1 = 0 ∧ zn g p = t
/-- The blocks the copies from a number on fill. -/
def todo (g : Fin 6 → BitVec 32) (n : ℕ) : Finset (Fin 6 × Fin 40) := Finset.univ.filter fun p => kt g p.1 = 0 ∧ n ≤ zn g p

theorem fiber_eq (g : Fin 6 → BitVec 32) {e : Fin 6} (h : kt g e = 0) (j : Fin 40) : fiber g (zn g (e, j)) = {(e, j)} := by
  ext p
  simp only [fiber, Finset.mem_filter, Finset.mem_univ, true_and, Finset.mem_singleton]
  constructor
  · intro ⟨h1, h2⟩; exact zn_inj g h1 h h2
  · rintro rfl; exact ⟨h, rfl⟩

theorem todo_eq (g : Fin 6 → BitVec 32) {e : Fin 6} (h : kt g e = 0) (j : Fin 40) :
    todo g (zn g (e, j)) = insert (e, j) (todo g (zn g (e, j) + 1)) := by
  ext p
  simp only [todo, Finset.mem_filter, Finset.mem_univ, true_and, Finset.mem_insert]
  constructor
  · intro ⟨h1, h2⟩
    by_cases hp : zn g p = zn g (e, j)
    · exact .inl (zn_inj g h1 h hp)
    · exact .inr ⟨h1, by omega⟩
  · rintro (rfl | ⟨h1, h2⟩)
    · exact ⟨h, le_rfl⟩
    · exact ⟨h1, by omega⟩

theorem todo_not_mem (g : Fin 6 → BitVec 32) (p : Fin 6 × Fin 40) : p ∉ todo g (zn g p + 1) := by
  simp only [todo, Finset.mem_filter, Finset.mem_univ, true_and]
  intro h; omega

/-- A block of the result, held at some contents. -/
def own (c : Dev nD) (g : Fin 6 → BitVec 32) (p : Fin 6 × Fin 40) : sProp 𝕄 :=
  iprop(∃ f, (a5.view.loc (c : Thread nD τ) ↦[I g p]{fullShare} f))

/-- A block of the result, held at contents that are what is claimed of it. -/
def fin (c : Dev nD) (g : Fin 6 → BitVec 32) (PG : Fin 6 × Fin 40 → (S6x5120x1536.Idx → Elt F .f32) → Prop) (p : Fin 6 × Fin 40) : sProp 𝕄 :=
  iprop(∃ f, ⌜PG p f⌝ ∗ (a5.view.loc (c : Thread nD τ) ↦[I g p]{fullShare} f))

/-- One read share of the block of zeros. -/
def ztok (c : Dev nD) (z : S128x1536.Idx → Elt F .f32) (t : ℕ) : sProp 𝕄 :=
  iprop(a9.view.loc (c : Thread nD τ) ↦[a9.view.set]{Transfers.shareTokN fullShare t} z)

/-- What a zero copy delivers. -/
def zD (c : Dev nD) (g : Fin 6 → BitVec 32) (PG : Fin 6 × Fin 40 → (S6x5120x1536.Idx → Elt F .f32) → Prop) (z : S128x1536.Idx → Elt F .f32) :
    Fin (40 * zr g 6) → sProp 𝕄 :=
  fun t => iprop((bigSep (fiber g t.val) (fin c g PG)) ∗ ztok c z t.val)

instance fin_storable (c : Dev nD) (g) (PG) (p) : BI.Storable (upEmb : UEmb _ 𝕄) (fin (F := F) c g PG p) := by unfold fin; infer_instance
instance zD_storable (c : Dev nD) (g) (PG) (z) (t) : BI.Storable (upEmb : UEmb _ 𝕄) (zD (F := F) c g PG z t) := by
  unfold zD ztok; infer_instance

/-- The units one zero copy credits. -/
abbrev NZ : ℕ := (zblk 0 0).view.dmaCredit

/-- The zero copies after `n` of them: the blocks and the read shares still in hand. -/
def ZS (c : Dev nD) (g : Fin 6 → BitVec 32) (PG : Fin 6 × Fin 40 → (S6x5120x1536.Idx → Elt F .f32) → Prop) (z : S128x1536.Idx → Elt F .f32) (n : ℕ) : sProp 𝕄 :=
  iprop((Transfers.Batch (countersEmb (U := Pipeline.UD sig nD τ)) (c : Thread nD τ) (.dma a11.sem) () NZ (zD c g PG z) n 0)
    ∗ (bigSep (todo g n) (own c g)) ∗ (bigSep (Finset.Ico n (40 * zr g 6)) (ztok c z)))

/-- One zero copy, as the body spells it. -/
def zissue (off : Fin 3 → ℕ) (inb : ∀ a, off a + S1x128x1536.size a ≤ S6x5120x1536.size a) : Prog (TpuEff nD τ sig (Elt F) Λ₀ .tc) Unit := do
  let v639 : Memref sig .tc .hbm S1x128x1536 .f32 := a5.slice (Rect.unit (s := S6x5120x1536) off S1x128x1536.size inb) (fun _ => rfl)
  let v640 : Memref sig .tc .hbm S128x1536 .f32 := v639.squeeze S128x1536 squeezes_S1x128x1536_S128x1536
  Prog.lift (.enqueueDma a9 (.here v640) (.dma a11.sem) (Memref.isWhole_whole _).wordExact ((View.wordExact_bits rfl).reshape _ _) ⟨Or.inl rfl, trivial⟩)
  pure ⟨⟩

theorem zissue_step (c : Dev nD) (g : Fin 6 → BitVec 32) (PG) (z : S128x1536.Idx → Elt F .f32) (e : Fin 6) (j : Fin 40) (h : kt g e = 0)
    (hz : ∀ e j fd, kt g e = 0 → PG (e, j) ((zblk e j).view.write (Elt F) fd z Finset.univ))
    (off : Fin 3 → ℕ) (inb) (ho : off = ![e.val, 128 * j.val, 0]) :
    ZS c g PG z (zn g (e, j)) ⊢ WP c (zissue (F := F) off inb) (fun _ => ZS c g PG z (zn g (e, j) + 1)) := by
  subst ho
  have hlt := zn_lt g h j
  have hb : bigSep (todo g (zn g (e, j))) (own (F := F) c g) = iprop(own c g (e, j) ∗ bigSep (todo g (zn g (e, j) + 1)) (own c g)) := by
    rw [todo_eq g h j, bigSep_insert (todo_not_mem g (e, j))]; rfl
  unfold ZS
  rw [hb, bigSep_Ico_succ_bot hlt]
  unfold own ztok
  iintro ⟨HB, ⟨⟨%fd, Hd⟩, Hds⟩, Ht, Hts⟩
  unfold WP zissue
  iapply (Transfers.wp_dmaBatch (countersEmb (U := Pipeline.UD sig nD τ)) Variants.none (c : Thread nD τ) none () NZ
     (src := a9) (dst := zblk e j) (via := .same) (fs := z) (fd := fd) (q := Transfers.shareTokN fullShare (zn g (e, j))) (Sd := I g (e, j))
     (D := zD c g PG z) (j := zn g (e, j)) (u := 0) rfl (zblk_set g e j h).subset hlt (Nat.zero_le _) ?_) $$ [Ht Hd HB]
  · unfold zD
    rw [fiber_eq g h j, bigSep_singleton]
    unfold fin ztok
    iintro ⟨H1, H2⟩
    isplitl [H1]
    · iexists _
      isplitr
      · ipureintro
        exact hz e j fd h
      · iexact H1
    · iexact H2
  · isplitl [Ht]; · iexact Ht
    isplitl [Hd]; · iexact Hd
    iexact HB
  · iintro HB
    simp only [Prog.bind]
    sl_step
    isplitl [HB]; · iexact HB
    isplitl [Hds]; · iexact Hds
    iexact Hts

/-- A whole group's zero copies: forty of them when it has no stripe, none otherwise. -/
theorem zseg (c : Dev nD) (g : Fin 6 → BitVec 32) (PG) (z : S128x1536.Idx → Elt F .f32) (e : Fin 6)
    (hz : ∀ e j fd, kt g e = 0 → PG (e, j) ((zblk e j).view.write (Elt F) fd z Finset.univ))
    (lp : Scf.Loop 32) (hok : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zissue (off k) (inb k)) (ho : ∀ k, off k = ![e.val, 128 * k.val, 0])
    (b : Prop) [Decidable b] (hbk : b ↔ kt g e = 0) :
    ZS c g PG z (40 * zr g e.val) ⊢ WP c (if b then ((Scf.Loop.for lp hok () body) >>= fun _ => pure PUnit.unit) else pure PUnit.unit)
      (fun _ => ZS c g PG z (40 * zr g (e.val + 1))) := by
  rw [zr_succ]
  by_cases h : kt g e = 0
  · rw [if_pos (hbk.2 h), if_pos h, Nat.mul_add]
    unfold WP
    rw [wp_bind]
    refine BIBase.Entails.trans ?_ (Scf.wp_for _ _ _ lp.lb lp.ub lp.st hok () body (fun k _ => ZS c g PG z (40 * zr g e.val + k)) ?_)
    · iintro H
      isplitl [H]; · iexact H
      iintro %a H
      rw [wp_pure]
      imodintro
      rw [show Scf.trips lp.lb lp.ub lp.st = 40 from ht]
      iexact H
    · intro k acc
      rw [hb]
      have hk : k.val < 40 := lt_of_lt_of_eq k.isLt ht
      exact zissue_step c g PG z e ⟨k.val, hk⟩ h hz _ _ (ho k)
  · rw [if_neg (fun hh => h (hbk.1 hh)), if_neg h, Nat.add_zero]
    unfold WP
    rw [wp_pure]
    iintro H
    imodintro
    iexact H

/-- The zero copies being waited for: all of them issued, `n` groups' worth of units taken. -/
def ZW (c : Dev nD) (g : Fin 6 → BitVec 32) (PG : Fin 6 × Fin 40 → (S6x5120x1536.Idx → Elt F .f32) → Prop) (z : S128x1536.Idx → Elt F .f32) (n : ℕ) : sProp 𝕄 :=
  iprop((Transfers.Batch (countersEmb (U := Pipeline.UD sig nD τ)) (c : Thread nD τ) (.dma a11.sem) () NZ (zD c g PG z) (40 * zr g 6) (n * NZ))
    ∗ (∃ W, owes (c : Thread nD τ) 0 W))

/-- One wait for a zero copy, as the body spells it. -/
def zwait (off : Fin 3 → ℕ) (inb : ∀ a, off a + S1x128x1536.size a ≤ S6x5120x1536.size a) : Prog (TpuEff nD τ sig (Elt F) Λ₀ .tc) Unit := do
  let v639 : Memref sig .tc .hbm S1x128x1536 .f32 := a5.slice (Rect.unit (s := S6x5120x1536) off S1x128x1536.size inb) (fun _ => rfl)
  let v640 : Memref sig .tc .hbm S128x1536 .f32 := v639.squeeze S128x1536 squeezes_S1x128x1536_S128x1536
  Prog.lift (.waitDma2 a11.sem a9 v640 (Memref.isWhole_whole _).wordExact ((View.wordExact_bits rfl).reshape _ _))
  pure ⟨⟩

theorem zwait_step (c : Dev nD) (g : Fin 6 → BitVec 32) (PG) (z : S128x1536.Idx → Elt F .f32) (n : ℕ) (hn : n < 40 * zr g 6)
    (off : Fin 3 → ℕ) (inb) :
    ZW c g PG z n ⊢ WP c (zwait (F := F) off inb) (fun _ => ZW c g PG z (n + 1)) := by
  unfold ZW
  iintro ⟨HB, %W, HW⟩
  unfold WP zwait
  iapply (Transfers.wp_waitBatchMul (countersEmb (U := Pipeline.UD sig nD τ)) Variants.none (c : Thread nD τ) none () (N := NZ) 1
     (srcw := a9) (D := zD c g PG z) (j := 40 * zr g 6) (u := n * NZ) (W := W) (by rw [Nat.one_mul]) ?_) $$ [HB HW]
  · have : (n + 1) * NZ ≤ (40 * zr g 6) * NZ := Nat.mul_le_mul_right _ hn
    rw [Nat.one_mul, Nat.mul_comm NZ]
    have h2 : (n + 1) * NZ = n * NZ + NZ := Nat.succ_mul _ _
    omega
  · isplitl [HB]; · iexact HB
    iexact HW
  · iintro ⟨HB, HW⟩
    simp only [Prog.bind]
    sl_step
    isplitl [HB]
    · rw [show (n + 1) * NZ = n * NZ + 1 * NZ from Nat.add_mul _ _ _]
      iexact HB
    · iexists _; iexact HW

/-- A whole group's waits. -/
theorem wseg (c : Dev nD) (g : Fin 6 → BitVec 32) (PG) (z : S128x1536.Idx → Elt F .f32) (e : Fin 6)
    (lp : Scf.Loop 32) (hok : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zwait (off k) (inb k))
    (b : Prop) [Decidable b] (hbk : b ↔ kt g e = 0) :
    ZW c g PG z (40 * zr g e.val) ⊢ WP c (if b then ((Scf.Loop.for lp hok () body) >>= fun _ => pure PUnit.unit) else pure PUnit.unit)
      (fun _ => ZW c g PG z (40 * zr g (e.val + 1))) := by
  rw [zr_succ]
  by_cases h : kt g e = 0
  · rw [if_pos (hbk.2 h), if_pos h, Nat.mul_add]
    unfold WP
    rw [wp_bind]
    refine BIBase.Entails.trans ?_ (Scf.wp_for _ _ _ lp.lb lp.ub lp.st hok () body (fun k _ => ZW c g PG z (40 * zr g e.val + k)) ?_)
    · iintro H
      isplitl [H]; · iexact H
      iintro %a H
      rw [wp_pure]
      imodintro
      rw [show Scf.trips lp.lb lp.ub lp.st = 40 from ht]
      iexact H
    · intro k acc
      rw [hb]
      have hk : k.val < 40 := lt_of_lt_of_eq k.isLt ht
      exact zwait_step c g PG z _ (zn_lt g h ⟨k.val, hk⟩) _ _
  · rw [if_neg (fun hh => h (hbk.1 hh)), if_neg h, Nat.add_zero]
    unfold WP
    rw [wp_pure]
    iintro H
    imodintro
    iexact H

theorem todo_zero (g : Fin 6 → BitVec 32) : todo g 0 = Finset.univ.filter fun p => kt g p.1 = 0 := by
  simp [todo]

/-- The zero copies at their start: the blocks of the groups without a stripe, the block of zeros, the cell at zero. -/
theorem z_start (c : Dev nD) (g : Fin 6 → BitVec 32) (PG) (z : S128x1536.Idx → Elt F .f32) :
    iprop(semVal ((c : Thread nD τ), SemLoc.dma a11.sem) 0 ∗ (bigSep (Finset.univ.filter fun p : Fin 6 × Fin 40 => kt g p.1 = 0) (own (F := F) c g))
      ∗ (a9.view.loc (c : Thread nD τ) ↦[a9.view.set]{fullShare} z))
    ⊢ |={Set.univ}=> iprop(ZS c g PG z 0 ∗ (a9.view.loc (c : Thread nD τ) ↦[a9.view.set]{Transfers.shareDrop fullShare (40 * zr g 6)} z)) := by
  iintro ⟨Hc, Ho, Hz⟩
  imod (Transfers.batch_alloc' (Lvl := ℕ) (countersEmb (U := Pipeline.UD sig nD τ)) (c : Thread nD τ) () NZ (zD c g PG z) (sm := .dma a11.sem) (E := Set.univ)) $$ Hc with HB
  ihave Hz' := (Transfers.pointsTo_toks_range fullShare (40 * zr g 6)).1 $$ Hz
  icases Hz' with ⟨Hr, Ht⟩
  imodintro
  unfold ZS
  isplitr [Hr]
  · isplitl [HB]; · iexact HB
    isplitl [Ho]; · rw [todo_zero]; iexact Ho
    rw [show Finset.Ico 0 (40 * zr g 6) = Finset.range (40 * zr g 6) from (Finset.range_eq_Ico _).symm]
    iexact Ht
  · iexact Hr

/-- All issued: the waits may begin. -/
theorem z_turn (c : Dev nD) (g : Fin 6 → BitVec 32) (PG) (z : S128x1536.Idx → Elt F .f32) (W) :
    iprop(ZS c g PG z (40 * zr g 6) ∗ owes (c : Thread nD τ) 0 W) ⊢ ZW c g PG z 0 := by
  unfold ZS ZW
  iintro ⟨⟨HB, -, -⟩, HW⟩
  isplitl [HB]
  · rw [Nat.zero_mul]; iexact HB
  · iexists W; iexact HW

/-- All waited for: every block of a group without a stripe at what is claimed of it, the block of zeros back, the
    cell at zero. -/
theorem z_end (c : Dev nD) (g : Fin 6 → BitVec 32) (PG) (z : S128x1536.Idx → Elt F .f32) :
    iprop(ZW c g PG z (40 * zr g 6) ∗ (a9.view.loc (c : Thread nD τ) ↦[a9.view.set]{Transfers.shareDrop fullShare (40 * zr g 6)} z))
    ⊢ |={Set.univ}=> iprop(semVal ((c : Thread nD τ), SemLoc.dma a11.sem) 0
      ∗ (bigSep (Finset.univ.filter fun p : Fin 6 × Fin 40 => kt g p.1 = 0) (fin (F := F) c g PG))
      ∗ (a9.view.loc (c : Thread nD τ) ↦[a9.view.set]{fullShare} z) ∗ (∃ W, owes (c : Thread nD τ) 0 W)) := by
  unfold ZW
  iintro ⟨⟨HB, HW⟩, Hr⟩
  rw [show 40 * zr g 6 * NZ = NZ * (40 * zr g 6) from Nat.mul_comm _ _]
  imod (Transfers.batch_collect' (countersEmb (U := Pipeline.UD sig nD τ)) (c : Thread nD τ) (show 0 < NZ by decide)) $$ HB with ⟨HD, Hc⟩
  have hD : bigSep Finset.univ (zD (F := F) c g PG z) ⊢ iprop((bigSep (Finset.univ.filter fun p : Fin 6 × Fin 40 => kt g p.1 = 0) (fin (F := F) c g PG))
      ∗ (bigSep (Finset.range (40 * zr g 6)) (ztok c z))) := by
    unfold zD
    refine (Entails.of_eq (bigSep_sep _ _ _)).trans (BIClass.sep_mono ?_ ?_)
    · refine BIBase.Entails.trans (bigSep_biUnion _ _) (Entails.of_eq ?_)
      congr 1
      ext p
      simp only [Finset.mem_biUnion, fiber, Finset.mem_filter, Finset.mem_univ, true_and]
      constructor
      · rintro ⟨t, h, _⟩; exact h
      · intro h; exact ⟨⟨zn g p, zn_lt g h p.2⟩, h, rfl⟩
    · refine Entails.of_eq ?_
      have hm : Finset.range (40 * zr g 6) = (Finset.univ : Finset (Fin (40 * zr g 6))).map Fin.valEmbedding := by
        ext x
        simp only [Finset.mem_range, Finset.mem_map, Finset.mem_univ, true_and]
        exact ⟨fun h => ⟨⟨x, h⟩, rfl⟩, fun ⟨y, h⟩ => h ▸ y.isLt⟩
      rw [hm, bigSep_map]; rfl
  ihave HD' := hD $$ HD
  icases HD' with ⟨Hf, Ht⟩
  unfold ztok
  ihave Hz := (Transfers.pointsTo_toks_range fullShare (40 * zr g 6)).2 $$ [Hr Ht]
  · isplitl [Hr]; · iexact Hr
    iexact Ht
  imodintro
  isplitl [Hc]; · iexact Hc
  isplitl [Hf]; · iexact Hf
  isplitl [Hz]; · iexact Hz
  iexact HW

end Cert.KernelIdeal.Hand

end
-- ==== Proof.KI.Tab.lean ====
module

public import proofs.«01_k».proof.Proof.KI.Zero

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

/-- The table's contents once it is built. -/
def tabF (g : Fin 6 → BitVec 32) : S5x6.Idx → Elt F .i32 := fun i => T g (i 0) (i 1)

/-- The table, held. -/
def Tab (c : Dev nD) (g : Fin 6 → BitVec 32) : sProp 𝕄 :=
  iprop(a10.view.loc (c : Thread nD τ) ↦{fullShare} (tabF (F := F) g))

theorem tinb (r : Fin 5) (e : Fin 6) : ∀ a, (![r.val, e.val] : Fin 2 → Nat) a + S1x1.size a ≤ S5x6.size a := by
  have := r.isLt; have := e.isLt; intro a; fin_cases a
  · show r.val + 1 ≤ 5; omega
  · show e.val + 1 ≤ 6; omega

/-- Reading an entry of the table. -/
def tload (r : Fin 5) (e : Fin 6) : Prog (TpuEff nD τ sig (Elt F) Λ₀ .tc) (Elt F .i32) :=
  smemLoad a10 (Rect.unit (s := S5x6) ![r.val, e.val] S1x1.size (tinb r e)) numel1_S1x1 rfl

theorem tab_read (g : Fin 6 → BitVec 32) (r : Fin 5) (e : Fin 6) (inb) (x : S1x1.Idx) :
    View.readAt (Elt F) a10.view (Rect.unit (s := S5x6) ![r.val, e.val] S1x1.size inb).toLoadRect (tabF (F := F) g) x = T g r e := by
  show tabF (F := F) g _ = _
  unfold tabF
  have h0 : (x 0).val = 0 := by have := (x 0).isLt; have h : (x 0).val < 1 := this; omega
  have h1 : (x 1).val = 0 := by have := (x 1).isLt; have h : (x 1).val < 1 := this; omega
  congr 1
  · apply Fin.ext; show r.val + 1 * (x 0).val = r.val; omega
  · apply Fin.ext; show e.val + 1 * (x 1).val = e.val; omega

theorem tload_bind {β : Type} (c : Dev nD) (g : Fin 6 → BitVec 32) (r : Fin 5) (e : Fin 6) (k : Elt F .i32 → Prog (TpuEff nD τ sig (Elt F) Λ₀ .tc) β)
    (Q : β → sProp 𝕄) (R : sProp 𝕄) (h : iprop(Tab c g ∗ R) ⊢ WP c (k (T g r e)) Q) :
    iprop(Tab c g ∗ R) ⊢ WP c (tload (F := F) r e >>= k) Q := by
  unfold Tab at *
  iintro ⟨HT, HR⟩
  unfold tload WP
  sl_exec
  rw [show tload_bind.sl.r g r e = T g r e from tab_read g r e _ _]
  iapply h
  isplitl [HT]; · iexact HT
  iexact HR

end Cert.KernelIdeal.Hand

end
-- ==== Proof.KI.Rhs.lean ====
module

public import proofs.«01_k».proof.Proof.KI.Tab

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

/-- The 128 rows of the second operand that a trip reads. -/
theorem x4inb (n : ℕ) (h : n ≤ 10) : ∀ a, (![128 * n, 0] : Fin 2 → Nat) a + S128x1536.size a ≤ S1408x1536.size a := by
  intro a; fin_cases a
  · show 128 * n + 128 ≤ 1408; omega
  · show 0 + 1536 ≤ 1536; omega

/-- The 128 rows of the gathered operand that a trip writes. -/
theorem r6inb (n : ℕ) (h : n ≤ 21) : ∀ a, (![128 * n, 0] : Fin 2 → Nat) a + S128x1536.size a ≤ S2816x1536.size a := by
  intro a; fin_cases a
  · show 128 * n + 128 ≤ 2816; omega
  · show 0 + 1536 ≤ 1536; omega

/-- The stripe numbers of a block of rows, two rows to a line. -/
def pay3 (k : ℕ) (v644 : Elt F .i32) : IVec S64x1536 32 :=
  k0_pay3 (F := F) 6#32 1#32 0#32 0#32 1#32 ⟨k % 12, by show k % 12 < 12; omega⟩ v644

/-- What a trip writes: the block's rows of the group's stripes, zero elsewhere. -/
def rv (g : Fin 6 → BitVec 32) (x4 : S1408x1536.Idx → Elt F .bf16) (e : Fin 6) (j : ℕ) : FVec F S128x1536 .bf16 :=
  let x := View.readAt (Elt F) a4.view (Rect.unit (s := S1408x1536) ![128 * min (g0 g e.val + j) 10, 0] S128x1536.size (x4inb _ (Nat.min_le_right _ _))).toLoadRect x4
  k0_pay59 (k0_pay1 x) (k0_pay2 x) (pay3 (F := F) j (T g 1 e)) (T g 3 e) (T g 4 e)

/-- The gathered operand after `j` blocks of group `e`: every block written so far holds its rows. -/
def Rf (g : Fin 6 → BitVec 32) (x4 : S1408x1536.Idx → Elt F .bf16) (e j : ℕ) (f6 : S2816x1536.Idx → Elt F .bf16) : Prop :=
  ∀ (e' : Fin 6) (j' : ℕ), j' < 2 * kt g e' → (e'.val < e ∨ (e'.val = e ∧ j' < j)) →
    ∀ (y : S2816x1536.Idx) (x : S128x1536.Idx), (y 0).val = 128 * (2 * sl g e'.val + j') + (x 0).val → (y 1).val = (x 1).val →
      a6.view.read (Elt F) f6 y = rv g x4 e' j' x

theorem Rf_next (g : Fin 6 → BitVec 32) (x4 : S1408x1536.Idx → Elt F .bf16) (e : Fin 6) (f6 : S2816x1536.Idx → Elt F .bf16)
    (h : Rf g x4 e.val (2 * kt g e) f6) : Rf g x4 (e.val + 1) 0 f6 := by
  intro e' j' hj hc
  refine h e' j' hj ?_
  rcases hc with hc | ⟨_, hc⟩
  · rcases Nat.lt_or_ge e'.val e.val with hl | hl
    · exact .inl hl
    · have : e' = e := Fin.ext (by omega)
      subst this
      exact .inr ⟨rfl, hj⟩
  · omega

theorem Rf_step (g : Fin 6 → BitVec 32) (x4 : S1408x1536.Idx → Elt F .bf16) (e : Fin 6) (j : ℕ) (hj : j < 2 * kt g e) (f6 : S2816x1536.Idx → Elt F .bf16)
    (h : Rf g x4 e.val j f6) (off : Fin 2 → ℕ) (inb) (ho : off = ![128 * (2 * sl g e.val + j), 0]) :
    Rf g x4 e.val (j + 1) (a6.view.writes (Elt F) f6 [⟨Rect.unit (s := S2816x1536) off S128x1536.size inb, rv g x4 e j⟩]) := by
  intro e' j' hj' hc y x h0 h1
  have hx : (x 0).val < 128 := (x 0).isLt
  by_cases hs : e' = e ∧ j' = j
  · obtain ⟨rfl, rfl⟩ := hs
    exact View.read_writes_cons_rows_of_mem (d := ![2816, 1536]) a6.view f6 inb (rv g x4 e' j') [] y x ho h0 h1
  · have hn : 2 * sl g e'.val + j' < 2 * sl g e.val + j := by
      rcases hc with hc | ⟨hc, hc'⟩
      · have := sl_lt g hc; omega
      · have : e' = e := Fin.ext hc
        subst this
        have : j' ≠ j := fun hh => hs ⟨rfl, hh⟩
        omega
    rw [View.read_writes_cons_rows_of_not_mem (d := ![2816, 1536]) (W := 128) a6.view f6 inb (rv g x4 e j) [] y ho rfl (.inl (by omega))]
    refine h e' j' hj' ?_ y x h0 h1
    rcases hc with hc | ⟨hc, hc'⟩
    · exact .inl hc
    · refine .inr ⟨hc, ?_⟩
      have : e' = e := Fin.ext hc
      subst this
      have : j' ≠ j := fun hh => hs ⟨rfl, hh⟩
      omega

/-- One trip of the gathering loop, as the body spells it. -/
def rtrip (e : Fin 6) (P7 : BitVec 32 → Prop) (d7 : ∀ v, Decidable (P7 v)) (o7 : BitVec 32 → Fin 2 → ℕ)
    (h7 : ∀ v, P7 v → ∀ a, o7 v a + S128x1536.size a ≤ S1408x1536.size a) (v635 : BitVec 32) (p3 : Elt F .i32 → IVec S64x1536 32)
    (P8 : BitVec 32 → Prop) (d8 : ∀ v, Decidable (P8 v)) (o8 : BitVec 32 → Fin 2 → ℕ)
    (h8 : ∀ v, P8 v → ∀ a, o8 v a + S128x1536.size a ≤ S2816x1536.size a)
    (k8 : ∀ v (h : P8 v), (Rect.unit (s := S2816x1536) (o8 v) S128x1536.size (h8 v h)).PackedRows (EltTy.packing .bf16)) :
    Prog (TpuEff nD τ sig (Elt F) Λ₀ .tc) Unit := do
  let ⟨v635, v643_lo, v643_hi, v673⟩ : Σ' (v635 : BitVec 32) (v643_lo : FVec F S64x1536 .bf16) (v643_hi : FVec F S64x1536 .bf16), IVec S64x1536 32 ← (do
    let v636 : Elt F .i32 ← tload 1 e
    have hw : P7 v636 := (← Prog.lift (TpuEff.assume (P7 v636) (d7 v636))).down
    let v642 : Vec F S128x1536 .bf16 ← Prog.lift (.load a4 (Rect.unit (s := S1408x1536) (o7 v636) S128x1536.size (h7 v636 hw)).toLoadRect (View.loadsAt_vmem h_S128x1536))
    let v644 : Elt F .i32 ← tload 1 e
    pure ⟨v635, k0_pay1 v642, k0_pay2 v642, p3 v644⟩)
  let v674 : Elt F .i32 ← tload 3 e
  let v677 : Elt F .i32 ← tload 4 e
  let v684 : Elt F .i32 ← tload 2 e
  have hw : P8 v684 := (← Prog.lift (TpuEff.assume (P8 v684) (d8 v684))).down
  let v690 : Vec F S128x1536 .bf16 ← Prog.lift (.load a6 (Rect.unit (s := S2816x1536) (o8 v684) S128x1536.size (h8 v684 hw)).toLoadRect (View.loadsAt_vmem h_S128x1536))
  Prog.lift (.store a6 (Rect.unit (s := S2816x1536) (o8 v684) S128x1536.size (h8 v684 hw)) (k0_pay59 v643_lo v643_hi v673 v674 v677) Finset.univ
    (View.stores_vmem h_S128x1536 ((isWhole_whole _).storeExact_slice rfl _ (k8 v684 hw)) (fun _ => rfl)) (.inl rfl))
  pure ⟨⟩

theorem t7_trip (V : Elt F .i32) (v513 : Elt F .i32) (hw : k0_chk1 V) (k : Fin (k0_t7_loop V).trips) (u : Unit) :
  k0_t7_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 v513 V hw k u
   = rtrip 0 (k0_chk2 V k) (k0_chk2.dec V k) (k0_off7 V k) (k0_off7_inb V k) (Scalar.addi 0#32 (Scalar.muli (Scf.iv 0#32 1#32 k) 1#32)) (k0_pay3 (F := F) V 1#32 0#32 0#32 1#32 k)
      (k0_chk3 V k) (k0_chk3.dec V k) (k0_off8 V k) (k0_off8_inb V k) (k0_off8_packedbf16 V k) := by
  unfold k0_t7_body; rw [k0_part1_eq_skeleton]; unfold k0_part1_skel rtrip; rfl

/-- What the gathering loops hold. -/
def RS (c : Dev nD) (g : Fin 6 → BitVec 32) (x4 : S1408x1536.Idx → Elt F .bf16) (e j : ℕ) : sProp 𝕄 :=
  iprop(Tab c g ∗ (a4.view.loc (c : Thread nD τ) ↦{fullShare} x4) ∗ (∃ f6, ⌜Rf g x4 e j f6⌝ ∗ (a6.view.loc (c : Thread nD τ) ↦{fullShare} f6)))

theorem rtrip_fin (g : Fin 6 → BitVec 32) (x4 : S1408x1536.Idx → Elt F .bf16) (e : Fin 6) (j : ℕ) (hj : j < 2 * kt g e)
    (f6 : S2816x1536.Idx → Elt F .bf16) (hf : Rf g x4 e.val j f6) (o7 : BitVec 32 → Fin 2 → ℕ) (p3 : Elt F .i32 → IVec S64x1536 32) (o8 : BitVec 32 → Fin 2 → ℕ)
    (ho7 : o7 (T g 1 e) = ![128 * min (g0 g e.val + j) 10, 0])
    (hp3 : p3 (T g 1 e) = pay3 (F := F) j (T g 1 e)) (ho8 : o8 (T g 2 e) = ![128 * (2 * sl g e.val + j), 0])
    (w1 w2 w3 w4 : Elt F .i32) (h1 : w1 = T g 1 e) (h2 : w2 = T g 2 e) (h3 : w3 = T g 3 e) (h4 : w4 = T g 4 e) (inb7 inb8) :
    Rf g x4 e.val (j + 1) (a6.view.writes (Elt F) f6 [⟨Rect.unit (s := S2816x1536) (o8 w2) S128x1536.size inb8,
      k0_pay59
        (k0_pay1 (View.readAt (Elt F) a4.view (Rect.unit (s := S1408x1536) (o7 w1) S128x1536.size inb7).toLoadRect x4))
        (k0_pay2 (View.readAt (Elt F) a4.view (Rect.unit (s := S1408x1536) (o7 w1) S128x1536.size inb7).toLoadRect x4))
        (p3 w1) w3 w4⟩]) := by
  subst h1 h2 h3 h4
  have hr : ∀ (off : Fin 2 → ℕ) (inb), off = ![128 * min (g0 g e.val + j) 10, 0] →
      View.readAt (Elt F) a4.view (Rect.unit (s := S1408x1536) off S128x1536.size inb).toLoadRect x4
        = View.readAt (Elt F) a4.view (Rect.unit (s := S1408x1536) ![128 * min (g0 g e.val + j) 10, 0] S128x1536.size (x4inb _ (Nat.min_le_right _ _))).toLoadRect x4 := by
    intro off inb ho; subst ho; rfl
  rw [hr _ _ ho7, hp3]
  exact Rf_step g x4 e j hj f6 hf (o8 (T g 2 e)) inb8 ho8

theorem rtrip_step (c : Dev nD) (g : Fin 6 → BitVec 32) (x4 : S1408x1536.Idx → Elt F .bf16) (e : Fin 6) (j : ℕ) (hj : j < 2 * kt g e)
    (P7 d7 o7 h7 v635 p3 P8 d8 o8 h8 k8) (hP7 : P7 (T g 1 e)) (ho7 : o7 (T g 1 e) = ![128 * min (g0 g e.val + j) 10, 0])
    (hp3 : p3 (T g 1 e) = pay3 (F := F) j (T g 1 e)) (hP8 : P8 (T g 2 e)) (ho8 : o8 (T g 2 e) = ![128 * (2 * sl g e.val + j), 0]) :
    RS c g x4 e.val j ⊢ WP c (rtrip (F := F) e P7 d7 o7 h7 v635 p3 P8 d8 o8 h8 k8) (fun _ => RS c g x4 e.val (j + 1)) := by
  unfold RS
  iintro ⟨HT, H4, %f6, %hf, H6⟩
  unfold WP rtrip tload Tab
  sl_exec
  sl_step
  isplitl [HT]; · iexact HT
  isplitl [H4]; · iexact H4
  iexists _
  isplitr
  rotate_left
  · iexact H6
  · ipureintro
    exact rtrip_fin g x4 e j hj f6 hf o7 p3 o8 ho7 hp3 ho8 _ _ _ _ (tab_read g 1 e (tinb 1 e) _) (tab_read g 2 e (tinb 2 e) _) (tab_read g 3 e (tinb 3 e) _) (tab_read g 4 e (tinb 4 e) _) _ _

theorem loop7_facts : ∀ K : Fin 7, (k0_t7_loop (BitVec.ofNat 32 K.val)).trips = 2 * K.val ∧ (k0_t8_loop (BitVec.ofNat 32 K.val)).trips = 0
    ∧ k0_chk1 (BitVec.ofNat 32 K.val) := by decide +kernel

theorem loop7 {g : Fin 6 → BitVec 32} (h : Ok g) (e : Fin 6) : (k0_t7_loop (T g 0 e)).trips = 2 * kt g e ∧ (k0_t8_loop (T g 0 e)).trips = 0 ∧ k0_chk1 (T g 0 e) :=
  loop7_facts ⟨kt g e, by have := kt_le h e; omega⟩

/-- The rows a trip reads start here: the row number as the body computes it. -/
def row7 (n : ℕ) (v : BitVec 32) : BitVec 32 :=
  Scalar.muli (Scalar.minsi (Scalar.addi v (Scalar.addi 0#32 (Scalar.muli (Scf.iv 0#32 1#32 n) 1#32))) 10#32) 128#32
/-- The rows a trip writes start here. -/
def row8 (n : ℕ) (v : BitVec 32) : BitVec 32 :=
  Scalar.addi (Scalar.muli v 256#32) (Scalar.muli (Scalar.addi 0#32 (Scalar.muli (Scf.iv 0#32 1#32 n) 1#32)) 128#32)

theorem row7_facts : ∀ (n : Fin 12) (G : Fin 11), (row7 n.val (BitVec.ofNat 32 G.val)).toNat = 128 * min (G.val + n.val) 10 := by decide +kernel
theorem row8_facts : ∀ (n : Fin 12) (G : Fin 11), (row8 n.val (BitVec.ofNat 32 G.val)).toNat = 128 * (2 * G.val + n.val) := by decide +kernel

theorem even_packed (n : ℕ) (inb) : (Rect.unit (s := S2816x1536) ![128 * n, 0] S128x1536.size inb).PackedRows (EltTy.packing .bf16) := by
  refine .inr ⟨by decide, rfl, .inl ⟨?_, ⟨64, rfl⟩⟩⟩
  exact ⟨64 * n, by show 128 * n = 2 * (64 * n); omega⟩

/-- A trip of group `e`'s gathering loop, at the words of the table. -/
theorem trip7 (c : Dev nD) {g : Fin 6 → BitVec 32} (h : Ok g) (x4 : S1408x1536.Idx → Elt F .bf16) (e : Fin 6) (V : BitVec 32) (hV : V = T g 0 e)
    (k : Fin (k0_t7_loop V).trips) (v635) :
    RS c g x4 e.val k.val ⊢ WP c (rtrip (F := F) e (k0_chk2 V k) (k0_chk2.dec V k) (k0_off7 V k) (k0_off7_inb V k) v635 (k0_pay3 (F := F) V 1#32 0#32 0#32 1#32 k)
      (k0_chk3 V k) (k0_chk3.dec V k) (k0_off8 V k) (k0_off8_inb V k) (k0_off8_packedbf16 V k)) (fun _ => RS c g x4 e.val (k.val + 1)) := by
  subst hV
  have hk : k.val < 2 * kt g e := lt_of_lt_of_eq k.isLt (loop7 h e).1
  have h1 := g0_kt h e
  have h2 := g0_le h e
  have h3 := sl_kt h e
  have e7 : (row7 k.val (T g 1 e)).toNat = 128 * min (g0 g e.val + k.val) 10 := row7_facts ⟨k.val, by omega⟩ ⟨g0 g e.val, by omega⟩
  have e8 : (row8 k.val (T g 2 e)).toNat = 128 * (2 * sl g e.val + k.val) := row8_facts ⟨k.val, by omega⟩ ⟨sl g e.val, by omega⟩
  have o7 : k0_off7 (T g 0 e) k (T g 1 e) = ![128 * min (g0 g e.val + k.val) 10, 0] := by
    rw [← e7]; rfl
  have o8 : k0_off8 (T g 0 e) k (T g 2 e) = ![128 * (2 * sl g e.val + k.val), 0] := by
    rw [← e8]; rfl
  refine rtrip_step c g x4 e k.val hk _ _ _ _ _ _ _ _ _ _ _ ⟨?_, ?_⟩ o7 ?_ ⟨?_, ?_, ?_⟩ o8
  · show 128 ∣ (row7 k.val (T g 1 e)).toNat
    rw [e7]; exact ⟨_, rfl⟩
  · rw [o7]; exact x4inb _ (Nat.min_le_right _ _)
  · unfold pay3
    have hm : k.val % 12 = k.val := by omega
    unfold k0_pay3
    simp only [hm]
  · show 128 ∣ (row8 k.val (T g 2 e)).toNat
    rw [e8]; exact ⟨_, rfl⟩
  · rw [o8]; exact r6inb _ (by omega)
  · intro inb
    have : ∀ (off : Fin 2 → ℕ) (inb), off = ![128 * (2 * sl g e.val + k.val), 0] →
        (Rect.unit (s := S2816x1536) off S128x1536.size inb).PackedRows (EltTy.packing .bf16) := by
      intro off inb ho; subst ho; exact even_packed _ _
    exact this _ _ o8

/-- A group's two counted loops: all its trips, then none. -/
theorem rseg (c : Dev nD) {g : Fin 6 → BitVec 32} (x4 : S1408x1536.Idx → Elt F .bf16) (e : Fin 6) {β : Type} (lp lp' : Scf.Loop 32) (hok hok') (body body')
    (hlp : lp.trips = 2 * kt g e) (hlp' : lp'.trips = 0)
    (hb : ∀ (k : Fin lp.trips) (u : Unit), RS c g x4 e.val k.val ⊢ WP c (body k u) (fun _ => RS c g x4 e.val (k.val + 1)))
    (kont : Prog (TpuEff nD τ sig (Elt F) Λ₀ .tc) β) (Q : β → sProp 𝕄) (R : sProp 𝕄) (hk : iprop(RS c g x4 (e.val + 1) 0 ∗ R) ⊢ WP c kont Q) :
    iprop(RS c g x4 e.val 0 ∗ R) ⊢ WP c (do
      Scf.Loop.for lp hok () body
      Scf.Loop.for lp' hok' () body'
      kont) Q := by
  unfold WP at *
  rw [wp_bind]
  iintro ⟨HS, HR⟩
  iapply (Scf.wp_for _ _ _ lp.lb lp.ub lp.st hok () body (fun n _ => RS c g x4 e.val n) (fun k u => hb k u))
  isplitl [HS]; · iexact HS
  iintro %a HS
  rw [wp_bind]
  iapply (Scf.wp_for _ _ _ lp'.lb lp'.ub lp'.st hok' () body' (fun n _ => RS c g x4 (e.val + 1) 0)
    (fun k u => absurd (lt_of_lt_of_eq k.isLt hlp') (Nat.not_lt_zero _)))
  isplitl [HS]
  · rw [show Scf.trips lp.lb lp.ub lp.st = 2 * kt g e from hlp]
    unfold RS
    icases HS with ⟨HT, H4, %f6, %hf, H6⟩
    isplitl [HT]; · iexact HT
    isplitl [H4]; · iexact H4
    iexists f6
    isplitr
    · ipureintro; exact Rf_next g x4 e f6 hf
    · iexact H6
  iintro %b HS
  iapply hk
  isplitl [HS]; · iexact HS
  iexact HR

theorem t7_ok (c : Dev nD) {g : Fin 6 → BitVec 32} (h : Ok g) (x4 : S1408x1536.Idx → Elt F .bf16) (V v513 : Elt F .i32) (hV : V = T g 0 0) (hw) (k) (u : Unit) :
  RS c g x4 0 k.val ⊢ WP c (k0_t7_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 v513 V hw k u) (fun _ => RS c g x4 0 (k.val + 1)) := by
  rw [t7_trip]; exact trip7 c h x4 0 V hV k _

theorem t9_ok (c : Dev nD) {g : Fin 6 → BitVec 32} (h : Ok g) (x4 : S1408x1536.Idx → Elt F .bf16) (V : Elt F .i32) (w1 w2) (hV : V = T g 0 1) (hw) (k) (u : Unit) :
  RS c g x4 1 k.val ⊢ WP c (k0_t9_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 V hw w1 w2 k u) (fun _ => RS c g x4 1 (k.val + 1)) := by
  have := trip7 c h x4 1 V hV k (Scalar.addi 0#32 (Scalar.muli (Scf.iv 0#32 1#32 k) 1#32))
  unfold k0_t9_body; rw [k0_part3_eq_skeleton]; exact this

theorem t11_ok (c : Dev nD) {g : Fin 6 → BitVec 32} (h : Ok g) (x4 : S1408x1536.Idx → Elt F .bf16) (V : Elt F .i32) (U : Elt F .i32) (hU : k0_chk6 U) (w1 w2) (hV : V = T g 0 2) (hw) (k) (u : Unit) :
  RS c g x4 2 k.val ⊢ WP c (k0_t11_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 U hU w1 w2 V hw k u) (fun _ => RS c g x4 2 (k.val + 1)) := by
  have := trip7 c h x4 2 V hV k (Scalar.addi 0#32 (Scalar.muli (Scf.iv 0#32 1#32 k) 1#32))
  unfold k0_t11_body; rw [k0_part5_eq_skeleton]; exact this

theorem t13_ok (c : Dev nD) {g : Fin 6 → BitVec 32} (h : Ok g) (x4 : S1408x1536.Idx → Elt F .bf16) (V : Elt F .i32) (w1) (hV : V = T g 0 3) (hw) (k) (u : Unit) :
  RS c g x4 3 k.val ⊢ WP c (k0_t13_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 V hw w1 1#32 k u) (fun _ => RS c g x4 3 (k.val + 1)) := by
  have := trip7 c h x4 3 V hV k (Scalar.addi 0#32 (Scalar.muli (Scf.iv 0#32 1#32 k) 1#32))
  unfold k0_t13_body; rw [k0_part7_eq_skeleton]; exact this

theorem t15_ok (c : Dev nD) {g : Fin 6 → BitVec 32} (h : Ok g) (x4 : S1408x1536.Idx → Elt F .bf16) (V : Elt F .i32) (U : Elt F .i32) (hU : k0_chk16 U) (w1 w2) (hV : V = T g 0 4) (hw) (k) (u : Unit) :
  RS c g x4 4 k.val ⊢ WP c (k0_t15_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 U hU w1 w2 V hw k u) (fun _ => RS c g x4 4 (k.val + 1)) := by
  have := trip7 c h x4 4 V hV k (Scalar.addi 0#32 (Scalar.muli (Scf.iv 0#32 1#32 k) 1#32))
  unfold k0_t15_body; rw [k0_part9_eq_skeleton]; exact this

theorem t17_ok (c : Dev nD) {g : Fin 6 → BitVec 32} (h : Ok g) (x4 : S1408x1536.Idx → Elt F .bf16) (V : Elt F .i32) (w1) (hV : V = T g 0 5) (hw) (k) (u : Unit) :
  RS c g x4 5 k.val ⊢ WP c (k0_t17_body (F := F) a0 (isWhole_whole _) a1 (isWhole_whole _) a2 (isWhole_whole _) a3 (isWhole_whole _)
      a4 (isWhole_whole _) a5 (isWhole_whole _) a6 (isWhole_whole _) a7 (isWhole_whole _)
      a8 (isWhole_whole _) a9 (isWhole_whole _) a10 (isWhole_whole _) a11 a12 V hw 1#32 0#32 0#32 1#32 w1 k u) (fun _ => RS c g x4 5 (k.val + 1)) := by
  have := trip7 c h x4 5 V hV k (Scalar.addi 0#32 (Scalar.muli (Scf.iv 0#32 1#32 k) 1#32))
  unfold k0_t17_body; rw [k0_part11_eq_skeleton]; exact this

end Cert.KernelIdeal.Hand

end
-- ==== Proof.KI.Ring.lean ====
module

public import proofs.«01_k».proof.Proof.KI.Rhs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

theorem sinb (k : Fin 4) : ∀ a, (![k.val, 0, 0] : Fin 3 → Nat) a + S1x512x1536.size a ≤ S4x512x1536.size a := by
  have := k.isLt; intro a; fin_cases a
  · show k.val + 1 ≤ 4; omega
  · show 0 + 512 ≤ 512; omega
  · show 0 + 1536 ≤ 1536; omega
theorem cinb (k : Fin 4) : ∀ a, (![k.val] : Fin 1 → Nat) a + S1.size a ≤ S4.size a := by
  have := k.isLt; intro a; fin_cases a
  show k.val + 1 ≤ 4; omega

/-- A slot of the output ring. -/
def oslot (k : Fin 4) : Memref sig .tc .vmem S512x1536 .f32 :=
  (a8.slice (Rect.unit (s := S4x512x1536) ![k.val, 0, 0] S1x512x1536.size (sinb k)) (fun _ => rfl)).squeeze S512x1536 squeezes_S1x512x1536_S512x1536
/-- The slot's semaphore. -/
def ocell (k : Fin 4) : DmaSem sig := ((a12.slice (Rect.unit (s := S4) ![k.val] S1.size (cinb k))).squeeze S_ squeezes_S1_S_).sem

/-- The units one output copy credits. -/
abbrev NO : ℕ := (oblk 0 0).view.dmaCredit

/-- The elements of a slot. -/
def sset (k : Fin 4) : Finset S4x512x1536.Idx := Finset.univ.filter fun i => (i 0).val = k.val

theorem oslot_set (k : Fin 4) : (oslot k).view.set = sset k := by
  have h1 : (oslot k).view.set = (Rect.unit (s := S4x512x1536) ![k.val, 0, 0] S1x512x1536.size (sinb k)).set := by
    unfold oslot; exact (View.set_reshape _ _).trans (View.set_slice_whole _ _)
  rw [h1]
  ext i
  have hi : (i 2).val < 1536 := (i 2).isLt
  have hi1 : (i 1).val < 512 := (i 1).isLt
  simp only [Rect.mem_set_unit, sset, Finset.mem_filter, Finset.mem_univ, true_and]
  constructor
  · intro H
    have e0 : k.val ≤ (i 0).val ∧ (i 0).val < k.val + 1 := H 0
    omega
  · intro h0 a
    match a with
    | 0 => show k.val ≤ (i 0).val ∧ (i 0).val < k.val + 1; omega
    | 1 => show 0 ≤ (i 1).val ∧ (i 1).val < 0 + 512; omega
    | 2 => show 0 ≤ (i 2).val ∧ (i 2).val < 0 + 1536; omega

/-- A slot's elements, held. -/
def slotAt (c : Dev nD) (k : Fin 4) (f : S4x512x1536.Idx → Elt F .f32) : sProp 𝕄 :=
  iprop(a8.view.loc (c : Thread nD τ) ↦[sset k]{fullShare} f)

/-- What an output copy delivers. -/
def oD (c : Dev nD) (g : Fin 6 → BitVec 32) (PG : Fin 6 × Fin 40 → (S6x5120x1536.Idx → Elt F .f32) → Prop) (k : Fin 4) (p : Fin 6 × Fin 40) :
    Fin 1 → sProp 𝕄 := fun _ => iprop(fin c g PG p ∗ (∃ f, slotAt c k f))

instance slotAt_storable (c : Dev nD) (k : Fin 4) (f : S4x512x1536.Idx → Elt F .f32) : BI.Storable (upEmb : UEmb _ 𝕄) (slotAt (F := F) c k f) := by unfold slotAt; infer_instance
instance oD_storable (c : Dev nD) (g : Fin 6 → BitVec 32) (PG : Fin 6 × Fin 40 → (S6x5120x1536.Idx → Elt F .f32) → Prop) (k : Fin 4) (p : Fin 6 × Fin 40) (t : Fin 1) : BI.Storable (upEmb : UEmb _ 𝕄) (oD (F := F) c g PG k p t) := by
  unfold oD; infer_instance

theorem oD_out (c : Dev nD) (g : Fin 6 → BitVec 32) (PG : Fin 6 × Fin 40 → (S6x5120x1536.Idx → Elt F .f32) → Prop) (k : Fin 4) (p : Fin 6 × Fin 40) :
    bigSep Finset.univ (oD (F := F) c g PG k p) ⊢ iprop(fin c g PG p ∗ (∃ f, slotAt c k f)) := by
  rw [show (Finset.univ : Finset (Fin 1)) = {0} from rfl, bigSep_singleton]; rfl

/-- A slot at rest. -/
def idle (c : Dev nD) (k : Fin 4) : sProp 𝕄 := iprop(semVal ((c : Thread nD τ), SemLoc.dma (ocell k)) 0 ∗ (∃ f, slotAt (F := F) c k f))
/-- A slot whose copy into a block is on its way. -/
def busy (c : Dev nD) (g : Fin 6 → BitVec 32) (PG : Fin 6 × Fin 40 → (S6x5120x1536.Idx → Elt F .f32) → Prop) (k : Fin 4) (p : Fin 6 × Fin 40) : sProp 𝕄 :=
  Transfers.Batch (countersEmb (U := Pipeline.UD sig nD τ)) (c : Thread nD τ) (.dma (ocell k)) () NO (oD (F := F) c g PG k p) 1 0

/-- One wait for a slot, as the body spells it. -/
def owait (o43 : Fin 1 → ℕ) (i43 : ∀ a, o43 a + S1.size a ≤ S4.size a) (o44 : Fin 3 → ℕ) (i44 : ∀ a, o44 a + S1x512x1536.size a ≤ S4x512x1536.size a) :
    Prog (TpuEff nD τ sig (Elt F) Λ₀ .tc) PUnit := do
  let v740 : DmaSems sig S1 := a12.slice (Rect.unit (s := S4) o43 S1.size i43)
  let v741 : DmaSems sig S_ := v740.squeeze S_ squeezes_S1_S_
  let v742 : Memref sig .tc .hbm S1x512x1536 .f32 := a5.slice (Rect.unit (s := S6x5120x1536) ![0, 0, 0] S1x512x1536.size inb_S6x5120x1536_S1x512x1536_0_0_0) (fun _ => rfl)
  let v743 : Memref sig .tc .hbm S512x1536 .f32 := v742.squeeze S512x1536 squeezes_S1x512x1536_S512x1536
  let v744 : Memref sig .tc .vmem S1x512x1536 .f32 := a8.slice (Rect.unit (s := S4x512x1536) o44 S1x512x1536.size i44) (fun _ => rfl)
  let v745 : Memref sig .tc .vmem S512x1536 .f32 := v744.squeeze S512x1536 squeezes_S1x512x1536_S512x1536
  Prog.lift (.waitDma2 v741.sem v745 v743 ((View.wordExact_bits rfl).reshape _ _) ((View.wordExact_bits rfl).reshape _ _))
  pure ⟨⟩

theorem owait_step (c : Dev nD) (g : Fin 6 → BitVec 32) (PG) (k : Fin 4) (p : Fin 6 × Fin 40) (o43 i43 o44 i44) (h43 : o43 = ![k.val]) (h44 : o44 = ![k.val, 0, 0]) :
    iprop(busy (F := F) c g PG k p ∗ (∃ W, owes (c : Thread nD τ) 0 W)) ⊢ WP c (owait (F := F) o43 i43 o44 i44)
      (fun _ => iprop(idle c k ∗ fin c g PG p ∗ (∃ W, owes (c : Thread nD τ) 0 W))) := by
  subst h43 h44
  unfold busy
  iintro ⟨HB, %W, HW⟩
  unfold WP owait
  iapply (Transfers.wp_waitBatchMul (countersEmb (U := Pipeline.UD sig nD τ)) Variants.none (c : Thread nD τ) none () (N := NO) 1
     (srcw := oslot k) (D := oD c g PG k p) (j := 1) (u := 0) (W := W) (by rw [Nat.one_mul]) (by omega)) $$ [HB HW]
  · isplitl [HB]; · iexact HB
    iexact HW
  · iintro ⟨HB, HW⟩
    simp only [Prog.bind]
    rw [show 0 + 1 * NO = NO * 1 from by omega]
    imod (Transfers.batch_collect' (countersEmb (U := Pipeline.UD sig nD τ)) (c : Thread nD τ) (show 0 < NO by decide)) $$ HB with ⟨HD, Hc⟩
    ihave HD' := oD_out c g PG k p $$ HD
    icases HD' with ⟨Hf, Hs⟩
    sl_step
    unfold idle
    isplitl [Hc Hs]
    · isplitl [Hc]; · iexact Hc
      iexact Hs
    isplitl [Hf]; · iexact Hf
    iexists _; iexact HW

/-- One output copy, as the body spells it. -/
def oissue (o77 : Fin 1 → ℕ) (i77 : ∀ a, o77 a + S1.size a ≤ S4.size a) (o78 : Fin 3 → ℕ) (i78 : ∀ a, o78 a + S1x512x1536.size a ≤ S6x5120x1536.size a)
    (o79 : Fin 3 → ℕ) (i79 : ∀ a, o79 a + S1x512x1536.size a ≤ S4x512x1536.size a) : Prog (TpuEff nD τ sig (Elt F) Λ₀ .tc) PUnit := do
  let v741 : DmaSems sig S1 := a12.slice (Rect.unit (s := S4) o77 S1.size i77)
  let v742 : DmaSems sig S_ := v741.squeeze S_ squeezes_S1_S_
  let v743 : Memref sig .tc .hbm S1x512x1536 .f32 := a5.slice (Rect.unit (s := S6x5120x1536) o78 S1x512x1536.size i78) (fun _ => rfl)
  let v744 : Memref sig .tc .hbm S512x1536 .f32 := v743.squeeze S512x1536 squeezes_S1x512x1536_S512x1536
  let v745 : Memref sig .tc .vmem S1x512x1536 .f32 := a8.slice (Rect.unit (s := S4x512x1536) o79 S1x512x1536.size i79) (fun _ => rfl)
  let v746 : Memref sig .tc .vmem S512x1536 .f32 := v745.squeeze S512x1536 squeezes_S1x512x1536_S512x1536
  Prog.lift (.enqueueDma v746 (.here v744) (.dma v742.sem) ((View.wordExact_bits rfl).reshape _ _) ((View.wordExact_bits rfl).reshape _ _) ⟨Or.inl rfl, trivial⟩)
  pure ⟨⟩

theorem oissue_step (c : Dev nD) (g : Fin 6 → BitVec 32) (PG) (k : Fin 4) (e : Fin 6) (t : Fin 10) (h : kt g e ≠ 0) (f8 : S4x512x1536.Idx → Elt F .f32)
    (hPG : ∀ fd, PG (e, ⟨t.val, by omega⟩) ((oblk e t).view.write (Elt F) fd ((oslot k).view.read (Elt F) f8) Finset.univ))
    (o77 i77 o78 i78 o79 i79) (h77 : o77 = ![k.val]) (h78 : o78 = ![e.val, 512 * t.val, 0]) (h79 : o79 = ![k.val, 0, 0]) :
    iprop(semVal ((c : Thread nD τ), SemLoc.dma (ocell k)) 0 ∗ slotAt c k f8 ∗ own c g (e, ⟨t.val, by omega⟩)) ⊢ WP c (oissue (F := F) o77 i77 o78 i78 o79 i79)
      (fun _ => busy c g PG k (e, ⟨t.val, by omega⟩)) := by
  subst h77 h78 h79
  unfold own slotAt
  iintro ⟨Hc, Hs, %fd, Hd⟩
  unfold WP oissue
  imod (Transfers.batch_alloc' (Lvl := ℕ) (countersEmb (U := Pipeline.UD sig nD τ)) (c : Thread nD τ) () NO (oD c g PG k (e, ⟨t.val, by omega⟩)) (sm := .dma (ocell k)) (E := Set.univ)) $$ Hc with HB
  iapply (Transfers.wp_dmaBatch (countersEmb (U := Pipeline.UD sig nD τ)) Variants.none (c : Thread nD τ) none () NO
     (src := oslot k) (dst := oblk e t) (via := .same) (fs := f8) (fd := fd) (q := fullShare) (Sd := I g (e, ⟨t.val, by omega⟩))
     (D := oD c g PG k (e, ⟨t.val, by omega⟩)) (j := 0) (u := 0) rfl (oblk_set g e t h).subset (by omega) (Nat.zero_le _) ?_) $$ [Hs Hd HB]
  · unfold oD fin
    iintro ⟨H1, H2⟩
    isplitl [H1]
    · iexists _
      isplitr
      · ipureintro
        exact hPG fd
      · iexact H1
    · iexists _; unfold slotAt; rw [← oslot_set k]; iexact H2
  · isplitl [Hs]; · rw [← oslot_set k]; iexact Hs
    isplitl [Hd]; · iexact Hd
    iexact HB
  · iintro HB
    simp only [Prog.bind]
    sl_step
    unfold busy
    iexact HB

end Cert.KernelIdeal.Hand

end
-- ==== Proof.KI.Work.lean ====
module

public import proofs.«01_k».proof.Proof.KI.Rhs
public import proofs.«01_k».proof.Proof.KI.Ring
public import Idealize.ShloMosaic.Lib.Pointwise.Index

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

theorem sacc (k : Fin 4) (inb) : (a8.access (Rect.unit (s := S4x512x1536) ![k.val, 0, 0] S1x512x1536.size inb)).set ⊆ sset k := by
  intro i hi
  rw [show (a8.access (Rect.unit (s := S4x512x1536) ![k.val, 0, 0] S1x512x1536.size inb)).set = (Rect.unit (s := S4x512x1536) ![k.val, 0, 0] S1x512x1536.size inb).set from View.set_slice_whole _ _] at hi
  simp only [Rect.mem_set_unit] at hi
  have e0 : k.val ≤ (i 0).val ∧ (i 0).val < k.val + 1 := hi 0
  simp only [sset, Finset.mem_filter, Finset.mem_univ, true_and]
  omega

/-- What a load of a slot reads. -/
def rslot (k : Fin 4) (f8 : S4x512x1536.Idx → Elt F .f32) : Vec F S1x512x1536 .f32 :=
  View.readAt (Elt F) a8.view (Rect.unit (s := S4x512x1536) ![k.val, 0, 0] S1x512x1536.size (sinb k)).toLoadRect f8

theorem rslot_writes (k : Fin 4) (f8 : S4x512x1536.Idx → Elt F .f32) (off : Fin 3 → ℕ) (ho : off = ![k.val, 0, 0]) (inb) (v : Vec F S1x512x1536 .f32) :
    rslot k (a8.view.writes (Elt F) f8 [⟨Rect.unit (s := S4x512x1536) off S1x512x1536.size inb, v⟩]) = v := by
  subst ho
  funext x
  exact View.read_writes_cons_emb a8.view f8 (Rect.unit (s := S4x512x1536) ![k.val, 0, 0] S1x512x1536.size inb) v [] x

/-- A block of the first operand, rows past the group's rows read as zero. -/
def x3n (x3 : S1408x5120.Idx → Elt F .bf16) (r d : ℕ) : Elt F .bf16 :=
  if h : r < 1408 ∧ d < 5120 then x3 (ix2 ⟨r, h.1⟩ ⟨d, h.2⟩) else Scalar.ofBits .bf16 0x0000#16

/-- The transposed strip of the first operand. -/
def PX (x3 : S1408x5120.Idx → Elt F .bf16) (t : ℕ) (f7 : S512x1536.Idx → Elt F .bf16) : Prop :=
  ∀ y : S512x1536.Idx, a7.view.read (Elt F) f7 y = x3n x3 (y 1).val (512 * t + (y 0).val)

/-- The gathered operand's row `q` of group `e`. -/
def rvn (g : Fin 6 → BitVec 32) (x4 : S1408x1536.Idx → Elt F .bf16) (e : Fin 6) (q : ℕ) (n : Fin 1536) : Elt F .bf16 :=
  rv g x4 e (q / 128) (ix2 ⟨q % 128, Nat.mod_lt _ (by decide)⟩ n)

/-- The left factor of a product: `W` columns of the strip. -/
def lhsV (W : ℕ) (x3 : S1408x5120.Idx → Elt F .bf16) (cs t : ℕ) : Vec F (⟨2, ![512, W]⟩ : Shape) .bf16 :=
  fun i => x3n x3 (cs + (i 1).val) (512 * t + (i 0).val)

/-- The right factor of a product: `W` gathered rows. -/
def rhsV (W : ℕ) (g : Fin 6 → BitVec 32) (x4 : S1408x1536.Idx → Elt F .bf16) (e : Fin 6) (q : ℕ) : Vec F (⟨2, ![W, 1536]⟩ : Shape) .bf16 :=
  fun i => rvn g x4 e (q + (i 0).val) (i 1)

theorem lhs_read (W : ℕ) (x3 : S1408x5120.Idx → Elt F .bf16) (cs t : ℕ) (f7 : S512x1536.Idx → Elt F .bf16) (hf : PX x3 t f7)
    (off : Fin 2 → ℕ) (ho : off = ![0, cs]) (inb : ∀ a, off a + (![512, W] : Fin 2 → ℕ) a ≤ S512x1536.size a) :
    View.readAt (Elt F) a7.view (Rect.unit (s := S512x1536) off ![512, W] inb).toLoadRect f7 = lhsV W x3 cs t := by
  subst ho
  funext i
  refine (hf ((Rect.unit (s := S512x1536) ![0, cs] ![512, W] inb).emb i)).trans ?_
  unfold lhsV
  congr 1
  · show cs + 1 * (i 1).val = _; omega
  · show 512 * t + (0 + 1 * (i 0).val) = _; omega

theorem rhs_read (W : ℕ) (g : Fin 6 → BitVec 32) (x4 : S1408x1536.Idx → Elt F .bf16) (e : Fin 6) (q : ℕ) (hq : q + W ≤ 256 * kt g e) (f6 : S2816x1536.Idx → Elt F .bf16)
    (hf : Rf g x4 6 0 f6) (off : Fin 2 → ℕ) (ho : off = ![256 * sl g e.val + q, 0]) (inb : ∀ a, off a + (![W, 1536] : Fin 2 → ℕ) a ≤ S2816x1536.size a) :
    View.readAt (Elt F) a6.view (Rect.unit (s := S2816x1536) off ![W, 1536] inb).toLoadRect f6 = rhsV W g x4 e q := by
  subst ho
  funext i
  have hi : (i 0).val < W := (i 0).isLt
  refine (hf e ((q + (i 0).val) / 128) (by omega) (.inl e.isLt) ((Rect.unit (s := S2816x1536) ![256 * sl g e.val + q, 0] ![W, 1536] inb).emb i)
    (ix2 ⟨(q + (i 0).val) % 128, Nat.mod_lt _ (by decide)⟩ (i 1)) ?_ ?_)
  · show 256 * sl g e.val + q + 1 * (i 0).val = 128 * (2 * sl g e.val + (q + (i 0).val) / 128) + (q + (i 0).val) % 128
    omega
  · show 0 + 1 * (i 1).val = (i 1).val; omega

/-- What the products read. -/
def Ops (c : Dev nD) (g : Fin 6 → BitVec 32) (x3 : S1408x5120.Idx → Elt F .bf16) (x4 : S1408x1536.Idx → Elt F .bf16) (t : ℕ) : sProp 𝕄 :=
  iprop(Tab c g ∗ (∃ f7, ⌜PX x3 t f7⌝ ∗ (a7.view.loc (c : Thread nD τ) ↦{fullShare} f7)) ∗ (∃ f6, ⌜Rf g x4 6 0 f6⌝ ∗ (a6.view.loc (c : Thread nD τ) ↦{fullShare} f6)))

/-- A slot holding a given block. -/
def SlotIs (c : Dev nD) (k : Fin 4) (v : Vec F S1x512x1536 .f32) : sProp 𝕄 := iprop(∃ f8, ⌜rslot k f8 = v⌝ ∗ slotAt c k f8)

/-- One product into a slot, as the body spells it. -/
def work (W : ℕ) (o1 : Fin 2 → ℕ) (i1 : ∀ a, o1 a + S1x1.size a ≤ S5x6.size a) (P1 : BitVec 32 → Prop) (d1 : ∀ v, Decidable (P1 v))
    (o2 : BitVec 32 → Fin 2 → ℕ) (i2 : ∀ v, P1 v → ∀ a, o2 v a + (![512, W] : Fin 2 → ℕ) a ≤ S512x1536.size a) (hl : 0 < (⟨2, ![512, W]⟩ : Shape).numel)
    (o3 : Fin 2 → ℕ) (i3 : ∀ a, o3 a + S1x1.size a ≤ S5x6.size a) (P2 : BitVec 32 → Prop) (d2 : ∀ v, Decidable (P2 v))
    (o4 : BitVec 32 → Fin 2 → ℕ) (i4 : ∀ v, P2 v → ∀ a, o4 v a + (![W, 1536] : Fin 2 → ℕ) a ≤ S2816x1536.size a) (hr : 0 < (⟨2, ![W, 1536]⟩ : Shape).numel)
    (o5 : Fin 3 → ℕ) (i5 : ∀ a, o5 a + S1x512x1536.size a ≤ S4x512x1536.size a)
    (pay : Vec F (⟨2, ![512, W]⟩ : Shape) .bf16 → Vec F (⟨2, ![W, 1536]⟩ : Shape) .bf16 → FVec F S1x512x1536 .f32) :
    Prog (TpuEff nD τ sig (Elt F) Λ₀ .tc) PUnit := do
  let v740 : Elt F .i32 ← smemLoad a10 (Rect.unit (s := S5x6) o1 S1x1.size i1) numel1_S1x1 rfl
  have hw1 : P1 v740 := (← Prog.lift (TpuEff.assume (P1 v740) (d1 v740))).down
  let v745 : Vec F (⟨2, ![512, W]⟩ : Shape) .bf16 ← Prog.lift (.load a7 (Rect.unit (s := S512x1536) (o2 v740) ![512, W] (i2 v740 hw1)).toLoadRect (View.loadsAt_vmem hl))
  let v747 : Elt F .i32 ← smemLoad a10 (Rect.unit (s := S5x6) o3 S1x1.size i3) numel1_S1x1 rfl
  have hw2 : P2 v747 := (← Prog.lift (TpuEff.assume (P2 v747) (d2 v747))).down
  let v752 : Vec F (⟨2, ![W, 1536]⟩ : Shape) .bf16 ← Prog.lift (.load a6 (Rect.unit (s := S2816x1536) (o4 v747) ![W, 1536] (i4 v747 hw2)).toLoadRect (View.loadsAt_vmem hr))
  let v757 : Vec F S1x512x1536 .f32 ← Prog.lift (.load a8 (Rect.unit (s := S4x512x1536) o5 S1x512x1536.size i5).toLoadRect (View.loadsAt_vmem h_S1x512x1536))
  Prog.lift (.store a8 (Rect.unit (s := S4x512x1536) o5 S1x512x1536.size i5) (pay v745 v752) Finset.univ (View.stores_vmem_bits_univ h_S1x512x1536 rfl) (.inl rfl))
  pure ⟨⟩

theorem work_step (c : Dev nD) (g : Fin 6 → BitVec 32) (x3 : S1408x5120.Idx → Elt F .bf16) (x4 : S1408x1536.Idx → Elt F .bf16) (t : ℕ) (e : Fin 6) (k : Fin 4)
    (W o1 i1 P1 d1 o2 i2 hl o3 i3 P2 d2 o4 i4 hr o5 i5 pay) (cs q : ℕ)
    (h1 : o1 = ![1, e.val]) (hP1 : P1 (T g 1 e)) (h2 : o2 (T g 1 e) = ![0, cs]) (h3 : o3 = ![2, e.val]) (hP2 : P2 (T g 2 e)) (h4 : o4 (T g 2 e) = ![256 * sl g e.val + q, 0])
    (hq : q + W ≤ 256 * kt g e) (h5 : o5 = ![k.val, 0, 0]) :
    iprop(Ops c g x3 x4 t ∗ (∃ f8, slotAt c k f8)) ⊢ WP c (work (F := F) W o1 i1 P1 d1 o2 i2 hl o3 i3 P2 d2 o4 i4 hr o5 i5 pay)
      (fun _ => iprop(Ops c g x3 x4 t ∗ SlotIs c k (pay (lhsV W x3 cs t) (rhsV W g x4 e q)))) := by
  subst h1 h3 h5
  unfold Ops SlotIs slotAt Tab
  iintro ⟨⟨HT, ⟨%f7, %hf7, H7⟩, %f6, %hf6, H6⟩, %f8, H8⟩
  have hS := sacc k i5
  unfold WP work
  sl_exec
  simp only [Prog.bind]
  iapply (wp_load_rect Variants.none (c : Thread nD τ) none Set.univ hS) $$ [H8]
  · iexact H8
  iintro H8
  simp only [Prog.bind]
  iapply (wp_store_writes₀ Variants.none (c : Thread nD τ) none Set.univ hS) $$ [H8]
  · iexact H8
  iintro H8
  simp only [Prog.bind]
  sl_step
  isplitl [HT H7 H6]
  · isplitl [HT]; · iexact HT
    isplitl [H7]
    · iexists _; isplitr; · ipureintro; exact hf7
      iexact H7
    · iexists _; isplitr; · ipureintro; exact hf6
      iexact H6
  · iexists _
    isplitr
    rotate_left
    · iexact H8
    · ipureintro
      refine (rslot_writes k f8 _ rfl i5 _).trans ?_
      have hb1 := tab_read (F := F) g 1 e i1
      have hb2 := tab_read (F := F) g 2 e i3
      refine congrArg₂ pay ?_ ?_
      · exact lhs_read W x3 cs t f7 hf7 _ ((congrArg o2 (hb1 _)).trans h2) _
      · exact rhs_read W g x4 e q hq f6 hf6 _ ((congrArg o4 (hb2 _)).trans h4) _

end Cert.KernelIdeal.Hand

end
-- ==== Proof.KI.Facts.lean ====
module

public import proofs.«01_k».proof.Proof.KI.Work

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

theorem off43_eq : ∀ n : Fin 64, k0_off43 (BitVec.ofNat 32 n.val) = ![n.val % 4] := by decide +kernel
theorem off44_eq : ∀ n : Fin 64, k0_off44 (BitVec.ofNat 32 n.val) = ![n.val % 4, 0, 0] := by decide +kernel
theorem off49_eq : ∀ n : Fin 64, k0_off49 (BitVec.ofNat 32 n.val) = ![n.val % 4, 0, 0] := by decide +kernel
theorem off54_eq : ∀ n : Fin 64, k0_off54 (BitVec.ofNat 32 n.val) = ![n.val % 4, 0, 0] := by decide +kernel
theorem off59_eq : ∀ n : Fin 64, k0_off59 (BitVec.ofNat 32 n.val) = ![n.val % 4, 0, 0] := by decide +kernel
theorem off64_eq : ∀ n : Fin 64, k0_off64 (BitVec.ofNat 32 n.val) = ![n.val % 4, 0, 0] := by decide +kernel
theorem off65_eq : ∀ n : Fin 64, k0_off65 (BitVec.ofNat 32 n.val) = ![n.val % 4, 0, 0] := by decide +kernel
theorem off70_eq : ∀ n : Fin 64, k0_off70 (BitVec.ofNat 32 n.val) = ![n.val % 4, 0, 0] := by decide +kernel
theorem off79_eq : ∀ n : Fin 64, k0_off79 (BitVec.ofNat 32 n.val) = ![n.val % 4, 0, 0] := by decide +kernel
theorem off77_eq : ∀ n : Fin 64, k0_off77 (BitVec.ofNat 32 n.val) = ![n.val % 4] := by decide +kernel
theorem cond7_eq : ∀ (n : Fin 64) (K : Fin 7), k0_cond7 (BitVec.ofNat 32 n.val) (BitVec.ofNat 32 K.val) = 1#1 ↔ 0 < K.val ∧ 4 ≤ n.val := by decide +kernel
theorem cond8_eq : ∀ (K : Fin 7), k0_cond8 (BitVec.ofNat 32 K.val) = 1#1 ↔ K.val = 1 := by decide +kernel
theorem cond9_eq : ∀ (K : Fin 7), k0_cond9 (BitVec.ofNat 32 K.val) = 1#1 ↔ K.val = 2 := by decide +kernel
theorem cond10_eq : ∀ (K : Fin 7), k0_cond10 (BitVec.ofNat 32 K.val) = 1#1 ↔ K.val = 3 := by decide +kernel
theorem cond11_eq : ∀ (K : Fin 7), k0_cond11 (BitVec.ofNat 32 K.val) = 1#1 ↔ 3 < K.val := by decide +kernel
theorem cond12_eq : ∀ (K : Fin 7), k0_cond12 (BitVec.ofNat 32 K.val) = 1#1 ↔ 0 < K.val := by decide +kernel
theorem chk31_all : ∀ (n : Fin 64) (K : Fin 7), k0_chk31 (BitVec.ofNat 32 n.val) (BitVec.ofNat 32 K.val) := by decide +kernel
theorem chk32_all : ∀ (K : Fin 7) (G : Fin 11), G.val + 2 * K.val ≤ 12 → k0_chk32 (BitVec.ofNat 32 K.val) (BitVec.ofNat 32 G.val) := by decide +kernel
theorem chk33_all : ∀ (K : Fin 7) (S : Fin 12), S.val + K.val ≤ 11 → k0_chk33 (BitVec.ofNat 32 K.val) (BitVec.ofNat 32 S.val) := by decide +kernel
theorem off46_eq : ∀ (G : Fin 11), k0_off46 (BitVec.ofNat 32 G.val) = ![0, 128 * G.val] := by decide +kernel
theorem off48_eq : ∀ (S : Fin 12), k0_off48 (BitVec.ofNat 32 S.val) = ![256 * S.val, 0] := by decide +kernel
theorem chk34_all : ∀ (K : Fin 7) (G : Fin 11), G.val + 2 * K.val ≤ 12 → k0_chk34 (BitVec.ofNat 32 K.val) (BitVec.ofNat 32 G.val) := by decide +kernel
theorem chk35_all : ∀ (K : Fin 7) (S : Fin 12), S.val + K.val ≤ 11 → k0_chk35 (BitVec.ofNat 32 K.val) (BitVec.ofNat 32 S.val) := by decide +kernel
theorem off51_eq : ∀ (G : Fin 11), k0_off51 (BitVec.ofNat 32 G.val) = ![0, 128 * G.val] := by decide +kernel
theorem off53_eq : ∀ (S : Fin 12), k0_off53 (BitVec.ofNat 32 S.val) = ![256 * S.val, 0] := by decide +kernel
theorem chk36_all : ∀ (K : Fin 7) (G : Fin 11), G.val + 2 * K.val ≤ 12 → k0_chk36 (BitVec.ofNat 32 K.val) (BitVec.ofNat 32 G.val) := by decide +kernel
theorem chk37_all : ∀ (K : Fin 7) (S : Fin 12), S.val + K.val ≤ 11 → k0_chk37 (BitVec.ofNat 32 K.val) (BitVec.ofNat 32 S.val) := by decide +kernel
theorem off56_eq : ∀ (G : Fin 11), k0_off56 (BitVec.ofNat 32 G.val) = ![0, 128 * G.val] := by decide +kernel
theorem off58_eq : ∀ (S : Fin 12), k0_off58 (BitVec.ofNat 32 S.val) = ![256 * S.val, 0] := by decide +kernel
theorem chk38_all : ∀ (K : Fin 7) (G : Fin 11), G.val + 2 * K.val ≤ 12 → k0_chk38 (BitVec.ofNat 32 K.val) (BitVec.ofNat 32 G.val) := by decide +kernel
theorem chk39_all : ∀ (K : Fin 7) (S : Fin 12), S.val + K.val ≤ 11 → k0_chk39 (BitVec.ofNat 32 K.val) (BitVec.ofNat 32 S.val) := by decide +kernel
theorem off61_eq : ∀ (G : Fin 11), k0_off61 (BitVec.ofNat 32 G.val) = ![0, 128 * G.val] := by decide +kernel
theorem off63_eq : ∀ (S : Fin 12), k0_off63 (BitVec.ofNat 32 S.val) = ![256 * S.val, 0] := by decide +kernel
theorem t21_trips : ∀ (K : Fin 7), (k0_t21_loop (BitVec.ofNat 32 K.val)).trips = K.val - 3 ∧ (k0_t22_loop (BitVec.ofNat 32 K.val)).trips = 0 := by decide +kernel
theorem chk40_all : ∀ (K : Fin 7) (j : Fin (k0_t21_loop (BitVec.ofNat 32 K.val)).trips) (G : Fin 11), G.val + 2 * K.val ≤ 12 → k0_chk40 (BitVec.ofNat 32 K.val) j (BitVec.ofNat 32 G.val) ∧ k0_off67 (BitVec.ofNat 32 K.val) j (BitVec.ofNat 32 G.val) = ![0, 128 * G.val + 256 * (3 + j.val)] := by decide +kernel
theorem chk41_all : ∀ (K : Fin 7) (j : Fin (k0_t21_loop (BitVec.ofNat 32 K.val)).trips) (S : Fin 12), S.val + K.val ≤ 11 → k0_chk41 (BitVec.ofNat 32 K.val) j (BitVec.ofNat 32 S.val) ∧ k0_off69 (BitVec.ofNat 32 K.val) j (BitVec.ofNat 32 S.val) = ![256 * S.val + 256 * (3 + j.val), 0] := by decide +kernel
theorem t20_trips : k0_t20_loop.trips = 6 := by decide +kernel
theorem t19_trips : k0_t19_loop.trips = 10 := by decide +kernel
theorem off42_eq : ∀ e : Fin k0_t20_loop.trips, k0_off42 e = ![0, e.val] := by decide +kernel
theorem off45_eq : ∀ e : Fin k0_t20_loop.trips, k0_off45 e = ![1, e.val] := by decide +kernel
theorem off47_eq : ∀ e : Fin k0_t20_loop.trips, k0_off47 e = ![2, e.val] := by decide +kernel
theorem off50_eq : ∀ e : Fin k0_t20_loop.trips, k0_off50 e = ![1, e.val] := by decide +kernel
theorem off52_eq : ∀ e : Fin k0_t20_loop.trips, k0_off52 e = ![2, e.val] := by decide +kernel
theorem off55_eq : ∀ e : Fin k0_t20_loop.trips, k0_off55 e = ![1, e.val] := by decide +kernel
theorem off57_eq : ∀ e : Fin k0_t20_loop.trips, k0_off57 e = ![2, e.val] := by decide +kernel
theorem off60_eq : ∀ e : Fin k0_t20_loop.trips, k0_off60 e = ![1, e.val] := by decide +kernel
theorem off62_eq : ∀ e : Fin k0_t20_loop.trips, k0_off62 e = ![2, e.val] := by decide +kernel
theorem off66_eq : ∀ e : Fin k0_t20_loop.trips, k0_off66 e = ![1, e.val] := by decide +kernel
theorem off68_eq : ∀ e : Fin k0_t20_loop.trips, k0_off68 e = ![2, e.val] := by decide +kernel
theorem off78_eq : ∀ (t : Fin k0_t19_loop.trips) (e : Fin k0_t20_loop.trips), k0_off78 t e = ![e.val, 512 * t.val, 0] := by decide +kernel
theorem t23_trips : ∀ n : Fin 64, (k0_t23_loop (BitVec.ofNat 32 n.val)).trips = min n.val 4 ∧ (k0_t24_loop (BitVec.ofNat 32 n.val)).trips = 0 ∧ k0_chk44 (BitVec.ofNat 32 n.val) := by decide +kernel
theorem off80_eq : ∀ (n : Fin 64) (j : Fin (k0_t23_loop (BitVec.ofNat 32 n.val)).trips), k0_off80 (BitVec.ofNat 32 n.val) j = ![j.val] ∧ k0_off81 (BitVec.ofNat 32 n.val) j = ![j.val, 0, 0] := by decide +kernel
theorem next_eq : ∀ (n : Fin 64) (K : Fin 7), Scalar.addi (BitVec.ofNat 32 n.val) (Scalar.extui (Scalar.cmpi .sgt (BitVec.ofNat 32 K.val) 0#32)) = BitVec.ofNat 32 (n.val + if K.val = 0 then 0 else 1) := by decide +kernel

end Cert.KernelIdeal.Hand

end
-- ==== Proof.KI.Prod.lean ====
module

public import proofs.«01_k».proof.Proof.KI.Facts

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

theorem sload_bind {β : Type} (c : Dev nD) (k : Fin 4) (f8 : S4x512x1536.Idx → Elt F .f32) (o : Fin 3 → ℕ) (i) (h : o = ![k.val, 0, 0])
    (kont : Vec F S1x512x1536 .f32 → Prog (TpuEff nD τ sig (Elt F) Λ₀ .tc) β) (Q : β → sProp 𝕄) (R : sProp 𝕄)
    (hk : iprop(slotAt c k f8 ∗ R) ⊢ WP c (kont (rslot k f8)) Q) :
    iprop(slotAt c k f8 ∗ R) ⊢ WP c ((Prog.lift (.load a8 (Rect.unit (s := S4x512x1536) o S1x512x1536.size i).toLoadRect (View.loadsAt_vmem h_S1x512x1536)) :
      Prog (TpuEff nD τ sig (Elt F) Λ₀ .tc) (Vec F S1x512x1536 .f32)) >>= kont) Q := by
  subst h
  unfold slotAt at *
  have hS := sacc k i
  iintro ⟨H8, HR⟩
  unfold WP
  iapply (wp_load_rect Variants.none (c : Thread nD τ) none Set.univ hS) $$ [H8]
  · iexact H8
  iintro H8
  iapply hk
  isplitl [H8]; · iexact H8
  iexact HR

theorem sstore_bind {β : Type} (c : Dev nD) (k : Fin 4) (f8 : S4x512x1536.Idx → Elt F .f32) (o : Fin 3 → ℕ) (i) (h : o = ![k.val, 0, 0]) (w : Vec F S1x512x1536 .f32)
    (kont : PUnit → Prog (TpuEff nD τ sig (Elt F) Λ₀ .tc) β) (Q : β → sProp 𝕄) (R : sProp 𝕄)
    (hk : iprop(SlotIs c k w ∗ R) ⊢ WP c (kont ⟨⟩) Q) :
    iprop(slotAt c k f8 ∗ R) ⊢ WP c ((Prog.lift (.store a8 (Rect.unit (s := S4x512x1536) o S1x512x1536.size i) w Finset.univ (View.stores_vmem_bits_univ h_S1x512x1536 rfl) (.inl rfl)) :
      Prog (TpuEff nD τ sig (Elt F) Λ₀ .tc) PUnit) >>= kont) Q := by
  subst h
  unfold SlotIs at hk
  unfold slotAt at *
  have hS := sacc k i
  iintro ⟨H8, HR⟩
  unfold WP
  iapply (wp_store_writes₀ Variants.none (c : Thread nD τ) none Set.univ hS) $$ [H8]
  · iexact H8
  iintro H8
  iapply hk
  isplitl [H8]
  · iexists _
    isplitr
    rotate_left
    · iexact H8
    · ipureintro; exact rslot_writes k f8 _ rfl i w
  iexact HR

/-- The running sum of a group with more than three tiles of rows. -/
def acc (g : Fin 6 → BitVec 32) (x3 : S1408x5120.Idx → Elt F .bf16) (x4 : S1408x1536.Idx → Elt F .bf16) (e : Fin 6) (t : ℕ) : ℕ → FVec F S1x512x1536 .f32
  | 0 => k0_pay37 (lhsV 768 x3 (128 * g0 g e.val) t) (rhsV 768 g x4 e 0)
  | m + 1 => k0_pay38 (acc g x3 x4 e t m) (lhsV 256 x3 (128 * g0 g e.val + 256 * (3 + m)) t) (rhsV 256 g x4 e (256 * (3 + m)))

/-- The block of the result a group's turn leaves in its slot. -/
def outT (g : Fin 6 → BitVec 32) (x3 : S1408x5120.Idx → Elt F .bf16) (x4 : S1408x1536.Idx → Elt F .bf16) (γ : F .f32) (e : Fin 6) (t : ℕ) : FVec F S1x512x1536 .f32 :=
  if kt g e = 1 then k0_pay42 γ (lhsV 256 x3 (128 * g0 g e.val) t) (rhsV 256 g x4 e 0)
  else if kt g e = 2 then k0_pay43 γ (lhsV 512 x3 (128 * g0 g e.val) t) (rhsV 512 g x4 e 0)
  else if kt g e = 3 then k0_pay44 γ (lhsV 768 x3 (128 * g0 g e.val) t) (rhsV 768 g x4 e 0)
  else k0_pay45 (k0_pay40 (acc g x3 x4 e t (kt g e - 3))) (k0_pay41 γ)

theorem t21_trip (γ : F .f32) (w20) (A w15 : BitVec 32) (V : Elt F .i32) (hw) (w715) (h11) (j) (u : Unit) :
    k0_t21_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11 j u = (do
      let v779 : Vec F S1x512x1536 .f32 ← Prog.lift (.load a8 (Rect.unit (s := S4x512x1536) (k0_off65 A) S1x512x1536.size (k0_off65_inb A V hw j h11)).toLoadRect (View.loadsAt_vmem h_S1x512x1536))
      work 256 (k0_off66 w20) (k0_off66_inb w20) (k0_chk40 V j) (k0_chk40.dec V j) (k0_off67 V j) (fun v h => k0_off67_inb V j v h h11) h_S512x256
        (k0_off68 w20) (k0_off68_inb w20) (k0_chk41 V j) (k0_chk41.dec V j) (k0_off69 V j) (fun v h => k0_off69_inb V j v h h11) h_S256x1536
        (k0_off70 A) (k0_off70_inb A V hw j h11) (k0_pay38 v779)) := rfl

theorem part13_prog (γ : F .f32) (w20) (A w15 : BitVec 32) (V : Elt F .i32) (hw) (w715) (h11) :
    k0_part13 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11 = (do
      work 768 (k0_off60 w20) (k0_off60_inb w20) (k0_chk38 V) (k0_chk38.dec V) k0_off61 (fun v h => k0_off61_inb V v h h11) h_S512x768
        (k0_off62 w20) (k0_off62_inb w20) (k0_chk39 V) (k0_chk39.dec V) k0_off63 (fun v h => k0_off63_inb V v h h11) h_S768x1536
        (k0_off64 A) (k0_off64_inb A V hw h11) k0_pay37
      Scf.Loop.for (k0_t21_loop V) (k0_t21_ok A V hw h11) ⟨⟩ (k0_t21_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11)
      Scf.Loop.for (k0_t22_loop V) (k0_t22_ok A V hw h11) ⟨⟩ (k0_t22_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11)
      let v768 : Vec F S1x512x1536 .f32 ← Prog.lift (.load a8 (Rect.unit (s := S4x512x1536) (k0_off64 A) S1x512x1536.size (k0_off64_inb A V hw h11)).toLoadRect (View.loadsAt_vmem h_S1x512x1536))
      pure ⟨k0_pay40 v768, k0_pay41 γ⟩) := by
  rw [k0_part13_eq_skeleton]; rfl

theorem t21_step (c : Dev nD) {g : Fin 6 → BitVec 32} (hok : Ok g) (x3 : S1408x5120.Idx → Elt F .bf16) (x4 : S1408x1536.Idx → Elt F .bf16) (t : ℕ) (γ : F .f32)
    (e : Fin 6) (w20 : Fin k0_t20_loop.trips) (he : w20.val = e.val) (n : ℕ) (hn : n < 64) (k : Fin 4) (hkn : k.val = n % 4) (A : BitVec 32) (hA : A = BitVec.ofNat 32 n) (w15)
    (V : Elt F .i32) (hV : V = T g 0 e) (hw) (w715) (h11) (j : Fin (k0_t21_loop V).trips) (u : Unit) :
    iprop(Ops c g x3 x4 t ∗ SlotIs c k (acc g x3 x4 e t j.val)) ⊢ WP c (k0_t21_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11 j u)
      (fun _ => iprop(Ops c g x3 x4 t ∗ SlotIs c k (acc g x3 x4 e t (j.val + 1)))) := by
  subst hA
  rw [t21_trip]
  have hK : kt g e < 7 := by have := kt_le hok e; omega
  have hG : g0 g e.val < 11 := by have := g0_le hok e; omega
  have hS : sl g e.val < 12 := by have := sl_kt hok e; omega
  subst hV
  have hj := j.isLt
  have ht : (k0_t21_loop (T g 0 e)).trips = kt g e - 3 := (t21_trips ⟨kt g e, hK⟩).1
  replace hj : j.val < kt g e - 3 := lt_of_lt_of_eq j.isLt ht
  have f1 := chk40_all ⟨kt g e, hK⟩ j ⟨g0 g e.val, hG⟩ (g0_kt hok e)
  have f2 := chk41_all ⟨kt g e, hK⟩ j ⟨sl g e.val, hS⟩ (sl_kt hok e)
  have o65 := off65_eq ⟨n, hn⟩
  have o70 := off70_eq ⟨n, hn⟩
  have key : ∀ f8, rslot k f8 = acc g x3 x4 e t j.val → iprop(slotAt c k f8 ∗ Ops c g x3 x4 t) ⊢ WP c (do
      let v779 : Vec F S1x512x1536 .f32 ← Prog.lift (.load a8 (Rect.unit (s := S4x512x1536) (k0_off65 (BitVec.ofNat 32 n)) S1x512x1536.size (k0_off65_inb (BitVec.ofNat 32 n) (T g 0 e) hw j h11)).toLoadRect (View.loadsAt_vmem h_S1x512x1536))
      work 256 (k0_off66 w20) (k0_off66_inb w20) (k0_chk40 (T g 0 e) j) (k0_chk40.dec (T g 0 e) j) (k0_off67 (T g 0 e) j) (fun v h => k0_off67_inb (T g 0 e) j v h h11) h_S512x256
        (k0_off68 w20) (k0_off68_inb w20) (k0_chk41 (T g 0 e) j) (k0_chk41.dec (T g 0 e) j) (k0_off69 (T g 0 e) j) (fun v h => k0_off69_inb (T g 0 e) j v h h11) h_S256x1536
        (k0_off70 (BitVec.ofNat 32 n)) (k0_off70_inb (BitVec.ofNat 32 n) (T g 0 e) hw j h11) (k0_pay38 v779)) (fun _ => iprop(Ops c g x3 x4 t ∗ SlotIs c k (acc g x3 x4 e t (j.val + 1)))) := by
    intro f8 hf
    refine sload_bind c k f8 _ _ (by rw [hkn]; exact o65) _ _ _ ?_
    rw [hf]
    have hw := work_step c g x3 x4 t e k 256 (k0_off66 w20) (k0_off66_inb w20) (k0_chk40 (T g 0 e) j) (k0_chk40.dec (T g 0 e) j) (k0_off67 (T g 0 e) j) (fun v h => k0_off67_inb (T g 0 e) j v h h11) h_S512x256
        (k0_off68 w20) (k0_off68_inb w20) (k0_chk41 (T g 0 e) j) (k0_chk41.dec (T g 0 e) j) (k0_off69 (T g 0 e) j) (fun v h => k0_off69_inb (T g 0 e) j v h h11) h_S256x1536
        (k0_off70 (BitVec.ofNat 32 n)) (k0_off70_inb (BitVec.ofNat 32 n) (T g 0 e) hw j h11) (k0_pay38 (acc g x3 x4 e t j.val)) (128 * g0 g e.val + 256 * (3 + j.val)) (256 * (3 + j.val))
        (by rw [← he]; exact off66_eq w20) f1.1 f1.2 (by rw [← he]; exact off68_eq w20) f2.1 f2.2 (by show 256 * (3 + j.val) + 256 ≤ 256 * kt g e; have : j.val < kt g e - 3 := hj; omega) (by rw [hkn]; exact o70)
    iintro ⟨H8, HO⟩
    iapply hw
    isplitl [HO]; · iexact HO
    iexists f8; iexact H8
  unfold SlotIs
  iintro ⟨HO, %f8, %hf, H8⟩
  have hq := key f8 hf
  unfold SlotIs at hq
  iapply hq
  isplitl [H8]; · iexact H8
  iexact HO

theorem part13_step (c : Dev nD) {g : Fin 6 → BitVec 32} (hok : Ok g) (x3 : S1408x5120.Idx → Elt F .bf16) (x4 : S1408x1536.Idx → Elt F .bf16) (t : ℕ) (γ : F .f32)
    (e : Fin 6) (w20 : Fin k0_t20_loop.trips) (he : w20.val = e.val) (n : ℕ) (hn : n < 64) (k : Fin 4) (hkn : k.val = n % 4) (A : BitVec 32) (hA : A = BitVec.ofNat 32 n) (w15)
    (V : Elt F .i32) (hV : V = T g 0 e) (hw) (w715) (h11) (hK3 : 3 < kt g e) :
    iprop(Ops c g x3 x4 t ∗ (∃ f8, slotAt c k f8)) ⊢ WP c (k0_part13 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A w15 V hw w715 h11)
      (fun r => iprop(⌜r = ⟨k0_pay40 (acc g x3 x4 e t (kt g e - 3)), k0_pay41 γ⟩⌝ ∗ Ops c g x3 x4 t ∗ (∃ f8, slotAt c k f8))) := by
  rw [part13_prog]
  have hK : kt g e < 7 := by have := kt_le hok e; omega
  have hG : g0 g e.val < 11 := by have := g0_le hok e; omega
  have hS : sl g e.val < 12 := by have := sl_kt hok e; omega
  have hst := fun j u => t21_step c hok x3 x4 t γ e w20 he n hn k hkn A hA w15 V hV hw w715 h11 j u
  subst hA
  subst hV
  have f1 := chk38_all ⟨kt g e, hK⟩ ⟨g0 g e.val, hG⟩ (g0_kt hok e)
  have f2 := chk39_all ⟨kt g e, hK⟩ ⟨sl g e.val, hS⟩ (sl_kt hok e)
  have o61 := off61_eq ⟨g0 g e.val, hG⟩
  have o63 := off63_eq ⟨sl g e.val, hS⟩
  have o64 := off64_eq ⟨n, hn⟩
  have ht := t21_trips ⟨kt g e, hK⟩
  have hwk := work_step c g x3 x4 t e k 768 (k0_off60 w20) (k0_off60_inb w20) (k0_chk38 (T g 0 e)) (k0_chk38.dec (T g 0 e)) k0_off61 (fun v h => k0_off61_inb (T g 0 e) v h h11) h_S512x768
        (k0_off62 w20) (k0_off62_inb w20) (k0_chk39 (T g 0 e)) (k0_chk39.dec (T g 0 e)) k0_off63 (fun v h => k0_off63_inb (T g 0 e) v h h11) h_S768x1536
        (k0_off64 (BitVec.ofNat 32 n)) (k0_off64_inb (BitVec.ofNat 32 n) (T g 0 e) hw h11) k0_pay37 (128 * g0 g e.val) 0
        (by rw [← he]; exact off60_eq w20) f1 o61 (by rw [← he]; exact off62_eq w20) f2 (by exact o63) (by omega) (by rw [hkn]; exact o64)
  unfold WP
  rw [wp_bind]
  refine BIBase.Entails.trans hwk ?_
  refine wp_mono _ _ _ fun _ => ?_
  rw [wp_bind]
  iintro ⟨HO, H8⟩
  iapply (Scf.wp_for _ _ _ _ _ _ _ _ _ (fun j _ => iprop(Ops c g x3 x4 t ∗ SlotIs c k (acc g x3 x4 e t j))) (fun j u => hst j u))
  isplitl [HO H8]
  · isplitl [HO]; · iexact HO
    iexact H8
  iintro %u ⟨HO, H8⟩
  rw [wp_bind]
  iapply (Scf.wp_for _ _ _ _ _ _ _ _ _ (fun j _ => iprop(Ops c g x3 x4 t ∗ SlotIs c k (acc g x3 x4 e t (kt g e - 3)))) (fun j u => absurd j.isLt (by
    have := ht.2; have hx : (k0_t22_loop (T g 0 e)).trips = 0 := this; change ¬ (j.val < (k0_t22_loop (T g 0 e)).trips); omega)))
  isplitl [HO H8]
  · isplitl [HO]; · iexact HO
    have h3 : Scf.trips (k0_t21_loop (T g 0 e)).lb (k0_t21_loop (T g 0 e)).ub (k0_t21_loop (T g 0 e)).st = kt g e - 3 := ht.1
    rw [h3]
    iexact H8
  iintro %u2 ⟨HO, H8⟩
  unfold SlotIs
  icases H8 with ⟨%f8, %hf, H8⟩
  iapply (sload_bind c k f8 _ _ (by rw [hkn]; exact o64) _ _ (Ops c g x3 x4 t) ?_) $$ [H8 HO]
  · unfold WP
    rw [hf, show ∀ x, (pure x : Prog (TpuEff nD τ sig (Elt F) Λ₀ .tc) (Σ' (_ : FVec F S512x1536 .f32), FVec F S512x1536 .f32)) = Prog.ret x from fun _ => rfl]
    iintro ⟨H8, HO⟩
    sl_step
    isplitr; · ipureintro; rfl
    isplitl [HO]; · iexact HO
    iexists f8; iexact H8
  · isplitl [H8]; · iexact H8
    iexact HO

end Cert.KernelIdeal.Hand

end
-- ==== Proof.KI.Inv.lean ====
module

public import proofs.«01_k».proof.Proof.KI.Prod

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

/-- Where a block of the result stands: still to be produced, on its way, or complete. -/
inductive St
  | todo
  | away
  | done
  deriving DecidableEq

def blkΦ (c : Dev nD) (g : Fin 6 → BitVec 32) (PG : Fin 6 × Fin 40 → (S6x5120x1536.Idx → Elt F .f32) → Prop) (p : Fin 6 × Fin 40) : St → sProp 𝕄
  | .todo => own c g p
  | .away => iprop(⌜True⌝)
  | .done => fin c g PG p

def slotΦ (c : Dev nD) (g : Fin 6 → BitVec 32) (PG : Fin 6 × Fin 40 → (S6x5120x1536.Idx → Elt F .f32) → Prop) (k : Fin 4) : Option (Fin 6 × Fin 40) → sProp 𝕄
  | none => idle c k
  | some p => busy c g PG k p

section AtP

/-- Every block in its state. -/
def AtP (Φ : Fin 6 × Fin 40 → St → sProp 𝕄) (S : Fin 6 × Fin 40 → St) : sProp 𝕄 := bigSep Finset.univ fun p => Φ p (S p)
/-- Every block but one, in its state. -/
def restP (Φ : Fin 6 × Fin 40 → St → sProp 𝕄) (S : Fin 6 × Fin 40 → St) (i : Fin 6 × Fin 40) : sProp 𝕄 := bigSep (Finset.univ.erase i) fun p => Φ p (S p)

theorem AtP_focus (Φ : Fin 6 × Fin 40 → St → sProp 𝕄) (S : Fin 6 × Fin 40 → St) (i : Fin 6 × Fin 40) : AtP (F := F) Φ S = iprop(Φ i (S i) ∗ restP Φ S i) :=
  BI.bigSep_erase (Φ := fun k => Φ k (S k)) (Finset.mem_univ i)

theorem restP_update (Φ : Fin 6 × Fin 40 → St → sProp 𝕄) (S : Fin 6 × Fin 40 → St) (i : Fin 6 × Fin 40) (x : St) : restP (F := F) Φ (Function.update S i x) i = restP Φ S i :=
  BI.bigSep_congr fun k hk => by rw [Function.update_of_ne (Finset.ne_of_mem_erase hk)]

theorem AtP_update (Φ : Fin 6 × Fin 40 → St → sProp 𝕄) (S : Fin 6 × Fin 40 → St) (i : Fin 6 × Fin 40) (x : St) : iprop(Φ i x ∗ restP (F := F) Φ S i) ⊢ AtP Φ (Function.update S i x) := by
  rw [AtP_focus Φ _ i, Function.update_self, restP_update]
end AtP

/-- The part of the bookkeeping that does not speak of which slots are free. -/
structure RB (g : Fin 6 → BitVec 32) (t e n : ℕ) (S : Fin 6 × Fin 40 → St) (st : Fin 4 → Option (Fin 6 × Fin 40)) : Prop where
  h2 : ∀ k p, st k = some p → S p = .away ∧ kt g p.1 ≠ 0
  inj : ∀ k k' p, st k = some p → st k' = some p → k = k'
  h3 : ∀ p, kt g p.1 ≠ 0 → S p = .away → ∃ k, st k = some p
  h4 : ∀ p, S p = .todo ↔ kt g p.1 ≠ 0 ∧ p.2.val < 10 ∧ (t < p.2.val ∨ (t = p.2.val ∧ e ≤ p.1.val))
  h5 : ∀ p, kt g p.1 = 0 → S p = .away
  h6 : n ≤ 6 * t + e

theorem RB.skip {g : Fin 6 → BitVec 32} {t n : ℕ} {e : Fin 6} {S st} (h : RB g t e.val n S st) (hk : kt g e = 0) : RB g t (e.val + 1) n S st where
  h2 := h.h2
  inj := h.inj
  h3 := h.h3
  h4 := fun p => by
    rw [h.h4 p]
    constructor
    · rintro ⟨a, b, c⟩
      refine ⟨a, b, ?_⟩
      rcases c with c | ⟨c, d⟩
      · exact .inl c
      · refine .inr ⟨c, ?_⟩
        rcases Nat.lt_or_ge e.val p.1.val with hl | hl
        · exact hl
        · exfalso; apply a; rw [show p.1 = e from Fin.ext (by omega)]; exact hk
    · rintro ⟨a, b, c⟩
      exact ⟨a, b, by omega⟩
  h5 := h.h5
  h6 := by have := h.h6; omega

theorem RB.row {g : Fin 6 → BitVec 32} {t n : ℕ} {S st} (h : RB g t 6 n S st) : RB g (t + 1) 0 n S st where
  h2 := h.h2
  inj := h.inj
  h3 := h.h3
  h4 := fun p => by
    rw [h.h4 p]
    have := p.1.isLt
    constructor
    · rintro ⟨a, b, c⟩; exact ⟨a, b, by omega⟩
    · rintro ⟨a, b, c⟩; exact ⟨a, b, by omega⟩
  h5 := h.h5
  h6 := by have := h.h6; omega

theorem RB.wait {g : Fin 6 → BitVec 32} {t e n : ℕ} {S st} (h : RB g t e n S st) (k : Fin 4) (p : Fin 6 × Fin 40) (hp : st k = some p) :
    RB g t e n (Function.update S p .done) (Function.update st k none) := by
  have hk : ∀ k' q, Function.update st k none k' = some q → k' ≠ k ∧ st k' = some q ∧ q ≠ p := by
    intro k' q hq
    by_cases hkk : k' = k
    · subst hkk; rw [Function.update_self] at hq; cases hq
    · rw [Function.update_of_ne hkk] at hq
      refine ⟨hkk, hq, ?_⟩
      rintro rfl
      exact hkk (h.inj _ _ _ hq hp)
  refine ⟨?_, ?_, ?_, ?_, ?_, h.h6⟩
  · intro k' q hq
    obtain ⟨_, hq', hne⟩ := hk k' q hq
    rw [Function.update_of_ne hne]
    exact h.h2 _ _ hq'
  · intro k1 k2 q h1 h2
    exact h.inj _ _ _ (hk _ _ h1).2.1 (hk _ _ h2).2.1
  · intro q hq hS
    have hne : q ≠ p := by rintro rfl; rw [Function.update_self] at hS; cases hS
    rw [Function.update_of_ne hne] at hS
    obtain ⟨k', hk'⟩ := h.h3 q hq hS
    refine ⟨k', ?_⟩
    rw [Function.update_of_ne]
    · exact hk'
    · rintro rfl
      rw [hp] at hk'; cases hk'; exact hne rfl
  · intro q
    by_cases hne : q = p
    · subst hne
      rw [Function.update_self, ← h.h4 q, (h.h2 _ _ hp).1]
      simp
    · rw [Function.update_of_ne hne]; exact h.h4 q
  · intro q hq
    have hne : q ≠ p := by rintro rfl; exact (h.h2 _ _ hp).2 hq
    rw [Function.update_of_ne hne]; exact h.h5 q hq

theorem RB.issue {g : Fin 6 → BitVec 32} {t n : ℕ} {e : Fin 6} {S st} (h : RB g t e.val n S st) (k : Fin 4) (hk : st k = none) (ht : t < 10) (he : kt g e ≠ 0) :
    S (e, ⟨t, by omega⟩) = .todo ∧ RB g t (e.val + 1) (n + 1) (Function.update S (e, ⟨t, by omega⟩) .away) (Function.update st k (some (e, ⟨t, by omega⟩))) := by
  have hS : S (e, ⟨t, by omega⟩) = .todo := (h.h4 _).2 ⟨he, ht, .inr ⟨rfl, Nat.le_refl _⟩⟩
  refine ⟨hS, ?_, ?_, ?_, ?_, ?_, ?_⟩
  · intro k' q hq
    by_cases hkk : k' = k
    · subst hkk; rw [Function.update_self] at hq; cases hq
      rw [Function.update_self]; exact ⟨rfl, he⟩
    · rw [Function.update_of_ne hkk] at hq
      have hq' := h.h2 _ _ hq
      have hne : q ≠ (e, ⟨t, by omega⟩) := by rintro rfl; rw [hS] at hq'; cases hq'.1
      rw [Function.update_of_ne hne]; exact hq'
  · intro k1 k2 q h1 h2
    by_cases hk1 : k1 = k
    · by_cases hk2 : k2 = k
      · rw [hk1, hk2]
      · subst hk1; rw [Function.update_self] at h1; cases h1
        rw [Function.update_of_ne hk2] at h2
        have := (h.h2 _ _ h2).1; rw [hS] at this; cases this
    · rw [Function.update_of_ne hk1] at h1
      by_cases hk2 : k2 = k
      · subst hk2; rw [Function.update_self] at h2; cases h2
        have := (h.h2 _ _ h1).1; rw [hS] at this; cases this
      · rw [Function.update_of_ne hk2] at h2
        exact h.inj _ _ _ h1 h2
  · intro q hq hA
    by_cases hne : q = (e, ⟨t, by omega⟩)
    · subst hne; exact ⟨k, Function.update_self ..⟩
    · rw [Function.update_of_ne hne] at hA
      obtain ⟨k', hk'⟩ := h.h3 q hq hA
      refine ⟨k', ?_⟩
      rw [Function.update_of_ne]
      · exact hk'
      · rintro rfl; rw [hk] at hk'; cases hk'
  · intro q
    by_cases hne : q = (e, ⟨t, by omega⟩)
    · subst hne
      rw [Function.update_self]
      simp
    · rw [Function.update_of_ne hne, h.h4 q]
      have hne' : ¬ (q.1 = e ∧ q.2.val = t) := by
        rintro ⟨h1, h2⟩; apply hne; exact Prod.ext h1 (Fin.ext h2)
      constructor
      · rintro ⟨a, b, c⟩
        refine ⟨a, b, ?_⟩
        rcases c with c | ⟨c, d⟩
        · exact .inl c
        · refine .inr ⟨c, ?_⟩
          rcases Nat.lt_or_ge e.val q.1.val with hl | hl
          · exact hl
          · exact absurd ⟨Fin.ext (by omega), c.symm⟩ hne'
      · rintro ⟨a, b, c⟩; exact ⟨a, b, by omega⟩
  · intro q hq
    have hne : q ≠ (e, ⟨t, by omega⟩) := by intro hqe; rw [hqe] at hq; exact he hq
    rw [Function.update_of_ne hne]; exact h.h5 q hq
  · have := h.h6; omega

/-- The output ring and the blocks of the result, before group `e`'s turn at strip `t`, `n` copies started. -/
def Inv (c : Dev nD) (g : Fin 6 → BitVec 32) (PG : Fin 6 × Fin 40 → (S6x5120x1536.Idx → Elt F .f32) → Prop) (t e n : ℕ) : sProp 𝕄 :=
  iprop(∃ S st, ⌜RB g t e n S st ∧ ∀ k : Fin 4, st k = none ↔ n ≤ k.val⌝ ∗ AtP (blkΦ c g PG) S ∗ Ring.AtW (slotΦ c g PG) st)

/-- The same with slot `k` free and set apart. -/
def Opn (c : Dev nD) (g : Fin 6 → BitVec 32) (PG : Fin 6 × Fin 40 → (S6x5120x1536.Idx → Elt F .f32) → Prop) (t e n : ℕ) (k : Fin 4) : sProp 𝕄 :=
  iprop(∃ S st, ⌜RB g t e n S st ∧ st k = none ∧ ∀ k' : Fin 4, k' ≠ k → (st k' = none ↔ n ≤ k'.val)⌝ ∗ AtP (blkΦ c g PG) S ∗ Ring.restW (slotΦ c g PG) st k)

theorem inv_free (c : Dev nD) (g : Fin 6 → BitVec 32) (PG : Fin 6 × Fin 40 → (S6x5120x1536.Idx → Elt F .f32) → Prop) (t e n : ℕ) (k : Fin 4) (hk : n ≤ k.val) :
    Inv c g PG t e n ⊢ iprop(idle c k ∗ Opn c g PG t e n k) := by
  unfold Inv Opn
  iintro ⟨%S, %st, %h, HP, HW⟩
  ihave HW' := (Entails.of_eq (Ring.AtW_focus (slotΦ c g PG) st k)) $$ HW
  icases HW' with ⟨Hk, HW⟩
  have h0 : st k = none := (h.2 k).2 hk
  ihave Hk := (show slotΦ c g PG k (st k) ⊢ idle c k from by rw [h0]; exact .rfl) $$ Hk
  isplitl [Hk]; · iexact Hk
  iexists S; iexists st
  isplitr
  · ipureintro; exact ⟨h.1, h0, fun k' _ => h.2 k'⟩
  isplitl [HP]; · iexact HP
  iexact HW

theorem inv_busy (c : Dev nD) (g : Fin 6 → BitVec 32) (PG : Fin 6 × Fin 40 → (S6x5120x1536.Idx → Elt F .f32) → Prop) (t e n : ℕ) (k : Fin 4) (hk : k.val < n) :
    Inv c g PG t e n ⊢ iprop(∃ p, busy c g PG k p ∗ ((idle c k ∗ fin c g PG p) -∗ (idle c k ∗ Opn c g PG t e n k))) := by
  unfold Inv Opn
  iintro ⟨%S, %st, %h, HP, HW⟩
  ihave HW' := (Entails.of_eq (Ring.AtW_focus (slotΦ c g PG) st k)) $$ HW
  icases HW' with ⟨Hk, HW⟩
  have h0 : st k ≠ none := fun hn => by have := (h.2 k).1 hn; omega
  obtain ⟨p, hp⟩ := Option.ne_none_iff_exists'.mp h0
  ihave Hk := (show slotΦ c g PG k (st k) ⊢ busy c g PG k p from by rw [hp]; exact .rfl) $$ Hk
  iexists p
  isplitl [Hk]; · iexact Hk
  iintro ⟨Hi, Hf⟩
  isplitl [Hi]; · iexact Hi
  iexists (Function.update S p .done); iexists (Function.update st k none)
  isplitr
  · ipureintro
    refine ⟨h.1.wait k p hp, Function.update_self .., fun k' hk' => ?_⟩
    rw [Function.update_of_ne hk']; exact h.2 k'
  rw [Ring.restW_update]
  isplitl [HP Hf]
  · iapply (AtP_update (blkΦ c g PG) S p .done)
    ihave HP' := (Entails.of_eq (AtP_focus (blkΦ c g PG) S p)) $$ HP
    icases HP' with ⟨-, HP⟩
    ihave Hf := (show fin c g PG p ⊢ blkΦ c g PG p .done from .rfl) $$ Hf
    isplitl [Hf]; · iexact Hf
    iexact HP
  iexact HW

theorem opn_issue (c : Dev nD) (g : Fin 6 → BitVec 32) (PG : Fin 6 × Fin 40 → (S6x5120x1536.Idx → Elt F .f32) → Prop) (t : ℕ) (ht : t < 10) (e : Fin 6) (he : kt g e ≠ 0)
    (n : ℕ) (k : Fin 4) (hk : k.val = n % 4) :
    Opn c g PG t e.val n k ⊢ iprop(own c g (e, ⟨t, by omega⟩) ∗ (busy c g PG k (e, ⟨t, by omega⟩) -∗ Inv c g PG t (e.val + 1) (n + 1))) := by
  unfold Inv Opn
  iintro ⟨%S, %st, %h, HP, HW⟩
  have ht4 : t < 40 := by omega
  have hi := h.1.issue k h.2.1 ht he
  ihave HP' := (Entails.of_eq (AtP_focus (blkΦ c g PG) S (e, ⟨t, by omega⟩))) $$ HP
  icases HP' with ⟨Ho, HP⟩
  ihave Ho := (show blkΦ c g PG (e, ⟨t, ht4⟩) (S (e, ⟨t, ht4⟩)) ⊢ own c g (e, ⟨t, ht4⟩) from by rw [hi.1]; exact .rfl) $$ Ho
  isplitl [Ho]; · iexact Ho
  iintro Hb
  iexists _; iexists _
  isplitr
  rotate_left
  · isplitl [HP]
    · iapply (AtP_update (blkΦ c g PG) S (e, ⟨t, by omega⟩) .away)
      isplitr
      · unfold blkΦ; ipureintro; trivial
      · iexact HP
    · iapply (Ring.AtW_update (slotΦ c g PG) st k (some (e, ⟨t, by omega⟩)))
      ihave Hb := (show busy c g PG k (e, ⟨t, ht4⟩) ⊢ slotΦ c g PG k (some (e, ⟨t, ht4⟩)) from .rfl) $$ Hb
      isplitl [Hb]; · iexact Hb
      iexact HW
  · ipureintro
    refine ⟨hi.2, fun k' => ?_⟩
    by_cases hkk : k' = k
    · subst hkk; rw [Function.update_self]; simp; omega
    · rw [Function.update_of_ne hkk, h.2.2 k' hkk]
      have : k'.val ≠ k.val := fun hh => hkk (Fin.ext hh)
      have := k'.isLt
      omega

theorem inv_skip (c : Dev nD) (g : Fin 6 → BitVec 32) (PG : Fin 6 × Fin 40 → (S6x5120x1536.Idx → Elt F .f32) → Prop) (t : ℕ) (e : Fin 6) (he : kt g e = 0) (n : ℕ) :
    Inv c g PG t e.val n ⊢ Inv (F := F) c g PG t (e.val + 1) n := by
  unfold Inv
  iintro ⟨%S, %st, %h, HP, HW⟩
  iexists S; iexists st
  isplitr
  · ipureintro; exact ⟨h.1.skip he, h.2⟩
  isplitl [HP]; · iexact HP
  iexact HW

theorem inv_row (c : Dev nD) (g : Fin 6 → BitVec 32) (PG : Fin 6 × Fin 40 → (S6x5120x1536.Idx → Elt F .f32) → Prop) (t n : ℕ) :
    Inv c g PG t 6 n ⊢ Inv (F := F) c g PG (t + 1) 0 n := by
  unfold Inv
  iintro ⟨%S, %st, %h, HP, HW⟩
  iexists S; iexists st
  isplitr
  · ipureintro; exact ⟨h.1.row, h.2⟩
  isplitl [HP]; · iexact HP
  iexact HW

theorem inv_bound (c : Dev nD) (g : Fin 6 → BitVec 32) (PG : Fin 6 × Fin 40 → (S6x5120x1536.Idx → Elt F .f32) → Prop) (t e n : ℕ) :
    Inv c g PG t e n ⊢ iprop(⌜n ≤ 6 * t + e⌝ ∗ Inv (F := F) c g PG t e n) := by
  unfold Inv
  iintro ⟨%S, %st, %h, HP, HW⟩
  isplitr; · ipureintro; exact h.1.h6
  iexists S; iexists st
  isplitr; · ipureintro; exact h
  isplitl [HP]; · iexact HP
  iexact HW

end Cert.KernelIdeal.Hand

end
-- ==== Proof.KI.Turn.lean ====
module

public import proofs.«01_k».proof.Proof.KI.Inv

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

theorem tab_bind {β : Type} (c : Dev nD) (g : Fin 6 → BitVec 32) (r : Fin 5) (e : Fin 6) (o : Fin 2 → ℕ) (i) (h : o = ![r.val, e.val])
    (P : BitVec 32 → Prop) (d : ∀ v, Decidable (P v)) (hP : P (T g r e)) (k : ∀ v : Elt F .i32, P v → Prog (TpuEff nD τ sig (Elt F) Λ₀ .tc) β)
    (Q : β → sProp 𝕄) (R : sProp 𝕄) (hk : iprop(Tab c g ∗ R) ⊢ WP c (k (T g r e) hP) Q) :
    iprop(Tab c g ∗ R) ⊢ WP c (do
      let v : Elt F .i32 ← smemLoad a10 (Rect.unit (s := S5x6) o S1x1.size i) numel1_S1x1 rfl
      have hw : P v := (← Prog.lift (TpuEff.assume (P v) (d v))).down
      k v hw) Q := by
  subst h
  unfold Tab at *
  iintro ⟨HT, HR⟩
  unfold WP
  sl_exec
  iapply hk
  isplitl [HT]; · iexact HT
  iexact HR

theorem wp_dif_neg {β : Type} {c : Dev nD} {b : Prop} [Decidable b] (hb : ¬ b) {p : b → Prog (TpuEff nD τ sig (Elt F) Λ₀ .tc) β}
    {k : Prog (TpuEff nD τ sig (Elt F) Λ₀ .tc) β} {P : sProp 𝕄} {Q : β → sProp 𝕄} (h : P ⊢ WP c k Q) : P ⊢ WP c (dite b p (fun _ => k)) Q := by
  rw [dif_neg hb]; exact h

theorem wp_dif_pos {β : Type} {c : Dev nD} {b : Prop} [Decidable b] (hb : b) {p : b → Prog (TpuEff nD τ sig (Elt F) Λ₀ .tc) β}
    {k : ¬ b → Prog (TpuEff nD τ sig (Elt F) Λ₀ .tc) β} {P : sProp 𝕄} {Q : β → sProp 𝕄} (h : P ⊢ WP c (p hb) Q) : P ⊢ WP c (dite b p k) Q := by
  rw [dif_pos hb]; exact h

theorem wp_seq {β : Type} {c : Dev nD} {m : Prog (TpuEff nD τ sig (Elt F) Λ₀ .tc) PUnit} {k : Prog (TpuEff nD τ sig (Elt F) Λ₀ .tc) β}
    {P P' R : sProp 𝕄} {Q : β → sProp 𝕄} (hm : P ⊢ WP c m (fun _ => P')) (hk : iprop(P' ∗ R) ⊢ WP c k Q) : iprop(P ∗ R) ⊢ WP c (m >>= fun _ => k) Q := by
  unfold WP at *
  rw [wp_bind]
  refine BIBase.Entails.trans (BIClass.sep_mono hm .rfl) ?_
  refine BIBase.Entails.trans (wp_frame_r _ _ _) ?_
  exact wp_mono _ _ _ fun _ => hk

/-- The strip's products, the ring, and what the waits need. -/
def TS (c : Dev nD) (g : Fin 6 → BitVec 32) (PG : Fin 6 × Fin 40 → (S6x5120x1536.Idx → Elt F .f32) → Prop) (x3 : S1408x5120.Idx → Elt F .bf16) (x4 : S1408x1536.Idx → Elt F .bf16) (t e n : ℕ) : sProp 𝕄 :=
  iprop(Ops c g x3 x4 t ∗ Inv c g PG t e n ∗ (∃ W, owes (c : Thread nD τ) 0 W))

/-- A slot's number, as the body computes it. -/
def slotW (A : BitVec 32) : BitVec 32 :=
  let v707 : BitVec 32 := Scalar.select (Scalar.cmpi .eq 4#32 0#32) 1#32 4#32
  let v708 : BitVec 32 := Scalar.remsi A v707
  let v713 : BitVec 1 := Scalar.andi (Scalar.xori (Scalar.cmpi .slt v708 0#32) (Scalar.cmpi .slt v707 0#32)) (Scalar.cmpi .ne v708 0#32)
  Scalar.select v713 (Scalar.addi v708 v707) v708

/-- The end of a group's turn: the copy out, if the group has rows. -/
def j12 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h12 : k0_cond12 V = 1#1 then
    oissue (k0_off77 A) (k0_off77_inb A V hw h12) (k0_off78 w19 w20) (k0_off78_inb w19 w20) (k0_off79 A) (k0_off79_inb A V hw h12) >>= fun _ => pure V
  else pure V

/-- The turn of a group of more than three tiles. -/
def j11 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h11 : k0_cond11 V = 1#1 then (do
    let x ← k0_part13 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w20 A (Scf.iv 0#32 1#32 w20) V hw (slotW A) h11
    let v773 : Vec F S1x512x1536 .f32 ← Prog.lift (.load a8 (Rect.unit (s := S4x512x1536) (k0_off64 A) S1x512x1536.size (k0_off64_inb A V hw h11)).toLoadRect (View.loadsAt_vmem h_S1x512x1536))
    Prog.lift (.store a8 (Rect.unit (s := S4x512x1536) (k0_off64 A) S1x512x1536.size (k0_off64_inb A V hw h11)) (k0_pay45 x.1 x.2) Finset.univ (View.stores_vmem_bits_univ h_S1x512x1536 rfl) (.inl rfl))
    j12 γ w19 w20 A V hw)
  else j12 γ w19 w20 A V hw

/-- The turn of a group of 3 tiles. -/
def j10 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h10 : k0_cond10 V = 1#1 then work 768 (k0_off55 w20) (k0_off55_inb w20) (k0_chk36 V) (k0_chk36.dec V) k0_off56 (fun v hv => k0_off56_inb V v hv h10) h_S512x768 (k0_off57 w20) (k0_off57_inb w20) (k0_chk37 V) (k0_chk37.dec V) k0_off58 (fun v hv => k0_off58_inb V v hv h10) h_S768x1536 (k0_off59 A) (k0_off59_inb A V hw h10) (k0_pay44 γ) >>= fun _ => j11 γ w19 w20 A V hw else j11 γ w19 w20 A V hw

/-- The turn of a group of 2 tiles. -/
def j9 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h9 : k0_cond9 V = 1#1 then work 512 (k0_off50 w20) (k0_off50_inb w20) (k0_chk34 V) (k0_chk34.dec V) k0_off51 (fun v hv => k0_off51_inb V v hv h9) h_S512x512 (k0_off52 w20) (k0_off52_inb w20) (k0_chk35 V) (k0_chk35.dec V) k0_off53 (fun v hv => k0_off53_inb V v hv h9) h_S512x1536 (k0_off54 A) (k0_off54_inb A V hw h9) (k0_pay43 γ) >>= fun _ => j10 γ w19 w20 A V hw else j10 γ w19 w20 A V hw

/-- The turn of a group of 1 tiles. -/
def j8 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h8 : k0_cond8 V = 1#1 then work 256 (k0_off45 w20) (k0_off45_inb w20) (k0_chk32 V) (k0_chk32.dec V) k0_off46 (fun v hv => k0_off46_inb V v hv h8) h_S512x256 (k0_off47 w20) (k0_off47_inb w20) (k0_chk33 V) (k0_chk33.dec V) k0_off48 (fun v hv => k0_off48_inb V v hv h8) h_S256x1536 (k0_off49 A) (k0_off49_inb A V hw h8) (k0_pay42 γ) >>= fun _ => j9 γ w19 w20 A V hw else j9 γ w19 w20 A V hw

/-- A group's turn, its rows' number in hand. -/
def j7 (γ : F .f32) (w19 : Fin k0_t19_loop.trips) (w20 : Fin k0_t20_loop.trips) (A : BitVec 32) (V : Elt F .i32) (hw : k0_chk31 A V) : Prog (TpuEff nD τ sig (Elt F) Λ₀ .tc) (Elt F .i32) :=
  if h7 : k0_cond7 A V = 1#1 then owait (k0_off43 A) (k0_off43_inb A V hw h7) (k0_off44 A) (k0_off44_inb A V hw h7) >>= fun _ => j8 γ w19 w20 A V hw else j8 γ w19 w20 A V hw

set_option maxHeartbeats 2000000 in
theorem part14_prog (γ : F .f32) (w19) (w13 : BitVec 32) (w20) (A : BitVec 32) :
    k0_part14 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w13 0#32 1#32 w20 A = (do
      let v : Elt F .i32 ← smemLoad a10 (Rect.unit (s := S5x6) (k0_off42 w20) S1x1.size (k0_off42_inb w20)) numel1_S1x1 rfl
      have hw : k0_chk31 A v := (← Prog.lift (TpuEff.assume (k0_chk31 A v) (k0_chk31.dec A v))).down
      j7 γ w19 w20 A v hw) := by
  rw [k0_part14_eq_skeleton]
  unfold k0_part14_skel
  rfl

/-- What a turn carries besides its slot. -/
def MR (c : Dev nD) (g : Fin 6 → BitVec 32) (PG : Fin 6 × Fin 40 → (S6x5120x1536.Idx → Elt F .f32) → Prop) (t e n : ℕ) (k : Fin 4) : sProp 𝕄 :=
  iprop(semVal ((c : Thread nD τ), SemLoc.dma (ocell k)) 0 ∗ Opn c g PG t e n k ∗ (∃ W, owes (c : Thread nD τ) 0 W))

theorem j12_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : kt g e ≠ 0) :
    iprop((Ops c g x3 x4 t.val ∗ SlotIs c k (outT g x3 x4 γ e t.val)) ∗ MR c g PG t.val e.val n k) ⊢ WP c (j12 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have o77 := off77_eq ⟨n, by omega⟩
  have o79 := off79_eq ⟨n, by omega⟩
  unfold j12 MR TS SlotIs
  refine wp_dif_pos ((cond12_eq ⟨kt g e, hK⟩).2 (Nat.pos_of_ne_zero h0)) ?_
  iintro ⟨⟨HO, %f8, %hf, H8⟩, Hs, Hop, How⟩
  ihave Hop := (opn_issue c g PG t.val t.isLt e h0 n k hkn) $$ Hop
  icases Hop with ⟨Hb, Hcl⟩
  iapply (wp_seq (oissue_step c g PG k e t h0 f8 (fun fd => hPG e t k f8 fd h0 hf) _ _ _ _ _ _
    (by rw [hkn]; exact o77) (by rw [← he, ← h19]; exact off78_eq w19 w20) (by rw [hkn]; exact o79))
    (R := iprop(Ops c g x3 x4 t.val ∗ (busy c g PG k (e, ⟨t.val, by omega⟩) -∗ Inv c g PG t.val (e.val + 1) (n + 1)) ∗ (∃ W, owes (c : Thread nD τ) 0 W))) ?_) $$ [Hs H8 Hb HO Hcl How]
  · iintro ⟨Hb, HO, Hcl, How⟩
    unfold WP
    rw [show (pure (T g 0 e) : Prog (TpuEff nD τ sig (Elt F) Λ₀ .tc) (Elt F .i32)) = Prog.ret (T g 0 e) from rfl]
    sl_step
    isplitr; · ipureintro; rfl
    isplitl [HO]; · iexact HO
    isplitl [Hb Hcl]
    · iapply Hcl; iexact Hb
    iexact How
  · isplitl [Hs H8 Hb]
    · isplitl [Hs]; · iexact Hs
      isplitl [H8]; · iexact H8
      iexact Hb
    isplitl [HO]; · iexact HO
    isplitl [Hcl]; · iexact Hcl
    iexact How

theorem j11_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h3 : 3 < kt g e) :
    iprop((Ops c g x3 x4 t.val ∗ (∃ f8, slotAt c k f8)) ∗ MR c g PG t.val e.val n k) ⊢ WP c (j11 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have o64 := off64_eq ⟨n, by omega⟩
  have h12 := j12_step c hok PG x3 x4 γ hPG t w19 h19 e w20 he n hn k hkn hw (by omega)
  have hc := (cond11_eq ⟨kt g e, hK⟩).2 h3
  have h13 := part13_step c hok x3 x4 t.val γ e w20 he n (by omega) k hkn (BitVec.ofNat 32 n) rfl (Scf.iv 0#32 1#32 w20) (T g 0 e) rfl hw (slotW (BitVec.ofNat 32 n)) hc h3
  unfold j11
  refine wp_dif_pos hc ?_
  unfold WP at *
  rw [wp_bind]
  refine BIBase.Entails.trans (BIClass.sep_mono h13 .rfl) ?_
  refine BIBase.Entails.trans (wp_frame_r _ _ _) ?_
  refine wp_mono _ _ _ fun r => ?_
  iintro ⟨⟨%hr, HO, %f8, H8⟩, HR⟩
  subst hr
  have hv : outT g x3 x4 γ e t.val = k0_pay45 (k0_pay40 (acc g x3 x4 e t.val (kt g e - 3))) (k0_pay41 γ) := by
    unfold outT; rw [if_neg (by omega), if_neg (by omega), if_neg (by omega)]
  rw [hv] at h12
  have hst := sstore_bind c k f8 (k0_off64 (BitVec.ofNat 32 n)) (k0_off64_inb (BitVec.ofNat 32 n) (T g 0 e) hw hc) (by rw [hkn]; exact o64) (k0_pay45 (k0_pay40 (acc g x3 x4 e t.val (kt g e - 3))) (k0_pay41 γ))
    (fun _ => j12 (F := F) γ w19 w20 (BitVec.ofNat 32 n) (T g 0 e) hw) (fun r => iprop(⌜r = T g 0 e⌝ ∗ TS c g PG x3 x4 t.val (e.val + 1) (n + 1)))
    (iprop(Ops c g x3 x4 t.val ∗ MR c g PG t.val e.val n k)) (by
      unfold WP
      refine BIBase.Entails.trans ?_ h12
      iintro ⟨Ha, Hb, Hc⟩
      isplitl [Ha Hb]
      · isplitl [Hb]; · iexact Hb
        iexact Ha
      iexact Hc)
  have hld := sload_bind c k f8 (k0_off64 (BitVec.ofNat 32 n)) (k0_off64_inb (BitVec.ofNat 32 n) (T g 0 e) hw hc) (by rw [hkn]; exact o64)
    (fun _ => (Prog.lift (.store a8 (Rect.unit (s := S4x512x1536) (k0_off64 (BitVec.ofNat 32 n)) S1x512x1536.size (k0_off64_inb (BitVec.ofNat 32 n) (T g 0 e) hw hc)) (k0_pay45 (k0_pay40 (acc g x3 x4 e t.val (kt g e - 3))) (k0_pay41 γ)) Finset.univ (View.stores_vmem_bits_univ h_S1x512x1536 rfl) (.inl rfl)) :
      Prog (TpuEff nD τ sig (Elt F) Λ₀ .tc) PUnit) >>= fun _ => j12 (F := F) γ w19 w20 (BitVec.ofNat 32 n) (T g 0 e) hw) _ _ hst
  unfold WP at hld
  iapply hld
  isplitl [H8]; · iexact H8
  isplitl [HO]; · iexact HO
  iexact HR

theorem j10_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : 3 ≤ kt g e) :
    iprop((Ops c g x3 x4 t.val ∗ (∃ f8, slotAt c k f8)) ∗ MR c g PG t.val e.val n k) ⊢ WP c (j10 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have hG : g0 g e.val < 11 := by have := g0_le hok e; omega
  have hS : sl g e.val < 12 := by have := sl_kt hok e; omega
  unfold j10
  by_cases hc : kt g e = 3
  · have hc' := (cond10_eq ⟨kt g e, hK⟩).2 hc
    have h12 := j12_step c hok PG x3 x4 γ hPG t w19 h19 e w20 he n hn k hkn hw (by omega)
    have hv : outT g x3 x4 γ e t.val = k0_pay44 γ (lhsV 768 x3 (128 * g0 g e.val) t.val) (rhsV 768 g x4 e 0) := by
      unfold outT; rw [if_neg (by omega), if_neg (by omega), if_pos hc]
    rw [hv] at h12
    have o56 := off56_eq ⟨g0 g e.val, hG⟩
    have o58 := off58_eq ⟨sl g e.val, hS⟩
    have o59 := off59_eq ⟨n, by omega⟩
    refine wp_dif_pos hc' ?_
    refine wp_seq (work_step c g x3 x4 t.val e k 768 _ _ _ _ _ _ _ _ _ _ _ _ _ _ _ _ _ (128 * g0 g e.val) 0
        (by rw [← he]; exact off55_eq w20) (chk36_all ⟨kt g e, hK⟩ ⟨g0 g e.val, hG⟩ (g0_kt hok e)) o56
        (by rw [← he]; exact off57_eq w20) (chk37_all ⟨kt g e, hK⟩ ⟨sl g e.val, hS⟩ (sl_kt hok e)) o58 (by omega) (by rw [hkn]; exact o59)) ?_
    unfold j11
    refine wp_dif_neg (fun hh => absurd ((cond11_eq ⟨kt g e, hK⟩).1 hh) (by show ¬ (3 < kt g e); omega)) ?_
    exact h12
  · refine wp_dif_neg (fun hh => absurd ((cond10_eq ⟨kt g e, hK⟩).1 hh) (by show ¬ (kt g e = 3); omega)) ?_
    exact j11_step c hok PG x3 x4 γ hPG t w19 h19 e w20 he n hn k hkn hw (by omega)

theorem j9_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : 2 ≤ kt g e) :
    iprop((Ops c g x3 x4 t.val ∗ (∃ f8, slotAt c k f8)) ∗ MR c g PG t.val e.val n k) ⊢ WP c (j9 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have hG : g0 g e.val < 11 := by have := g0_le hok e; omega
  have hS : sl g e.val < 12 := by have := sl_kt hok e; omega
  unfold j9
  by_cases hc : kt g e = 2
  · have hc' := (cond9_eq ⟨kt g e, hK⟩).2 hc
    have h12 := j12_step c hok PG x3 x4 γ hPG t w19 h19 e w20 he n hn k hkn hw (by omega)
    have hv : outT g x3 x4 γ e t.val = k0_pay43 γ (lhsV 512 x3 (128 * g0 g e.val) t.val) (rhsV 512 g x4 e 0) := by
      unfold outT; rw [if_neg (by omega), if_pos hc]
    rw [hv] at h12
    have o51 := off51_eq ⟨g0 g e.val, hG⟩
    have o53 := off53_eq ⟨sl g e.val, hS⟩
    have o54 := off54_eq ⟨n, by omega⟩
    refine wp_dif_pos hc' ?_
    refine wp_seq (work_step c g x3 x4 t.val e k 512 _ _ _ _ _ _ _ _ _ _ _ _ _ _ _ _ _ (128 * g0 g e.val) 0
        (by rw [← he]; exact off50_eq w20) (chk34_all ⟨kt g e, hK⟩ ⟨g0 g e.val, hG⟩ (g0_kt hok e)) o51
        (by rw [← he]; exact off52_eq w20) (chk35_all ⟨kt g e, hK⟩ ⟨sl g e.val, hS⟩ (sl_kt hok e)) o53 (by omega) (by rw [hkn]; exact o54)) ?_
    unfold j10
    refine wp_dif_neg (fun hh => absurd ((cond10_eq ⟨kt g e, hK⟩).1 hh) (by show ¬ (kt g e = 3); omega)) ?_
    unfold j11
    refine wp_dif_neg (fun hh => absurd ((cond11_eq ⟨kt g e, hK⟩).1 hh) (by show ¬ (3 < kt g e); omega)) ?_
    exact h12
  · refine wp_dif_neg (fun hh => absurd ((cond9_eq ⟨kt g e, hK⟩).1 hh) (by show ¬ (kt g e = 2); omega)) ?_
    exact j10_step c hok PG x3 x4 γ hPG t w19 h19 e w20 he n hn k hkn hw (by omega)

theorem j8_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : 1 ≤ kt g e) :
    iprop((Ops c g x3 x4 t.val ∗ (∃ f8, slotAt c k f8)) ∗ MR c g PG t.val e.val n k) ⊢ WP c (j8 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have hG : g0 g e.val < 11 := by have := g0_le hok e; omega
  have hS : sl g e.val < 12 := by have := sl_kt hok e; omega
  unfold j8
  by_cases hc : kt g e = 1
  · have hc' := (cond8_eq ⟨kt g e, hK⟩).2 hc
    have h12 := j12_step c hok PG x3 x4 γ hPG t w19 h19 e w20 he n hn k hkn hw (by omega)
    have hv : outT g x3 x4 γ e t.val = k0_pay42 γ (lhsV 256 x3 (128 * g0 g e.val) t.val) (rhsV 256 g x4 e 0) := by
      unfold outT; rw [if_pos hc]
    rw [hv] at h12
    have o46 := off46_eq ⟨g0 g e.val, hG⟩
    have o48 := off48_eq ⟨sl g e.val, hS⟩
    have o49 := off49_eq ⟨n, by omega⟩
    refine wp_dif_pos hc' ?_
    refine wp_seq (work_step c g x3 x4 t.val e k 256 _ _ _ _ _ _ _ _ _ _ _ _ _ _ _ _ _ (128 * g0 g e.val) 0
        (by rw [← he]; exact off45_eq w20) (chk32_all ⟨kt g e, hK⟩ ⟨g0 g e.val, hG⟩ (g0_kt hok e)) o46
        (by rw [← he]; exact off47_eq w20) (chk33_all ⟨kt g e, hK⟩ ⟨sl g e.val, hS⟩ (sl_kt hok e)) o48 (by omega) (by rw [hkn]; exact o49)) ?_
    unfold j9
    refine wp_dif_neg (fun hh => absurd ((cond9_eq ⟨kt g e, hK⟩).1 hh) (by show ¬ (kt g e = 2); omega)) ?_
    unfold j10
    refine wp_dif_neg (fun hh => absurd ((cond10_eq ⟨kt g e, hK⟩).1 hh) (by show ¬ (kt g e = 3); omega)) ?_
    unfold j11
    refine wp_dif_neg (fun hh => absurd ((cond11_eq ⟨kt g e, hK⟩).1 hh) (by show ¬ (3 < kt g e); omega)) ?_
    exact h12
  · refine wp_dif_neg (fun hh => absurd ((cond8_eq ⟨kt g e, hK⟩).1 hh) (by show ¬ (kt g e = 1); omega)) ?_
    exact j9_step c hok PG x3 x4 γ hPG t w19 h19 e w20 he n hn k hkn hw (by omega)

theorem j7_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : kt g e ≠ 0) :
    TS c g PG x3 x4 t.val e.val n ⊢ WP c (j7 (F := F) γ w19 w20 (BitVec.ofNat 32 n) (T g 0 e) hw)
      (fun r => iprop(⌜r = T g 0 e⌝ ∗ TS c g PG x3 x4 t.val (e.val + 1) (n + 1))) := by
  have hK : kt g e < 7 := by have := kt_le hok e; omega
  have o43 := off43_eq ⟨n, by omega⟩
  have o44 := off44_eq ⟨n, by omega⟩
  have h8 := j8_step c hok PG x3 x4 γ hPG t w19 h19 e w20 he n hn k hkn hw (by omega)
  unfold j7
  by_cases h4 : 4 ≤ n
  · refine wp_dif_pos ((cond7_eq ⟨n, by omega⟩ ⟨kt g e, hK⟩).2 ⟨Nat.pos_of_ne_zero h0, h4⟩) ?_
    unfold TS
    iintro ⟨HO, HI, How⟩
    ihave HI := (inv_busy c g PG t.val e.val n k (by omega)) $$ HI
    icases HI with ⟨%p, Hb, Hcl⟩
    iapply (wp_seq (owait_step c g PG k p _ _ _ _ (by rw [hkn]; exact o43) (by rw [hkn]; exact o44))
      (R := iprop(Ops c g x3 x4 t.val ∗ ((idle c k ∗ fin c g PG p) -∗ (idle c k ∗ Opn c g PG t.val e.val n k)))) ?_) $$ [HO Hb Hcl How]
    · refine BIBase.Entails.trans ?_ h8
      unfold MR
      iintro ⟨⟨Hi, Hf, How⟩, HO, Hcl⟩
      ihave Hx := Hcl $$ [Hi Hf]
      · isplitl [Hi]; · iexact Hi
        iexact Hf
      icases Hx with ⟨Hi, Hop⟩
      unfold idle
      icases Hi with ⟨Hs, H8⟩
      isplitl [HO H8]
      · isplitl [HO]; · iexact HO
        iexact H8
      isplitl [Hs]; · iexact Hs
      isplitl [Hop]; · iexact Hop
      iexact How
    · isplitl [Hb How]
      · isplitl [Hb]; · iexact Hb
        iexact How
      isplitl [HO]; · iexact HO
      iexact Hcl
  · refine wp_dif_neg (fun hh => h4 ((cond7_eq ⟨n, by omega⟩ ⟨kt g e, hK⟩).1 hh).2) ?_
    refine BIBase.Entails.trans ?_ h8
    unfold TS MR
    iintro ⟨HO, HI, How⟩
    ihave HI := (inv_free c g PG t.val e.val n k (by omega)) $$ HI
    unfold idle
    icases HI with ⟨⟨Hs, H8⟩, Hop⟩
    isplitl [HO H8]
    · isplitl [HO]; · iexact HO
      iexact H8
    isplitl [Hs]; · iexact Hs
    isplitl [Hop]; · iexact Hop
    iexact How

theorem j7_skip (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63) (k : Fin 4) (hkn : k.val = n % 4) (hw) (h0 : kt g e = 0) :
    TS c g PG x3 x4 t.val e.val n ⊢ WP c (j7 (F := F) γ w19 w20 (BitVec.ofNat 32 n) (T g 0 e) hw)
      (fun r => iprop(⌜r = T g 0 e⌝ ∗ TS c g PG x3 x4 t.val (e.val + 1) n)) := by
  have hK : kt g e < 7 := by have := kt_le hok e; omega
  unfold j7
  refine wp_dif_neg (fun hh => absurd ((cond7_eq ⟨n, by omega⟩ ⟨kt g e, hK⟩).1 hh).1 (by show ¬ (0 < kt g e); omega)) ?_
  unfold j8
  refine wp_dif_neg (fun hh => absurd ((cond8_eq ⟨kt g e, hK⟩).1 hh) (by show ¬ (kt g e = 1); omega)) ?_
  unfold j9
  refine wp_dif_neg (fun hh => absurd ((cond9_eq ⟨kt g e, hK⟩).1 hh) (by show ¬ (kt g e = 2); omega)) ?_
  unfold j10
  refine wp_dif_neg (fun hh => absurd ((cond10_eq ⟨kt g e, hK⟩).1 hh) (by show ¬ (kt g e = 3); omega)) ?_
  unfold j11
  refine wp_dif_neg (fun hh => absurd ((cond11_eq ⟨kt g e, hK⟩).1 hh) (by show ¬ (3 < kt g e); omega)) ?_
  unfold j12
  refine wp_dif_neg (fun hh => absurd ((cond12_eq ⟨kt g e, hK⟩).1 hh) (by show ¬ (0 < kt g e); omega)) ?_
  unfold WP TS
  rw [show (pure (T g 0 e) : Prog (TpuEff nD τ sig (Elt F) Λ₀ .tc) (Elt F .i32)) = Prog.ret (T g 0 e) from rfl]
  iintro ⟨HO, HI, How⟩
  sl_step
  isplitr; · ipureintro; rfl
  isplitl [HO]; · iexact HO
  isplitl [HI]
  · iapply (inv_skip c g PG t.val e h0 n); iexact HI
  iexact How

theorem part14_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ))
    (t : Fin 10) (w19 : Fin k0_t19_loop.trips) (h19 : w19.val = t.val)
    (e : Fin 6) (w20 : Fin k0_t20_loop.trips) (he : w20.val = e.val) (n : ℕ) (hn : n < 63)  (w13 : BitVec 32) (A : BitVec 32) (hA : A = BitVec.ofNat 32 n) :
    TS c g PG x3 x4 t.val e.val n ⊢ WP c (k0_part14 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w13 0#32 1#32 w20 A)
      (fun r => iprop(⌜r = T g 0 e⌝ ∗ TS c g PG x3 x4 t.val (e.val + 1) (n + if kt g e = 0 then 0 else 1))) := by
  subst hA
  have hK : kt g e < 7 := by have := kt_le hok e; omega
  have hch : k0_chk31 (BitVec.ofNat 32 n) (T g 0 e) := chk31_all ⟨n, by omega⟩ ⟨kt g e, hK⟩
  have h7 : TS c g PG x3 x4 t.val e.val n ⊢ WP c (j7 (F := F) γ w19 w20 (BitVec.ofNat 32 n) (T g 0 e) hch)
      (fun r => iprop(⌜r = T g 0 e⌝ ∗ TS c g PG x3 x4 t.val (e.val + 1) (n + if kt g e = 0 then 0 else 1))) := by
    by_cases h0 : kt g e = 0
    · rw [if_pos h0]
      exact j7_skip c hok PG x3 x4 γ hPG t w19 h19 e w20 he n hn ⟨n % 4, Nat.mod_lt _ (by decide)⟩ rfl hch h0
    · rw [if_neg h0]
      exact j7_step c hok PG x3 x4 γ hPG t w19 h19 e w20 he n hn ⟨n % 4, Nat.mod_lt _ (by decide)⟩ rfl hch h0
  rw [part14_prog]
  have key := tab_bind c g 0 e (k0_off42 w20) (k0_off42_inb w20) (by rw [← he]; exact off42_eq w20) (k0_chk31 (BitVec.ofNat 32 n)) (k0_chk31.dec (BitVec.ofNat 32 n)) hch
    (fun v hw => j7 (F := F) γ w19 w20 (BitVec.ofNat 32 n) v hw) (fun r => iprop(⌜r = T g 0 e⌝ ∗ TS c g PG x3 x4 t.val (e.val + 1) (n + if kt g e = 0 then 0 else 1)))
    (iprop((∃ f7, ⌜PX x3 t.val f7⌝ ∗ (a7.view.loc (c : Thread nD τ) ↦{fullShare} f7)) ∗ (∃ f6, ⌜Rf g x4 6 0 f6⌝ ∗ (a6.view.loc (c : Thread nD τ) ↦{fullShare} f6))
     ∗ Inv c g PG t.val e.val n ∗ (∃ W, owes (c : Thread nD τ) 0 W))) (by
      refine BIBase.Entails.trans ?_ h7
      unfold TS Ops
      iintro ⟨H1, H2, H3, H4, H5⟩
      isplitl [H1 H2 H3]
      · isplitl [H1]; · iexact H1
        isplitl [H2]; · iexact H2
        iexact H3
      isplitl [H4]; · iexact H4
      iexact H5)
  refine BIBase.Entails.trans ?_ key
  unfold TS Ops
  iintro ⟨⟨H1, H2, H3⟩, H4, H5⟩
  isplitl [H1]; · iexact H1
  isplitl [H2]; · iexact H2
  isplitl [H3]; · iexact H3
  isplitl [H4]; · iexact H4
  iexact H5

end Cert.KernelIdeal.Hand

end
-- ==== Proof.KI.Tile.lean ====
module

public import proofs.«01_k».proof.Proof.KI.Turn
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

theorem pay46_apply (v : Vec F S128x512 .bf16) (x : S512x128.Idx) : k0_pay46 v x = v (ix2 (x 1) (x 0)) := by
  unfold k0_pay46
  dsimp only
  rw [shapeCast_self]
  exact transpose_apply _ v _ _ _ fun b => match b with | ⟨0, _⟩ => rfl | ⟨1, _⟩ => rfl

/-- The strip with its first `m` blocks of columns filled. -/
def PXc (x3 : S1408x5120.Idx → Elt F .bf16) (t m : ℕ) (f7 : S512x1536.Idx → Elt F .bf16) : Prop :=
  ∀ y : S512x1536.Idx, ((y 1).val < 128 * m ∨ 1408 ≤ (y 1).val) → a7.view.read (Elt F) f7 y = x3n x3 (y 1).val (512 * t + (y 0).val)

theorem PXc_next (x3 : S1408x5120.Idx → Elt F .bf16) (t t' : ℕ) (f7 : S512x1536.Idx → Elt F .bf16) (h : ∀ y : S512x1536.Idx, 1408 ≤ (y 1).val → a7.view.read (Elt F) f7 y = x3n x3 (y 1).val (512 * t + (y 0).val)) :
    PXc x3 t' 0 f7 := by
  intro y hy
  have h1 : 1408 ≤ (y 1).val := by omega
  rw [h y h1]
  unfold x3n
  rw [dif_neg (by omega), dif_neg (by omega)]

theorem PXc_cons (x3 : S1408x5120.Idx → Elt F .bf16) (t m : ℕ) (hm : m < 11) (f7 : S512x1536.Idx → Elt F .bf16) (L) (h : PXc x3 t m (a7.view.writes (Elt F) f7 L))
    (o : Fin 2 → ℕ) (inb) (ho : o = ![0, 128 * m]) (v : FVec F S512x128 .bf16) (hv : ∀ x : S512x128.Idx, v x = x3n x3 (128 * m + (x 1).val) (512 * t + (x 0).val)) :
    PXc x3 t (m + 1) (a7.view.writes (Elt F) f7 (⟨Rect.unit (s := S512x1536) o S512x128.size inb, v⟩ :: L)) := by
  intro y hy
  by_cases hc : 128 * m ≤ (y 1).val ∧ (y 1).val < 128 * m + 128
  · have h0 : (y 0).val < 512 := (y 0).isLt
    rw [View.read_writes_cons_unit_of_mem a7.view f7 inb v L y (ix2 ⟨(y 0).val, h0⟩ ⟨(y 1).val - 128 * m, by omega⟩) ho (by
      intro a; match a with
      | 0 => show (y 0).val = 0 + (y 0).val; omega
      | 1 => show (y 1).val = 128 * m + ((y 1).val - 128 * m); omega), hv]
    congr 1
    show 128 * m + ((y 1).val - 128 * m) = _; omega
  · rw [View.read_writes_cons_unit_of_not_mem a7.view f7 inb v L y ho 1 (by
      show (y 1).val < 128 * m ∨ 128 * m + 128 ≤ (y 1).val; omega)]
    exact h y (by omega)

theorem col_val (x3 : S1408x5120.Idx → Elt F .bf16) (t m : ℕ) (ht : t < 10) (hm : m < 11) (o : Fin 2 → ℕ) (inb) (ho : o = ![128 * m, 512 * t]) (x : S512x128.Idx) :
    k0_pay46 (View.readAt (Elt F) a3.view (Rect.unit (s := S1408x5120) o S128x512.size inb).toLoadRect x3) x = x3n x3 (128 * m + (x 1).val) (512 * t + (x 0).val) := by
  subst ho
  rw [pay46_apply]
  have h0 : (x 0).val < 512 := (x 0).isLt
  have h1 : (x 1).val < 128 := (x 1).isLt
  unfold x3n
  rw [dif_pos ⟨by omega, by omega⟩]
  show x3 _ = x3 _
  congr 1
  funext a
  apply Fin.ext
  match a with
  | 0 => show 128 * m + 1 * (x 1).val = 128 * m + (x 1).val; omega
  | 1 => show 512 * t + 1 * (x 0).val = 512 * t + (x 0).val; omega

theorem off31_eq : ∀ t : Fin k0_t19_loop.trips, k0_off31 t = ![0, 512 * t.val] := by decide +kernel
theorem off32_eq : ∀ t : Fin k0_t19_loop.trips, k0_off32 t = ![128, 512 * t.val] := by decide +kernel
theorem off33_eq : ∀ t : Fin k0_t19_loop.trips, k0_off33 t = ![256, 512 * t.val] := by decide +kernel
theorem off34_eq : ∀ t : Fin k0_t19_loop.trips, k0_off34 t = ![384, 512 * t.val] := by decide +kernel
theorem off35_eq : ∀ t : Fin k0_t19_loop.trips, k0_off35 t = ![512, 512 * t.val] := by decide +kernel
theorem off36_eq : ∀ t : Fin k0_t19_loop.trips, k0_off36 t = ![640, 512 * t.val] := by decide +kernel
theorem off37_eq : ∀ t : Fin k0_t19_loop.trips, k0_off37 t = ![768, 512 * t.val] := by decide +kernel
theorem off38_eq : ∀ t : Fin k0_t19_loop.trips, k0_off38 t = ![896, 512 * t.val] := by decide +kernel
theorem off39_eq : ∀ t : Fin k0_t19_loop.trips, k0_off39 t = ![1024, 512 * t.val] := by decide +kernel
theorem off40_eq : ∀ t : Fin k0_t19_loop.trips, k0_off40 t = ![1152, 512 * t.val] := by decide +kernel
theorem off41_eq : ∀ t : Fin k0_t19_loop.trips, k0_off41 t = ![1280, 512 * t.val] := by decide +kernel

/-- The strip and the first operand, `m` blocks of columns filled. -/
def CS (c : Dev nD) (x3 : S1408x5120.Idx → Elt F .bf16) (t m : ℕ) : sProp 𝕄 :=
  iprop((a3.view.loc (c : Thread nD τ) ↦{fullShare} x3) ∗ (∃ f7, ⌜PXc x3 t m f7⌝ ∗ (a7.view.loc (c : Thread nD τ) ↦{fullShare} f7)))

theorem part15_step (c : Dev nD) (x3 : S1408x5120.Idx → Elt F .bf16) (t : ℕ) (ht : t < 10) (w19 : Fin k0_t19_loop.trips) (h19 : w19.val = t) :
    CS c x3 t 0 ⊢ WP c (k0_part15 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 0#32 1#32 w19)
      (fun r => iprop(⌜∀ x, k0_pay52 r.2.2 x = x3n x3 (128 * 5 + (x 1).val) (512 * t + (x 0).val)⌝ ∗ CS c x3 t 5)) := by
  subst h19
  rw [k0_part15_eq_skeleton]
  unfold k0_part15_skel CS
  iintro ⟨H3, %f7, %hf, H7⟩
  unfold WP
  sl_exec
  sl_step
  isplitr
  · ipureintro
    exact col_val x3 w19.val 5 ht (by omega) _ _ (off36_eq w19)
  isplitl [H3]; · iexact H3
  iexists _
  isplitr
  rotate_left
  · iexact H7
  · ipureintro
    refine PXc_cons x3 w19.val 4 (by omega) f7 _ ?_ _ _ rfl _ (col_val x3 w19.val 4 ht (by omega) _ _ (off35_eq w19))
    refine PXc_cons x3 w19.val 3 (by omega) f7 _ ?_ _ _ rfl _ (col_val x3 w19.val 3 ht (by omega) _ _ (off34_eq w19))
    refine PXc_cons x3 w19.val 2 (by omega) f7 _ ?_ _ _ rfl _ (col_val x3 w19.val 2 ht (by omega) _ _ (off33_eq w19))
    refine PXc_cons x3 w19.val 1 (by omega) f7 _ ?_ _ _ rfl _ (col_val x3 w19.val 1 ht (by omega) _ _ (off32_eq w19))
    refine PXc_cons x3 w19.val 0 (by omega) f7 _ ?_ _ _ rfl _ (col_val x3 w19.val 0 ht (by omega) _ _ (off31_eq w19))
    exact hf

/-- The second half of a strip's transposition. -/
def col16 (w19 : Fin k0_t19_loop.trips) (v668 : FVec F S512x128 .bf16) : Prog (TpuEff nD τ sig (Elt F) Λ₀ .tc) PUnit := do
  let _ : Vec F S512x128 .bf16 ← Prog.lift (.load a7 (Rect.unit (s := S512x1536) ![0, 640] S512x128.size inb_S512x1536_S512x128_0_640).toLoadRect (View.loadsAt_vmem h_S512x128))
  Prog.lift (.store a7 (Rect.unit (s := S512x1536) ![0, 640] S512x128.size inb_S512x1536_S512x128_0_640) (k0_pay52 v668) Finset.univ (View.stores_vmem h_S512x128 ((isWhole_whole _).storeExact_slice rfl _ packedbf16_S512x1536_S512x128_0_640) (fun _ => rfl)) (.inl rfl))
  let v6 : Vec F S128x512 .bf16 ← Prog.lift (.load a3 (Rect.unit (s := S1408x5120) (k0_off37 w19) S128x512.size (k0_off37_inb w19)).toLoadRect (View.loadsAt_vmem h_S128x512))
  let _ : Vec F S512x128 .bf16 ← Prog.lift (.load a7 (Rect.unit (s := S512x1536) ![0, 768] S512x128.size inb_S512x1536_S512x128_0_768).toLoadRect (View.loadsAt_vmem h_S512x128))
  Prog.lift (.store a7 (Rect.unit (s := S512x1536) ![0, 768] S512x128.size inb_S512x1536_S512x128_0_768) (k0_pay53 v6) Finset.univ (View.stores_vmem h_S512x128 ((isWhole_whole _).storeExact_slice rfl _ packedbf16_S512x1536_S512x128_0_768) (fun _ => rfl)) (.inl rfl))
  let v7 : Vec F S128x512 .bf16 ← Prog.lift (.load a3 (Rect.unit (s := S1408x5120) (k0_off38 w19) S128x512.size (k0_off38_inb w19)).toLoadRect (View.loadsAt_vmem h_S128x512))
  let _ : Vec F S512x128 .bf16 ← Prog.lift (.load a7 (Rect.unit (s := S512x1536) ![0, 896] S512x128.size inb_S512x1536_S512x128_0_896).toLoadRect (View.loadsAt_vmem h_S512x128))
  Prog.lift (.store a7 (Rect.unit (s := S512x1536) ![0, 896] S512x128.size inb_S512x1536_S512x128_0_896) (k0_pay54 v7) Finset.univ (View.stores_vmem h_S512x128 ((isWhole_whole _).storeExact_slice rfl _ packedbf16_S512x1536_S512x128_0_896) (fun _ => rfl)) (.inl rfl))
  let v8 : Vec F S128x512 .bf16 ← Prog.lift (.load a3 (Rect.unit (s := S1408x5120) (k0_off39 w19) S128x512.size (k0_off39_inb w19)).toLoadRect (View.loadsAt_vmem h_S128x512))
  let _ : Vec F S512x128 .bf16 ← Prog.lift (.load a7 (Rect.unit (s := S512x1536) ![0, 1024] S512x128.size inb_S512x1536_S512x128_0_1024).toLoadRect (View.loadsAt_vmem h_S512x128))
  Prog.lift (.store a7 (Rect.unit (s := S512x1536) ![0, 1024] S512x128.size inb_S512x1536_S512x128_0_1024) (k0_pay55 v8) Finset.univ (View.stores_vmem h_S512x128 ((isWhole_whole _).storeExact_slice rfl _ packedbf16_S512x1536_S512x128_0_1024) (fun _ => rfl)) (.inl rfl))
  let v9 : Vec F S128x512 .bf16 ← Prog.lift (.load a3 (Rect.unit (s := S1408x5120) (k0_off40 w19) S128x512.size (k0_off40_inb w19)).toLoadRect (View.loadsAt_vmem h_S128x512))
  let _ : Vec F S512x128 .bf16 ← Prog.lift (.load a7 (Rect.unit (s := S512x1536) ![0, 1152] S512x128.size inb_S512x1536_S512x128_0_1152).toLoadRect (View.loadsAt_vmem h_S512x128))
  Prog.lift (.store a7 (Rect.unit (s := S512x1536) ![0, 1152] S512x128.size inb_S512x1536_S512x128_0_1152) (k0_pay56 v9) Finset.univ (View.stores_vmem h_S512x128 ((isWhole_whole _).storeExact_slice rfl _ packedbf16_S512x1536_S512x128_0_1152) (fun _ => rfl)) (.inl rfl))
  let v10 : Vec F S128x512 .bf16 ← Prog.lift (.load a3 (Rect.unit (s := S1408x5120) (k0_off41 w19) S128x512.size (k0_off41_inb w19)).toLoadRect (View.loadsAt_vmem h_S128x512))
  let _ : Vec F S512x128 .bf16 ← Prog.lift (.load a7 (Rect.unit (s := S512x1536) ![0, 1280] S512x128.size inb_S512x1536_S512x128_0_1280).toLoadRect (View.loadsAt_vmem h_S512x128))
  Prog.lift (.store a7 (Rect.unit (s := S512x1536) ![0, 1280] S512x128.size inb_S512x1536_S512x128_0_1280) (k0_pay57 v10) Finset.univ (View.stores_vmem h_S512x128 ((isWhole_whole _).storeExact_slice rfl _ packedbf16_S512x1536_S512x128_0_1280) (fun _ => rfl)) (.inl rfl))
  pure ⟨⟩

theorem col16_step (c : Dev nD) (x3 : S1408x5120.Idx → Elt F .bf16) (t : ℕ) (ht : t < 10) (w19 : Fin k0_t19_loop.trips) (h19 : w19.val = t) (v668 : FVec F S512x128 .bf16)
    (hv : ∀ x, k0_pay52 v668 x = x3n x3 (128 * 5 + (x 1).val) (512 * t + (x 0).val)) :
    CS c x3 t 5 ⊢ WP c (col16 (F := F) w19 v668) (fun _ => CS c x3 t 11) := by
  subst h19
  unfold col16 CS
  iintro ⟨H3, %f7, %hf, H7⟩
  unfold WP
  sl_exec
  sl_step
  isplitl [H3]; · iexact H3
  iexists _
  isplitr
  rotate_left
  · iexact H7
  · ipureintro
    refine PXc_cons x3 w19.val 10 (by omega) f7 _ ?_ _ _ rfl _ (col_val x3 w19.val 10 ht (by omega) _ _ (off41_eq w19))
    refine PXc_cons x3 w19.val 9 (by omega) f7 _ ?_ _ _ rfl _ (col_val x3 w19.val 9 ht (by omega) _ _ (off40_eq w19))
    refine PXc_cons x3 w19.val 8 (by omega) f7 _ ?_ _ _ rfl _ (col_val x3 w19.val 8 ht (by omega) _ _ (off39_eq w19))
    refine PXc_cons x3 w19.val 7 (by omega) f7 _ ?_ _ _ rfl _ (col_val x3 w19.val 7 ht (by omega) _ _ (off38_eq w19))
    refine PXc_cons x3 w19.val 6 (by omega) f7 _ ?_ _ _ rfl _ (col_val x3 w19.val 6 ht (by omega) _ _ (off37_eq w19))
    refine PXc_cons x3 w19.val 5 (by omega) f7 _ ?_ _ _ rfl _ hv
    exact hf

theorem part16_prog (γ : F .f32) (w19) (w14 w13 w635 : BitVec 32) (v668) :
    k0_part16 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668 = (do
      col16 w19 v668
      Scf.Loop.for k0_t20_loop k0_t20_ok w14 (k0_t20_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668) >>= fun v : BitVec 32 => pure v) := by
  rw [k0_part16_eq_skeleton]; rfl

theorem wp_seq' {α β : Type} {c : Dev nD} {m : Prog (TpuEff nD τ sig (Elt F) Λ₀ .tc) α} {k : α → Prog (TpuEff nD τ sig (Elt F) Λ₀ .tc) β}
    {P R : sProp 𝕄} {P' : α → sProp 𝕄} {Q : β → sProp 𝕄} (hm : P ⊢ WP c m P') (hk : ∀ a, iprop(P' a ∗ R) ⊢ WP c (k a) Q) : iprop(P ∗ R) ⊢ WP c (m >>= k) Q := by
  unfold WP at *
  rw [wp_bind]
  refine BIBase.Entails.trans (BIClass.sep_mono hm .rfl) ?_
  refine BIBase.Entails.trans (wp_frame_r _ _ _) ?_
  exact wp_mono _ _ _ hk

/-- What a turn needs of the values: the copy out of a slot holding the block's product leaves the block as claimed. -/
def PGok (g : Fin 6 → BitVec 32) (PG : Fin 6 × Fin 40 → (S6x5120x1536.Idx → Elt F .f32) → Prop) (x3 : S1408x5120.Idx → Elt F .bf16) (x4 : S1408x1536.Idx → Elt F .bf16) (γ : F .f32) : Prop :=
  ∀ (e : Fin 6) (t : Fin 10) (k : Fin 4) (f8 : S4x512x1536.Idx → Elt F .f32) fd, kt g e ≠ 0 → rslot k f8 = outT g x3 x4 γ e t.val →
      PG (e, ⟨t.val, by omega⟩) ((oblk e t).view.write (Elt F) fd ((oslot k).view.read (Elt F) f8) Finset.univ)

theorem t20_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : PGok g PG x3 x4 γ) (t : Fin 10) (w19 : Fin k0_t19_loop.trips) (h19 : w19.val = t.val) (w14 w13 w635 : BitVec 32) (v668) (j : Fin k0_t20_loop.trips) (A : BitVec 32) :
    iprop(∃ n, ⌜A = BitVec.ofNat 32 n⌝ ∗ TS c g PG x3 x4 t.val j.val n) ⊢ WP c (k0_t20_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668 j A)
      (fun A' => iprop(∃ n, ⌜A' = BitVec.ofNat 32 n⌝ ∗ TS c g PG x3 x4 t.val (j.val + 1) n)) := by
  iintro ⟨%n, %hA, HT⟩
  have hj : j.val < 6 := lt_of_lt_of_eq j.isLt t20_trips
  ihave HT := (show TS c g PG x3 x4 t.val j.val n ⊢ iprop(⌜n ≤ 6 * t.val + j.val⌝ ∗ TS c g PG x3 x4 t.val j.val n) from by
    unfold TS
    iintro ⟨H1, H2, H3⟩
    ihave H2 := (inv_bound c g PG t.val j.val n) $$ H2
    icases H2 with ⟨%h, H2⟩
    isplitr; · ipureintro; exact h
    isplitl [H1]; · iexact H1
    isplitl [H2]; · iexact H2
    iexact H3) $$ HT
  icases HT with ⟨%hn, HT⟩
  have ht := t.isLt
  have hK : kt g ⟨j.val, hj⟩ < 7 := by have := kt_le hok ⟨j.val, hj⟩; omega
  have h14 := part14_step c hok PG x3 x4 γ hPG t w19 h19 ⟨j.val, hj⟩ j rfl n (by omega) w13 A hA
  unfold k0_t20_body WP
  rw [wp_bind]
  unfold WP at h14
  iapply (BIBase.Entails.trans h14 (wp_mono _ _ _ fun r => ?_)) $$ HT
  iintro ⟨%hr, HT⟩
  subst hr
  rw [show ∀ x : BitVec 32, (pure x : Prog (TpuEff nD τ sig (Elt F) Λ₀ .tc) (BitVec 32)) = Prog.ret x from fun _ => rfl]
  sl_step
  iexists _
  isplitr
  rotate_left
  · iexact HT
  · ipureintro
    rw [hA]
    exact next_eq ⟨n, by omega⟩ ⟨kt g ⟨j.val, hj⟩, hK⟩

/-- Before a strip. -/
def TS0 (c : Dev nD) (g : Fin 6 → BitVec 32) (PG : Fin 6 × Fin 40 → (S6x5120x1536.Idx → Elt F .f32) → Prop) (x3 : S1408x5120.Idx → Elt F .bf16) (x4 : S1408x1536.Idx → Elt F .bf16) (t n : ℕ) : sProp 𝕄 :=
  iprop(CS c x3 t 0 ∗ (Tab c g ∗ (∃ f6, ⌜Rf g x4 6 0 f6⌝ ∗ (a6.view.loc (c : Thread nD τ) ↦{fullShare} f6)) ∗ Inv c g PG t 0 n ∗ (∃ W, owes (c : Thread nD τ) 0 W)))

theorem CS_full (c : Dev nD) (x3 : S1408x5120.Idx → Elt F .bf16) (t : ℕ) : CS c x3 t 11 ⊢
    iprop((a3.view.loc (c : Thread nD τ) ↦{fullShare} x3) ∗ (∃ f7, ⌜PX x3 t f7⌝ ∗ (a7.view.loc (c : Thread nD τ) ↦{fullShare} f7))) := by
  unfold CS
  iintro ⟨H3, %f7, %hf, H7⟩
  isplitl [H3]; · iexact H3
  iexists f7
  isplitr
  · ipureintro; intro y; exact hf y (by omega)
  iexact H7

theorem TS_next (c : Dev nD) (g : Fin 6 → BitVec 32) (PG : Fin 6 × Fin 40 → (S6x5120x1536.Idx → Elt F .f32) → Prop) (x3 : S1408x5120.Idx → Elt F .bf16) (x4 : S1408x1536.Idx → Elt F .bf16) (t n : ℕ) :
    iprop((a3.view.loc (c : Thread nD τ) ↦{fullShare} x3) ∗ TS c g PG x3 x4 t 6 n) ⊢ TS0 c g PG x3 x4 (t + 1) n := by
  unfold TS TS0 Ops CS
  iintro ⟨H3, ⟨HT, ⟨%f7, %hf, H7⟩, H6⟩, HI, HW⟩
  isplitl [H3 H7]
  · isplitl [H3]; · iexact H3
    iexists f7
    isplitr
    · ipureintro; exact PXc_next x3 t (t + 1) f7 fun y _ => hf y
    iexact H7
  isplitl [HT]; · iexact HT
  isplitl [H6]; · iexact H6
  isplitl [HI]
  · iapply inv_row; iexact HI
  iexact HW

theorem part16_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ : F .f32)
    (hPG : PGok g PG x3 x4 γ) (t : Fin 10) (w19 : Fin k0_t19_loop.trips) (h19 : w19.val = t.val) (w14 w13 w635 : BitVec 32) (v668)
    (hv : ∀ x, k0_pay52 v668 x = x3n x3 (128 * 5 + (x 1).val) (512 * t.val + (x 0).val)) (n : ℕ) (hn : w14 = BitVec.ofNat 32 n) :
    iprop(CS c x3 t.val 5 ∗ (Tab c g ∗ (∃ f6, ⌜Rf g x4 6 0 f6⌝ ∗ (a6.view.loc (c : Thread nD τ) ↦{fullShare} f6)) ∗ Inv c g PG t.val 0 n ∗ (∃ W, owes (c : Thread nD τ) 0 W)))
      ⊢ WP c (k0_part16 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 γ w19 w14 w13 w635 v668) (fun A => iprop(∃ n', ⌜A = BitVec.ofNat 32 n'⌝ ∗ TS0 c g PG x3 x4 (t.val + 1) n')) := by
  rw [part16_prog]
  refine wp_seq (col16_step c x3 t.val t.isLt w19 h19 v668 hv) ?_
  iintro ⟨HC, HT, H6, HI, HW⟩
  ihave HC := (CS_full c x3 t.val) $$ HC
  icases HC with ⟨H3, H7⟩
  unfold WP
  rw [wp_bind]
  iapply (Scf.wp_for _ _ _ _ _ _ _ _ _ (fun j A => iprop(∃ n, ⌜A = BitVec.ofNat 32 n⌝ ∗ TS c g PG x3 x4 t.val j n)) (fun j A => t20_step c hok PG x3 x4 γ hPG t w19 h19 w14 w13 w635 v668 j A))
  isplitl [HT H6 HI HW H7]
  · iexists n
    isplitr; · ipureintro; exact hn
    unfold TS Ops
    isplitl [HT H7 H6]
    · isplitl [HT]; · iexact HT
      isplitl [H7]; · iexact H7
      iexact H6
    isplitl [HI]; · iexact HI
    iexact HW
  iintro %A ⟨%n', %hA, HT⟩
  rw [show ∀ x : BitVec 32, (pure x : Prog (TpuEff nD τ sig (Elt F) Λ₀ .tc) (BitVec 32)) = Prog.ret x from fun _ => rfl]
  sl_step
  iexists n'
  isplitr; · ipureintro; exact hA
  have h6 : Scf.trips k0_t20_loop.lb k0_t20_loop.ub k0_t20_loop.st = 6 := t20_trips
  rw [h6]
  iapply (TS_next c g PG x3 x4 t.val n')
  isplitl [H3]; · iexact H3
  iexact HT

theorem t19_step (c : Dev nD) {g : Fin 6 → BitVec 32} (hok : Ok g) (PG : Fin 6 × Fin 40 → (S6x5120x1536.Idx → Elt F .f32) → Prop) (x3 : S1408x5120.Idx → Elt F .bf16) (x4 : S1408x1536.Idx → Elt F .bf16) (γ1 γ2 : Elt F .f32)
    (hPG : PGok g PG x3 x4 (k0_pay71 γ1 γ2)) (v580 : Elt F .i32) (hw) (w1 w2 w3 w4 w588) (j : Fin k0_t19_loop.trips) (A : BitVec 32) :
    iprop(∃ n, ⌜A = BitVec.ofNat 32 n⌝ ∗ TS0 c g PG x3 x4 j.val n) ⊢ WP c (k0_t19_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 γ1 γ2 j A)
      (fun A' => iprop(∃ n, ⌜A' = BitVec.ofNat 32 n⌝ ∗ TS0 c g PG x3 x4 (j.val + 1) n)) := by
  have hj : j.val < 10 := lt_of_lt_of_eq j.isLt t19_trips
  iintro ⟨%n, %hA, HT⟩
  unfold k0_t19_body
  have key := wp_seq' (part15_step c x3 j.val hj j rfl)
    (R := iprop(Tab c g ∗ (∃ f6, ⌜Rf g x4 6 0 f6⌝ ∗ (a6.view.loc (c : Thread nD τ) ↦{fullShare} f6)) ∗ Inv c g PG j.val 0 n ∗ (∃ W, owes (c : Thread nD τ) 0 W)))
    (k := fun x => do
      let v703 : BitVec 32 ← k0_part16 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 (k0_pay71 γ1 γ2) j A x.1 x.2.1 x.2.2
      pure v703)
    (Q := fun A' => iprop(∃ n, ⌜A' = BitVec.ofNat 32 n⌝ ∗ TS0 c g PG x3 x4 (j.val + 1) n)) (fun x => by
      iintro ⟨⟨%hv, HC⟩, HR⟩
      iapply (part16_step c hok PG x3 x4 _ hPG ⟨j.val, hj⟩ j rfl A x.1 x.2.1 x.2.2 hv n hA)
      isplitl [HC]; · iexact HC
      iexact HR)
  unfold TS0
  unfold TS0 at key
  iapply key
  iexact HT

end Cert.KernelIdeal.Hand

end
-- ==== Proof.KI.Drain.lean ====
module

public import proofs.«01_k».proof.Proof.KI.Tile

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

section Drain
variable (c : Dev nD) (g : Fin 6 → BitVec 32) (PG : Fin 6 × Fin 40 → (S6x5120x1536.Idx → Elt F .f32) → Prop)

/-- The ring with its first `j` slots waited for, nothing left to produce. -/
def DI (n j : ℕ) : sProp 𝕄 :=
  iprop(∃ S st, ⌜RB g 10 0 n S st ∧ ∀ k : Fin 4, st k = none ↔ (n ≤ k.val ∨ k.val < j)⌝ ∗ AtP (blkΦ c g PG) S ∗ Ring.AtW (slotΦ c g PG) st)

theorem drain_start (n : ℕ) : Inv c g PG 10 0 n ⊢ DI c g PG n 0 := by
  unfold Inv DI
  iintro ⟨%S, %st, %h, HP, HW⟩
  iexists S; iexists st
  isplitr
  · ipureintro; exact ⟨h.1, fun k => by rw [h.2 k]; omega⟩
  isplitl [HP]; · iexact HP
  iexact HW

theorem drain_busy (n : ℕ) (k : Fin 4) (hk : k.val < n) :
    DI c g PG n k.val ⊢ iprop(∃ p, busy c g PG k p ∗ ((idle c k ∗ fin c g PG p) -∗ DI c g PG n (k.val + 1))) := by
  unfold DI
  iintro ⟨%S, %st, %h, HP, HW⟩
  ihave HW' := (Entails.of_eq (Ring.AtW_focus (slotΦ c g PG) st k)) $$ HW
  icases HW' with ⟨Hk, HW⟩
  have h0 : st k ≠ none := fun hn => by have := (h.2 k).1 hn; omega
  obtain ⟨p, hp⟩ := Option.ne_none_iff_exists'.mp h0
  ihave Hk := (show slotΦ c g PG k (st k) ⊢ busy c g PG k p from by rw [hp]; exact .rfl) $$ Hk
  iexists p
  isplitl [Hk]; · iexact Hk
  iintro ⟨Hi, Hf⟩
  iexists (Function.update S p .done); iexists (Function.update st k none)
  isplitr
  · ipureintro
    refine ⟨h.1.wait k p hp, fun k' => ?_⟩
    by_cases hkk : k' = k
    · subst hkk; rw [Function.update_self]; exact ⟨fun _ => .inr (by omega), fun _ => rfl⟩
    · rw [Function.update_of_ne hkk, h.2 k']
      have : k'.val ≠ k.val := fun hv => hkk (Fin.ext hv)
      omega
  isplitl [HP Hf]
  · iapply (AtP_update (blkΦ c g PG) S p .done)
    ihave HP' := (Entails.of_eq (AtP_focus (blkΦ c g PG) S p)) $$ HP
    icases HP' with ⟨-, HP⟩
    ihave Hf := (show fin c g PG p ⊢ blkΦ c g PG p .done from .rfl) $$ Hf
    isplitl [Hf]; · iexact Hf
    iexact HP
  iapply (Ring.AtW_update (slotΦ c g PG) st k none)
  ihave Hi := (show idle c k ⊢ slotΦ c g PG k none from .rfl) $$ Hi
  isplitl [Hi]; · iexact Hi
  iexact HW

theorem drain_end (n : ℕ) : DI c g PG n (min n 4) ⊢
    iprop((bigSep Finset.univ fun k : Fin 4 => idle (F := F) c k) ∗ bigSep (Finset.univ.filter fun p : Fin 6 × Fin 40 => ¬ kt g p.1 = 0) (fin c g PG)) := by
  unfold DI AtP Ring.AtW
  iintro ⟨%S, %st, %h, HP, HW⟩
  have hn : ∀ k : Fin 4, st k = none := fun k => (h.2 k).2 (by have := k.isLt; omega)
  isplitl [HW]
  · have hm : (bigSep Finset.univ fun k : Fin 4 => slotΦ c g PG k (st k)) ⊢ bigSep Finset.univ fun k : Fin 4 => idle (F := F) c k :=
      bigSep_mono fun k _ => by rw [hn k]; exact (show idle (F := F) c k ⊢ idle c k from .rfl)
    iapply hm; iexact HW
  · iapply (BIBase.Entails.trans (bigSep_subset (Finset.filter_subset _ _)) (bigSep_mono fun p hp => (by
      have hk := (Finset.mem_filter.1 hp).2
      have hS : S p = .done := by
        rcases hs : S p with _ | _ | _
        · have := (h.1.h4 p).1 hs; omega
        · obtain ⟨k, hk'⟩ := h.1.h3 p hk hs; rw [hn k] at hk'; cases hk'
        · rfl
      rw [hS]; exact BIBase.Entails.rfl : blkΦ c g PG p (S p) ⊢ fin c g PG p))) $$ HP

theorem inv_start (hP : ∀ p f, kt g p.1 ≠ 0 → 10 ≤ p.2.val → PG p f) :
    iprop((bigSep Finset.univ fun k : Fin 4 => idle (F := F) c k) ∗ bigSep (Finset.univ.filter fun p : Fin 6 × Fin 40 => ¬ kt g p.1 = 0) (own c g)) ⊢ Inv c g PG 0 0 0 := by
  have hb : bigSep (Finset.univ.filter fun p : Fin 6 × Fin 40 => ¬ kt g p.1 = 0) (own c g)
      ⊢ AtP (blkΦ c g PG) (fun p => if kt g p.1 = 0 then .away else if p.2.val < 10 then .todo else .done) := by
    unfold AtP
    rw [bigSep_filter]
    refine bigSep_mono fun p _ => ?_
    dsimp only
    by_cases hk : kt g p.1 = 0
    · rw [if_neg (not_not.2 hk), if_pos hk]
      show (BI.emp : sProp 𝕄) ⊢ iprop(⌜True⌝)
      iintro -
      ipureintro; trivial
    · rw [if_pos hk, if_neg hk]
      by_cases hj : p.2.val < 10
      · rw [if_pos hj]; exact (show own (F := F) c g p ⊢ own c g p from .rfl)
      · rw [if_neg hj]
        show own c g p ⊢ fin c g PG p
        unfold own fin
        iintro ⟨%f, Hf⟩
        iexists f
        isplitr; · ipureintro; exact hP p f hk (by omega)
        iexact Hf
  unfold Inv
  iintro ⟨HI, HB⟩
  iexists _; iexists (fun _ => none)
  isplitr
  rotate_left
  · isplitl [HB]
    · iapply hb; iexact HB
    · unfold Ring.AtW
      have hm : (bigSep Finset.univ fun k : Fin 4 => idle (F := F) c k) ⊢ bigSep Finset.univ fun k : Fin 4 => slotΦ c g PG k none :=
        bigSep_mono fun k _ => (show idle (F := F) c k ⊢ idle c k from .rfl)
      iapply hm; iexact HI
  · ipureintro
    refine ⟨⟨?_, ?_, ?_, ?_, ?_, by omega⟩, fun k => by simp⟩
    · intro k p h; cases h
    · intro k k' p h; cases h
    · intro p h1 h2
      rw [if_neg h1] at h2
      split at h2 <;> cases h2
    · intro p
      by_cases hk : kt g p.1 = 0
      · rw [if_pos hk]; exact ⟨fun h => (by cases h), fun h => absurd hk h.1⟩
      · rw [if_neg hk]
        by_cases hj : p.2.val < 10
        · rw [if_pos hj]; exact ⟨fun _ => ⟨hk, hj, by omega⟩, fun _ => rfl⟩
        · rw [if_neg hj]; exact ⟨fun h => (by cases h), fun h => absurd h.2.1 hj⟩
    · intro p h; rw [if_pos h]

end Drain

theorem t23_step (c : Dev nD) (g : Fin 6 → BitVec 32) (PG : Fin 6 × Fin 40 → (S6x5120x1536.Idx → Elt F .f32) → Prop) (v580 : Elt F .i32) (hw : k0_chk26 v580) (w1 w2 w3 w4 w588) (n : Fin 64) (hw44)
    (j : Fin (k0_t23_loop (BitVec.ofNat 32 n.val)).trips) (u : Unit) :
    iprop(DI c g PG n.val j.val ∗ (∃ W, owes (c : Thread nD τ) 0 W)) ⊢ WP c (k0_t23_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 (BitVec.ofNat 32 n.val) hw44 j u)
      (fun _ => iprop(DI c g PG n.val (j.val + 1) ∗ (∃ W, owes (c : Thread nD τ) 0 W))) := by
  have hj : j.val < min n.val 4 := lt_of_lt_of_eq j.isLt (t23_trips n).1
  rw [show k0_t23_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 (BitVec.ofNat 32 n.val) hw44 j u = owait (F := F) _ (k0_off80_inb _ hw44 j) _ (k0_off81_inb _ hw44 j) from rfl]
  iintro ⟨HD, HW⟩
  ihave HD := (drain_busy c g PG n.val ⟨j.val, by omega⟩ (by show j.val < n.val; omega)) $$ HD
  icases HD with ⟨%p, Hb, Hk⟩
  have hs := owait_step c g PG ⟨j.val, by omega⟩ p _ (k0_off80_inb _ hw44 j) _ (k0_off81_inb _ hw44 j) (off80_eq n j).1 (off80_eq n j).2
  unfold WP at *
  iapply (BIBase.Entails.trans (BIBase.Entails.trans (BIClass.sep_mono hs .rfl) (wp_frame_r _ _ _)) (wp_mono _ _ _ fun r => ?_))
  rotate_left
  · isplitl [Hb HW]
    · isplitl [Hb]; · iexact Hb
      iexact HW
    iexact Hk
  iintro ⟨⟨Hi, Hf, HW⟩, Hk⟩
  isplitr [HW]
  · iapply Hk
    isplitl [Hi]; · iexact Hi
    iexact Hf
  iexact HW

/-- The scales' loads and the strip's last columns set to zero. -/
def pre34 : Prog (TpuEff nD τ sig (Elt F) Λ₀ .tc) (Σ' (_ : Elt F .f32), Elt F .f32) := do
  let v591 : Elt F .f32 ← smemLoad a1 (Rect.unit (s := S1) ![0] S1.size inb_S1_S1_0) numel1_S1 rfl
  let v592 : Elt F .f32 ← smemLoad a2 (Rect.unit (s := S1) ![0] S1.size inb_S1_S1_0) numel1_S1 rfl
  let v595 : Vec F S512x128 .bf16 ← Prog.lift (.load a7 (Rect.unit (s := S512x1536) ![0, 1408] S512x128.size inb_S512x1536_S512x128_0_1408).toLoadRect (View.loadsAt_vmem h_S512x128))
  Prog.lift (.store a7 (Rect.unit (s := S512x1536) ![0, 1408] S512x128.size inb_S512x1536_S512x128_0_1408) (k0_pay72 (F := F)) Finset.univ (View.stores_vmem h_S512x128 ((isWhole_whole _).storeExact_slice rfl _ packedbf16_S512x1536_S512x128_0_1408) (fun _ => rfl)) (.inl rfl))
  pure ⟨v591, v592⟩

/-- The first expert's waits for its zeros. -/
def end34 (v580 : Elt F .i32) (hw : k0_chk26 v580) (w1 w2 w3 w4 w588 : BitVec 32) : Prog (TpuEff nD τ sig (Elt F) Λ₀ .tc) PUnit := do
  let v610 : Elt F .i32 ← smemLoad a10 (Rect.unit (s := S5x6) ![0, 0] S1x1.size inb_S5x6_S1x1_0_0) numel1_S1x1 rfl
  let v611 : BitVec 1 := Scalar.cmpi .eq v610 0#32
  let v612 : BitVec 32 := Scalar.extui v611
  let v613 : BitVec 1 := Scalar.cmpi .ne v612 0#32
  if v613 = 1#1 then do
    Scf.Loop.for k0_t25_loop k0_t25_ok ⟨⟩ (k0_t25_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
    pure ⟨⟩
  else do
    pure ⟨⟩

/-- The ring's last waits. -/
def drain34 (v580 : Elt F .i32) (hw : k0_chk26 v580) (w1 w2 w3 w4 w588 v599 : BitVec 32) : Prog (TpuEff nD τ sig (Elt F) Λ₀ .tc) PUnit := do
  have k0_hw44 : k0_chk44 v599 := (← Prog.lift (TpuEff.assume (k0_chk44 v599) (k0_chk44.dec v599))).down
  Scf.Loop.for (k0_t23_loop v599) (k0_t23_ok v599 k0_hw44) ⟨⟩ (k0_t23_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 v599 k0_hw44)
  Scf.Loop.for (k0_t24_loop v599) (k0_t24_ok v599 k0_hw44) ⟨⟩ (k0_t24_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 v599 k0_hw44)
  end34 v580 hw w1 w2 w3 w4 w588

/-- All after the last expert's rows. -/
def tail34 (v580 : Elt F .i32) (hw : k0_chk26 v580) (w1 w2 w3 w4 w588 : BitVec 32) : Prog (TpuEff nD τ sig (Elt F) Λ₀ .tc) PUnit :=
  pre34 >>= fun x => (Scf.Loop.for k0_t19_loop k0_t19_ok 0#32 (k0_t19_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 x.1 x.2)) >>= fun v599 => drain34 v580 hw w1 w2 w3 w4 w588 v599

theorem part34_prog (v580 : Elt F .i32) (hw : k0_chk26 v580) (w1 w2 w3 w4 w588 : BitVec 32) : k0_part34 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 = (do
    Scf.Loop.for (k0_t17_loop v580) (k0_t17_ok v580 hw) () (k0_t17_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
    Scf.Loop.for (k0_t18_loop v580) (k0_t18_ok v580 hw) () (k0_t18_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588 (Scalar.addi w3 (Scalar.muli w588 w4)))
    tail34 v580 hw w1 w2 w3 w4 w588) := by
  rw [k0_part34_eq_skeleton]; rfl

/-- One scale: the single element of its buffer. -/
def sca (x : S1.Idx → Elt F .f32) : Elt F .f32 := x (ix1 0)

theorem pay72_apply (x : S512x128.Idx) : (k0_pay72 (F := F)) x = Scalar.ofBits .bf16 0x0000#16 := by
  unfold k0_pay72
  rw [shapeCast_self]
  rfl

theorem S1_sub (i j : S1.Idx) : i = j := by
  funext a
  apply Fin.ext
  match a with
  | 0 =>
    have h1 : (i 0).val < 1 := (i 0).isLt
    have h2 : (j 0).val < 1 := (j 0).isLt
    show (i 0).val = (j 0).val
    omega

theorem pre34_step (c : Dev nD) (x1 x2 : S1.Idx → Elt F .f32) (x3 : S1408x5120.Idx → Elt F .bf16) :
    iprop((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7))
      ⊢ WP c (pre34 (F := F)) (fun r => iprop(⌜r = ⟨sca x1, sca x2⟩⌝ ∗ (a1.view.loc (c : Thread nD τ) ↦{fullShare} x1) ∗ (a2.view.loc (c : Thread nD τ) ↦{fullShare} x2) ∗ CS c x3 0 0)) := by
  unfold pre34 CS
  iintro ⟨H1, H2, H3, %f7, H7⟩
  unfold WP
  sl_exec
  sl_step
  isplitr
  · ipureintro
    exact congrArg₂ (fun (a b : Elt F .f32) => (⟨a, b⟩ : Σ' (_ : Elt F .f32), Elt F .f32)) (congrArg x1 (S1_sub _ _)) (congrArg x2 (S1_sub _ _))
  isplitl [H1]; · iexact H1
  isplitl [H2]; · iexact H2
  isplitl [H3]; · iexact H3
  iexists _
  isplitr
  rotate_left
  · iexact H7
  · ipureintro
    refine PXc_next x3 0 0 _ fun y hy => ?_
    have h0 : (y 0).val < 512 := (y 0).isLt
    have h1 : (y 1).val < 1536 := (y 1).isLt
    rw [View.read_writes_cons_unit_of_mem a7.view f7 inb_S512x1536_S512x128_0_1408 (k0_pay72 (F := F)) [] y (ix2 ⟨(y 0).val, h0⟩ ⟨(y 1).val - 1408, by omega⟩) rfl (by
      intro a; match a with
      | 0 => show (y 0).val = 0 + (y 0).val; omega
      | 1 => show (y 1).val = 1408 + ((y 1).val - 1408); omega), pay72_apply]
    unfold x3n
    rw [dif_neg (by omega)]

theorem zcond : ∀ K : Fin 7, Scalar.cmpi .ne (Scalar.extui (Scalar.cmpi .eq (BitVec.ofNat 32 K.val) 0#32) : BitVec 32) 0#32 = 1#1 ↔ K.val = 0 := by decide +kernel
theorem t25_trips : k0_t25_loop.trips = 40 := by decide +kernel

theorem drain34_step (c : Dev nD) {g : Fin 6 → BitVec 32} (hok : Ok g) (PG : Fin 6 × Fin 40 → (S6x5120x1536.Idx → Elt F .f32) → Prop) (z : S128x1536.Idx → Elt F .f32)
    (v580 : Elt F .i32) (hw : k0_chk26 v580) (w1 w2 w3 w4 w588) (n : Fin 64) :
    iprop((Inv c g PG 10 0 n.val ∗ (∃ W, owes (c : Thread nD τ) 0 W)) ∗ (Tab c g ∗ ZS c g PG z (40 * zr g 6))) ⊢ WP c (drain34 (F := F) v580 hw w1 w2 w3 w4 w588 (BitVec.ofNat 32 n.val))
      (fun _ => iprop((bigSep Finset.univ fun k : Fin 4 => idle (F := F) c k) ∗ (bigSep (Finset.univ.filter fun p : Fin 6 × Fin 40 => ¬ kt g p.1 = 0) (fin c g PG)) ∗ Tab c g ∗ ZW c g PG z (40 * zr g 1))) := by
  have hc := (t23_trips n).2.2
  have hK : kt g 0 < 7 := by have := kt_le hok 0; omega
  unfold drain34
  iintro ⟨⟨HI, HW⟩, HT, HZ⟩
  unfold WP
  sl_exec
  rw [wp_bind]
  iapply (Scf.wp_for _ _ _ _ _ _ _ _ _ (fun j _ => iprop(DI c g PG n.val j ∗ (∃ W, owes (c : Thread nD τ) 0 W))) (fun j u => t23_step c g PG v580 hw w1 w2 w3 w4 w588 n hc j u))
  isplitl [HI HW]
  · isplitl [HI]
    · iapply drain_start; iexact HI
    iexact HW
  iintro %u ⟨HD, HW⟩
  rw [show Scf.trips (k0_t23_loop (BitVec.ofNat 32 n.val)).lb (k0_t23_loop (BitVec.ofNat 32 n.val)).ub (k0_t23_loop (BitVec.ofNat 32 n.val)).st = min n.val 4 from (t23_trips n).1]
  ihave HD := (drain_end c g PG n.val) $$ HD
  icases HD with ⟨HI, HF⟩
  rw [wp_bind]
  iapply (Scf.wp_for _ _ _ _ _ _ _ _ _ (fun _ _ => iprop(⌜True⌝)) (fun k u => absurd (lt_of_lt_of_eq k.isLt (t23_trips n).2.1) (Nat.not_lt_zero _)))
  isplitr
  · ipureintro; trivial
  iintro %u2 -
  icases HW with ⟨%W, HW⟩
  ihave HZ := (z_turn c g PG z W) $$ [HZ HW]
  · isplitl [HZ]; · iexact HZ
    iexact HW
  unfold end34
  have hk : iprop(Tab c g ∗ (ZW c g PG z 0 ∗ ((bigSep Finset.univ fun k : Fin 4 => idle (F := F) c k) ∗ (bigSep (Finset.univ.filter fun p : Fin 6 × Fin 40 => ¬ kt g p.1 = 0) (fin c g PG)))))
      ⊢ WP c (do
        if Scalar.cmpi .ne (Scalar.extui (Scalar.cmpi .eq (T g 0 0) 0#32)) 0#32 = 1#1 then do
          Scf.Loop.for k0_t25_loop k0_t25_ok () (k0_t25_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
          pure PUnit.unit
        else do
          pure PUnit.unit)
      (fun _ => iprop((bigSep Finset.univ fun k : Fin 4 => idle (F := F) c k) ∗ (bigSep (Finset.univ.filter fun p : Fin 6 × Fin 40 => ¬ kt g p.1 = 0) (fin c g PG)) ∗ Tab c g ∗ ZW c g PG z (40 * zr g 1))) := by
    have hs := wseg c g PG z 0 k0_t25_loop k0_t25_ok t25_trips (k0_t25_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588) k0_off84 k0_off84_inb (fun _ _ => rfl)
      (Scalar.cmpi .ne (Scalar.extui (Scalar.cmpi .eq (T g 0 0) 0#32)) 0#32 = 1#1) (zcond ⟨kt g 0, hK⟩)
    rw [show 40 * zr g (0 : Fin 6).val = 0 by rw [show (0 : Fin 6).val = 0 from rfl, zr_zero]] at hs
    unfold WP at *
    refine BIBase.Entails.trans ?_ (BIBase.Entails.trans (BIBase.Entails.trans (BIClass.sep_mono hs (.rfl : iprop(Tab c g ∗ ((bigSep Finset.univ fun k : Fin 4 => idle (F := F) c k) ∗ (bigSep (Finset.univ.filter fun p : Fin 6 × Fin 40 => ¬ kt g p.1 = 0) (fin c g PG)))) ⊢ _)) (wp_frame_r _ _ _)) (wp_mono _ _ _ fun r => ?_))
    · iintro ⟨HT, HZ, HR⟩
      isplitl [HZ]; · iexact HZ
      isplitl [HT]; · iexact HT
      iexact HR
    · iintro ⟨HZ, HT, HI, HF⟩
      isplitl [HI]; · iexact HI
      isplitl [HF]; · iexact HF
      isplitl [HT]; · iexact HT
      iexact HZ
  have hl := tload_bind c g 0 0 (fun v => do
        if Scalar.cmpi .ne (Scalar.extui (Scalar.cmpi .eq v 0#32)) 0#32 = 1#1 then do
          Scf.Loop.for k0_t25_loop k0_t25_ok () (k0_t25_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw w1 w2 w3 w4 w588)
          pure PUnit.unit
        else do
          pure PUnit.unit) _ _ hk
  unfold WP at hl
  iapply hl
  isplitl [HT]; · iexact HT
  isplitl [HZ]; · iexact HZ
  isplitl [HI]; · iexact HI
  iexact HF

theorem tail34_step (c : Dev nD) {g : Fin 6 → BitVec 32} (hok : Ok g) (PG : Fin 6 × Fin 40 → (S6x5120x1536.Idx → Elt F .f32) → Prop) (z : S128x1536.Idx → Elt F .f32)
    (x1 x2 : S1.Idx → Elt F .f32) (x3 : S1408x5120.Idx → Elt F .bf16) (x4 : S1408x1536.Idx → Elt F .bf16)
    (hPG : PGok g PG x3 x4 (k0_pay71 (sca x1) (sca x2)))
    (v580 : Elt F .i32) (hw) (w1 w2 w3 w4 w588) :
    iprop(RS c g x4 6 0 ∗ ((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7)
      ∗ Inv c g PG 0 0 0 ∗ (∃ W, owes (c : Thread nD τ) 0 W) ∗ ZS c g PG z (40 * zr g 6)))
    ⊢ WP c (tail34 (F := F) v580 hw w1 w2 w3 w4 w588) (fun _ => iprop((a1.view.loc (c : Thread nD τ) ↦{fullShare} x1) ∗ (a2.view.loc (c : Thread nD τ) ↦{fullShare} x2)
      ∗ (a3.view.loc (c : Thread nD τ) ↦{fullShare} x3) ∗ (a4.view.loc (c : Thread nD τ) ↦{fullShare} x4) ∗ (∃ f6, a6.view.loc (c : Thread nD τ) ↦{fullShare} f6) ∗ (∃ f7, a7.view.loc (c : Thread nD τ) ↦{fullShare} f7)
      ∗ (bigSep Finset.univ fun k : Fin 4 => idle (F := F) c k) ∗ (bigSep (Finset.univ.filter fun p : Fin 6 × Fin 40 => ¬ kt g p.1 = 0) (fin c g PG)) ∗ Tab c g ∗ ZW c g PG z (40 * zr g 1))) := by
  unfold tail34 RS
  iintro ⟨⟨HT, H4, %f6, %hf6, H6⟩, H1, H2, H3, H7, HI, HW, HZ⟩
  have h1 := pre34_step c x1 x2 x3
  unfold WP at *
  rw [wp_bind]
  iapply (BIBase.Entails.trans (BIBase.Entails.trans (BIClass.sep_mono h1 (.rfl : iprop(Tab c g ∗ (a4.view.loc (c : Thread nD τ) ↦{fullShare} x4) ∗ (a6.view.loc (c : Thread nD τ) ↦{fullShare} f6) ∗ Inv c g PG 0 0 0 ∗ (∃ W, owes (c : Thread nD τ) 0 W) ∗ ZS c g PG z (40 * zr g 6)) ⊢ _)) (wp_frame_r _ _ _)) (wp_mono _ _ _ fun r => ?_))
  rotate_left
  · isplitl [H1 H2 H3 H7]
    · isplitl [H1]; · iexact H1
      isplitl [H2]; · iexact H2
      isplitl [H3]; · iexact H3
      iexact H7
    isplitl [HT]; · iexact HT
    isplitl [H4]; · iexact H4
    isplitl [H6]; · iexact H6
    isplitl [HI]; · iexact HI
    isplitl [HW]; · iexact HW
    iexact HZ
  iintro ⟨⟨%hr, H1, H2, HC⟩, HT, H4, H6, HI, HW, HZ⟩
  subst hr
  rw [wp_bind]
  iapply (Scf.wp_for _ _ _ _ _ _ _ _ _ (fun j A => iprop(∃ n, ⌜A = BitVec.ofNat 32 n⌝ ∗ TS0 c g PG x3 x4 j n)) (fun j A => t19_step c hok PG x3 x4 (sca x1) (sca x2) hPG v580 hw w1 w2 w3 w4 w588 j A))
  isplitl [HC HT H6 HI HW]
  · iexists 0
    isplitr; · ipureintro; rfl
    unfold TS0
    isplitl [HC]; · iexact HC
    isplitl [HT]; · iexact HT
    isplitl [H6]
    · iexists f6
      isplitr; · ipureintro; exact hf6
      iexact H6
    isplitl [HI]; · iexact HI
    iexact HW
  iintro %A ⟨%n, %hA, HS⟩
  rw [show Scf.trips k0_t19_loop.lb k0_t19_loop.ub k0_t19_loop.st = 10 from t19_trips]
  subst hA
  unfold TS0 CS
  icases HS with ⟨⟨H3, %f7, %hf7, H7⟩, HT, ⟨%f6', %hf6', H6⟩, HI, HW⟩
  ihave HI := (inv_bound c g PG 10 0 n) $$ HI
  icases HI with ⟨%hn, HI⟩
  have h2 := drain34_step c hok PG z v580 hw w1 w2 w3 w4 w588 ⟨n, by omega⟩
  unfold WP at h2
  iapply (BIBase.Entails.trans (BIBase.Entails.trans (BIClass.sep_mono h2 (.rfl : iprop((a1.view.loc (c : Thread nD τ) ↦{fullShare} x1) ∗ (a2.view.loc (c : Thread nD τ) ↦{fullShare} x2)
      ∗ (a3.view.loc (c : Thread nD τ) ↦{fullShare} x3) ∗ (a4.view.loc (c : Thread nD τ) ↦{fullShare} x4) ∗ (a6.view.loc (c : Thread nD τ) ↦{fullShare} f6') ∗ (a7.view.loc (c : Thread nD τ) ↦{fullShare} f7)) ⊢ _)) (wp_frame_r _ _ _)) (wp_mono _ _ _ fun r => ?_))
  rotate_left
  · isplitl [HI HW HT HZ]
    · isplitl [HI HW]
      · isplitl [HI]; · iexact HI
        iexact HW
      isplitl [HT]; · iexact HT
      iexact HZ
    isplitl [H1]; · iexact H1
    isplitl [H2]; · iexact H2
    isplitl [H3]; · iexact H3
    isplitl [H4]; · iexact H4
    isplitl [H6]; · iexact H6
    iexact H7
  iintro ⟨⟨HI, HF, HT, HZ⟩, H1, H2, H3, H4, H6, H7⟩
  isplitl [H1]; · iexact H1
  isplitl [H2]; · iexact H2
  isplitl [H3]; · iexact H3
  isplitl [H4]; · iexact H4
  isplitl [H6]; · iexists _; iexact H6
  isplitl [H7]; · iexists _; iexact H7
  isplitl [HI]; · iexact HI
  isplitl [HF]; · iexact HF
  isplitl [HT]; · iexact HT
  iexact HZ

end Cert.KernelIdeal.Hand

end
-- ==== Proof.KI.Body.lean ====
module

public import proofs.«01_k».proof.Proof.KI.Drain
public import Idealize.ShloMosaic.Lib.Writes

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

/-- The test for an expert without rows. -/
abbrev cz (v : BitVec 32) : Prop := Scalar.cmpi .ne (Scalar.extui (Scalar.cmpi .eq v 0#32) : BitVec 32) 0#32 = 1#1

theorem cz_iff {g : Fin 6 → BitVec 32} (hok : Ok g) (e : Fin 6) : cz (T g 0 e) ↔ kt g e = 0 :=
  zcond ⟨kt g e, by have := kt_le hok e; omega⟩

theorem ziss_bind (c : Dev nD) {g : Fin 6 → BitVec 32} (hok : Ok g) (PG) (z : S128x1536.Idx → Elt F .f32)
    (hz : ∀ e j fd, kt g e = 0 → PG (e, j) ((zblk e j).view.write (Elt F) fd z Finset.univ)) (e : Fin 6) {β : Type}
    (lp : Scf.Loop 32) (hlp : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zissue (off k) (inb k)) (ho : ∀ k, off k = ![e.val, 128 * k.val, 0])
    (kont : Prog (TpuEff nD τ sig (Elt F) Λ₀ .tc) β) (Q : β → sProp 𝕄) (R : sProp 𝕄) (v : BitVec 32) (hv : v = T g 0 e)
    (hk : iprop(ZS c g PG z (40 * zr g (e.val + 1)) ∗ R) ⊢ WP c kont Q) :
    iprop(ZS c g PG z (40 * zr g e.val) ∗ R) ⊢ WP c (if cz v then (Scf.Loop.for lp hlp () body >>= fun _ => kont) else kont) Q := by
  subst hv
  refine wp_if_join (k := fun _ => kont) ?_
  have hs := zseg c g PG z e hz lp hlp ht body off inb hb ho (cz (T g 0 e)) (cz_iff hok e)
  unfold WP at *
  exact BIBase.Entails.trans (BIClass.sep_mono hs .rfl) (BIBase.Entails.trans (wp_frame_r _ _ _) (wp_mono _ _ _ fun _ => hk))

theorem zload_bind (c : Dev nD) {g : Fin 6 → BitVec 32} (hok : Ok g) (PG) (z : S128x1536.Idx → Elt F .f32)
    (hz : ∀ e j fd, kt g e = 0 → PG (e, j) ((zblk e j).view.write (Elt F) fd z Finset.univ)) (e : Fin 6) {β : Type}
    (lp : Scf.Loop 32) (hlp : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zissue (off k) (inb k)) (ho : ∀ k, off k = ![e.val, 128 * k.val, 0])
    (kont : Prog (TpuEff nD τ sig (Elt F) Λ₀ .tc) β) (Q : β → sProp 𝕄) (R : sProp 𝕄)
    (hk : iprop(Tab c g ∗ (ZS c g PG z (40 * zr g (e.val + 1)) ∗ R)) ⊢ WP c kont Q) :
    iprop(Tab c g ∗ (ZS c g PG z (40 * zr g e.val) ∗ R)) ⊢ WP c (tload (F := F) 0 e >>= fun v => if cz v then (Scf.Loop.for lp hlp () body >>= fun _ => kont) else kont) Q := by
  refine tload_bind c g 0 e (fun v => if cz v then (Scf.Loop.for lp hlp () body >>= fun _ => kont) else kont) Q _ ?_
  have h := ziss_bind c hok PG z hz e lp hlp ht body off inb hb ho kont Q iprop(Tab c g ∗ R) (T g 0 e) rfl (by
    refine BIBase.Entails.trans ?_ hk
    iintro ⟨HZ, HT, HR⟩
    isplitl [HT]; · iexact HT
    isplitl [HZ]; · iexact HZ
    iexact HR)
  refine BIBase.Entails.trans ?_ h
  iintro ⟨HT, HZ, HR⟩
  isplitl [HZ]; · iexact HZ
  isplitl [HT]; · iexact HT
  iexact HR

theorem wload_bind (c : Dev nD) {g : Fin 6 → BitVec 32} (hok : Ok g) (PG) (z : S128x1536.Idx → Elt F .f32) (e : Fin 6) {β : Type}
    (lp : Scf.Loop 32) (hlp : lp.OK) (ht : lp.trips = 40)
    (body : Fin lp.trips → Unit → Prog (TpuEff nD τ sig (Elt F) Λ₀ .tc) Unit)
    (off : Fin lp.trips → Fin 3 → ℕ) (inb : ∀ k, ∀ a, off k a + S1x128x1536.size a ≤ S6x5120x1536.size a)
    (hb : ∀ k u, body k u = zwait (off k) (inb k))
    (kont : Prog (TpuEff nD τ sig (Elt F) Λ₀ .tc) β) (Q : β → sProp 𝕄)
    (hk : iprop(Tab c g ∗ ZW c g PG z (40 * zr g (e.val + 1))) ⊢ WP c kont Q) :
    iprop(Tab c g ∗ ZW c g PG z (40 * zr g e.val)) ⊢ WP c (tload (F := F) 0 e >>= fun v => if cz v then (Scf.Loop.for lp hlp () body >>= fun _ => kont) else kont) Q := by
  refine tload_bind c g 0 e (fun v => if cz v then (Scf.Loop.for lp hlp () body >>= fun _ => kont) else kont) Q _ ?_
  refine wp_if_join (k := fun _ => kont) ?_
  have hs := wseg c g PG z e lp hlp ht body off inb hb (cz (T g 0 e)) (cz_iff hok e)
  unfold WP at *
  refine BIBase.Entails.trans (BIClass.sep_mono .rfl hs) (BIBase.Entails.trans (wp_frame_l _ _ _) (wp_mono _ _ _ fun _ => hk))

theorem t1_trips : k0_t1_loop.trips = 40 := by decide +kernel
theorem off1_eq : ∀ k : Fin k0_t1_loop.trips, k0_off1 k = ![0, 128 * k.val, 0] := by decide +kernel
theorem t2_trips : k0_t2_loop.trips = 40 := by decide +kernel
theorem off2_eq : ∀ k : Fin k0_t2_loop.trips, k0_off2 k = ![1, 128 * k.val, 0] := by decide +kernel
theorem t3_trips : k0_t3_loop.trips = 40 := by decide +kernel
theorem off3_eq : ∀ k : Fin k0_t3_loop.trips, k0_off3 k = ![2, 128 * k.val, 0] := by decide +kernel
theorem t4_trips : k0_t4_loop.trips = 40 := by decide +kernel
theorem off4_eq : ∀ k : Fin k0_t4_loop.trips, k0_off4 k = ![3, 128 * k.val, 0] := by decide +kernel
theorem t5_trips : k0_t5_loop.trips = 40 := by decide +kernel
theorem off5_eq : ∀ k : Fin k0_t5_loop.trips, k0_off5 k = ![4, 128 * k.val, 0] := by decide +kernel
theorem t6_trips : k0_t6_loop.trips = 40 := by decide +kernel
theorem off6_eq : ∀ k : Fin k0_t6_loop.trips, k0_off6 k = ![5, 128 * k.val, 0] := by decide +kernel
theorem t26_trips : k0_t26_loop.trips = 40 := by decide +kernel
theorem t27_trips : k0_t27_loop.trips = 40 := by decide +kernel
theorem t28_trips : k0_t28_loop.trips = 40 := by decide +kernel
theorem t29_trips : k0_t29_loop.trips = 40 := by decide +kernel
theorem t30_trips : k0_t30_loop.trips = 40 := by decide +kernel

section Issue
variable (v351 v414 v434 v451 : BitVec 32) (v452 : BitVec 1) (v490 : BitVec 32)

def z4' : Prog (TpuEff nD τ sig (Elt F) Λ₀ .tc) (Elt F .i32) := tload 0 3
def z3  : Prog (TpuEff nD τ sig (Elt F) Λ₀ .tc) (Elt F .i32) :=
  tload 0 2 >>= fun v => if cz v then (Scf.Loop.for k0_t3_loop k0_t3_ok () (k0_t3_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) >>= fun _ => z4') else z4'

def z2  : Prog (TpuEff nD τ sig (Elt F) Λ₀ .tc) (Elt F .i32) :=
  tload 0 1 >>= fun v => if cz v then (Scf.Loop.for k0_t2_loop k0_t2_ok () (k0_t2_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) >>= fun _ => z3 v351 v414 v434 v451 v452 v490) else z3 v351 v414 v434 v451 v452 v490

def z1  : Prog (TpuEff nD τ sig (Elt F) Λ₀ .tc) (Elt F .i32) :=
  tload 0 0 >>= fun v => if cz v then (Scf.Loop.for k0_t1_loop k0_t1_ok () (k0_t1_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) >>= fun _ => z2 v351 v414 v434 v451 v452 v490) else z2 v351 v414 v434 v451 v452 v490

/-- The table's last column and the block of zeros. -/
def pre30 : Prog (TpuEff nD τ sig (Elt F) Λ₀ .tc) PUnit := do
  let _ : Elt F .i32 ← smemLoad a10 (Rect.unit (s := S5x6) ![0, 5] S1x1.size inb_S5x6_S1x1_0_5) numel1_S1x1 rfl
  Prog.lift (.store a10 (Rect.unit (s := S5x6) ![0, 5] S1x1.size inb_S5x6_S1x1_0_5) (fun _ => Scalar.select v452 v490 0#32) Finset.univ (View.stores_smem_one rfl numel1_S1x1) (.inl rfl))
  let _ : Elt F .i32 ← smemLoad a10 (Rect.unit (s := S5x6) ![1, 5] S1x1.size inb_S5x6_S1x1_1_5) numel1_S1x1 rfl
  Prog.lift (.store a10 (Rect.unit (s := S5x6) ![1, 5] S1x1.size inb_S5x6_S1x1_1_5) (fun _ => v451) Finset.univ (View.stores_smem_one rfl numel1_S1x1) (.inl rfl))
  let _ : Elt F .i32 ← smemLoad a10 (Rect.unit (s := S5x6) ![2, 5] S1x1.size inb_S5x6_S1x1_2_5) numel1_S1x1 rfl
  Prog.lift (.store a10 (Rect.unit (s := S5x6) ![2, 5] S1x1.size inb_S5x6_S1x1_2_5) (fun _ => v414) Finset.univ (View.stores_smem_one rfl numel1_S1x1) (.inl rfl))
  let _ : Elt F .i32 ← smemLoad a10 (Rect.unit (s := S5x6) ![3, 5] S1x1.size inb_S5x6_S1x1_3_5) numel1_S1x1 rfl
  Prog.lift (.store a10 (Rect.unit (s := S5x6) ![3, 5] S1x1.size inb_S5x6_S1x1_3_5) (fun _ => v351) Finset.univ (View.stores_smem_one rfl numel1_S1x1) (.inl rfl))
  let _ : Elt F .i32 ← smemLoad a10 (Rect.unit (s := S5x6) ![4, 5] S1x1.size inb_S5x6_S1x1_4_5) numel1_S1x1 rfl
  Prog.lift (.store a10 (Rect.unit (s := S5x6) ![4, 5] S1x1.size inb_S5x6_S1x1_4_5) (fun _ => v434) Finset.univ (View.stores_smem_one rfl numel1_S1x1) (.inl rfl))
  let v498 : Vec F S128x1536 .f32 ← Prog.lift (.load a9 (Rect.unit (s := S128x1536) ![0, 0] S128x1536.size inb_S128x1536_S128x1536_0_0).toLoadRect (View.loadsAt_vmem h_S128x1536))
  Prog.lift (.store a9 (Rect.unit (s := S128x1536) ![0, 0] S128x1536.size inb_S128x1536_S128x1536_0_0) (k0_pay58 (F := F)) Finset.univ (View.stores_vmem_bits_univ h_S128x1536 rfl) (.inl rfl))
  pure ⟨⟩

theorem part30_prog : k0_part30 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490 = (pre30 v351 v414 v434 v451 v452 v490 >>= fun _ => z1 v351 v414 v434 v451 v452 v490) := by
  rw [k0_part30_eq_skeleton]; rfl
end Issue

theorem mem_unit11 (r e : ℕ) (inb) (y : S5x6.Idx) : y ∈ (Rect.unit (s := S5x6) ![r, e] S1x1.size inb).set ↔ (y 0).val = r ∧ (y 1).val = e := by
  simp only [Rect.mem_set_unit]
  constructor
  · intro H
    have h0 : r ≤ (y 0).val ∧ (y 0).val < r + 1 := H 0
    have h1 : e ≤ (y 1).val ∧ (y 1).val < e + 1 := H 1
    omega
  · rintro ⟨h0, h1⟩ a
    match a with
    | 0 => show r ≤ (y 0).val ∧ (y 0).val < r + 1; omega
    | 1 => show e ≤ (y 1).val ∧ (y 1).val < e + 1; omega

theorem mem_unit11' (r e : ℕ) (inb) (y : S5x6.Idx) : y ∈ (Rect.unit (s := S5x6) ![r, e] ![1, 1] inb).set ↔ (y 0).val = r ∧ (y 1).val = e := mem_unit11 r e inb y

theorem piece_ok (g : Fin 6 → BitVec 32) (r : Fin 5) (e : Fin 6) (inb) (v : BitVec 32) (hv : v = T g r e) (x : S1x1.Idx) :
    v = tabF (F := F) g ((Rect.unit (s := S5x6) ![r.val, e.val] S1x1.size inb).emb x) := by
  rw [hv]
  unfold tabF
  have h0 : (x 0).val = 0 := by have := (x 0).isLt; have h : (x 0).val < 1 := this; omega
  have h1 : (x 1).val = 0 := by have := (x 1).isLt; have h : (x 1).val < 1 := this; omega
  congr 1
  · apply Fin.ext; show r.val = r.val + 1 * (x 0).val; omega
  · apply Fin.ext; show e.val = e.val + 1 * (x 1).val; omega

/-- The block of zeros. -/
def zf : S128x1536.Idx → Elt F .f32 := fun _ => Scalar.ofBits .f32 0x00000000#32

theorem pay58_apply (x : S128x1536.Idx) : (k0_pay58 (F := F)) x = Scalar.ofBits .f32 0x00000000#32 := by
  unfold k0_pay58
  rw [shapeCast_self]
  rfl

theorem pre30_step (c : Dev nD) (g : Fin 6 → BitVec 32) (v351 v414 v434 v451 : BitVec 32) (v452 : BitVec 1) (v490 : BitVec 32) (f10 : S5x6.Idx → Elt F .i32) (h10 : ∀ y : S5x6.Idx, (y 1).val < 5 → a10.view.read (Elt F) f10 y = tabF (F := F) g y)
    (h0 : Scalar.select v452 v490 0#32 = T g 0 5) (h1 : v451 = T g 1 5) (h2 : v414 = T g 2 5) (h3 : v351 = T g 3 5) (h4 : v434 = T g 4 5) (f9 : S128x1536.Idx → Elt F .f32) :
    iprop((a10.view.loc (c : Thread nD τ) ↦{fullShare} f10) ∗ (a9.view.loc (c : Thread nD τ) ↦{fullShare} f9)) ⊢ WP c (pre30 (F := F) v351 v414 v434 v451 v452 v490)
      (fun _ => iprop(Tab c g ∗ (a9.view.loc (c : Thread nD τ) ↦{fullShare} (zf (F := F))))) := by
  unfold pre30
  iintro ⟨H10, H9⟩
  unfold WP
  sl_exec
  sl_step
  isplitl [H10]
  · unfold Tab
    ihave H10' := (show (a10.view.loc (c : Thread nD τ) ↦{fullShare} _) ⊢ (a10.view.loc (c : Thread nD τ) ↦{fullShare} (tabF (F := F) g)) from Entails.of_eq (congrArg _ ?_)) $$ H10
    rotate_left
    · iexact H10'
    refine funext fun (y : S5x6.Idx) => ?_
    refine Eq.trans (congrFun (View.read_whole cc0_scratch4 (a10.view.writes (Elt F) f10 _)) y).symm ?_
    by_cases hy : (y 1).val < 5
    · rw [← h10 y hy]
      have hlt : ∀ r : ℕ, (y 1).val < (![r, 5] : Fin 2 → ℕ) 1 ∨ (![r, 5] : Fin 2 → ℕ) 1 + S1x1.size 1 ≤ (y 1).val := fun r => .inl hy
      refine (View.read_writes_cons_unit_of_not_mem a10.view _ _ _ _ y rfl 1 (hlt 4)).trans ?_
      refine (View.read_writes_cons_unit_of_not_mem a10.view _ _ _ _ y rfl 1 (hlt 3)).trans ?_
      refine (View.read_writes_cons_unit_of_not_mem a10.view _ _ _ _ y rfl 1 (hlt 2)).trans ?_
      refine (View.read_writes_cons_unit_of_not_mem a10.view _ _ _ _ y rfl 1 (hlt 1)).trans ?_
      exact (View.read_writes_cons_unit_of_not_mem a10.view _ _ _ _ y rfl 1 (hlt 0)).trans rfl
    · refine View.read_writes_apply_of_pieces a10.view _ (tabF (F := F) g) _ ?_ y ?_
      · simp only [List.forall_mem_cons]
        exact ⟨piece_ok g 4 5 _ _ h4, piece_ok g 3 5 _ _ h3, piece_ok g 2 5 _ _ h2, piece_ok g 1 5 _ _ h1, piece_ok g 0 5 _ _ h0, fun _ h => absurd h List.not_mem_nil⟩
      · have hy0 : (y 0).val < 5 := (y 0).isLt
        have hy1 : (y 1).val < 6 := (y 1).isLt
        simp only [List.exists_mem_cons_iff, mem_unit11, mem_unit11']
        omega
  · ihave H9' := (show (a9.view.loc (c : Thread nD τ) ↦{fullShare} _) ⊢ (a9.view.loc (c : Thread nD τ) ↦{fullShare} (zf (F := F))) from Entails.of_eq (congrArg _ ?_)) $$ H9
    rotate_left
    · iexact H9'
    funext y
    refine Eq.trans (congrFun (View.read_whole cc0_scratch3 (a9.view.writes (Elt F) f9 _)) y).symm ?_
    refine View.read_writes_apply_of_pieces a9.view _ (zf (F := F)) _ ?_ y ?_
    · simp only [List.forall_mem_cons]
      exact ⟨fun x => pay58_apply _, fun _ h => absurd h List.not_mem_nil⟩
    · refine ⟨_, List.mem_cons_self, ?_⟩
      simp only [Rect.mem_set_unit]
      intro a
      match a with
      | 0 => exact ⟨Nat.zero_le _, by have h : (y 0).val < 128 := (y 0).isLt; show (y 0).val < 0 + 128; omega⟩
      | 1 => exact ⟨Nat.zero_le _, by have h : (y 1).val < 1536 := (y 1).isLt; show (y 1).val < 0 + 1536; omega⟩

theorem z1_step (c : Dev nD) {g : Fin 6 → BitVec 32} (hok : Ok g) (PG)
    (hz : ∀ e j fd, kt g e = 0 → PG (e, j) ((zblk e j).view.write (Elt F) fd (zf (F := F)) Finset.univ)) (v351 v414 v434 v451 : BitVec 32) (v452 : BitVec 1) (v490 : BitVec 32) :
    iprop(Tab c g ∗ ZS c g PG (zf (F := F)) 0) ⊢ WP c (z1 (F := F) v351 v414 v434 v451 v452 v490) (fun r => iprop(⌜r = T g 0 3⌝ ∗ Tab c g ∗ ZS c g PG (zf (F := F)) (40 * zr g 3))) := by
  have h := zload_bind c hok PG zf hz 0 k0_t1_loop k0_t1_ok t1_trips (k0_t1_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) k0_off1 k0_off1_inb (fun _ _ => rfl) off1_eq (z2 v351 v414 v434 v451 v452 v490)
    (fun r => iprop(⌜r = T g 0 3⌝ ∗ Tab c g ∗ ZS c g PG (zf (F := F)) (40 * zr g 3))) iprop(⌜True⌝)
    (zload_bind c hok PG zf hz 1 k0_t2_loop k0_t2_ok t2_trips (k0_t2_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) k0_off2 k0_off2_inb (fun _ _ => rfl) off2_eq (z3 v351 v414 v434 v451 v452 v490) _ _
    (zload_bind c hok PG zf hz 2 k0_t3_loop k0_t3_ok t3_trips (k0_t3_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490) k0_off3 k0_off3_inb (fun _ _ => rfl) off3_eq z4' _ _ (by
      unfold z4' tload Tab WP
      iintro ⟨HT, HZ, -⟩
      sl_exec
      sl_step
      isplitr
      · ipureintro; exact tab_read g 0 3 _ _
      isplitl [HT]; · iexact HT
      iexact HZ)))
  rw [show 40 * zr g (0 : Fin 6).val = 0 by rw [show (0 : Fin 6).val = 0 from rfl, zr_zero]] at h
  unfold z1
  refine BIBase.Entails.trans ?_ h
  iintro ⟨HT, HZ⟩
  isplitl [HT]; · iexact HT
  isplitl [HZ]; · iexact HZ
  ipureintro; trivial

theorem part30_step (c : Dev nD) {g : Fin 6 → BitVec 32} (hok : Ok g) (PG)
    (hz : ∀ e j fd, kt g e = 0 → PG (e, j) ((zblk e j).view.write (Elt F) fd (zf (F := F)) Finset.univ)) (v351 v414 v434 v451 : BitVec 32) (v452 : BitVec 1) (v490 : BitVec 32) (f10 : S5x6.Idx → Elt F .i32)
    (h10 : ∀ y : S5x6.Idx, (y 1).val < 5 → a10.view.read (Elt F) f10 y = tabF (F := F) g y)
    (h0 : Scalar.select v452 v490 0#32 = T g 0 5) (h1 : v451 = T g 1 5) (h2 : v414 = T g 2 5) (h3 : v351 = T g 3 5) (h4 : v434 = T g 4 5) (f9 : S128x1536.Idx → Elt F .f32) :
    iprop(((a10.view.loc (c : Thread nD τ) ↦{fullShare} f10) ∗ (a9.view.loc (c : Thread nD τ) ↦{fullShare} f9))
        ∗ (semVal ((c : Thread nD τ), SemLoc.dma a11.sem) 0 ∗ (bigSep (Finset.univ.filter fun p : Fin 6 × Fin 40 => kt g p.1 = 0) (own (F := F) c g)))) ⊢ WP c (k0_part30 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490)
      (fun r => iprop(⌜r = T g 0 3⌝ ∗ Tab c g ∗ ZS c g PG (zf (F := F)) (40 * zr g 3) ∗ (a9.view.loc (c : Thread nD τ) ↦[a9.view.set]{Transfers.shareDrop fullShare (40 * zr g 6)} (zf (F := F))))) := by
  rw [part30_prog]
  refine wp_seq (pre30_step c g v351 v414 v434 v451 v452 v490 f10 h10 h0 h1 h2 h3 h4 f9) ?_
  iintro ⟨⟨HT, H9⟩, Hs, Ho⟩
  ihave H9 := (show (a9.view.loc (c : Thread nD τ) ↦{fullShare} (zf (F := F))) ⊢ (a9.view.loc (c : Thread nD τ) ↦[a9.view.set]{fullShare} (zf (F := F))) from by rw [show a9.view.set = Finset.univ from View.set_whole _]) $$ H9
  have hs := z1_step c hok PG hz v351 v414 v434 v451 v452 v490
  unfold WP at *
  imod (z_start c g PG (zf (F := F))) $$ [Hs Ho H9] with ⟨HZ, Hr⟩
  · isplitl [Hs]; · iexact Hs
    isplitl [Ho]; · iexact Ho
    iexact H9
  iapply (BIBase.Entails.trans (BIBase.Entails.trans (BIClass.sep_mono hs (.rfl : iprop(a9.view.loc (c : Thread nD τ) ↦[a9.view.set]{Transfers.shareDrop fullShare (40 * zr g 6)} (zf (F := F))) ⊢ _)) (wp_frame_r _ _ _)) (wp_mono _ _ _ fun r => ?_))
  rotate_left
  · isplitl [HT HZ]
    · isplitl [HT]; · iexact HT
      iexact HZ
    iexact Hr
  iintro ⟨⟨%h, HT, HZ⟩, Hr⟩
  isplitr; · ipureintro; exact h
  isplitl [HT]; · iexact HT
  isplitl [HZ]; · iexact HZ
  iexact Hr

/-! The last zero copies and the experts' rows. -/

/-- The first expert's rows, then the second expert's count. -/
def r31 (v513 : Elt F .i32) : Prog (TpuEff nD τ sig (Elt F) Λ₀ .tc) (Σ' (v536 : Elt F .i32) (k0_hw6 : k0_chk6 v536) (v538 : BitVec 32), BitVec 32) := do
  let v525 : Elt F .i32 ← smemLoad a10 (Rect.unit (s := S5x6) ![0, 0] S1x1.size inb_S5x6_S1x1_0_0) numel1_S1x1 rfl
  have k0_hw1 : k0_chk1 v525 := (← Prog.lift (TpuEff.assume (k0_chk1 v525) (k0_chk1.dec v525))).down
  Scf.Loop.for (k0_t7_loop v525) (k0_t7_ok v525 k0_hw1) ⟨⟩ (k0_t7_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1)
  Scf.Loop.for (k0_t8_loop v525) (k0_t8_ok v525 k0_hw1) ⟨⟩ (k0_t8_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1 (Scalar.addi 0#32 (Scalar.muli (Scalar.divsi (Scalar.subi (Scalar.divsi (Scalar.addi (Scalar.subi (Scalar.muli 2#32 v525) 0#32) (Scalar.subi 1#32 1#32)) 1#32) 0#32) 1#32) 1#32)))
  let v536 : Elt F .i32 ← smemLoad a10 (Rect.unit (s := S5x6) ![0, 1] S1x1.size inb_S5x6_S1x1_0_1) numel1_S1x1 rfl
  have k0_hw6 : k0_chk6 v536 := (← Prog.lift (TpuEff.assume (k0_chk6 v536) (k0_chk6.dec v536))).down
  pure ⟨v536, k0_hw6, Scalar.subi (Scalar.muli 2#32 v536) 0#32, 1#32⟩
def z6 (v513 : Elt F .i32) : Prog (TpuEff nD τ sig (Elt F) Λ₀ .tc) (Σ' (v536 : Elt F .i32) (k0_hw6 : k0_chk6 v536) (v538 : BitVec 32), BitVec 32) :=
  tload 0 5 >>= fun v => if cz v then (Scf.Loop.for k0_t6_loop k0_t6_ok () (k0_t6_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) >>= fun _ => r31 v513) else r31 v513

def z5 (v513 : Elt F .i32) : Prog (TpuEff nD τ sig (Elt F) Λ₀ .tc) (Σ' (v536 : Elt F .i32) (k0_hw6 : k0_chk6 v536) (v538 : BitVec 32), BitVec 32) :=
  tload 0 4 >>= fun v => if cz v then (Scf.Loop.for k0_t5_loop k0_t5_ok () (k0_t5_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) >>= fun _ => z6 v513) else z6 v513

theorem part31_prog (v513 : Elt F .i32) : k0_part31 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 = (if cz v513 then (Scf.Loop.for k0_t4_loop k0_t4_ok () (k0_t4_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) >>= fun _ => z5 v513) else z5 v513) := by
  rw [k0_part31_eq_skeleton]; rfl

end Cert.KernelIdeal.Hand

end
-- ==== Proof.KI.Body2.lean ====
module

public import proofs.«01_k».proof.Proof.KI.Body

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

theorem pull {φ : Prop} {P R X : sProp 𝕄} (h : φ → iprop(P ∗ R) ⊢ X) : iprop((⌜φ⌝ ∗ P) ∗ R) ⊢ X := by
  iintro ⟨⟨%hφ, HP⟩, HR⟩
  iapply (h hφ)
  isplitl [HP]; · iexact HP
  iexact HR

theorem wp_ret {β : Type} {c : Dev nD} {P : sProp 𝕄} {Q : β → sProp 𝕄} {x : β} (h : P ⊢ Q x) : P ⊢ WP c (pure x) Q := by
  unfold WP
  iintro H
  rw [wp_pure]
  imodintro
  iapply h
  iexact H

/-- The rows held, the table apart. -/
def RH (c : Dev nD) (g : Fin 6 → BitVec 32) (x4 : S1408x1536.Idx → Elt F .bf16) (e : ℕ) : sProp 𝕄 :=
  iprop((a4.view.loc (c : Thread nD τ) ↦{fullShare} x4) ∗ (∃ f6, ⌜Rf g x4 e 0 f6⌝ ∗ (a6.view.loc (c : Thread nD τ) ↦{fullShare} f6)))

theorem rs_in (c : Dev nD) (g : Fin 6 → BitVec 32) (x4 : S1408x1536.Idx → Elt F .bf16) (e : ℕ) (R : sProp 𝕄) : iprop(Tab c g ∗ (RH c g x4 e ∗ R)) ⊢ iprop(RS c g x4 e 0 ∗ R) := by
  unfold RS RH
  iintro ⟨HT, H, HR⟩
  isplitl [HT H]
  · isplitl [HT]; · iexact HT
    iexact H
  iexact HR

theorem rs_out (c : Dev nD) (g : Fin 6 → BitVec 32) (x4 : S1408x1536.Idx → Elt F .bf16) (e : ℕ) (R : sProp 𝕄) : iprop(RS c g x4 e 0 ∗ R) ⊢ iprop(Tab c g ∗ (RH c g x4 e ∗ R)) := by
  unfold RS RH
  iintro ⟨⟨HT, H⟩, HR⟩
  isplitl [HT]; · iexact HT
  isplitl [H]; · iexact H
  iexact HR

theorem rs_start (c : Dev nD) (g : Fin 6 → BitVec 32) (x4 : S1408x1536.Idx → Elt F .bf16) : iprop((a4.view.loc (c : Thread nD τ) ↦{fullShare} x4) ∗ (∃ f6, a6.view.loc (c : Thread nD τ) ↦{fullShare} f6)) ⊢ RH c g x4 0 := by
  unfold RH
  iintro ⟨H4, %f6, H6⟩
  isplitl [H4]; · iexact H4
  iexists f6
  isplitr
  · ipureintro
    intro e' j' _ h
    rcases h with h | ⟨_, h⟩ <;> exact absurd h (Nat.not_lt_zero _)
  iexact H6

/-- A count read from the table, the facts asked of it, and the rest. -/
def tchk {β : Type} (e : Fin 6) (P : BitVec 32 → Prop) (d : ∀ v, Decidable (P v)) (k : ∀ v : Elt F .i32, P v → Prog (TpuEff nD τ sig (Elt F) Λ₀ .tc) β) : Prog (TpuEff nD τ sig (Elt F) Λ₀ .tc) β := do
  let v : Elt F .i32 ← smemLoad a10 (Rect.unit (s := S5x6) ![0, e.val] S1x1.size (tinb 0 e)) numel1_S1x1 rfl
  have h : P v := (← Prog.lift (TpuEff.assume (P v) (d v))).down
  k v h

theorem tchk_bind {β : Type} (c : Dev nD) (g : Fin 6 → BitVec 32) (e : Fin 6) (P : BitVec 32 → Prop) (d : ∀ v, Decidable (P v)) (k : ∀ v : Elt F .i32, P v → Prog (TpuEff nD τ sig (Elt F) Λ₀ .tc) β)
    (hP : P (T g 0 e)) (Q : β → sProp 𝕄) (R : sProp 𝕄) (hk : iprop(Tab c g ∗ R) ⊢ WP c (k (T g 0 e) hP) Q) : iprop(Tab c g ∗ R) ⊢ WP c (tchk e P d k) Q := by
  unfold tchk
  exact tab_bind c g 0 e ![0, e.val] (tinb 0 e) rfl P d hP k Q R hk

def r31b : Prog (TpuEff nD τ sig (Elt F) Λ₀ .tc) (Σ' (v536 : Elt F .i32) (k0_hw6 : k0_chk6 v536) (v538 : BitVec 32), BitVec 32) :=
  tchk 1 k0_chk6 k0_chk6.dec fun v536 hw6 => pure ⟨v536, hw6, Scalar.subi (Scalar.muli 2#32 v536) 0#32, 1#32⟩

theorem r31_prog (v513 : Elt F .i32) : r31 (F := F) v513 = tchk 0 k0_chk1 k0_chk1.dec fun v525 k0_hw1 => (do
    Scf.Loop.for (k0_t7_loop v525) (k0_t7_ok v525 k0_hw1) () (k0_t7_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1)
    Scf.Loop.for (k0_t8_loop v525) (k0_t8_ok v525 k0_hw1) () (k0_t8_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 v525 k0_hw1 (Scalar.addi 0#32 (Scalar.muli (Scalar.divsi (Scalar.subi (Scalar.divsi (Scalar.addi (Scalar.subi (Scalar.muli 2#32 v525) 0#32) (Scalar.subi 1#32 1#32)) 1#32) 0#32) 1#32) 1#32)))
    r31b) := rfl

def tw (v : BitVec 32) : BitVec 32 := Scalar.addi 0#32 (Scalar.muli (Scalar.divsi (Scalar.subi (Scalar.divsi (Scalar.addi (Scalar.subi (Scalar.muli 2#32 v) 0#32) (Scalar.subi 1#32 1#32)) 1#32) 0#32) 1#32) 1#32)

def r32b : Prog (TpuEff nD τ sig (Elt F) Λ₀ .tc) (Σ' (v558 : Elt F .i32) (k0_hw16 : k0_chk16 v558) (v563 : BitVec 32), BitVec 32) :=
  tchk 3 k0_chk16 k0_chk16.dec fun v558 hw16 => pure ⟨v558, hw16, Scalar.divsi (Scalar.addi (Scalar.subi (Scalar.muli 2#32 v558) 0#32) (Scalar.subi 1#32 1#32)) 1#32, 1#32⟩
def r32a (v536 : Elt F .i32) (hw6 : k0_chk6 v536) (w1 w2 : BitVec 32) : Prog (TpuEff nD τ sig (Elt F) Λ₀ .tc) (Σ' (v558 : Elt F .i32) (k0_hw16 : k0_chk16 v558) (v563 : BitVec 32), BitVec 32) :=
  tchk 2 k0_chk11 k0_chk11.dec fun v547 hw11 => (do
    Scf.Loop.for (k0_t11_loop v547) (k0_t11_ok v547 hw11) () (k0_t11_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 v547 hw11)
    Scf.Loop.for (k0_t12_loop v547) (k0_t12_ok v547 hw11) () (k0_t12_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 v547 hw11 (tw v547))
    r32b)
theorem part32_prog (v536 : Elt F .i32) (hw6 : k0_chk6 v536) (w1 w2 : BitVec 32) : k0_part32 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 = (do
    Scf.Loop.for (k0_t9_loop v536) (k0_t9_ok v536 hw6) () (k0_t9_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2)
    Scf.Loop.for (k0_t10_loop v536) (k0_t10_ok v536 hw6) () (k0_t10_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2 (Scalar.addi 0#32 (Scalar.muli (Scalar.divsi (Scalar.subi (Scalar.divsi (Scalar.addi w1 (Scalar.subi w2 1#32)) 1#32) 0#32) 1#32) 1#32)))
    r32a v536 hw6 w1 w2) := by
  rw [k0_part32_eq_skeleton]; rfl

def r33b : Prog (TpuEff nD τ sig (Elt F) Λ₀ .tc) (Σ' (v580 : Elt F .i32) (k0_hw26 : k0_chk26 v580) (c1_i32_361 : BitVec 32) (c0_i32_362 : BitVec 32) (c0_i32_363 : BitVec 32) (c1_i32_364 : BitVec 32), BitVec 32) :=
  tchk 5 k0_chk26 k0_chk26.dec fun v580 hw26 => pure ⟨v580, hw26, 1#32, 0#32, 0#32, 1#32, Scalar.divsi (Scalar.subi (Scalar.divsi (Scalar.addi (Scalar.subi (Scalar.muli 2#32 v580) 0#32) (Scalar.subi 1#32 1#32)) 1#32) 0#32) 1#32⟩
def r33a (v558 : Elt F .i32) (hw16 : k0_chk16 v558) (w1 w2 : BitVec 32) : Prog (TpuEff nD τ sig (Elt F) Λ₀ .tc) (Σ' (v580 : Elt F .i32) (k0_hw26 : k0_chk26 v580) (c1_i32_361 : BitVec 32) (c0_i32_362 : BitVec 32) (c0_i32_363 : BitVec 32) (c1_i32_364 : BitVec 32), BitVec 32) :=
  tchk 4 k0_chk21 k0_chk21.dec fun v569 hw21 => (do
    Scf.Loop.for (k0_t15_loop v569) (k0_t15_ok v569 hw21) () (k0_t15_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 v569 hw21)
    Scf.Loop.for (k0_t16_loop v569) (k0_t16_ok v569 hw21) () (k0_t16_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 v569 hw21 (tw v569))
    r33b)
theorem part33_prog (v558 : Elt F .i32) (hw16 : k0_chk16 v558) (w1 w2 : BitVec 32) : k0_part33 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 = (do
    Scf.Loop.for (k0_t13_loop v558) (k0_t13_ok v558 hw16) () (k0_t13_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2)
    Scf.Loop.for (k0_t14_loop v558) (k0_t14_ok v558 hw16) () (k0_t14_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 w2 (Scalar.addi 0#32 (Scalar.muli (Scalar.divsi (Scalar.subi w1 0#32) 1#32) 1#32)))
    r33a v558 hw16 w1 w2) := by
  rw [k0_part33_eq_skeleton]; rfl

theorem r31_step (c : Dev nD) {g : Fin 6 → BitVec 32} (hok : Ok g) (x4 : S1408x1536.Idx → Elt F .bf16) (v513 : Elt F .i32) (R : sProp 𝕄) :
    iprop(Tab c g ∗ (RH c g x4 0 ∗ R)) ⊢ WP c (r31 (F := F) v513) (fun r => iprop(⌜r.1 = T g 0 1⌝ ∗ RS c g x4 1 0 ∗ R)) := by
  rw [r31_prog]
  refine tchk_bind c g 0 _ _ _ (loop7 hok 0).2.2 _ _ ?_
  refine BIBase.Entails.trans (rs_in c g x4 0 R) ?_
  refine rseg c x4 0 _ _ _ _ _ _ (loop7 hok 0).1 (loop7 hok 0).2.1 (fun k u => t7_ok c hok x4 _ v513 rfl _ k u) _ _ R ?_
  refine BIBase.Entails.trans (rs_out c g x4 1 R) ?_
  unfold r31b
  refine tchk_bind c g 1 _ _ _ (loop7 hok 1).2.2 _ _ ?_
  refine BIBase.Entails.trans (rs_in c g x4 1 R) (wp_ret ?_)
  iintro H
  isplitr; · ipureintro; rfl
  iexact H

theorem part31_step (c : Dev nD) {g : Fin 6 → BitVec 32} (hok : Ok g) (PG)
    (hz : ∀ e j fd, kt g e = 0 → PG (e, j) ((zblk e j).view.write (Elt F) fd (zf (F := F)) Finset.univ)) (x4 : S1408x1536.Idx → Elt F .bf16) (v513 : Elt F .i32) (hv : v513 = T g 0 3) :
    iprop(ZS c g PG (zf (F := F)) (40 * zr g 3) ∗ (Tab c g ∗ RH c g x4 0)) ⊢ WP c (k0_part31 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513)
      (fun r => iprop(⌜r.1 = T g 0 1⌝ ∗ RS c g x4 1 0 ∗ ZS c g PG (zf (F := F)) (40 * zr g 6))) := by
  rw [part31_prog]
  refine ziss_bind c hok PG zf hz 3 k0_t4_loop k0_t4_ok t4_trips (k0_t4_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) k0_off4 k0_off4_inb (fun _ _ => rfl) off4_eq (z5 v513) _ _ v513 hv ?_
  have h := zload_bind c hok PG zf hz 4 k0_t5_loop k0_t5_ok t5_trips (k0_t5_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) k0_off5 k0_off5_inb (fun _ _ => rfl) off5_eq (z6 v513)
    (fun r => iprop(⌜r.1 = T g 0 1⌝ ∗ RS c g x4 1 0 ∗ ZS c g PG (zf (F := F)) (40 * zr g 6))) (RH c g x4 0)
    (zload_bind c hok PG zf hz 5 k0_t6_loop k0_t6_ok t6_trips (k0_t6_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513) k0_off6 k0_off6_inb (fun _ _ => rfl) off6_eq (r31 v513) _ _ (by
      refine BIBase.Entails.trans ?_ (r31_step c hok x4 v513 (ZS c g PG (zf (F := F)) (40 * zr g 6)))
      iintro ⟨HT, HZ, HR⟩
      isplitl [HT]; · iexact HT
      isplitl [HR]; · iexact HR
      iexact HZ))
  unfold z5
  refine BIBase.Entails.trans ?_ h
  iintro ⟨HZ, HT, HR⟩
  isplitl [HT]; · iexact HT
  isplitl [HZ]; · iexact HZ
  iexact HR

theorem part32_step (c : Dev nD) {g : Fin 6 → BitVec 32} (hok : Ok g) (x4 : S1408x1536.Idx → Elt F .bf16) (v536 : Elt F .i32) (hw6 : k0_chk6 v536) (w1 w2 : BitVec 32) (hv : v536 = T g 0 1) (R : sProp 𝕄) :
    iprop(RS c g x4 1 0 ∗ R) ⊢ WP c (k0_part32 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v536 hw6 w1 w2) (fun r => iprop(⌜r.1 = T g 0 3 ∧ r.2.2.2 = 1#32⌝ ∗ RS c g x4 3 0 ∗ R)) := by
  subst hv
  rw [part32_prog]
  refine rseg c x4 1 _ _ _ _ _ _ (loop7 hok 1).1 (loop7 hok 1).2.1 (fun k u => t9_ok c hok x4 _ _ _ rfl _ k u) _ _ R ?_
  refine BIBase.Entails.trans (rs_out c g x4 2 R) ?_
  unfold r32a
  refine tchk_bind c g 2 _ _ _ (loop7 hok 2).2.2 _ _ ?_
  refine BIBase.Entails.trans (rs_in c g x4 2 R) ?_
  refine rseg c x4 2 _ _ _ _ _ _ (loop7 hok 2).1 (loop7 hok 2).2.1 (fun k u => t11_ok c hok x4 _ _ _ _ _ rfl _ k u) _ _ R ?_
  refine BIBase.Entails.trans (rs_out c g x4 3 R) ?_
  unfold r32b
  refine tchk_bind c g 3 _ _ _ (loop7 hok 3).2.2 _ _ ?_
  refine BIBase.Entails.trans (rs_in c g x4 3 R) (wp_ret ?_)
  iintro H
  isplitr; · ipureintro; exact ⟨rfl, rfl⟩
  iexact H

theorem part33_step (c : Dev nD) {g : Fin 6 → BitVec 32} (hok : Ok g) (x4 : S1408x1536.Idx → Elt F .bf16) (v558 : Elt F .i32) (hw16 : k0_chk16 v558) (w1 : BitVec 32) (hv : v558 = T g 0 3) (R : sProp 𝕄) :
    iprop(RS c g x4 3 0 ∗ R) ⊢ WP c (k0_part33 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v558 hw16 w1 1#32) (fun r => iprop(⌜r.1 = T g 0 5 ∧ r.2.2.1 = 1#32 ∧ r.2.2.2.1 = 0#32 ∧ r.2.2.2.2.1 = 0#32 ∧ r.2.2.2.2.2.1 = 1#32⌝ ∗ RS c g x4 5 0 ∗ R)) := by
  subst hv
  rw [part33_prog]
  refine rseg c x4 3 _ _ _ _ _ _ (loop7 hok 3).1 (loop7 hok 3).2.1 (fun k u => t13_ok c hok x4 _ _ rfl _ k u) _ _ R ?_
  refine BIBase.Entails.trans (rs_out c g x4 4 R) ?_
  unfold r33a
  refine tchk_bind c g 4 _ _ _ (loop7 hok 4).2.2 _ _ ?_
  refine BIBase.Entails.trans (rs_in c g x4 4 R) ?_
  refine rseg c x4 4 _ _ _ _ _ _ (loop7 hok 4).1 (loop7 hok 4).2.1 (fun k u => t15_ok c hok x4 _ _ _ _ _ rfl _ k u) _ _ R ?_
  refine BIBase.Entails.trans (rs_out c g x4 5 R) ?_
  unfold r33b
  refine tchk_bind c g 5 _ _ _ (loop7 hok 5).2.2 _ _ ?_
  refine BIBase.Entails.trans (rs_in c g x4 5 R) (wp_ret ?_)
  iintro H
  isplitr; · ipureintro; exact ⟨rfl, rfl, rfl, rfl, rfl⟩
  iexact H

/-- What the last tiles leave. -/
def After (c : Dev nD) (g : Fin 6 → BitVec 32) (PG : Fin 6 × Fin 40 → (S6x5120x1536.Idx → Elt F .f32) → Prop)
    (x1 x2 : S1.Idx → Elt F .f32) (x3 : S1408x5120.Idx → Elt F .bf16) (x4 : S1408x1536.Idx → Elt F .bf16) : sProp 𝕄 :=
  iprop((a1.view.loc (c : Thread nD τ) ↦{fullShare} x1) ∗ (a2.view.loc (c : Thread nD τ) ↦{fullShare} x2)
      ∗ (a3.view.loc (c : Thread nD τ) ↦{fullShare} x3) ∗ (a4.view.loc (c : Thread nD τ) ↦{fullShare} x4) ∗ (∃ f6, a6.view.loc (c : Thread nD τ) ↦{fullShare} f6) ∗ (∃ f7, a7.view.loc (c : Thread nD τ) ↦{fullShare} f7)
      ∗ (bigSep Finset.univ fun k : Fin 4 => idle (F := F) c k) ∗ (bigSep (Finset.univ.filter fun p : Fin 6 × Fin 40 => ¬ kt g p.1 = 0) (fin c g PG)))

theorem part34_full (c : Dev nD) {g : Fin 6 → BitVec 32} (hok : Ok g) (PG : Fin 6 × Fin 40 → (S6x5120x1536.Idx → Elt F .f32) → Prop) (z : S128x1536.Idx → Elt F .f32)
    (x1 x2 : S1.Idx → Elt F .f32) (x3 : S1408x5120.Idx → Elt F .bf16) (x4 : S1408x1536.Idx → Elt F .bf16)
    (hPG : PGok g PG x3 x4 (k0_pay71 (sca x1) (sca x2)))
    (v580 : Elt F .i32) (hw) (w588) (hv : v580 = T g 0 5) :
    iprop(RS c g x4 5 0 ∗ ((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7)
      ∗ Inv c g PG 0 0 0 ∗ (∃ W, owes (c : Thread nD τ) 0 W) ∗ ZS c g PG z (40 * zr g 6)))
    ⊢ WP c (k0_part34 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v580 hw 1#32 0#32 0#32 1#32 w588) (fun _ => iprop((Tab c g ∗ ZW c g PG z (40 * zr g 1)) ∗ After c g PG x1 x2 x3 x4)) := by
  rw [part34_prog]
  subst hv
  refine rseg c x4 5 _ _ _ _ _ _ (loop7 hok 5).1 (loop7 hok 5).2.1 (fun k u => t17_ok c hok x4 _ _ rfl _ k u) _ _ _ ?_
  have h := tail34_step c hok PG z x1 x2 x3 x4 hPG (T g 0 5) hw 1#32 0#32 0#32 1#32 w588
  unfold WP at *
  refine BIBase.Entails.trans h (wp_mono _ _ _ fun _ => ?_)
  unfold After
  iintro ⟨H1, H2, H3, H4, H6, H7, HI, HF, HT, HZ⟩
  isplitl [HT HZ]
  · isplitl [HT]; · iexact HT
    iexact HZ
  isplitl [H1]; · iexact H1
  isplitl [H2]; · iexact H2
  isplitl [H3]; · iexact H3
  isplitl [H4]; · iexact H4
  isplitl [H6]; · iexact H6
  isplitl [H7]; · iexact H7
  isplitl [HI]; · iexact HI
  iexact HF

def w6 (v : BitVec 32) : Prog (TpuEff nD τ sig (Elt F) Λ₀ .tc) (Σ' (v632 : BitVec 32), BitVec 32) := pure ⟨Scalar.extui (Scalar.cmpi .eq v 0#32), 0#32⟩
def w5 : Prog (TpuEff nD τ sig (Elt F) Λ₀ .tc) (Σ' (v632 : BitVec 32), BitVec 32) :=
  tload 0 5 >>= fun v => w6 v
def w4 : Prog (TpuEff nD τ sig (Elt F) Λ₀ .tc) (Σ' (v632 : BitVec 32), BitVec 32) :=
  tload 0 4 >>= fun v => if cz v then (Scf.Loop.for k0_t29_loop k0_t29_ok () (k0_t29_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w5) else w5
def w3 : Prog (TpuEff nD τ sig (Elt F) Λ₀ .tc) (Σ' (v632 : BitVec 32), BitVec 32) :=
  tload 0 3 >>= fun v => if cz v then (Scf.Loop.for k0_t28_loop k0_t28_ok () (k0_t28_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w4) else w4
def w2 : Prog (TpuEff nD τ sig (Elt F) Λ₀ .tc) (Σ' (v632 : BitVec 32), BitVec 32) :=
  tload 0 2 >>= fun v => if cz v then (Scf.Loop.for k0_t27_loop k0_t27_ok () (k0_t27_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w3) else w3
def w1 : Prog (TpuEff nD τ sig (Elt F) Λ₀ .tc) (Σ' (v632 : BitVec 32), BitVec 32) :=
  tload 0 1 >>= fun v => if cz v then (Scf.Loop.for k0_t26_loop k0_t26_ok () (k0_t26_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => w2) else w2

/-- The waits after the tiles. -/
theorem w1_step (c : Dev nD) {g : Fin 6 → BitVec 32} (hok : Ok g) (PG) (z : S128x1536.Idx → Elt F .f32) :
    iprop(Tab c g ∗ ZW c g PG z (40 * zr g 1)) ⊢ WP c (w1 (F := F))
      (fun r => iprop(⌜r = ⟨Scalar.extui (Scalar.cmpi .eq (T g 0 5) 0#32), 0#32⟩⌝ ∗ Tab c g ∗ ZW c g PG z (40 * zr g 5))) := by
  unfold w1
  refine wload_bind c hok PG z 1 k0_t26_loop k0_t26_ok t26_trips (k0_t26_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off85 k0_off85_inb (fun _ _ => rfl) _ _ ?_
  unfold w2
  refine wload_bind c hok PG z 2 k0_t27_loop k0_t27_ok t27_trips (k0_t27_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off86 k0_off86_inb (fun _ _ => rfl) _ _ ?_
  unfold w3
  refine wload_bind c hok PG z 3 k0_t28_loop k0_t28_ok t28_trips (k0_t28_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off87 k0_off87_inb (fun _ _ => rfl) _ _ ?_
  unfold w4
  refine wload_bind c hok PG z 4 k0_t29_loop k0_t29_ok t29_trips (k0_t29_body (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off88 k0_off88_inb (fun _ _ => rfl) _ _ ?_
  unfold w5
  refine tload_bind c g 0 5 (fun v => w6 v) _ _ ?_
  unfold w6
  refine wp_ret ?_
  iintro H
  isplitr; · ipureintro; rfl
  iexact H

def rest34 (r : Σ' (v580 : Elt F .i32) (k0_hw26 : k0_chk26 v580) (c1_i32_361 : BitVec 32) (c0_i32_362 : BitVec 32) (c0_i32_363 : BitVec 32) (c1_i32_364 : BitVec 32), BitVec 32) : Prog (TpuEff nD τ sig (Elt F) Λ₀ .tc) (Σ' (v632 : BitVec 32), BitVec 32) :=
  k0_part34 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 r.1 r.2.1 r.2.2.1 r.2.2.2.1 r.2.2.2.2.1 r.2.2.2.2.2.1 r.2.2.2.2.2.2 >>= fun _ => w1
def rest33 (r : Σ' (v558 : Elt F .i32) (k0_hw16 : k0_chk16 v558) (v563 : BitVec 32), BitVec 32) : Prog (TpuEff nD τ sig (Elt F) Λ₀ .tc) (Σ' (v632 : BitVec 32), BitVec 32) :=
  k0_part33 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 r.1 r.2.1 r.2.2.1 r.2.2.2 >>= rest34
def rest32 (r : Σ' (v536 : Elt F .i32) (k0_hw6 : k0_chk6 v536) (v538 : BitVec 32), BitVec 32) : Prog (TpuEff nD τ sig (Elt F) Λ₀ .tc) (Σ' (v632 : BitVec 32), BitVec 32) :=
  k0_part32 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 r.1 r.2.1 r.2.2.1 r.2.2.2 >>= rest33
def rest31 (v513 : Elt F .i32) : Prog (TpuEff nD τ sig (Elt F) Λ₀ .tc) (Σ' (v632 : BitVec 32), BitVec 32) := k0_part31 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v513 >>= rest32
/-- Everything after the table's words are computed. -/
def rest35 (v351 v414 v434 v451 : BitVec 32) (v452 : BitVec 1) (v490 : BitVec 32) : Prog (TpuEff nD τ sig (Elt F) Λ₀ .tc) (Σ' (v632 : BitVec 32), BitVec 32) := k0_part30 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v351 v414 v434 v451 v452 v490 >>= rest31

section Rest
variable (c : Dev nD) {g : Fin 6 → BitVec 32} (hok : Ok g) (PG : Fin 6 × Fin 40 → (S6x5120x1536.Idx → Elt F .f32) → Prop)
    (hz : ∀ e j fd, kt g e = 0 → PG (e, j) ((zblk e j).view.write (Elt F) fd (zf (F := F)) Finset.univ))
    (x1 x2 : S1.Idx → Elt F .f32) (x3 : S1408x5120.Idx → Elt F .bf16) (x4 : S1408x1536.Idx → Elt F .bf16)
    (hPG : PGok g PG x3 x4 (k0_pay71 (sca x1) (sca x2)))
    (hP : ∀ p f, kt g p.1 ≠ 0 → 10 ≤ p.2.val → PG p f)

/-- What the last tiles need beside the rows. -/
def Before (c : Dev nD) (g : Fin 6 → BitVec 32) (PG : Fin 6 × Fin 40 → (S6x5120x1536.Idx → Elt F .f32) → Prop)
    (x1 x2 : S1.Idx → Elt F .f32) (x3 : S1408x5120.Idx → Elt F .bf16) : sProp 𝕄 :=
  iprop((a1.view.loc (c : Thread nD τ) ↦{fullShare} x1) ∗ (a2.view.loc (c : Thread nD τ) ↦{fullShare} x2) ∗ (a3.view.loc (c : Thread nD τ) ↦{fullShare} x3) ∗ (∃ f7, a7.view.loc (c : Thread nD τ) ↦{fullShare} f7)
      ∗ Inv c g PG 0 0 0 ∗ (∃ W, owes (c : Thread nD τ) 0 W))

/-- The share of the zeros left aside while copies of them are under way. -/
def Rem (c : Dev nD) (g : Fin 6 → BitVec 32) : sProp 𝕄 := iprop(a9.view.loc (c : Thread nD τ) ↦[a9.view.set]{Transfers.shareDrop fullShare (40 * zr g 6)} (zf (F := F)))

/-- The end of the waits but the last. -/
def End35 (c : Dev nD) (g : Fin 6 → BitVec 32) (PG : Fin 6 × Fin 40 → (S6x5120x1536.Idx → Elt F .f32) → Prop)
    (x1 x2 : S1.Idx → Elt F .f32) (x3 : S1408x5120.Idx → Elt F .bf16) (x4 : S1408x1536.Idx → Elt F .bf16) (r : Σ' (v632 : BitVec 32), BitVec 32) : sProp 𝕄 :=
  iprop(⌜r = ⟨Scalar.extui (Scalar.cmpi .eq (T g 0 5) 0#32), 0#32⟩⌝ ∗ Tab c g ∗ ZW c g PG (zf (F := F)) (40 * zr g 5) ∗ After c g PG x1 x2 x3 x4 ∗ Rem (F := F) c g)

include hok hPG in
theorem rest34_step (r) (hr : r.1 = T g 0 5 ∧ r.2.2.1 = 1#32 ∧ r.2.2.2.1 = 0#32 ∧ r.2.2.2.2.1 = 0#32 ∧ r.2.2.2.2.2.1 = 1#32) :
    iprop((RS c g x4 5 0 ∗ (Before c g PG x1 x2 x3 ∗ ZS c g PG (zf (F := F)) (40 * zr g 6))) ∗ Rem (F := F) c g) ⊢ WP c (rest34 (F := F) r) (End35 c g PG x1 x2 x3 x4) := by
  obtain ⟨v580, hw, b1, b2, b3, b4, w588⟩ := r
  obtain ⟨hv, rfl, rfl, rfl, rfl⟩ := hr
  unfold rest34
  refine BIBase.Entails.trans ?_ (wp_seq (R := Rem (F := F) c g) (part34_full c hok PG zf x1 x2 x3 x4 hPG v580 hw w588 hv) ?_)
  · unfold Before
    iintro ⟨⟨HS, ⟨H1, H2, H3, H7, HI, HW⟩, HZ⟩, HR⟩
    isplitr [HR]
    · isplitl [HS]; · iexact HS
      isplitl [H1]; · iexact H1
      isplitl [H2]; · iexact H2
      isplitl [H3]; · iexact H3
      isplitl [H7]; · iexact H7
      isplitl [HI]; · iexact HI
      isplitl [HW]; · iexact HW
      iexact HZ
    iexact HR
  · have h := w1_step c hok PG (zf (F := F))
    unfold WP at *
    refine BIBase.Entails.trans ?_ (BIBase.Entails.trans (BIBase.Entails.trans (BIClass.sep_mono h (.rfl : iprop(After c g PG x1 x2 x3 x4 ∗ Rem (F := F) c g) ⊢ _)) (wp_frame_r _ _ _)) (wp_mono _ _ _ fun r => ?_))
    · iintro ⟨⟨H, HA⟩, HR⟩
      isplitl [H]; · iexact H
      isplitl [HA]; · iexact HA
      iexact HR
    · unfold End35
      iintro ⟨⟨%hr, HT, HZ⟩, HA, HR⟩
      isplitr; · ipureintro; exact hr
      isplitl [HT]; · iexact HT
      isplitl [HZ]; · iexact HZ
      isplitl [HA]; · iexact HA
      iexact HR

include hok hPG in
theorem rest33_step (r) (hr : r.1 = T g 0 3 ∧ r.2.2.2 = 1#32) :
    iprop((RS c g x4 3 0 ∗ (Before c g PG x1 x2 x3 ∗ ZS c g PG (zf (F := F)) (40 * zr g 6))) ∗ Rem (F := F) c g) ⊢ WP c (rest33 (F := F) r) (End35 c g PG x1 x2 x3 x4) := by
  obtain ⟨v558, hw, w, c1⟩ := r
  obtain ⟨hv, rfl⟩ := hr
  unfold rest33
  exact wp_seq' (part33_step c hok x4 v558 hw w hv _) fun r => pull fun hr => rest34_step c hok PG x1 x2 x3 x4 hPG r hr

include hok hPG in
theorem rest32_step (r) (hr : r.1 = T g 0 1) :
    iprop((RS c g x4 1 0 ∗ (Before c g PG x1 x2 x3 ∗ ZS c g PG (zf (F := F)) (40 * zr g 6))) ∗ Rem (F := F) c g) ⊢ WP c (rest32 (F := F) r) (End35 c g PG x1 x2 x3 x4) := by
  obtain ⟨v536, hw, w, c1⟩ := r
  unfold rest32
  exact wp_seq' (part32_step c hok x4 v536 hw w c1 hr _) fun r => pull fun hr => rest33_step c hok PG x1 x2 x3 x4 hPG r hr

include hok hPG hz in
theorem rest31_step (v513 : Elt F .i32) (hv : v513 = T g 0 3) :
    iprop((ZS c g PG (zf (F := F)) (40 * zr g 3) ∗ (Tab c g ∗ RH c g x4 0)) ∗ (Before c g PG x1 x2 x3 ∗ Rem (F := F) c g)) ⊢ WP c (rest31 (F := F) v513) (End35 c g PG x1 x2 x3 x4) := by
  unfold rest31
  refine wp_seq' (part31_step c hok PG hz x4 v513 hv) fun r => pull fun hr => BIBase.Entails.trans ?_ (rest32_step c hok PG x1 x2 x3 x4 hPG r hr)
  iintro ⟨⟨HS, HZ⟩, HB, HR⟩
  isplitr [HR]
  · isplitl [HS]; · iexact HS
    isplitl [HB]; · iexact HB
    iexact HZ
  iexact HR

include hok hPG hz hP in
theorem rest35_step (v351 v414 v434 v451 : BitVec 32) (v452 : BitVec 1) (v490 : BitVec 32) (f10 : S5x6.Idx → Elt F .i32)
    (h10 : ∀ y : S5x6.Idx, (y 1).val < 5 → a10.view.read (Elt F) f10 y = tabF (F := F) g y)
    (h0 : Scalar.select v452 v490 0#32 = T g 0 5) (h1 : v451 = T g 1 5) (h2 : v414 = T g 2 5) (h3 : v351 = T g 3 5) (h4 : v434 = T g 4 5) (f9 : S128x1536.Idx → Elt F .f32) :
    iprop((((a10.view.loc (c : Thread nD τ) ↦{fullShare} f10) ∗ (a9.view.loc (c : Thread nD τ) ↦{fullShare} f9))
        ∗ (semVal ((c : Thread nD τ), SemLoc.dma a11.sem) 0 ∗ (bigSep (Finset.univ.filter fun p : Fin 6 × Fin 40 => kt g p.1 = 0) (own (F := F) c g))))
      ∗ ((a1.view.loc (c : Thread nD τ) ↦{fullShare} x1) ∗ (a2.view.loc (c : Thread nD τ) ↦{fullShare} x2) ∗ (a3.view.loc (c : Thread nD τ) ↦{fullShare} x3)
        ∗ (a4.view.loc (c : Thread nD τ) ↦{fullShare} x4) ∗ (∃ f6, a6.view.loc (c : Thread nD τ) ↦{fullShare} f6) ∗ (∃ f7, a7.view.loc (c : Thread nD τ) ↦{fullShare} f7)
        ∗ (bigSep Finset.univ fun k : Fin 4 => idle (F := F) c k) ∗ (bigSep (Finset.univ.filter fun p : Fin 6 × Fin 40 => ¬ kt g p.1 = 0) (own (F := F) c g))
        ∗ (∃ W, owes (c : Thread nD τ) 0 W)))
    ⊢ WP c (rest35 (F := F) v351 v414 v434 v451 v452 v490) (End35 c g PG x1 x2 x3 x4) := by
  unfold rest35
  refine wp_seq' (part30_step c hok PG hz v351 v414 v434 v451 v452 v490 f10 h10 h0 h1 h2 h3 h4 f9) fun v513 => pull fun hv =>
    BIBase.Entails.trans ?_ (rest31_step c hok PG hz x1 x2 x3 x4 hPG v513 hv)
  unfold Before Rem
  iintro ⟨⟨HT, HZ, H9⟩, H1, H2, H3, H4, H6, H7, HI, Ho, HW⟩
  isplitl [HT HZ H4 H6]
  · isplitl [HZ]; · iexact HZ
    isplitl [HT]; · iexact HT
    iapply (rs_start c g x4)
    isplitl [H4]; · iexact H4
    iexact H6
  isplitr [H9]
  · isplitl [H1]; · iexact H1
    isplitl [H2]; · iexact H2
    isplitl [H3]; · iexact H3
    isplitl [H7]; · iexact H7
    isplitl [HI Ho]
    · iapply (inv_start c g PG hP)
      isplitl [HI]; · iexact HI
      iexact Ho
    iexact HW
  iexact H9

end Rest

end Cert.KernelIdeal.Hand

end
-- ==== Proof.KI.Body3.lean ====
module

public import proofs.«01_k».proof.Proof.KI.Body2

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

/-- The group sizes as the words read from them. -/
def gz (x0 : S6.Idx → Elt F .i32) : Fin 6 → BitVec 32 := fun e => x0 (ix1 e)

theorem part35_prog : k0_part35 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 = (do
  let ⟨v19, v36, v37, v38, c1_i32_14⟩ : Σ' (v19 : BitVec 32) (v36 : BitVec 32) (v37 : BitVec 1) (v38 : BitVec 32), BitVec 32 ← k0_part17 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12
  let v76 : BitVec 32 ← k0_part18 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v36 v37 v38 c1_i32_14
  let ⟨v82, v101, v102, c8_i32_48, v103, v108, v110, c0_i32_52⟩ : Σ' (v82 : BitVec 32) (v101 : BitVec 32) (v102 : BitVec 32) (c8_i32_48 : BitVec 32) (v103 : BitVec 32) (v108 : BitVec 32) (v110 : BitVec 32), BitVec 32 ← k0_part19 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v19 v36 v76
  let ⟨v119, v120, v141, c2_i32_66, v142, v147, v152⟩ : Σ' (v119 : BitVec 32) (v120 : BitVec 1) (v141 : BitVec 32) (c2_i32_66 : BitVec 32) (v142 : BitVec 32) (v147 : BitVec 32), BitVec 32 ← k0_part20 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v19 v101 v102 c8_i32_48 v103 v108 v110 c0_i32_52
  let ⟨v165, v184, v185⟩ : Σ' (v165 : BitVec 32) (v184 : BitVec 32), BitVec 32 ← k0_part21 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v19 v82 v102 v119 v120 v141 c2_i32_66 v142 v147 v152
  let ⟨v202, v203, v224, c2_i32_111, v225, c0_i32_112⟩ : Σ' (v202 : BitVec 32) (v203 : BitVec 1) (v224 : BitVec 32) (c2_i32_111 : BitVec 32) (v225 : BitVec 32), BitVec 32 ← k0_part22 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v102 v184 v185
  let ⟨v248, v250, c16_i32_131, v251, v256, v258⟩ : Σ' (v248 : BitVec 32) (v250 : BitVec 32) (c16_i32_131 : BitVec 32) (v251 : BitVec 32) (v256 : BitVec 32), BitVec 32 ← k0_part23 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v102 v165 v185 v202 v203 v224 c2_i32_111 v225 c0_i32_112
  let ⟨v268, v285, v286, v288, c8_i32_148, v289, v300⟩ : Σ' (v268 : BitVec 32) (v285 : BitVec 32) (v286 : BitVec 1) (v288 : BitVec 32) (c8_i32_148 : BitVec 32) (v289 : BitVec 32), BitVec 1 ← k0_part24 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v185 v250 c16_i32_131 v251 v256 v258
  let ⟨v331, v332, c15_i32_175⟩ : Σ' (v331 : BitVec 32) (v332 : Elt F .i32), BitVec 32 ← k0_part25 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v185 v248 v268 v285 v286 v288 c8_i32_148 v289 v300
  let ⟨v351, v368, v369, v371, c8_i32_193, v372, v373⟩ : Σ' (v351 : BitVec 32) (v368 : BitVec 32) (v369 : BitVec 1) (v371 : BitVec 32) (c8_i32_193 : BitVec 32) (v372 : BitVec 32), BitVec 1 ← k0_part26 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v268 v332 c15_i32_175
  let v408 : BitVec 32 ← k0_part27 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v368 v369 v371 c8_i32_193 v372 v373
  let ⟨v414, v433, v434, v435, v449⟩ : Σ' (v414 : BitVec 32) (v433 : BitVec 32) (v434 : BitVec 32) (v435 : BitVec 32), BitVec 1 ← k0_part28 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v268 v331 v351 v408
  let ⟨v451, v452, v490⟩ : Σ' (v451 : BitVec 32) (v452 : BitVec 1), BitVec 32 ← k0_part29 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 v433 v434 v435 v449
  rest35 v351 v414 v434 v451 v452 v490) := by
  rw [k0_part35_eq_skeleton]; rfl

/-- A quotient rounded down, the sign of the divisor known. -/
def fdivL (x d : BitVec 32) : BitVec 32 :=
  Scalar.select
    (Scalar.andi
      (Scalar.cmpi .ne (Scalar.subi (Scalar.extui (Scalar.cmpi .sgt x 0#32) : BitVec 32) (Scalar.extui (Scalar.cmpi .slt x 0#32))) 1#32)
      (Scalar.cmpi .ne (Scalar.remsi x d) 0#32))
    (Scalar.subi (Scalar.divsi x d) 1#32) (Scalar.divsi x d)

theorem fdivL_eq (x d : BitVec 32) (hd : Scalar.subi (Scalar.extui (Scalar.cmpi .sgt d 0#32) : BitVec 32) (Scalar.extui (Scalar.cmpi .slt d 0#32)) = 1#32) : fdivL x d = fdivW x d := by
  unfold fdivL fdivW
  rw [hd]

theorem bsW_succ (g : Fin 6 → BitVec 32) (e : Fin 6) : bsW g (e.val + 1) = Scalar.addi (bsW g e.val) (nbW g e) := by
  conv_lhs => unfold bsW
  rw [dif_pos e.isLt]

theorem slW_succ (g : Fin 6 → BitVec 32) (e : Fin 6) : slW g (e.val + 1) = Scalar.addi (slW g e.val) (ktW g e) := by
  conv_lhs => unfold slW
  rw [dif_pos e.isLt]

def OkP (g : Fin 6 → BitVec 32) (p : View.Piece (Elt F) S5x6 .i32) : Prop := ∀ x, p.2 x = tabF (F := F) g (p.1.emb x)

theorem okp_cons (g : Fin 6 → BitVec 32) (r : Fin 5) (e : Fin 6) (inb) (v : BitVec 32) (hv : v = T g r e) (L : List (View.Piece (Elt F) S5x6 .i32)) (hL : ∀ p ∈ L, OkP (F := F) g p) :
    ∀ p ∈ ((⟨Rect.unit (s := S5x6) ![r.val, e.val] S1x1.size inb, fun _ => v⟩ : View.Piece (Elt F) S5x6 .i32) :: L), OkP (F := F) g p :=
  List.forall_mem_cons.2 ⟨fun x => piece_ok g r e inb v hv x, hL⟩

theorem gz_read (x0 : S6.Idx → Elt F .i32) (e : Fin 6) (inb) (x : S1.Idx) :
    View.readAt (Elt F) a0.view (Rect.unit (s := S6) ![e.val] S1.size inb).toLoadRect x0 x = gz (F := F) x0 e := by
  show x0 _ = x0 (ix1 e)
  congr 1
  funext a
  match a with
  | 0 =>
    apply Fin.ext
    have : (x 0).val < 1 := (x 0).isLt
    show e.val + 1 * (x 0).val = e.val
    omega

/-- The words of one expert, from its size and the words before. -/
theorem row {g : Fin 6 → BitVec 32} (hok : Ok g) (e : Fin 6) (xw bw nw bw' gw kw sw sw' : BitVec 32) (hx : xw = g e) (hb : bw = T g 3 e) (hs : sw = T g 2 e)
    (hn : nw = fdivL (Scalar.addi xw 15#32) 16#32) (hb' : bw' = Scalar.addi bw nw) (hg : gw = fdivL bw 8#32)
    (hk : kw = Scalar.select (Scalar.cmpi .sgt nw 0#32) (fdivL (Scalar.addi (Scalar.subi (fdivL (Scalar.subi (Scalar.addi bw' 8#32) 1#32) 8#32) gw) 1#32) 2#32) 0#32)
    (hs' : sw' = Scalar.addi sw kw) : kw = T g 0 e ∧ gw = T g 1 e ∧ bw' = T g 4 e ∧ ∀ e' : Fin 6, e'.val = e.val + 1 → bw' = T g 3 e' ∧ sw' = T g 2 e' := by
  have h2 : ∀ x, fdivL x 2#32 = fdivW x 2#32 := fun x => fdivL_eq x _ (by decide)
  have h8 : ∀ x, fdivL x 8#32 = fdivW x 8#32 := fun x => fdivL_eq x _ (by decide)
  have h16 : ∀ x, fdivL x 16#32 = fdivW x 16#32 := fun x => fdivL_eq x _ (by decide)
  have b3 : bw = bsW g e.val := hb.trans (TW_eq hok 3 e).symm
  have s2 : sw = slW g e.val := hs.trans (TW_eq hok 2 e).symm
  have n1 : nw = nbW g e := by rw [hn, h16, hx]; rfl
  have b4 : bw' = bsW g (e.val + 1) := by rw [hb', b3, n1, bsW_succ]
  have g1 : gw = g0W g e.val := by rw [hg, h8, b3]; rfl
  have k0 : kw = ktW g e := by rw [hk, h2, h8, n1, b4, g1]; rfl
  have s4 : sw' = slW g (e.val + 1) := by rw [hs', s2, k0, slW_succ]
  exact ⟨k0.trans (TW_eq hok 0 e), g1.trans (TW_eq hok 1 e), b4.trans (TW_eq hok 4 e), fun e' h => ⟨b4.trans ((congrArg (bsW g) h.symm).trans (TW_eq hok 3 e')), s4.trans ((congrArg (slW g) h.symm).trans (TW_eq hok 2 e'))⟩⟩

set_option maxHeartbeats 400000 in
set_option sl_exec.resultNames true in
/-- The body up to its last wait. -/
theorem part35_step (c : Dev nD) (x0 : S6.Idx → Elt F .i32) (hok : Ok (gz (F := F) x0)) (f10 : S5x6.Idx → Elt F .i32) (P : sProp 𝕄) (f9 : S128x1536.Idx → Elt F .f32)
   (Q : (Σ' (v632 : BitVec 32), BitVec 32) → sProp 𝕄)
   (hrest : ∀ (v351 v414 v434 v451 : BitVec 32) (v452 : BitVec 1) (v490 : BitVec 32) (f10 : S5x6.Idx → Elt F .i32)
    (h10 : ∀ y : S5x6.Idx, (y 1).val < 5 → a10.view.read (Elt F) f10 y = tabF (F := F) (gz (F := F) x0) y)
    (h0 : Scalar.select v452 v490 0#32 = T (gz (F := F) x0) 0 5) (h1 : v451 = T (gz (F := F) x0) 1 5) (h2 : v414 = T (gz (F := F) x0) 2 5) (h3 : v351 = T (gz (F := F) x0) 3 5) (h4 : v434 = T (gz (F := F) x0) 4 5),
    iprop(P ∗ (a10.view.loc (c : Thread nD τ) ↦{fullShare} f10)) ⊢ WP c (rest35 (F := F) v351 v414 v434 v451 v452 v490) Q) :
   iprop((a0.view.loc (c : Thread nD τ) ↦{fullShare} x0) ∗ (a10.view.loc (c : Thread nD τ) ↦{fullShare} f10) ∗ P)
   ⊢ WP c (k0_part35 (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) (fun r => iprop(Q r ∗ (a0.view.loc (c : Thread nD τ) ↦{fullShare} x0))) := by
  rw [part35_prog]
  unfold WP at *
  iintro ⟨H0, H10, HR⟩
  set_option sl_exec.stopBefore "rest35" in sl_exec_parts
  have hcov : ∀ y : S5x6.Idx, (y 1).val < 5 → ∃ p ∈ part35_step.sl.H10_25 x0, y ∈ p.1.set := by
    intro y hy
    clear hrest hok
    have hy0 : (y 0).val < 5 := (y 0).isLt
    unfold part35_step.sl.H10_25 part35_step.sl.H10_22 part35_step.sl.H10_20 part35_step.sl.H10_15 part35_step.sl.H10_10 part35_step.sl.H10_5 part35_step.sl.H10_1
    simp only [List.exists_mem_cons_iff, mem_unit11, mem_unit11', List.not_mem_nil, false_and, exists_false, or_false]
    revert hy hy0
    generalize (y 0).val = a
    generalize (y 1).val = b
    intro hb ha
    have ha' : a = 0 ∨ a = 1 ∨ a = 2 ∨ a = 3 ∨ a = 4 := by omega
    have hb' : b = 0 ∨ b = 1 ∨ b = 2 ∨ b = 3 ∨ b = 4 := by omega
    rcases ha' with rfl | rfl | rfl | rfl | rfl <;> rcases hb' with rfl | rfl | rfl | rfl | rfl <;> decide
  have q0 : 0#32 = T (gz (F := F) x0) 3 0 ∧ 0#32 = T (gz (F := F) x0) 2 0 := ⟨rfl, rfl⟩
  have r0 := row hok 0 (part35_step.sl.v0 x0) 0#32 (part35_step.sl.v18 x0) (part35_step.sl.v19 x0) 0#32 (part35_step.sl.v76 x0) 0#32 (part35_step.sl.v82 x0) (gz_read x0 0 _ _) rfl rfl rfl rfl (by decide) rfl rfl
  have q1 := r0.2.2.2 1 rfl
  have r1 := row hok 1 (part35_step.sl.v83 x0) (part35_step.sl.v19 x0) (part35_step.sl.v101 x0) (part35_step.sl.v102 x0) (part35_step.sl.v119 x0) (part35_step.sl.v159 x0) (part35_step.sl.v82 x0) (part35_step.sl.v165 x0) (gz_read x0 1 _ _) q1.1 q1.2 rfl rfl rfl rfl rfl
  have q2 := r1.2.2.2 2 rfl
  have r2 := row hok 2 (part35_step.sl.v166 x0) (part35_step.sl.v102 x0) (part35_step.sl.v184 x0) (part35_step.sl.v185 x0) (part35_step.sl.v202 x0) (part35_step.sl.v242 x0) (part35_step.sl.v165 x0) (part35_step.sl.v248 x0) (gz_read x0 2 _ _) q2.1 q2.2 rfl rfl rfl rfl rfl
  have q3 := r2.2.2.2 3 rfl
  have r3 := row hok 3 (part35_step.sl.v249 x0) (part35_step.sl.v185 x0) (part35_step.sl.v267 x0) (part35_step.sl.v268 x0) (part35_step.sl.v285 x0) (part35_step.sl.v325 x0) (part35_step.sl.v248 x0) (part35_step.sl.v331 x0) (gz_read x0 3 _ _) q3.1 q3.2 rfl rfl rfl rfl rfl
  have q4 := r3.2.2.2 4 rfl
  have r4 := row hok 4 (part35_step.sl.v332 x0) (part35_step.sl.v268 x0) (part35_step.sl.v350 x0) (part35_step.sl.v351 x0) (part35_step.sl.v368 x0) (part35_step.sl.v408 x0) (part35_step.sl.v331 x0) (part35_step.sl.v414 x0) (gz_read x0 4 _ _) q4.1 q4.2 rfl rfl rfl rfl rfl
  have q5 := r4.2.2.2 5 rfl
  have r5 := row hok 5 (part35_step.sl.v415 x0) (part35_step.sl.v351 x0) (part35_step.sl.v433 x0) (part35_step.sl.v434 x0) (part35_step.sl.v451 x0) (Scalar.select (part35_step.sl.v452 x0) (part35_step.sl.v490 x0) 0#32) (part35_step.sl.v414 x0) (Scalar.addi (part35_step.sl.v414 x0) (Scalar.select (part35_step.sl.v452 x0) (part35_step.sl.v490 x0) 0#32)) (gz_read x0 5 _ _) q5.1 q5.2 rfl rfl rfl rfl rfl
  have l1 : ∀ p ∈ part35_step.sl.H10_1 x0, OkP (gz (F := F) x0) p := okp_cons (gz (F := F) x0) 0 0 inb_S5x6_S1x1_0_0 _ r0.1 _ (fun _ h => absurd h List.not_mem_nil)
  have l5 : ∀ p ∈ part35_step.sl.H10_5 x0, OkP (gz (F := F) x0) p := okp_cons (gz (F := F) x0) 4 0 inb_S5x6_S1x1_4_0 _ r0.2.2.1 _ (okp_cons (gz (F := F) x0) 3 0 inb_S5x6_S1x1_3_0 _ q0.1 _ (okp_cons (gz (F := F) x0) 2 0 inb_S5x6_S1x1_2_0 _ q0.2 _ (okp_cons (gz (F := F) x0) 1 0 inb_S5x6_S1x1_1_0 _ r0.2.1 _ (l1))))
  have l10 : ∀ p ∈ part35_step.sl.H10_10 x0, OkP (gz (F := F) x0) p := okp_cons (gz (F := F) x0) 4 1 inb_S5x6_S1x1_4_1 _ r1.2.2.1 _ (okp_cons (gz (F := F) x0) 3 1 inb_S5x6_S1x1_3_1 _ q1.1 _ (okp_cons (gz (F := F) x0) 2 1 inb_S5x6_S1x1_2_1 _ q1.2 _ (okp_cons (gz (F := F) x0) 1 1 inb_S5x6_S1x1_1_1 _ r1.2.1 _ (okp_cons (gz (F := F) x0) 0 1 inb_S5x6_S1x1_0_1 _ r1.1 _ (l5)))))
  have l15 : ∀ p ∈ part35_step.sl.H10_15 x0, OkP (gz (F := F) x0) p := okp_cons (gz (F := F) x0) 4 2 inb_S5x6_S1x1_4_2 _ r2.2.2.1 _ (okp_cons (gz (F := F) x0) 3 2 inb_S5x6_S1x1_3_2 _ q2.1 _ (okp_cons (gz (F := F) x0) 2 2 inb_S5x6_S1x1_2_2 _ q2.2 _ (okp_cons (gz (F := F) x0) 1 2 inb_S5x6_S1x1_1_2 _ r2.2.1 _ (okp_cons (gz (F := F) x0) 0 2 inb_S5x6_S1x1_0_2 _ r2.1 _ (l10)))))
  have l20 : ∀ p ∈ part35_step.sl.H10_20 x0, OkP (gz (F := F) x0) p := okp_cons (gz (F := F) x0) 4 3 inb_S5x6_S1x1_4_3 _ r3.2.2.1 _ (okp_cons (gz (F := F) x0) 3 3 inb_S5x6_S1x1_3_3 _ q3.1 _ (okp_cons (gz (F := F) x0) 2 3 inb_S5x6_S1x1_2_3 _ q3.2 _ (okp_cons (gz (F := F) x0) 1 3 inb_S5x6_S1x1_1_3 _ r3.2.1 _ (okp_cons (gz (F := F) x0) 0 3 inb_S5x6_S1x1_0_3 _ r3.1 _ (l15)))))
  have l22 : ∀ p ∈ part35_step.sl.H10_22 x0, OkP (gz (F := F) x0) p := okp_cons (gz (F := F) x0) 1 4 inb_S5x6_S1x1_1_4 _ r4.2.1 _ (okp_cons (gz (F := F) x0) 0 4 inb_S5x6_S1x1_0_4 _ r4.1 _ (l20))
  have l25 : ∀ p ∈ part35_step.sl.H10_25 x0, OkP (gz (F := F) x0) p := okp_cons (gz (F := F) x0) 4 4 inb_S5x6_S1x1_4_4 _ r4.2.2.1 _ (okp_cons (gz (F := F) x0) 3 4 inb_S5x6_S1x1_3_4 _ q4.1 _ (okp_cons (gz (F := F) x0) 2 4 inb_S5x6_S1x1_2_4 _ q4.2 _ (l22)))
  have hs := hrest (part35_step.sl.v351 x0) (part35_step.sl.v414 x0) (part35_step.sl.v434 x0) (part35_step.sl.v451 x0) (part35_step.sl.v452 x0) (part35_step.sl.v490 x0)
    (a10.view.writes (Elt F) f10 (part35_step.sl.H10_25 x0)) ?_ r5.1 r5.2.1 q5.2 q5.1 r5.2.2.1
  · iapply (BIBase.Entails.trans (BIClass.sep_mono hs (.rfl : iprop(a0.view.loc (c : Thread nD τ) ↦{fullShare} x0) ⊢ _)) (wp_frame_r _ _ _))
    isplitr [H0]
    · isplitl [HR]; · iexact HR
      iexact H10
    iexact H0
  · intro y hy
    refine View.read_writes_apply_of_pieces a10.view _ (tabF (F := F) (gz (F := F) x0)) _ ?_ y ?_
    · exact l25
    · exact hcov y hy

theorem cc0_prog : cc0_nvfp4_wgrad (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 = (k0_part35 a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12 >>= fun r =>
    (if Scalar.cmpi .ne r.1 r.2 = 1#1 then (Scf.Loop.for k0_t30_loop k0_t30_ok () (k0_t30_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => pure PUnit.unit) else pure PUnit.unit)) := by
  rw [cc0_nvfp4_wgrad_eq_skeleton]; rfl

end Cert.KernelIdeal.Hand

end
-- ==== Proof.KI.Body4.lean ====
module

public import proofs.«01_k».proof.Proof.KI.Body3
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Idealize.ShloMosaic.Memref (isWhole_whole)
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

/-- The result: zero in a group without blocks, else the element of the tile's product. -/
def GF (g : Fin 6 → BitVec 32) (x3 : S1408x5120.Idx → Elt F .bf16) (x4 : S1408x1536.Idx → Elt F .bf16) (γ : F .f32) : S6x5120x1536.Idx → Elt F .f32 :=
  fun i => if kt g ⟨(i 0).val, (i 0).isLt⟩ = 0 then Scalar.ofBits .f32 0x00000000#32
    else outT g x3 x4 γ ⟨(i 0).val, (i 0).isLt⟩ ((i 1).val / 512) (ix3 0 ⟨(i 1).val % 512, Nat.mod_lt _ (by decide)⟩ ⟨(i 2).val, (i 2).isLt⟩)

/-- What is claimed of a block: it holds the result's elements. -/
def PGd (g : Fin 6 → BitVec 32) (x3 : S1408x5120.Idx → Elt F .bf16) (x4 : S1408x1536.Idx → Elt F .bf16) (γ : F .f32) (p : Fin 6 × Fin 40)
    (f : S6x5120x1536.Idx → Elt F .f32) : Prop := ∀ i ∈ I g p, f i = GF g x3 x4 γ i

/-- A result element read through the tile it lies in. -/
theorem oread (e : Fin 6) (t : Fin 10) (f : S6x5120x1536.Idx → Elt F .f32) (i : S6x5120x1536.Idx) (h0 : (i 0).val = e.val) (h1 : (i 1).val / 512 = t.val) :
    f i = (oblk e t).view.read (Elt F) f (ValueIdx.ix2 ⟨(i 1).val % 512, Nat.mod_lt _ (by decide)⟩ ⟨(i 2).val, (i 2).isLt⟩) := by
  unfold oblk
  rw [Memref.read_squeeze_slice _ _ _ _ (show S1x512x1536.ShapeCasts S512x1536 by decide), ValueIdx.shapeCast_1ab_ab_apply]
  show f i = f _
  congr 1
  funext a
  apply Fin.ext
  match a with
  | 0 => show (i 0).val = e.val + 1 * 0; omega
  | 1 => show (i 1).val = 512 * t.val + 1 * ((i 1).val % 512); omega
  | 2 => show (i 2).val = 0 + 1 * (i 2).val; omega

/-- A result element read through the block of 128 rows it lies in. -/
theorem zread (e : Fin 6) (j : Fin 40) (f : S6x5120x1536.Idx → Elt F .f32) (i : S6x5120x1536.Idx) (h0 : (i 0).val = e.val) (h1 : (i 1).val / 128 = j.val) :
    f i = (zblk e j).view.read (Elt F) f (ValueIdx.ix2 ⟨(i 1).val % 128, Nat.mod_lt _ (by decide)⟩ ⟨(i 2).val, (i 2).isLt⟩) := by
  unfold zblk
  rw [Memref.read_squeeze_slice _ _ _ _ (show S1x128x1536.ShapeCasts S128x1536 by decide), ValueIdx.shapeCast_1ab_ab_apply]
  show f i = f _
  congr 1
  funext a
  apply Fin.ext
  match a with
  | 0 => show (i 0).val = e.val + 1 * 0; omega
  | 1 => show (i 1).val = 128 * j.val + 1 * ((i 1).val % 128); omega
  | 2 => show (i 2).val = 0 + 1 * (i 2).val; omega

/-- A slot read as a tile. -/
theorem sread (k : Fin 4) (f8 : S4x512x1536.Idx → Elt F .f32) (a : Fin 512) (b : Fin 1536) :
    (oslot k).view.read (Elt F) f8 (ValueIdx.ix2 a b) = rslot k f8 (ix3 0 a b) := by
  unfold oslot
  rw [Memref.read_squeeze_slice _ _ _ _ (show S1x512x1536.ShapeCasts S512x1536 by decide), ValueIdx.shapeCast_1ab_ab_apply]
  rfl

variable (g : Fin 6 → BitVec 32) (x3 : S1408x5120.Idx → Elt F .bf16) (x4 : S1408x1536.Idx → Elt F .bf16) (γ : F .f32)

theorem PGd_zero (e j fd) (h : kt g e = 0) : PGd g x3 x4 γ (e, j) ((zblk e j).view.write (Elt F) fd (zf (F := F)) Finset.univ) := by
  intro i hi
  simp only [I, Finset.mem_filter, Finset.mem_univ, true_and, h, if_true] at hi
  refine (zread e j _ i hi.1 hi.2).trans ((congrFun (View.read_write_univ _ _) _).trans ?_)
  unfold GF zf
  rw [if_pos]
  rw [show (⟨(i 0).val, (i 0).isLt⟩ : Fin 6) = e from Fin.ext hi.1]; exact h

theorem PGd_ok : PGok g (PGd g x3 x4 γ) x3 x4 γ := by
  intro e t k f8 fd h hr i hi
  simp only [I, Finset.mem_filter, Finset.mem_univ, true_and, h, if_false] at hi
  refine (oread e t _ i hi.1 hi.2).trans ((congrFun (View.read_write_univ _ _) _).trans ((sread k f8 _ _).trans ?_))
  rw [hr]
  unfold GF
  rw [show (⟨(i 0).val, (i 0).isLt⟩ : Fin 6) = e from Fin.ext hi.1, if_neg h, hi.2]

theorem PGd_none (p : Fin 6 × Fin 40) (f) (h : kt g p.1 ≠ 0) (h10 : 10 ≤ p.2.val) : PGd g x3 x4 γ p f := by
  intro i hi
  simp only [I, Finset.mem_filter, Finset.mem_univ, true_and, h, if_false] at hi
  have := (i 1).isLt
  have h5 : (i 1).val < 5120 := this
  omega

theorem split5 (c : Dev nD) (f5 : S6x5120x1536.Idx → Elt F .f32) : (a5.view.loc (c : Thread nD τ) ↦{fullShare} f5) ⊢
    iprop((bigSep (Finset.univ.filter fun p : Fin 6 × Fin 40 => kt g p.1 = 0) (own (F := F) c g)) ∗ (bigSep (Finset.univ.filter fun p : Fin 6 × Fin 40 => ¬ kt g p.1 = 0) (own (F := F) c g))) := by
  refine BIBase.Entails.trans (Entails.of_eq (Ring.pointsTo_blocks (ℓ := a5.view.loc (c : Thread nD τ)) (I g) (I_disj g) (I_cover g) f5)) ?_
  refine BIBase.Entails.trans ?_ (Entails.of_eq (bigSep_filter_split Finset.univ (fun p : Fin 6 × Fin 40 => kt g p.1 = 0)))
  refine bigSep_mono fun p _ => (show (a5.view.loc (c : Thread nD τ) ↦[I g p]{fullShare} f5) ⊢ own (F := F) c g p from ?_)
  unfold own
  iintro H; iexists f5; iexact H

theorem join5 (c : Dev nD) :
    iprop((bigSep (Finset.univ.filter fun p : Fin 6 × Fin 40 => kt g p.1 = 0) (fin (F := F) c g (PGd g x3 x4 γ))) ∗ (bigSep (Finset.univ.filter fun p : Fin 6 × Fin 40 => ¬ kt g p.1 = 0) (fin (F := F) c g (PGd g x3 x4 γ))))
    ⊢ (a5.view.loc (c : Thread nD τ) ↦{fullShare} (GF g x3 x4 γ)) := by
  refine BIBase.Entails.trans (Entails.of_eq (bigSep_filter_split Finset.univ (fun p : Fin 6 × Fin 40 => kt g p.1 = 0)).symm) ?_
  refine BIBase.Entails.trans ?_ (Entails.of_eq (Ring.pointsTo_blocks (ℓ := a5.view.loc (c : Thread nD τ)) (I g) (I_disj g) (I_cover g) (GF g x3 x4 γ)).symm)
  refine bigSep_mono fun p _ => (show fin (F := F) c g (PGd g x3 x4 γ) p ⊢ (a5.view.loc (c : Thread nD τ) ↦[I g p]{fullShare} (GF g x3 x4 γ)) from ?_)
  unfold fin
  iintro ⟨%f, %h, H⟩
  ihave H' := (Entails.of_eq (pointsTo_congr (ℓ := a5.view.loc (c : Thread nD τ)) (I := I g p) (f := f) (g := GF g x3 x4 γ) (fun i hi => h i hi))) $$ H
  iexact H'

theorem sset_disj (k l : Fin 4) (h : k ≠ l) : Disjoint (sset k) (sset l) := by
  rw [Finset.disjoint_left]
  intro i hp hq
  simp only [sset, Finset.mem_filter, Finset.mem_univ, true_and] at hp hq
  exact h (Fin.ext (hp.symm.trans hq))

theorem sset_cover : Finset.univ.biUnion sset = Finset.univ := by
  ext i
  simp only [Finset.mem_biUnion, Finset.mem_univ, true_and, iff_true]
  exact ⟨⟨(i 0).val, (i 0).isLt⟩, by simp only [sset, Finset.mem_filter, Finset.mem_univ, true_and]⟩

/-- The slots' semaphores at rest. -/
def ocells (c : Dev nD) : sProp 𝕄 := bigSep Finset.univ fun k : Fin 4 => semVal ((c : Thread nD τ), SemLoc.dma (ocell k)) 0

theorem split8 (c : Dev nD) (f8 : S4x512x1536.Idx → Elt F .f32) : iprop(ocells (F := F) c ∗ (a8.view.loc (c : Thread nD τ) ↦{fullShare} f8)) ⊢ bigSep Finset.univ fun k : Fin 4 => idle (F := F) c k := by
  have h1 : (a8.view.loc (c : Thread nD τ) ↦{fullShare} f8) ⊢ bigSep Finset.univ fun k : Fin 4 => iprop(∃ f, slotAt (F := F) c k f) := by
    refine BIBase.Entails.trans (Entails.of_eq (Ring.pointsTo_blocks (ℓ := a8.view.loc (c : Thread nD τ)) sset sset_disj sset_cover f8)) ?_
    refine bigSep_mono fun p _ => (show (a8.view.loc (c : Thread nD τ) ↦[sset p]{fullShare} f8) ⊢ iprop(∃ f, slotAt (F := F) c p f) from ?_)
    unfold slotAt
    iintro H; iexists f8; iexact H
  unfold ocells idle
  refine BIBase.Entails.trans (BIClass.sep_mono .rfl h1) ?_
  exact Entails.of_eq (bigSep_sep _ _ _).symm

theorem join8 (c : Dev nD) : (bigSep Finset.univ fun k : Fin 4 => idle (F := F) c k) ⊢ iprop(ocells (F := F) c ∗ ∃ f8 : S4x512x1536.Idx → Elt F .f32, (a8.view.loc (c : Thread nD τ) ↦{fullShare} f8)) := by
  unfold ocells idle
  refine BIBase.Entails.trans (Entails.of_eq (bigSep_sep _ _ _)) (BIClass.sep_mono .rfl ?_)
  unfold slotAt
  exact Ring.pointsTo_blocks_join_exists (ℓ := a8.view.loc (c : Thread nD τ)) sset sset_disj sset_cover (fun _ => Scalar.ofBits .f32 0x00000000#32)

/-- What the body holds before it runs and after: the result at `f5`. -/
def Held (c : Dev nD) (x0 : S6.Idx → Elt F .i32) (x1 x2 : S1.Idx → Elt F .f32) (x3 : S1408x5120.Idx → Elt F .bf16) (x4 : S1408x1536.Idx → Elt F .bf16)
    (f5 : S6x5120x1536.Idx → Elt F .f32) : sProp 𝕄 :=
  iprop((a0.view.loc (c : Thread nD τ) ↦{fullShare} x0) ∗ (a1.view.loc (c : Thread nD τ) ↦{fullShare} x1) ∗ (a2.view.loc (c : Thread nD τ) ↦{fullShare} x2) ∗ (a3.view.loc (c : Thread nD τ) ↦{fullShare} x3) ∗ (a4.view.loc (c : Thread nD τ) ↦{fullShare} x4) ∗ (a5.view.loc (c : Thread nD τ) ↦{fullShare} f5) ∗ (∃ f6, (a6.view.loc (c : Thread nD τ) ↦{fullShare} f6)) ∗ (∃ f7, (a7.view.loc (c : Thread nD τ) ↦{fullShare} f7)) ∗ (∃ f8, (a8.view.loc (c : Thread nD τ) ↦{fullShare} f8)) ∗ (∃ f9, (a9.view.loc (c : Thread nD τ) ↦{fullShare} f9)) ∗ (∃ f10, (a10.view.loc (c : Thread nD τ) ↦{fullShare} f10))
    ∗ semVal ((c : Thread nD τ), SemLoc.dma a11.sem) 0 ∗ ocells (F := F) c ∗ (∃ W, owes (c : Thread nD τ) 0 W))

theorem tail_step (c : Dev nD) (x0 : S6.Idx → Elt F .i32) (hok : Ok (gz (F := F) x0)) (x1 x2 : S1.Idx → Elt F .f32) (x3 : S1408x5120.Idx → Elt F .bf16) (x4 : S1408x1536.Idx → Elt F .bf16)
    (r : Σ' (v632 : BitVec 32), BitVec 32) :
    iprop(End35 c (gz (F := F) x0) (PGd (gz (F := F) x0) x3 x4 (k0_pay71 (sca x1) (sca x2))) x1 x2 x3 x4 r ∗ (a0.view.loc (c : Thread nD τ) ↦{fullShare} x0))
    ⊢ WP c (if Scalar.cmpi .ne r.1 r.2 = 1#1 then (Scf.Loop.for k0_t30_loop k0_t30_ok () (k0_t30_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) >>= fun _ => pure PUnit.unit) else pure PUnit.unit)
      (fun _ => Held c x0 x1 x2 x3 x4 (GF (gz (F := F) x0) x3 x4 (k0_pay71 (sca x1) (sca x2)))) := by
  generalize hPGe : PGd (gz (F := F) x0) x3 x4 (k0_pay71 (sca x1) (sca x2)) = PG
  unfold End35
  iintro ⟨⟨%hr, HT, HZ, HA, HR⟩, H0⟩
  subst hr
  have hs := wseg c (gz (F := F) x0) PG (zf (F := F)) 5 k0_t30_loop k0_t30_ok t30_trips (k0_t30_body a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) k0_off89 k0_off89_inb (fun _ _ => rfl)
    (Scalar.cmpi .ne (Scalar.extui (Scalar.cmpi .eq (T (gz (F := F) x0) 0 5) 0#32)) 0#32 = 1#1) (cz_iff hok 5)
  unfold WP at *
  iapply (BIBase.Entails.trans (BIBase.Entails.trans (BIBase.Entails.trans (BIClass.sep_mono hs (.rfl : iprop(Tab c (gz (F := F) x0) ∗ After c (gz (F := F) x0) PG x1 x2 x3 x4 ∗ Rem (F := F) c (gz (F := F) x0) ∗ (a0.view.loc (c : Thread nD τ) ↦{fullShare} x0)) ⊢ _)) (wp_frame_r _ _ _)) (wp_mono _ _ _ fun r => ?_)) (wp_fupd _ _ _ _ _))
  rotate_left
  · isplitl [HZ]; · iexact HZ
    isplitl [HT]; · iexact HT
    isplitl [HA]; · iexact HA
    isplitl [HR]; · iexact HR
    iexact H0
  iintro ⟨HZ, HT, HA, HR, H0⟩
  unfold Rem
  imod (z_end c (gz (F := F) x0) PG (zf (F := F))) $$ [HZ HR] with ⟨Hs, Hf, H9, HW⟩
  · isplitl [HZ]; · iexact HZ
    iexact HR
  imodintro
  unfold After Held Tab
  icases HA with ⟨H1, H2, H3, H4, H6, H7, HI, Hn⟩
  subst hPGe
  ihave H5 := (join5 (gz (F := F) x0) x3 x4 (k0_pay71 (sca x1) (sca x2)) c) $$ [Hf Hn]
  · isplitl [Hf]; · iexact Hf
    iexact Hn
  ihave HI' := (join8 c) $$ HI
  icases HI' with ⟨Hc, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (zf (F := F))
    ihave H9' := (show (a9.view.loc (c : Thread nD τ) ↦[a9.view.set]{fullShare} (zf (F := F))) ⊢ (a9.view.loc (c : Thread nD τ) ↦{fullShare} (zf (F := F))) from by rw [show a9.view.set = Finset.univ from View.set_whole _]) $$ H9
    iexact H9'
  isplitl [HT]; · iexists _; iexact HT
  isplitl [Hs]; · iexact Hs
  isplitl [Hc]; · iexact Hc
  iexact HW

/-- The body at its operands: the result comes out as computed, all else as it was. -/
theorem cc0_step (c : Dev nD) (x0 : S6.Idx → Elt F .i32) (hok : Ok (gz (F := F) x0)) (x1 x2 : S1.Idx → Elt F .f32) (x3 : S1408x5120.Idx → Elt F .bf16) (x4 : S1408x1536.Idx → Elt F .bf16)
    (f5 : S6x5120x1536.Idx → Elt F .f32) :
    Held c x0 x1 x2 x3 x4 f5 ⊢ WP c (cc0_nvfp4_wgrad (F := F) a0 (isWhole_whole _) a1 (isWhole_whole _) a2 (isWhole_whole _) a3 (isWhole_whole _) a4 (isWhole_whole _) a5 (isWhole_whole _) a6 (isWhole_whole _) a7 (isWhole_whole _) a8 (isWhole_whole _) a9 (isWhole_whole _) a10 (isWhole_whole _) a11 a12) (fun _ => Held c x0 x1 x2 x3 x4 (GF (gz (F := F) x0) x3 x4 (k0_pay71 (sca x1) (sca x2)))) := by
  rw [cc0_prog]
  unfold Held
  iintro ⟨H0, H1, H2, H3, H4, H5, H6, H7, ⟨%f8, H8⟩, ⟨%f9, H9⟩, ⟨%f10, H10⟩, Hs, Hc, HW⟩
  ihave HI := (split8 c f8) $$ [Hc H8]
  · isplitl [Hc]; · iexact Hc
    iexact H8
  ihave HB := (split5 (gz (F := F) x0) c f5) $$ H5
  icases HB with ⟨Hz, Hn⟩
  iapply (wp_seq' (R := iprop(⌜True⌝)) (part35_step c x0 hok f10
    iprop((((a9.view.loc (c : Thread nD τ) ↦{fullShare} f9)) ∗ (semVal ((c : Thread nD τ), SemLoc.dma a11.sem) 0 ∗ (bigSep (Finset.univ.filter fun p : Fin 6 × Fin 40 => kt (gz (F := F) x0) p.1 = 0) (own (F := F) c (gz (F := F) x0)))))
      ∗ ((a1.view.loc (c : Thread nD τ) ↦{fullShare} x1) ∗ (a2.view.loc (c : Thread nD τ) ↦{fullShare} x2) ∗ (a3.view.loc (c : Thread nD τ) ↦{fullShare} x3) ∗ (a4.view.loc (c : Thread nD τ) ↦{fullShare} x4) ∗ (∃ f6, (a6.view.loc (c : Thread nD τ) ↦{fullShare} f6)) ∗ (∃ f7, (a7.view.loc (c : Thread nD τ) ↦{fullShare} f7))
        ∗ (bigSep Finset.univ fun k : Fin 4 => idle (F := F) c k) ∗ (bigSep (Finset.univ.filter fun p : Fin 6 × Fin 40 => ¬ kt (gz (F := F) x0) p.1 = 0) (own (F := F) c (gz (F := F) x0)))
        ∗ (∃ W, owes (c : Thread nD τ) 0 W))) f9
    (End35 c (gz (F := F) x0) (PGd (gz (F := F) x0) x3 x4 (k0_pay71 (sca x1) (sca x2))) x1 x2 x3 x4) ?_) ?_)
  rotate_left 2
  · isplitl
    · isplitl [H0]; · iexact H0
      isplitl [H10]; · iexact H10
      isplitl [H9 Hs Hz]
      · isplitl [H9]; · iexact H9
        isplitl [Hs]; · iexact Hs
        iexact Hz
      isplitl [H1]; · iexact H1
      isplitl [H2]; · iexact H2
      isplitl [H3]; · iexact H3
      isplitl [H4]; · iexact H4
      isplitl [H6]; · iexact H6
      isplitl [H7]; · iexact H7
      isplitl [HI]; · iexact HI
      isplitl [Hn]; · iexact Hn
      iexact HW
    · ipureintro; trivial
  · intro v351 v414 v434 v451 v452 v490 f10 h10 h0 h1 h2 h3 h4
    refine BIBase.Entails.trans ?_ (rest35_step c hok (PGd (gz (F := F) x0) x3 x4 (k0_pay71 (sca x1) (sca x2))) (PGd_zero (gz (F := F) x0) x3 x4 _) x1 x2 x3 x4 (PGd_ok (gz (F := F) x0) x3 x4 _) (PGd_none (gz (F := F) x0) x3 x4 _) v351 v414 v434 v451 v452 v490 f10 h10 h0 h1 h2 h3 h4 f9)
    iintro ⟨⟨⟨H9, HS⟩, HR⟩, H10⟩
    isplitr [HR]
    · isplitl [H9 H10]
      · isplitl [H10]; · iexact H10
        iexact H9
      iexact HS
    iexact HR
  · intro r
    refine BIBase.Entails.trans ?_ (tail_step c x0 hok x1 x2 x3 x4 r)
    iintro ⟨H, -⟩
    iexact H

end Cert.KernelIdeal.Hand

end
-- ==== Proof.KI.Launch.lean ====
module

public import proofs.«01_k».proof.Proof.KI.Body4
public import Idealize.ShloMosaic.Lib.Pipeline.FrameValue

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cells. -/
abbrev osem0 : Fin 5 → SemLoc sig := fun j => (![SemLoc.dma a11.sem, SemLoc.dma (ocell 0), SemLoc.dma (ocell 1), SemLoc.dma (ocell 2), SemLoc.dma (ocell 3)] : Fin 5 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma a11.sem) 0 ∗ semVal ((c : Thread nD τ), SemLoc.dma (ocell 0)) 0 ∗ semVal ((c : Thread nD τ), SemLoc.dma (ocell 1)) 0
          ∗ semVal ((c : Thread nD τ), SemLoc.dma (ocell 2)) 0 ∗ semVal ((c : Thread nD τ), SemLoc.dma (ocell 3)) 0) := by
  rw [Pipeline.ownSems0_eq_of_list c osem0 [0, 1, 2, 3, 4] (by decide) (by decide)]; rfl

theorem ocells_eq (c : Dev nD) : ocells (F := F) c
      = iprop(semVal ((c : Thread nD τ), SemLoc.dma (ocell 0)) 0 ∗ semVal ((c : Thread nD τ), SemLoc.dma (ocell 1)) 0
          ∗ semVal ((c : Thread nD τ), SemLoc.dma (ocell 2)) 0 ∗ semVal ((c : Thread nD τ), SemLoc.dma (ocell 3)) 0) := by
  unfold ocells
  exact bigSep_univ_eq_bigSepL [(0 : Fin 4), (1 : Fin 4), (2 : Fin 4), (3 : Fin 4)] (by decide) (by decide) _

/-- The result the body writes by its own copies. -/
def R0 : Finset (Ref sig .tc) := {main_v0}
theorem R0_sub : R0 ⊆ Pipeline.restRefs sig spec0 \ ∅ := by decide

theorem routed0_eq (c : Dev nD) (W : (b : Ref sig .tc) → Buf (Elt F) ((c : Thread nD τ).loc b)) :
    (Pipeline.routed R0 c W : sProp 𝕄) = iprop(((c : Thread nD τ).loc main_v0) ↦{fullShare} W main_v0) := by
  unfold Pipeline.routed; rw [BI.bigSep_eq_bigSepL_of_eq [main_v0] (by decide) (by decide)]; rfl

/-- The operands at the launch. -/
abbrev X0 (c : Dev nD) : S6.Idx → Elt F .i32 := V m c main_arg0
abbrev X1 (c : Dev nD) : S1.Idx → Elt F .f32 := V m c main_arg1
abbrev X2 (c : Dev nD) : S1.Idx → Elt F .f32 := V m c main_arg2
abbrev X3 (c : Dev nD) : S1408x5120.Idx → Elt F .bf16 := V m c main_arg3
abbrev X4 (c : Dev nD) : S1408x1536.Idx → Elt F .bf16 := V m c main_arg4

/-- The result. -/
def Res (c : Dev nD) : S6x5120x1536.Idx → Elt F .f32 := GF (gz (F := F) (X0 m c)) (X3 m c) (X4 m c) (k0_pay71 (sca (X1 m c)) (sca (X2 m c)))

/-- The buffers after the body. -/
def VG (c : Dev nD) : (b : Ref sig .tc) → Buf (Elt F) ((c : Thread nD τ).loc b) := Function.update (V m c) main_v0 (Res m c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t.val = 0 then Pipeline.ΦDRG osem0 spec0 ∅ R0 (V m) (V m) c else Pipeline.ΦDRG osem0 spec0 ∅ R0 (V m) (VG m) c
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  (dats m 0 c).before_in_eq_fetched 0 rfl (fun _ => rfl) (fun _ _ _ => rfl) (fun t => rfl) t d
theorem before1 (c : Dev nD) (t : Fin cfg0.N) (d) : (dats m 0 c).before 1 t d = iblk m c 1 t :=
  (dats m 0 c).before_in_eq_fetched 1 rfl (fun _ => rfl) (fun _ _ _ => rfl) (fun t => rfl) t d
theorem before2 (c : Dev nD) (t : Fin cfg0.N) (d) : (dats m 0 c).before 2 t d = iblk m c 2 t :=
  (dats m 0 c).before_in_eq_fetched 2 rfl (fun _ => rfl) (fun _ _ _ => rfl) (fun t => rfl) t d
theorem before3 (c : Dev nD) (t : Fin cfg0.N) (d) : (dats m 0 c).before 3 t d = iblk m c 3 t :=
  (dats m 0 c).before_in_eq_fetched 3 rfl (fun _ => rfl) (fun _ _ _ => rfl) (fun t => rfl) t d
theorem before4 (c : Dev nD) (t : Fin cfg0.N) (d) : (dats m 0 c).before 4 t d = iblk m c 4 t :=
  (dats m 0 c).before_in_eq_fetched 4 rfl (fun _ => rfl) (fun _ _ _ => rfl) (fun t => rfl) t d

theorem iblk0 (c : Dev nD) : iblk m c 0 t0_0 = X0 m c := by
  funext y; unfold iblk; show V m c main_arg0 _ = V m c main_arg0 y; congr 1; funext a; apply Fin.ext
  match a with
  | 0 => show 0 * _ + 1 * (y 0).val = (y 0).val; omega
theorem iblk1 (c : Dev nD) : iblk m c 1 t0_0 = X1 m c := by
  funext y; unfold iblk; show V m c main_arg1 _ = V m c main_arg1 y; congr 1; funext a; apply Fin.ext
  match a with
  | 0 => show 0 * _ + 1 * (y 0).val = (y 0).val; omega
theorem iblk2 (c : Dev nD) : iblk m c 2 t0_0 = X2 m c := by
  funext y; unfold iblk; show V m c main_arg2 _ = V m c main_arg2 y; congr 1; funext a; apply Fin.ext
  match a with
  | 0 => show 0 * _ + 1 * (y 0).val = (y 0).val; omega
theorem iblk3 (c : Dev nD) : iblk m c 3 t0_0 = X3 m c := by
  funext y; unfold iblk; show V m c main_arg3 _ = V m c main_arg3 y; congr 1; funext a; apply Fin.ext
  match a with
  | 0 => show 0 * _ + 1 * (y 0).val = (y 0).val; omega
  | 1 => show 0 * _ + 1 * (y 1).val = (y 1).val; omega
theorem iblk4 (c : Dev nD) : iblk m c 4 t0_0 = X4 m c := by
  funext y; unfold iblk; show V m c main_arg4 _ = V m c main_arg4 y; congr 1; funext a; apply Fin.ext
  match a with
  | 0 => show 0 * _ + 1 * (y 0).val = (y 0).val; omega
  | 1 => show 0 * _ + 1 * (y 1).val = (y 1).val; omega

theorem ΦDRG0_eq (W : (c : Dev nD) → (b : Ref sig .tc) → Buf (Elt F) ((c : Thread nD τ).loc b)) (c : Dev nD) :
    (Pipeline.ΦDRG osem0 spec0 ∅ R0 (V m) W c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))
        ∗ (∃ r, prngReg c r) ∗ (semVal ((c : Thread nD τ), SemLoc.dma a11.sem) 0 ∗ ocells (F := F) c) ∗ ⌜True⌝ ∗ (((c : Thread nD τ).loc main_v0) ↦{fullShare} W c main_v0)) := by
  rw [Pipeline.ΦDRG_eq, scopedRest0_eq, ownSems00_eq, ocells_eq, routed0_eq, bigSep_empty]; rfl

/-- What the body finds and leaves: the staged operands, the invariant, nothing owed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

variable (hok : ∀ c : Dev nD, Ok (gz (F := F) (X0 m c)))

include hok in
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost
  simp only [before0, before1, before2, before3, before4]
  rw [show (dats m 0 c).Φ t0_0.castSucc = Pipeline.ΦDRG osem0 spec0 ∅ R0 (V m) (V m) c from rfl, show (dats m 0 c).Φ t0_0.succ = Pipeline.ΦDRG osem0 spec0 ∅ R0 (V m) (VG m) c from rfl, ΦDRG0_eq, ΦDRG0_eq,
    show (dats m 0 c).after 0 t0_0 = iblk m c 0 t0_0 from rfl, show (dats m 0 c).after 1 t0_0 = iblk m c 1 t0_0 from rfl, show (dats m 0 c).after 2 t0_0 = iblk m c 2 t0_0 from rfl,
    show (dats m 0 c).after 3 t0_0 = iblk m c 3 t0_0 from rfl, show (dats m 0 c).after 4 t0_0 = iblk m c 4 t0_0 from rfl, iblk0, iblk1, iblk2, iblk3, iblk4,
    show VG m c main_v0 = Res m c from Function.update_self _ _ _]
  unfold Dat.owesAt Pipeline.owesWithin
  rw [show (dats m 0 c).owed t0_0.castSucc = 0 from rfl, show (dats m 0 c).owed t0_0.succ = 0 from rfl]
  rw [show (owns (c : Thread nD τ) (st0_0 t0_0) fullShare (X0 m c) : sProp 𝕄) = (a0.view.loc (c : Thread nD τ) ↦{fullShare} X0 m c) from owns_whole ..,
    show (owns (c : Thread nD τ) (st0_1 t0_0) fullShare (X1 m c) : sProp 𝕄) = (a1.view.loc (c : Thread nD τ) ↦{fullShare} X1 m c) from owns_whole ..,
    show (owns (c : Thread nD τ) (st0_2 t0_0) fullShare (X2 m c) : sProp 𝕄) = (a2.view.loc (c : Thread nD τ) ↦{fullShare} X2 m c) from owns_whole ..,
    show (owns (c : Thread nD τ) (st0_3 t0_0) fullShare (X3 m c) : sProp 𝕄) = (a3.view.loc (c : Thread nD τ) ↦{fullShare} X3 m c) from owns_whole ..,
    show (owns (c : Thread nD τ) (st0_4 t0_0) fullShare (X4 m c) : sProp 𝕄) = (a4.view.loc (c : Thread nD τ) ↦{fullShare} X4 m c) from owns_whole ..]
  have h := cc0_step c (X0 m c) (hok c) (X1 m c) (X2 m c) (X3 m c) (X4 m c) (V m c main_v0)
  unfold WP Held at h
  iintro ⟨⟨⟨H6, H7, H8, H9, H10⟩, Hg, ⟨Hs, Hc⟩, -, H5⟩, ⟨%W, -, HW⟩, ⟨%d0, H0⟩, ⟨%d1, H1⟩, ⟨%d2, H2⟩, ⟨%d3, H3⟩, ⟨%d4, H4⟩⟩
  iapply (BIBase.Entails.trans (BIBase.Entails.trans (BIClass.sep_mono h (.rfl : iprop(∃ r, prngReg c r) ⊢ _)) (wp_frame_r _ _ _)) (wp_mono _ _ _ fun r => ?_))
  rotate_left
  · isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [Hs]; · iexact Hs
      isplitl [Hc]; · iexact Hc
      iexists W; iexact HW
    iexact Hg
  iintro ⟨⟨H0, H1, H2, H3, H4, H5, H6, H7, H8, H9, H10, Hs, Hc, ⟨%W', HW⟩⟩, Hg⟩
  isplitl [H6 H7 H8 H9 H10 Hg Hs Hc H5]
  · isplitl [H6 H7 H8 H9 H10]
    · isplitl [H6]; · iexact H6
      isplitl [H7]; · iexact H7
      isplitl [H8]; · iexact H8
      isplitl [H9]; · iexact H9
      iexact H10
    isplitl [Hg]; · iexact Hg
    isplitl [Hs Hc]
    · isplitl [Hs]; · iexact Hs
      iexact Hc
    isplitr
    · ipureintro; trivial
    iexact H5
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

include hok in
theorem body_obligation (c : Dev nD) : BodyObligation (dats (F := F) m 0 c) (defs₀ (F := F)) Variants.none () Set.univ := fun t => by
  rw [bigSep_W0, bigSep_W0, defs₀_row]
  exact triple_restated (sound_body m hok c t) rfl .rfl fun _ => .rfl

include hok in
set_option backward.isDefEq.respectTransparency.types false in
theorem run_main : θ_run defs (onTc (τ := τ) (main (F := F))) (s₀ m ρ) (fun r => Pipeline.FramePostRG cfgs (dats m) 0 R0 (V m) (VG m) r ∧ r.2.sem = fun _ => 0) :=
  Pipeline.θ_run_frame_dmaRG (Q' := _) cfgs (dats m) (0 : Fin 1) launch0 osem0 defs₀ Variants.none ownSemFacts0 ∅ R0 (by decide) R0_sub m ρ main
    (hbody := fun c => (body_obligation m hok c).loose) (hshare := fun c => (dats m 0 c).share_full fun _ => rfl)
    (howed := fun _ _ => rfl) (V := V m) (hmain := hmainD m Variants.none) (hA := A_eq m) (G := VG m)
    (hin := fun _ => .rfl) (hout := fun _ => .rfl)

include hok in
/-- Every run ends, leaves the operands alone, and leaves the result as computed. -/
theorem run_res : θ_run defs (onTc (τ := τ) (main (F := F))) ⟨m, fun _ => 0, ρ⟩ (fun r => (∀ c : Dev nD,
      r.2.mem ((c.tc : Thread nD τ).loc main_v0) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.written c (by decide)).trans (Function.update_self _ _ _),
      ((h.1.toR c).1 0).trans (((dats m 0 c).arrAt_in 0 rfl _).trans ((A_eq m c 0).trans (V_main_arg0 m c))),
      ((h.1.toR c).1 1).trans (((dats m 0 c).arrAt_in 1 rfl _).trans ((A_eq m c 1).trans (V_main_arg1 m c))),
      ((h.1.toR c).1 2).trans (((dats m 0 c).arrAt_in 2 rfl _).trans ((A_eq m c 2).trans (V_main_arg2 m c))),
      ((h.1.toR c).1 3).trans (((dats m 0 c).arrAt_in 3 rfl _).trans ((A_eq m c 3).trans (V_main_arg3 m c))),
      ((h.1.toR c).1 4).trans (((dats m 0 c).arrAt_in 4 rfl _).trans ((A_eq m c 4).trans (V_main_arg4 m c)))⟩, h.2⟩) (run_main m ρ hok)

end Cert.KernelIdeal.Hand

end
-- ==== Proof.Pre.lean ====
module

public import proofs.«01_k».proof.Proof.Words
public import proofs.«01_k».proof.Proof.Gen.Pre_sizes_ok
public import Idealize.ShloMosaic.Lib.Routing.Ops
public import Idealize.ShloMosaic.Lib.ReduceAll
public import Idealize.ShloMosaic.Lib.Affine
public import Idealize.ShloMosaic.Lib.Pointwise.Index

/-! The condition on the sizes, read: six numbers that are at most 1280 each and come to 1280. -/

@[expose] public section

noncomputable section

namespace Cert.Hand

open Idealize.ShloMosaic

instance : Subsingleton Cert.Pre_sizes_ok.S_.Idx := ⟨fun a b => funext fun k => k.elim0⟩

theorem ok_of_pre {F : FTy → Type} [FloatOps F] (x0 : IVec Cert.Pre_sizes_ok.S6 32) (x1 x2 : FVec F Cert.Pre_sizes_ok.S1 .f32)
    (x3 : FVec F Cert.Pre_sizes_ok.S1408x5120 .bf16) (x4 : FVec F Cert.Pre_sizes_ok.S1408x1536 .bf16)
    (h : Cert.Pre_sizes_ok.fn x0 x1 x2 x3 x4 = fun _ => 1#1) : Ok fun e => x0 (ix1 e) := by
  have e := congrFun h ValueIdx.ix0
  dsimp only [Cert.Pre_sizes_ok.fn] at e
  obtain ⟨hall, hsum⟩ := IntOp.andi_eq_one.1 e
  have hle : ∀ i : Fin 6, (x0 (ix1 i)).toNat ≤ 1280 := fun i => by
    have h1 := Host.reduce_andi_all _ _ _ _ _ hall (ix1 i)
    obtain ⟨a, b⟩ := IntOp.andi_eq_one.1 h1
    have a' := IntOp.cmpi_sge.1 a
    have b' := IntOp.cmpi_sle.1 b
    simp only [broadcastInDim, constantI, BitVec.toInt, BitVec.toNat_ofNat] at a' b'
    omega
  have hs := IntOp.cmpi_eq.1 hsum
  have hr := Routing.reduce_sum x0 (fun k => if h : k < 6 then (x0 (ix1 ⟨k, h⟩)).toNat else 0)
    (fun i => by rw [show ValueIdx.ix1 i = (ix1 i : (⟨1, ![6]⟩ : Shape).Idx) from funext fun k => match k with | ⟨0, _⟩ => rfl]; simp only [i.isLt, dif_pos, BitVec.ofNat_toNat, BitVec.setWidth_eq]) Cert.Pre_sizes_ok.Facts.reducesTo_S6_S_d0
    Cert.Pre_sizes_ok.Facts.h_S_
  have h2 := congrArg BitVec.toNat (hr.symm.trans hs)
  have e0 := hle 0
  have e1 := hle 1
  have e2 := hle 2
  have e3 := hle 3
  have e4 := hle 4
  have e5 := hle 5
  simp [List.range_succ, constantI] at h2
  unfold Ok
  rw [Fin.sum_univ_six]
  dsimp only
  omega

end Cert.Hand

end
-- ==== Proof.Value.lean ====
module

public import proofs.«01_k».proof.Proof.KI.Launch
public import Idealize.ShloMosaic.Lib.Pointwise
public import Idealize.ShloMosaic.Lib.Bf16Pair

/-! What the kernel leaves, over the reals: the product over the rows of a group's own blocks, times the scale. -/

@[expose] public section

set_option maxRecDepth 16384

noncomputable section

namespace Cert.KernelIdeal.Hand

open Idealize.ShloMosaic Cert.KernelIdeal.Gen Cert.Hand

variable (g : Fin 6 → BitVec 32) (x3 : S1408x5120.Idx → Elt Ideal .bf16) (x4 : S1408x1536.Idx → Elt Ideal .bf16) (γ : Ideal .f32) (e : Fin 6)

section
variable (a : Fin 512) (n : Fin 1536)

theorem pay42_at (l : Vec Ideal S512x256 .bf16) (r : Vec Ideal S256x1536 .bf16) :
    k0_pay42 (F := Ideal) γ l r (ix3 0 a n) = (∑ k : Fin 256, l (ix2 a k) * r (ix2 k n)) * γ := by
  unfold k0_pay42; pointwise

theorem pay43_at (l : Vec Ideal S512x512 .bf16) (r : Vec Ideal S512x1536 .bf16) :
    k0_pay43 (F := Ideal) γ l r (ix3 0 a n) = (∑ k : Fin 512, l (ix2 a k) * r (ix2 k n)) * γ := by
  unfold k0_pay43; pointwise

theorem pay44_at (l : Vec Ideal S512x768 .bf16) (r : Vec Ideal S768x1536 .bf16) :
    k0_pay44 (F := Ideal) γ l r (ix3 0 a n) = (∑ k : Fin 768, l (ix2 a k) * r (ix2 k n)) * γ := by
  unfold k0_pay44; pointwise

theorem pay37_at (l : Vec Ideal S512x768 .bf16) (r : Vec Ideal S768x1536 .bf16) :
    k0_pay37 (F := Ideal) l r (ix3 0 a n) = ∑ k : Fin 768, l (ix2 a k) * r (ix2 k n) := by
  unfold k0_pay37; pointwise

theorem pay38_at (A : Vec Ideal S1x512x1536 .f32) (l : Vec Ideal S512x256 .bf16) (r : Vec Ideal S256x1536 .bf16) :
    k0_pay38 (F := Ideal) A l r (ix3 0 a n) = A (ix3 0 a n) + ∑ k : Fin 256, l (ix2 a k) * r (ix2 k n) := by
  unfold k0_pay38; pointwise

theorem pay45_at (A : Vec Ideal S1x512x1536 .f32) : k0_pay45 (F := Ideal) (k0_pay40 A) (k0_pay41 γ) (ix3 0 a n) = A (ix3 0 a n) * γ := by
  unfold k0_pay45 k0_pay40 k0_pay41; pointwise
end

theorem stripe_facts : ∀ (k : Fin 12) (G : Fin 11) (i : Fin 64),
    pay3 (F := Ideal) k.val (BitVec.ofNat 32 G.val) (ix2 i 0) = BitVec.ofNat 32 ((G.val + k.val) * 8 + i.val / 8) := by decide +kernel

theorem stripe_col (k : ℕ) (v : BitVec 32) (i : Fin 64) (n : Fin 1536) :
    pay3 (F := Ideal) k v (ix2 i n) = pay3 (F := Ideal) k v (ix2 i 0) := rfl

/-- The word of a pair of rows is chosen, or is zero, as the mask says of it. -/
theorem weave_select (M : IVec S64x1536 1) (x : FVec Ideal S128x1536 .bf16) (p : Fin 128) (n : Fin 1536) (h : S128x1536.Bitcasts 16 S64x1536 32) :
    interleaveRows S128x1536 (select M (rowsOfParity 0 S64x1536 x h) (constant S64x1536 .bf16 0x0000#16))
      (select M (rowsOfParity 1 S64x1536 x h) (constant S64x1536 .bf16 0x0000#16)) h (ix2 p n)
      = if M (ix2 ⟨p.val / 2, by omega⟩ n) = 1#1 then x (ix2 p n) else 0 := by
  have hx : interleaveRows S128x1536 (rowsOfParity 0 S64x1536 x h) (rowsOfParity 1 S64x1536 x h) h (ix2 p n) = x (ix2 p n) :=
    congrFun (interleaveRows_rowsOfParity h x) _
  rw [← hx, interleaveRows_apply, interleaveRows_apply]
  have hh : (Shape.Idx.norm fun b => if hb : (b.cast h.1).val + 2 = S128x1536.rank then
        (⟨(ix2 p n (b.cast h.1)).val / 2, by
              have hs : S128x1536.size (b.cast h.1) * 16 = S64x1536.size b * 32 := by
                have hs := h.2.2 (b.cast h.1); rw [if_pos hb] at hs; exact hs
              have hi : (ix2 p n (b.cast h.1)).val < S128x1536.size (b.cast h.1) := (ix2 p n (b.cast h.1)).isLt
              omega⟩ : Fin (S64x1536.size b))
          else (ix2 p n (b.cast h.1)).cast (by have hs := h.2.2 (b.cast h.1); rw [if_neg hb] at hs; exact hs))
      = ix2 (n0 := 64) (n1 := 1536) ⟨p.val / 2, by omega⟩ n := by
    funext b; match b with
    | ⟨0, _⟩ => rfl
    | ⟨1, _⟩ => rfl
  rw [hh]
  have hz : (constant S64x1536 .bf16 0x0000#16 : FVec Ideal S64x1536 .bf16) (ix2 ⟨p.val / 2, by omega⟩ n) = 0 := by pointwise
  show (if _ then (if _ then _ else _) else (if _ then _ else _)) = _
  rw [hz, show (1#1 : BitVec 1) = 1 from rfl]
  by_cases hm : M (ix2 ⟨p.val / 2, by omega⟩ n) = 1
  · simp only [hm, if_true]
  · simp only [hm, if_false, ite_self]

/-- Row `r` belongs to group `e`. -/
def Own (r : ℕ) : Prop := 16 * bs g e.val ≤ r ∧ r < 16 * bs g (e.val + 1)

instance (r : ℕ) : Decidable (Own g e r) := inferInstanceAs (Decidable (_ ∧ _))

/-- The rows of the second operand, by number. -/
def x4n (r : ℕ) (n : Fin 1536) : EReal := if h : r < 1408 then x4 (ix2 ⟨r, h⟩ n) else 0

theorem toInt_small (a : ℕ) (h : a < 2 ^ 31) : (BitVec.ofNat 32 a).toInt = a := by
  simp only [BitVec.toInt, BitVec.toNat_ofNat]; omega

theorem T1 : T g 1 e = BitVec.ofNat 32 (g0 g e.val) ∧ T g 3 e = BitVec.ofNat 32 (bs g e.val) ∧ T g 4 e = BitVec.ofNat 32 (bs g (e.val + 1)) := by
  exact ⟨rfl, rfl, rfl⟩

theorem rvn_eq (hok : Ok g) (q : ℕ) (hq : q < 256 * kt g e) (n : Fin 1536) :
    rvn (F := Ideal) g x4 e q n = if Own g e (128 * g0 g e.val + q) then x4n x4 (128 * g0 g e.val + q) n else 0 := by
  have h1 := g0_kt hok e
  have h2 := g0_le hok e
  have h3 := bs_le hok e
  obtain ⟨t1, t3, t4⟩ := T1 g e
  unfold rvn rv
  dsimp only
  unfold k0_pay59 k0_pay1 k0_pay2
  dsimp only
  rw [shapeCast_self]
  rw [weave_select]
  have hs : pay3 (F := Ideal) (q / 128) (T g 1 e) (ix2 ⟨q % 128 / 2, by omega⟩ n) = BitVec.ofNat 32 ((128 * g0 g e.val + q) / 16) := by
    rw [stripe_col, t1, stripe_facts ⟨q / 128, by omega⟩ ⟨g0 g e.val, by omega⟩ ⟨q % 128 / 2, by omega⟩]
    congr 1
    dsimp only
    omega
  have hm : (andi (cmpi .sge (pay3 (F := Ideal) (q / 128) (T g 1 e)) (broadcast S64x1536 (T g 3 e)))
      (cmpi .slt (pay3 (F := Ideal) (q / 128) (T g 1 e)) (broadcast S64x1536 (T g 4 e))) (ix2 ⟨q % 128 / 2, by omega⟩ n) = 1#1) ↔ Own g e (128 * g0 g e.val + q) := by
    refine IntOp.andi_eq_one.trans ?_
    refine (and_congr IntOp.cmpi_sge IntOp.cmpi_slt).trans ?_
    rw [hs]
    show (T g 3 e).toInt ≤ _ ∧ _ < (T g 4 e).toInt ↔ _
    rw [t3, t4, toInt_small _ (by omega), toInt_small _ (by omega), toInt_small _ (by omega)]
    unfold Own
    omega
  by_cases ho : Own g e (128 * g0 g e.val + q)
  · rw [if_pos ho]
    refine (if_pos (hm.2 ho)).trans ?_
    have hr : 128 * g0 g e.val + q < 1376 := by unfold Own at ho; omega
    unfold x4n
    rw [dif_pos (by omega)]
    rw [View.readAt_apply]
    refine congrArg x4 ?_
    funext b; match b with
    | ⟨0, _⟩ => exact Fin.ext (show 128 * min (g0 g e.val + q / 128) 10 + 1 * (q % 128) = 128 * g0 g e.val + q by omega)
    | ⟨1, _⟩ => exact Fin.ext (show 0 + 1 * n.val = n.val by omega)
  · rw [if_neg ho]
    exact if_neg fun h => ho (hm.1 h)

/-- What row `r` contributes to the element at `d` and `n` of group `e`'s result. -/
def rowT (d : ℕ) (n : Fin 1536) (r : ℕ) : EReal := if Own g e r then x3n (F := Ideal) x3 r d * x4n x4 r n else 0

theorem term_eq (hok : Ok g) (d q : ℕ) (hq : q < 256 * kt g e) (n : Fin 1536) :
    x3n (F := Ideal) x3 (128 * g0 g e.val + q) d * rvn (F := Ideal) g x4 e q n = rowT g x3 x4 e d n (128 * g0 g e.val + q) := by
  rw [rvn_eq g x4 e hok q hq n]
  unfold rowT
  split
  · rfl
  · exact mul_zero _

/-- The products of a chunk's rows, summed. -/
theorem chunk_eq (hok : Ok g) (t W s : ℕ) (hs : s + W ≤ 256 * kt g e) (a : Fin 512) (n : Fin 1536) :
    (∑ k : Fin W, (lhsV (F := Ideal) W x3 (128 * g0 g e.val + s) t (ix2 a k) : EReal) * rhsV (F := Ideal) W g x4 e s (ix2 k n) : EReal)
      = ∑ q ∈ Finset.range W, rowT g x3 x4 e (512 * t + a.val) n (128 * g0 g e.val + (s + q)) := by
  rw [Finset.sum_range]
  refine Finset.sum_congr rfl fun k _ => ?_
  have hk := k.isLt
  rw [← term_eq g x3 x4 e hok _ (s + k.val) (by omega) n, ← Nat.add_assoc]
  rfl

theorem acc_eq (hok : Ok g) (t : ℕ) (a : Fin 512) (n : Fin 1536) : ∀ m, 3 + m ≤ kt g e →
    acc (F := Ideal) g x3 x4 e t m (ix3 0 a n) = ∑ q ∈ Finset.range (256 * (3 + m)), rowT g x3 x4 e (512 * t + a.val) n (128 * g0 g e.val + q)
  | 0, h => by
    have hc := chunk_eq g x3 x4 e hok t 768 0 (by omega) a n
    simp only [Nat.zero_add] at hc
    exact (pay37_at a n _ _).trans hc
  | m + 1, h => by
    have hc := chunk_eq g x3 x4 e hok t 256 (256 * (3 + m)) (by omega) a n
    refine (pay38_at a n _ _ _).trans ?_
    rw [acc_eq hok t a n m (by omega), show 256 * (3 + (m + 1)) = 256 * (3 + m) + 256 by omega, Finset.sum_range_add]
    exact congrArg _ hc

theorem outT_eq (hok : Ok g) (hk : kt g e ≠ 0) (t : ℕ) (a : Fin 512) (n : Fin 1536) :
    outT (F := Ideal) g x3 x4 γ e t (ix3 0 a n)
      = (∑ q ∈ Finset.range (256 * kt g e), rowT g x3 x4 e (512 * t + a.val) n (128 * g0 g e.val + q)) * γ := by
  have hc := fun W h => chunk_eq g x3 x4 e hok t W 0 h a n
  simp only [Nat.zero_add] at hc
  unfold outT
  split
  · next h => rw [h]; exact (pay42_at γ a n _ _).trans (congrArg (· * γ) (hc 256 (by omega)))
  split
  · next h => rw [h]; exact (pay43_at γ a n _ _).trans (congrArg (· * γ) (hc 512 (by omega)))
  split
  · next h => rw [h]; exact (pay44_at γ a n _ _).trans (congrArg (· * γ) (hc 768 (by omega)))
  · refine (pay45_at γ a n _).trans (congrArg (· * γ) ?_)
    rw [acc_eq g x3 x4 e hok t a n _ (by omega), show 3 + (kt g e - 3) = kt g e by omega]

/-- The rows a group's turn meets are all of its own. -/
theorem rows_eq (hok : Ok g) (d : ℕ) (n : Fin 1536) :
    ∑ q ∈ Finset.range (256 * kt g e), rowT g x3 x4 e d n (128 * g0 g e.val + q) = ∑ r ∈ Finset.range 1376, rowT g x3 x4 e d n r := by
  have h1 := g0_kt hok e
  have h3 := bs_le hok e
  have h4 := bs_succ (g := g) e
  have h5 := kt_eq (g := g) e
  have hg : g0 g e.val = bs g e.val / 8 := rfl
  have hz : ∀ r, r ∉ Finset.Ico (16 * bs g e.val) (16 * bs g (e.val + 1)) → rowT g x3 x4 e d n r = 0 := fun r hr =>
    if_neg fun h => hr (Finset.mem_Ico.2 h)
  rw [Finset.range_eq_Ico 1376, ← Finset.sum_subset (s₁ := Finset.Ico (16 * bs g e.val) (16 * bs g (e.val + 1)))
    (Finset.Ico_subset_Ico (by omega) (by omega)) (fun r _ hr => hz r hr)]
  rcases h5 with ⟨h0, hk⟩ | ⟨h0, hk⟩
  · rw [hk, Finset.Ico_eq_empty (by omega)]; rfl
  · have := Finset.sum_Ico_eq_sum_range (rowT g x3 x4 e d n) (128 * g0 g e.val) (128 * g0 g e.val + 256 * kt g e)
    rw [Nat.add_sub_cancel_left] at this
    rw [← this]
    exact (Finset.sum_subset (Finset.Ico_subset_Ico (by omega) (by omega)) (fun r _ hr => hz r hr)).symm

/-- The result, element by element. -/
theorem GF_eq (hok : Ok g) (d : Fin 5120) (n : Fin 1536) :
    GF (F := Ideal) g x3 x4 γ (ix3 e d n) = (∑ r ∈ Finset.range 1376, rowT g x3 x4 e d.val n r) * γ := by
  unfold GF
  rw [← rows_eq g x3 x4 e hok]
  split
  · next h =>
    have h' : kt g e = 0 := h
    rw [h']
    have hz : (Scalar.ofBits .f32 0x00000000#32 : Ideal .f32) = 0 := by pointwise
    rw [hz]
    exact (zero_mul _).symm
  · next h =>
    refine (outT_eq g x3 x4 γ e hok h _ _ _).trans ?_
    show (∑ q ∈ _, rowT g x3 x4 e (512 * (d.val / 512) + d.val % 512) n _) * γ = _
    rw [Nat.div_add_mod]

end Cert.KernelIdeal.Hand

end
-- ==== Proof.RefValue.lean ====
module

public import proofs.«01_k».proof.Proof.Words
public import proofs.«01_k».proof.Proof.Gen.ReferenceIdeal.Run
public import Idealize.ShloMosaic.Lib.Pointwise
public import Idealize.ShloMosaic.Lib.Routing.Ops
public import Idealize.ShloMosaic.Lib.Affine

/-! What the reference computes, element by element. -/

@[expose] public section

set_option maxRecDepth 16384

noncomputable section

namespace Cert.ReferenceIdeal.Hand

open Idealize.ShloMosaic Cert.ReferenceIdeal.Gen Cert.Hand
open Facts

/-- The blocks of each group. -/
def nbV (x0 : IVec S6 32) : IVec S6 32 :=
  select (andi (cmpi .ne (signi (subi (addi x0 (broadcastInDim S6 ![] bcast_S_S6 (constantI S_ 32 16#32))) (broadcastInDim S6 ![] bcast_S_S6 (constantI S_ 32 1#32)))) (broadcastInDim S6 ![] bcast_S_S6 (signi (id (constantI S_ 32 16#32))))) (cmpi .ne (Host.remsi (subi (addi x0 (broadcastInDim S6 ![] bcast_S_S6 (constantI S_ 32 16#32))) (broadcastInDim S6 ![] bcast_S_S6 (constantI S_ 32 1#32))) (broadcastInDim S6 ![] bcast_S_S6 (id (constantI S_ 32 16#32)))) (broadcastInDim S6 ![] bcast_S_S6 (constantI S_ 32 0#32)))) (subi (Host.divsi (subi (addi x0 (broadcastInDim S6 ![] bcast_S_S6 (constantI S_ 32 16#32))) (broadcastInDim S6 ![] bcast_S_S6 (constantI S_ 32 1#32))) (broadcastInDim S6 ![] bcast_S_S6 (id (constantI S_ 32 16#32)))) (broadcastInDim S6 ![] bcast_S_S6 (constantI S_ 32 1#32))) (Host.divsi (subi (addi x0 (broadcastInDim S6 ![] bcast_S_S6 (constantI S_ 32 16#32))) (broadcastInDim S6 ![] bcast_S_S6 (constantI S_ 32 1#32))) (broadcastInDim S6 ![] bcast_S_S6 (id (constantI S_ 32 16#32))))

/-- The row behind each group's last. -/
def endV (x0 : IVec S6 32) : IVec S6 32 :=
  muli (broadcastInDim S6 ![] bcast_S_S6 (constantI S_ 32 16#32)) (Host.reduceWindow IntOp.addi ![6] ![1] ![5] ![0] (nbV x0) (broadcastInDim S_ ![] bcast_S_S_ (constantI S_ 32 0#32)) reduceWindows_S6_S6_w6s1p5_0 h_S_)

/-- The rows of each group. -/
def maskV (x0 : IVec S6 32) : IVec S6x1376 1 :=
  andi (cmpi .sge (broadcastInDim S6x1376 ![0, 1] bcast_S1x1376_S6x1376_0_1 (broadcastInDim S1x1376 ![1] bcast_S1376_S1x1376_1 (iotaInDim S1376 32 0))) (broadcastInDim S6x1376 ![0, 1] bcast_S6x1_S6x1376_0_1 (broadcastInDim S6x1 ![0] bcast_S6_S6x1_0 (subi (endV x0) (muli (broadcastInDim S6 ![] bcast_S_S6 (constantI S_ 32 16#32)) (nbV x0)))))) (cmpi .slt (broadcastInDim S6x1376 ![0, 1] bcast_S1x1376_S6x1376_0_1 (broadcastInDim S1x1376 ![1] bcast_S1376_S1x1376_1 (iotaInDim S1376 32 0))) (broadcastInDim S6x1376 ![0, 1] bcast_S6x1_S6x1376_0_1 (broadcastInDim S6x1 ![0] bcast_S6_S6x1_0 (endV x0))))

/-- The result. -/
def resV (x0 : IVec S6 32) (x1 x2 : FVec Ideal S1 .f32) (x3 : FVec Ideal S1408x5120 .bf16) (x4 : FVec Ideal S1408x1536 .bf16) : FVec Ideal S6x5120x1536 .f32 :=
  mulf (Host.dotGeneral dot_S6x1376x5120_S1376x1536_S6x5120x1536_1_0_02_1_n_n none (select (broadcastInDim S6x1376x5120 ![0, 1, 2] bcast_S6x1376x1_S6x1376x5120_0_1_2 (broadcastInDim S6x1376x1 ![0, 1] bcast_S6x1376_S6x1376x1_0_1 (maskV x0))) (broadcastInDim S6x1376x5120 ![0, 1, 2] bcast_S1x1376x5120_S6x1376x5120_0_1_2 (broadcastInDim S1x1376x5120 ![1, 2] bcast_S1376x5120_S1x1376x5120_1_2 (extractStridedSlice S1376x5120 ![0, 0] x3 slices_S1408x5120_S1376x5120_0_0))) (broadcastInDim S6x1376x5120 ![] bcast_S_S6x1376x5120 (constant S_ .bf16 0x0000#16))) (extractStridedSlice S1376x1536 ![0, 0] x4 slices_S1408x1536_S1376x1536_0_0)) (broadcastInDim S6x5120x1536 ![0, 1, 2] bcast_S1x1x1_S6x5120x1536_0_1_2 (broadcastInDim S1x1x1 ![2] bcast_S1_S1x1x1_2 (mulf x1 x2)))

theorem nb_facts : ∀ k : Fin 1281, nbV (fun _ => BitVec.ofNat 32 k.val) (ix1 0) = BitVec.ofNat 32 ((k.val + 15) / 16) := by decide +kernel

variable (x0 : IVec S6 32) (hok : Ok fun e => x0 (ix1 e))

include hok in
theorem nbV_eq (e : Fin 6) : nbV x0 (ix1 e) = BitVec.ofNat 32 (nb (fun e => x0 (ix1 e)) e) := by
  have he : (x0 (ix1 e)).toNat ≤ 1280 :=
    (Finset.single_le_sum (f := fun e => (x0 (ix1 e)).toNat) (fun _ _ => Nat.zero_le _) (Finset.mem_univ e)).trans_eq hok
  have h := nb_facts ⟨(x0 (ix1 e)).toNat, by omega⟩
  dsimp only at h
  rw [BitVec.ofNat_toNat, BitVec.setWidth_eq] at h
  have key : nbV x0 (ix1 e) = nbV (fun _ => x0 (ix1 e)) (ix1 0) := by unfold nbV; pointwise
  rw [key]
  exact h

theorem bs_sum (g : Fin 6 → BitVec 32) : ∀ k, ((List.range k).map fun i => if h : i < 6 then nb g ⟨i, h⟩ else 0).sum = bs g k
  | 0 => rfl
  | k + 1 => by rw [List.range_succ, List.map_append, List.sum_append, bs_sum g k]; simp only [List.map_cons, List.map_nil, List.sum_singleton]; rfl

include hok in
theorem endV_eq (e : Fin 6) : endV x0 (ix1 e) = BitVec.ofNat 32 (16 * bs (fun e => x0 (ix1 e)) (e.val + 1)) := by
  have hi : ∀ i : Fin 6, (ValueIdx.ix1 i : (⟨1, ![6]⟩ : Shape).Idx) = ix1 i := fun i => funext fun k => match k with | ⟨0, _⟩ => rfl
  have h := Routing.cumsum1 (N := 6) (Nm1 := 5) rfl (nbV x0) (fun i => if h : i < 6 then nb (fun e => x0 (ix1 e)) ⟨i, h⟩ else 0)
    (fun i => by rw [hi, nbV_eq x0 hok i, dif_pos i.isLt]) (broadcastInDim S_ ![] bcast_S_S_ (constantI S_ 32 0#32)) rfl reduceWindows_S6_S6_w6s1p5_0 h_S_ e
  rw [bs_sum, hi] at h
  unfold endV
  refine (congrArg (IntOp.muli 16#32) h).trans ?_
  show BitVec.ofNat 32 16 * BitVec.ofNat 32 _ = _
  rw [BitVec.ofNat_mul]

theorem toInt_small (a : ℕ) (h : a < 2 ^ 31) : (BitVec.ofNat 32 a).toInt = a := by
  simp only [BitVec.toInt, BitVec.toNat_ofNat]; omega

include hok in
theorem maskV_eq (e : Fin 6) (r : Fin 1376) : maskV x0 (ix2 e r) = 1#1 ↔
    16 * bs (fun e => x0 (ix1 e)) e.val ≤ r.val ∧ r.val < 16 * bs (fun e => x0 (ix1 e)) (e.val + 1) := by
  have hb := bs_le hok e
  have hs := bs_succ (g := fun e => x0 (ix1 e)) e
  have hr := r.isLt
  have h1 : subi (endV x0) (muli (broadcastInDim S6 ![] bcast_S_S6 (constantI S_ 32 16#32)) (nbV x0)) (ix1 e)
      = BitVec.ofNat 32 (16 * bs (fun e => x0 (ix1 e)) e.val) := by
    show endV x0 (ix1 e) - BitVec.ofNat 32 16 * nbV x0 (ix1 e) = _
    rw [endV_eq x0 hok, nbV_eq x0 hok, ← BitVec.ofNat_mul]
    refine (subi_ofNat _ _ (by omega)).trans (congrArg _ (by omega))
  refine IntOp.andi_eq_one.trans ((and_congr IntOp.cmpi_sge IntOp.cmpi_slt).trans ?_)
  have hp1 : broadcastInDim S6x1376 ![0, 1] bcast_S6x1_S6x1376_0_1 (broadcastInDim S6x1 ![0] bcast_S6_S6x1_0
      (subi (endV x0) (muli (broadcastInDim S6 ![] bcast_S_S6 (constantI S_ 32 16#32)) (nbV x0)))) (ix2 e r) = BitVec.ofNat 32 (16 * bs (fun e => x0 (ix1 e)) e.val) := by
    rw [← h1]; pointwise
  have hp2 : broadcastInDim S6x1376 ![0, 1] bcast_S6x1_S6x1376_0_1 (broadcastInDim S6x1 ![0] bcast_S6_S6x1_0 (endV x0)) (ix2 e r)
      = BitVec.ofNat 32 (16 * bs (fun e => x0 (ix1 e)) (e.val + 1)) := by
    rw [← endV_eq x0 hok]; pointwise
  rw [hp1, hp2]
  show _ ≤ (BitVec.ofNat 32 r.val).toInt ∧ (BitVec.ofNat 32 r.val).toInt < _ ↔ _
  rw [toInt_small _ (by omega), toInt_small _ (by omega), toInt_small _ (by omega)]
  omega

theorem resV_at (x1 x2 : FVec Ideal S1 .f32) (x3 : FVec Ideal S1408x5120 .bf16) (x4 : FVec Ideal S1408x1536 .bf16) (e : Fin 6) (d : Fin 5120) (n : Fin 1536) :
    resV x0 x1 x2 x3 x4 (ix3 e d n) = (∑ r : Fin 1376, (if maskV x0 (ix2 e r) = 1#1 then x3 (ix2 ⟨r.val, by omega⟩ d) else 0) * x4 (ix2 ⟨r.val, by omega⟩ n))
      * (x1 (ix1 0) * x2 (ix1 0)) := by
  unfold resV
  pointwise
  simp only [Scalar.select, ite_mul, zero_mul]
  rfl

theorem res_eq (m : (ℓ : Loc nD τ sig) → Buf (Elt Ideal) ℓ) (c : Dev nD) :
    Value.res_main_v31 (F := Ideal) m c = resV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sizes_ok
public import proofs.«01_k».proof.Proof.K.Launch
public import proofs.«01_k».proof.Proof.KI.Launch
public import proofs.«01_k».proof.Proof.Pre
public import proofs.«01_k».proof.Proof.Value
public import proofs.«01_k».proof.Proof.RefValue
public import Idealize.ShloMosaic.Lib.Bf16Pair

/-! The claims on the weight gradient's product: every run of the kernel, of its idealization and of the reference ends and
    leaves the operands alone, the words that carry two bf16 numbers are read as the rule says,
    and over the reals the kernel's result is the reference's. -/

@[expose] public section

noncomputable section

namespace Cert.Proof

open Idealize.ShloMosaic Idealize.SL.Sem

theorem frame_kernel : Cert.quiescent_Kernel (hKernel := Cert.Kernel.Gen.facts) (hPre_sizes_ok := Cert.Pre_sizes_ok.Gen.facts) := fun m g h =>
  (θ_run Cert.Kernel.defs _ _).mono (fun _ hr => ⟨fun c => (hr.1 c).2, hr.2⟩)
    (Cert.Kernel.Hand.run_res m g fun c => Cert.Hand.ok_of_pre _ _ _ _ _ (h c))

theorem frame_kernelIdeal : Cert.quiescent_KernelIdeal (hKernelIdeal := Cert.KernelIdeal.Gen.facts) (hPre_sizes_ok := Cert.Pre_sizes_ok.Gen.facts) := fun m g h =>
  (θ_run Cert.KernelIdeal.defs _ _).mono (fun _ hr => ⟨fun c => (hr.1 c).2, hr.2⟩)
    (Cert.KernelIdeal.Hand.run_res m g fun c => Cert.Hand.ok_of_pre _ _ _ _ _ (h c))

theorem frame_reference : Cert.quiescent_ReferenceIdeal (hReferenceIdeal := Cert.ReferenceIdeal.Gen.facts) (hPre_sizes_ok := Cert.Pre_sizes_ok.Gen.facts) := fun m g _ =>
  (θ_run Cert.ReferenceIdeal.defs _ _).mono (fun r hr => ⟨fun c => (hr c).2, sem_eq_zero_of_no_sems (by decide) r.2⟩)
    (Cert.ReferenceIdeal.Value.run m g)

theorem preserves : Cert.preserves_Kernel_KernelIdeal := ⟨IdealRules.bf16_pair.statement _ _, IdealRules.bf16_pair.selectZeroStatement _⟩

/-- The two results are the same array. -/
theorem values (x0 : IVec Cert.KernelIdeal.S6 32) (x1 x2 : FVec Ideal Cert.KernelIdeal.S1 .f32) (x3 : FVec Ideal Cert.KernelIdeal.S1408x5120 .bf16)
    (x4 : FVec Ideal Cert.KernelIdeal.S1408x1536 .bf16) (hok : Cert.Hand.Ok fun e => x0 (ix1 e)) :
    Cert.ReferenceIdeal.Hand.resV x0 x1 x2 x3 x4 = Cert.KernelIdeal.Hand.GF (F := Ideal) (fun e => x0 (ix1 e)) x3 x4
      (Cert.KernelIdeal.Gen.k0_pay71 (Cert.KernelIdeal.Hand.sca x1) (Cert.KernelIdeal.Hand.sca x2)) := by
  funext i
  rw [eq_ix3 i]
  refine (Cert.ReferenceIdeal.Hand.resV_at x0 x1 x2 x3 x4 (i 0) (i 1) (i 2)).trans ?_
  refine Eq.trans ?_ (Cert.KernelIdeal.Hand.GF_eq (fun e => x0 (ix1 e)) x3 x4 _ (i 0) hok (i 1) (i 2)).symm
  rw [Finset.sum_range]
  refine congrArg (· * (x1 (ix1 0) * x2 (ix1 0) : EReal)) (Finset.sum_congr rfl fun r _ => ?_)
  have hr := r.isLt
  have hm := Cert.ReferenceIdeal.Hand.maskV_eq x0 hok (i 0) r
  unfold Cert.KernelIdeal.Hand.rowT Cert.KernelIdeal.Hand.x4n Cert.KernelIdeal.Hand.x3n
  by_cases ho : Cert.KernelIdeal.Hand.Own (fun e => x0 (ix1 e)) (i 0) r.val
  · rw [if_pos (hm.2 ho), if_pos ho, dif_pos ⟨by omega, (i 1).isLt⟩, dif_pos (by omega)]
    rfl
  · rw [if_neg fun h => ho (hm.1 h), if_neg ho]
    exact zero_mul _

theorem algebraic : Cert.algebraic_KernelIdeal_ReferenceIdeal (hKernelIdeal := Cert.KernelIdeal.Gen.facts)
    (hReferenceIdeal := Cert.ReferenceIdeal.Gen.facts) (hPre_sizes_ok := Cert.Pre_sizes_ok.Gen.facts) := fun m g m' g' h ha => by
  have hok := fun c => Cert.Hand.ok_of_pre _ _ _ _ _ (h c)
  refine ⟨fun c => Cert.KernelIdeal.Hand.Res m c,
    (θ_run Cert.KernelIdeal.defs _ _).mono (fun _ hr => hr.1) (Cert.KernelIdeal.Hand.run_res m g hok),
    (θ_run Cert.ReferenceIdeal.defs _ _).mono (fun _ hr c => ⟨(hr c).1.trans ?_, (hr c).2⟩) (Cert.ReferenceIdeal.Value.run m' g')⟩
  obtain ⟨e0, e1, e2, e3, e4⟩ := ha c
  rw [Cert.ReferenceIdeal.Hand.res_eq, e0, e1, e2, e3, e4]
  exact values _ _ _ _ _ (hok c)

theorem claim : Cert.Claim :=
  ⟨Cert.Kernel.Gen.facts, Cert.KernelIdeal.Gen.facts, Cert.ReferenceIdeal.Gen.facts, Cert.Pre_sizes_ok.Gen.facts,
    frame_kernel, frame_kernelIdeal, frame_reference, preserves, algebraic⟩

end Cert.Proof

end
